-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v69)) (v1 : (c : Dev Cert.KernelIdeal.nD) → Buf (Elt Ideal) ((c.tc : Thread Cert.KernelIdeal.nD Cert.KernelIdeal.τ).loc Cert.KernelIdeal.main_v8_3)) (v2 : (c : Dev Cert.KernelIdeal.nD) → Buf (Elt Ideal) ((c.tc : Thread Cert.KernelIdeal.nD Cert.KernelIdeal.τ).loc Cert.KernelIdeal.main_v70)) (v3 : (c : Dev Cert.KernelIdeal.nD) → Buf (Elt Ideal) ((c.tc : Thread Cert.KernelIdeal.nD Cert.KernelIdeal.τ).loc Cert.KernelIdeal.main_v8_4)) (v4 : (c : Dev Cert.KernelIdeal.nD) → Buf (Elt Ideal) ((c.tc : Thread Cert.KernelIdeal.nD Cert.KernelIdeal.τ).loc Cert.KernelIdeal.main_v8_0)) (v5 : (c : Dev Cert.KernelIdeal.nD) → Buf (Elt Ideal) ((c.tc : Thread Cert.KernelIdeal.nD Cert.KernelIdeal.τ).loc Cert.KernelIdeal.main_v71)) (v6 : (c : Dev Cert.KernelIdeal.nD) → Buf (Elt Ideal) ((c.tc : Thread Cert.KernelIdeal.nD Cert.KernelIdeal.τ).loc Cert.KernelIdeal.main_v30)) (v7 : (c : Dev Cert.KernelIdeal.nD) → Buf (Elt Ideal) ((c.tc : Thread Cert.KernelIdeal.nD Cert.KernelIdeal.τ).loc Cert.KernelIdeal.main_v72)) (v8 : (c : Dev Cert.KernelIdeal.nD) → Buf (Elt Ideal) ((c.tc : Thread Cert.KernelIdeal.nD Cert.KernelIdeal.τ).loc Cert.KernelIdeal.main_v73)) (v9 : (c : Dev Cert.KernelIdeal.nD) → Buf (Elt Ideal) ((c.tc : Thread Cert.KernelIdeal.nD Cert.KernelIdeal.τ).loc Cert.KernelIdeal.main_v54)) (v10 : (c : Dev Cert.KernelIdeal.nD) → Buf (Elt Ideal) ((c.tc : Thread Cert.KernelIdeal.nD Cert.KernelIdeal.τ).loc Cert.KernelIdeal.main_v68)) (v11 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_v8_3) = v1 c
          ∧ r.2.mem ((c.tc : Thread Cert.KernelIdeal.nD Cert.KernelIdeal.τ).loc Cert.KernelIdeal.main_v70) = v2 c
          ∧ r.2.mem ((c.tc : Thread Cert.KernelIdeal.nD Cert.KernelIdeal.τ).loc Cert.KernelIdeal.main_v8_4) = v3 c
          ∧ r.2.mem ((c.tc : Thread Cert.KernelIdeal.nD Cert.KernelIdeal.τ).loc Cert.KernelIdeal.main_v8_0) = v4 c
          ∧ r.2.mem ((c.tc : Thread Cert.KernelIdeal.nD Cert.KernelIdeal.τ).loc Cert.KernelIdeal.main_v71) = v5 c
          ∧ r.2.mem ((c.tc : Thread Cert.KernelIdeal.nD Cert.KernelIdeal.τ).loc Cert.KernelIdeal.main_v30) = v6 c
          ∧ r.2.mem ((c.tc : Thread Cert.KernelIdeal.nD Cert.KernelIdeal.τ).loc Cert.KernelIdeal.main_v72) = v7 c
          ∧ r.2.mem ((c.tc : Thread Cert.KernelIdeal.nD Cert.KernelIdeal.τ).loc Cert.KernelIdeal.main_v73) = v8 c
          ∧ r.2.mem ((c.tc : Thread Cert.KernelIdeal.nD Cert.KernelIdeal.τ).loc Cert.KernelIdeal.main_v54) = v9 c
          ∧ r.2.mem ((c.tc : Thread Cert.KernelIdeal.nD Cert.KernelIdeal.τ).loc Cert.KernelIdeal.main_v68) = v10 c
          ∧ r.2.mem ((c.tc : Thread Cert.KernelIdeal.nD Cert.KernelIdeal.τ).loc Cert.KernelIdeal.main_v35) = v11 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v132) = v2 c
          ∧ r.2.mem ((c.tc : Thread Cert.ReferenceIdeal.nD Cert.ReferenceIdeal.τ).loc Cert.ReferenceIdeal.main_v137) = v3 c
          ∧ r.2.mem ((c.tc : Thread Cert.ReferenceIdeal.nD Cert.ReferenceIdeal.τ).loc Cert.ReferenceIdeal.main_v53) = v4 c
          ∧ r.2.mem ((c.tc : Thread Cert.ReferenceIdeal.nD Cert.ReferenceIdeal.τ).loc Cert.ReferenceIdeal.main_v108) = v5 c
          ∧ r.2.mem ((c.tc : Thread Cert.ReferenceIdeal.nD Cert.ReferenceIdeal.τ).loc Cert.ReferenceIdeal.main_v105) = v6 c
          ∧ r.2.mem ((c.tc : Thread Cert.ReferenceIdeal.nD Cert.ReferenceIdeal.τ).loc Cert.ReferenceIdeal.main_v112) = v7 c
          ∧ r.2.mem ((c.tc : Thread Cert.ReferenceIdeal.nD Cert.ReferenceIdeal.τ).loc Cert.ReferenceIdeal.main_v149) = v8 c
          ∧ r.2.mem ((c.tc : Thread Cert.ReferenceIdeal.nD Cert.ReferenceIdeal.τ).loc Cert.ReferenceIdeal.main_v145) = v9 c
          ∧ r.2.mem ((c.tc : Thread Cert.ReferenceIdeal.nD Cert.ReferenceIdeal.τ).loc Cert.ReferenceIdeal.main_v150) = v10 c
          ∧ r.2.mem ((c.tc : Thread Cert.ReferenceIdeal.nD Cert.ReferenceIdeal.τ).loc Cert.ReferenceIdeal.main_v140) = v11 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_inputs_ok : Cert.Pre_inputs_ok.Facts),
    quiescent_Kernel (hKernel := hKernel)
    ∧ quiescent_KernelIdeal (hKernelIdeal := hKernelIdeal)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S4x2048 : Shape := ⟨2, ![4, 2048]⟩
abbrev S4x2048x128 : Shape := ⟨3, ![4, 2048, 128]⟩
abbrev S4x2048x8x2 : Shape := ⟨4, ![4, 2048, 8, 2]⟩
abbrev S4x2048x8 : Shape := ⟨3, ![4, 2048, 8]⟩
abbrev S128x128 : Shape := ⟨2, ![128, 128]⟩
abbrev S128 : Shape := ⟨1, ![128]⟩
abbrev S128x16 : Shape := ⟨2, ![128, 16]⟩
abbrev S16 : Shape := ⟨1, ![16]⟩
abbrev S128x10 : Shape := ⟨2, ![128, 10]⟩
abbrev S10 : Shape := ⟨1, ![10]⟩
abbrev S_ : Shape := ⟨0, ![]⟩

class Facts : Prop where
  bcast_S_S4x2048 : S_.BroadcastsInDim S4x2048 (![] : Fin 0 → Fin S4x2048.rank)
  reducesTo_S4x2048_S_d0_1 : S4x2048.ReducesTo [0, 1] S_
  h_S_ : 0 < S_.numel
  bcast_S_S4x2048x8 : S_.BroadcastsInDim S4x2048x8 (![] : Fin 0 → Fin S4x2048x8.rank)
  reducesTo_S4x2048x8_S_d0_1_2 : S4x2048x8.ReducesTo [0, 1, 2] S_
  bcast_S_S4x2048x128 : S_.BroadcastsInDim S4x2048x128 (![] : Fin 0 → Fin S4x2048x128.rank)
  reducesTo_S4x2048x128_S_d0_1_2 : S4x2048x128.ReducesTo [0, 1, 2] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg11 : FVec F S128x10 .f32) (main_arg12 : FVec F S10 .f32) (main_v31 : IVec S_ 1) (main_v32 : FVec F S16 .f32) (main_cst_12 : FVec F S_ .f32) : IVec S_ 1 :=
  let main_v33 : FVec F S16 .f32 := broadcastInDim S16 ![] bcast_S_S16 main_cst_12
  let main_v34 : IVec S16 1 := cmpf .olt main_v32 main_v33
  let main_c_13 : IVec S_ 1 := constantI S_ 1 1#1
  let main_v35 : IVec S_ 1 := (fun x v => Host.reduce IntOp.andi x v reducesTo_S16_S_d0 h_S_) main_v34 main_c_13
  let main_v36 : IVec S_ 1 := andi main_v31 main_v35
  let main_v37 : FVec F S128x10 .f32 := Host.absf main_arg11
  let main_cst_14 : FVec F S_ .f32 := constant S_ .f32 0x7F800000#32
  let main_v38 : FVec F S128x10 .f32 := broadcastInDim S128x10 ![] bcast_S_S128x10 main_cst_14
  let main_v39 : IVec S128x10 1 := cmpf .olt main_v37 main_v38
  let main_c_15 : IVec S_ 1 := constantI S_ 1 1#1
  let main_v40 : IVec S_ 1 := (fun x v => Host.reduce IntOp.andi x v reducesTo_S128x10_S_d0_1 h_S_) main_v39 main_c_15
  let main_v41 : IVec S_ 1 := andi main_v36 main_v40
  let main_v42 : FVec F S10 .f32 := Host.absf main_arg12
  let main_cst_16 : FVec F S_ .f32 := constant S_ .f32 0x7F800000#32
  let main_v43 : FVec F S10 .f32 := broadcastInDim S10 ![] bcast_S_S10 main_cst_16
  let main_v44 : IVec S10 1 := cmpf .olt main_v42 main_v43
  let main_c_17 : IVec S_ 1 := constantI S_ 1 1#1
  let main_v45 : IVec S_ 1 := (fun x v => Host.reduce IntOp.andi x v reducesTo_S10_S_d0 h_S_) main_v44 main_c_17
  let main_v46 : IVec S_ 1 := andi main_v41 main_v45
  main_v46

def fn_part1 {F : FTy → Type} [FloatOps F] (main_arg1 : FVec F S4x2048x128 .f32) (main_arg2 : FVec F S4x2048x128 .f32) (main_arg9 : FVec F S128x16 .f32) (main_arg10 : FVec F S16 .f32) (main_arg11 : FVec F S128x10 .f32) (main_arg12 : FVec F S10 .f32) (main_v9 : IVec S_ 1) (main_v15 : IVec S_ 1) : IVec S_ 1 :=
  let main_v16 : IVec S_ 1 := andi main_v9 main_v15
  let main_v17 : FVec F S4x2048x128 .f32 := Host.absf main_arg1
  let main_cst_6 : FVec F S_ .f32 := constant S_ .f32 0x7F800000#32
  let main_v18 : FVec F S4x2048x128 .f32 := broadcastInDim S4x2048x128 ![] bcast_S_S4x2048x128 main_cst_6
  let main_v19 : IVec S4x2048x128 1 := cmpf .olt main_v17 main_v18
  let main_c_7 : IVec S_ 1 := constantI S_ 1 1#1
  let main_v20 : IVec S_ 1 := (fun x v => Host.reduce IntOp.andi x v reducesTo_S4x2048x128_S_d0_1_2 h_S_) main_v19 main_c_7
  let main_v21 : IVec S_ 1 := andi main_v16 main_v20
  let main_v22 : FVec F S4x2048x128 .f32 := Host.absf main_arg2
  let main_cst_8 : FVec F S_ .f32 := constant S_ .f32 0x7F800000#32
  let main_v23 : FVec F S4x2048x128 .f32 := broadcastInDim S4x2048x128 ![] bcast_S_S4x2048x128 main_cst_8
  let main_v24 : IVec S4x2048x128 1 := cmpf .olt main_v22 main_v23
  let main_c_9 : IVec S_ 1 := constantI S_ 1 1#1
  let main_v25 : IVec S_ 1 := (fun x v => Host.reduce IntOp.andi x v reducesTo_S4x2048x128_S_d0_1_2 h_S_) main_v24 main_c_9
  let main_v26 : IVec S_ 1 := andi main_v21 main_v25
  let main_v27 : FVec F S128x16 .f32 := Host.absf main_arg9
  let main_cst_10 : FVec F S_ .f32 := constant S_ .f32 0x7F800000#32
  let main_v28 : FVec F S128x16 .f32 := broadcastInDim S128x16 ![] bcast_S_S128x16 main_cst_10
  let main_v29 : IVec S128x16 1 := cmpf .olt main_v27 main_v28
  let main_c_11 : IVec S_ 1 := constantI S_ 1 1#1
  let main_v30 : IVec S_ 1 := (fun x v => Host.reduce IntOp.andi x v reducesTo_S128x16_S_d0_1 h_S_) main_v29 main_c_11
  let main_v31 : IVec S_ 1 := andi main_v26 main_v30
  let main_v32 : FVec F S16 .f32 := Host.absf main_arg10
  let main_cst_12 : FVec F S_ .f32 := constant S_ .f32 0x7F800000#32
  fn_part2 (F := F) main_arg11 main_arg12 main_v31 main_v32 main_cst_12

def fn {F : FTy → Type} [FloatOps F] (main_arg0 : FVec F S4x2048 .f32) (main_arg1 : FVec F S4x2048x128 .f32) (main_arg2 : FVec F S4x2048x128 .f32) (main_arg3 : FVec F S4x2048x8x2 .f32) (main_arg4 : IVec S4x2048x8 32) (main_arg5 : IVec S4x2048x8 32) (main_arg6 : FVec F S128x128 .f32) (main_arg7 : FVec F S128x128 .f32) (main_arg8 : FVec F S128 .f32) (main_arg9 : FVec F S128x16 .f32) (main_arg10 : FVec F S16 .f32) (main_arg11 : FVec F S128x10 .f32) (main_arg12 : FVec F S10 .f32) (main_arg13 : FVec F S10 .f32) : IVec S_ 1 :=
  let main_cst : FVec F S_ .f32 := constant S_ .f32 0x3F800000#32
  let main_v0 : FVec F S4x2048 .f32 := broadcastInDim S4x2048 ![] bcast_S_S4x2048 main_cst
  let main_v1 : IVec S4x2048 1 := cmpf .oeq main_arg0 main_v0
  let main_c : IVec S_ 1 := constantI S_ 1 1#1
  let main_v2 : IVec S_ 1 := (fun x v => Host.reduce IntOp.andi x v reducesTo_S4x2048_S_d0_1 h_S_) main_v1 main_c
  let main_c_0 : IVec S_ 32 := constantI S_ 32 0#32
  let main_v3 : IVec S4x2048x8 32 := broadcastInDim S4x2048x8 ![] bcast_S_S4x2048x8 main_c_0
  let main_v4 : IVec S4x2048x8 1 := cmpi .sge main_arg4 main_v3
  let main_c_1 : IVec S_ 32 := constantI S_ 32 2#32
  let main_v5 : IVec S4x2048x8 32 := broadcastInDim S4x2048x8 ![] bcast_S_S4x2048x8 main_c_1
  let main_v6 : IVec S4x2048x8 1 := cmpi .slt main_arg4 main_v5
  let main_v7 : IVec S4x2048x8 1 := andi main_v4 main_v6
  let main_c_2 : IVec S_ 1 := constantI S_ 1 1#1
  let main_v8 : IVec S_ 1 := (fun x v => Host.reduce IntOp.andi x v reducesTo_S4x2048x8_S_d0_1_2 h_S_) main_v7 main_c_2
  let main_v9 : IVec S_ 1 := andi main_v2 main_v8
  let main_c_3 : IVec S_ 32 := constantI S_ 32 0#32
  let main_v10 : IVec S4x2048x8 32 := broadcastInDim S4x2048x8 ![] bcast_S_S4x2048x8 main_c_3
  let main_v11 : IVec S4x2048x8 1 := cmpi .sge main_arg5 main_v10
  let main_c_4 : IVec S_ 32 := constantI S_ 32 10#32
  let main_v12 : IVec S4x2048x8 32 := broadcastInDim S4x2048x8 ![] bcast_S_S4x2048x8 main_c_4
  let main_v13 : IVec S4x2048x8 1 := cmpi .slt main_arg5 main_v12
  let main_v14 : IVec S4x2048x8 1 := andi main_v11 main_v13
  let main_c_5 : IVec S_ 1 := constantI S_ 1 1#1
  let main_v15 : IVec S_ 1 := (fun x v => Host.reduce IntOp.andi x v reducesTo_S4x2048x8_S_d0_1_2 h_S_) main_v14 main_c_5
  fn_part1 (F := F) main_arg1 main_arg2 main_arg9 main_arg10 main_arg11 main_arg12 main_v9 main_v15
-- ==== Kernel.lean ====
abbrev S4x2048 : Shape := ⟨2, ![4, 2048]⟩
abbrev S4x2048x128 : Shape := ⟨3, ![4, 2048, 128]⟩
abbrev S4x2048x8x2 : Shape := ⟨4, ![4, 2048, 8, 2]⟩
abbrev S4x2048x8 : Shape := ⟨3, ![4, 2048, 8]⟩
abbrev S128x128 : Shape := ⟨2, ![128, 128]⟩
abbrev S128 : Shape := ⟨1, ![128]⟩
abbrev S128x16 : Shape := ⟨2, ![128, 16]⟩
abbrev S16 : Shape := ⟨1, ![16]⟩
abbrev S128x10 : Shape := ⟨2, ![128, 10]⟩
abbrev S10 : Shape := ⟨1, ![10]⟩
abbrev S1x128 : Shape := ⟨2, ![1, 128]⟩
abbrev S128x8 : Shape := ⟨2, ![128, 8]⟩
abbrev S8 : Shape := ⟨1, ![8]⟩
abbrev S1x8 : Shape := ⟨2, ![1, 8]⟩
abbrev S1x10 : Shape := ⟨2, ![1, 10]⟩
abbrev S4x2048x8x128 : Shape := ⟨4, ![4, 2048, 8, 128]⟩
abbrev S1x1 : Shape := ⟨2, ![1, 1]⟩
abbrev S1x256x128 : Shape := ⟨3, ![1, 256, 128]⟩
abbrev S1x256x8 : Shape := ⟨3, ![1, 256, 8]⟩
abbrev S1x256x8x128 : Shape := ⟨4, ![1, 256, 8, 128]⟩
abbrev S256x128 : Shape := ⟨2, ![256, 128]⟩
abbrev S2 : Shape := ⟨1, ![2]⟩
abbrev S1 : Shape := ⟨1, ![1]⟩
abbrev S256x8 : Shape := ⟨2, ![256, 8]⟩
abbrev S1x1x1 : Shape := ⟨3, ![1, 1, 1]⟩
abbrev S8x128 : Shape := ⟨2, ![8, 128]⟩
abbrev S256x1 : Shape := ⟨2, ![256, 1]⟩
abbrev S1x256x1x128 : Shape := ⟨4, ![1, 256, 1, 128]⟩
abbrev S256x10 : Shape := ⟨2, ![256, 10]⟩
abbrev S255x128 : Shape := ⟨2, ![255, 128]⟩
abbrev S254x128 : Shape := ⟨2, ![254, 128]⟩
abbrev S2x128 : Shape := ⟨2, ![2, 128]⟩
abbrev S253x128 : Shape := ⟨2, ![253, 128]⟩
abbrev S3x128 : Shape := ⟨2, ![3, 128]⟩
abbrev S252x128 : Shape := ⟨2, ![252, 128]⟩
abbrev S4x128 : Shape := ⟨2, ![4, 128]⟩
abbrev S251x128 : Shape := ⟨2, ![251, 128]⟩
abbrev S5x128 : Shape := ⟨2, ![5, 128]⟩
abbrev S250x128 : Shape := ⟨2, ![250, 128]⟩
abbrev S6x128 : Shape := ⟨2, ![6, 128]⟩
abbrev S249x128 : Shape := ⟨2, ![249, 128]⟩
abbrev S7x128 : Shape := ⟨2, ![7, 128]⟩
abbrev S4x2048x8x1 : Shape := ⟨4, ![4, 2048, 8, 1]⟩
abbrev S_ : Shape := ⟨0, ![]⟩
abbrev S4x16384 : Shape := ⟨2, ![4, 16384]⟩
abbrev S4x512 : Shape := ⟨2, ![4, 512]⟩
abbrev S4x512x1 : Shape := ⟨3, ![4, 512, 1]⟩
abbrev S4x16384x2 : Shape := ⟨3, ![4, 16384, 2]⟩
abbrev S4x512x2 : Shape := ⟨3, ![4, 512, 2]⟩
abbrev S2048 : Shape := ⟨1, ![2048]⟩
abbrev S2048x1 : Shape := ⟨2, ![2048, 1]⟩
abbrev S2048x8 : Shape := ⟨2, ![2048, 8]⟩
abbrev S1x16384 : Shape := ⟨2, ![1, 16384]⟩
abbrev S1x1x1x16384 : Shape := ⟨4, ![1, 1, 1, 16384]⟩
abbrev S4x1x1x16384 : Shape := ⟨4, ![4, 1, 1, 16384]⟩
abbrev S4 : Shape := ⟨1, ![4]⟩
abbrev S4x1 : Shape := ⟨2, ![4, 1]⟩
abbrev S65536x128 : Shape := ⟨2, ![65536, 128]⟩
abbrev S2048x128 : Shape := ⟨2, ![2048, 128]⟩
abbrev S64 : Shape := ⟨1, ![64]⟩
abbrev S64x128 : Shape := ⟨2, ![64, 128]⟩
abbrev S2048x10 : Shape := ⟨2, ![2048, 10]⟩
abbrev S1x2048x1 : Shape := ⟨3, ![1, 2048, 1]⟩
abbrev S4x512x128 : Shape := ⟨3, ![4, 512, 128]⟩
abbrev S4x512x10 : Shape := ⟨3, ![4, 512, 10]⟩

abbrev nBuf : Table → Nat
  | .hbm => 190
  | .local .tc .vmem => 36
  | .local .tc .smem => 1
  | .local .scVector .vmem => 2
  | _ => 0

abbrev hbmTy0_0 (i : Nat) : BufTy := match i % 128 with
  | 0 => ⟨S4x2048, .f32⟩
  | 1 => ⟨S4x2048x128, .f32⟩
  | 2 => ⟨S4x2048x128, .f32⟩
  | 3 => ⟨S4x2048x8x2, .f32⟩
  | 4 => ⟨S4x2048x8, .i32⟩
  | 5 => ⟨S4x2048x8, .i32⟩
  | 6 => ⟨S128x128, .f32⟩
  | 7 => ⟨S128x128, .f32⟩
  | 8 => ⟨S128, .f32⟩
  | 9 => ⟨S128x16, .f32⟩
  | 10 => ⟨S16, .f32⟩
  | 11 => ⟨S128x10, .f32⟩
  | 12 => ⟨S10, .f32⟩
  | 13 => ⟨S10, .f32⟩
  | 14 => ⟨S1x128, .f32⟩
  | 15 => ⟨S128x8, .f32⟩
  | 16 => ⟨S128x8, .f32⟩
  | 17 => ⟨S8, .f32⟩
  | 18 => ⟨S1x8, .f32⟩
  | 19 => ⟨S8, .f32⟩
  | 20 => ⟨S1x8, .f32⟩
  | 21 => ⟨S1x10, .f32⟩
  | 22 => ⟨S4x2048x8x128, .f32⟩
  | 23 => ⟨S4x2048x8, .f32⟩
  | 24 => ⟨S4x2048x8, .f32⟩
  | 25 => ⟨S4x2048x8, .i32⟩
  | 26 => ⟨S4x2048x8, .i32⟩
  | 27 => ⟨S1x1, .f32⟩
  | 28 => ⟨S4x2048x8x1, .f32⟩
  | 29 => ⟨S4x2048x8x1, .f32⟩
  | 30 => ⟨S4x2048x8x2, .f32⟩
  | 31 => ⟨S_, .f32⟩
  | 32 => ⟨S4x2048x8, .f32⟩
  | 33 => ⟨S_, .f32⟩
  | 34 => ⟨S4x2048x8, .f32⟩
  | 35 => ⟨S4x2048x8, .f32⟩
  | 36 => ⟨S4x2048x8x1, .f32⟩
  | 37 => ⟨S4x2048x8x2, .f32⟩
  | 38 => ⟨S4x2048x8x2, .f32⟩
  | 39 => ⟨S4x2048x8x2, .f32⟩
  | 40 => ⟨S_, .f32⟩
  | 41 => ⟨S4x2048x8, .f32⟩
  | 42 => ⟨S4x2048x8x1, .f32⟩
  | 43 => ⟨S4x2048x8x2, .f32⟩
  | 44 => ⟨S4x2048x8x2, .f32⟩
  | 45 => ⟨S4x2048x8x1, .f32⟩
  | 46 => ⟨S4x2048x8, .f32⟩
  | 47 => ⟨S4x16384, .f32⟩
  | 48 => ⟨S4x2048x8, .f32⟩
  | 49 => ⟨S4x16384, .f32⟩
  | 50 => ⟨S4x16384, .f32⟩
  | 51 => ⟨S4x512, .f32⟩
  | 52 => ⟨S4x512, .i32⟩
  | 53 => ⟨S4x16384, .i32⟩
  | 54 => ⟨S_, .i32⟩
  | 55 => ⟨S4x512, .i32⟩
  | 56 => ⟨S4x512, .i1⟩
  | 57 => ⟨S_, .i32⟩
  | 58 => ⟨S4x512, .i32⟩
  | 59 => ⟨S4x512, .i32⟩
  | 60 => ⟨S4x512, .i32⟩
  | 61 => ⟨S4x512x1, .i32⟩
  | 62 => ⟨S1, .i32⟩
  | 63 => ⟨S_, .i32⟩
  | 64 => ⟨S4x512x1, .i32⟩
  | 65 => ⟨S4x512x1, .i1⟩
  | 66 => ⟨S1x1x1, .i32⟩
  | 67 => ⟨S4x512x1, .i32⟩
  | 68 => ⟨S4x512x1, .i1⟩
  | 69 => ⟨S4x512x1, .i1⟩
  | 70 => ⟨S_, .i1⟩
  | 71 => ⟨S4x512, .i1⟩
  | 72 => ⟨S4x512, .i32⟩
  | 73 => ⟨S_, .i32⟩
  | 74 => ⟨S4x512, .i32⟩
  | 75 => ⟨S4x512, .i32⟩
  | 76 => ⟨S4x16384, .i32⟩
  | 77 => ⟨S_, .i32⟩
  | 78 => ⟨S4x512, .i32⟩
  | 79 => ⟨S4x512, .i1⟩
  | 80 => ⟨S_, .i32⟩
  | 81 => ⟨S4x512, .i32⟩
  | 82 => ⟨S4x512, .i32⟩
  | 83 => ⟨S4x512, .i32⟩
  | 84 => ⟨S4x512x1, .i32⟩
  | 85 => ⟨S1, .i32⟩
  | 86 => ⟨S_, .i32⟩
  | 87 => ⟨S4x512x1, .i32⟩
  | 88 => ⟨S4x512x1, .i1⟩
  | 89 => ⟨S1x1x1, .i32⟩
  | 90 => ⟨S4x512x1, .i32⟩
  | 91 => ⟨S4x512x1, .i1⟩
  | 92 => ⟨S4x512x1, .i1⟩
  | 93 => ⟨S_, .i1⟩
  | 94 => ⟨S4x512, .i1⟩
  | 95 => ⟨S4x512, .i32⟩
  | 96 => ⟨S_, .i32⟩
  | 97 => ⟨S4x512, .i32⟩
  | 98 => ⟨S4x512, .i32⟩
  | 99 => ⟨S4x16384x2, .f32⟩
  | 100 => ⟨S4x512x1, .i32⟩
  | 101 => ⟨S_, .i32⟩
  | 102 => ⟨S4x512x1, .i32⟩
  | 103 => ⟨S4x512x1, .i1⟩
  | 104 => ⟨S_, .i32⟩
  | 105 => ⟨S4x512x1, .i32⟩
  | 106 => ⟨S4x512x1, .i32⟩
  | 107 => ⟨S4x512x1, .i32⟩
  | 108 => ⟨S1, .i32⟩
  | 109 => ⟨S_, .i32⟩
  | 110 => ⟨S4x512x1, .i32⟩
  | 111 => ⟨S4x512x1, .i1⟩
  | 112 => ⟨S1x1x1, .i32⟩
  | 113 => ⟨S4x512x1, .i32⟩
  | 114 => ⟨S4x512x1, .i1⟩
  | 115 => ⟨S4x512x1, .i1⟩
  | 116 => ⟨S_, .i1⟩
  | 117 => ⟨S4x512, .i1⟩
  | 118 => ⟨S4x512x2, .f32⟩
  | 119 => ⟨S4x512x2, .i1⟩
  | 120 => ⟨S_, .f32⟩
  | 121 => ⟨S4x512x2, .f32⟩
  | 122 => ⟨S4x512x2, .f32⟩
  | 123 => ⟨S2048, .i32⟩
  | 124 => ⟨S2048x1, .i32⟩
  | 125 => ⟨S8, .i32⟩
  | 126 => ⟨S_, .i32⟩
  | 127 => ⟨S8, .i32⟩
  | _ => ⟨S4x2048, .f32⟩

abbrev hbmTy0_1 (i : Nat) : BufTy := match i % 128 with
  | 0 => ⟨S8, .i32⟩
  | 1 => ⟨S1x8, .i32⟩
  | 2 => ⟨S2048x8, .i32⟩
  | 3 => ⟨S2048x8, .i32⟩
  | 4 => ⟨S2048x8, .i32⟩
  | 5 => ⟨S_, .i32⟩
  | 6 => ⟨S_, .i32⟩
  | 7 => ⟨S2048x8, .i32⟩
  | 8 => ⟨S2048x8, .i32⟩
  | 9 => ⟨S2048x1, .i32⟩
  | 10 => ⟨S2048x8, .i32⟩
  | 11 => ⟨S2048x8, .i32⟩
  | 12 => ⟨S2048x8, .f32⟩
  | 13 => ⟨S1x16384, .f32⟩
  | 14 => ⟨S1x1x1x16384, .f32⟩
  | 15 => ⟨S4x1x1x16384, .f32⟩
  | 16 => ⟨S4x16384, .f32⟩
  | 17 => ⟨S_, .i32⟩
  | 18 => ⟨S4x512, .i32⟩
  | 19 => ⟨S4x512, .i1⟩
  | 20 => ⟨S_, .i32⟩
  | 21 => ⟨S4x512, .i32⟩
  | 22 => ⟨S4x512, .i32⟩
  | 23 => ⟨S4x512, .i32⟩
  | 24 => ⟨S4x512x1, .i32⟩
  | 25 => ⟨S1, .i32⟩
  | 26 => ⟨S_, .i32⟩
  | 27 => ⟨S4x512x1, .i32⟩
  | 28 => ⟨S4x512x1, .i1⟩
  | 29 => ⟨S1x1x1, .i32⟩
  | 30 => ⟨S4x512x1, .i32⟩
  | 31 => ⟨S4x512x1, .i1⟩
  | 32 => ⟨S4x512x1, .i1⟩
  | 33 => ⟨S_, .i1⟩
  | 34 => ⟨S4x512, .i1⟩
  | 35 => ⟨S4x512, .f32⟩
  | 36 => ⟨S_, .f32⟩
  | 37 => ⟨S4x512, .f32⟩
  | 38 => ⟨S4x512, .f32⟩
  | 39 => ⟨S4, .i32⟩
  | 40 => ⟨S_, .i32⟩
  | 41 => ⟨S4, .i32⟩
  | 42 => ⟨S4, .i32⟩
  | 43 => ⟨S4x1, .i32⟩
  | 44 => ⟨S4x512, .i32⟩
  | 45 => ⟨S4x512, .i32⟩
  | 46 => ⟨S2048, .i32⟩
  | 47 => ⟨S65536x128, .f32⟩
  | 48 => ⟨S2048x128, .f32⟩
  | 49 => ⟨S1x10, .f32⟩
  | 50 => ⟨S2048x1, .i32⟩
  | 51 => ⟨S1x10, .f32⟩
  | 52 => ⟨S2048x10, .f32⟩
  | 53 => ⟨S1x1, .f32⟩
  | 54 => ⟨S4x1, .i32⟩
  | 55 => ⟨S_, .f32⟩
  | 56 => ⟨S4x512, .f32⟩
  | 57 => ⟨S1, .f32⟩
  | 58 => ⟨S1, .f32⟩
  | 59 => ⟨S4x512x128, .f32⟩
  | 60 => ⟨S4x512x10, .f32⟩
  | 61 => ⟨S4, .i32⟩
  | _ => ⟨S4x2048, .f32⟩

abbrev hbmTy (i : Nat) : BufTy := match i / 128 with
  | 0 => hbmTy0_0 i
  | 1 => hbmTy0_1 i
  | _ => ⟨S4x2048, .f32⟩

abbrev bufTy : (tb : Table) → Fin (nBuf tb) → BufTy
  | .hbm, ⟨i, _⟩ => hbmTy i
  | .local .tc .vmem, ⟨0, _⟩ => ⟨S1x256x128, .f32⟩
  | .local .tc .vmem, ⟨1, _⟩ => ⟨S1x256x128, .f32⟩
  | .local .tc .vmem, ⟨2, _⟩ => ⟨S1x256x128, .f32⟩
  | .local .tc .vmem, ⟨3, _⟩ => ⟨S1x256x128, .f32⟩
  | .local .tc .vmem, ⟨4, _⟩ => ⟨S1x256x8, .i32⟩
  | .local .tc .vmem, ⟨5, _⟩ => ⟨S1x256x8, .i32⟩
  | .local .tc .vmem, ⟨6, _⟩ => ⟨S128x128, .f32⟩
  | .local .tc .vmem, ⟨7, _⟩ => ⟨S128x128, .f32⟩
  | .local .tc .vmem, ⟨8, _⟩ => ⟨S1x128, .f32⟩
  | .local .tc .vmem, ⟨9, _⟩ => ⟨S128x8, .f32⟩
  | .local .tc .vmem, ⟨10, _⟩ => ⟨S128x8, .f32⟩
  | .local .tc .vmem, ⟨11, _⟩ => ⟨S1x8, .f32⟩
  | .local .tc .vmem, ⟨12, _⟩ => ⟨S1x8, .f32⟩
  | .local .tc .vmem, ⟨13, _⟩ => ⟨S128x10, .f32⟩
  | .local .tc .vmem, ⟨14, _⟩ => ⟨S1x10, .f32⟩
  | .local .tc .vmem, ⟨15, _⟩ => ⟨S1x256x8x128, .f32⟩
  | .local .tc .vmem, ⟨16, _⟩ => ⟨S1x256x8x128, .f32⟩
  | .local .tc .vmem, ⟨17, _⟩ => ⟨S1x256x8, .f32⟩
  | .local .tc .vmem, ⟨18, _⟩ => ⟨S1x256x8, .f32⟩
  | .local .tc .vmem, ⟨19, _⟩ => ⟨S1x256x8, .f32⟩
  | .local .tc .vmem, ⟨20, _⟩ => ⟨S1x256x8, .f32⟩
  | .local .tc .vmem, ⟨21, _⟩ => ⟨S1x256x8, .i32⟩
  | .local .tc .vmem, ⟨22, _⟩ => ⟨S1x256x8, .i32⟩
  | .local .tc .vmem, ⟨23, _⟩ => ⟨S1x256x8, .i32⟩
  | .local .tc .vmem, ⟨24, _⟩ => ⟨S1x256x8, .i32⟩
  | .local .tc .vmem, ⟨25, _⟩ => ⟨S1x1, .f32⟩
  | .local .tc .vmem, ⟨26, _⟩ => ⟨S256x128, .f32⟩
  | .local .tc .vmem, ⟨27, _⟩ => ⟨S2048x128, .f32⟩
  | .local .tc .vmem, ⟨28, _⟩ => ⟨S128x10, .f32⟩
  | .local .tc .vmem, ⟨29, _⟩ => ⟨S1x10, .f32⟩
  | .local .tc .vmem, ⟨30, _⟩ => ⟨S2048x1, .i32⟩
  | .local .tc .vmem, ⟨31, _⟩ => ⟨S1x10, .f32⟩
  | .local .tc .vmem, ⟨32, _⟩ => ⟨S4x512, .i32⟩
  | .local .tc .vmem, ⟨33, _⟩ => ⟨S2048x10, .f32⟩
  | .local .tc .vmem, ⟨34, _⟩ => ⟨S1x1, .f32⟩
  | .local .tc .vmem, ⟨35, _⟩ => ⟨S4x1, .i32⟩
  | .local .tc .smem, ⟨0, _⟩ => ⟨S2, .f32⟩
  | .local .scVector .vmem, ⟨0, _⟩ => ⟨S64, .i32⟩
  | .local .scVector .vmem, ⟨1, _⟩ => ⟨S64x128, .f32⟩
  | _, _ => ⟨S4x2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => false
  | ⟨27, _⟩ => false
  | ⟨28, _⟩ => false
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTables nBuf rfl bufTy 4 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8_0 : Ref sig .tc := ⟨.hbm, 22, rfl⟩
abbrev main_v8_1 : Ref sig .tc := ⟨.hbm, 23, rfl⟩
abbrev main_v8_2 : Ref sig .tc := ⟨.hbm, 24, rfl⟩
abbrev main_v8_3 : Ref sig .tc := ⟨.hbm, 25, rfl⟩
abbrev main_v8_4 : Ref sig .tc := ⟨.hbm, 26, rfl⟩
abbrev main_v8_5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst : Ref sig .tc := ⟨.hbm, 31, rfl⟩
abbrev main_v12 : Ref sig .tc := ⟨.hbm, 32, rfl⟩
abbrev main_cst_0 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_1 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_values : Ref sig .tc := ⟨.hbm, 51, rfl⟩
abbrev main_indices : Ref sig .tc := ⟨.hbm, 52, rfl⟩
abbrev main_v29 : Ref sig .tc := ⟨.hbm, 53, rfl⟩
abbrev main_call0_c : Ref sig .tc := ⟨.hbm, 54, rfl⟩
abbrev main_call0_v0 : Ref sig .tc := ⟨.hbm, 55, rfl⟩
abbrev main_call0_v1 : Ref sig .tc := ⟨.hbm, 56, rfl⟩
abbrev main_call0_c_0 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_v5 : Ref sig .tc := ⟨.hbm, 61, rfl⟩
abbrev main_call0_c_1 : Ref sig .tc := ⟨.hbm, 62, rfl⟩
abbrev main_call0_c_2 : Ref sig .tc := ⟨.hbm, 63, rfl⟩
abbrev main_call0_v6 : Ref sig .tc := ⟨.hbm, 64, rfl⟩
abbrev main_call0_v7 : Ref sig .tc := ⟨.hbm, 65, rfl⟩
abbrev main_call0_v8 : Ref sig .tc := ⟨.hbm, 66, rfl⟩
abbrev main_call0_v9 : Ref sig .tc := ⟨.hbm, 67, rfl⟩
abbrev main_call0_v10 : Ref sig .tc := ⟨.hbm, 68, rfl⟩
abbrev main_call0_v11 : Ref sig .tc := ⟨.hbm, 69, rfl⟩
abbrev main_call0_c_3 : Ref sig .tc := ⟨.hbm, 70, rfl⟩
abbrev main_call0_v12 : Ref sig .tc := ⟨.hbm, 71, rfl⟩
abbrev main_call0_v13 : Ref sig .tc := ⟨.hbm, 72, rfl⟩
abbrev main_call0_c_4 : Ref sig .tc := ⟨.hbm, 73, rfl⟩
abbrev main_call0_v14 : Ref sig .tc := ⟨.hbm, 74, rfl⟩
abbrev main_v30 : Ref sig .tc := ⟨.hbm, 75, rfl⟩
abbrev main_v31 : Ref sig .tc := ⟨.hbm, 76, rfl⟩
abbrev main_call1_c : Ref sig .tc := ⟨.hbm, 77, rfl⟩
abbrev main_call1_v0 : Ref sig .tc := ⟨.hbm, 78, rfl⟩
abbrev main_call1_v1 : Ref sig .tc := ⟨.hbm, 79, rfl⟩
abbrev main_call1_c_0 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_c_1 : Ref sig .tc := ⟨.hbm, 85, rfl⟩
abbrev main_call1_c_2 : Ref sig .tc := ⟨.hbm, 86, rfl⟩
abbrev main_call1_v6 : Ref sig .tc := ⟨.hbm, 87, rfl⟩
abbrev main_call1_v7 : Ref sig .tc := ⟨.hbm, 88, rfl⟩
abbrev main_call1_v8 : Ref sig .tc := ⟨.hbm, 89, rfl⟩
abbrev main_call1_v9 : Ref sig .tc := ⟨.hbm, 90, rfl⟩
abbrev main_call1_v10 : Ref sig .tc := ⟨.hbm, 91, rfl⟩
abbrev main_call1_v11 : Ref sig .tc := ⟨.hbm, 92, rfl⟩
abbrev main_call1_c_3 : Ref sig .tc := ⟨.hbm, 93, rfl⟩
abbrev main_call1_v12 : Ref sig .tc := ⟨.hbm, 94, rfl⟩
abbrev main_call1_v13 : Ref sig .tc := ⟨.hbm, 95, rfl⟩
abbrev main_call1_c_4 : Ref sig .tc := ⟨.hbm, 96, rfl⟩
abbrev main_call1_v14 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_call2_c : Ref sig .tc := ⟨.hbm, 101, rfl⟩
abbrev main_call2_v0 : Ref sig .tc := ⟨.hbm, 102, rfl⟩
abbrev main_call2_v1 : Ref sig .tc := ⟨.hbm, 103, rfl⟩
abbrev main_call2_c_0 : Ref sig .tc := ⟨.hbm, 104, rfl⟩
abbrev main_call2_v2 : Ref sig .tc := ⟨.hbm, 105, rfl⟩
abbrev main_call2_v3 : Ref sig .tc := ⟨.hbm, 106, rfl⟩
abbrev main_call2_v4 : Ref sig .tc := ⟨.hbm, 107, rfl⟩
abbrev main_call2_c_1 : Ref sig .tc := ⟨.hbm, 108, rfl⟩
abbrev main_call2_c_2 : Ref sig .tc := ⟨.hbm, 109, rfl⟩
abbrev main_call2_v5 : Ref sig .tc := ⟨.hbm, 110, rfl⟩
abbrev main_call2_v6 : Ref sig .tc := ⟨.hbm, 111, rfl⟩
abbrev main_call2_v7 : Ref sig .tc := ⟨.hbm, 112, rfl⟩
abbrev main_call2_v8 : Ref sig .tc := ⟨.hbm, 113, rfl⟩
abbrev main_call2_v9 : Ref sig .tc := ⟨.hbm, 114, rfl⟩
abbrev main_call2_v10 : Ref sig .tc := ⟨.hbm, 115, rfl⟩
abbrev main_call2_c_3 : Ref sig .tc := ⟨.hbm, 116, rfl⟩
abbrev main_call2_v11 : Ref sig .tc := ⟨.hbm, 117, rfl⟩
abbrev main_call2_v12 : Ref sig .tc := ⟨.hbm, 118, rfl⟩
abbrev main_call2_v13 : Ref sig .tc := ⟨.hbm, 119, rfl⟩
abbrev main_call2_cst : Ref sig .tc := ⟨.hbm, 120, rfl⟩
abbrev main_call2_v14 : Ref sig .tc := ⟨.hbm, 121, rfl⟩
abbrev main_v35 : Ref sig .tc := ⟨.hbm, 122, rfl⟩
abbrev main_v36 : Ref sig .tc := ⟨.hbm, 123, rfl⟩
abbrev main_v37 : Ref sig .tc := ⟨.hbm, 124, rfl⟩
abbrev main_v38 : Ref sig .tc := ⟨.hbm, 125, rfl⟩
abbrev main_c : Ref sig .tc := ⟨.hbm, 126, rfl⟩
abbrev main_v39 : Ref sig .tc := ⟨.hbm, 127, rfl⟩
abbrev main_v40 : Ref sig .tc := ⟨.hbm, 128, rfl⟩
abbrev main_v41 : Ref sig .tc := ⟨.hbm, 129, rfl⟩
abbrev main_v42 : Ref sig .tc := ⟨.hbm, 130, rfl⟩
abbrev main_v43 : Ref sig .tc := ⟨.hbm, 131, rfl⟩
abbrev main_v44 : Ref sig .tc := ⟨.hbm, 132, rfl⟩
abbrev main_c_2 : Ref sig .tc := ⟨.hbm, 133, rfl⟩
abbrev main_call3_v0 : Ref sig .tc := ⟨.hbm, 134, rfl⟩
abbrev main_call3_v1 : Ref sig .tc := ⟨.hbm, 135, rfl⟩
abbrev main_v45 : Ref sig .tc := ⟨.hbm, 136, rfl⟩
abbrev main_v46 : Ref sig .tc := ⟨.hbm, 137, rfl⟩
abbrev main_v47 : Ref sig .tc := ⟨.hbm, 138, rfl⟩
abbrev main_v48 : Ref sig .tc := ⟨.hbm, 139, rfl⟩
abbrev main_v49 : Ref sig .tc := ⟨.hbm, 140, rfl⟩
abbrev main_v50 : Ref sig .tc := ⟨.hbm, 141, rfl⟩
abbrev main_v51 : Ref sig .tc := ⟨.hbm, 142, rfl⟩
abbrev main_v52 : Ref sig .tc := ⟨.hbm, 143, rfl⟩
abbrev main_v53 : Ref sig .tc := ⟨.hbm, 144, rfl⟩
abbrev main_call4_c : Ref sig .tc := ⟨.hbm, 145, rfl⟩
abbrev main_call4_v0 : Ref sig .tc := ⟨.hbm, 146, rfl⟩
abbrev main_call4_v1 : Ref sig .tc := ⟨.hbm, 147, rfl⟩
abbrev main_call4_c_0 : Ref sig .tc := ⟨.hbm, 148, rfl⟩
abbrev main_call4_v2 : Ref sig .tc := ⟨.hbm, 149, rfl⟩
abbrev main_call4_v3 : Ref sig .tc := ⟨.hbm, 150, rfl⟩
abbrev main_call4_v4 : Ref sig .tc := ⟨.hbm, 151, rfl⟩
abbrev main_call4_v5 : Ref sig .tc := ⟨.hbm, 152, rfl⟩
abbrev main_call4_c_1 : Ref sig .tc := ⟨.hbm, 153, rfl⟩
abbrev main_call4_c_2 : Ref sig .tc := ⟨.hbm, 154, rfl⟩
abbrev main_call4_v6 : Ref sig .tc := ⟨.hbm, 155, rfl⟩
abbrev main_call4_v7 : Ref sig .tc := ⟨.hbm, 156, rfl⟩
abbrev main_call4_v8 : Ref sig .tc := ⟨.hbm, 157, rfl⟩
abbrev main_call4_v9 : Ref sig .tc := ⟨.hbm, 158, rfl⟩
abbrev main_call4_v10 : Ref sig .tc := ⟨.hbm, 159, rfl⟩
abbrev main_call4_v11 : Ref sig .tc := ⟨.hbm, 160, rfl⟩
abbrev main_call4_c_3 : Ref sig .tc := ⟨.hbm, 161, rfl⟩
abbrev main_call4_v12 : Ref sig .tc := ⟨.hbm, 162, rfl⟩
abbrev main_call4_v13 : Ref sig .tc := ⟨.hbm, 163, rfl⟩
abbrev main_call4_cst : Ref sig .tc := ⟨.hbm, 164, rfl⟩
abbrev main_call4_v14 : Ref sig .tc := ⟨.hbm, 165, rfl⟩
abbrev main_v54 : Ref sig .tc := ⟨.hbm, 166, rfl⟩
abbrev main_v55 : Ref sig .tc := ⟨.hbm, 167, rfl⟩
abbrev main_c_3 : Ref sig .tc := ⟨.hbm, 168, rfl⟩
abbrev main_v56 : Ref sig .tc := ⟨.hbm, 169, rfl⟩
abbrev main_v57 : Ref sig .tc := ⟨.hbm, 170, rfl⟩
abbrev main_v58 : Ref sig .tc := ⟨.hbm, 171, rfl⟩
abbrev main_v59 : Ref sig .tc := ⟨.hbm, 172, rfl⟩
abbrev main_v60 : Ref sig .tc := ⟨.hbm, 173, rfl⟩
abbrev main_v61 : Ref sig .tc := ⟨.hbm, 174, rfl⟩
abbrev main_v62 : Ref sig .tc := ⟨.hbm, 175, rfl⟩
abbrev main_v63 : Ref sig .tc := ⟨.hbm, 176, rfl⟩
abbrev main_v64 : Ref sig .tc := ⟨.hbm, 177, rfl⟩
abbrev main_v65 : Ref sig .tc := ⟨.hbm, 178, rfl⟩
abbrev main_v66 : Ref sig .tc := ⟨.hbm, 179, rfl⟩
abbrev main_v67_0 : Ref sig .tc := ⟨.hbm, 180, rfl⟩
abbrev main_v67_1 : Ref sig .tc := ⟨.hbm, 181, rfl⟩
abbrev main_v67_2 : Ref sig .tc := ⟨.hbm, 182, rfl⟩
abbrev main_cst_4 : Ref sig .tc := ⟨.hbm, 183, rfl⟩
abbrev main_v68 : Ref sig .tc := ⟨.hbm, 184, rfl⟩
abbrev main_v69 : Ref sig .tc := ⟨.hbm, 185, rfl⟩
abbrev main_v70 : Ref sig .tc := ⟨.hbm, 186, rfl⟩
abbrev main_v71 : Ref sig .tc := ⟨.hbm, 187, rfl⟩
abbrev main_v72 : Ref sig .tc := ⟨.hbm, 188, rfl⟩
abbrev main_v73 : Ref sig .tc := ⟨.hbm, 189, rfl⟩
abbrev main_v62_scv : Ref sig .scVector := ⟨.hbm, 175, rfl⟩
abbrev main_v61_scv : Ref sig .scVector := ⟨.hbm, 174, rfl⟩
abbrev main_v63_scv : Ref sig .scVector := ⟨.hbm, 176, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_scratch0 : Ref sig .tc := ⟨.vmem, 26, rfl⟩
abbrev cc2_stg0_0 : Ref sig .tc := ⟨.vmem, 27, rfl⟩
abbrev cc2_stg1_0 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg7_0 : Ref sig .tc := ⟨.vmem, 34, rfl⟩
abbrev cc2_stg8_0 : Ref sig .tc := ⟨.vmem, 35, rfl⟩
abbrev cc0_scratch1 : Ref sig .tc := ⟨.smem, 0, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc2_sem0_0 : DmaSem sig := 29
abbrev cc2_sem1_0 : DmaSem sig := 30
abbrev cc2_sem2_0 : DmaSem sig := 31
abbrev cc2_sem3_0 : DmaSem sig := 32
abbrev cc2_sem4_0 : DmaSem sig := 33
abbrev cc2_sem5_0 : DmaSem sig := 34
abbrev cc2_sem6_0 : DmaSem sig := 35
abbrev cc2_sem7_0 : DmaSem sig := 36
abbrev cc2_sem8_0 : DmaSem sig := 37
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![4, 9], ![false, false]⟩

def k0_cond3 (i : grid0.Coords) : BitVec 1 :=
  let arg1 : BitVec 32 := BitVec.ofNat 32 (i 1).val
  let c0_i32_41 : BitVec 32 := 0#32
  let v74 : BitVec 1 := Scalar.cmpi .sgt arg1 c0_i32_41
  let v75 : BitVec 32 := Scalar.extui v74
  let c0_i32_42 : BitVec 32 := 0#32
  let v76 : BitVec 1 := Scalar.cmpi .ne v75 c0_i32_42
  v76

def k0_cond4 (i : grid0.Coords) : BitVec 1 :=
  let arg0 : BitVec 32 := BitVec.ofNat 32 (i 0).val
  let c3_i32 : BitVec 32 := 3#32
  let v80 : BitVec 1 := Scalar.cmpi .eq arg0 c3_i32
  let arg1 : BitVec 32 := BitVec.ofNat 32 (i 1).val
  let c8_i32_45 : BitVec 32 := 8#32
  let v81 : BitVec 1 := Scalar.cmpi .eq arg1 c8_i32_45
  let v82 : BitVec 1 := Scalar.andi v80 v81
  let v83 : BitVec 32 := Scalar.extui v82
  let c0_i32_46 : BitVec 32 := 0#32
  let v84 : BitVec 1 := Scalar.cmpi .ne v83 c0_i32_46
  v84

def cc0_transform_0 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![arg0.toNat, v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![arg0.toNat, v1.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![arg0.toNat, v0.toNat, c0_i32.toNat]

def cc0_transform_14 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![arg0.toNat, v0.toNat, c0_i32.toNat]

def cc0_transform_15 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![arg0.toNat, v0.toNat, c0_i32.toNat]

def cc0_transform_16 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x8 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x10 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x10 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x8x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x8 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x8 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x8 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x8 .i32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 1 → Memref sig .tc .vmem S1x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  ![v2.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_3_r1 : BitVec 32 := 0#32
  ![v2.toNat, 0]
abbrev grid2 : Pipeline.Grid := .none

abbrev stage2_0 : Fin 1 → Memref sig .tc .vmem S2048x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S128x10 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S2048x1 .i32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S1x10 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S4x512 .i32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S2048x10 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S1x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev stage2_8 : Fin 1 → Memref sig .tc .vmem S4x1 .i32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x2048 : Shape := ⟨2, ![4, 2048]⟩
abbrev S4x2048x128 : Shape := ⟨3, ![4, 2048, 128]⟩
abbrev S4x2048x8x2 : Shape := ⟨4, ![4, 2048, 8, 2]⟩
abbrev S4x2048x8 : Shape := ⟨3, ![4, 2048, 8]⟩
abbrev S128x128 : Shape := ⟨2, ![128, 128]⟩
abbrev S128 : Shape := ⟨1, ![128]⟩
abbrev S128x16 : Shape := ⟨2, ![128, 16]⟩
abbrev S16 : Shape := ⟨1, ![16]⟩
abbrev S128x10 : Shape := ⟨2, ![128, 10]⟩
abbrev S10 : Shape := ⟨1, ![10]⟩
abbrev S2 : Shape := ⟨1, ![2]⟩
abbrev S1x1x128 : Shape := ⟨3, ![1, 1, 128]⟩
abbrev S_ : Shape := ⟨0, ![]⟩
abbrev S4x1x128 : Shape := ⟨3, ![4, 1, 128]⟩
abbrev S4x2049x128 : Shape := ⟨3, ![4, 2049, 128]⟩
abbrev S2048 : Shape := ⟨1, ![2048]⟩
abbrev S2048x1 : Shape := ⟨2, ![2048, 1]⟩
abbrev S8 : Shape := ⟨1, ![8]⟩
abbrev S1x8 : Shape := ⟨2, ![1, 8]⟩
abbrev S2048x8 : Shape := ⟨2, ![2048, 8]⟩
abbrev S2048x8x1 : Shape := ⟨3, ![2048, 8, 1]⟩
abbrev S4x2048x8x128 : Shape := ⟨4, ![4, 2048, 8, 128]⟩
abbrev S4x2048x1x128 : Shape := ⟨4, ![4, 2048, 1, 128]⟩
abbrev S1x2048x8x1 : Shape := ⟨4, ![1, 2048, 8, 1]⟩
abbrev S4x2048x16 : Shape := ⟨3, ![4, 2048, 16]⟩
abbrev S1x1x16 : Shape := ⟨3, ![1, 1, 16]⟩
abbrev S4x2048x1 : Shape := ⟨3, ![4, 2048, 1]⟩
abbrev S4x2048x8x1 : Shape := ⟨4, ![4, 2048, 8, 1]⟩
abbrev S4x2048x8x1x1 : Shape := ⟨5, ![4, 2048, 8, 1, 1]⟩
abbrev S1 : Shape := ⟨1, ![1]⟩
abbrev S1x1x1x1x1 : Shape := ⟨5, ![1, 1, 1, 1, 1]⟩
abbrev S4x16384 : Shape := ⟨2, ![4, 16384]⟩
abbrev S4x512 : Shape := ⟨2, ![4, 512]⟩
abbrev S4x512x1 : Shape := ⟨3, ![4, 512, 1]⟩
abbrev S1x1x1 : Shape := ⟨3, ![1, 1, 1]⟩
abbrev S4x16384x128 : Shape := ⟨3, ![4, 16384, 128]⟩
abbrev S4x512x128 : Shape := ⟨3, ![4, 512, 128]⟩
abbrev S4x512x10 : Shape := ⟨3, ![4, 512, 10]⟩
abbrev S1x1x10 : Shape := ⟨3, ![1, 1, 10]⟩
abbrev S4x512x1x1 : Shape := ⟨4, ![4, 512, 1, 1]⟩
abbrev S1x1x1x1 : Shape := ⟨4, ![1, 1, 1, 1]⟩
abbrev S4x2048x8x10 : Shape := ⟨4, ![4, 2048, 8, 10]⟩
abbrev S1x1x1x10 : Shape := ⟨4, ![1, 1, 1, 10]⟩
abbrev S4x16384x2 : Shape := ⟨3, ![4, 16384, 2]⟩
abbrev S4x512x2 : Shape := ⟨3, ![4, 512, 2]⟩
abbrev S1x16384 : Shape := ⟨2, ![1, 16384]⟩
abbrev S1x1x1x16384 : Shape := ⟨4, ![1, 1, 1, 16384]⟩
abbrev S4x1x1x16384 : Shape := ⟨4, ![4, 1, 1, 16384]⟩
abbrev S4 : Shape := ⟨1, ![4]⟩

abbrev nBuf : Space → Nat
  | .hbm => 386
  | .vmem => 0
  | .smem => 0
  | _ => 0

abbrev hbmTy0_0 (i : Nat) : BufTy := match i % 128 with
  | 0 => ⟨S4x2048, .f32⟩
  | 1 => ⟨S4x2048x128, .f32⟩
  | 2 => ⟨S4x2048x128, .f32⟩
  | 3 => ⟨S4x2048x8x2, .f32⟩
  | 4 => ⟨S4x2048x8, .i32⟩
  | 5 => ⟨S4x2048x8, .i32⟩
  | 6 => ⟨S128x128, .f32⟩
  | 7 => ⟨S128x128, .f32⟩
  | 8 => ⟨S128, .f32⟩
  | 9 => ⟨S128x16, .f32⟩
  | 10 => ⟨S16, .f32⟩
  | 11 => ⟨S128x10, .f32⟩
  | 12 => ⟨S10, .f32⟩
  | 13 => ⟨S10, .f32⟩
  | 14 => ⟨S2, .f32⟩
  | 15 => ⟨S4x2048x128, .f32⟩
  | 16 => ⟨S4x2048x128, .f32⟩
  | 17 => ⟨S4x2048x128, .f32⟩
  | 18 => ⟨S1x1x128, .f32⟩
  | 19 => ⟨S4x2048x128, .f32⟩
  | 20 => ⟨S4x2048x128, .f32⟩
  | 21 => ⟨S4x2048x128, .f32⟩
  | 22 => ⟨S4x2048x128, .f32⟩
  | 23 => ⟨S_, .f32⟩
  | 24 => ⟨S4x2048x128, .f32⟩
  | 25 => ⟨S4x2048x128, .f32⟩
  | 26 => ⟨S_, .f32⟩
  | 27 => ⟨S4x2048x128, .f32⟩
  | 28 => ⟨S4x2048x128, .f32⟩
  | 29 => ⟨S4x2048x128, .f32⟩
  | 30 => ⟨S_, .f32⟩
  | 31 => ⟨S4x2048x128, .f32⟩
  | 32 => ⟨S4x2048x128, .f32⟩
  | 33 => ⟨S4x2048x128, .f32⟩
  | 34 => ⟨S4x2048x128, .f32⟩
  | 35 => ⟨S_, .f32⟩
  | 36 => ⟨S4x1x128, .f32⟩
  | 37 => ⟨S_, .f32⟩
  | 38 => ⟨S_, .f32⟩
  | 39 => ⟨S4x2048x128, .f32⟩
  | 40 => ⟨S4x2049x128, .f32⟩
  | 41 => ⟨S2048, .i32⟩
  | 42 => ⟨S2048x1, .i32⟩
  | 43 => ⟨S8, .i32⟩
  | 44 => ⟨S_, .i32⟩
  | 45 => ⟨S8, .i32⟩
  | 46 => ⟨S8, .i32⟩
  | 47 => ⟨S1x8, .i32⟩
  | 48 => ⟨S2048x8, .i32⟩
  | 49 => ⟨S2048x8, .i32⟩
  | 50 => ⟨S2048x8, .i32⟩
  | 51 => ⟨S_, .i32⟩
  | 52 => ⟨S_, .i32⟩
  | 53 => ⟨S2048x8, .i32⟩
  | 54 => ⟨S2048x8, .i32⟩
  | 55 => ⟨S2048x1, .i32⟩
  | 56 => ⟨S2048x8, .i32⟩
  | 57 => ⟨S2048x8, .i32⟩
  | 58 => ⟨S2048x8, .f32⟩
  | 59 => ⟨S_, .i32⟩
  | 60 => ⟨S2048x8, .i32⟩
  | 61 => ⟨S2048x8, .i1⟩
  | 62 => ⟨S_, .i32⟩
  | 63 => ⟨S2048x8, .i32⟩
  | 64 => ⟨S2048x8, .i32⟩
  | 65 => ⟨S2048x8, .i32⟩
  | 66 => ⟨S2048x8x1, .i32⟩
  | 67 => ⟨S4x2048x8x128, .f32⟩
  | 68 => ⟨S_, .i32⟩
  | 69 => ⟨S2048, .i32⟩
  | 70 => ⟨S2048, .i1⟩
  | 71 => ⟨S_, .i32⟩
  | 72 => ⟨S2048, .i32⟩
  | 73 => ⟨S2048, .i32⟩
  | 74 => ⟨S2048, .i32⟩
  | 75 => ⟨S2048x1, .i32⟩
  | 76 => ⟨S4x2048x128, .f32⟩
  | 77 => ⟨S4x2048x1x128, .f32⟩
  | 78 => ⟨S4x2048x8x128, .f32⟩
  | 79 => ⟨S4x2048x8x128, .f32⟩
  | 80 => ⟨S1x2048x8x1, .f32⟩
  | 81 => ⟨S4x2048x8x128, .f32⟩
  | 82 => ⟨S4x2048x8x128, .f32⟩
  | 83 => ⟨S4x2048x16, .f32⟩
  | 84 => ⟨S1x1x16, .f32⟩
  | 85 => ⟨S4x2048x16, .f32⟩
  | 86 => ⟨S4x2048x16, .f32⟩
  | 87 => ⟨S4x2048x8x2, .f32⟩
  | 88 => ⟨S4x2048x1, .f32⟩
  | 89 => ⟨S_, .f32⟩
  | 90 => ⟨S4x2048x1, .f32⟩
  | 91 => ⟨S4x2048x1, .i1⟩
  | 92 => ⟨S4x2048x8x2, .i32⟩
  | 93 => ⟨S_, .f32⟩
  | 94 => ⟨S_, .i32⟩
  | 95 => ⟨S4x2048x8, .f32⟩
  | 96 => ⟨S4x2048x8, .i32⟩
  | 97 => ⟨S_, .i32⟩
  | 98 => ⟨S_, .i32⟩
  | 99 => ⟨S4x2048x8, .i1⟩
  | 100 => ⟨S4x2048x8, .i32⟩
  | 101 => ⟨S4x2048x8, .i32⟩
  | 102 => ⟨S_, .f32⟩
  | 103 => ⟨S4x2048x8, .f32⟩
  | 104 => ⟨S_, .f32⟩
  | 105 => ⟨S4x2048x8, .f32⟩
  | 106 => ⟨S4x2048x8, .f32⟩
  | 107 => ⟨S4x2048x8x1, .f32⟩
  | 108 => ⟨S4x2048x8x2, .f32⟩
  | 109 => ⟨S4x2048x8x2, .f32⟩
  | 110 => ⟨S4x2048x8x2, .f32⟩
  | 111 => ⟨S_, .f32⟩
  | 112 => ⟨S4x2048x8, .f32⟩
  | 113 => ⟨S4x2048x8x1, .f32⟩
  | 114 => ⟨S4x2048x8x1, .f32⟩
  | 115 => ⟨S4x2048x8x2, .f32⟩
  | 116 => ⟨S4x2048x8x2, .f32⟩
  | 117 => ⟨S4x2048x8x1, .i32⟩
  | 118 => ⟨S_, .i32⟩
  | 119 => ⟨S4x2048x8x1, .i32⟩
  | 120 => ⟨S4x2048x8x1, .i1⟩
  | 121 => ⟨S_, .i32⟩
  | 122 => ⟨S4x2048x8x1, .i32⟩
  | 123 => ⟨S4x2048x8x1, .i32⟩
  | 124 => ⟨S4x2048x8x1, .i32⟩
  | 125 => ⟨S4x2048x8x1x1, .i32⟩
  | 126 => ⟨S1, .i32⟩
  | 127 => ⟨S_, .i32⟩
  | _ => ⟨S4x2048, .f32⟩

abbrev hbmTy0_1 (i : Nat) : BufTy := match i % 128 with
  | 0 => ⟨S4x2048x8x1x1, .i32⟩
  | 1 => ⟨S4x2048x8x1x1, .i1⟩
  | 2 => ⟨S1x1x1x1x1, .i32⟩
  | 3 => ⟨S4x2048x8x1x1, .i32⟩
  | 4 => ⟨S4x2048x8x1x1, .i1⟩
  | 5 => ⟨S4x2048x8x1x1, .i1⟩
  | 6 => ⟨S_, .i1⟩
  | 7 => ⟨S4x2048x8x1, .i1⟩
  | 8 => ⟨S4x2048x8x1, .f32⟩
  | 9 => ⟨S_, .f32⟩
  | 10 => ⟨S4x2048x8x1, .f32⟩
  | 11 => ⟨S4x2048x8x1, .f32⟩
  | 12 => ⟨S4x2048x8, .f32⟩
  | 13 => ⟨S4x2048x8, .f32⟩
  | 14 => ⟨S_, .i32⟩
  | 15 => ⟨S4x2048x8, .i32⟩
  | 16 => ⟨S4x2048x8, .i1⟩
  | 17 => ⟨S_, .i32⟩
  | 18 => ⟨S4x2048x8, .i32⟩
  | 19 => ⟨S4x2048x8, .i32⟩
  | 20 => ⟨S4x2048x8, .i32⟩
  | 21 => ⟨S4x2048x8x1, .i32⟩
  | 22 => ⟨S4x2048x8, .f32⟩
  | 23 => ⟨S4x2048x1, .f32⟩
  | 24 => ⟨S4x2048x8, .f32⟩
  | 25 => ⟨S4x2048x8, .f32⟩
  | 26 => ⟨S4x2048x8, .f32⟩
  | 27 => ⟨S_, .f32⟩
  | 28 => ⟨S_, .f32⟩
  | 29 => ⟨S4x2048x8, .f32⟩
  | 30 => ⟨S4x2048x8, .f32⟩
  | 31 => ⟨S_, .f32⟩
  | 32 => ⟨S_, .f32⟩
  | 33 => ⟨S_, .f32⟩
  | 34 => ⟨S_, .f32⟩
  | 35 => ⟨S_, .f32⟩
  | 36 => ⟨S1, .f32⟩
  | 37 => ⟨S_, .f32⟩
  | 38 => ⟨S4x2048x8, .f32⟩
  | 39 => ⟨S_, .f32⟩
  | 40 => ⟨S4x2048x8, .f32⟩
  | 41 => ⟨S4x2048x8, .f32⟩
  | 42 => ⟨S4x2048x8x1, .f32⟩
  | 43 => ⟨S4x2048x8x2, .f32⟩
  | 44 => ⟨S4x2048x8x2, .f32⟩
  | 45 => ⟨S4x2048x8x2, .f32⟩
  | 46 => ⟨S_, .f32⟩
  | 47 => ⟨S4x2048x8, .f32⟩
  | 48 => ⟨S4x2048x8x1, .f32⟩
  | 49 => ⟨S4x2048x8x2, .f32⟩
  | 50 => ⟨S4x2048x8x2, .f32⟩
  | 51 => ⟨S4x2048x8x1, .f32⟩
  | 52 => ⟨S4x2048x8, .f32⟩
  | 53 => ⟨S4x16384, .f32⟩
  | 54 => ⟨S4x2048x8, .f32⟩
  | 55 => ⟨S4x16384, .f32⟩
  | 56 => ⟨S4x16384, .f32⟩
  | 57 => ⟨S4x512, .f32⟩
  | 58 => ⟨S4x512, .i32⟩
  | 59 => ⟨S4x16384, .i32⟩
  | 60 => ⟨S_, .i32⟩
  | 61 => ⟨S4x512, .i32⟩
  | 62 => ⟨S4x512, .i1⟩
  | 63 => ⟨S_, .i32⟩
  | 64 => ⟨S4x512, .i32⟩
  | 65 => ⟨S4x512, .i32⟩
  | 66 => ⟨S4x512, .i32⟩
  | 67 => ⟨S4x512x1, .i32⟩
  | 68 => ⟨S1, .i32⟩
  | 69 => ⟨S_, .i32⟩
  | 70 => ⟨S4x512x1, .i32⟩
  | 71 => ⟨S4x512x1, .i1⟩
  | 72 => ⟨S1x1x1, .i32⟩
  | 73 => ⟨S4x512x1, .i32⟩
  | 74 => ⟨S4x512x1, .i1⟩
  | 75 => ⟨S4x512x1, .i1⟩
  | 76 => ⟨S_, .i1⟩
  | 77 => ⟨S4x512, .i1⟩
  | 78 => ⟨S4x512, .i32⟩
  | 79 => ⟨S_, .i32⟩
  | 80 => ⟨S4x512, .i32⟩
  | 81 => ⟨S4x512, .i32⟩
  | 82 => ⟨S4x16384x128, .f32⟩
  | 83 => ⟨S4x512x1, .i32⟩
  | 84 => ⟨S_, .i32⟩
  | 85 => ⟨S4x512x1, .i32⟩
  | 86 => ⟨S4x512x1, .i1⟩
  | 87 => ⟨S_, .i32⟩
  | 88 => ⟨S4x512x1, .i32⟩
  | 89 => ⟨S4x512x1, .i32⟩
  | 90 => ⟨S4x512x1, .i32⟩
  | 91 => ⟨S1, .i32⟩
  | 92 => ⟨S_, .i32⟩
  | 93 => ⟨S4x512x1, .i32⟩
  | 94 => ⟨S4x512x1, .i1⟩
  | 95 => ⟨S1x1x1, .i32⟩
  | 96 => ⟨S4x512x1, .i32⟩
  | 97 => ⟨S4x512x1, .i1⟩
  | 98 => ⟨S4x512x1, .i1⟩
  | 99 => ⟨S_, .i1⟩
  | 100 => ⟨S4x512, .i1⟩
  | 101 => ⟨S4x512x128, .f32⟩
  | 102 => ⟨S4x512x128, .i1⟩
  | 103 => ⟨S_, .f32⟩
  | 104 => ⟨S4x512x128, .f32⟩
  | 105 => ⟨S4x512x128, .f32⟩
  | 106 => ⟨S4x512x10, .f32⟩
  | 107 => ⟨S1x1x10, .f32⟩
  | 108 => ⟨S4x512x10, .f32⟩
  | 109 => ⟨S4x512x10, .f32⟩
  | 110 => ⟨S4x16384, .i32⟩
  | 111 => ⟨S_, .i32⟩
  | 112 => ⟨S4x512, .i32⟩
  | 113 => ⟨S4x512, .i1⟩
  | 114 => ⟨S_, .i32⟩
  | 115 => ⟨S4x512, .i32⟩
  | 116 => ⟨S4x512, .i32⟩
  | 117 => ⟨S4x512, .i32⟩
  | 118 => ⟨S4x512x1, .i32⟩
  | 119 => ⟨S1, .i32⟩
  | 120 => ⟨S_, .i32⟩
  | 121 => ⟨S4x512x1, .i32⟩
  | 122 => ⟨S4x512x1, .i1⟩
  | 123 => ⟨S1x1x1, .i32⟩
  | 124 => ⟨S4x512x1, .i32⟩
  | 125 => ⟨S4x512x1, .i1⟩
  | 126 => ⟨S4x512x1, .i1⟩
  | 127 => ⟨S_, .i1⟩
  | _ => ⟨S4x2048, .f32⟩

abbrev hbmTy0_2 (i : Nat) : BufTy := match i % 128 with
  | 0 => ⟨S4x512, .i1⟩
  | 1 => ⟨S4x512, .i32⟩
  | 2 => ⟨S_, .i32⟩
  | 3 => ⟨S4x512, .i32⟩
  | 4 => ⟨S4x512, .i32⟩
  | 5 => ⟨S_, .f32⟩
  | 6 => ⟨S4x512, .f32⟩
  | 7 => ⟨S_, .f32⟩
  | 8 => ⟨S4x512, .f32⟩
  | 9 => ⟨S4x512, .f32⟩
  | 10 => ⟨S4x512x1, .f32⟩
  | 11 => ⟨S4x512x10, .f32⟩
  | 12 => ⟨S4x512x10, .f32⟩
  | 13 => ⟨S4x512x10, .f32⟩
  | 14 => ⟨S_, .f32⟩
  | 15 => ⟨S4x512, .f32⟩
  | 16 => ⟨S4x512x1, .f32⟩
  | 17 => ⟨S4x512x1, .f32⟩
  | 18 => ⟨S4x512x10, .f32⟩
  | 19 => ⟨S4x512x10, .f32⟩
  | 20 => ⟨S4x512x1, .i32⟩
  | 21 => ⟨S_, .i32⟩
  | 22 => ⟨S4x512x1, .i32⟩
  | 23 => ⟨S4x512x1, .i1⟩
  | 24 => ⟨S_, .i32⟩
  | 25 => ⟨S4x512x1, .i32⟩
  | 26 => ⟨S4x512x1, .i32⟩
  | 27 => ⟨S4x512x1, .i32⟩
  | 28 => ⟨S4x512x1x1, .i32⟩
  | 29 => ⟨S1, .i32⟩
  | 30 => ⟨S_, .i32⟩
  | 31 => ⟨S4x512x1x1, .i32⟩
  | 32 => ⟨S4x512x1x1, .i1⟩
  | 33 => ⟨S1x1x1x1, .i32⟩
  | 34 => ⟨S4x512x1x1, .i32⟩
  | 35 => ⟨S4x512x1x1, .i1⟩
  | 36 => ⟨S4x512x1x1, .i1⟩
  | 37 => ⟨S_, .i1⟩
  | 38 => ⟨S4x512x1, .i1⟩
  | 39 => ⟨S4x512x1, .f32⟩
  | 40 => ⟨S_, .f32⟩
  | 41 => ⟨S4x512x1, .f32⟩
  | 42 => ⟨S4x512x1, .f32⟩
  | 43 => ⟨S4x512, .f32⟩
  | 44 => ⟨S4x512, .f32⟩
  | 45 => ⟨S_, .i32⟩
  | 46 => ⟨S4x512, .i32⟩
  | 47 => ⟨S4x512, .i1⟩
  | 48 => ⟨S_, .i32⟩
  | 49 => ⟨S4x512, .i32⟩
  | 50 => ⟨S4x512, .i32⟩
  | 51 => ⟨S4x512, .i32⟩
  | 52 => ⟨S4x512x1, .i32⟩
  | 53 => ⟨S4x512, .f32⟩
  | 54 => ⟨S4x512, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S1, .f32⟩
  | 63 => ⟨S4x2048x8x10, .f32⟩
  | 64 => ⟨S1x1x1x10, .f32⟩
  | 65 => ⟨S4x2048x8x10, .f32⟩
  | 66 => ⟨S4x2048x8x10, .f32⟩
  | 67 => ⟨S4x2048x8x10, .i32⟩
  | 68 => ⟨S_, .f32⟩
  | 69 => ⟨S_, .i32⟩
  | 70 => ⟨S4x2048x8, .f32⟩
  | 71 => ⟨S4x2048x8, .i32⟩
  | 72 => ⟨S4x16384x2, .f32⟩
  | 73 => ⟨S4x512x1, .i32⟩
  | 74 => ⟨S_, .i32⟩
  | 75 => ⟨S4x512x1, .i32⟩
  | 76 => ⟨S4x512x1, .i1⟩
  | 77 => ⟨S_, .i32⟩
  | 78 => ⟨S4x512x1, .i32⟩
  | 79 => ⟨S4x512x1, .i32⟩
  | 80 => ⟨S4x512x1, .i32⟩
  | 81 => ⟨S1, .i32⟩
  | 82 => ⟨S_, .i32⟩
  | 83 => ⟨S4x512x1, .i32⟩
  | 84 => ⟨S4x512x1, .i1⟩
  | 85 => ⟨S1x1x1, .i32⟩
  | 86 => ⟨S4x512x1, .i32⟩
  | 87 => ⟨S4x512x1, .i1⟩
  | 88 => ⟨S4x512x1, .i1⟩
  | 89 => ⟨S_, .i1⟩
  | 90 => ⟨S4x512, .i1⟩
  | 91 => ⟨S4x512x2, .f32⟩
  | 92 => ⟨S4x512x2, .i1⟩
  | 93 => ⟨S_, .f32⟩
  | 94 => ⟨S4x512x2, .f32⟩
  | 95 => ⟨S4x512x2, .f32⟩
  | 96 => ⟨S1x16384, .f32⟩
  | 97 => ⟨S1x1x1x16384, .f32⟩
  | 98 => ⟨S4x1x1x16384, .f32⟩
  | 99 => ⟨S4x16384, .f32⟩
  | 100 => ⟨S_, .i32⟩
  | 101 => ⟨S4x512, .i32⟩
  | 102 => ⟨S4x512, .i1⟩
  | 103 => ⟨S_, .i32⟩
  | 104 => ⟨S4x512, .i32⟩
  | 105 => ⟨S4x512, .i32⟩
  | 106 => ⟨S4x512, .i32⟩
  | 107 => ⟨S4x512x1, .i32⟩
  | 108 => ⟨S1, .i32⟩
  | 109 => ⟨S_, .i32⟩
  | 110 => ⟨S4x512x1, .i32⟩
  | 111 => ⟨S4x512x1, .i1⟩
  | 112 => ⟨S1x1x1, .i32⟩
  | 113 => ⟨S4x512x1, .i32⟩
  | 114 => ⟨S4x512x1, .i1⟩
  | 115 => ⟨S4x512x1, .i1⟩
  | 116 => ⟨S_, .i1⟩
  | 117 => ⟨S4x512, .i1⟩
  | 118 => ⟨S4x512, .f32⟩
  | 119 => ⟨S_, .f32⟩
  | 120 => ⟨S4x512, .f32⟩
  | 121 => ⟨S4x512, .f32⟩
  | 122 => ⟨S_, .i32⟩
  | 123 => ⟨S4x512, .i32⟩
  | 124 => ⟨S4x512, .i1⟩
  | 125 => ⟨S4x512, .i32⟩
  | 126 => ⟨S_, .i32⟩
  | 127 => ⟨S4, .i32⟩
  | _ => ⟨S4x2048, .f32⟩

abbrev hbmTy0_3 (i : Nat) : BufTy := match i % 128 with
  | 0 => ⟨S_, .f32⟩
  | 1 => ⟨S4x512, .f32⟩
  | _ => ⟨S4x2048, .f32⟩

abbrev hbmTy (i : Nat) : BufTy := match i / 128 with
  | 0 => hbmTy0_0 i
  | 1 => hbmTy0_1 i
  | 2 => hbmTy0_2 i
  | 3 => hbmTy0_3 i
  | _ => ⟨S4x2048, .f32⟩

abbrev bufTy : (tb : Table) → Fin (tcTables nBuf tb) → BufTy
  | .hbm, ⟨i, _⟩ => hbmTy i
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_call0_call0_cst : Ref sig .tc := ⟨.hbm, 37, rfl⟩
abbrev main_call0_call0_v0 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_4 : Ref sig .tc := ⟨.hbm, 51, rfl⟩
abbrev main_call1_v0 : Ref sig .tc := ⟨.hbm, 52, rfl⟩
abbrev main_call1_v1 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c_5 : Ref sig .tc := ⟨.hbm, 59, rfl⟩
abbrev main_v34 : Ref sig .tc := ⟨.hbm, 60, rfl⟩
abbrev main_v35 : Ref sig .tc := ⟨.hbm, 61, rfl⟩
abbrev main_c_6 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_c_7 : Ref sig .tc := ⟨.hbm, 68, rfl⟩
abbrev main_v41 : Ref sig .tc := ⟨.hbm, 69, rfl⟩
abbrev main_v42 : Ref sig .tc := ⟨.hbm, 70, rfl⟩
abbrev main_c_8 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_9 : Ref sig .tc := ⟨.hbm, 89, rfl⟩
abbrev main_v60 : Ref sig .tc := ⟨.hbm, 90, rfl⟩
abbrev main_v61 : Ref sig .tc := ⟨.hbm, 91, rfl⟩
abbrev main_call2_v0 : Ref sig .tc := ⟨.hbm, 92, rfl⟩
abbrev main_call2_cst : Ref sig .tc := ⟨.hbm, 93, rfl⟩
abbrev main_call2_c : Ref sig .tc := ⟨.hbm, 94, rfl⟩
abbrev main_call2_v1_0 : Ref sig .tc := ⟨.hbm, 95, rfl⟩
abbrev main_v62 : Ref sig .tc := ⟨.hbm, 96, rfl⟩
abbrev main_c_10 : Ref sig .tc := ⟨.hbm, 97, rfl⟩
abbrev main_call3_v0 : Ref sig .tc := ⟨.hbm, 98, rfl⟩
abbrev main_call3_v1 : Ref sig .tc := ⟨.hbm, 99, rfl⟩
abbrev main_call3_v2 : Ref sig .tc := ⟨.hbm, 100, rfl⟩
abbrev main_v63 : Ref sig .tc := ⟨.hbm, 101, rfl⟩
abbrev main_call4_cst : Ref sig .tc := ⟨.hbm, 102, rfl⟩
abbrev main_call4_v0 : Ref sig .tc := ⟨.hbm, 103, rfl⟩
abbrev main_call4_cst_0 : Ref sig .tc := ⟨.hbm, 104, rfl⟩
abbrev main_call4_v1 : Ref sig .tc := ⟨.hbm, 105, rfl⟩
abbrev main_call4_v2 : Ref sig .tc := ⟨.hbm, 106, rfl⟩
abbrev main_call4_v3 : Ref sig .tc := ⟨.hbm, 107, rfl⟩
abbrev main_call4_v4 : Ref sig .tc := ⟨.hbm, 108, rfl⟩
abbrev main_call4_v5 : Ref sig .tc := ⟨.hbm, 109, rfl⟩
abbrev main_call4_v6 : Ref sig .tc := ⟨.hbm, 110, rfl⟩
abbrev main_call4_cst_1 : Ref sig .tc := ⟨.hbm, 111, rfl⟩
abbrev main_call4_v7 : Ref sig .tc := ⟨.hbm, 112, rfl⟩
abbrev main_call4_v8 : Ref sig .tc := ⟨.hbm, 113, rfl⟩
abbrev main_call4_v9 : Ref sig .tc := ⟨.hbm, 114, rfl⟩
abbrev main_call4_v10 : Ref sig .tc := ⟨.hbm, 115, rfl⟩
abbrev main_v64 : Ref sig .tc := ⟨.hbm, 116, rfl⟩
abbrev main_v65 : Ref sig .tc := ⟨.hbm, 117, rfl⟩
abbrev main_call5_c : Ref sig .tc := ⟨.hbm, 118, rfl⟩
abbrev main_call5_v0 : Ref sig .tc := ⟨.hbm, 119, rfl⟩
abbrev main_call5_v1 : Ref sig .tc := ⟨.hbm, 120, rfl⟩
abbrev main_call5_c_0 : Ref sig .tc := ⟨.hbm, 121, rfl⟩
abbrev main_call5_v2 : Ref sig .tc := ⟨.hbm, 122, rfl⟩
abbrev main_call5_v3 : Ref sig .tc := ⟨.hbm, 123, rfl⟩
abbrev main_call5_v4 : Ref sig .tc := ⟨.hbm, 124, rfl⟩
abbrev main_call5_v5 : Ref sig .tc := ⟨.hbm, 125, rfl⟩
abbrev main_call5_c_1 : Ref sig .tc := ⟨.hbm, 126, rfl⟩
abbrev main_call5_c_2 : Ref sig .tc := ⟨.hbm, 127, rfl⟩
abbrev main_call5_v6 : Ref sig .tc := ⟨.hbm, 128, rfl⟩
abbrev main_call5_v7 : Ref sig .tc := ⟨.hbm, 129, rfl⟩
abbrev main_call5_v8 : Ref sig .tc := ⟨.hbm, 130, rfl⟩
abbrev main_call5_v9 : Ref sig .tc := ⟨.hbm, 131, rfl⟩
abbrev main_call5_v10 : Ref sig .tc := ⟨.hbm, 132, rfl⟩
abbrev main_call5_v11 : Ref sig .tc := ⟨.hbm, 133, rfl⟩
abbrev main_call5_c_3 : Ref sig .tc := ⟨.hbm, 134, rfl⟩
abbrev main_call5_v12 : Ref sig .tc := ⟨.hbm, 135, rfl⟩
abbrev main_call5_v13 : Ref sig .tc := ⟨.hbm, 136, rfl⟩
abbrev main_call5_cst : Ref sig .tc := ⟨.hbm, 137, rfl⟩
abbrev main_call5_v14 : Ref sig .tc := ⟨.hbm, 138, rfl⟩
abbrev main_v66 : Ref sig .tc := ⟨.hbm, 139, rfl⟩
abbrev main_v67 : Ref sig .tc := ⟨.hbm, 140, rfl⟩
abbrev main_v68 : Ref sig .tc := ⟨.hbm, 141, rfl⟩
abbrev main_c_11 : Ref sig .tc := ⟨.hbm, 142, rfl⟩
abbrev main_v69 : Ref sig .tc := ⟨.hbm, 143, rfl⟩
abbrev main_v70 : Ref sig .tc := ⟨.hbm, 144, rfl⟩
abbrev main_c_12 : Ref sig .tc := ⟨.hbm, 145, rfl⟩
abbrev main_v71 : Ref sig .tc := ⟨.hbm, 146, rfl⟩
abbrev main_v72 : Ref sig .tc := ⟨.hbm, 147, rfl⟩
abbrev main_v73 : Ref sig .tc := ⟨.hbm, 148, rfl⟩
abbrev main_v74 : Ref sig .tc := ⟨.hbm, 149, rfl⟩
abbrev main_v75 : Ref sig .tc := ⟨.hbm, 150, rfl⟩
abbrev main_v76 : Ref sig .tc := ⟨.hbm, 151, rfl⟩
abbrev main_v77 : Ref sig .tc := ⟨.hbm, 152, rfl⟩
abbrev main_v78 : Ref sig .tc := ⟨.hbm, 153, rfl⟩
abbrev main_v79 : Ref sig .tc := ⟨.hbm, 154, rfl⟩
abbrev main_cst_13 : Ref sig .tc := ⟨.hbm, 155, rfl⟩
abbrev main_v80 : Ref sig .tc := ⟨.hbm, 156, rfl⟩
abbrev main_v81 : Ref sig .tc := ⟨.hbm, 157, rfl⟩
abbrev main_v82 : Ref sig .tc := ⟨.hbm, 158, rfl⟩
abbrev main_cst_14 : Ref sig .tc := ⟨.hbm, 159, rfl⟩
abbrev main_v83 : Ref sig .tc := ⟨.hbm, 160, rfl⟩
abbrev main_cst_15 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩
abbrev main_cst_16 : Ref sig .tc := ⟨.hbm, 165, rfl⟩
abbrev main_v87 : Ref sig .tc := ⟨.hbm, 166, rfl⟩
abbrev main_cst_17 : Ref sig .tc := ⟨.hbm, 167, rfl⟩
abbrev main_v88 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_cst_18 : Ref sig .tc := ⟨.hbm, 174, rfl⟩
abbrev main_v94 : Ref sig .tc := ⟨.hbm, 175, rfl⟩
abbrev main_v95 : Ref sig .tc := ⟨.hbm, 176, rfl⟩
abbrev main_v96 : Ref sig .tc := ⟨.hbm, 177, rfl⟩
abbrev main_v97 : Ref sig .tc := ⟨.hbm, 178, rfl⟩
abbrev main_v98 : Ref sig .tc := ⟨.hbm, 179, rfl⟩
abbrev main_v99 : Ref sig .tc := ⟨.hbm, 180, rfl⟩
abbrev main_v100 : Ref sig .tc := ⟨.hbm, 181, rfl⟩
abbrev main_v101 : Ref sig .tc := ⟨.hbm, 182, rfl⟩
abbrev main_v102 : Ref sig .tc := ⟨.hbm, 183, rfl⟩
abbrev main_v103 : Ref sig .tc := ⟨.hbm, 184, rfl⟩
abbrev main_values : Ref sig .tc := ⟨.hbm, 185, rfl⟩
abbrev main_indices : Ref sig .tc := ⟨.hbm, 186, rfl⟩
abbrev main_v104 : Ref sig .tc := ⟨.hbm, 187, rfl⟩
abbrev main_call6_c : Ref sig .tc := ⟨.hbm, 188, rfl⟩
abbrev main_call6_v0 : Ref sig .tc := ⟨.hbm, 189, rfl⟩
abbrev main_call6_v1 : Ref sig .tc := ⟨.hbm, 190, rfl⟩
abbrev main_call6_c_0 : Ref sig .tc := ⟨.hbm, 191, rfl⟩
abbrev main_call6_v2 : Ref sig .tc := ⟨.hbm, 192, rfl⟩
abbrev main_call6_v3 : Ref sig .tc := ⟨.hbm, 193, rfl⟩
abbrev main_call6_v4 : Ref sig .tc := ⟨.hbm, 194, rfl⟩
abbrev main_call6_v5 : Ref sig .tc := ⟨.hbm, 195, rfl⟩
abbrev main_call6_c_1 : Ref sig .tc := ⟨.hbm, 196, rfl⟩
abbrev main_call6_c_2 : Ref sig .tc := ⟨.hbm, 197, rfl⟩
abbrev main_call6_v6 : Ref sig .tc := ⟨.hbm, 198, rfl⟩
abbrev main_call6_v7 : Ref sig .tc := ⟨.hbm, 199, rfl⟩
abbrev main_call6_v8 : Ref sig .tc := ⟨.hbm, 200, rfl⟩
abbrev main_call6_v9 : Ref sig .tc := ⟨.hbm, 201, rfl⟩
abbrev main_call6_v10 : Ref sig .tc := ⟨.hbm, 202, rfl⟩
abbrev main_call6_v11 : Ref sig .tc := ⟨.hbm, 203, rfl⟩
abbrev main_call6_c_3 : Ref sig .tc := ⟨.hbm, 204, rfl⟩
abbrev main_call6_v12 : Ref sig .tc := ⟨.hbm, 205, rfl⟩
abbrev main_call6_v13 : Ref sig .tc := ⟨.hbm, 206, rfl⟩
abbrev main_call6_c_4 : Ref sig .tc := ⟨.hbm, 207, rfl⟩
abbrev main_call6_v14 : Ref sig .tc := ⟨.hbm, 208, rfl⟩
abbrev main_v105 : Ref sig .tc := ⟨.hbm, 209, rfl⟩
abbrev main_v106 : Ref sig .tc := ⟨.hbm, 210, rfl⟩
abbrev main_v107 : Ref sig .tc := ⟨.hbm, 211, rfl⟩
abbrev main_call7_c : Ref sig .tc := ⟨.hbm, 212, rfl⟩
abbrev main_call7_v0 : Ref sig .tc := ⟨.hbm, 213, rfl⟩
abbrev main_call7_v1 : Ref sig .tc := ⟨.hbm, 214, rfl⟩
abbrev main_call7_c_0 : Ref sig .tc := ⟨.hbm, 215, rfl⟩
abbrev main_call7_v2 : Ref sig .tc := ⟨.hbm, 216, rfl⟩
abbrev main_call7_v3 : Ref sig .tc := ⟨.hbm, 217, rfl⟩
abbrev main_call7_v4 : Ref sig .tc := ⟨.hbm, 218, rfl⟩
abbrev main_call7_c_1 : Ref sig .tc := ⟨.hbm, 219, rfl⟩
abbrev main_call7_c_2 : Ref sig .tc := ⟨.hbm, 220, rfl⟩
abbrev main_call7_v5 : Ref sig .tc := ⟨.hbm, 221, rfl⟩
abbrev main_call7_v6 : Ref sig .tc := ⟨.hbm, 222, rfl⟩
abbrev main_call7_v7 : Ref sig .tc := ⟨.hbm, 223, rfl⟩
abbrev main_call7_v8 : Ref sig .tc := ⟨.hbm, 224, rfl⟩
abbrev main_call7_v9 : Ref sig .tc := ⟨.hbm, 225, rfl⟩
abbrev main_call7_v10 : Ref sig .tc := ⟨.hbm, 226, rfl⟩
abbrev main_call7_c_3 : Ref sig .tc := ⟨.hbm, 227, rfl⟩
abbrev main_call7_v11 : Ref sig .tc := ⟨.hbm, 228, rfl⟩
abbrev main_call7_v12 : Ref sig .tc := ⟨.hbm, 229, rfl⟩
abbrev main_call7_v13 : Ref sig .tc := ⟨.hbm, 230, rfl⟩
abbrev main_call7_cst : Ref sig .tc := ⟨.hbm, 231, rfl⟩
abbrev main_call7_v14 : Ref sig .tc := ⟨.hbm, 232, rfl⟩
abbrev main_v108 : Ref sig .tc := ⟨.hbm, 233, rfl⟩
abbrev main_v109 : Ref sig .tc := ⟨.hbm, 234, rfl⟩
abbrev main_v110 : Ref sig .tc := ⟨.hbm, 235, rfl⟩
abbrev main_v111 : Ref sig .tc := ⟨.hbm, 236, rfl⟩
abbrev main_v112 : Ref sig .tc := ⟨.hbm, 237, rfl⟩
abbrev main_v113 : Ref sig .tc := ⟨.hbm, 238, rfl⟩
abbrev main_call8_c : Ref sig .tc := ⟨.hbm, 239, rfl⟩
abbrev main_call8_v0 : Ref sig .tc := ⟨.hbm, 240, rfl⟩
abbrev main_call8_v1 : Ref sig .tc := ⟨.hbm, 241, rfl⟩
abbrev main_call8_c_0 : Ref sig .tc := ⟨.hbm, 242, rfl⟩
abbrev main_call8_v2 : Ref sig .tc := ⟨.hbm, 243, rfl⟩
abbrev main_call8_v3 : Ref sig .tc := ⟨.hbm, 244, rfl⟩
abbrev main_call8_v4 : Ref sig .tc := ⟨.hbm, 245, rfl⟩
abbrev main_call8_v5 : Ref sig .tc := ⟨.hbm, 246, rfl⟩
abbrev main_call8_c_1 : Ref sig .tc := ⟨.hbm, 247, rfl⟩
abbrev main_call8_c_2 : Ref sig .tc := ⟨.hbm, 248, rfl⟩
abbrev main_call8_v6 : Ref sig .tc := ⟨.hbm, 249, rfl⟩
abbrev main_call8_v7 : Ref sig .tc := ⟨.hbm, 250, rfl⟩
abbrev main_call8_v8 : Ref sig .tc := ⟨.hbm, 251, rfl⟩
abbrev main_call8_v9 : Ref sig .tc := ⟨.hbm, 252, rfl⟩
abbrev main_call8_v10 : Ref sig .tc := ⟨.hbm, 253, rfl⟩
abbrev main_call8_v11 : Ref sig .tc := ⟨.hbm, 254, rfl⟩
abbrev main_call8_c_3 : Ref sig .tc := ⟨.hbm, 255, rfl⟩
abbrev main_call8_v12 : Ref sig .tc := ⟨.hbm, 256, rfl⟩
abbrev main_call8_v13 : Ref sig .tc := ⟨.hbm, 257, rfl⟩
abbrev main_call8_c_4 : Ref sig .tc := ⟨.hbm, 258, rfl⟩
abbrev main_call8_v14 : Ref sig .tc := ⟨.hbm, 259, rfl⟩
abbrev main_v114 : Ref sig .tc := ⟨.hbm, 260, rfl⟩
abbrev main_call9_cst : Ref sig .tc := ⟨.hbm, 261, rfl⟩
abbrev main_call9_v0 : Ref sig .tc := ⟨.hbm, 262, rfl⟩
abbrev main_call9_cst_0 : Ref sig .tc := ⟨.hbm, 263, rfl⟩
abbrev main_call9_v1 : Ref sig .tc := ⟨.hbm, 264, rfl⟩
abbrev main_call9_v2 : Ref sig .tc := ⟨.hbm, 265, rfl⟩
abbrev main_call9_v3 : Ref sig .tc := ⟨.hbm, 266, rfl⟩
abbrev main_call9_v4 : Ref sig .tc := ⟨.hbm, 267, rfl⟩
abbrev main_call9_v5 : Ref sig .tc := ⟨.hbm, 268, rfl⟩
abbrev main_call9_v6 : Ref sig .tc := ⟨.hbm, 269, rfl⟩
abbrev main_call9_cst_1 : Ref sig .tc := ⟨.hbm, 270, rfl⟩
abbrev main_call9_v7 : Ref sig .tc := ⟨.hbm, 271, rfl⟩
abbrev main_call9_v8 : Ref sig .tc := ⟨.hbm, 272, rfl⟩
abbrev main_call9_v9 : Ref sig .tc := ⟨.hbm, 273, rfl⟩
abbrev main_call9_v10 : Ref sig .tc := ⟨.hbm, 274, rfl⟩
abbrev main_v115 : Ref sig .tc := ⟨.hbm, 275, rfl⟩
abbrev main_v116 : Ref sig .tc := ⟨.hbm, 276, rfl⟩
abbrev main_call10_c : Ref sig .tc := ⟨.hbm, 277, rfl⟩
abbrev main_call10_v0 : Ref sig .tc := ⟨.hbm, 278, rfl⟩
abbrev main_call10_v1 : Ref sig .tc := ⟨.hbm, 279, rfl⟩
abbrev main_call10_c_0 : Ref sig .tc := ⟨.hbm, 280, rfl⟩
abbrev main_call10_v2 : Ref sig .tc := ⟨.hbm, 281, rfl⟩
abbrev main_call10_v3 : Ref sig .tc := ⟨.hbm, 282, rfl⟩
abbrev main_call10_v4 : Ref sig .tc := ⟨.hbm, 283, rfl⟩
abbrev main_call10_v5 : Ref sig .tc := ⟨.hbm, 284, rfl⟩
abbrev main_call10_c_1 : Ref sig .tc := ⟨.hbm, 285, rfl⟩
abbrev main_call10_c_2 : Ref sig .tc := ⟨.hbm, 286, rfl⟩
abbrev main_call10_v6 : Ref sig .tc := ⟨.hbm, 287, rfl⟩
abbrev main_call10_v7 : Ref sig .tc := ⟨.hbm, 288, rfl⟩
abbrev main_call10_v8 : Ref sig .tc := ⟨.hbm, 289, rfl⟩
abbrev main_call10_v9 : Ref sig .tc := ⟨.hbm, 290, rfl⟩
abbrev main_call10_v10 : Ref sig .tc := ⟨.hbm, 291, rfl⟩
abbrev main_call10_v11 : Ref sig .tc := ⟨.hbm, 292, rfl⟩
abbrev main_call10_c_3 : Ref sig .tc := ⟨.hbm, 293, rfl⟩
abbrev main_call10_v12 : Ref sig .tc := ⟨.hbm, 294, rfl⟩
abbrev main_call10_v13 : Ref sig .tc := ⟨.hbm, 295, rfl⟩
abbrev main_call10_cst : Ref sig .tc := ⟨.hbm, 296, rfl⟩
abbrev main_call10_v14 : Ref sig .tc := ⟨.hbm, 297, rfl⟩
abbrev main_v117 : Ref sig .tc := ⟨.hbm, 298, rfl⟩
abbrev main_v118 : Ref sig .tc := ⟨.hbm, 299, rfl⟩
abbrev main_v119 : Ref sig .tc := ⟨.hbm, 300, rfl⟩
abbrev main_c_19 : Ref sig .tc := ⟨.hbm, 301, rfl⟩
abbrev main_v120 : Ref sig .tc := ⟨.hbm, 302, rfl⟩
abbrev main_v121 : Ref sig .tc := ⟨.hbm, 303, rfl⟩
abbrev main_c_20 : Ref sig .tc := ⟨.hbm, 304, rfl⟩
abbrev main_v122 : Ref sig .tc := ⟨.hbm, 305, rfl⟩
abbrev main_v123 : Ref sig .tc := ⟨.hbm, 306, rfl⟩
abbrev main_v124 : Ref sig .tc := ⟨.hbm, 307, rfl⟩
abbrev main_v125 : Ref sig .tc := ⟨.hbm, 308, rfl⟩
abbrev main_v126 : Ref sig .tc := ⟨.hbm, 309, rfl⟩
abbrev main_v127 : Ref sig .tc := ⟨.hbm, 310, rfl⟩
abbrev main_cst_21 : Ref sig .tc := ⟨.hbm, 311, rfl⟩
abbrev main_v128 : Ref sig .tc := ⟨.hbm, 312, rfl⟩
abbrev main_cst_22 : Ref sig .tc := ⟨.hbm, 313, rfl⟩
abbrev main_v129 : Ref sig .tc := ⟨.hbm, 314, rfl⟩
abbrev main_cst_23 : Ref sig .tc := ⟨.hbm, 315, rfl⟩
abbrev main_v130 : Ref sig .tc := ⟨.hbm, 316, rfl⟩
abbrev main_v131 : Ref sig .tc := ⟨.hbm, 317, rfl⟩
abbrev main_v132 : Ref sig .tc := ⟨.hbm, 318, rfl⟩
abbrev main_v133 : Ref sig .tc := ⟨.hbm, 319, rfl⟩
abbrev main_v134 : Ref sig .tc := ⟨.hbm, 320, rfl⟩
abbrev main_v135 : Ref sig .tc := ⟨.hbm, 321, rfl⟩
abbrev main_v136 : Ref sig .tc := ⟨.hbm, 322, rfl⟩
abbrev main_call11_v0 : Ref sig .tc := ⟨.hbm, 323, rfl⟩
abbrev main_call11_cst : Ref sig .tc := ⟨.hbm, 324, rfl⟩
abbrev main_call11_c : Ref sig .tc := ⟨.hbm, 325, rfl⟩
abbrev main_call11_v1_0 : Ref sig .tc := ⟨.hbm, 326, rfl⟩
abbrev main_v137 : Ref sig .tc := ⟨.hbm, 327, rfl⟩
abbrev main_v138 : Ref sig .tc := ⟨.hbm, 328, rfl⟩
abbrev main_v139 : Ref sig .tc := ⟨.hbm, 329, rfl⟩
abbrev main_call12_c : Ref sig .tc := ⟨.hbm, 330, rfl⟩
abbrev main_call12_v0 : Ref sig .tc := ⟨.hbm, 331, rfl⟩
abbrev main_call12_v1 : Ref sig .tc := ⟨.hbm, 332, rfl⟩
abbrev main_call12_c_0 : Ref sig .tc := ⟨.hbm, 333, rfl⟩
abbrev main_call12_v2 : Ref sig .tc := ⟨.hbm, 334, rfl⟩
abbrev main_call12_v3 : Ref sig .tc := ⟨.hbm, 335, rfl⟩
abbrev main_call12_v4 : Ref sig .tc := ⟨.hbm, 336, rfl⟩
abbrev main_call12_c_1 : Ref sig .tc := ⟨.hbm, 337, rfl⟩
abbrev main_call12_c_2 : Ref sig .tc := ⟨.hbm, 338, rfl⟩
abbrev main_call12_v5 : Ref sig .tc := ⟨.hbm, 339, rfl⟩
abbrev main_call12_v6 : Ref sig .tc := ⟨.hbm, 340, rfl⟩
abbrev main_call12_v7 : Ref sig .tc := ⟨.hbm, 341, rfl⟩
abbrev main_call12_v8 : Ref sig .tc := ⟨.hbm, 342, rfl⟩
abbrev main_call12_v9 : Ref sig .tc := ⟨.hbm, 343, rfl⟩
abbrev main_call12_v10 : Ref sig .tc := ⟨.hbm, 344, rfl⟩
abbrev main_call12_c_3 : Ref sig .tc := ⟨.hbm, 345, rfl⟩
abbrev main_call12_v11 : Ref sig .tc := ⟨.hbm, 346, rfl⟩
abbrev main_call12_v12 : Ref sig .tc := ⟨.hbm, 347, rfl⟩
abbrev main_call12_v13 : Ref sig .tc := ⟨.hbm, 348, rfl⟩
abbrev main_call12_cst : Ref sig .tc := ⟨.hbm, 349, rfl⟩
abbrev main_call12_v14 : Ref sig .tc := ⟨.hbm, 350, rfl⟩
abbrev main_v140 : Ref sig .tc := ⟨.hbm, 351, rfl⟩
abbrev main_v141 : Ref sig .tc := ⟨.hbm, 352, rfl⟩
abbrev main_v142 : Ref sig .tc := ⟨.hbm, 353, rfl⟩
abbrev main_v143 : Ref sig .tc := ⟨.hbm, 354, rfl⟩
abbrev main_v144 : Ref sig .tc := ⟨.hbm, 355, rfl⟩
abbrev main_call13_c : Ref sig .tc := ⟨.hbm, 356, rfl⟩
abbrev main_call13_v0 : Ref sig .tc := ⟨.hbm, 357, rfl⟩
abbrev main_call13_v1 : Ref sig .tc := ⟨.hbm, 358, rfl⟩
abbrev main_call13_c_0 : Ref sig .tc := ⟨.hbm, 359, rfl⟩
abbrev main_call13_v2 : Ref sig .tc := ⟨.hbm, 360, rfl⟩
abbrev main_call13_v3 : Ref sig .tc := ⟨.hbm, 361, rfl⟩
abbrev main_call13_v4 : Ref sig .tc := ⟨.hbm, 362, rfl⟩
abbrev main_call13_v5 : Ref sig .tc := ⟨.hbm, 363, rfl⟩
abbrev main_call13_c_1 : Ref sig .tc := ⟨.hbm, 364, rfl⟩
abbrev main_call13_c_2 : Ref sig .tc := ⟨.hbm, 365, rfl⟩
abbrev main_call13_v6 : Ref sig .tc := ⟨.hbm, 366, rfl⟩
abbrev main_call13_v7 : Ref sig .tc := ⟨.hbm, 367, rfl⟩
abbrev main_call13_v8 : Ref sig .tc := ⟨.hbm, 368, rfl⟩
abbrev main_call13_v9 : Ref sig .tc := ⟨.hbm, 369, rfl⟩
abbrev main_call13_v10 : Ref sig .tc := ⟨.hbm, 370, rfl⟩
abbrev main_call13_v11 : Ref sig .tc := ⟨.hbm, 371, rfl⟩
abbrev main_call13_c_3 : Ref sig .tc := ⟨.hbm, 372, rfl⟩
abbrev main_call13_v12 : Ref sig .tc := ⟨.hbm, 373, rfl⟩
abbrev main_call13_v13 : Ref sig .tc := ⟨.hbm, 374, rfl⟩
abbrev main_call13_cst : Ref sig .tc := ⟨.hbm, 375, rfl⟩
abbrev main_call13_v14 : Ref sig .tc := ⟨.hbm, 376, rfl⟩
abbrev main_v145 : Ref sig .tc := ⟨.hbm, 377, rfl⟩
abbrev main_c_24 : Ref sig .tc := ⟨.hbm, 378, rfl⟩
abbrev main_v146 : Ref sig .tc := ⟨.hbm, 379, rfl⟩
abbrev main_v147 : Ref sig .tc := ⟨.hbm, 380, rfl⟩
abbrev main_v148 : Ref sig .tc := ⟨.hbm, 381, rfl⟩
abbrev main_c_25 : Ref sig .tc := ⟨.hbm, 382, rfl⟩
abbrev main_v149 : Ref sig .tc := ⟨.hbm, 383, rfl⟩
abbrev main_cst_26 : Ref sig .tc := ⟨.hbm, 384, rfl⟩
abbrev main_v150 : Ref sig .tc := ⟨.hbm, 385, rfl⟩

abbrev nD : Nat := 1
abbrev τ : Topo := Topo.v7x

variable {F : FTy → Type} [FloatOps F]
-- ==== Proof.Base.lean ====
/-
  What the modules about the kernel's run share: the program's SparseCore side and its two TensorCore pipelines, the
  ghost state of the proof, and the element it starts from.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Frame
public import Idealize.ShloMosaic.Lib.Pipeline.FrameBody
public import Idealize.ShloMosaic.Lib.Pipeline.RegionArraysS
public import Idealize.ShloMosaic.Lib.Tactic
public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Skeleton

@[expose] public section

noncomputable section

namespace Cert.Proof.Span

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state: the SparseCore handshake's rounds, the pipelines' rounds, the transfers' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

def EP : Emb UP (MT nD τ sig (HIx 1) (Elt F) ℕ UU ℕ) := (Emb.inl : Emb UP (UP × Counters)).trans embR

instance EP_landsIn : (EP : Emb UP (MT nD τ sig (HIx 1) (Elt F) ℕ UU ℕ)).LandsIn (upEmb : UEmb _ (MT nD τ sig (HIx 1) (Elt F) ℕ UU ℕ)) := by
  unfold EP; infer_instance

/-- No pipeline has a prefetched table. -/
abbrev adm : (p : Fin 2) → (pcfgs (F := F) p).Adm := fun p => (cfgs p).toPCfg_adm

abbrev dr (b : Ref sig .tc) : DevRef τ sig := Proc.devRef .tc b
/-- The TensorCore's unscoped buffers: @main's arguments and values. -/
abbrev UC : Finset (DevRef τ sig) := Pipeline.ucRefs τ sig

theorem dr_mem (b : Ref sig .tc) (h : (dr b).isScoped = false := by decide) : dr b ∈ UC :=
  Finset.mem_filter.mpr ⟨StableHlo.devRef_mem_tcRefs b, by rw [h]; exact Bool.false_ne_true⟩

/-- What a TensorCore region is entered with beside its arrays: the pipelines' cells and duty tokens. -/
abbrev ghost (d : Dev nD) (p : Fin 2) : sProp 𝕄 :=
  iprop(Pipeline.cellsGhost (Pipeline.pin (pcfgs (F := F)) adm) EP p d ∗ Pipeline.toksInit (Pipeline.pin (pcfgs (F := F)) adm) EP p d)

/-- Nothing that the TensorCore owes between SparseCore calls is owed at the index of no call. -/
theorem Otc_none (d : Dev nD) (n : ℕ) (g : GSem nD τ sig) : (K (F := F)).Otc d n g none = 0 := by
  have hadd : ∀ a b : CellTallies nD τ sig (HIx 1), a g none = 0 → b g none = 0 → (a + b) g none = 0 := fun a b ha hb => by
    show (a g + b g) none = 0
    simp [ha, hb]
  unfold SparseCore.Cfg.Otc
  refine Finset.sum_induction _ (fun O : CellTallies nD τ sig (HIx 1) => O g none = 0) hadd rfl fun q _ => ?_
  split
  · refine Finset.sum_induction _ (fun O : CellTallies nD τ sig (HIx 1) => O g none = 0) hadd rfl fun c _ => ?_
    rw [tallyAt_apply]
    exact if_neg fun h => nomatch h.2
  · rfl

end Cert.Proof.Span

end
-- ==== Proof.Line.lean ====
/-
  A line of host operations in which every operation writes an array later in the program's order than all the arrays
  written before it. In the contents after the line each operation's equation holds: the array it writes is its function
  of the arrays it reads, all taken after the line.
-/
module

public import Idealize.ShloMosaic.Lib.StableHlo.Run

@[expose] public section

noncomputable section

namespace Cert.Proof.Line

open Idealize.ShloMosaic Idealize.ShloMosaic.StableHlo

variable {τ : Topo} {sig : RefSig} {Val : EltTy → Type}

/-- A TensorCore reference as a device buffer. -/
abbrev rd (r : Ref sig .tc) : DevRef τ sig := Proc.devRef .tc r

/-- The contents of an array of shape `S` and element type `e`. -/
abbrev B (F : FTy → Type) (S : Shape) (e : EltTy) : Type := (⟨S, e⟩ : BufTy).Contents (Elt F)

/-- The place of a reference in the program's order. -/
abbrev rk (r : Ref sig .tc) : ℕ := r.idx.val

/-- The numbers increase strictly, from `m` on. -/
def asc : ℕ → List ℕ → Bool
  | _, [] => true
  | m, k :: l => decide (m ≤ k) && asc (k + 1) l

theorem asc_le : ∀ {m : ℕ} {l : List ℕ}, asc m l = true → ∀ k ∈ l, m ≤ k
  | _, [], _, _, h => nomatch h
  | m, k :: l, h, j, hj => by
    simp only [asc, Bool.and_eq_true, decide_eq_true_eq] at h
    rcases List.mem_cons.1 hj with rfl | hj
    · exact h.1
    · have := asc_le h.2 j hj; omega

/-- The line `ops` writes the references `W`, whose places increase from `m` on. -/
structure IsLine (ops : List (HloOp τ sig Val)) (W : List (Ref sig .tc)) (m : ℕ) : Prop where
  writes : ops.map HloOp.writes = W.map fun w => {rd (τ := τ) w}
  asc : asc m (W.map rk) = true

variable {ops : List (HloOp τ sig Val)} {W : List (Ref sig .tc)} {m : ℕ}

/-- A reference before the line's first place keeps its contents. -/
theorem IsLine.keep (h : IsLine ops W m) (V : Valuation τ sig Val) {r : Ref sig .tc} (hr : rk r < m) :
    after ops V (rd r) = V (rd r) :=
  after_of_writes_sub ops V (forall_writes_sub_of_map h.writes) fun hm => by
    have := asc_le h.asc (rk r) (List.mem_map.2 ⟨r, hm, rfl⟩); omega

/-- One operation of the line: what it writes is its result from contents that agree, at every earlier place, with the
    contents after the line. -/
theorem IsLine.at_op : ∀ {ops : List (HloOp τ sig Val)} {W : List (Ref sig .tc)} {m : ℕ} (_ : IsLine ops W m)
    (V : Valuation τ sig Val) (i : ℕ) {op : HloOp τ sig Val} {y : Ref sig .tc} (_ : ops[i]? = some op)
    (_ : op.writes = {rd y}),
    ∃ V' : Valuation τ sig Val, after ops V (rd y) = op.result V' (rd y) ∧
      ∀ x : Ref sig .tc, rk x < rk y → V' (rd x) = after ops V (rd x)
  | [], _, _, _, _, _, _, _, hi, _ => by simp at hi
  | o :: os, [], _, h, _, _, _, _, _, _ => by have := h.writes; simp at this
  | o :: os, w :: ws, m, h, V, i, op, y, hi, hy => by
    have hw := h.writes
    have ha := h.asc
    simp only [List.map_cons, List.cons.injEq] at hw
    simp only [List.map_cons, Line.asc, Bool.and_eq_true, decide_eq_true_eq] at ha
    have ht : IsLine os ws (rk w + 1) := ⟨hw.2, ha.2⟩
    cases i with
    | zero =>
      simp only [List.getElem?_cons_zero, Option.some.injEq] at hi
      subst hi
      have hwy : w = y := Proc.devRef_injective _ (Finset.singleton_injective (hw.1.symm.trans hy))
      subst hwy
      refine ⟨V, ?_, fun x hx => ?_⟩
      · rw [after_cons, ht.keep _ (Nat.lt_succ_self _)]
      · rw [after_cons, ht.keep _ (Nat.lt_succ_of_lt hx)]
        exact (HloOp.result_of_not_mem _ _ (by
          rw [hw.1, Finset.mem_singleton]
          exact devRef_ne_of_ne fun e => by subst e; omega)).symm
    | succ i =>
      rw [List.getElem?_cons_succ] at hi
      exact ht.at_op (o.result V) i hi hy

/-- A line of the program and the contents `G` at the program's end: the line starts from `V`, and from its end on no place
    before `n` changes. -/
structure Seg (G V : Valuation τ sig Val) (ops : List (HloOp τ sig Val)) (W : List (Ref sig .tc)) (m n : ℕ) : Prop where
  line : IsLine ops W m
  kept : ∀ r : Ref sig .tc, rk r < n → G (rd r) = after ops V (rd r)

namespace Seg

variable {G V : Valuation τ sig Val} {n : ℕ} (s : Seg G V ops W m n) (i : ℕ) {a b c e y : Ref sig .tc}
include s

theorem op {op : HloOp τ sig Val} (hi : ops[i]? = some op) (hy : op.writes = {rd y}) (hn : rk y < n) :
    ∃ V' : Valuation τ sig Val, G (rd y) = op.result V' (rd y) ∧ ∀ x : Ref sig .tc, rk x < rk y → V' (rd x) = G (rd x) := by
  obtain ⟨V', h1, h2⟩ := s.line.at_op V i hi hy
  exact ⟨V', (s.kept y hn).trans h1, fun x hx => (h2 x hx).trans (s.kept x (hx.trans hn)).symm⟩

theorem nullary {v : y.ty.Contents Val} {hy} (hi : ops[i]? = some (StableHlo.nullary y v hy)) (hn : rk y < n := by decide) :
    G (rd y) = v := by
  obtain ⟨V', h1, -⟩ := s.op i hi rfl hn
  rw [h1, nullary_result']

theorem unary {f : a.ty.Contents Val → y.ty.Contents Val} {ha hy} (hi : ops[i]? = some (StableHlo.unary a y f ha hy))
    (hn : rk y < n := by decide) (h1 : rk a < rk y := by decide) : G (rd y) = f (G (rd a)) := by
  obtain ⟨V', e1, e2⟩ := s.op i hi rfl hn
  rw [e1, unary_result', e2 a h1]

theorem binary {f : a.ty.Contents Val → b.ty.Contents Val → y.ty.Contents Val} {ha hb hy}
    (hi : ops[i]? = some (StableHlo.binary a b y f ha hb hy)) (hn : rk y < n := by decide) (h1 : rk a < rk y := by decide) (h2 : rk b < rk y := by decide) :
    G (rd y) = f (G (rd a)) (G (rd b)) := by
  obtain ⟨V', e1, e2⟩ := s.op i hi rfl hn
  rw [e1, binary_result', e2 a h1, e2 b h2]

theorem ternary {f : a.ty.Contents Val → b.ty.Contents Val → c.ty.Contents Val → y.ty.Contents Val} {ha hb hc hy}
    (hi : ops[i]? = some (StableHlo.ternary a b c y f ha hb hc hy)) (hn : rk y < n := by decide) (h1 : rk a < rk y := by decide) (h2 : rk b < rk y := by decide)
    (h3 : rk c < rk y := by decide) : G (rd y) = f (G (rd a)) (G (rd b)) (G (rd c)) := by
  obtain ⟨V', e1, e2⟩ := s.op i hi rfl hn
  rw [e1, ternary_result', e2 a h1, e2 b h2, e2 c h3]

theorem quaternary {f : a.ty.Contents Val → b.ty.Contents Val → c.ty.Contents Val → e.ty.Contents Val → y.ty.Contents Val}
    {ha hb hc he hy} (hi : ops[i]? = some (StableHlo.quaternary a b c e y f ha hb hc he hy)) (hn : rk y < n := by decide)
    (h1 : rk a < rk y := by decide) (h2 : rk b < rk y := by decide) (h3 : rk c < rk y := by decide) (h4 : rk e < rk y := by decide) :
    G (rd y) = f (G (rd a)) (G (rd b)) (G (rd c)) (G (rd e)) := by
  obtain ⟨V', e1, e2⟩ := s.op i hi rfl hn
  rw [e1, quaternary_result', e2 a h1, e2 b h2, e2 c h3, e2 e h4]

theorem reshape {he : a.ty.elt = y.ty.elt} {hc : a.ty.shape.ShapeCasts y.ty.shape} {ha hy}
    (hi : ops[i]? = some (StableHlo.reshape a y he hc ha hy)) (hn : rk y < n := by decide) (h1 : rk a < rk y := by decide) :
    G (rd y) = fun j => he ▸ shapeCast y.ty.shape (G (rd a)) hc j := by
  obtain ⟨V', e1, e2⟩ := s.op i hi rfl hn
  rw [e1, reshape_result', e2 a h1]

omit s in
theorem castRead {Tx Ty : BufTy} {S S' : Shape} {e : EltTy} (h1 : Tx = ⟨S, e⟩) (h2 : Ty = ⟨S', e⟩) (he : Tx.elt = Ty.elt)
    (hc : Tx.shape.ShapeCasts Ty.shape) (hc' : S.ShapeCasts S') (v : Tx.Contents Val) :
    cast (congrArg (fun T : BufTy => T.Contents Val) h2) (fun j => he ▸ shapeCast Ty.shape v hc j : Ty.Contents Val)
      = shapeCast S' (cast (congrArg (fun T : BufTy => T.Contents Val) h1) v) hc' := by
  subst h1 h2; rfl

/-- `reshape` at the arrays' shapes. -/
theorem reshapeT {S S' : Shape} {t : EltTy} (hS : a.ty = ⟨S, t⟩) (hS' : y.ty = ⟨S', t⟩) (hc' : S.ShapeCasts S')
    {he : a.ty.elt = y.ty.elt} {hc : a.ty.shape.ShapeCasts y.ty.shape} {ha hy}
    (hi : ops[i]? = some (StableHlo.reshape a y he hc ha hy)) (hn : rk y < n := by decide) (h1 : rk a < rk y := by decide) :
    cast (congrArg (fun T : BufTy => T.Contents Val) hS') (G (rd y))
      = shapeCast S' (cast (congrArg (fun T : BufTy => T.Contents Val) hS) (G (rd a))) hc' := by
  rw [s.reshape i hi hn h1]
  exact castRead hS hS' he hc hc' _

end Seg

end Cert.Proof.Line

end
-- ==== Proof.Host.lean ====
/-
  @main of the kernel as lines of host operations between its two TensorCore calls and its SparseCore call.
-/
module

public import proofs.«01_k».proof.Proof.Base
public import proofs.«01_k».proof.Proof.Line
public import Idealize.ShloMosaic.Lib.Pipeline.Frame

@[expose] public section

noncomputable section

namespace Cert.Proof.Span

open Cert.KernelIdeal Cert.KernelIdeal.Gen

open Idealize.ShloMosaic Idealize.ShloMosaic.StableHlo
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Proof.Line

variable {F : FTy → Type} [FloatOps F]

/-- Operations of @main. -/
abbrev opsA : List (HloOp τ sig (Elt F)) :=
  [reshape main_arg8 main_v0 (rfl : (.f32 : EltTy) = .f32) shapeCasts_S128_S1x128,
    unary main_arg9 main_v1 ((Host.slice S128x8 ![0, 0] ![1, 2] · slicesBy_S128x16_S128x8_0s1_0s2) : B F S128x16 .f32 → B F S128x8 .f32),
    unary main_arg9 main_v2 ((Host.slice S128x8 ![0, 1] ![1, 2] · slicesBy_S128x16_S128x8_0s1_1s2) : B F S128x16 .f32 → B F S128x8 .f32),
    unary main_arg10 main_v3 ((Host.slice S8 ![0] ![2] · slicesBy_S16_S8_0s2) : B F S16 .f32 → B F S8 .f32),
    reshape main_v3 main_v4 (rfl : (.f32 : EltTy) = .f32) shapeCasts_S8_S1x8,
    unary main_arg10 main_v5 ((Host.slice S8 ![1] ![2] · slicesBy_S16_S8_1s2) : B F S16 .f32 → B F S8 .f32),
    reshape main_v5 main_v6 (rfl : (.f32 : EltTy) = .f32) shapeCasts_S8_S1x8,
    reshape main_arg12 main_v7 (rfl : (.f32 : EltTy) = .f32) shapeCasts_S10_S1x10]
/-- What they write. -/
abbrev wrA : List (Ref sig .tc) :=
  [main_v0, main_v1, main_v2, main_v3, main_v4, main_v5, main_v6, main_v7]
theorem lineA : IsLine (opsA (F := F)) wrA 14 := ⟨rfl, by decide⟩
theorem allA : (opsA (F := F)).Forall fun op => op.bufs ⊆ tcRefs τ sig :=
  ⟨reshape_bufs_sub _ _ _ _ _ _, unary_bufs_sub _ _ _ _ _, unary_bufs_sub _ _ _ _ _, unary_bufs_sub _ _ _ _ _, reshape_bufs_sub _ _ _ _ _ _, unary_bufs_sub _ _ _ _ _, reshape_bufs_sub _ _ _ _ _ _, reshape_bufs_sub _ _ _ _ _ _⟩
theorem freshA : ∀ op ∈ (opsA (F := F)), op.fresh = ∅ := List.forall_iff_forall_mem.mp (forall_fresh_of_map rfl)

/-- Operations of @main. -/
abbrev opsB1 : List (HloOp τ sig (Elt F)) :=
  [unary main_v8_1 main_v9 (broadcastInDim S4x2048x8x1 ![0, 1, 2] bcast_S4x2048x8_S4x2048x8x1_0_1_2 : B F S4x2048x8 .f32 → B F S4x2048x8x1 .f32),
    unary main_v8_2 main_v10 (broadcastInDim S4x2048x8x1 ![0, 1, 2] bcast_S4x2048x8_S4x2048x8x1_0_1_2 : B F S4x2048x8 .f32 → B F S4x2048x8x1 .f32),
    binary main_v9 main_v10 main_v11 ((fun a b => concatenate S4x2048x8x2 3 [⟨S4x2048x8x1, a⟩, ⟨S4x2048x8x1, b⟩] concatenates_S4x2048x8x1_S4x2048x8x1_S4x2048x8x2_d3) : B F S4x2048x8x1 .f32 → B F S4x2048x8x1 .f32 → B F S4x2048x8x2 .f32),
    nullary main_cst ((constant S_ .f32 0xFF800000#32) : B F S_ .f32),
    binary main_v11 main_cst main_v12 ((fun x v => Host.reduce FloatOps.maximumf x v reducesTo_S4x2048x8x2_S4x2048x8_d3 h_S_) : B F S4x2048x8x2 .f32 → B F S_ .f32 → B F S4x2048x8 .f32),
    nullary main_cst_0 ((constant S_ .f32 0xFF800000#32) : B F S_ .f32),
    unary main_cst_0 main_v13 (broadcastInDim S4x2048x8 ![] bcast_S_S4x2048x8 : B F S_ .f32 → B F S4x2048x8 .f32),
    binary main_v13 main_v12 main_v14 (maximumf : B F S4x2048x8 .f32 → B F S4x2048x8 .f32 → B F S4x2048x8 .f32),
    unary main_v14 main_v15 (broadcastInDim S4x2048x8x1 ![0, 1, 2] bcast_S4x2048x8_S4x2048x8x1_0_1_2 : B F S4x2048x8 .f32 → B F S4x2048x8x1 .f32),
    unary main_v15 main_v16 (broadcastInDim S4x2048x8x2 ![0, 1, 2, 3] bcast_S4x2048x8x1_S4x2048x8x2_0_1_2_3 : B F S4x2048x8x1 .f32 → B F S4x2048x8x2 .f32),
    binary main_v11 main_v16 main_v17 (subf : B F S4x2048x8x2 .f32 → B F S4x2048x8x2 .f32 → B F S4x2048x8x2 .f32),
    unary main_v17 main_v18 (Host.exp : B F S4x2048x8x2 .f32 → B F S4x2048x8x2 .f32),
    nullary main_cst_1 ((constant S_ .f32 0x00000000#32) : B F S_ .f32),
    binary main_v18 main_cst_1 main_v19 ((fun x v => Host.reduceAdd x v reducesTo_S4x2048x8x2_S4x2048x8_d3 h_S_) : B F S4x2048x8x2 .f32 → B F S_ .f32 → B F S4x2048x8 .f32),
    unary main_v19 main_v20 (broadcastInDim S4x2048x8x1 ![0, 1, 2] bcast_S4x2048x8_S4x2048x8x1_0_1_2 : B F S4x2048x8 .f32 → B F S4x2048x8x1 .f32),
    unary main_v20 main_v21 (broadcastInDim S4x2048x8x2 ![0, 1, 2, 3] bcast_S4x2048x8x1_S4x2048x8x2_0_1_2_3 : B F S4x2048x8x1 .f32 → B F S4x2048x8x2 .f32),
    binary main_v18 main_v21 main_v22 (Host.divf : B F S4x2048x8x2 .f32 → B F S4x2048x8x2 .f32 → B F S4x2048x8x2 .f32),
    unary main_v22 main_v23 ((extractStridedSlice S4x2048x8x1 ![0, 0, 0, 1] · slices_S4x2048x8x2_S4x2048x8x1_0_0_0_1) : B F S4x2048x8x2 .f32 → B F S4x2048x8x1 .f32),
    reshape main_v23 main_v24 (rfl : (.f32 : EltTy) = .f32) shapeCasts_S4x2048x8x1_S4x2048x8,
    reshape main_v24 main_v25 (rfl : (.f32 : EltTy) = .f32) shapeCasts_S4x2048x8_S4x16384,
    unary main_arg0 main_v26 (broadcastInDim S4x2048x8 ![0, 1] bcast_S4x2048_S4x2048x8_0_1 : B F S4x2048 .f32 → B F S4x2048x8 .f32),
    reshape main_v26 main_v27 (rfl : (.f32 : EltTy) = .f32) shapeCasts_S4x2048x8_S4x16384,
    binary main_v25 main_v27 main_v28 (mulf : B F S4x16384 .f32 → B F S4x16384 .f32 → B F S4x16384 .f32)]
/-- What they write. -/
abbrev wrB1 : List (Ref sig .tc) :=
  [main_v9, main_v10, main_v11, main_cst, main_v12, main_cst_0, main_v13, main_v14, main_v15, main_v16, main_v17, main_v18, main_cst_1, main_v19, main_v20, main_v21, main_v22, main_v23, main_v24, main_v25, main_v26, main_v27, main_v28]
theorem lineB1 : IsLine (opsB1 (F := F)) wrB1 28 := ⟨rfl, by decide⟩
theorem allB1 : (opsB1 (F := F)).Forall fun op => op.bufs ⊆ tcRefs τ sig :=
  ⟨unary_bufs_sub _ _ _ _ _, unary_bufs_sub _ _ _ _ _, binary_bufs_sub _ _ _ _ _ _ _, nullary_bufs_sub _ _ _, binary_bufs_sub _ _ _ _ _ _ _, nullary_bufs_sub _ _ _, unary_bufs_sub _ _ _ _ _, binary_bufs_sub _ _ _ _ _ _ _, unary_bufs_sub _ _ _ _ _, unary_bufs_sub _ _ _ _ _, binary_bufs_sub _ _ _ _ _ _ _, unary_bufs_sub _ _ _ _ _, nullary_bufs_sub _ _ _, binary_bufs_sub _ _ _ _ _ _ _, unary_bufs_sub _ _ _ _ _, unary_bufs_sub _ _ _ _ _, binary_bufs_sub _ _ _ _ _ _ _, unary_bufs_sub _ _ _ _ _, reshape_bufs_sub _ _ _ _ _ _, reshape_bufs_sub _ _ _ _ _ _, unary_bufs_sub _ _ _ _ _, reshape_bufs_sub _ _ _ _ _ _, binary_bufs_sub _ _ _ _ _ _ _⟩
theorem freshB1 : ∀ op ∈ (opsB1 (F := F)), op.fresh = ∅ := List.forall_iff_forall_mem.mp (forall_fresh_of_map rfl)

/-- Operations of @main. -/
abbrev opsB2 : List (HloOp τ sig (Elt F)) :=
  [unary main_v28 main_values ((fun x => (Host.topK S4x512 1 (FloatOps.cmpfTotal .gt) x sliceFits_S4x16384_S4x512).1) : B F S4x16384 .f32 → B F S4x512 .f32),
    unary main_v28 main_indices ((fun x => (Host.topK S4x512 1 (FloatOps.cmpfTotal .gt) x sliceFits_S4x16384_S4x512).2) : B F S4x16384 .f32 → B F S4x512 .i32),
    reshape main_arg4 main_v29 (rfl : (.i32 : EltTy) = .i32) shapeCasts_S4x2048x8_S4x16384,
    nullary main_call0_c ((constantI S_ 32 0#32) : B F S_ .i32),
    unary main_call0_c main_call0_v0 ((broadcastInDim S4x512 ![] bcast_S_S4x512) : B F S_ .i32 → B F S4x512 .i32),
    binary main_indices main_call0_v0 main_call0_v1 ((cmpi .slt) : B F S4x512 .i32 → B F S4x512 .i32 → B F S4x512 .i1),
    nullary main_call0_c_0 ((constantI S_ 32 16384#32) : B F S_ .i32),
    unary main_call0_c_0 main_call0_v2 ((broadcastInDim S4x512 ![] bcast_S_S4x512) : B F S_ .i32 → B F S4x512 .i32),
    binary main_indices main_call0_v2 main_call0_v3 (addi : B F S4x512 .i32 → B F S4x512 .i32 → B F S4x512 .i32),
    ternary main_call0_v1 main_call0_v3 main_indices main_call0_v4 (select : B F S4x512 .i1 → B F S4x512 .i32 → B F S4x512 .i32 → B F S4x512 .i32),
    reshape main_call0_v4 main_call0_v5 (rfl : (.i32 : EltTy) = .i32) shapeCasts_S4x512_S4x512x1,
    nullary main_call0_c_1 ((constantI S1 32 16383#32) : B F S1 .i32),
    nullary main_call0_c_2 ((constantI S_ 32 0#32) : B F S_ .i32),
    unary main_call0_c_2 main_call0_v6 ((broadcastInDim S4x512x1 ![] bcast_S_S4x512x1) : B F S_ .i32 → B F S4x512x1 .i32),
    binary main_call0_v5 main_call0_v6 main_call0_v7 ((cmpi .sge) : B F S4x512x1 .i32 → B F S4x512x1 .i32 → B F S4x512x1 .i1),
    unary main_call0_c_1 main_call0_v8 ((broadcastInDim S1x1x1 ![2] bcast_S1_S1x1x1_2) : B F S1 .i32 → B F S1x1x1 .i32),
    unary main_call0_v8 main_call0_v9 ((broadcastInDim S4x512x1 ![0, 1, 2] bcast_S1x1x1_S4x512x1_0_1_2) : B F S1x1x1 .i32 → B F S4x512x1 .i32),
    binary main_call0_v5 main_call0_v9 main_call0_v10 ((cmpi .sle) : B F S4x512x1 .i32 → B F S4x512x1 .i32 → B F S4x512x1 .i1),
    binary main_call0_v7 main_call0_v10 main_call0_v11 (andi : B F S4x512x1 .i1 → B F S4x512x1 .i1 → B F S4x512x1 .i1),
    nullary main_call0_c_3 ((constantI S_ 1 1#1) : B F S_ .i1),
    binary main_call0_v11 main_call0_c_3 main_call0_v12 ((fun x v => Host.reduce IntOp.andi x v reducesTo_S4x512x1_S4x512_d2 h_S_) : B F S4x512x1 .i1 → B F S_ .i1 → B F S4x512 .i1),
    binary main_v29 main_call0_v5 main_call0_v13 ((fun x i => Host.gather gather_S4x16384_S4x512x1_S4x512_n_1_0_0_1_2_11 x i) : B F S4x16384 .i32 → B F S4x512x1 .i32 → B F S4x512 .i32),
    nullary main_call0_c_4 ((constantI S_ 32 2147483648#32) : B F S_ .i32),
    unary main_call0_c_4 main_call0_v14 ((broadcastInDim S4x512 ![] bcast_S_S4x512) : B F S_ .i32 → B F S4x512 .i32),
    ternary main_call0_v12 main_call0_v13 main_call0_v14 main_v30 (select : B F S4x512 .i1 → B F S4x512 .i32 → B F S4x512 .i32 → B F S4x512 .i32)]
/-- What they write. -/
abbrev wrB2 : List (Ref sig .tc) :=
  [main_values, main_indices, main_v29, main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_c_4, main_call0_v14, main_v30]
theorem lineB2 : IsLine (opsB2 (F := F)) wrB2 51 := ⟨rfl, by decide⟩
theorem allB2 : (opsB2 (F := F)).Forall fun op => op.bufs ⊆ tcRefs τ sig :=
  ⟨unary_bufs_sub _ _ _ _ _, unary_bufs_sub _ _ _ _ _, reshape_bufs_sub _ _ _ _ _ _, nullary_bufs_sub _ _ _, unary_bufs_sub _ _ _ _ _, binary_bufs_sub _ _ _ _ _ _ _, nullary_bufs_sub _ _ _, unary_bufs_sub _ _ _ _ _, binary_bufs_sub _ _ _ _ _ _ _, ternary_bufs_sub _ _ _ _ _ _ _ _ _, reshape_bufs_sub _ _ _ _ _ _, nullary_bufs_sub _ _ _, nullary_bufs_sub _ _ _, unary_bufs_sub _ _ _ _ _, binary_bufs_sub _ _ _ _ _ _ _, unary_bufs_sub _ _ _ _ _, unary_bufs_sub _ _ _ _ _, binary_bufs_sub _ _ _ _ _ _ _, binary_bufs_sub _ _ _ _ _ _ _, nullary_bufs_sub _ _ _, binary_bufs_sub _ _ _ _ _ _ _, binary_bufs_sub _ _ _ _ _ _ _, nullary_bufs_sub _ _ _, unary_bufs_sub _ _ _ _ _, ternary_bufs_sub _ _ _ _ _ _ _ _ _⟩
theorem freshB2 : ∀ op ∈ (opsB2 (F := F)), op.fresh = ∅ := List.forall_iff_forall_mem.mp (forall_fresh_of_map rfl)

/-- Operations of @main. -/
abbrev opsB3 : List (HloOp τ sig (Elt F)) :=
  [reshape main_arg5 main_v31 (rfl : (.i32 : EltTy) = .i32) shapeCasts_S4x2048x8_S4x16384,
    nullary main_call1_c ((constantI S_ 32 0#32) : B F S_ .i32),
    unary main_call1_c main_call1_v0 ((broadcastInDim S4x512 ![] bcast_S_S4x512) : B F S_ .i32 → B F S4x512 .i32),
    binary main_indices main_call1_v0 main_call1_v1 ((cmpi .slt) : B F S4x512 .i32 → B F S4x512 .i32 → B F S4x512 .i1),
    nullary main_call1_c_0 ((constantI S_ 32 16384#32) : B F S_ .i32),
    unary main_call1_c_0 main_call1_v2 ((broadcastInDim S4x512 ![] bcast_S_S4x512) : B F S_ .i32 → B F S4x512 .i32),
    binary main_indices main_call1_v2 main_call1_v3 (addi : B F S4x512 .i32 → B F S4x512 .i32 → B F S4x512 .i32),
    ternary main_call1_v1 main_call1_v3 main_indices main_call1_v4 (select : B F S4x512 .i1 → B F S4x512 .i32 → B F S4x512 .i32 → B F S4x512 .i32),
    reshape main_call1_v4 main_call1_v5 (rfl : (.i32 : EltTy) = .i32) shapeCasts_S4x512_S4x512x1,
    nullary main_call1_c_1 ((constantI S1 32 16383#32) : B F S1 .i32),
    nullary main_call1_c_2 ((constantI S_ 32 0#32) : B F S_ .i32),
    unary main_call1_c_2 main_call1_v6 ((broadcastInDim S4x512x1 ![] bcast_S_S4x512x1) : B F S_ .i32 → B F S4x512x1 .i32),
    binary main_call1_v5 main_call1_v6 main_call1_v7 ((cmpi .sge) : B F S4x512x1 .i32 → B F S4x512x1 .i32 → B F S4x512x1 .i1),
    unary main_call1_c_1 main_call1_v8 ((broadcastInDim S1x1x1 ![2] bcast_S1_S1x1x1_2) : B F S1 .i32 → B F S1x1x1 .i32),
    unary main_call1_v8 main_call1_v9 ((broadcastInDim S4x512x1 ![0, 1, 2] bcast_S1x1x1_S4x512x1_0_1_2) : B F S1x1x1 .i32 → B F S4x512x1 .i32),
    binary main_call1_v5 main_call1_v9 main_call1_v10 ((cmpi .sle) : B F S4x512x1 .i32 → B F S4x512x1 .i32 → B F S4x512x1 .i1),
    binary main_call1_v7 main_call1_v10 main_call1_v11 (andi : B F S4x512x1 .i1 → B F S4x512x1 .i1 → B F S4x512x1 .i1),
    nullary main_call1_c_3 ((constantI S_ 1 1#1) : B F S_ .i1),
    binary main_call1_v11 main_call1_c_3 main_call1_v12 ((fun x v => Host.reduce IntOp.andi x v reducesTo_S4x512x1_S4x512_d2 h_S_) : B F S4x512x1 .i1 → B F S_ .i1 → B F S4x512 .i1),
    binary main_v31 main_call1_v5 main_call1_v13 ((fun x i => Host.gather gather_S4x16384_S4x512x1_S4x512_n_1_0_0_1_2_11 x i) : B F S4x16384 .i32 → B F S4x512x1 .i32 → B F S4x512 .i32),
    nullary main_call1_c_4 ((constantI S_ 32 2147483648#32) : B F S_ .i32),
    unary main_call1_c_4 main_call1_v14 ((broadcastInDim S4x512 ![] bcast_S_S4x512) : B F S_ .i32 → B F S4x512 .i32),
    ternary main_call1_v12 main_call1_v13 main_call1_v14 main_v32 (select : B F S4x512 .i1 → B F S4x512 .i32 → B F S4x512 .i32 → B F S4x512 .i32)]
/-- What they write. -/
abbrev wrB3 : List (Ref sig .tc) :=
  [main_v31, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_c_4, main_call1_v14, main_v32]
theorem lineB3 : IsLine (opsB3 (F := F)) wrB3 76 := ⟨rfl, by decide⟩
theorem allB3 : (opsB3 (F := F)).Forall fun op => op.bufs ⊆ tcRefs τ sig :=
  ⟨reshape_bufs_sub _ _ _ _ _ _, nullary_bufs_sub _ _ _, unary_bufs_sub _ _ _ _ _, binary_bufs_sub _ _ _ _ _ _ _, nullary_bufs_sub _ _ _, unary_bufs_sub _ _ _ _ _, binary_bufs_sub _ _ _ _ _ _ _, ternary_bufs_sub _ _ _ _ _ _ _ _ _, reshape_bufs_sub _ _ _ _ _ _, nullary_bufs_sub _ _ _, nullary_bufs_sub _ _ _, unary_bufs_sub _ _ _ _ _, binary_bufs_sub _ _ _ _ _ _ _, unary_bufs_sub _ _ _ _ _, unary_bufs_sub _ _ _ _ _, binary_bufs_sub _ _ _ _ _ _ _, binary_bufs_sub _ _ _ _ _ _ _, nullary_bufs_sub _ _ _, binary_bufs_sub _ _ _ _ _ _ _, binary_bufs_sub _ _ _ _ _ _ _, nullary_bufs_sub _ _ _, unary_bufs_sub _ _ _ _ _, ternary_bufs_sub _ _ _ _ _ _ _ _ _⟩
theorem freshB3 : ∀ op ∈ (opsB3 (F := F)), op.fresh = ∅ := List.forall_iff_forall_mem.mp (forall_fresh_of_map rfl)

/-- Operations of @main. -/
abbrev opsB4 : List (HloOp τ sig (Elt F)) :=
  [reshape main_arg3 main_v33 (rfl : (.f32 : EltTy) = .f32) shapeCasts_S4x2048x8x2_S4x16384x2,
    unary main_indices main_v34 (broadcastInDim S4x512x1 ![0, 1] bcast_S4x512_S4x512x1_0_1 : B F S4x512 .i32 → B F S4x512x1 .i32),
    nullary main_call2_c ((constantI S_ 32 0#32) : B F S_ .i32),
    unary main_call2_c main_call2_v0 ((broadcastInDim S4x512x1 ![] bcast_S_S4x512x1) : B F S_ .i32 → B F S4x512x1 .i32),
    binary main_v34 main_call2_v0 main_call2_v1 ((cmpi .slt) : B F S4x512x1 .i32 → B F S4x512x1 .i32 → B F S4x512x1 .i1),
    nullary main_call2_c_0 ((constantI S_ 32 16384#32) : B F S_ .i32),
    unary main_call2_c_0 main_call2_v2 ((broadcastInDim S4x512x1 ![] bcast_S_S4x512x1) : B F S_ .i32 → B F S4x512x1 .i32),
    binary main_v34 main_call2_v2 main_call2_v3 (addi : B F S4x512x1 .i32 → B F S4x512x1 .i32 → B F S4x512x1 .i32),
    ternary main_call2_v1 main_call2_v3 main_v34 main_call2_v4 (select : B F S4x512x1 .i1 → B F S4x512x1 .i32 → B F S4x512x1 .i32 → B F S4x512x1 .i32),
    nullary main_call2_c_1 ((constantI S1 32 16383#32) : B F S1 .i32),
    nullary main_call2_c_2 ((constantI S_ 32 0#32) : B F S_ .i32),
    unary main_call2_c_2 main_call2_v5 ((broadcastInDim S4x512x1 ![] bcast_S_S4x512x1) : B F S_ .i32 → B F S4x512x1 .i32),
    binary main_call2_v4 main_call2_v5 main_call2_v6 ((cmpi .sge) : B F S4x512x1 .i32 → B F S4x512x1 .i32 → B F S4x512x1 .i1),
    unary main_call2_c_1 main_call2_v7 ((broadcastInDim S1x1x1 ![2] bcast_S1_S1x1x1_2) : B F S1 .i32 → B F S1x1x1 .i32),
    unary main_call2_v7 main_call2_v8 ((broadcastInDim S4x512x1 ![0, 1, 2] bcast_S1x1x1_S4x512x1_0_1_2) : B F S1x1x1 .i32 → B F S4x512x1 .i32),
    binary main_call2_v4 main_call2_v8 main_call2_v9 ((cmpi .sle) : B F S4x512x1 .i32 → B F S4x512x1 .i32 → B F S4x512x1 .i1),
    binary main_call2_v6 main_call2_v9 main_call2_v10 (andi : B F S4x512x1 .i1 → B F S4x512x1 .i1 → B F S4x512x1 .i1),
    nullary main_call2_c_3 ((constantI S_ 1 1#1) : B F S_ .i1),
    binary main_call2_v10 main_call2_c_3 main_call2_v11 ((fun x v => Host.reduce IntOp.andi x v reducesTo_S4x512x1_S4x512_d2 h_S_) : B F S4x512x1 .i1 → B F S_ .i1 → B F S4x512 .i1),
    binary main_v33 main_call2_v4 main_call2_v12 ((fun x i => Host.gather gather_S4x16384x2_S4x512x1_S4x512x2_2_1_0_0_1_2_112 x i) : B F S4x16384x2 .f32 → B F S4x512x1 .i32 → B F S4x512x2 .f32),
    unary main_call2_v11 main_call2_v13 ((broadcastInDim S4x512x2 ![0, 1] bcast_S4x512_S4x512x2_0_1) : B F S4x512 .i1 → B F S4x512x2 .i1),
    nullary main_call2_cst ((constant S_ .f32 0x7FC00000#32) : B F S_ .f32),
    unary main_call2_cst main_call2_v14 ((broadcastInDim S4x512x2 ![] bcast_S_S4x512x2) : B F S_ .f32 → B F S4x512x2 .f32),
    ternary main_call2_v13 main_call2_v12 main_call2_v14 main_v35 (select : B F S4x512x2 .i1 → B F S4x512x2 .f32 → B F S4x512x2 .f32 → B F S4x512x2 .f32)]
/-- What they write. -/
abbrev wrB4 : List (Ref sig .tc) :=
  [main_v33, main_v34, main_call2_c, main_call2_v0, main_call2_v1, main_call2_c_0, main_call2_v2, main_call2_v3, main_call2_v4, main_call2_c_1, main_call2_c_2, main_call2_v5, main_call2_v6, main_call2_v7, main_call2_v8, main_call2_v9, main_call2_v10, main_call2_c_3, main_call2_v11, main_call2_v12, main_call2_v13, main_call2_cst, main_call2_v14, main_v35]
theorem lineB4 : IsLine (opsB4 (F := F)) wrB4 99 := ⟨rfl, by decide⟩
theorem allB4 : (opsB4 (F := F)).Forall fun op => op.bufs ⊆ tcRefs τ sig :=
  ⟨reshape_bufs_sub _ _ _ _ _ _, unary_bufs_sub _ _ _ _ _, nullary_bufs_sub _ _ _, unary_bufs_sub _ _ _ _ _, binary_bufs_sub _ _ _ _ _ _ _, nullary_bufs_sub _ _ _, unary_bufs_sub _ _ _ _ _, binary_bufs_sub _ _ _ _ _ _ _, ternary_bufs_sub _ _ _ _ _ _ _ _ _, nullary_bufs_sub _ _ _, nullary_bufs_sub _ _ _, unary_bufs_sub _ _ _ _ _, binary_bufs_sub _ _ _ _ _ _ _, unary_bufs_sub _ _ _ _ _, unary_bufs_sub _ _ _ _ _, binary_bufs_sub _ _ _ _ _ _ _, binary_bufs_sub _ _ _ _ _ _ _, nullary_bufs_sub _ _ _, binary_bufs_sub _ _ _ _ _ _ _, binary_bufs_sub _ _ _ _ _ _ _, unary_bufs_sub _ _ _ _ _, nullary_bufs_sub _ _ _, unary_bufs_sub _ _ _ _ _, ternary_bufs_sub _ _ _ _ _ _ _ _ _⟩
theorem freshB4 : ∀ op ∈ (opsB4 (F := F)), op.fresh = ∅ := List.forall_iff_forall_mem.mp (forall_fresh_of_map rfl)

/-- Operations of @main. -/
abbrev opsB5 : List (HloOp τ sig (Elt F)) :=
  [nullary main_v36 ((iotaInDim S2048 32 0) : B F S2048 .i32),
    unary main_v36 main_v37 (broadcastInDim S2048x1 ![0] bcast_S2048_S2048x1_0 : B F S2048 .i32 → B F S2048x1 .i32),
    nullary main_v38 ((iotaInDim S8 32 0) : B F S8 .i32),
    nullary main_c ((constantI S_ 32 1#32) : B F S_ .i32),
    unary main_c main_v39 (broadcastInDim S8 ![] bcast_S_S8 : B F S_ .i32 → B F S8 .i32),
    binary main_v39 main_v38 main_v40 (addi : B F S8 .i32 → B F S8 .i32 → B F S8 .i32),
    unary main_v40 main_v41 (broadcastInDim S1x8 ![1] bcast_S8_S1x8_1 : B F S8 .i32 → B F S1x8 .i32),
    unary main_v37 main_v42 (broadcastInDim S2048x8 ![0, 1] bcast_S2048x1_S2048x8_0_1 : B F S2048x1 .i32 → B F S2048x8 .i32),
    unary main_v41 main_v43 (broadcastInDim S2048x8 ![0, 1] bcast_S1x8_S2048x8_0_1 : B F S1x8 .i32 → B F S2048x8 .i32),
    binary main_v42 main_v43 main_v44 (addi : B F S2048x8 .i32 → B F S2048x8 .i32 → B F S2048x8 .i32),
    nullary main_c_2 ((constantI S_ 32 2048#32) : B F S_ .i32),
    unary main_c_2 main_call3_v0 (id : B F S_ .i32 → B F S_ .i32),
    unary main_call3_v0 main_call3_v1 ((broadcastInDim S2048x8 ![] bcast_S_S2048x8) : B F S_ .i32 → B F S2048x8 .i32),
    binary main_call3_v1 main_v44 main_v45 (minsi : B F S2048x8 .i32 → B F S2048x8 .i32 → B F S2048x8 .i32),
    unary main_v36 main_v46 (broadcastInDim S2048x1 ![0] bcast_S2048_S2048x1_0 : B F S2048 .i32 → B F S2048x1 .i32),
    unary main_v46 main_v47 (broadcastInDim S2048x8 ![0, 1] bcast_S2048x1_S2048x8_0_1 : B F S2048x1 .i32 → B F S2048x8 .i32),
    binary main_v45 main_v47 main_v48 (subi : B F S2048x8 .i32 → B F S2048x8 .i32 → B F S2048x8 .i32),
    unary main_v48 main_v49 (sitofp .f32 : B F S2048x8 .i32 → B F S2048x8 .f32),
    reshape main_v49 main_v50 (rfl : (.f32 : EltTy) = .f32) shapeCasts_S2048x8_S1x16384,
    reshape main_v50 main_v51 (rfl : (.f32 : EltTy) = .f32) shapeCasts_S1x16384_S1x1x1x16384,
    unary main_v51 main_v52 (broadcastInDim S4x1x1x16384 ![0, 1, 2, 3] bcast_S1x1x1x16384_S4x1x1x16384_0_1_2_3 : B F S1x1x1x16384 .f32 → B F S4x1x1x16384 .f32)]
/-- What they write. -/
abbrev wrB5 : List (Ref sig .tc) :=
  [main_v36, main_v37, main_v38, main_c, main_v39, main_v40, main_v41, main_v42, main_v43, main_v44, main_c_2, main_call3_v0, main_call3_v1, main_v45, main_v46, main_v47, main_v48, main_v49, main_v50, main_v51, main_v52]
theorem lineB5 : IsLine (opsB5 (F := F)) wrB5 123 := ⟨rfl, by decide⟩
theorem allB5 : (opsB5 (F := F)).Forall fun op => op.bufs ⊆ tcRefs τ sig :=
  ⟨nullary_bufs_sub _ _ _, unary_bufs_sub _ _ _ _ _, nullary_bufs_sub _ _ _, nullary_bufs_sub _ _ _, unary_bufs_sub _ _ _ _ _, binary_bufs_sub _ _ _ _ _ _ _, unary_bufs_sub _ _ _ _ _, unary_bufs_sub _ _ _ _ _, unary_bufs_sub _ _ _ _ _, binary_bufs_sub _ _ _ _ _ _ _, nullary_bufs_sub _ _ _, unary_bufs_sub _ _ _ _ _, unary_bufs_sub _ _ _ _ _, binary_bufs_sub _ _ _ _ _ _ _, unary_bufs_sub _ _ _ _ _, unary_bufs_sub _ _ _ _ _, binary_bufs_sub _ _ _ _ _ _ _, unary_bufs_sub _ _ _ _ _, reshape_bufs_sub _ _ _ _ _ _, reshape_bufs_sub _ _ _ _ _ _, unary_bufs_sub _ _ _ _ _⟩
theorem freshB5 : ∀ op ∈ (opsB5 (F := F)), op.fresh = ∅ := List.forall_iff_forall_mem.mp (forall_fresh_of_map rfl)

/-- Operations of @main. -/
abbrev opsB6 : List (HloOp τ sig (Elt F)) :=
  [reshape main_v52 main_v53 (rfl : (.f32 : EltTy) = .f32) shapeCasts_S4x1x1x16384_S4x16384,
    nullary main_call4_c ((constantI S_ 32 0#32) : B F S_ .i32),
    unary main_call4_c main_call4_v0 ((broadcastInDim S4x512 ![] bcast_S_S4x512) : B F S_ .i32 → B F S4x512 .i32),
    binary main_indices main_call4_v0 main_call4_v1 ((cmpi .slt) : B F S4x512 .i32 → B F S4x512 .i32 → B F S4x512 .i1),
    nullary main_call4_c_0 ((constantI S_ 32 16384#32) : B F S_ .i32),
    unary main_call4_c_0 main_call4_v2 ((broadcastInDim S4x512 ![] bcast_S_S4x512) : B F S_ .i32 → B F S4x512 .i32),
    binary main_indices main_call4_v2 main_call4_v3 (addi : B F S4x512 .i32 → B F S4x512 .i32 → B F S4x512 .i32),
    ternary main_call4_v1 main_call4_v3 main_indices main_call4_v4 (select : B F S4x512 .i1 → B F S4x512 .i32 → B F S4x512 .i32 → B F S4x512 .i32),
    reshape main_call4_v4 main_call4_v5 (rfl : (.i32 : EltTy) = .i32) shapeCasts_S4x512_S4x512x1,
    nullary main_call4_c_1 ((constantI S1 32 16383#32) : B F S1 .i32),
    nullary main_call4_c_2 ((constantI S_ 32 0#32) : B F S_ .i32),
    unary main_call4_c_2 main_call4_v6 ((broadcastInDim S4x512x1 ![] bcast_S_S4x512x1) : B F S_ .i32 → B F S4x512x1 .i32),
    binary main_call4_v5 main_call4_v6 main_call4_v7 ((cmpi .sge) : B F S4x512x1 .i32 → B F S4x512x1 .i32 → B F S4x512x1 .i1),
    unary main_call4_c_1 main_call4_v8 ((broadcastInDim S1x1x1 ![2] bcast_S1_S1x1x1_2) : B F S1 .i32 → B F S1x1x1 .i32),
    unary main_call4_v8 main_call4_v9 ((broadcastInDim S4x512x1 ![0, 1, 2] bcast_S1x1x1_S4x512x1_0_1_2) : B F S1x1x1 .i32 → B F S4x512x1 .i32),
    binary main_call4_v5 main_call4_v9 main_call4_v10 ((cmpi .sle) : B F S4x512x1 .i32 → B F S4x512x1 .i32 → B F S4x512x1 .i1),
    binary main_call4_v7 main_call4_v10 main_call4_v11 (andi : B F S4x512x1 .i1 → B F S4x512x1 .i1 → B F S4x512x1 .i1),
    nullary main_call4_c_3 ((constantI S_ 1 1#1) : B F S_ .i1),
    binary main_call4_v11 main_call4_c_3 main_call4_v12 ((fun x v => Host.reduce IntOp.andi x v reducesTo_S4x512x1_S4x512_d2 h_S_) : B F S4x512x1 .i1 → B F S_ .i1 → B F S4x512 .i1),
    binary main_v53 main_call4_v5 main_call4_v13 ((fun x i => Host.gather gather_S4x16384_S4x512x1_S4x512_n_1_0_0_1_2_11 x i) : B F S4x16384 .f32 → B F S4x512x1 .i32 → B F S4x512 .f32),
    nullary main_call4_cst ((constant S_ .f32 0x7FC00000#32) : B F S_ .f32),
    unary main_call4_cst main_call4_v14 ((broadcastInDim S4x512 ![] bcast_S_S4x512) : B F S_ .f32 → B F S4x512 .f32),
    ternary main_call4_v12 main_call4_v13 main_call4_v14 main_v54 (select : B F S4x512 .i1 → B F S4x512 .f32 → B F S4x512 .f32 → B F S4x512 .f32),
    nullary main_v55 ((iotaInDim S4 32 0) : B F S4 .i32),
    nullary main_c_3 ((constantI S_ 32 16384#32) : B F S_ .i32),
    unary main_c_3 main_v56 (broadcastInDim S4 ![] bcast_S_S4 : B F S_ .i32 → B F S4 .i32),
    binary main_v55 main_v56 main_v57 (muli : B F S4 .i32 → B F S4 .i32 → B F S4 .i32),
    unary main_v57 main_v58 (broadcastInDim S4x1 ![0] bcast_S4_S4x1_0 : B F S4 .i32 → B F S4x1 .i32),
    unary main_v58 main_v59 (broadcastInDim S4x512 ![0, 1] bcast_S4x1_S4x512_0_1 : B F S4x1 .i32 → B F S4x512 .i32),
    binary main_indices main_v59 main_v60 (addi : B F S4x512 .i32 → B F S4x512 .i32 → B F S4x512 .i32),
    reshape main_v60 main_v61 (rfl : (.i32 : EltTy) = .i32) shapeCasts_S4x512_S2048,
    reshape main_v8_0 main_v62 (rfl : (.f32 : EltTy) = .f32) shapeCasts_S4x2048x8x128_S65536x128]
/-- What they write. -/
abbrev wrB6 : List (Ref sig .tc) :=
  [main_v53, main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_cst, main_call4_v14, main_v54, main_v55, main_c_3, main_v56, main_v57, main_v58, main_v59, main_v60, main_v61, main_v62]
theorem lineB6 : IsLine (opsB6 (F := F)) wrB6 144 := ⟨rfl, by decide⟩
theorem allB6 : (opsB6 (F := F)).Forall fun op => op.bufs ⊆ tcRefs τ sig :=
  ⟨reshape_bufs_sub _ _ _ _ _ _, nullary_bufs_sub _ _ _, unary_bufs_sub _ _ _ _ _, binary_bufs_sub _ _ _ _ _ _ _, nullary_bufs_sub _ _ _, unary_bufs_sub _ _ _ _ _, binary_bufs_sub _ _ _ _ _ _ _, ternary_bufs_sub _ _ _ _ _ _ _ _ _, reshape_bufs_sub _ _ _ _ _ _, nullary_bufs_sub _ _ _, nullary_bufs_sub _ _ _, unary_bufs_sub _ _ _ _ _, binary_bufs_sub _ _ _ _ _ _ _, unary_bufs_sub _ _ _ _ _, unary_bufs_sub _ _ _ _ _, binary_bufs_sub _ _ _ _ _ _ _, binary_bufs_sub _ _ _ _ _ _ _, nullary_bufs_sub _ _ _, binary_bufs_sub _ _ _ _ _ _ _, binary_bufs_sub _ _ _ _ _ _ _, nullary_bufs_sub _ _ _, unary_bufs_sub _ _ _ _ _, ternary_bufs_sub _ _ _ _ _ _ _ _ _, nullary_bufs_sub _ _ _, nullary_bufs_sub _ _ _, unary_bufs_sub _ _ _ _ _, binary_bufs_sub _ _ _ _ _ _ _, unary_bufs_sub _ _ _ _ _, unary_bufs_sub _ _ _ _ _, binary_bufs_sub _ _ _ _ _ _ _, reshape_bufs_sub _ _ _ _ _ _, reshape_bufs_sub _ _ _ _ _ _⟩
theorem freshB6 : ∀ op ∈ (opsB6 (F := F)), op.fresh = ∅ := List.forall_iff_forall_mem.mp (forall_fresh_of_map rfl)

/-- Operations of @main. -/
abbrev opsC : List (HloOp τ sig (Elt F)) :=
  [reshape main_arg12 main_v64 (rfl : (.f32 : EltTy) = .f32) shapeCasts_S10_S1x10,
    reshape main_v32 main_v65 (rfl : (.i32 : EltTy) = .i32) shapeCasts_S4x512_S2048x1,
    reshape main_arg13 main_v66 (rfl : (.f32 : EltTy) = .f32) shapeCasts_S10_S1x10]
/-- What they write. -/
abbrev wrC : List (Ref sig .tc) :=
  [main_v64, main_v65, main_v66]
theorem lineC : IsLine (opsC (F := F)) wrC 177 := ⟨rfl, by decide⟩
theorem allC : (opsC (F := F)).Forall fun op => op.bufs ⊆ tcRefs τ sig :=
  ⟨reshape_bufs_sub _ _ _ _ _ _, reshape_bufs_sub _ _ _ _ _ _, reshape_bufs_sub _ _ _ _ _ _⟩
theorem freshC : ∀ op ∈ (opsC (F := F)), op.fresh = ∅ := List.forall_iff_forall_mem.mp (forall_fresh_of_map rfl)

/-- Operations of @main. -/
abbrev opsD : List (HloOp τ sig (Elt F)) :=
  [nullary main_cst_4 ((constant S_ .f32 0x3F800000#32) : B F S_ .f32),
    unary main_cst_4 main_v68 (broadcastInDim S4x512 ![] bcast_S_S4x512 : B F S_ .f32 → B F S4x512 .f32),
    reshape main_v8_5 main_v69 (rfl : (.f32 : EltTy) = .f32) shapeCasts_S1x1_S1,
    reshape main_v67_1 main_v70 (rfl : (.f32 : EltTy) = .f32) shapeCasts_S1x1_S1,
    reshape main_v63 main_v71 (rfl : (.f32 : EltTy) = .f32) shapeCasts_S2048x128_S4x512x128,
    reshape main_v67_0 main_v72 (rfl : (.f32 : EltTy) = .f32) shapeCasts_S2048x10_S4x512x10,
    reshape main_v67_2 main_v73 (rfl : (.i32 : EltTy) = .i32) shapeCasts_S4x1_S4]
/-- What they write. -/
abbrev wrD : List (Ref sig .tc) :=
  [main_cst_4, main_v68, main_v69, main_v70, main_v71, main_v72, main_v73]
theorem lineD : IsLine (opsD (F := F)) wrD 183 := ⟨rfl, by decide⟩
theorem allD : (opsD (F := F)).Forall fun op => op.bufs ⊆ tcRefs τ sig :=
  ⟨nullary_bufs_sub _ _ _, unary_bufs_sub _ _ _ _ _, reshape_bufs_sub _ _ _ _ _ _, reshape_bufs_sub _ _ _ _ _ _, reshape_bufs_sub _ _ _ _ _ _, reshape_bufs_sub _ _ _ _ _ _, reshape_bufs_sub _ _ _ _ _ _⟩
theorem freshD : ∀ op ∈ (opsD (F := F)), op.fresh = ∅ := List.forall_iff_forall_mem.mp (forall_fresh_of_map rfl)

set_option maxHeartbeats 2000000 in
theorem part0_eq (d : Dev nD) : main_part0 (F := F) d = (seq opsA >>= fun _ => (Prog.lift (.customCall (SparseCore.inner (Pipeline.entry 0)) ()) >>= fun _ => seq (opsB1 ++ opsB2 ++ opsB3 ++ opsB4 ++ opsB5))) := (rfl)
set_option maxHeartbeats 2000000 in
theorem part1_eq (d : Dev nD) : main_part1 (F := F) d = (seq opsB6 >>= fun _ => ((sc (F := F)).run d 0 >>= fun _ => (seq opsC >>= fun _ => (Prog.lift (.customCall (SparseCore.inner (Pipeline.entry 1)) ()) >>= fun _ => seq opsD)))) := by
  unfold main_part1
  generalize (sc (F := F)).run d 0 = X
  simp only [seq_bind_seqK]
  exact (rfl)
theorem main_eq (d : Dev nD) : main (F := F) d = (main_part0 d >>= fun _ => main_part1 d) := (rfl)

end Cert.Proof.Span

end
-- ==== Proof.Gather.lean ====
/-
  The SparseCore call: thirty-two tasks, on the sixteen vector subcores of each of the two SparseCores. Task `w = 2 s + c`
  (subcore `s` of core `c`) copies the words `64 w … 64 w + 63` of the index list into its own memory, gathers the table's
  rows that they name, and copies the 64 rows out to the rows `64 w … 64 w + 63` of the result.

  The table's and the list's contents are parameters here (`tb`, `ix`), all list words naming rows of the table (`InRows`):
  what the call leaves in the result is `gat tb ix`, row `r` of it the table's row number `ix r`.
-/
module

public import proofs.«01_k».proof.Proof.Base

@[expose] public section

noncomputable section

namespace Cert.Proof.Span

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The arrays -/

local notation "𝕄" => MT nD τ sig (HIx 1) (Elt F) ℕ UU ℕ

/-- The table, the index list and the result, as the TensorCore's program names them. -/
abbrev tLoc (d : Dev nD) : Loc nD τ sig := (SparseCore.T d).loc main_v62
abbrev iLoc (d : Dev nD) : Loc nD τ sig := (SparseCore.T d).loc main_v61
abbrev oLoc (d : Dev nD) : Loc nD τ sig := (SparseCore.T d).loc main_v63

abbrev iV : Memref sig .scVector .hbm S2048 .i32 := Memref.whole main_v61_scv
abbrev tV : Memref sig .scVector .hbm S65536x128 .f32 := Memref.whole main_v62_scv
abbrev oV : Memref sig .scVector .hbm S2048x128 .f32 := Memref.whole main_v63_scv
abbrev sV : Memref sig .scVector .vmem S64 .i32 := Memref.whole cc1_scratch0
abbrev rV : Memref sig .scVector .vmem S64x128 .f32 := Memref.whole cc1_scratch1

theorem idiv : 32 ∣ S2048.size 0 := ⟨64, rfl⟩
theorem odiv : 32 ∣ S2048x128.size 0 := ⟨64, rfl⟩
abbrev irow (w : Fin 32) : Rect S2048 := Rect.part (s := S2048) (a₀ := 0) idiv w
abbrev orow (w : Fin 32) : Rect S2048x128 := Rect.part (s := S2048x128) (a₀ := 0) odiv w
abbrev iSet (w : Fin 32) : Finset S2048.Idx := (irow w).set
abbrev oSet (w : Fin 32) : Finset S2048x128.Idx := (orow w).set

/-- Task `w`'s share of the table, which all read. -/
abbrev tq (w : Fin 32) : PosShare TreeShare := pieceOf fullShare 32 (by decide) w

/-! ## What the call computes -/

/-- Row `r`, lane `l` of the table. -/
def tabIx (r : Fin 65536) (l : Fin 128) : S65536x128.Idx
  | ⟨0, _⟩ => r
  | ⟨1, _⟩ => l
/-- Entry `r` of the list. -/
def lstIx (r : Fin 2048) : S2048.Idx
  | ⟨0, _⟩ => r

/-- The gathered rows: row `r` is the table's row number `ix r`. -/
def gat (tb : S65536x128.Idx → Elt F .f32) (ix : S2048.Idx → BitVec 32) : S2048x128.Idx → Elt F .f32 :=
  fun j => tb (tabIx (Fin.ofNat 65536 (ix (lstIx (j 0))).toNat) (j 1))

/-- Every word of the list names a row of the table. -/
def InRows (ix : S2048.Idx → BitVec 32) : Prop := ∀ j, (ix j).toNat < 65536

variable (tb : Dev nD → S65536x128.Idx → Elt F .f32) (ix : Dev nD → S2048.Idx → BitVec 32)

variable [FloatOps F]

/-! ## What the handshakes carry -/

/-- The number of the task on subcore `i` of core `c`. -/
abbrev wid (c : Fin 2) (i : Fin 16) : Fin 32 := finProdFinEquiv (i, c)

abbrev iPts (d : Dev nD) (w : Fin 32) : sProp 𝕄 := iLoc d ↦[iSet w]{fullShare} ix d
abbrev tPts (d : Dev nD) (w : Fin 32) : sProp 𝕄 := tLoc d ↦{tq w} tb d
abbrev oPts (d : Dev nD) (w : Fin 32) (f : Buf (Elt F) (oLoc d)) : sProp 𝕄 := oLoc d ↦[oSet w]{fullShare} f

/-- What a task is handed: its part of the list, its share of the table, its rows of the result at any contents. -/
abbrev goPts (d : Dev nD) (w : Fin 32) : sProp 𝕄 := iprop(iPts ix d w ∗ tPts tb d w ∗ ∃ f, oPts d w f)
/-- What it hands back: the same, its rows of the result now the gathered ones. -/
abbrev tdPts (d : Dev nD) (w : Fin 32) : sProp 𝕄 := iprop(iPts ix d w ∗ tPts tb d w ∗ oPts d w (gat (tb d) (ix d)))

/-- A core is handed what its sixteen tasks are. -/
def P : (K (F := F)).Pay (nD := nD) (Val := Elt F) (Name := ℕ) (U := UU) where
  st := fun q d c => match q with | 0 => bigSep Finset.univ fun i : Fin 16 => goPts tb ix d (wid c i)
  dn := fun q d c => match q with | 0 => bigSep Finset.univ fun i : Fin 16 => tdPts tb ix d (wid c i)
  go := fun q d c i => match q with | 0 => goPts tb ix d (wid c i)
  td := fun q d c i => match q with | 0 => tdPts tb ix d (wid c i)
  x := fun _ _ => iprop(emp)

instance P_storable : (P (F := F) tb ix).IsStorable where
  st q d c := match q with
    | 0 => (inferInstance : BI.Storable (upEmb : UEmb _ 𝕄) (bigSep Finset.univ fun i : Fin 16 => goPts tb ix d (wid c i)))
  dn q d c := match q with
    | 0 => (inferInstance : BI.Storable (upEmb : UEmb _ 𝕄) (bigSep Finset.univ fun i : Fin 16 => tdPts tb ix d (wid c i)))
  go q d c i := match q with
    | 0 => (inferInstance : BI.Storable (upEmb : UEmb _ 𝕄) (goPts tb ix d (wid c i)))
  td q d c i := match q with
    | 0 => (inferInstance : BI.Storable (upEmb : UEmb _ 𝕄) (tdPts tb ix d (wid c i)))

/-! ## The task -/

section Tile

variable (d : Dev nD) (L : grid1.Coords)

abbrev cV (L : grid1.Coords) : Fin τ.nSC := (L 0).castLE hcore1
abbrev jV (L : grid1.Coords) : Fin τ.nSub := (L 1).castLE hsub1
/-- The task's number, from its coordinates. -/
abbrev wL (L : grid1.Coords) : Fin 32 := wid (L 0) (L 1)

abbrev irowK (L : grid1.Coords) : Rect S2048 := Rect.unit (s := S2048) (k1_off1 L) S64.size (k1_off1_inb L)
abbrev orowK (L : grid1.Coords) : Rect S2048x128 := Rect.unit (s := S2048x128) (k1_off2 L) S64x128.size (k1_off2_inb L)
/-- The task's part of the list, its rows of the result, and the table, as the task addresses them. -/
abbrev iK (L : grid1.Coords) : Memref sig .scVector .hbm S64 .i32 := iV.slice (irowK L) (fun _ => rfl)
abbrev oK (L : grid1.Coords) : Memref sig .scVector .hbm S64x128 .f32 := oV.slice (orowK L) (fun _ => rfl)
abbrev tK : Memref sig .scVector .hbm S65536x128 .f32 :=
  tV.slice (Rect.unit (s := S65536x128) ![0, 0] S65536x128.size inb_S65536x128_S65536x128_0_0) (fun _ => rfl)

omit [FloatOps F] in
/-- The kernel's own offset is 64 times the task's number. -/
theorem off1_val : k1_off1 L = ![64 * (wL L).val] := by
  have h0 : (L 0).val < 2 := (L 0).isLt
  have h1 : (L 1).val < 16 := (L 1).isLt
  funext a; match a with
  | ⟨0, _⟩ =>
    simp [k1_off1, Scalar.muli, Scalar.addi, IntOp.muli, IntOp.addi, wid, finProdFinEquiv, BitVec.toNat_mul, BitVec.toNat_add]
    omega
omit [FloatOps F] in
theorem off2_val : k1_off2 L = ![64 * (wL L).val, 0] := by
  have h := congrFun (off1_val L) 0
  funext a; match a with
  | ⟨0, _⟩ => exact h
  | ⟨1, _⟩ => rfl

omit [FloatOps F] in
theorem irowK_eq : irowK L = irow (wL L) := by
  unfold irowK irow Rect.part Rect.block
  congr 1 <;> funext a
  · rw [off1_val]
    match a with
    | 0 => simp [Shape.partIx, Shape.partSize, Nat.mul_comm]
  · match a with
    | 0 => simp [Shape.partSize]
omit [FloatOps F] in
theorem orowK_eq : orowK L = orow (wL L) := by
  unfold orowK orow Rect.part Rect.block
  congr 1 <;> funext a
  · rw [off2_val]
    match a with
    | 0 => simp [Shape.partIx, Shape.partSize, Nat.mul_comm]
    | 1 => simp [Shape.partIx, Shape.partSize]
  · match a with
    | 0 => simp [Shape.partSize]
    | 1 => simp [Shape.partSize]

omit [FloatOps F] in
theorem set_iK : (iK L).view.set = iSet (wL L) := by
  show ((View.whole (main_v61_scv : Ref sig .scVector)).slice (irowK L)).set = _
  rw [View.set_slice, irowK_eq]; exact Finset.map_refl
omit [FloatOps F] in
theorem set_oK : (oK L).view.set = oSet (wL L) := by
  show ((View.whole (main_v63_scv : Ref sig .scVector)).slice (orowK L)).set = _
  rw [View.set_slice, orowK_eq]; exact Finset.map_refl

omit [FloatOps F] in
theorem pts_iK (f : Buf (Elt F) (iLoc d)) :
    ((iK L).view.loc (V d (cV L) (jV L)) ↦[(iK L).view.set]{fullShare} f : sProp 𝕄) = iLoc d ↦[iSet (wL L)]{fullShare} f := by
  rw [set_iK]
omit [FloatOps F] in
theorem pts_oK (f : Buf (Elt F) (oLoc d)) :
    ((oK L).view.loc (V d (cV L) (jV L)) ↦[(oK L).view.set]{fullShare} f : sProp 𝕄) = oLoc d ↦[oSet (wL L)]{fullShare} f := by
  rw [set_oK]
omit [FloatOps F] in
/-- The whole table as the task slices it is the whole table. -/
theorem set_tK : (tK).view.set = Finset.univ := by
  show ((View.whole (main_v62_scv : Ref sig .scVector)).slice _).set = _
  rw [View.set_slice]
  refine Finset.map_refl.trans (Finset.eq_univ_iff_forall.mpr fun i => Rect.mem_set_unit.mpr fun a => ?_)
  match a with
  | ⟨0, _⟩ => exact ⟨Nat.zero_le _, by rw [show (![0, 0] : Fin 2 → ℕ) ⟨0, by decide⟩ = 0 from rfl, Nat.zero_add]; exact (i 0).isLt⟩
  | ⟨1, _⟩ => exact ⟨Nat.zero_le _, by rw [show (![0, 0] : Fin 2 → ℕ) ⟨1, by decide⟩ = 0 from rfl, Nat.zero_add]; exact (i 1).isLt⟩
omit [FloatOps F] in
theorem pts_tK (q : PosShare TreeShare) (f : Buf (Elt F) (tLoc d)) :
    ((tK).view.loc (V d (cV L) (jV L)) ↦[(tK).view.set]{q} f : sProp 𝕄) = tLoc d ↦{q} f :=
  congrArg (fun I : Finset (Idx (tLoc d)) => (tLoc d ↦[I]{q} f : sProp 𝕄)) set_tK
omit [FloatOps F] in
theorem pts_sV (f : Buf (Elt F) ((V d (cV L) (jV L)).loc cc1_scratch0)) :
    (sV.view.loc (V d (cV L) (jV L)) ↦{fullShare} f : sProp 𝕄) = (V d (cV L) (jV L)).loc cc1_scratch0 ↦{fullShare} f := rfl
omit [FloatOps F] in
theorem pts_rV (f : Buf (Elt F) ((V d (cV L) (jV L)).loc cc1_scratch1)) :
    (rV.view.loc (V d (cV L) (jV L)) ↦{fullShare} f : sProp 𝕄) = (V d (cV L) (jV L)).loc cc1_scratch1 ↦{fullShare} f := rfl

/-- The task's three semaphores: the list's copy, the gather, the copy out. -/
abbrev cA (d : Dev nD) (c : Fin τ.nSC) (i : Fin τ.nSub) : GSem nD τ sig := (V d c i, .dma cc1_scoped0.sem)
abbrev cB (d : Dev nD) (c : Fin τ.nSC) (i : Fin τ.nSub) : GSem nD τ sig := (V d c i, .dma cc1_scratch2.sem)
abbrev cC (d : Dev nD) (c : Fin τ.nSC) (i : Fin τ.nSub) : GSem nD τ sig := (V d c i, .dma cc1_scoped1.sem)

omit [FloatOps F] in
theorem ownSems0_V :
    (ownSems0 (V d (cV L) (jV L)) : sProp 𝕄)
      = iprop(semVal (cA d (cV L) (jV L)) 0 ∗ semVal (cB d (cV L) (jV L)) 0 ∗ semVal (cC d (cV L) (jV L)) 0
          ∗ bigSep ((((ownCells (V d (cV L) (jV L))).erase (cA d (cV L) (jV L))).erase (cB d (cV L) (jV L))).erase (cC d (cV L) (jV L))) fun g => semVal g 0) := by
  unfold SparseCore.Cfg.ownSems0
  rw [SparseCore.bigSep_erase' ((mem_ownCells (g := cA d (cV L) (jV L))).mpr ⟨rfl, by
      show (SemLoc.dma cc1_scoped0.sem : SemLoc sig).isScoped .scVector = true; decide⟩),
    SparseCore.bigSep_erase' (Finset.mem_erase.mpr ⟨by simp [cA, cB]; decide, (mem_ownCells (g := cB d (cV L) (jV L))).mpr ⟨rfl, by
      show (SemLoc.dma cc1_scratch2.sem : SemLoc sig).isScoped .scVector = true; decide⟩⟩),
    SparseCore.bigSep_erase' (Finset.mem_erase.mpr ⟨by simp [cB, cC]; decide, Finset.mem_erase.mpr ⟨by simp [cA, cC]; decide,
      (mem_ownCells (g := cC d (cV L) (jV L))).mpr ⟨rfl, by show (SemLoc.dma cc1_scoped1.sem : SemLoc sig).isScoped .scVector = true; decide⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-- Entry `x` of the task's part of the list is entry `64 w + x` of the list. -/
theorem lst_emb (x : S64.Idx) (h : 64 * (wL L).val + (x 0).val < 2048) :
    (iK L).view.emb x = lstIx ⟨64 * (wL L).val + (x 0).val, h⟩ := by
  show (irowK L).emb x = _
  funext a
  match a with
  | ⟨0, _⟩ =>
    apply Fin.ext
    rw [Rect.emb_apply]
    show k1_off1 L 0 + 1 * (x 0).val = _
    rw [off1_val]
    simp [lstIx]

/-- What the list's copy leaves in the task's own memory, read back. -/
theorem read_lst (fs : Buf (Elt F) ((V d (cV L) (jV L)).loc cc1_scratch0)) (f : S2048.Idx → BitVec 32) (pay : S64.Idx → Elt F .i32)
    (hpay : pay = (iK L).view.read (Elt F) f) (x : S64.Idx) :
    sV.view.read (Elt F) (View.write (Elt F) sV.view fs pay Finset.univ) x = f ((iK L).view.emb x) := by
  subst hpay
  rw [View.write_whole_univ]
  simp only [Memref.view_whole, View.read_whole]
  exact (View.read_apply _ _).trans (cast_eq _ _)

theorem inb (hix : InRows (ix d)) (fs : Buf (Elt F) ((V d (cV L) (jV L)).loc cc1_scratch0)) (pay : S64.Idx → Elt F .i32)
    (hpay : pay = (iK L).view.read (Elt F) (ix d)) :
    ∀ x, (sV.view.read (Elt F) (View.write (Elt F) sV.view fs pay Finset.univ) x).toNat < S65536x128.size gathers_S65536x128_S64x128.axis := by
  intro x
  rw [read_lst d L fs (ix d) pay hpay]
  exact hix _

/-- What the copy out leaves in the task's rows of the result: the gathered rows. -/
theorem out_eq (hix : InRows (ix d)) (fs : Buf (Elt F) ((V d (cV L) (jV L)).loc cc1_scratch0)) (pay : S64.Idx → Elt F .i32)
    (hpay : pay = (iK L).view.read (Elt F) (ix d)) (fr : Buf (Elt F) ((V d (cV L) (jV L)).loc cc1_scratch1)) (fo : Buf (Elt F) (oLoc d))
    (h : ∀ x, (sV.view.read (Elt F) (View.write (Elt F) sV.view fs pay Finset.univ) x).toNat < S65536x128.size gathers_S65536x128_S64x128.axis)
    (hn : S64.numel = S64x128.size gathers_S65536x128_S64x128.axis') (out : S64x128.Idx → Elt F .f32)
    (hout : out = rV.view.read (Elt F) (View.write (Elt F) rV.view fr
        (SparseCore.gatherPayload gathers_S65536x128_S64x128 (tK.view.read (Elt F) (tb d))
          (SparseCore.rows (sV.view.read (Elt F) (View.write (Elt F) sV.view fs pay Finset.univ)) hn h)) Finset.univ)) :
    ∀ j ∈ (oK L).view.set, (oK L).view.writes (Elt F) fo [⟨Rect.whole S64x128, out⟩] j = gat (tb d) (ix d) j := by
  intro j hj
  obtain ⟨y, -, rfl⟩ := Finset.mem_map.mp hj
  have e := congrFun (View.write_univ_eq_writes_whole (oK L).view fo [] out) ((oK L).view.emb y)
  rw [← e, View.writes_nil]
  refine (View.write_emb_of_mem (v := (oK L).view) (Val := Elt F) fo out (Finset.mem_univ y)).trans ((cast_eq _ _).trans ?_)
  subst hout
  rw [View.write_whole_univ]
  simp only [Memref.view_whole, View.read_whole]
  have hw : (wL L).val < 32 := (wL L).isLt
  have hy0 : (y 0).val < 64 := (y 0).isLt
  have hlt : 64 * (wL L).val + (y 0).val < 2048 := by omega
  unfold SparseCore.gatherPayload gat
  refine ((View.read_apply _ _).trans (cast_eq _ _)).trans (congrArg (tb d) ?_)
  have hj0 : ((oK L).view.emb y 0) = (⟨64 * (wL L).val + (y 0).val, hlt⟩ : Fin 2048) := by
    apply Fin.ext
    show ((orowK L).emb y 0).val = _
    rw [Rect.emb_apply]
    show k1_off2 L 0 + 1 * (y 0).val = _
    rw [off2_val]; simp
  have hj1 : ((oK L).view.emb y 1).val = (y 1).val := by
    show ((orowK L).emb y 1).val = _
    rw [Rect.emb_apply]
    show k1_off2 L 1 + 1 * (y 1).val = _
    rw [off2_val]; simp
  have hent : (S64.rowMajor.symm ((y 0).cast hn.symm)) = fun | ⟨0, _⟩ => (y 0 : Fin 64) := by
    rw [Equiv.symm_apply_eq]
    apply Fin.ext
    rw [Shape.rowMajor_val_one]
    rfl
  funext a
  apply Fin.ext
  show ((Rect.unit (s := S65536x128) ![0, 0] S65536x128.size inb_S65536x128_S65536x128_0_0).emb _ a).val = _
  rw [Rect.emb_apply]
  match a with
  | ⟨0, _⟩ =>
    show 0 + 1 * (Shape.Gathers.idx gathers_S65536x128_S64x128 _ y gathers_S65536x128_S64x128.axis).val = _
    rw [Shape.Gathers.idx_axis]
    show 0 + 1 * ((sV.view.read (Elt F) (View.write (Elt F) sV.view fs pay Finset.univ)) (S64.rowMajor.symm ((y 0).cast hn.symm))).toNat = _
    rw [read_lst d L fs (ix d) pay hpay, hent, lst_emb L _ hlt]
    show 0 + 1 * _ = (ix d (lstIx ((oK L).view.emb y 0))).toNat % 65536
    rw [hj0, Nat.mod_eq_of_lt (hix _)]
    exact (Nat.zero_add _).trans (Nat.one_mul _)
  | ⟨1, _⟩ =>
    show 0 + 1 * (Shape.Gathers.idx gathers_S65536x128_S64x128 _ y ⟨1, _⟩).val = _
    rw [Shape.Gathers.idx_of_ne _ _ _ _ (show (1 : ℕ) ≠ 0 by decide)]
    show 0 + 1 * (y 1).val = ((oK L).view.emb y 1).val
    rw [hj1]; omega

set_option maxHeartbeats 4000000 in
/-- The task on vector subcore `(L 0, L 1)` of device `d`: the list's copy and its wait, the gather and its wait, the copy
    out and its wait; its rows of the result end at the gathered ones. -/
theorem tile_body (hF : (K (F := F)).Facts) (hix : InRows (ix d)) (O : CellTallies nD τ sig (HIx 1)) (W : Waits sig (HIx 1)) (hO : ∀ g, O g none = 0) :
    iprop(levAts (K (F := F)).L (K (F := F)).lev ∗ emp ∗ goPts tb ix d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_gather_k L tV (Memref.isWhole_whole _) iV (Memref.isWhole_whole _) oV (Memref.isWhole_whole _)
            sV (Memref.isWhole_whole _) rV (Memref.isWhole_whole _) cc1_scratch2 cc1_scoped0 cc1_scoped1)
          fun _ => iprop(tdPts tb ix d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_gather_k_eq_skeleton]; unfold cc1_gather_k_skel
  rw [(K (F := F)).scopedBufs_V hF d (cV L) (jV L), SparseCore.Cfg.scopedSems0_V (Val := Elt F) d (cV L) (jV L), ownSems0_V, ownBufs_V]
  iintro ⟨#Hlv, -, ⟨Hi, Ht, ⟨%fo, Ho⟩⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iK (F := F) d L _).symm) $$ Hi
  ihave Ho' := (Entails.of_eq (pts_oK (F := F) d L _).symm) $$ Ho
  ihave Hts := (Entails.of_eq (pts_tK (F := F) d L _ _).symm) $$ Ht
  ihave Hs' := (Entails.of_eq (pts_sV (F := F) d L _).symm) $$ Hs
  ihave Hr' := (Entails.of_eq (pts_rV (F := F) d L _).symm) $$ Hr
  sl_exec
  have hrs : rV.view.set = Finset.univ := View.set_whole _
  have hss : sV.view.set = Finset.univ := View.set_whole _
  ihave Hr'' := (Entails.of_eq (show (rV.view.loc (V d (cV L) (jV L)) ↦{fullShare} fr : sProp 𝕄)
      = rV.view.loc (V d (cV L) (jV L)) ↦[rV.view.set]{fullShare} fr by rw [hrs])) $$ Hr'
  ihave Hs'' := (Entails.of_eq (show (sV.view.loc (V d (cV L) (jV L)) ↦{fullShare} View.write (Elt F) sV.view fs (tile_body.sl.dma0 ix d L) Finset.univ : sProp 𝕄)
      = sV.view.loc (V d (cV L) (jV L)) ↦[sV.view.set]{fullShare} View.write (Elt F) sV.view fs (tile_body.sl.dma0 ix d L) Finset.univ
      by rw [hss])) $$ Hs'
  have hN : ∀ h : S65536x128.Gathers 0 S64x128, ∑ j, (rV.slice (S64x128.rowRect h.axis' j) (S64x128.stride_rowRect h.axis' j)).view.dmaCredit
      = rV.view.dmaCredit := by decide
  iapply (SparseCore.wp_indirectGatherLocal countersEmb 𝒱₀ (V d (cV L) (jV L)) none (hg := gathers_S65536x128_S64x128) (default : HIx 1)
      rV.view.dmaCredit (hN _) (by decide) (inb ix d L hix fs _ rfl)) $$ [Hts Hr'' Hs'' HsemB]
  · isplitl [Hts]; · iexact Hts
    isplitl [Hr'']; · iexact Hr''
    isplitl [Hs'']; · iexact Hs''
    iexact HsemB
  iintro Hfl
  sl_exec
  iapply (Transfers.wp_waitLocalO countersEmb 𝒱₀ (V d (cV L) (jV L)) none (default : HIx 1) (rfl : rV.view.dmaCredit = _)) $$ [Hfl HO]
  · isplitl [Hfl]; · iexact Hfl
    isplitl [HO]; · iexact HO
    iapply (Transfers.MayWaits.elim (SemLoc.dma cc1_scratch2.sem)) $$ Hmw
  iintro ⟨⟨Hr', Hts, Hs'⟩, HsemB, HO⟩
  ihave Hr3 := (Entails.of_eq (show (rV.view.loc (V d (cV L) (jV L)) ↦[rV.view.set]{fullShare} _ : sProp 𝕄)
      = rV.view.loc (V d (cV L) (jV L)) ↦{fullShare} _ by rw [hrs])) $$ Hr'
  ihave Hs3 := (Entails.of_eq (show (sV.view.loc (V d (cV L) (jV L)) ↦[sV.view.set]{fullShare} _ : sProp 𝕄)
      = sV.view.loc (V d (cV L) (jV L)) ↦{fullShare} _ by rw [hss])) $$ Hs'
  sl_exec
  sl_step
  isplitl [Hi' Hts Ho']
  · isplitl [Hi']; · iapply (Entails.of_eq (pts_iK (F := F) d L _)); iexact Hi'
    isplitl [Hts]; · iapply (Entails.of_eq (pts_tK (F := F) d L _ _)); iexact Hts
    iapply (Entails.of_eq (pts_oK (F := F) d L (gat (tb d) (ix d))))
    iapply (Entails.of_eq (pointsTo_congr (out_eq tb ix d L hix fs _ rfl fr fo (inb ix d L hix fs _ rfl) rfl _ rfl)))
    iexact Ho'
  isplitl [Hs3 Hr3 Hbufs]
  · isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_gather_k (coordsV c s)
          tV (Memref.isWhole_whole _) iV (Memref.isWhole_whole _) oV (Memref.isWhole_whole _)
          sV (Memref.isWhole_whole _) rV (Memref.isWhole_whole _) cc1_scratch2 cc1_scoped0 cc1_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hix : ∀ d, InRows (ix d)) : (K (F := F)).TileObl (D (F := F)) 𝒱 (P tb ix) v₀ 0 := by
  intro d c i O W hO _ _
  simp only [show (P tb ix).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body tb ix d (coordsV ⟨_, hci.1⟩ ⟨_, hci.2⟩) hF (hix d) O W hO).trans (wp_mono frame _ _ fun _ => obl_post)

end Tile

theorem vecSplit : (K (F := F)).VecSplit' (P tb ix) 0 := by
  intro d c
  show (bigSep Finset.univ fun i : Fin 16 => goPts tb ix d (wid c i)) ⊢ |={Set.univ}=> iprop(
      (bigSep Finset.univ fun i : Fin 16 => goPts tb ix d (wid c i))
      ∗ ((bigSep Finset.univ fun i : Fin 16 => tdPts tb ix d (wid c i)) -∗ (bigSep Finset.univ fun i : Fin 16 => tdPts tb ix d (wid c i))))
  iintro H; imodintro
  isplitl [H]; · iexact H
  iintro H; iexact H

/-! ## The three arrays split among the tasks, and join -/

omit [FloatOps F] in
theorem iset_disjoint : ∀ i ∈ (Finset.univ : Finset (Fin 32)), ∀ j ∈ (Finset.univ : Finset (Fin 32)), i ≠ j → Disjoint (iSet i) (iSet j) :=
  fun _ _ _ _ h => Rect.part_disjoint idiv h
omit [FloatOps F] in
theorem oset_disjoint : ∀ i ∈ (Finset.univ : Finset (Fin 32)), ∀ j ∈ (Finset.univ : Finset (Fin 32)), i ≠ j → Disjoint (oSet i) (oSet j) :=
  fun _ _ _ _ h => Rect.part_disjoint odiv h
omit [FloatOps F] in
theorem iset_cover : (Finset.univ : Finset (Fin 32)).biUnion iSet = Finset.univ := Rect.biUnion_part idiv
omit [FloatOps F] in
theorem oset_cover : (Finset.univ : Finset (Fin 32)).biUnion oSet = Finset.univ := Rect.biUnion_part odiv

omit [FloatOps F] in
theorem i_parts (d : Dev nD) (f : Buf (Elt F) (iLoc d)) :
    (iLoc d ↦{fullShare} f : sProp 𝕄) = bigSep Finset.univ fun w : Fin 32 => iLoc d ↦[iSet w]{fullShare} f := by
  rw [← pointsTo_biUnion Finset.univ (ℓ := iLoc d) iSet iset_disjoint, iset_cover]; try rfl
omit [FloatOps F] in
theorem o_parts (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet oset_disjoint, oset_cover]; try rfl
omit [FloatOps F] in
theorem t_parts (d : Dev nD) (f : Buf (Elt F) (tLoc d)) :
    (tLoc d ↦{fullShare} f : sProp 𝕄) = bigSep Finset.univ fun w : Fin 32 => tLoc d ↦{tq w} f :=
  pointsTo_piecesOf Finset.univ f (by decide) fullShare

omit [FloatOps F] in
/-- Both cores' tasks together are the thirty-two. -/
theorem bigSep_cores (Φ : Fin 32 → sProp 𝕄) :
    (bigSep Finset.univ fun c : Fin 2 => bigSep Finset.univ fun i : Fin 16 => Φ (wid c i)) = bigSep Finset.univ Φ := by
  rw [bigSep_univ_equiv (finProdFinEquiv (m := 16) (n := 2)) Φ, bigSep_univ_prod, bigSep_univ_comm]

/-- What the two cores are handed: the list and the table whole, the result whole at any contents. -/
theorem st_of (d : Dev nD) (f : Buf (Elt F) (oLoc d)) :
    iprop((iLoc d ↦{fullShare} ix d) ∗ (tLoc d ↦{fullShare} tb d) ∗ oLoc d ↦{fullShare} f)
      ⊢ (bigSep Finset.univ fun c : Fin ((K (F := F)).nCore 0) => (P tb ix).st 0 d c : sProp 𝕄) := by
  show _ ⊢ bigSep Finset.univ fun c : Fin 2 => bigSep Finset.univ fun i : Fin 16 => goPts tb ix d (wid c i)
  rw [bigSep_cores (F := F) (fun w => goPts tb ix d w), bigSep_sep', bigSep_sep', i_parts, t_parts, o_parts]
  have hex : (bigSep Finset.univ fun w : Fin 32 => oPts d w f : sProp 𝕄) ⊢ bigSep Finset.univ fun w : Fin 32 => iprop(∃ f, oPts d w f) :=
    bigSep_mono fun w _ => (show (oPts d w f : sProp 𝕄) ⊢ iprop(∃ f, oPts d w f) from by iintro H; iexists f; iexact H)
  iintro ⟨Hi, Ht, Ho⟩
  isplitl [Hi]; · iexact Hi
  isplitl [Ht]; · iexact Ht
  iapply hex; iexact Ho

/-- What they hand back: the list and the table, the result at the gathered rows. -/
theorem dn_eq (d : Dev nD) :
    (bigSep Finset.univ fun c : Fin ((K (F := F)).nCore 0) => (P tb ix).dn 0 d c : sProp 𝕄)
      = iprop((iLoc d ↦{fullShare} ix d) ∗ (tLoc d ↦{fullShare} tb d) ∗ oLoc d ↦{fullShare} gat (tb d) (ix d)) := by
  show (bigSep Finset.univ fun c : Fin 2 => bigSep Finset.univ fun i : Fin 16 => tdPts tb ix d (wid c i)) = _
  rw [bigSep_cores (F := F) (fun w => tdPts tb ix d w), bigSep_sep', bigSep_sep', i_parts, t_parts, o_parts]

/-! ## The launch element of the ghost state -/

/-- The handshake's element, the pipelines' (their cells and duty tokens), no counter. -/
def u₀ : UU := (initOf (K (F := F)).hsCells (K (F := F)).hsToks,
  (initOf (Pipeline.cells (nD := nD) (τ := τ) (Pipeline.pin (pcfgs (F := F)) adm) cellOf_inj) (Pipeline.launchToks (nD := nD) (τ := τ) (Pipeline.pin (pcfgs (F := F)) adm) cellOf_inj), 1))

omit [FloatOps F] in
theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => iprop(ghost d 0 ∗ ghost d 1))
        ∗ bigSep Finset.univ fun thr : Thread nD τ => bigSep Finset.univ fun q : Fin 1 => (P tb ix).x q thr) := by
  have hsum : ∀ Φ : Fin 2 → sProp 𝕄, bigSep Finset.univ Φ = iprop(Φ 0 ∗ Φ 1) := fun Φ => by
    rw [show (Finset.univ : Finset (Fin 2)) = {0, 1} from rfl, SparseCore.bigSep_insert' (by decide), bigSep_singleton]
  have hre : ∀ A B C E : sProp 𝕄, iprop((A ∗ B) ∗ (C ∗ E)) ⊢ iprop((A ∗ C) ∗ (B ∗ E)) := fun A B C E => by
    iintro ⟨⟨HA, HB⟩, HC, HE⟩
    isplitl [HA HC]
    · isplitl [HA] <;> iassumption
    · isplitl [HB] <;> iassumption
  have hgh : iprop((bigSep Finset.univ fun d : Dev nD => bigSep Finset.univ fun p => Pipeline.cellsGhost (Pipeline.pin (pcfgs (F := F)) adm) EP p d)
      ∗ (bigSep Finset.univ fun d : Dev nD => bigSep Finset.univ fun p => Pipeline.toksInit (Pipeline.pin (pcfgs (F := F)) adm) EP p d))
      ⊢ (bigSep Finset.univ fun d : Dev nD => iprop(ghost d 0 ∗ ghost d 1) : sProp 𝕄) := by
    simp only [hsum]
    rw [bigSep_sep', bigSep_sep', bigSep_sep', bigSep_sep', bigSep_sep']
    exact hre _ _ _ _
  unfold u₀
  iintro Hu
  ihave H := (ownU_pair (initOf (K (F := F)).hsCells (K (F := F)).hsToks)
    (initOf (Pipeline.cells (nD := nD) (τ := τ) (Pipeline.pin (pcfgs (F := F)) adm) cellOf_inj) (Pipeline.launchToks (nD := nD) (τ := τ) (Pipeline.pin (pcfgs (F := F)) adm) cellOf_inj), (1 : Counters))) $$ Hu
  icases H with ⟨HH, HP⟩
  ihave HP := (show BI.own (embR (initOf (Pipeline.cells (nD := nD) (τ := τ) (Pipeline.pin (pcfgs (F := F)) adm) cellOf_inj) (Pipeline.launchToks (nD := nD) (τ := τ) (Pipeline.pin (pcfgs (F := F)) adm) cellOf_inj), (1 : Counters)))
      ⊢ (BI.own (EP (initOf (Pipeline.cells (nD := nD) (τ := τ) (Pipeline.pin (pcfgs (F := F)) adm) cellOf_inj) (Pipeline.launchToks (nD := nD) (τ := τ) (Pipeline.pin (pcfgs (F := F)) adm) cellOf_inj))) : sProp 𝕄) from
    Entails.of_eq rfl) $$ HP
  imod (Pipeline.fund_ghost (Pipeline.pin (pcfgs (F := F)) adm) EP cellOf_inj) $$ HP with ⟨Hc, Ht⟩
  imodintro
  isplitl [HH]; · iexact HH
  isplitl [Hc Ht]
  · iapply hgh
    isplitl [Hc] <;> iassumption
  rw [show (bigSep Finset.univ fun thr : Thread nD τ => bigSep Finset.univ fun q : Fin 1 => (P (F := F) tb ix).x q thr) = bigSep Finset.univ fun _ => iprop(emp) from
    bigSep_congr fun _ _ => bigSep_univ_of_subsingleton (0 : Fin 1), emps]
  iempintro

end Cert.Proof.Span

end
-- ==== Proof.Region.lean ====
/-
  A TensorCore pipeline of the program, entered from @main: every array of @main held at a valuation, and what the core
  owes to the SparseCores around it untouched.
-/
module

public import proofs.«01_k».proof.Proof.Base

@[expose] public section

noncomputable section

namespace Cert.Proof.Span

open Cert.KernelIdeal Cert.KernelIdeal.Gen

open Idealize.ShloMosaic Idealize.ShloMosaic.StableHlo
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 1) (Elt F) ℕ UU ℕ

/-- The proof data of pipeline `p` on device `d`. -/
abbrev PDat (F : FTy → Type) (p : Fin 2) (d : Dev nD) : Type _ :=
  Dat τ (Elt F) (HIx 1) ℕ UU ℕ (Pipeline.pin (pcfgs (F := F)) adm p) d

/-- The waits recorded before SparseCore call `n`. -/
abbrev recAt (F : FTy → Type) (n : ℕ) (d : Dev nD) : Set (SemLoc sig × HIx 1) := {q | (K (F := F)).lev (T d, q.1) q.2 ≤ 8 * n}

/-- What the core owes between SparseCore calls, its waits being of earlier calls. -/
abbrev owesT (F : FTy → Type) (n : ℕ) (d : Dev nD) : sProp (MT nD τ sig (HIx 1) (Elt F) ℕ UU ℕ) :=
  iprop(∃ W, ⌜(K (F := F)).WBelow (T d) W (8 * n)⌝ ∗ owes (T d) ((K (F := F)).Otc d n) W)

/-- Proof data that @main can enter a pipeline with: every array at the valuation, nothing but the region's own storage in
    the invariant at both ends, the core's debts to the SparseCores unchanged. -/
structure Enters (n : ℕ) (p : Fin 2) (V : Dev nD → Valuation τ sig (Elt F)) (dat : (d : Dev nD) → PDat F p d) : Prop where
  kit : Pipeline.LaunchFacts (nD := nD) (τ := τ) cfgs p
  body : ∀ d, Pipeline.BodyObligationLoose (dat d) (defs₀ (F := F)) 𝒱₀ none Set.univ
  arr : ∀ d w, (dat d).A w = V d (dr (Pipeline.arrRef (cfgs p).spec w))
  share : ∀ d w, (dat d).q w = fullShare
  owed : ∀ d t, (dat d).owed t = (K (F := F)).Otc d n
  recd : ∀ d t, (dat d).recorded t = recAt F n d
  first : ∀ d, (dat d).Φ 0 = Pipeline.scopedRest (cfgs p).spec d
  last : ∀ d, (dat d).Φ (Fin.last _) ⊢ Pipeline.scopedRest (cfgs p).spec d

/-- The proof data of both pipelines, given one's. -/
def fam {p : Fin 2} (dat : (d : Dev nD) → PDat F p d) [∀ e, Nonempty (Elt F e)] : (q : Fin 2) → (d : Dev nD) → PDat F q d :=
  fun q d => if h : p = q then h ▸ dat d else
    { A := fun _ _ => Classical.arbitrary _, after := fun _ _ _ => Classical.arbitrary _, Φ := fun _ => BI.emp, q := fun _ => fullShare, owed := fun _ => 0 }

theorem fam_self {p : Fin 2} (dat : (d : Dev nD) → PDat F p d) [∀ e, Nonempty (Elt F e)] (d : Dev nD) : fam dat p d = dat d := dif_pos rfl

set_option backward.isDefEq.respectTransparency.types false in
/-- The pipeline as a segment of @main's run. -/
def seg [∀ e, Nonempty (Elt F e)] {n : ℕ} {p : Fin 2} {V : Dev nD → Valuation τ sig (Elt F)} {dat : (d : Dev nD) → PDat F p d} (E : Enters n p V dat) :
    Pipeline.RegionSeg (pcfgs (F := F)) adm (fam dat) none (defs₀ (F := F)) 𝒱₀ (K (F := F)).L (K (F := F)).lev p where
  win := E.kit.win.to₀
  block_pos := E.kit.block_pos
  stage_whole := E.kit.stage_whole
  K := PEmpty
  osem k := k.elim
  ho := Pipeline.OwnSemFacts.none _
  hbody d := by rw [fam_self]; exact E.body d
  hwaits d := Pipeline.cellsWaits_intro _ _ _ p d fun w s t => by
    rw [fam_self, E.owed d t]
    exact (K (F := F)).mayWait_none _ (Otc_none d n)
  pre d := iprop(held (d.tc : Thread nD τ) UC (V d) ∗ owesT F n d)
  post d := iprop(held (d.tc : Thread nD τ) UC (Pipeline.afterRegion (dat d) (V d)) ∗ owesT F n d)
  X _ := BI.emp
  Y _ := BI.emp
  Z d := Pipeline.unscopedRest (Ix := HIx 1) (Name := ℕ) (U := UU) (Lvl := ℕ) (cfgs p).spec d (fun b => V d (dr b))
  hentry d := by
    rw [Pipeline.ownSems0_none,
      show (held (d.tc : Thread nD τ) UC (V d) : sProp 𝕄) = unscopedBufs d (fun b => V d (dr b)) from (Pipeline.unscopedBufs_held d (V d)).symm]
    have hsplit := Pipeline.arrays_of_unscopedBufs (p := p) (pcfgs (F := F)) adm (fam dat) E.kit.win E.kit.arr_whole d
      ((fam dat p d).share_full fun w => by rw [fam_self]; exact E.share d w) (fun b => V d (dr b)) fun w => by rw [fam_self]; exact E.arr d w
    iintro ⟨⟨Hub, HO⟩, -, -⟩
    ihave H := hsplit $$ Hub
    icases H with ⟨Ha, Hrest⟩
    imodintro
    isplitl [Ha]; · iexact Ha
    isplitr
    · unfold Pipeline.prefHeld
      rw [show (Finset.univ : Finset (Fin 0)) = ∅ from rfl, BI.bigSep_empty]; iempintro
    isplitl [HO]
    · rw [fam_self]
      unfold Pipeline.Dat.owesAt Pipeline.owesWithin Pipeline.Dat.bound
      rw [E.owed, E.recd]
      icases HO with ⟨%W, %hW, HO⟩
      iexists W
      isplitr; · ipureintro; exact fun q hq => Or.inl (hW q hq)
      iexact HO
    isplitr; · iempintro
    iexact Hrest
  hin d := by
    rw [fam_self, E.first]
    iintro ⟨-, -, Hr⟩; iexact Hr
  hout d := by
    rw [Pipeline.ownSems0_none, fam_self]
    refine (E.last d).trans ?_
    iintro Hr
    isplitr; · iempintro
    isplitr; · iempintro
    iexact Hr
  hexit d := by
    have hjoin := Pipeline.unscopedBufs_of_arrays (p := p) (pcfgs (F := F)) adm (Ix := HIx 1) (Name := ℕ) (U := UU) (Lvl := ℕ) E.kit.win E.kit.arr_whole d
      (fam dat) ((fam dat p d).share_full fun w => by rw [fam_self]; exact E.share d w) (fun b => V d (dr b))
      (fun b => Pipeline.afterRegion (dat d) (V d) (dr b)) ((fam dat p d).arrAt · (cfgs p).N)
      (fun w => by rw [fam_self]; exact (Pipeline.afterRegion_arr (dat d) (V d) E.kit.win.arr_inj w).symm)
      (fun b hb => Pipeline.afterRegion_of_not_arr (dat d) (V d) fun w e => hb (e ▸ Finset.mem_image.mpr ⟨w, Finset.mem_univ _, rfl⟩))
    rw [show (held (d.tc : Thread nD τ) UC (Pipeline.afterRegion (dat d) (V d)) : sProp 𝕄) = unscopedBufs d (fun b => Pipeline.afterRegion (dat d) (V d) (dr b)) from (Pipeline.unscopedBufs_held d _).symm]
    iintro ⟨Ha, HO, -, Hrest⟩
    imodintro
    isplitl [Ha Hrest]
    · iapply hjoin; isplitl [Ha] <;> iassumption
    rw [fam_self]
    unfold Pipeline.Dat.owesAt Pipeline.owesWithin Pipeline.Dat.bound
    rw [E.owed, E.recd]
    icases HO with ⟨%W, %hW, HO⟩
    iexists W
    isplitr
    · ipureintro
      intro q hq
      rcases hW hq with h | h
      · exact h
      · obtain ⟨w, s, rfl⟩ := h
        exact Nat.zero_le _
    iexact HO

/-- A finished program is run. -/
theorem ret_wp (d : Dev nD) (Q : PUnit → sProp 𝕄) :
    Q ⟨⟩ ⊢ wp frame (wpE (D (F := F)) 𝒱 (T d) none) Set.univ (pure ⟨⟩ : Prog (TpuEff nD τ sig (Elt F) (ΛP (F := F)) .tc) PUnit) Q := by
  rw [wp_pure]
  iintro H
  imodintro
  iexact H

set_option backward.isDefEq.respectTransparency.types false in
/-- The region's statement in @main: from every array at `V` to every array at what the pipeline leaves. -/
theorem region_wp [∀ e, Nonempty (Elt F e)] {n : ℕ} {p : Fin 2} {V : Dev nD → Valuation τ sig (Elt F)} {dat : (d : Dev nD) → PDat F p d} (E : Enters n p V dat)
    (d : Dev nD) (Q : PUnit → sProp 𝕄) :
    iprop((iprop(boundary (T d) ∗ held (T d) UC (Pipeline.afterRegion (dat d) (V d)) ∗ owesT F n d) -∗ Q ⟨⟩)
        ∗ boundary (T d) ∗ (held (T d) UC (V d) ∗ owesT F n d) ∗ levAts (K (F := F)).L (K (F := F)).lev ∗ ghost d p)
      ⊢ wp frame (wpE ((K (F := F)).defs (D (F := F))) 𝒱 (T d) none) Set.univ
          (Prog.lift (.customCall (SparseCore.inner (Pipeline.entry p)) ())) Q := by
  have h := Pipeline.RegionSeg.wp (pcfgs (F := F)) adm (fam dat) none cellOf_inj EP (defs₀ (F := F)) 𝒱₀ (K (F := F)).L (K (F := F)).lev (seg E) d none
    (fun u hu => nomatch hu) (fun x => Prog.ret x) Q
  refine .trans ?_ ((K (F := F)).wp_liftProg (D (F := F)) 𝒱 (T d) Set.univ none (Prog.op (.customCall (Pipeline.entry p) ()) fun x => Prog.ret x) Q)
  refine .trans ?_ h
  exact sep_mono (wand_mono .rfl (ret_wp d Q)) .rfl

end Cert.Proof.Span

end
-- ==== Proof.Whole.lean ====
/-
  Loads and stores that take a whole staging buffer: the buffer held at the contents that read `X`.
-/
module

public import proofs.«01_k».proof.Proof.Base
public import Idealize.ShloMosaic.Lib.Pointwise
public import Idealize.ShloMosaic.Lib.WholeRead
public import Idealize.ShloMosaic.Lib.VecWindow

@[expose] public section

noncomputable section

namespace Cert.Proof.Span

open Cert.KernelIdeal Cert.KernelIdeal.Gen

open Idealize.ShloMosaic Idealize.ShloMosaic.StableHlo
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type}

local notation "𝕄" => MT nD τ sig (HIx 1) (Elt F) ℕ UU ℕ

/-- A whole memref's buffer on device `d`, held at the contents that read `X`. -/
abbrev pw (d : Dev nD) {sp : Space} {S : Shape} {e : EltTy} {M : Memref sig .tc sp S e} (h : M.IsWhole) (X : S.Idx → Elt F e) : sProp 𝕄 :=
  M.view.loc (T d) ↦{fullShare} h.unread X

/-- A memref's elements owned on device `d` at the contents `X`. -/
abbrev ow (d : Dev nD) {sp : Space} {S : Shape} {e : EltTy} (M : Memref sig .tc sp S e) (X : S.Idx → Elt F e) : sProp 𝕄 :=
  owns (T d) M fullShare X

/-- A load of the whole buffer reads its contents. -/
theorem ld_whole {sp : Space} {S : Shape} {e : EltTy} {M : Memref sig .tc sp S e} (h : M.IsWhole) (X : S.Idx → Elt F e) {off : Fin S.rank → ℕ}
    (inb : ∀ a, off a + S.size a ≤ S.size a) :
    M.view.readAt (Elt F) (Rect.unit (s := S) off S.size inb).toLoadRect (h.unread X) = X := by
  funext x
  refine (h.readAt_unread X _ x).trans (congrArg X (funext fun a => Fin.ext ?_))
  have h0 : off a = 0 := by have := inb a; omega
  show off a + 1 * (x a).val = (x a).val
  omega

/-- A store of the whole buffer leaves the stored contents. -/
theorem st_whole {sp : Space} {S : Shape} {e : EltTy} {M : Memref sig .tc sp S e} (h : M.IsWhole) (f : M.view.ty.Contents (Elt F)) (w : S.Idx → Elt F e) {off : Fin S.rank → ℕ}
    (inb : ∀ a, off a + S.size a ≤ S.size a) :
    M.view.writes (Elt F) f [⟨Rect.unit (s := S) off S.size inb, w⟩] = h.unread w := by
  refine h.eq_unread ?_
  exact View.read_writes_full M.view f inb w []

/-- A whole memref owned at `X` is its buffer at the contents that read `X`. -/
theorem owns_pw (d : Dev nD) {sp : Space} {S : Shape} {e : EltTy} {M : Memref sig .tc sp S e} (h : M.IsWhole) (X : S.Idx → Elt F e) :
    (ow d M X : sProp 𝕄) = pw d h X := by
  have hu := h.read_unread (Val := Elt F) X
  unfold pw
  generalize h.unread X = f at hu ⊢
  subst hu
  obtain ⟨b, hsp, hsh, he, hb⟩ := h
  subst hsp hsh he
  cases hb
  exact owns_whole _ _ _ _

/-- Writes whose pieces are those of `G`, and cover, leave `G`. -/
theorem st_pieces {sp : Space} {S : Shape} {e : EltTy} {M : Memref sig .tc sp S e} (h : M.IsWhole) (f : M.view.ty.Contents (Elt F)) (L : List (View.Piece (Elt F) S e))
    (G : S.Idx → Elt F e) (hL : ∀ p ∈ L, ∀ x : p.1.shape.Idx, p.2 x = G (p.1.emb x)) (hc : ∀ y : S.Idx, ∃ p ∈ L, y ∈ p.1.set) :
    M.view.writes (Elt F) f L = h.unread G :=
  h.eq_unread (funext fun y => View.read_writes_apply_of_pieces M.view f G L hL y (hc y))

/-- Two words as a pair. -/
def mk2 (a b : F .f32) : Vec F S2 .f32 := fun i => if (i 0).val = 0 then a else b

/-- The two words stored one by one. -/
theorem st_pair {M : Memref sig .tc .smem S2 .f32} (h : M.IsWhole) (f : M.view.ty.Contents (Elt F)) (a b : F .f32) (inb1 : ∀ k, (![1] : Fin 1 → ℕ) k + S1.size k ≤ S2.size k)
    (inb0 : ∀ k, (![0] : Fin 1 → ℕ) k + S1.size k ≤ S2.size k) :
    M.view.writes (Elt F) f [⟨Rect.unit (s := S2) ![1] S1.size inb1, fun _ => b⟩, ⟨Rect.unit (s := S2) ![0] S1.size inb0, fun _ => a⟩] = h.unread (mk2 a b) := by
  refine st_pieces h f _ _ ?_ ?_
  · intro p hp x
    rcases List.mem_cons.1 hp with rfl | hp
    · refine (if_neg ?_).symm
      show ¬ 1 + 1 * (x 0).val = 0
      omega
    · rcases List.mem_cons.1 hp with rfl | hp
      · have hx : (x 0).val < 1 := (x 0).isLt
        refine (if_pos ?_).symm
        show 0 + 1 * (x 0).val = 0
        omega
      · exact absurd hp List.not_mem_nil
  · intro y
    have hy : (y 0).val < 2 := (y 0).isLt
    by_cases h0 : (y 0).val = 0
    · refine ⟨_, List.mem_cons_of_mem _ List.mem_cons_self, (Rect.mem_set_unit (inb := inb0) ..).2 fun k => ?_⟩
      obtain rfl : k = 0 := Subsingleton.elim _ _
      show 0 ≤ (y 0).val ∧ (y 0).val < 0 + 1
      omega
    · refine ⟨_, List.mem_cons_self, (Rect.mem_set_unit (inb := inb1) ..).2 fun k => ?_⟩
      obtain rfl : k = 0 := Subsingleton.elim _ _
      show 1 ≤ (y 0).val ∧ (y 0).val < 1 + 1
      omega

/-- A load of the first word. -/
theorem ld_fst {M : Memref sig .tc .smem S2 .f32} (h : M.IsWhole) (a b : F .f32) (inb : ∀ k, (![0] : Fin 1 → ℕ) k + S1.size k ≤ S2.size k) (x : S1.Idx) :
    M.view.readAt (Elt F) (Rect.unit (s := S2) ![0] S1.size inb).toLoadRect (h.unread (mk2 a b)) x = a := by
  refine (h.readAt_unread (mk2 a b) (Rect.unit (s := S2) ![0] S1.size inb).toLoadRect x).trans (show mk2 a b _ = a from if_pos ?_)
  have hx : (x 0).val < 1 := (x 0).isLt
  show 0 + 1 * (x 0).val = 0
  omega

/-- A load of the second word. -/
theorem ld_snd {M : Memref sig .tc .smem S2 .f32} (h : M.IsWhole) (a b : F .f32) (inb : ∀ k, (![1] : Fin 1 → ℕ) k + S1.size k ≤ S2.size k) (x : S1.Idx) :
    M.view.readAt (Elt F) (Rect.unit (s := S2) ![1] S1.size inb).toLoadRect (h.unread (mk2 a b)) x = b := by
  refine (h.readAt_unread (mk2 a b) (Rect.unit (s := S2) ![1] S1.size inb).toLoadRect x).trans (show mk2 a b _ = b from if_neg ?_)
  show ¬ 1 + 1 * (x 0).val = 0
  omega

/-- The eight columns of a block, each written at its own place. -/
theorem st_cols {M : Memref sig .tc .vmem S1x256x8x128 .f32} (h : M.IsWhole) (f : M.view.ty.Contents (Elt F)) (w : Fin 8 → Vec F S1x256x1x128 .f32)
    (inb : ∀ (j : Fin 8) (k : Fin 4), (![0, 0, j.val, 0] : Fin 4 → ℕ) k + S1x256x1x128.size k ≤ S1x256x8x128.size k) :
    M.view.writes (Elt F) f [⟨Rect.unit (s := S1x256x8x128) ![0, 0, 7, 0] S1x256x1x128.size (inb 7), w 7⟩, ⟨Rect.unit (s := S1x256x8x128) ![0, 0, 6, 0] S1x256x1x128.size (inb 6), w 6⟩,
      ⟨Rect.unit (s := S1x256x8x128) ![0, 0, 5, 0] S1x256x1x128.size (inb 5), w 5⟩, ⟨Rect.unit (s := S1x256x8x128) ![0, 0, 4, 0] S1x256x1x128.size (inb 4), w 4⟩,
      ⟨Rect.unit (s := S1x256x8x128) ![0, 0, 3, 0] S1x256x1x128.size (inb 3), w 3⟩, ⟨Rect.unit (s := S1x256x8x128) ![0, 0, 2, 0] S1x256x1x128.size (inb 2), w 2⟩,
      ⟨Rect.unit (s := S1x256x8x128) ![0, 0, 1, 0] S1x256x1x128.size (inb 1), w 1⟩, ⟨Rect.unit (s := S1x256x8x128) ![0, 0, 0, 0] S1x256x1x128.size (inb 0), w 0⟩]
      = h.unread (fun i => w (i 2) (ix4 0 (i 1) 0 (i 3))) := by
  have key : ∀ (j : Fin 8) (x : S1x256x1x128.Idx), w j x
      = (fun i : S1x256x8x128.Idx => w (i 2) (ix4 0 (i 1) 0 (i 3))) ((Rect.unit (s := S1x256x8x128) ![0, 0, j.val, 0] S1x256x1x128.size (inb j)).emb x) := by
    intro j x
    have h0 : (x 0).val < 1 := (x 0).isLt
    have h2 : (x 2).val < 1 := (x 2).isLt
    have e2 : ((Rect.unit (s := S1x256x8x128) ![0, 0, j.val, 0] S1x256x1x128.size (inb j)).emb x) 2 = j := Fin.ext (by
      show j.val + 1 * (x 2).val = j.val
      omega)
    show w j x = w (((Rect.unit (s := S1x256x8x128) ![0, 0, j.val, 0] S1x256x1x128.size (inb j)).emb x) 2) _
    rw [e2]
    refine congrArg (w j) ((eq_ix4 x).trans ?_)
    refine congr (congr (congr (congrArg ix4 (Fin.ext ?_)) (Fin.ext ?_)) (Fin.ext ?_)) (Fin.ext ?_)
    · show (x 0).val = 0
      omega
    · show (x 1).val = 0 + 1 * (x 1).val
      omega
    · show (x 2).val = 0
      omega
    · show (x 3).val = 0 + 1 * (x 3).val
      omega
  refine st_pieces h f _ _ ?_ ?_
  · simp only [List.forall_mem_cons, List.not_mem_nil, false_imp_iff, implies_true, and_true]
    exact ⟨key 7, key 6, key 5, key 4, key 3, key 2, key 1, key 0⟩
  · intro y
    have hj : ∀ j : Fin 8, y 2 = j → y ∈ (Rect.unit (s := S1x256x8x128) ![0, 0, j.val, 0] S1x256x1x128.size (inb j)).set := by
      intro j hj
      refine (Rect.mem_set_unit ..).2 fun a => ?_
      have h0 : (y 0).val < 1 := (y 0).isLt
      have h1 : (y 1).val < 256 := (y 1).isLt
      have h3 : (y 3).val < 128 := (y 3).isLt
      have h2 : (y 2).val = j.val := congrArg Fin.val hj
      fin_cases a
      · show 0 ≤ (y 0).val ∧ (y 0).val < 0 + 1
        omega
      · show 0 ≤ (y 1).val ∧ (y 1).val < 0 + 256
        omega
      · show j.val ≤ (y 2).val ∧ (y 2).val < j.val + 1
        omega
      · show 0 ≤ (y 3).val ∧ (y 3).val < 0 + 128
        omega
    generalize hy : (y 2 : Fin 8) = j at hj
    fin_cases j
    · exact ⟨_, List.Mem.tail _ (List.Mem.tail _ (List.Mem.tail _ (List.Mem.tail _ (List.Mem.tail _ (List.Mem.tail _ (List.Mem.tail _ (List.Mem.head _))))))), hj 0 rfl⟩
    · exact ⟨_, List.Mem.tail _ (List.Mem.tail _ (List.Mem.tail _ (List.Mem.tail _ (List.Mem.tail _ (List.Mem.tail _ (List.Mem.head _)))))), hj 1 rfl⟩
    · exact ⟨_, List.Mem.tail _ (List.Mem.tail _ (List.Mem.tail _ (List.Mem.tail _ (List.Mem.tail _ (List.Mem.head _))))), hj 2 rfl⟩
    · exact ⟨_, List.Mem.tail _ (List.Mem.tail _ (List.Mem.tail _ (List.Mem.tail _ (List.Mem.head _)))), hj 3 rfl⟩
    · exact ⟨_, List.Mem.tail _ (List.Mem.tail _ (List.Mem.tail _ (List.Mem.head _))), hj 4 rfl⟩
    · exact ⟨_, List.Mem.tail _ (List.Mem.tail _ (List.Mem.head _)), hj 5 rfl⟩
    · exact ⟨_, List.Mem.tail _ (List.Mem.head _), hj 6 rfl⟩
    · exact ⟨_, List.Mem.head _, hj 7 rfl⟩

/-- The buffer after the eight columns' stores. -/
theorem pw_cols (d : Dev nD) {M : Memref sig .tc .vmem S1x256x8x128 .f32} (h : M.IsWhole) (f : M.view.ty.Contents (Elt F)) (w : Fin 8 → Vec F S1x256x1x128 .f32)
    (inb : ∀ (j : Fin 8) (k : Fin 4), (![0, 0, j.val, 0] : Fin 4 → ℕ) k + S1x256x1x128.size k ≤ S1x256x8x128.size k) :
    (M.view.loc (T d) ↦{fullShare} M.view.writes (Elt F) f [⟨Rect.unit (s := S1x256x8x128) ![0, 0, 7, 0] S1x256x1x128.size (inb 7), w 7⟩, ⟨Rect.unit (s := S1x256x8x128) ![0, 0, 6, 0] S1x256x1x128.size (inb 6), w 6⟩,
      ⟨Rect.unit (s := S1x256x8x128) ![0, 0, 5, 0] S1x256x1x128.size (inb 5), w 5⟩, ⟨Rect.unit (s := S1x256x8x128) ![0, 0, 4, 0] S1x256x1x128.size (inb 4), w 4⟩,
      ⟨Rect.unit (s := S1x256x8x128) ![0, 0, 3, 0] S1x256x1x128.size (inb 3), w 3⟩, ⟨Rect.unit (s := S1x256x8x128) ![0, 0, 2, 0] S1x256x1x128.size (inb 2), w 2⟩,
      ⟨Rect.unit (s := S1x256x8x128) ![0, 0, 1, 0] S1x256x1x128.size (inb 1), w 1⟩, ⟨Rect.unit (s := S1x256x8x128) ![0, 0, 0, 0] S1x256x1x128.size (inb 0), w 0⟩] : sProp 𝕄)
      ⊢ pw d h (fun i => w (i 2) (ix4 0 (i 1) 0 (i 3))) := by
  rw [st_cols h f w inb]

/-- The buffer after the two words' stores. -/
theorem pw_pair (d : Dev nD) {M : Memref sig .tc .smem S2 .f32} (h : M.IsWhole) (f : M.view.ty.Contents (Elt F)) (a b : F .f32) (inb1 : ∀ k, (![1] : Fin 1 → ℕ) k + S1.size k ≤ S2.size k)
    (inb0 : ∀ k, (![0] : Fin 1 → ℕ) k + S1.size k ≤ S2.size k) :
    (M.view.loc (T d) ↦{fullShare} M.view.writes (Elt F) f [⟨Rect.unit (s := S2) ![1] S1.size inb1, fun _ => b⟩, ⟨Rect.unit (s := S2) ![0] S1.size inb0, fun _ => a⟩] : sProp 𝕄)
      ⊢ pw d h (mk2 a b) := by
  rw [st_pair h f a b inb1 inb0]

/-- The buffer after the two words' stores, over two earlier ones. -/
theorem pw_four (d : Dev nD) {M : Memref sig .tc .smem S2 .f32} (h : M.IsWhole) (f : M.view.ty.Contents (Elt F)) (a b a' b' : F .f32) (inb1 : ∀ k, (![1] : Fin 1 → ℕ) k + S1.size k ≤ S2.size k)
    (inb0 : ∀ k, (![0] : Fin 1 → ℕ) k + S1.size k ≤ S2.size k) :
    (M.view.loc (T d) ↦{fullShare} M.view.writes (Elt F) f [⟨Rect.unit (s := S2) ![1] S1.size inb1, fun _ => b⟩, ⟨Rect.unit (s := S2) ![0] S1.size inb0, fun _ => a⟩,
      ⟨Rect.unit (s := S2) ![1] S1.size inb1, fun _ => b'⟩, ⟨Rect.unit (s := S2) ![0] S1.size inb0, fun _ => a'⟩] : sProp 𝕄)
      ⊢ pw d h (mk2 a b) :=
  pw_pair d h (M.view.writes (Elt F) f [⟨Rect.unit (s := S2) ![1] S1.size inb1, fun _ => b'⟩, ⟨Rect.unit (s := S2) ![0] S1.size inb0, fun _ => a'⟩]) a b inb1 inb0

/-- The buffer after a store of all of it. -/
theorem pw_whole (d : Dev nD) {sp : Space} {S : Shape} {e : EltTy} {M : Memref sig .tc sp S e} (h : M.IsWhole) (f : M.view.ty.Contents (Elt F)) (w : S.Idx → Elt F e) {off : Fin S.rank → ℕ}
    (inb : ∀ a, off a + S.size a ≤ S.size a) :
    (M.view.loc (T d) ↦{fullShare} M.view.writes (Elt F) f [⟨Rect.unit (s := S) off S.size inb, w⟩] : sProp 𝕄) ⊢ pw d h w := by
  rw [st_whole h f w inb]

/-- Where each of the eight columns lies in the block. -/
theorem col_inb (j : Fin 8) (k : Fin 4) : (![0, 0, j.val, 0] : Fin 4 → ℕ) k + S1x256x1x128.size k ≤ S1x256x8x128.size k := by
  have := j.isLt
  fin_cases k
  · exact Nat.le_refl 1
  · exact Nat.le_refl 256
  · show j.val + 1 ≤ 8
    omega
  · exact Nat.le_refl 128

end Cert.Proof.Span

end
-- ==== Proof.Loss2.lean ====
/-
  The second TensorCore pipeline: the candidate classifier's logits, its loss and the numbers of candidates, at one grid
  point over whole arrays.
-/
module

public import proofs.«01_k».proof.Proof.Region
public import proofs.«01_k».proof.Proof.Whole

@[expose] public section

noncomputable section

namespace Cert.Proof.Span

open Cert.KernelIdeal Cert.KernelIdeal.Gen

open Idealize.ShloMosaic Idealize.ShloMosaic.StableHlo
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 1) (Elt F) ℕ UU ℕ

/-- The body, run: the six inputs as they were, the three results at the body's values of the inputs. -/
theorem loss2_run (d : Dev nD)
    {M0 : Memref sig .tc .vmem S2048x128 .f32} (h0 : M0.IsWhole) {M1 : Memref sig .tc .vmem S128x10 .f32} (h1 : M1.IsWhole)
    {M2 : Memref sig .tc .vmem S1x10 .f32} (h2 : M2.IsWhole) {M3 : Memref sig .tc .vmem S2048x1 .i32} (h3 : M3.IsWhole)
    {M4 : Memref sig .tc .vmem S1x10 .f32} (h4 : M4.IsWhole) {M5 : Memref sig .tc .vmem S4x512 .i32} (h5 : M5.IsWhole)
    {M6 : Memref sig .tc .vmem S2048x10 .f32} (h6 : M6.IsWhole) {M7 : Memref sig .tc .vmem S1x1 .f32} (h7 : M7.IsWhole)
    {M8 : Memref sig .tc .vmem S4x1 .i32} (h8 : M8.IsWhole)
    (x0 : Vec F S2048x128 .f32) (x1 : Vec F S128x10 .f32) (x2 : Vec F S1x10 .f32) (x3 : Vec F S2048x1 .i32) (x4 : Vec F S1x10 .f32) (x5 : Vec F S4x512 .i32)
    (y6 : Vec F S2048x10 .f32) (y7 : Vec F S1x1 .f32) (y8 : Vec F S4x1 .i32) (E : Set ℕ) (Q : PUnit → sProp 𝕄) :
    iprop(ow d M0 x0 ∗ ow d M1 x1 ∗ ow d M2 x2 ∗ ow d M3 x3 ∗ ow d M4 x4 ∗ ow d M5 x5 ∗ ow d M6 y6 ∗ ow d M7 y7 ∗ ow d M8 y8
        ∗ (iprop(ow d M0 x0 ∗ ow d M1 x1 ∗ ow d M2 x2 ∗ ow d M3 x3 ∗ ow d M4 x4 ∗ ow d M5 x5 ∗ ow d M6 (k2_pay3 x0 x1 x2)
          ∗ ow d M7 (k2_pay1 (k2_pay5 x3 x4) (k2_pay6 x0 x1 x2 x3 x4)) ∗ ow d M8 (k2_pay2 x5)) -∗ Q ⟨⟩))
      ⊢ wp frame (wpE (defs₀ (F := F)) Variants.none (T d) none) E (cc2__loss2_body M0 h0 M1 h1 M2 h2 M3 h3 M4 h4 M5 h5 M6 h6 M7 h7 M8 h8) Q := by
  rw [cc2__loss2_body_eq_skeleton]
  unfold cc2__loss2_body_skel
  rw [k2_part1_eq_skeleton]
  unfold k2_part1_skel
  simp only [owns_pw d h0, owns_pw d h1, owns_pw d h2, owns_pw d h3, owns_pw d h4, owns_pw d h5, owns_pw d h6, owns_pw d h7, owns_pw d h8]
  iintro ⟨H0, H1, H2, H3, H4, H5, H6, H7, H8, Hk⟩
  sl_exec!
  sl_step
  iapply Hk
  isplitl [H0]; · iexact H0
  isplitl [H1]; · iexact H1
  isplitl [H2]; · iexact H2
  isplitl [H3]; · iexact H3
  isplitl [H4]; · iexact H4
  isplitl [H5]; · iexact H5
  unfold loss2_run.sl.H6_1 loss2_run.sl.H7_1 loss2_run.sl.H8_1
  rw [st_whole h6, st_whole h7, st_whole h8, ld_whole h0, ld_whole h1, ld_whole h2, ld_whole h3, ld_whole h4, ld_whole h5]
  isplitl [H6]; · iexact H6
  isplitl [H7]; · iexact H7
  iexact H8

/-! ## The proof data -/

section Data

variable (n : ℕ) (V : Dev nD → Valuation τ sig (Elt F))

/-! Each input window's block of its array, as fetched: the whole array. -/

abbrev stg2_0 (d : Dev nD) : Vec F S2048x128 .f32 := ((cfg2.win 0).blk t2_0).view.read (Elt F) (V d (dr main_v63))
abbrev stg2_1 (d : Dev nD) : Vec F S128x10 .f32 := ((cfg2.win 1).blk t2_0).view.read (Elt F) (V d (dr main_arg11))
abbrev stg2_2 (d : Dev nD) : Vec F S1x10 .f32 := ((cfg2.win 2).blk t2_0).view.read (Elt F) (V d (dr main_v64))
abbrev stg2_3 (d : Dev nD) : Vec F S2048x1 .i32 := ((cfg2.win 3).blk t2_0).view.read (Elt F) (V d (dr main_v65))
abbrev stg2_4 (d : Dev nD) : Vec F S1x10 .f32 := ((cfg2.win 4).blk t2_0).view.read (Elt F) (V d (dr main_v66))
abbrev stg2_5 (d : Dev nD) : Vec F S4x512 .i32 := ((cfg2.win 5).blk t2_0).view.read (Elt F) (V d (dr main_v30))

theorem stg2_0_eq (d : Dev nD) : stg2_0 V d = V d (dr main_v63) := funext fun x => congrArg (V d (dr main_v63)) (funext fun a => Fin.ext (by
  show 0 * _ + 1 * (x a).val = (x a).val
  omega))
theorem stg2_1_eq (d : Dev nD) : stg2_1 V d = V d (dr main_arg11) := funext fun x => congrArg (V d (dr main_arg11)) (funext fun a => Fin.ext (by
  show 0 * _ + 1 * (x a).val = (x a).val
  omega))
theorem stg2_2_eq (d : Dev nD) : stg2_2 V d = V d (dr main_v64) := funext fun x => congrArg (V d (dr main_v64)) (funext fun a => Fin.ext (by
  show 0 * _ + 1 * (x a).val = (x a).val
  omega))
theorem stg2_3_eq (d : Dev nD) : stg2_3 V d = V d (dr main_v65) := funext fun x => congrArg (V d (dr main_v65)) (funext fun a => Fin.ext (by
  show 0 * _ + 1 * (x a).val = (x a).val
  omega))
theorem stg2_4_eq (d : Dev nD) : stg2_4 V d = V d (dr main_v66) := funext fun x => congrArg (V d (dr main_v66)) (funext fun a => Fin.ext (by
  show 0 * _ + 1 * (x a).val = (x a).val
  omega))
theorem stg2_5_eq (d : Dev nD) : stg2_5 V d = V d (dr main_v30) := funext fun x => congrArg (V d (dr main_v30)) (funext fun a => Fin.ext (by
  show 0 * _ + 1 * (x a).val = (x a).val
  omega))

/-- The three results' contents. -/
abbrev lossLog (d : Dev nD) : Vec F S2048x10 .f32 := k2_pay3 (stg2_0 V d) (stg2_1 V d) (stg2_2 V d)
abbrev lossVal (d : Dev nD) : Vec F S1x1 .f32 := k2_pay1 (k2_pay5 (stg2_3 V d) (stg2_4 V d)) (k2_pay6 (stg2_0 V d) (stg2_1 V d) (stg2_2 V d) (stg2_3 V d) (stg2_4 V d))
abbrev lossNum (d : Dev nD) : Vec F S4x1 .i32 := k2_pay2 (stg2_5 V d)

/-- The arrays at the valuation; the inputs left as fetched, the results at the body's values. -/
def dat2 (d : Dev nD) : Dat τ (Elt F) (HIx 1) ℕ UU ℕ cfg2 d where
  A w := V d (dr (Pipeline.arrRef spec2 w))
  after w _ := match w with
    | ⟨0, _⟩ => stg2_0 V d
    | ⟨1, _⟩ => stg2_1 V d
    | ⟨2, _⟩ => stg2_2 V d
    | ⟨3, _⟩ => stg2_3 V d
    | ⟨4, _⟩ => stg2_4 V d
    | ⟨5, _⟩ => stg2_5 V d
    | ⟨6, _⟩ => lossLog V d
    | ⟨7, _⟩ => lossVal V d
    | ⟨8, _⟩ => lossNum V d
  Φ _ := Pipeline.scopedRest (Ix := HIx 1) (Name := ℕ) (U := UU) (Lvl := ℕ) (Val := Elt F) spec2 d
  q _ := fullShare
  owed _ := (K (F := F)).Otc d n
  recorded _ := recAt F n d

theorem before2_0 (d : Dev nD) (x) : (dat2 n V d).before 0 t2_0 x = stg2_0 V d := by
  unfold Pipeline.Dat.before
  rw [if_pos (by decide)]
  rfl
theorem before2_1 (d : Dev nD) (x) : (dat2 n V d).before 1 t2_0 x = stg2_1 V d := by
  unfold Pipeline.Dat.before
  rw [if_pos (by decide)]
  rfl
theorem before2_2 (d : Dev nD) (x) : (dat2 n V d).before 2 t2_0 x = stg2_2 V d := by
  unfold Pipeline.Dat.before
  rw [if_pos (by decide)]
  rfl
theorem before2_3 (d : Dev nD) (x) : (dat2 n V d).before 3 t2_0 x = stg2_3 V d := by
  unfold Pipeline.Dat.before
  rw [if_pos (by decide)]
  rfl
theorem before2_4 (d : Dev nD) (x) : (dat2 n V d).before 4 t2_0 x = stg2_4 V d := by
  unfold Pipeline.Dat.before
  rw [if_pos (by decide)]
  rfl
theorem before2_5 (d : Dev nD) (x) : (dat2 n V d).before 5 t2_0 x = stg2_5 V d := by
  unfold Pipeline.Dat.before
  rw [if_pos (by decide)]
  rfl

theorem body2 (d : Dev nD) : BodyObligation (dat2 n V d) (defs₀ (F := F)) 𝒱₀ none Set.univ := fun t => by
  obtain rfl := fin_N2 t
  rw [bigSep_W2, bigSep_W2]
  simp only [before2_0, before2_1, before2_2, before2_3,
    before2_4, before2_5]
  rw [show (dat2 n V d).Φ t2_0.succ = (dat2 n V d).Φ t2_0.castSucc from rfl, show (dat2 n V d).owesAt none t2_0.succ = (dat2 n V d).owesAt none t2_0.castSucc from rfl]
  iintro ⟨HΦ, Howes, ⟨%x0, H0⟩, ⟨%x1, H1⟩, ⟨%x2, H2⟩, ⟨%x3, H3⟩, ⟨%x4, H4⟩, ⟨%x5, H5⟩, ⟨%x6, H6⟩, ⟨%x7, H7⟩, ⟨%x8, H8⟩⟩
  iapply (loss2_run (F := F) d (hstage2_0 0) (hstage2_1 0) (hstage2_2 0) (hstage2_3 0) (hstage2_4 0) (hstage2_5 0) (hstage2_6 0) (hstage2_7 0) (hstage2_8 0)
    (stg2_0 V d) (stg2_1 V d) (stg2_2 V d) (stg2_3 V d) (stg2_4 V d) (stg2_5 V d) _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem enters2 : Enters n 1 V (dat2 n V) where
  kit := launch2
  body d := (body2 n V d).loose
  arr _ _ := rfl
  share _ _ := rfl
  owed _ _ := rfl
  recd _ _ := rfl
  first _ := rfl
  last _ := .rfl

/-! ## What the region leaves in the three result arrays -/

theorem left2_log (d : Dev nD) : Pipeline.afterRegion (dat2 n V d) (V d) (dr main_v67_0) = lossLog V d := by
  refine (Pipeline.afterRegion_arr (dat2 n V d) (V d) winFacts2.arr_inj 6).trans ?_
  have hblk : ∀ x, ((cfg2.win 6).blk t2_0).view.emb x = x := fun x => funext fun a => Fin.ext (by
    show 0 * _ + 1 * (x a).val = (x a).val
    omega)
  refine (dat2 n V d).arrAt_eq_of_cover 6 (lossLog V d) (fun t _ => ?_) fun i => ⟨t2_0, by decide, ?_⟩
  · obtain rfl := fin_N2 t
    refine funext fun x => ?_
    exact (congrArg (lossLog V d) (hblk x)).symm
  · have h := ((cfg2.win 6).blk t2_0).view.emb_mem_set i
    rw [hblk] at h
    exact h

theorem left2_val (d : Dev nD) : Pipeline.afterRegion (dat2 n V d) (V d) (dr main_v67_1) = lossVal V d := by
  refine (Pipeline.afterRegion_arr (dat2 n V d) (V d) winFacts2.arr_inj 7).trans ?_
  have hblk : ∀ x, ((cfg2.win 7).blk t2_0).view.emb x = x := fun x => funext fun a => Fin.ext (by
    show 0 * _ + 1 * (x a).val = (x a).val
    omega)
  refine (dat2 n V d).arrAt_eq_of_cover 7 (lossVal V d) (fun t _ => ?_) fun i => ⟨t2_0, by decide, ?_⟩
  · obtain rfl := fin_N2 t
    refine funext fun x => ?_
    exact (congrArg (lossVal V d) (hblk x)).symm
  · have h := ((cfg2.win 7).blk t2_0).view.emb_mem_set i
    rw [hblk] at h
    exact h

theorem left2_num (d : Dev nD) : Pipeline.afterRegion (dat2 n V d) (V d) (dr main_v67_2) = lossNum V d := by
  refine (Pipeline.afterRegion_arr (dat2 n V d) (V d) winFacts2.arr_inj 8).trans ?_
  have hblk : ∀ x, ((cfg2.win 8).blk t2_0).view.emb x = x := fun x => funext fun a => Fin.ext (by
    show 0 * _ + 1 * (x a).val = (x a).val
    omega)
  refine (dat2 n V d).arrAt_eq_of_cover 8 (lossNum V d) (fun t _ => ?_) fun i => ⟨t2_0, by decide, ?_⟩
  · obtain rfl := fin_N2 t
    refine funext fun x => ?_
    exact (congrArg (lossNum V d) (hblk x)).symm
  · have h := ((cfg2.win 8).blk t2_0).view.emb_mem_set i
    rw [hblk] at h
    exact h

end Data

end Cert.Proof.Span

end
-- ==== Proof.MainVal.lean ====
/-
  What the tagger's body computes at one grid point, as functions of the blocks it reads: the representation, the two
  logits, the detection, the terms of the loss, and, of the previous block's representation and this one's, the window sums
  and their classes.
-/
module

public import proofs.«01_k».proof.Proof.Whole
public import Idealize.ShloMosaic.Lib.Pointwise

@[expose] public section

noncomputable section

namespace Cert.Proof.Span

open Cert.KernelIdeal Cert.KernelIdeal.Gen

open Idealize.ShloMosaic Idealize.ShloMosaic.StableHlo
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

/-- The blocks of a grid point's inputs. -/
structure Blk (F : FTy → Type) where
  wrd : Vec F S1x256x128 .f32
  cnn : Vec F S1x256x128 .f32
  lab : Vec F S1x256x8 .i32
  wr1 : Vec F S128x128 .f32
  wr2 : Vec F S128x128 .f32
  br : Vec F S1x128 .f32
  wp0 : Vec F S128x8 .f32
  wp1 : Vec F S128x8 .f32
  b0 : Vec F S1x8 .f32
  b1 : Vec F S1x8 .f32
  wc : Vec F S128x10 .f32
  bc : Vec F S1x10 .f32

namespace Blk

variable (X : Blk F)

def rep : FVec F S256x128 .f32 := k0_pay187 X.wrd X.cnn X.wr1 X.wr2 X.br
def lg0 : FVec F S256x8 .f32 := k0_pay188 X.wrd X.cnn X.wr1 X.wr2 X.br X.wp0 X.b0
def out0 : Vec F S1x256x8 .f32 := k0_pay190 X.lg0
def out1 : Vec F S1x256x8 .f32 := k0_pay191 X.rep X.wp1 X.b1
def det : Vec F S1x256x8 .i32 := k0_pay192 X.rep X.lg0 X.wp1 X.b1
/-- The running sums after this block's terms. -/
def sum0 (a : F .f32) : F .f32 := k0_pay2 (k0_pay194 X.rep X.lg0 X.wp1 X.b1 X.lab) (k0_pay195 (F := F) X.lab) (k0_pay196 (F := F)) (k0_pay197 (F := F)) a
def sum1 (a : F .f32) : F .f32 := k0_pay3 (k0_pay195 (F := F) X.lab) (k0_pay196 (F := F)) (k0_pay197 (F := F)) a

/-- The first sequence positions of this block, those the previous block's windows reach into. -/
def ahd (c : BitVec 32) : FVec F S8x128 .f32 := k0_pay7 c X.rep

end Blk

section Windows

variable (p : FVec F S256x128 .f32) (b : FVec F S8x128 .f32) (e : IVec S256x1 32)

/-! The running window sums of width 2 to 7. -/

def ws1 : FVec F S256x128 .f32 := k0_pay22 p b
def ws2 : FVec F S256x128 .f32 := k0_pay50 p b (ws1 p b)
def ws3 : FVec F S256x128 .f32 := k0_pay64 p b (ws2 p b)
def ws4 : FVec F S256x128 .f32 := k0_pay94 p b (ws3 p b)
def ws5 : FVec F S256x128 .f32 := k0_pay110 p b (ws4 p b)
def ws6 : FVec F S256x128 .f32 := k0_pay141 p b (ws5 p b)

/-- The column of window representations of each width. -/
def anc (c : BitVec 32) : Fin 8 → FVec F S1x256x1x128 .f32
  | 0 => k0_pay10 c p
  | 1 => k0_pay24 (k0_pay23 p b e)
  | 2 => k0_pay52 p b e (ws1 p b)
  | 3 => k0_pay66 p b e (ws2 p b)
  | 4 => k0_pay96 p b e (ws3 p b)
  | 5 => k0_pay112 p b e (ws4 p b)
  | 6 => k0_pay143 p b e (ws5 p b)
  | 7 => k0_pay159 p b e (ws6 p b)

/-- The block of window representations. -/
def ancOut (c : BitVec 32) : Vec F S1x256x8x128 .f32 := fun i => anc p b e c (i 2) (ix4 0 (i 1) 0 (i 3))

variable (W : Vec F S128x10 .f32) (B : Vec F S1x10 .f32)

/-! The class of each window, by width. -/

def cl0 (c : BitVec 32) : IVec S256x1 32 := k0_pay21 (k0_pay11 c p W B) (k0_pay16 c p W B) (k0_pay18 c p W B) (k0_pay19 c p W B) k0_pay20
def cl1 : IVec S256x1 32 := k0_pay49 (k0_pay25 (k0_pay23 p b e) W B) (k0_pay47 (k0_pay23 p b e) W B) (k0_pay48 (k0_pay23 p b e) W B)
def cl2 : IVec S256x1 32 := k0_pay63 (k0_pay53 p b e (ws1 p b) W B) (k0_pay60 p b e (ws1 p b) W B) (k0_pay61 p b e (ws1 p b) W B) (k0_pay62 p b e (ws1 p b) W B)
def cl3 : IVec S256x1 32 := k0_pay93 (k0_pay67 (k0_pay65 p b e (ws2 p b)) W B) (k0_pay89 (k0_pay65 p b e (ws2 p b)) W B) (k0_pay90 (k0_pay65 p b e (ws2 p b)) W B)
  (k0_pay91 (k0_pay65 p b e (ws2 p b)) W B) (k0_pay92 (k0_pay65 p b e (ws2 p b)) W B)
def cl4 : IVec S256x1 32 := k0_pay109 (k0_pay97 p b e (ws3 p b) W B) (k0_pay105 p b e (ws3 p b) W B) (k0_pay107 p b e (ws3 p b) W B) (k0_pay108 p b e (ws3 p b) W B)
def cl5 : IVec S256x1 32 := k0_pay140 (k0_pay113 (k0_pay111 p b e (ws4 p b)) W B) (k0_pay136 (k0_pay111 p b e (ws4 p b)) W B) (k0_pay138 (k0_pay111 p b e (ws4 p b)) W B)
  (k0_pay139 (k0_pay111 p b e (ws4 p b)) W B) 8#32
def cl6 : IVec S256x1 32 := k0_pay157 (k0_pay144 p b e (ws5 p b) W B) (k0_pay152 p b e (ws5 p b) W B) (k0_pay154 p b e (ws5 p b) W B) (k0_pay155 p b e (ws5 p b) W B) k0_pay156

/-- The block of classes. -/
def clsOut (c : BitVec 32) : Vec F S1x256x8 .i32 :=
  k0_pay4 (cl0 p W B c) (cl1 p b e W B) (cl2 p b e W B) (cl3 p b e W B) (cl4 p b e W B) (cl5 p b e W B) (cl6 p b e W B)
    (k0_pay160 (k0_pay158 p b e (ws6 p b)) W B) (k0_pay185 (k0_pay158 p b e (ws6 p b)) W B) (k0_pay186 (k0_pay158 p b e (ws6 p b)) W B)

end Windows

/-! ## The conditions of the body's branches -/

/-- The first grid point. -/
def cnd1 (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32

/-- A grid point with a block of its own. -/
def cnd2 (i : grid0.Coords) : BitVec 1 :=
  Scalar.cmpi .ne (Scalar.extui (Scalar.cmpi .slt (BitVec.ofNat 32 (i 1).val) 8#32) : BitVec 32) 0#32

/-- The grid point's second coordinate as a word. -/
def cw (i : grid0.Coords) : BitVec 32 := BitVec.ofNat 32 (i 1).val

end Cert.Proof.Span

end
-- ==== Proof.MainRun.lean ====
/-
  The tagger's body, run at each kind of grid point: what it leaves in every buffer.
-/
module

public import proofs.«01_k».proof.Proof.Region
public import proofs.«01_k».proof.Proof.Whole
public import proofs.«01_k».proof.Proof.MainVal

@[expose] public section

noncomputable section

namespace Cert.Proof.Span

open Cert.KernelIdeal Cert.KernelIdeal.Gen

open Idealize.ShloMosaic Idealize.ShloMosaic.StableHlo
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 1) (Elt F) ℕ UU ℕ

set_option maxHeartbeats 4000000 in
/-- The body at the first point. The inputs as they were, the block's logits and detections, its representation kept for the next point, and the sums of this block alone. -/
theorem main_first (d : Dev nD) (i : grid0.Coords)
    {M2 : Memref sig .tc .vmem S1x256x128 .f32} (h2 : M2.IsWhole)
    {M3 : Memref sig .tc .vmem S1x256x128 .f32} (h3 : M3.IsWhole)
    {M4 : Memref sig .tc .vmem S1x256x8 .i32} (h4 : M4.IsWhole)
    {M5 : Memref sig .tc .vmem S128x128 .f32} (h5 : M5.IsWhole)
    {M6 : Memref sig .tc .vmem S128x128 .f32} (h6 : M6.IsWhole)
    {M7 : Memref sig .tc .vmem S1x128 .f32} (h7 : M7.IsWhole)
    {M8 : Memref sig .tc .vmem S128x8 .f32} (h8 : M8.IsWhole)
    {M9 : Memref sig .tc .vmem S128x8 .f32} (h9 : M9.IsWhole)
    {M10 : Memref sig .tc .vmem S1x8 .f32} (h10 : M10.IsWhole)
    {M11 : Memref sig .tc .vmem S1x8 .f32} (h11 : M11.IsWhole)
    {M12 : Memref sig .tc .vmem S128x10 .f32} (h12 : M12.IsWhole)
    {M13 : Memref sig .tc .vmem S1x10 .f32} (h13 : M13.IsWhole)
    {M14 : Memref sig .tc .vmem S1x256x8x128 .f32} (h14 : M14.IsWhole)
    {M15 : Memref sig .tc .vmem S1x256x8 .f32} (h15 : M15.IsWhole)
    {M16 : Memref sig .tc .vmem S1x256x8 .f32} (h16 : M16.IsWhole)
    {M17 : Memref sig .tc .vmem S1x256x8 .i32} (h17 : M17.IsWhole)
    {M18 : Memref sig .tc .vmem S1x256x8 .i32} (h18 : M18.IsWhole)
    {M19 : Memref sig .tc .vmem S1x1 .f32} (h19 : M19.IsWhole)
    {M20 : Memref sig .tc .vmem S256x128 .f32} (h20 : M20.IsWhole)
    {M21 : Memref sig .tc .smem S2 .f32} (h21 : M21.IsWhole)
    (X : Blk F) (y14 : Vec F S1x256x8x128 .f32) (y15 : Vec F S1x256x8 .f32) (y16 : Vec F S1x256x8 .f32) (y17 : Vec F S1x256x8 .i32) (y18 : Vec F S1x256x8 .i32) (y19 : Vec F S1x1 .f32) (y20 : Vec F S256x128 .f32) (a0 a1 : F .f32)
    (g1 : cnd1 i = 1#1) (g2 : cnd2 i = 1#1) (g3 : ¬ k0_cond3 i = 1#1) (g4 : ¬ k0_cond4 i = 1#1) (E : Set ℕ) (Q : PUnit → sProp 𝕄) :
    iprop(ow d M2 X.wrd ∗ ow d M3 X.cnn ∗ ow d M4 X.lab ∗ ow d M5 X.wr1 ∗ ow d M6 X.wr2 ∗ ow d M7 X.br ∗ ow d M8 X.wp0 ∗ ow d M9 X.wp1 ∗ ow d M10 X.b0 ∗ ow d M11 X.b1 ∗ ow d M12 X.wc ∗ ow d M13 X.bc
      ∗ ow d M14 y14 ∗ ow d M15 y15 ∗ ow d M16 y16 ∗ ow d M17 y17 ∗ ow d M18 y18 ∗ ow d M19 y19 ∗ ow d M20 y20 ∗ ow d M21 (mk2 a0 a1)
      ∗ (iprop(ow d M2 X.wrd ∗ ow d M3 X.cnn ∗ ow d M4 X.lab ∗ ow d M5 X.wr1 ∗ ow d M6 X.wr2 ∗ ow d M7 X.br ∗ ow d M8 X.wp0 ∗ ow d M9 X.wp1 ∗ ow d M10 X.b0 ∗ ow d M11 X.b1 ∗ ow d M12 X.wc ∗ ow d M13 X.bc
      ∗ ow d M14 y14 ∗ ow d M15 X.out0 ∗ ow d M16 X.out1 ∗ ow d M17 X.det ∗ ow d M18 y18 ∗ ow d M19 y19 ∗ ow d M20 (k0_pay5 X.rep) ∗ ow d M21 (mk2 (X.sum0 (FloatOps.ofBits .f32 0#32)) (X.sum1 (FloatOps.ofBits .f32 0#32)))) -∗ Q ⟨⟩))
      ⊢ wp frame (wpE (defs₀ (F := F)) Variants.none (T d) none) E (cc0__main_body i M2 h2 M3 h3 M4 h4 M5 h5 M6 h6 M7 h7 M8 h8 M9 h9 M10 h10 M11 h11 M12 h12 M13 h13 M14 h14 M15 h15 M16 h16 M17 h17 M18 h18 M19 h19 M20 h20 M21 h21) Q := by
  rw [cc0__main_body_eq_skeleton]
  unfold cc0__main_body_skel
  rw [k0_part13_eq_skeleton]
  rw [k0_part14_eq_skeleton]
  rw [k0_part1_eq_skeleton]
  rw [k0_part2_eq_skeleton]
  rw [k0_part3_eq_skeleton]
  rw [k0_part4_eq_skeleton]
  rw [k0_part5_eq_skeleton]
  rw [k0_part6_eq_skeleton]
  rw [k0_part7_eq_skeleton]
  rw [k0_part8_eq_skeleton]
  rw [k0_part9_eq_skeleton]
  rw [k0_part10_eq_skeleton]
  rw [k0_part11_eq_skeleton]
  rw [k0_part12_eq_skeleton]
  unfold k0_part13_skel k0_part14_skel k0_part1_skel k0_part2_skel k0_part3_skel k0_part4_skel k0_part5_skel k0_part6_skel k0_part7_skel k0_part8_skel k0_part9_skel k0_part10_skel k0_part11_skel k0_part12_skel
  unfold cnd1 at g1
  unfold cnd2 at g2
  simp only [owns_pw d h2, owns_pw d h3, owns_pw d h4, owns_pw d h5, owns_pw d h6, owns_pw d h7, owns_pw d h8, owns_pw d h9, owns_pw d h10, owns_pw d h11, owns_pw d h12, owns_pw d h13, owns_pw d h14, owns_pw d h15, owns_pw d h16, owns_pw d h17, owns_pw d h18, owns_pw d h19, owns_pw d h20, owns_pw d h21]
  iintro ⟨H2, H3, H4, H5, H6, H7, H8, H9, H10, H11, H12, H13, H14, H15, H16, H17, H18, H19, H20, H21, Hk⟩
  sl_exec!
  sl_step
  iapply Hk
  have e2 : View.readAt (Elt F) M2.view (Rect.unit (s := S1x256x128) ![0, 0, 0] S1x256x128.size inb_S1x256x128_S1x256x128_0_0_0).toLoadRect (h2.unread X.wrd) = X.wrd := ld_whole h2 _ _
  have e3 : View.readAt (Elt F) M3.view (Rect.unit (s := S1x256x128) ![0, 0, 0] S1x256x128.size inb_S1x256x128_S1x256x128_0_0_0).toLoadRect (h3.unread X.cnn) = X.cnn := ld_whole h3 _ _
  have e4 : View.readAt (Elt F) M4.view (Rect.unit (s := S1x256x8) ![0, 0, 0] S1x256x8.size inb_S1x256x8_S1x256x8_0_0_0).toLoadRect (h4.unread X.lab) = X.lab := ld_whole h4 _ _
  have e5 : View.readAt (Elt F) M5.view (Rect.unit (s := S128x128) ![0, 0] S128x128.size inb_S128x128_S128x128_0_0).toLoadRect (h5.unread X.wr1) = X.wr1 := ld_whole h5 _ _
  have e6 : View.readAt (Elt F) M6.view (Rect.unit (s := S128x128) ![0, 0] S128x128.size inb_S128x128_S128x128_0_0).toLoadRect (h6.unread X.wr2) = X.wr2 := ld_whole h6 _ _
  have e7 : View.readAt (Elt F) M7.view (Rect.unit (s := S1x128) ![0, 0] S1x128.size inb_S1x128_S1x128_0_0).toLoadRect (h7.unread X.br) = X.br := ld_whole h7 _ _
  have e8 : View.readAt (Elt F) M8.view (Rect.unit (s := S128x8) ![0, 0] S128x8.size inb_S128x8_S128x8_0_0).toLoadRect (h8.unread X.wp0) = X.wp0 := ld_whole h8 _ _
  have e9 : View.readAt (Elt F) M9.view (Rect.unit (s := S128x8) ![0, 0] S128x8.size inb_S128x8_S128x8_0_0).toLoadRect (h9.unread X.wp1) = X.wp1 := ld_whole h9 _ _
  have e10 : View.readAt (Elt F) M10.view (Rect.unit (s := S1x8) ![0, 0] S1x8.size inb_S1x8_S1x8_0_0).toLoadRect (h10.unread X.b0) = X.b0 := ld_whole h10 _ _
  have e11 : View.readAt (Elt F) M11.view (Rect.unit (s := S1x8) ![0, 0] S1x8.size inb_S1x8_S1x8_0_0).toLoadRect (h11.unread X.b1) = X.b1 := ld_whole h11 _ _
  unfold main_first.sl.H15_1 main_first.sl.H16_1 main_first.sl.H17_1 main_first.sl.H20_1 main_first.sl.H21_4 main_first.sl.r_2
  try dsimp only
  rw [e2, e3, e4, e5, e6, e7, e8, e9, e10, e11]
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]
  · iapply pw_whole d h15 M15.view.junk X.out0
    iexact H15
  isplitl [H16]
  · iapply pw_whole d h16 M16.view.junk X.out1
    iexact H16
  isplitl [H17]
  · iapply pw_whole d h17 M17.view.junk X.det
    iexact H17
  isplitl [H18]; · iexact H18
  isplitl [H19]; · iexact H19
  isplitl [H20]
  · iapply pw_whole d h20 M20.view.junk (k0_pay5 X.rep)
    iexact H20
  iapply pw_four d h21 M21.view.junk
  iexact H21

set_option maxHeartbeats 4000000 in
/-- The body at a row's first point, but the first. The inputs as they were, the block's logits and detections, its representation kept for the next point, and the sums with this block's terms. -/
theorem main_start (d : Dev nD) (i : grid0.Coords)
    {M2 : Memref sig .tc .vmem S1x256x128 .f32} (h2 : M2.IsWhole)
    {M3 : Memref sig .tc .vmem S1x256x128 .f32} (h3 : M3.IsWhole)
    {M4 : Memref sig .tc .vmem S1x256x8 .i32} (h4 : M4.IsWhole)
    {M5 : Memref sig .tc .vmem S128x128 .f32} (h5 : M5.IsWhole)
    {M6 : Memref sig .tc .vmem S128x128 .f32} (h6 : M6.IsWhole)
    {M7 : Memref sig .tc .vmem S1x128 .f32} (h7 : M7.IsWhole)
    {M8 : Memref sig .tc .vmem S128x8 .f32} (h8 : M8.IsWhole)
    {M9 : Memref sig .tc .vmem S128x8 .f32} (h9 : M9.IsWhole)
    {M10 : Memref sig .tc .vmem S1x8 .f32} (h10 : M10.IsWhole)
    {M11 : Memref sig .tc .vmem S1x8 .f32} (h11 : M11.IsWhole)
    {M12 : Memref sig .tc .vmem S128x10 .f32} (h12 : M12.IsWhole)
    {M13 : Memref sig .tc .vmem S1x10 .f32} (h13 : M13.IsWhole)
    {M14 : Memref sig .tc .vmem S1x256x8x128 .f32} (h14 : M14.IsWhole)
    {M15 : Memref sig .tc .vmem S1x256x8 .f32} (h15 : M15.IsWhole)
    {M16 : Memref sig .tc .vmem S1x256x8 .f32} (h16 : M16.IsWhole)
    {M17 : Memref sig .tc .vmem S1x256x8 .i32} (h17 : M17.IsWhole)
    {M18 : Memref sig .tc .vmem S1x256x8 .i32} (h18 : M18.IsWhole)
    {M19 : Memref sig .tc .vmem S1x1 .f32} (h19 : M19.IsWhole)
    {M20 : Memref sig .tc .vmem S256x128 .f32} (h20 : M20.IsWhole)
    {M21 : Memref sig .tc .smem S2 .f32} (h21 : M21.IsWhole)
    (X : Blk F) (y14 : Vec F S1x256x8x128 .f32) (y15 : Vec F S1x256x8 .f32) (y16 : Vec F S1x256x8 .f32) (y17 : Vec F S1x256x8 .i32) (y18 : Vec F S1x256x8 .i32) (y19 : Vec F S1x1 .f32) (y20 : Vec F S256x128 .f32) (a0 a1 : F .f32)
    (g1 : ¬ cnd1 i = 1#1) (g2 : cnd2 i = 1#1) (g3 : ¬ k0_cond3 i = 1#1) (g4 : ¬ k0_cond4 i = 1#1) (E : Set ℕ) (Q : PUnit → sProp 𝕄) :
    iprop(ow d M2 X.wrd ∗ ow d M3 X.cnn ∗ ow d M4 X.lab ∗ ow d M5 X.wr1 ∗ ow d M6 X.wr2 ∗ ow d M7 X.br ∗ ow d M8 X.wp0 ∗ ow d M9 X.wp1 ∗ ow d M10 X.b0 ∗ ow d M11 X.b1 ∗ ow d M12 X.wc ∗ ow d M13 X.bc
      ∗ ow d M14 y14 ∗ ow d M15 y15 ∗ ow d M16 y16 ∗ ow d M17 y17 ∗ ow d M18 y18 ∗ ow d M19 y19 ∗ ow d M20 y20 ∗ ow d M21 (mk2 a0 a1)
      ∗ (iprop(ow d M2 X.wrd ∗ ow d M3 X.cnn ∗ ow d M4 X.lab ∗ ow d M5 X.wr1 ∗ ow d M6 X.wr2 ∗ ow d M7 X.br ∗ ow d M8 X.wp0 ∗ ow d M9 X.wp1 ∗ ow d M10 X.b0 ∗ ow d M11 X.b1 ∗ ow d M12 X.wc ∗ ow d M13 X.bc
      ∗ ow d M14 y14 ∗ ow d M15 X.out0 ∗ ow d M16 X.out1 ∗ ow d M17 X.det ∗ ow d M18 y18 ∗ ow d M19 y19 ∗ ow d M20 (k0_pay5 X.rep) ∗ ow d M21 (mk2 (X.sum0 a0) (X.sum1 a1))) -∗ Q ⟨⟩))
      ⊢ wp frame (wpE (defs₀ (F := F)) Variants.none (T d) none) E (cc0__main_body i M2 h2 M3 h3 M4 h4 M5 h5 M6 h6 M7 h7 M8 h8 M9 h9 M10 h10 M11 h11 M12 h12 M13 h13 M14 h14 M15 h15 M16 h16 M17 h17 M18 h18 M19 h19 M20 h20 M21 h21) Q := by
  rw [cc0__main_body_eq_skeleton]
  unfold cc0__main_body_skel
  rw [k0_part13_eq_skeleton]
  rw [k0_part14_eq_skeleton]
  rw [k0_part1_eq_skeleton]
  rw [k0_part2_eq_skeleton]
  rw [k0_part3_eq_skeleton]
  rw [k0_part4_eq_skeleton]
  rw [k0_part5_eq_skeleton]
  rw [k0_part6_eq_skeleton]
  rw [k0_part7_eq_skeleton]
  rw [k0_part8_eq_skeleton]
  rw [k0_part9_eq_skeleton]
  rw [k0_part10_eq_skeleton]
  rw [k0_part11_eq_skeleton]
  rw [k0_part12_eq_skeleton]
  unfold k0_part13_skel k0_part14_skel k0_part1_skel k0_part2_skel k0_part3_skel k0_part4_skel k0_part5_skel k0_part6_skel k0_part7_skel k0_part8_skel k0_part9_skel k0_part10_skel k0_part11_skel k0_part12_skel
  unfold cnd1 at g1
  unfold cnd2 at g2
  simp only [owns_pw d h2, owns_pw d h3, owns_pw d h4, owns_pw d h5, owns_pw d h6, owns_pw d h7, owns_pw d h8, owns_pw d h9, owns_pw d h10, owns_pw d h11, owns_pw d h12, owns_pw d h13, owns_pw d h14, owns_pw d h15, owns_pw d h16, owns_pw d h17, owns_pw d h18, owns_pw d h19, owns_pw d h20, owns_pw d h21]
  iintro ⟨H2, H3, H4, H5, H6, H7, H8, H9, H10, H11, H12, H13, H14, H15, H16, H17, H18, H19, H20, H21, Hk⟩
  sl_exec!
  sl_step
  iapply Hk
  have e2 : View.readAt (Elt F) M2.view (Rect.unit (s := S1x256x128) ![0, 0, 0] S1x256x128.size inb_S1x256x128_S1x256x128_0_0_0).toLoadRect (h2.unread X.wrd) = X.wrd := ld_whole h2 _ _
  have e3 : View.readAt (Elt F) M3.view (Rect.unit (s := S1x256x128) ![0, 0, 0] S1x256x128.size inb_S1x256x128_S1x256x128_0_0_0).toLoadRect (h3.unread X.cnn) = X.cnn := ld_whole h3 _ _
  have e4 : View.readAt (Elt F) M4.view (Rect.unit (s := S1x256x8) ![0, 0, 0] S1x256x8.size inb_S1x256x8_S1x256x8_0_0_0).toLoadRect (h4.unread X.lab) = X.lab := ld_whole h4 _ _
  have e5 : View.readAt (Elt F) M5.view (Rect.unit (s := S128x128) ![0, 0] S128x128.size inb_S128x128_S128x128_0_0).toLoadRect (h5.unread X.wr1) = X.wr1 := ld_whole h5 _ _
  have e6 : View.readAt (Elt F) M6.view (Rect.unit (s := S128x128) ![0, 0] S128x128.size inb_S128x128_S128x128_0_0).toLoadRect (h6.unread X.wr2) = X.wr2 := ld_whole h6 _ _
  have e7 : View.readAt (Elt F) M7.view (Rect.unit (s := S1x128) ![0, 0] S1x128.size inb_S1x128_S1x128_0_0).toLoadRect (h7.unread X.br) = X.br := ld_whole h7 _ _
  have e8 : View.readAt (Elt F) M8.view (Rect.unit (s := S128x8) ![0, 0] S128x8.size inb_S128x8_S128x8_0_0).toLoadRect (h8.unread X.wp0) = X.wp0 := ld_whole h8 _ _
  have e9 : View.readAt (Elt F) M9.view (Rect.unit (s := S128x8) ![0, 0] S128x8.size inb_S128x8_S128x8_0_0).toLoadRect (h9.unread X.wp1) = X.wp1 := ld_whole h9 _ _
  have e10 : View.readAt (Elt F) M10.view (Rect.unit (s := S1x8) ![0, 0] S1x8.size inb_S1x8_S1x8_0_0).toLoadRect (h10.unread X.b0) = X.b0 := ld_whole h10 _ _
  have e11 : View.readAt (Elt F) M11.view (Rect.unit (s := S1x8) ![0, 0] S1x8.size inb_S1x8_S1x8_0_0).toLoadRect (h11.unread X.b1) = X.b1 := ld_whole h11 _ _
  have ea : View.readAt (Elt F) M21.view (Rect.unit (s := S2) ![0] S1.size inb_S2_S1_0).toLoadRect (h21.unread (mk2 a0 a1)) = fun _ => a0 := funext fun x => ld_fst h21 a0 a1 _ x
  have eb : View.readAt (Elt F) M21.view (Rect.unit (s := S2) ![1] S1.size inb_S2_S1_1).toLoadRect (h21.unread (mk2 a0 a1)) = fun _ => a1 := funext fun x => ld_snd h21 a0 a1 _ x
  unfold main_start.sl.H15_1 main_start.sl.H16_1 main_start.sl.H17_1 main_start.sl.H20_1 main_start.sl.H21_2 main_start.sl.r_1 main_start.sl.r main_start.sl.f
  try dsimp only
  rw [e2, e3, e4, e5, e6, e7, e8, e9, e10, e11, ea, eb]
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]
  · iapply pw_whole d h15 M15.view.junk X.out0
    iexact H15
  isplitl [H16]
  · iapply pw_whole d h16 M16.view.junk X.out1
    iexact H16
  isplitl [H17]
  · iapply pw_whole d h17 M17.view.junk X.det
    iexact H17
  isplitl [H18]; · iexact H18
  isplitl [H19]; · iexact H19
  isplitl [H20]
  · iapply pw_whole d h20 M20.view.junk (k0_pay5 X.rep)
    iexact H20
  iapply pw_pair d h21 M21.view.junk
  iexact H21

set_option maxHeartbeats 4000000 in
/-- The body at a row's later points. The inputs as they were, the block's logits and detections, its representation kept for the next point, the sums with this block's terms, and the windows and their classes of the block before. -/
theorem main_mid (d : Dev nD) (i : grid0.Coords)
    {M2 : Memref sig .tc .vmem S1x256x128 .f32} (h2 : M2.IsWhole)
    {M3 : Memref sig .tc .vmem S1x256x128 .f32} (h3 : M3.IsWhole)
    {M4 : Memref sig .tc .vmem S1x256x8 .i32} (h4 : M4.IsWhole)
    {M5 : Memref sig .tc .vmem S128x128 .f32} (h5 : M5.IsWhole)
    {M6 : Memref sig .tc .vmem S128x128 .f32} (h6 : M6.IsWhole)
    {M7 : Memref sig .tc .vmem S1x128 .f32} (h7 : M7.IsWhole)
    {M8 : Memref sig .tc .vmem S128x8 .f32} (h8 : M8.IsWhole)
    {M9 : Memref sig .tc .vmem S128x8 .f32} (h9 : M9.IsWhole)
    {M10 : Memref sig .tc .vmem S1x8 .f32} (h10 : M10.IsWhole)
    {M11 : Memref sig .tc .vmem S1x8 .f32} (h11 : M11.IsWhole)
    {M12 : Memref sig .tc .vmem S128x10 .f32} (h12 : M12.IsWhole)
    {M13 : Memref sig .tc .vmem S1x10 .f32} (h13 : M13.IsWhole)
    {M14 : Memref sig .tc .vmem S1x256x8x128 .f32} (h14 : M14.IsWhole)
    {M15 : Memref sig .tc .vmem S1x256x8 .f32} (h15 : M15.IsWhole)
    {M16 : Memref sig .tc .vmem S1x256x8 .f32} (h16 : M16.IsWhole)
    {M17 : Memref sig .tc .vmem S1x256x8 .i32} (h17 : M17.IsWhole)
    {M18 : Memref sig .tc .vmem S1x256x8 .i32} (h18 : M18.IsWhole)
    {M19 : Memref sig .tc .vmem S1x1 .f32} (h19 : M19.IsWhole)
    {M20 : Memref sig .tc .vmem S256x128 .f32} (h20 : M20.IsWhole)
    {M21 : Memref sig .tc .smem S2 .f32} (h21 : M21.IsWhole)
    (X : Blk F) (y14 : Vec F S1x256x8x128 .f32) (y15 : Vec F S1x256x8 .f32) (y16 : Vec F S1x256x8 .f32) (y17 : Vec F S1x256x8 .i32) (y18 : Vec F S1x256x8 .i32) (y19 : Vec F S1x1 .f32) (y20 : Vec F S256x128 .f32) (a0 a1 : F .f32)
    (g1 : ¬ cnd1 i = 1#1) (g2 : cnd2 i = 1#1) (g3 : k0_cond3 i = 1#1) (g4 : ¬ k0_cond4 i = 1#1) (E : Set ℕ) (Q : PUnit → sProp 𝕄) :
    iprop(ow d M2 X.wrd ∗ ow d M3 X.cnn ∗ ow d M4 X.lab ∗ ow d M5 X.wr1 ∗ ow d M6 X.wr2 ∗ ow d M7 X.br ∗ ow d M8 X.wp0 ∗ ow d M9 X.wp1 ∗ ow d M10 X.b0 ∗ ow d M11 X.b1 ∗ ow d M12 X.wc ∗ ow d M13 X.bc
      ∗ ow d M14 y14 ∗ ow d M15 y15 ∗ ow d M16 y16 ∗ ow d M17 y17 ∗ ow d M18 y18 ∗ ow d M19 y19 ∗ ow d M20 y20 ∗ ow d M21 (mk2 a0 a1)
      ∗ (iprop(ow d M2 X.wrd ∗ ow d M3 X.cnn ∗ ow d M4 X.lab ∗ ow d M5 X.wr1 ∗ ow d M6 X.wr2 ∗ ow d M7 X.br ∗ ow d M8 X.wp0 ∗ ow d M9 X.wp1 ∗ ow d M10 X.b0 ∗ ow d M11 X.b1 ∗ ow d M12 X.wc ∗ ow d M13 X.bc
      ∗ ow d M14 (ancOut y20 (X.ahd (cw i)) (k0_pay8 (cw i)) (cw i)) ∗ ow d M15 X.out0 ∗ ow d M16 X.out1 ∗ ow d M17 X.det ∗ ow d M18 (clsOut y20 (X.ahd (cw i)) (k0_pay8 (cw i)) X.wc X.bc (cw i)) ∗ ow d M19 y19 ∗ ow d M20 (k0_pay5 X.rep) ∗ ow d M21 (mk2 (X.sum0 a0) (X.sum1 a1))) -∗ Q ⟨⟩))
      ⊢ wp frame (wpE (defs₀ (F := F)) Variants.none (T d) none) E (cc0__main_body i M2 h2 M3 h3 M4 h4 M5 h5 M6 h6 M7 h7 M8 h8 M9 h9 M10 h10 M11 h11 M12 h12 M13 h13 M14 h14 M15 h15 M16 h16 M17 h17 M18 h18 M19 h19 M20 h20 M21 h21) Q := by
  rw [cc0__main_body_eq_skeleton]
  unfold cc0__main_body_skel
  rw [k0_part13_eq_skeleton]
  rw [k0_part14_eq_skeleton]
  rw [k0_part1_eq_skeleton]
  rw [k0_part2_eq_skeleton]
  rw [k0_part3_eq_skeleton]
  rw [k0_part4_eq_skeleton]
  rw [k0_part5_eq_skeleton]
  rw [k0_part6_eq_skeleton]
  rw [k0_part7_eq_skeleton]
  rw [k0_part8_eq_skeleton]
  rw [k0_part9_eq_skeleton]
  rw [k0_part10_eq_skeleton]
  rw [k0_part11_eq_skeleton]
  rw [k0_part12_eq_skeleton]
  unfold k0_part13_skel k0_part14_skel k0_part1_skel k0_part2_skel k0_part3_skel k0_part4_skel k0_part5_skel k0_part6_skel k0_part7_skel k0_part8_skel k0_part9_skel k0_part10_skel k0_part11_skel k0_part12_skel
  unfold cnd1 at g1
  unfold cnd2 at g2
  simp only [owns_pw d h2, owns_pw d h3, owns_pw d h4, owns_pw d h5, owns_pw d h6, owns_pw d h7, owns_pw d h8, owns_pw d h9, owns_pw d h10, owns_pw d h11, owns_pw d h12, owns_pw d h13, owns_pw d h14, owns_pw d h15, owns_pw d h16, owns_pw d h17, owns_pw d h18, owns_pw d h19, owns_pw d h20, owns_pw d h21]
  iintro ⟨H2, H3, H4, H5, H6, H7, H8, H9, H10, H11, H12, H13, H14, H15, H16, H17, H18, H19, H20, H21, Hk⟩
  sl_exec!
  sl_step
  iapply Hk
  have e2 : View.readAt (Elt F) M2.view (Rect.unit (s := S1x256x128) ![0, 0, 0] S1x256x128.size inb_S1x256x128_S1x256x128_0_0_0).toLoadRect (h2.unread X.wrd) = X.wrd := ld_whole h2 _ _
  have e3 : View.readAt (Elt F) M3.view (Rect.unit (s := S1x256x128) ![0, 0, 0] S1x256x128.size inb_S1x256x128_S1x256x128_0_0_0).toLoadRect (h3.unread X.cnn) = X.cnn := ld_whole h3 _ _
  have e4 : View.readAt (Elt F) M4.view (Rect.unit (s := S1x256x8) ![0, 0, 0] S1x256x8.size inb_S1x256x8_S1x256x8_0_0_0).toLoadRect (h4.unread X.lab) = X.lab := ld_whole h4 _ _
  have e5 : View.readAt (Elt F) M5.view (Rect.unit (s := S128x128) ![0, 0] S128x128.size inb_S128x128_S128x128_0_0).toLoadRect (h5.unread X.wr1) = X.wr1 := ld_whole h5 _ _
  have e6 : View.readAt (Elt F) M6.view (Rect.unit (s := S128x128) ![0, 0] S128x128.size inb_S128x128_S128x128_0_0).toLoadRect (h6.unread X.wr2) = X.wr2 := ld_whole h6 _ _
  have e7 : View.readAt (Elt F) M7.view (Rect.unit (s := S1x128) ![0, 0] S1x128.size inb_S1x128_S1x128_0_0).toLoadRect (h7.unread X.br) = X.br := ld_whole h7 _ _
  have e8 : View.readAt (Elt F) M8.view (Rect.unit (s := S128x8) ![0, 0] S128x8.size inb_S128x8_S128x8_0_0).toLoadRect (h8.unread X.wp0) = X.wp0 := ld_whole h8 _ _
  have e9 : View.readAt (Elt F) M9.view (Rect.unit (s := S128x8) ![0, 0] S128x8.size inb_S128x8_S128x8_0_0).toLoadRect (h9.unread X.wp1) = X.wp1 := ld_whole h9 _ _
  have e10 : View.readAt (Elt F) M10.view (Rect.unit (s := S1x8) ![0, 0] S1x8.size inb_S1x8_S1x8_0_0).toLoadRect (h10.unread X.b0) = X.b0 := ld_whole h10 _ _
  have e11 : View.readAt (Elt F) M11.view (Rect.unit (s := S1x8) ![0, 0] S1x8.size inb_S1x8_S1x8_0_0).toLoadRect (h11.unread X.b1) = X.b1 := ld_whole h11 _ _
  have e12 : View.readAt (Elt F) M12.view (Rect.unit (s := S128x10) ![0, 0] S128x10.size inb_S128x10_S128x10_0_0).toLoadRect (h12.unread X.wc) = X.wc := ld_whole h12 _ _
  have e13 : View.readAt (Elt F) M13.view (Rect.unit (s := S1x10) ![0, 0] S1x10.size inb_S1x10_S1x10_0_0).toLoadRect (h13.unread X.bc) = X.bc := ld_whole h13 _ _
  have e20 : View.readAt (Elt F) M20.view (Rect.unit (s := S256x128) ![0, 0] S256x128.size inb_S256x128_S256x128_0_0).toLoadRect (h20.unread y20) = y20 := ld_whole h20 _ _
  have ea : View.readAt (Elt F) M21.view (Rect.unit (s := S2) ![0] S1.size inb_S2_S1_0).toLoadRect (h21.unread (mk2 a0 a1)) = fun _ => a0 := funext fun x => ld_fst h21 a0 a1 _ x
  have eb : View.readAt (Elt F) M21.view (Rect.unit (s := S2) ![1] S1.size inb_S2_S1_1).toLoadRect (h21.unread (mk2 a0 a1)) = fun _ => a1 := funext fun x => ld_snd h21 a0 a1 _ x
  unfold main_mid.sl.H14_8 main_mid.sl.H15_1 main_mid.sl.H16_1 main_mid.sl.H17_1 main_mid.sl.H18_1 main_mid.sl.H20_1 main_mid.sl.H21_2 main_mid.sl.r_1 main_mid.sl.r main_mid.sl.f
  try dsimp only
  rw [e2, e3, e4, e5, e6, e7, e8, e9, e10, e11, e12, e13, e20, ea, eb]
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · iapply pw_cols d h14 M14.view.junk (anc y20 (X.ahd (cw i)) (k0_pay8 (cw i)) (cw i)) col_inb
    iexact H14
  isplitl [H15]
  · iapply pw_whole d h15 M15.view.junk X.out0
    iexact H15
  isplitl [H16]
  · iapply pw_whole d h16 M16.view.junk X.out1
    iexact H16
  isplitl [H17]
  · iapply pw_whole d h17 M17.view.junk X.det
    iexact H17
  isplitl [H18]
  · iapply pw_whole d h18 M18.view.junk (clsOut y20 (X.ahd (cw i)) (k0_pay8 (cw i)) X.wc X.bc (cw i))
    iexact H18
  isplitl [H19]; · iexact H19
  isplitl [H20]
  · iapply pw_whole d h20 M20.view.junk (k0_pay5 X.rep)
    iexact H20
  iapply pw_pair d h21 M21.view.junk
  iexact H21

set_option maxHeartbeats 4000000 in
/-- The body at a row's end. The inputs as they were, the block's logits and detections, its representation kept for the next point, and the windows and their classes of the row's last block. -/
theorem main_end (d : Dev nD) (i : grid0.Coords)
    {M2 : Memref sig .tc .vmem S1x256x128 .f32} (h2 : M2.IsWhole)
    {M3 : Memref sig .tc .vmem S1x256x128 .f32} (h3 : M3.IsWhole)
    {M4 : Memref sig .tc .vmem S1x256x8 .i32} (h4 : M4.IsWhole)
    {M5 : Memref sig .tc .vmem S128x128 .f32} (h5 : M5.IsWhole)
    {M6 : Memref sig .tc .vmem S128x128 .f32} (h6 : M6.IsWhole)
    {M7 : Memref sig .tc .vmem S1x128 .f32} (h7 : M7.IsWhole)
    {M8 : Memref sig .tc .vmem S128x8 .f32} (h8 : M8.IsWhole)
    {M9 : Memref sig .tc .vmem S128x8 .f32} (h9 : M9.IsWhole)
    {M10 : Memref sig .tc .vmem S1x8 .f32} (h10 : M10.IsWhole)
    {M11 : Memref sig .tc .vmem S1x8 .f32} (h11 : M11.IsWhole)
    {M12 : Memref sig .tc .vmem S128x10 .f32} (h12 : M12.IsWhole)
    {M13 : Memref sig .tc .vmem S1x10 .f32} (h13 : M13.IsWhole)
    {M14 : Memref sig .tc .vmem S1x256x8x128 .f32} (h14 : M14.IsWhole)
    {M15 : Memref sig .tc .vmem S1x256x8 .f32} (h15 : M15.IsWhole)
    {M16 : Memref sig .tc .vmem S1x256x8 .f32} (h16 : M16.IsWhole)
    {M17 : Memref sig .tc .vmem S1x256x8 .i32} (h17 : M17.IsWhole)
    {M18 : Memref sig .tc .vmem S1x256x8 .i32} (h18 : M18.IsWhole)
    {M19 : Memref sig .tc .vmem S1x1 .f32} (h19 : M19.IsWhole)
    {M20 : Memref sig .tc .vmem S256x128 .f32} (h20 : M20.IsWhole)
    {M21 : Memref sig .tc .smem S2 .f32} (h21 : M21.IsWhole)
    (X : Blk F) (y14 : Vec F S1x256x8x128 .f32) (y15 : Vec F S1x256x8 .f32) (y16 : Vec F S1x256x8 .f32) (y17 : Vec F S1x256x8 .i32) (y18 : Vec F S1x256x8 .i32) (y19 : Vec F S1x1 .f32) (y20 : Vec F S256x128 .f32) (a0 a1 : F .f32)
    (g1 : ¬ cnd1 i = 1#1) (g2 : ¬ cnd2 i = 1#1) (g3 : k0_cond3 i = 1#1) (g4 : ¬ k0_cond4 i = 1#1) (E : Set ℕ) (Q : PUnit → sProp 𝕄) :
    iprop(ow d M2 X.wrd ∗ ow d M3 X.cnn ∗ ow d M4 X.lab ∗ ow d M5 X.wr1 ∗ ow d M6 X.wr2 ∗ ow d M7 X.br ∗ ow d M8 X.wp0 ∗ ow d M9 X.wp1 ∗ ow d M10 X.b0 ∗ ow d M11 X.b1 ∗ ow d M12 X.wc ∗ ow d M13 X.bc
      ∗ ow d M14 y14 ∗ ow d M15 y15 ∗ ow d M16 y16 ∗ ow d M17 y17 ∗ ow d M18 y18 ∗ ow d M19 y19 ∗ ow d M20 y20 ∗ ow d M21 (mk2 a0 a1)
      ∗ (iprop(ow d M2 X.wrd ∗ ow d M3 X.cnn ∗ ow d M4 X.lab ∗ ow d M5 X.wr1 ∗ ow d M6 X.wr2 ∗ ow d M7 X.br ∗ ow d M8 X.wp0 ∗ ow d M9 X.wp1 ∗ ow d M10 X.b0 ∗ ow d M11 X.b1 ∗ ow d M12 X.wc ∗ ow d M13 X.bc
      ∗ ow d M14 (ancOut y20 (X.ahd (cw i)) (k0_pay8 (cw i)) (cw i)) ∗ ow d M15 X.out0 ∗ ow d M16 X.out1 ∗ ow d M17 X.det ∗ ow d M18 (clsOut y20 (X.ahd (cw i)) (k0_pay8 (cw i)) X.wc X.bc (cw i)) ∗ ow d M19 y19 ∗ ow d M20 (k0_pay5 X.rep) ∗ ow d M21 (mk2 a0 a1)) -∗ Q ⟨⟩))
      ⊢ wp frame (wpE (defs₀ (F := F)) Variants.none (T d) none) E (cc0__main_body i M2 h2 M3 h3 M4 h4 M5 h5 M6 h6 M7 h7 M8 h8 M9 h9 M10 h10 M11 h11 M12 h12 M13 h13 M14 h14 M15 h15 M16 h16 M17 h17 M18 h18 M19 h19 M20 h20 M21 h21) Q := by
  rw [cc0__main_body_eq_skeleton]
  unfold cc0__main_body_skel
  rw [k0_part13_eq_skeleton]
  rw [k0_part14_eq_skeleton]
  rw [k0_part1_eq_skeleton]
  rw [k0_part2_eq_skeleton]
  rw [k0_part3_eq_skeleton]
  rw [k0_part4_eq_skeleton]
  rw [k0_part5_eq_skeleton]
  rw [k0_part6_eq_skeleton]
  rw [k0_part7_eq_skeleton]
  rw [k0_part8_eq_skeleton]
  rw [k0_part9_eq_skeleton]
  rw [k0_part10_eq_skeleton]
  rw [k0_part11_eq_skeleton]
  rw [k0_part12_eq_skeleton]
  unfold k0_part13_skel k0_part14_skel k0_part1_skel k0_part2_skel k0_part3_skel k0_part4_skel k0_part5_skel k0_part6_skel k0_part7_skel k0_part8_skel k0_part9_skel k0_part10_skel k0_part11_skel k0_part12_skel
  unfold cnd1 at g1
  unfold cnd2 at g2
  simp only [owns_pw d h2, owns_pw d h3, owns_pw d h4, owns_pw d h5, owns_pw d h6, owns_pw d h7, owns_pw d h8, owns_pw d h9, owns_pw d h10, owns_pw d h11, owns_pw d h12, owns_pw d h13, owns_pw d h14, owns_pw d h15, owns_pw d h16, owns_pw d h17, owns_pw d h18, owns_pw d h19, owns_pw d h20, owns_pw d h21]
  iintro ⟨H2, H3, H4, H5, H6, H7, H8, H9, H10, H11, H12, H13, H14, H15, H16, H17, H18, H19, H20, H21, Hk⟩
  sl_exec!
  sl_step
  iapply Hk
  have e2 : View.readAt (Elt F) M2.view (Rect.unit (s := S1x256x128) ![0, 0, 0] S1x256x128.size inb_S1x256x128_S1x256x128_0_0_0).toLoadRect (h2.unread X.wrd) = X.wrd := ld_whole h2 _ _
  have e3 : View.readAt (Elt F) M3.view (Rect.unit (s := S1x256x128) ![0, 0, 0] S1x256x128.size inb_S1x256x128_S1x256x128_0_0_0).toLoadRect (h3.unread X.cnn) = X.cnn := ld_whole h3 _ _
  have e5 : View.readAt (Elt F) M5.view (Rect.unit (s := S128x128) ![0, 0] S128x128.size inb_S128x128_S128x128_0_0).toLoadRect (h5.unread X.wr1) = X.wr1 := ld_whole h5 _ _
  have e6 : View.readAt (Elt F) M6.view (Rect.unit (s := S128x128) ![0, 0] S128x128.size inb_S128x128_S128x128_0_0).toLoadRect (h6.unread X.wr2) = X.wr2 := ld_whole h6 _ _
  have e7 : View.readAt (Elt F) M7.view (Rect.unit (s := S1x128) ![0, 0] S1x128.size inb_S1x128_S1x128_0_0).toLoadRect (h7.unread X.br) = X.br := ld_whole h7 _ _
  have e8 : View.readAt (Elt F) M8.view (Rect.unit (s := S128x8) ![0, 0] S128x8.size inb_S128x8_S128x8_0_0).toLoadRect (h8.unread X.wp0) = X.wp0 := ld_whole h8 _ _
  have e9 : View.readAt (Elt F) M9.view (Rect.unit (s := S128x8) ![0, 0] S128x8.size inb_S128x8_S128x8_0_0).toLoadRect (h9.unread X.wp1) = X.wp1 := ld_whole h9 _ _
  have e10 : View.readAt (Elt F) M10.view (Rect.unit (s := S1x8) ![0, 0] S1x8.size inb_S1x8_S1x8_0_0).toLoadRect (h10.unread X.b0) = X.b0 := ld_whole h10 _ _
  have e11 : View.readAt (Elt F) M11.view (Rect.unit (s := S1x8) ![0, 0] S1x8.size inb_S1x8_S1x8_0_0).toLoadRect (h11.unread X.b1) = X.b1 := ld_whole h11 _ _
  have e12 : View.readAt (Elt F) M12.view (Rect.unit (s := S128x10) ![0, 0] S128x10.size inb_S128x10_S128x10_0_0).toLoadRect (h12.unread X.wc) = X.wc := ld_whole h12 _ _
  have e13 : View.readAt (Elt F) M13.view (Rect.unit (s := S1x10) ![0, 0] S1x10.size inb_S1x10_S1x10_0_0).toLoadRect (h13.unread X.bc) = X.bc := ld_whole h13 _ _
  have e20 : View.readAt (Elt F) M20.view (Rect.unit (s := S256x128) ![0, 0] S256x128.size inb_S256x128_S256x128_0_0).toLoadRect (h20.unread y20) = y20 := ld_whole h20 _ _
  unfold main_end.sl.H14_8 main_end.sl.H15_1 main_end.sl.H16_1 main_end.sl.H17_1 main_end.sl.H18_1 main_end.sl.H20_1
  try dsimp only
  rw [e2, e3, e5, e6, e7, e8, e9, e10, e11, e12, e13, e20]
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · iapply pw_cols d h14 M14.view.junk (anc y20 (X.ahd (cw i)) (k0_pay8 (cw i)) (cw i)) col_inb
    iexact H14
  isplitl [H15]
  · iapply pw_whole d h15 M15.view.junk X.out0
    iexact H15
  isplitl [H16]
  · iapply pw_whole d h16 M16.view.junk X.out1
    iexact H16
  isplitl [H17]
  · iapply pw_whole d h17 M17.view.junk X.det
    iexact H17
  isplitl [H18]
  · iapply pw_whole d h18 M18.view.junk (clsOut y20 (X.ahd (cw i)) (k0_pay8 (cw i)) X.wc X.bc (cw i))
    iexact H18
  isplitl [H19]; · iexact H19
  isplitl [H20]
  · iapply pw_whole d h20 M20.view.junk (k0_pay5 X.rep)
    iexact H20
  iexact H21

set_option maxHeartbeats 4000000 in
/-- The body at the last point. The inputs as they were, the block's logits and detections, its representation kept for the next point, the windows and their classes of the last block, and the loss. -/
theorem main_last (d : Dev nD) (i : grid0.Coords)
    {M2 : Memref sig .tc .vmem S1x256x128 .f32} (h2 : M2.IsWhole)
    {M3 : Memref sig .tc .vmem S1x256x128 .f32} (h3 : M3.IsWhole)
    {M4 : Memref sig .tc .vmem S1x256x8 .i32} (h4 : M4.IsWhole)
    {M5 : Memref sig .tc .vmem S128x128 .f32} (h5 : M5.IsWhole)
    {M6 : Memref sig .tc .vmem S128x128 .f32} (h6 : M6.IsWhole)
    {M7 : Memref sig .tc .vmem S1x128 .f32} (h7 : M7.IsWhole)
    {M8 : Memref sig .tc .vmem S128x8 .f32} (h8 : M8.IsWhole)
    {M9 : Memref sig .tc .vmem S128x8 .f32} (h9 : M9.IsWhole)
    {M10 : Memref sig .tc .vmem S1x8 .f32} (h10 : M10.IsWhole)
    {M11 : Memref sig .tc .vmem S1x8 .f32} (h11 : M11.IsWhole)
    {M12 : Memref sig .tc .vmem S128x10 .f32} (h12 : M12.IsWhole)
    {M13 : Memref sig .tc .vmem S1x10 .f32} (h13 : M13.IsWhole)
    {M14 : Memref sig .tc .vmem S1x256x8x128 .f32} (h14 : M14.IsWhole)
    {M15 : Memref sig .tc .vmem S1x256x8 .f32} (h15 : M15.IsWhole)
    {M16 : Memref sig .tc .vmem S1x256x8 .f32} (h16 : M16.IsWhole)
    {M17 : Memref sig .tc .vmem S1x256x8 .i32} (h17 : M17.IsWhole)
    {M18 : Memref sig .tc .vmem S1x256x8 .i32} (h18 : M18.IsWhole)
    {M19 : Memref sig .tc .vmem S1x1 .f32} (h19 : M19.IsWhole)
    {M20 : Memref sig .tc .vmem S256x128 .f32} (h20 : M20.IsWhole)
    {M21 : Memref sig .tc .smem S2 .f32} (h21 : M21.IsWhole)
    (X : Blk F) (y14 : Vec F S1x256x8x128 .f32) (y15 : Vec F S1x256x8 .f32) (y16 : Vec F S1x256x8 .f32) (y17 : Vec F S1x256x8 .i32) (y18 : Vec F S1x256x8 .i32) (y19 : Vec F S1x1 .f32) (y20 : Vec F S256x128 .f32) (a0 a1 : F .f32)
    (g1 : ¬ cnd1 i = 1#1) (g2 : ¬ cnd2 i = 1#1) (g3 : k0_cond3 i = 1#1) (g4 : k0_cond4 i = 1#1) (E : Set ℕ) (Q : PUnit → sProp 𝕄) :
    iprop(ow d M2 X.wrd ∗ ow d M3 X.cnn ∗ ow d M4 X.lab ∗ ow d M5 X.wr1 ∗ ow d M6 X.wr2 ∗ ow d M7 X.br ∗ ow d M8 X.wp0 ∗ ow d M9 X.wp1 ∗ ow d M10 X.b0 ∗ ow d M11 X.b1 ∗ ow d M12 X.wc ∗ ow d M13 X.bc
      ∗ ow d M14 y14 ∗ ow d M15 y15 ∗ ow d M16 y16 ∗ ow d M17 y17 ∗ ow d M18 y18 ∗ ow d M19 y19 ∗ ow d M20 y20 ∗ ow d M21 (mk2 a0 a1)
      ∗ (iprop(ow d M2 X.wrd ∗ ow d M3 X.cnn ∗ ow d M4 X.lab ∗ ow d M5 X.wr1 ∗ ow d M6 X.wr2 ∗ ow d M7 X.br ∗ ow d M8 X.wp0 ∗ ow d M9 X.wp1 ∗ ow d M10 X.b0 ∗ ow d M11 X.b1 ∗ ow d M12 X.wc ∗ ow d M13 X.bc
      ∗ ow d M14 (ancOut y20 (X.ahd (cw i)) (k0_pay8 (cw i)) (cw i)) ∗ ow d M15 X.out0 ∗ ow d M16 X.out1 ∗ ow d M17 X.det ∗ ow d M18 (clsOut y20 (X.ahd (cw i)) (k0_pay8 (cw i)) X.wc X.bc (cw i)) ∗ ow d M19 (k0_pay6 a0 a1) ∗ ow d M20 (k0_pay5 X.rep) ∗ ow d M21 (mk2 a0 a1)) -∗ Q ⟨⟩))
      ⊢ wp frame (wpE (defs₀ (F := F)) Variants.none (T d) none) E (cc0__main_body i M2 h2 M3 h3 M4 h4 M5 h5 M6 h6 M7 h7 M8 h8 M9 h9 M10 h10 M11 h11 M12 h12 M13 h13 M14 h14 M15 h15 M16 h16 M17 h17 M18 h18 M19 h19 M20 h20 M21 h21) Q := by
  rw [cc0__main_body_eq_skeleton]
  unfold cc0__main_body_skel
  rw [k0_part13_eq_skeleton]
  rw [k0_part14_eq_skeleton]
  rw [k0_part1_eq_skeleton]
  rw [k0_part2_eq_skeleton]
  rw [k0_part3_eq_skeleton]
  rw [k0_part4_eq_skeleton]
  rw [k0_part5_eq_skeleton]
  rw [k0_part6_eq_skeleton]
  rw [k0_part7_eq_skeleton]
  rw [k0_part8_eq_skeleton]
  rw [k0_part9_eq_skeleton]
  rw [k0_part10_eq_skeleton]
  rw [k0_part11_eq_skeleton]
  rw [k0_part12_eq_skeleton]
  unfold k0_part13_skel k0_part14_skel k0_part1_skel k0_part2_skel k0_part3_skel k0_part4_skel k0_part5_skel k0_part6_skel k0_part7_skel k0_part8_skel k0_part9_skel k0_part10_skel k0_part11_skel k0_part12_skel
  unfold cnd1 at g1
  unfold cnd2 at g2
  simp only [owns_pw d h2, owns_pw d h3, owns_pw d h4, owns_pw d h5, owns_pw d h6, owns_pw d h7, owns_pw d h8, owns_pw d h9, owns_pw d h10, owns_pw d h11, owns_pw d h12, owns_pw d h13, owns_pw d h14, owns_pw d h15, owns_pw d h16, owns_pw d h17, owns_pw d h18, owns_pw d h19, owns_pw d h20, owns_pw d h21]
  iintro ⟨H2, H3, H4, H5, H6, H7, H8, H9, H10, H11, H12, H13, H14, H15, H16, H17, H18, H19, H20, H21, Hk⟩
  sl_exec!
  sl_step
  iapply Hk
  have e2 : View.readAt (Elt F) M2.view (Rect.unit (s := S1x256x128) ![0, 0, 0] S1x256x128.size inb_S1x256x128_S1x256x128_0_0_0).toLoadRect (h2.unread X.wrd) = X.wrd := ld_whole h2 _ _
  have e3 : View.readAt (Elt F) M3.view (Rect.unit (s := S1x256x128) ![0, 0, 0] S1x256x128.size inb_S1x256x128_S1x256x128_0_0_0).toLoadRect (h3.unread X.cnn) = X.cnn := ld_whole h3 _ _
  have e5 : View.readAt (Elt F) M5.view (Rect.unit (s := S128x128) ![0, 0] S128x128.size inb_S128x128_S128x128_0_0).toLoadRect (h5.unread X.wr1) = X.wr1 := ld_whole h5 _ _
  have e6 : View.readAt (Elt F) M6.view (Rect.unit (s := S128x128) ![0, 0] S128x128.size inb_S128x128_S128x128_0_0).toLoadRect (h6.unread X.wr2) = X.wr2 := ld_whole h6 _ _
  have e7 : View.readAt (Elt F) M7.view (Rect.unit (s := S1x128) ![0, 0] S1x128.size inb_S1x128_S1x128_0_0).toLoadRect (h7.unread X.br) = X.br := ld_whole h7 _ _
  have e8 : View.readAt (Elt F) M8.view (Rect.unit (s := S128x8) ![0, 0] S128x8.size inb_S128x8_S128x8_0_0).toLoadRect (h8.unread X.wp0) = X.wp0 := ld_whole h8 _ _
  have e9 : View.readAt (Elt F) M9.view (Rect.unit (s := S128x8) ![0, 0] S128x8.size inb_S128x8_S128x8_0_0).toLoadRect (h9.unread X.wp1) = X.wp1 := ld_whole h9 _ _
  have e10 : View.readAt (Elt F) M10.view (Rect.unit (s := S1x8) ![0, 0] S1x8.size inb_S1x8_S1x8_0_0).toLoadRect (h10.unread X.b0) = X.b0 := ld_whole h10 _ _
  have e11 : View.readAt (Elt F) M11.view (Rect.unit (s := S1x8) ![0, 0] S1x8.size inb_S1x8_S1x8_0_0).toLoadRect (h11.unread X.b1) = X.b1 := ld_whole h11 _ _
  have e12 : View.readAt (Elt F) M12.view (Rect.unit (s := S128x10) ![0, 0] S128x10.size inb_S128x10_S128x10_0_0).toLoadRect (h12.unread X.wc) = X.wc := ld_whole h12 _ _
  have e13 : View.readAt (Elt F) M13.view (Rect.unit (s := S1x10) ![0, 0] S1x10.size inb_S1x10_S1x10_0_0).toLoadRect (h13.unread X.bc) = X.bc := ld_whole h13 _ _
  have e20 : View.readAt (Elt F) M20.view (Rect.unit (s := S256x128) ![0, 0] S256x128.size inb_S256x128_S256x128_0_0).toLoadRect (h20.unread y20) = y20 := ld_whole h20 _ _
  have ea : View.readAt (Elt F) M21.view (Rect.unit (s := S2) ![0] S1.size inb_S2_S1_0).toLoadRect (h21.unread (mk2 a0 a1)) = fun _ => a0 := funext fun x => ld_fst h21 a0 a1 _ x
  have eb : View.readAt (Elt F) M21.view (Rect.unit (s := S2) ![1] S1.size inb_S2_S1_1).toLoadRect (h21.unread (mk2 a0 a1)) = fun _ => a1 := funext fun x => ld_snd h21 a0 a1 _ x
  unfold main_last.sl.H14_8 main_last.sl.H15_1 main_last.sl.H16_1 main_last.sl.H17_1 main_last.sl.H18_1 main_last.sl.H19_1 main_last.sl.H20_1 main_last.sl.r_1 main_last.sl.r
  try dsimp only
  rw [e2, e3, e5, e6, e7, e8, e9, e10, e11, e12, e13, e20, ea, eb]
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · iapply pw_cols d h14 M14.view.junk (anc y20 (X.ahd (cw i)) (k0_pay8 (cw i)) (cw i)) col_inb
    iexact H14
  isplitl [H15]
  · iapply pw_whole d h15 M15.view.junk X.out0
    iexact H15
  isplitl [H16]
  · iapply pw_whole d h16 M16.view.junk X.out1
    iexact H16
  isplitl [H17]
  · iapply pw_whole d h17 M17.view.junk X.det
    iexact H17
  isplitl [H18]
  · iapply pw_whole d h18 M18.view.junk (clsOut y20 (X.ahd (cw i)) (k0_pay8 (cw i)) X.wc X.bc (cw i))
    iexact H18
  isplitl [H19]
  · iapply pw_whole d h19 M19.view.junk (k0_pay6 a0 a1)
    iexact H19
  isplitl [H20]
  · iapply pw_whole d h20 M20.view.junk (k0_pay5 X.rep)
    iexact H20
  iexact H21

end Cert.Proof.Span

end
-- ==== Proof.MainDat.lean ====
/-
  The first TensorCore pipeline, the tagger: its proof data over the 36 grid points, with what every point leaves, and the
  body's obligation at each.
-/
module

public import proofs.«01_k».proof.Proof.MainRun

@[expose] public section

noncomputable section

namespace Cert.Proof.Span

open Cert.KernelIdeal Cert.KernelIdeal.Gen

open Idealize.ShloMosaic Idealize.ShloMosaic.StableHlo
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 1) (Elt F) ℕ UU ℕ

/-! ## The branches' conditions, by the point's number -/

theorem c1_iff : ∀ t : Fin grid0.N, cnd1 (grid0.coords t) = 1#1 ↔ t.val = 0 := by decide
theorem c2_iff : ∀ t : Fin grid0.N, cnd2 (grid0.coords t) = 1#1 ↔ t.val % 9 < 8 := by decide
theorem c3_iff : ∀ t : Fin grid0.N, k0_cond3 (grid0.coords t) = 1#1 ↔ t.val % 9 ≠ 0 := by decide
theorem c4_iff : ∀ t : Fin grid0.N, k0_cond4 (grid0.coords t) = 1#1 ↔ t.val = 35 := by decide

section Data

variable (V : Dev nD → Valuation τ sig (Elt F))

/-! Each input window's block of its array at a point. -/

abbrev stg0_0 (d : Dev nD) (t : Fin grid0.N) : Vec F S1x256x128 .f32 := ((cfg0.win 0).blk t).view.read (Elt F) (V d (dr main_arg1))
abbrev stg0_1 (d : Dev nD) (t : Fin grid0.N) : Vec F S1x256x128 .f32 := ((cfg0.win 1).blk t).view.read (Elt F) (V d (dr main_arg2))
abbrev stg0_2 (d : Dev nD) (t : Fin grid0.N) : Vec F S1x256x8 .i32 := ((cfg0.win 2).blk t).view.read (Elt F) (V d (dr main_arg4))
abbrev stg0_3 (d : Dev nD) (t : Fin grid0.N) : Vec F S128x128 .f32 := ((cfg0.win 3).blk t).view.read (Elt F) (V d (dr main_arg6))
abbrev stg0_4 (d : Dev nD) (t : Fin grid0.N) : Vec F S128x128 .f32 := ((cfg0.win 4).blk t).view.read (Elt F) (V d (dr main_arg7))
abbrev stg0_5 (d : Dev nD) (t : Fin grid0.N) : Vec F S1x128 .f32 := ((cfg0.win 5).blk t).view.read (Elt F) (V d (dr main_v0))
abbrev stg0_6 (d : Dev nD) (t : Fin grid0.N) : Vec F S128x8 .f32 := ((cfg0.win 6).blk t).view.read (Elt F) (V d (dr main_v1))
abbrev stg0_7 (d : Dev nD) (t : Fin grid0.N) : Vec F S128x8 .f32 := ((cfg0.win 7).blk t).view.read (Elt F) (V d (dr main_v2))
abbrev stg0_8 (d : Dev nD) (t : Fin grid0.N) : Vec F S1x8 .f32 := ((cfg0.win 8).blk t).view.read (Elt F) (V d (dr main_v4))
abbrev stg0_9 (d : Dev nD) (t : Fin grid0.N) : Vec F S1x8 .f32 := ((cfg0.win 9).blk t).view.read (Elt F) (V d (dr main_v6))
abbrev stg0_10 (d : Dev nD) (t : Fin grid0.N) : Vec F S128x10 .f32 := ((cfg0.win 10).blk t).view.read (Elt F) (V d (dr main_arg11))
abbrev stg0_11 (d : Dev nD) (t : Fin grid0.N) : Vec F S1x10 .f32 := ((cfg0.win 11).blk t).view.read (Elt F) (V d (dr main_v7))

/-- The blocks of point `t`. -/
def blkAt (d : Dev nD) (t : Fin grid0.N) : Blk F := ⟨stg0_0 V d t, stg0_1 V d t, stg0_2 V d t, stg0_3 V d t, stg0_4 V d t, stg0_5 V d t, stg0_6 V d t, stg0_7 V d t, stg0_8 V d t, stg0_9 V d t, stg0_10 V d t, stg0_11 V d t⟩

/-- The blocks of the point numbered `n`. -/
def blkN (d : Dev nD) (n : ℕ) : Blk F := blkAt V d ⟨n % 36, by rw [N_0]; exact Nat.mod_lt _ (by decide)⟩

theorem blkN_val (d : Dev nD) (t : Fin grid0.N) : blkN V d t.val = blkAt V d t :=
  congrArg (blkAt V d) (Fin.ext (Nat.mod_eq_of_lt (lt_of_lt_of_eq t.isLt N_0)))

/-- The two running sums before the point numbered `n`. -/
def acc (d : Dev nD) : ℕ → F .f32 × F .f32
  | 0 => (FloatOps.ofBits .f32 0#32, FloatOps.ofBits .f32 0#32)
  | n + 1 => if n % 9 < 8 then ((blkN V d n).sum0 (acc d n).1, (blkN V d n).sum1 (acc d n).2) else acc d n

/-- The representation kept from the point before the one numbered `n`. -/
def prev (d : Dev nD) (n : ℕ) : Vec F S256x128 .f32 := k0_pay5 (blkN V d (n - 1)).rep

/-- The windows' representations stored at point `t`, and their classes. -/
def ancAt (d : Dev nD) (t : Fin grid0.N) : Vec F S1x256x8x128 .f32 :=
  ancOut (prev V d t.val) ((blkAt V d t).ahd (cw (grid0.coords t))) (k0_pay8 (cw (grid0.coords t))) (cw (grid0.coords t))
def clsAt (d : Dev nD) (t : Fin grid0.N) : Vec F S1x256x8 .i32 :=
  clsOut (prev V d t.val) ((blkAt V d t).ahd (cw (grid0.coords t))) (k0_pay8 (cw (grid0.coords t))) (blkAt V d t).wc (blkAt V d t).bc (cw (grid0.coords t))

/-- The loss, of the sums before the point numbered `n`. -/
def lossAt (d : Dev nD) (n : ℕ) : Vec F S1x1 .f32 := k0_pay6 (acc V d n).1 (acc V d n).2

/-- The staging buffers of the other pipeline, at some contents. -/
def rest (d : Dev nD) : sProp 𝕄 :=
  iprop((∃ f : Buf (Elt F) ((d : Thread nD τ).loc cc2_stg0_0), ((d : Thread nD τ).loc cc2_stg0_0) ↦{fullShare} f) ∗ (∃ f : Buf (Elt F) ((d : Thread nD τ).loc cc2_stg1_0), ((d : Thread nD τ).loc cc2_stg1_0) ↦{fullShare} f) ∗ (∃ f : Buf (Elt F) ((d : Thread nD τ).loc cc2_stg2_0), ((d : Thread nD τ).loc cc2_stg2_0) ↦{fullShare} f) ∗ (∃ f : Buf (Elt F) ((d : Thread nD τ).loc cc2_stg3_0), ((d : Thread nD τ).loc cc2_stg3_0) ↦{fullShare} f) ∗ (∃ f : Buf (Elt F) ((d : Thread nD τ).loc cc2_stg4_0), ((d : Thread nD τ).loc cc2_stg4_0) ↦{fullShare} f) ∗ (∃ f : Buf (Elt F) ((d : Thread nD τ).loc cc2_stg5_0), ((d : Thread nD τ).loc cc2_stg5_0) ↦{fullShare} f) ∗ (∃ f : Buf (Elt F) ((d : Thread nD τ).loc cc2_stg6_0), ((d : Thread nD τ).loc cc2_stg6_0) ↦{fullShare} f) ∗ (∃ f : Buf (Elt F) ((d : Thread nD τ).loc cc2_stg7_0), ((d : Thread nD τ).loc cc2_stg7_0) ↦{fullShare} f) ∗ (∃ f : Buf (Elt F) ((d : Thread nD τ).loc cc2_stg8_0), ((d : Thread nD τ).loc cc2_stg8_0) ↦{fullShare} f))

/-- Between two points: the representation kept and the sums so far. -/
def phi (d : Dev nD) (n : ℕ) : sProp 𝕄 :=
  iprop(ow d (Memref.whole cc0_scratch0) (prev V d n) ∗ rest d ∗ ow d (Memref.whole cc0_scratch1) (mk2 (acc V d n).1 (acc V d n).2))

/-- The arrays at the valuation; the inputs left as fetched, the results at the body's values. -/
def dat0 (d : Dev nD) : Dat τ (Elt F) (HIx 1) ℕ UU ℕ cfg0 d where
  A w := V d (dr (Pipeline.arrRef spec0 w))
  after w t := match w with
    | ⟨0, _⟩ => stg0_0 V d t
    | ⟨1, _⟩ => stg0_1 V d t
    | ⟨2, _⟩ => stg0_2 V d t
    | ⟨3, _⟩ => stg0_3 V d t
    | ⟨4, _⟩ => stg0_4 V d t
    | ⟨5, _⟩ => stg0_5 V d t
    | ⟨6, _⟩ => stg0_6 V d t
    | ⟨7, _⟩ => stg0_7 V d t
    | ⟨8, _⟩ => stg0_8 V d t
    | ⟨9, _⟩ => stg0_9 V d t
    | ⟨10, _⟩ => stg0_10 V d t
    | ⟨11, _⟩ => stg0_11 V d t
    | ⟨12, _⟩ => ancAt V d t
    | ⟨13, _⟩ => (blkAt V d t).out0
    | ⟨14, _⟩ => (blkAt V d t).out1
    | ⟨15, _⟩ => (blkAt V d t).det
    | ⟨16, _⟩ => clsAt V d t
    | ⟨17, _⟩ => lossAt V d t.val
    | ⟨m + 18, h⟩ => absurd (show m + 18 < 18 from h) (Nat.not_lt.2 (Nat.le_add_left 18 m))
  Φ t := match t.val with
    | 0 => Pipeline.scopedRest (Ix := HIx 1) (Name := ℕ) (U := UU) (Lvl := ℕ) (Val := Elt F) spec0 d
    | n + 1 => phi V d (n + 1)
  q _ := fullShare
  owed _ := (K (F := F)).Otc d 0
  recorded _ := recAt F 0 d

theorem before0_0 (d : Dev nD) (t) (x) : (dat0 V d).before 0 t x = stg0_0 V d t :=
  ((dat0 V d).before_in_eq_fetched 0 rfl (fun _ => rfl) (fun _ _ _ => rfl) (fun _ => rfl) t x).trans rfl
theorem before0_1 (d : Dev nD) (t) (x) : (dat0 V d).before 1 t x = stg0_1 V d t :=
  ((dat0 V d).before_in_eq_fetched 1 rfl (fun _ => rfl) (fun _ _ _ => rfl) (fun _ => rfl) t x).trans rfl
theorem before0_2 (d : Dev nD) (t) (x) : (dat0 V d).before 2 t x = stg0_2 V d t :=
  ((dat0 V d).before_in_eq_fetched 2 rfl (fun _ => rfl) (fun _ _ _ => rfl) (fun _ => rfl) t x).trans rfl
theorem before0_3 (d : Dev nD) (t) (x) : (dat0 V d).before 3 t x = stg0_3 V d t :=
  ((dat0 V d).before_in_eq_fetched 3 rfl (fun _ => rfl) (fun _ _ _ => rfl) (fun _ => rfl) t x).trans rfl
theorem before0_4 (d : Dev nD) (t) (x) : (dat0 V d).before 4 t x = stg0_4 V d t :=
  ((dat0 V d).before_in_eq_fetched 4 rfl (fun _ => rfl) (fun _ _ _ => rfl) (fun _ => rfl) t x).trans rfl
theorem before0_5 (d : Dev nD) (t) (x) : (dat0 V d).before 5 t x = stg0_5 V d t :=
  ((dat0 V d).before_in_eq_fetched 5 rfl (fun _ => rfl) (fun _ _ _ => rfl) (fun _ => rfl) t x).trans rfl
theorem before0_6 (d : Dev nD) (t) (x) : (dat0 V d).before 6 t x = stg0_6 V d t :=
  ((dat0 V d).before_in_eq_fetched 6 rfl (fun _ => rfl) (fun _ _ _ => rfl) (fun _ => rfl) t x).trans rfl
theorem before0_7 (d : Dev nD) (t) (x) : (dat0 V d).before 7 t x = stg0_7 V d t :=
  ((dat0 V d).before_in_eq_fetched 7 rfl (fun _ => rfl) (fun _ _ _ => rfl) (fun _ => rfl) t x).trans rfl
theorem before0_8 (d : Dev nD) (t) (x) : (dat0 V d).before 8 t x = stg0_8 V d t :=
  ((dat0 V d).before_in_eq_fetched 8 rfl (fun _ => rfl) (fun _ _ _ => rfl) (fun _ => rfl) t x).trans rfl
theorem before0_9 (d : Dev nD) (t) (x) : (dat0 V d).before 9 t x = stg0_9 V d t :=
  ((dat0 V d).before_in_eq_fetched 9 rfl (fun _ => rfl) (fun _ _ _ => rfl) (fun _ => rfl) t x).trans rfl
theorem before0_10 (d : Dev nD) (t) (x) : (dat0 V d).before 10 t x = stg0_10 V d t :=
  ((dat0 V d).before_in_eq_fetched 10 rfl (fun _ => rfl) (fun _ _ _ => rfl) (fun _ => rfl) t x).trans rfl
theorem before0_11 (d : Dev nD) (t) (x) : (dat0 V d).before 11 t x = stg0_11 V d t :=
  ((dat0 V d).before_in_eq_fetched 11 rfl (fun _ => rfl) (fun _ _ _ => rfl) (fun _ => rfl) t x).trans rfl

/-! The windows idle at some points, by the point's number. -/

theorem idle12 (t : Fin grid0.N) : idle0 12 (grid0.coords t) = decide (t.val % 9 = 0) := by revert t; decide
theorem idle16 (t : Fin grid0.N) : idle0 16 (grid0.coords t) = decide (t.val % 9 = 0) := by revert t; decide
theorem idle17 (t : Fin grid0.N) : idle0 17 (grid0.coords t) = decide (t.val ≠ 35) := by revert t; decide
theorem flush12 (t : Fin cfg0.N) (h : t.val % 9 = 0) : (cfg0.win 12).flush t = false := by revert t; decide
theorem flush16 (t : Fin cfg0.N) (h : t.val % 9 = 0) : (cfg0.win 16).flush t = false := by revert t; decide
theorem flush17 (t : Fin cfg0.N) (h : t.val ≠ 35) : (cfg0.win 17).flush t = false := by revert t; decide

theorem phi_castSucc (d : Dev nD) (t : Fin cfg0.N) (h : t.val ≠ 0) : (dat0 V d).Φ t.castSucc = phi V d t.val := by
  obtain ⟨n, hn⟩ := t
  cases n with
  | zero => exact absurd rfl h
  | succ n => rfl

/-- Before the first point the scratch buffers hold anything. -/
theorem phi_zero (d : Dev nD) (t : Fin cfg0.N) (h : t.val = 0) :
    (dat0 V d).Φ t.castSucc ⊢ iprop((∃ x : Vec F S256x128 .f32, ow d (Memref.whole cc0_scratch0) x) ∗ rest d ∗ (∃ a b : F .f32, ow d (Memref.whole cc0_scratch1) (mk2 a b))) := by
  obtain ⟨n, hn⟩ := t
  obtain rfl : n = 0 := h
  have hm : ∀ f : Vec F S2 .f32, f = mk2 (f (ix1 0)) (f (ix1 1)) := fun f => funext fun x => by
    have hx : (x 0).val < 2 := (x 0).isLt
    unfold mk2
    split
    · next h0 => exact congrArg f (funext fun a => by obtain rfl : a = 0 := Subsingleton.elim _ _; exact Fin.ext h0)
    · next h0 => exact congrArg f (funext fun a => by obtain rfl : a = 0 := Subsingleton.elim _ _; exact Fin.ext (show (x 0).val = 1 by omega))
  show Pipeline.scopedRest (Ix := HIx 1) (Name := ℕ) (U := UU) (Lvl := ℕ) (Val := Elt F) spec0 d ⊢ _
  rw [scopedRest0_eq]
  unfold rest ow
  iintro ⟨⟨%f, H0⟩, R0, R1, R2, R3, R4, R5, R6, R7, R8, ⟨%g, H1⟩⟩
  isplitl [H0]
  · iexists f
    rw [owns_whole]
    iexact H0
  isplitl [R0 R1 R2 R3 R4 R5 R6 R7 R8]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    iexact R8
  iexists (g (ix1 0)), (g (ix1 1))
  rw [← hm g, owns_whole]
  iexact H1

theorem phi_last (d : Dev nD) : (dat0 V d).Φ (Fin.last _) ⊢ Pipeline.scopedRest (Ix := HIx 1) (Name := ℕ) (U := UU) (Lvl := ℕ) (Val := Elt F) spec0 d := by
  rw [scopedRest0_eq]
  show phi V d 36 ⊢ _
  unfold phi rest ow
  rw [owns_whole, owns_whole]
  iintro ⟨H0, ⟨R0, R1, R2, R3, R4, R5, R6, R7, R8⟩, H1⟩
  isplitl [H0]
  · iexists _
    iexact H0
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  iexists _
  iexact H1

end Data

end Cert.Proof.Span

end
-- ==== Proof.MainBody.lean ====
/-
  The tagger's body obligation at each of its 36 grid points.
-/
module

public import proofs.«01_k».proof.Proof.MainDat

@[expose] public section

noncomputable section

namespace Cert.Proof.Span

open Cert.KernelIdeal Cert.KernelIdeal.Gen

open Idealize.ShloMosaic Idealize.ShloMosaic.StableHlo
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 1) (Elt F) ℕ UU ℕ

section Data

variable (V : Dev nD → Valuation τ sig (Elt F))

theorem body_first (d : Dev nD) (t : Fin cfg0.N) (h0 : t.val = 0) :
    iprop((dat0 V d).Φ t.castSucc ∗ (dat0 V d).owesAt none t.castSucc
        ∗ bigSep Finset.univ fun w : Fin cfg0.W => iprop(∃ x, owns d ((cfg0.win w).stage (cfg0.slots t w)) fullShare ((dat0 V d).before w t x)))
      ⊢ wp frame (wpE (defs₀ (F := F)) 𝒱₀ (T d) none) Set.univ (bodyAt0 t) fun _ =>
          iprop((dat0 V d).Φ t.succ ∗ (dat0 V d).owesAt none t.succ
            ∗ bigSep Finset.univ fun w : Fin cfg0.W =>
                match cfg0.idle w (cfg0.grid.coords t) with
                | true =>
                  match (cfg0.win w).flush t with
                  | false => iprop(∃ x, owns d ((cfg0.win w).stage (cfg0.slots t w)) fullShare ((dat0 V d).before w t x))
                  | true => owns d ((cfg0.win w).stage (cfg0.slots t w)) fullShare ((dat0 V d).after w t)
                | false => owns d ((cfg0.win w).stage (cfg0.slots t w)) fullShare ((dat0 V d).after w t)) := by
  rw [bigSep_W0, bigSep_W0]
  simp only [before0_0, before0_1, before0_2, before0_3, before0_4, before0_5, before0_6, before0_7, before0_8, before0_9, before0_10, before0_11]
  have g1 : cnd1 (grid0.coords t) = 1#1 := by rw [c1_iff]; omega
  have g2 : cnd2 (grid0.coords t) = 1#1 := by rw [c2_iff]; omega
  have g3 : ¬ k0_cond3 (grid0.coords t) = 1#1 := by rw [c3_iff]; omega
  have g4 : ¬ k0_cond4 (grid0.coords t) = 1#1 := by rw [c4_iff]; omega
  have hprev : prev V d (t.val + 1) = k0_pay5 (blkAt V d t).rep := by
    unfold prev
    rw [Nat.add_sub_cancel, blkN_val]
  have hacc : acc V d (t.val + 1) = ((blkAt V d t).sum0 (FloatOps.ofBits .f32 0#32), (blkAt V d t).sum1 (FloatOps.ofBits .f32 0#32)) := by
    rw [acc]
    rw [if_pos (by omega), blkN_val]
    rw [h0]
    rfl
  have i12 : idle0 12 (grid0.coords t) = true := (idle12 t).trans (by simp; omega)
  have f12 : (win0 12).flush t = false := flush12 t (by omega)
  have i16 : idle0 16 (grid0.coords t) = true := (idle16 t).trans (by simp; omega)
  have f16 : (win0 16).flush t = false := flush16 t (by omega)
  have i17 : idle0 17 (grid0.coords t) = true := (idle17 t).trans (by simp; omega)
  have f17 : (win0 17).flush t = false := flush17 t (by omega)
  simp only [i12, i16, i17, f12, f16, f17]
  rw [show (dat0 V d).Φ t.succ = phi V d (t.val + 1) from rfl, show (dat0 V d).owesAt none t.succ = (dat0 V d).owesAt none t.castSucc from rfl]
  refine (sep_mono (phi_zero V d t h0) .rfl).trans ?_
  iintro ⟨⟨⟨%p, Hp⟩, Hr, ⟨%a0, %a1, Ha⟩⟩, Howes, ⟨%x0, H0⟩, ⟨%x1, H1⟩, ⟨%x2, H2⟩, ⟨%x3, H3⟩, ⟨%x4, H4⟩, ⟨%x5, H5⟩, ⟨%x6, H6⟩, ⟨%x7, H7⟩, ⟨%x8, H8⟩, ⟨%x9, H9⟩, ⟨%x10, H10⟩, ⟨%x11, H11⟩, ⟨%x12, H12⟩, ⟨%x13, H13⟩, ⟨%x14, H14⟩, ⟨%x15, H15⟩, ⟨%x16, H16⟩, ⟨%x17, H17⟩⟩
  iapply (main_first (F := F) d (grid0.coords t) (hstage0_0 ((cfg0.slots t 0).cast nbuf0_0)) (hstage0_1 ((cfg0.slots t 1).cast nbuf0_1)) (hstage0_2 ((cfg0.slots t 2).cast nbuf0_2)) (hstage0_3 ((cfg0.slots t 3).cast nbuf0_3)) (hstage0_4 ((cfg0.slots t 4).cast nbuf0_4)) (hstage0_5 ((cfg0.slots t 5).cast nbuf0_5)) (hstage0_6 ((cfg0.slots t 6).cast nbuf0_6)) (hstage0_7 ((cfg0.slots t 7).cast nbuf0_7)) (hstage0_8 ((cfg0.slots t 8).cast nbuf0_8)) (hstage0_9 ((cfg0.slots t 9).cast nbuf0_9)) (hstage0_10 ((cfg0.slots t 10).cast nbuf0_10)) (hstage0_11 ((cfg0.slots t 11).cast nbuf0_11)) (hstage0_12 ((cfg0.slots t 12).cast nbuf0_12)) (hstage0_13 ((cfg0.slots t 13).cast nbuf0_13)) (hstage0_14 ((cfg0.slots t 14).cast nbuf0_14)) (hstage0_15 ((cfg0.slots t 15).cast nbuf0_15)) (hstage0_16 ((cfg0.slots t 16).cast nbuf0_16)) (hstage0_17 ((cfg0.slots t 17).cast nbuf0_17)) (Memref.isWhole_whole _) (Memref.isWhole_whole _)
    (blkAt V d t) _ _ _ _ _ _ p a0 a1 g1 g2 g3 g4 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [Hp]; · iexact Hp
  isplitl [Ha]; · iexact Ha
  iintro ⟨H0, H1, H2, H3, H4, H5, H6, H7, H8, H9, H10, H11, H12, H13, H14, H15, H16, H17, Hp, Ha⟩
  isplitl [Hp Hr Ha]
  · unfold phi
    isplitl [Hp]
    · rw [hprev]
      iexact Hp
    isplitl [Hr]; · iexact Hr
    rw [hacc]
    iexact Ha
  isplitl [Howes]; · iexact Howes
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexists x12
    iexact H12
  isplitl [H13]
  · iexact H13
  isplitl [H14]
  · iexact H14
  isplitl [H15]
  · iexact H15
  isplitl [H16]
  · iexists x16
    iexact H16
  iexists x17
  iexact H17

theorem body_start (d : Dev nD) (t : Fin cfg0.N) (h0 : t.val ≠ 0) (h9 : t.val % 9 = 0) :
    iprop((dat0 V d).Φ t.castSucc ∗ (dat0 V d).owesAt none t.castSucc
        ∗ bigSep Finset.univ fun w : Fin cfg0.W => iprop(∃ x, owns d ((cfg0.win w).stage (cfg0.slots t w)) fullShare ((dat0 V d).before w t x)))
      ⊢ wp frame (wpE (defs₀ (F := F)) 𝒱₀ (T d) none) Set.univ (bodyAt0 t) fun _ =>
          iprop((dat0 V d).Φ t.succ ∗ (dat0 V d).owesAt none t.succ
            ∗ bigSep Finset.univ fun w : Fin cfg0.W =>
                match cfg0.idle w (cfg0.grid.coords t) with
                | true =>
                  match (cfg0.win w).flush t with
                  | false => iprop(∃ x, owns d ((cfg0.win w).stage (cfg0.slots t w)) fullShare ((dat0 V d).before w t x))
                  | true => owns d ((cfg0.win w).stage (cfg0.slots t w)) fullShare ((dat0 V d).after w t)
                | false => owns d ((cfg0.win w).stage (cfg0.slots t w)) fullShare ((dat0 V d).after w t)) := by
  rw [bigSep_W0, bigSep_W0]
  simp only [before0_0, before0_1, before0_2, before0_3, before0_4, before0_5, before0_6, before0_7, before0_8, before0_9, before0_10, before0_11]
  have g1 : ¬ cnd1 (grid0.coords t) = 1#1 := by rw [c1_iff]; omega
  have g2 : cnd2 (grid0.coords t) = 1#1 := by rw [c2_iff]; omega
  have g3 : ¬ k0_cond3 (grid0.coords t) = 1#1 := by rw [c3_iff]; omega
  have g4 : ¬ k0_cond4 (grid0.coords t) = 1#1 := by rw [c4_iff]; omega
  have hprev : prev V d (t.val + 1) = k0_pay5 (blkAt V d t).rep := by
    unfold prev
    rw [Nat.add_sub_cancel, blkN_val]
  have hacc : acc V d (t.val + 1) = ((blkAt V d t).sum0 (acc V d t.val).1, (blkAt V d t).sum1 (acc V d t.val).2) := by
    rw [acc]
    rw [if_pos (by omega), blkN_val]
  have i12 : idle0 12 (grid0.coords t) = true := (idle12 t).trans (by simp; omega)
  have f12 : (win0 12).flush t = false := flush12 t (by omega)
  have i16 : idle0 16 (grid0.coords t) = true := (idle16 t).trans (by simp; omega)
  have f16 : (win0 16).flush t = false := flush16 t (by omega)
  have i17 : idle0 17 (grid0.coords t) = true := (idle17 t).trans (by simp; omega)
  have f17 : (win0 17).flush t = false := flush17 t (by omega)
  simp only [i12, i16, i17, f12, f16, f17]
  rw [show (dat0 V d).Φ t.succ = phi V d (t.val + 1) from rfl, show (dat0 V d).owesAt none t.succ = (dat0 V d).owesAt none t.castSucc from rfl]
  rw [phi_castSucc V d t h0]
  unfold phi
  iintro ⟨⟨Hp, Hr, Ha⟩, Howes, ⟨%x0, H0⟩, ⟨%x1, H1⟩, ⟨%x2, H2⟩, ⟨%x3, H3⟩, ⟨%x4, H4⟩, ⟨%x5, H5⟩, ⟨%x6, H6⟩, ⟨%x7, H7⟩, ⟨%x8, H8⟩, ⟨%x9, H9⟩, ⟨%x10, H10⟩, ⟨%x11, H11⟩, ⟨%x12, H12⟩, ⟨%x13, H13⟩, ⟨%x14, H14⟩, ⟨%x15, H15⟩, ⟨%x16, H16⟩, ⟨%x17, H17⟩⟩
  iapply (main_start (F := F) d (grid0.coords t) (hstage0_0 ((cfg0.slots t 0).cast nbuf0_0)) (hstage0_1 ((cfg0.slots t 1).cast nbuf0_1)) (hstage0_2 ((cfg0.slots t 2).cast nbuf0_2)) (hstage0_3 ((cfg0.slots t 3).cast nbuf0_3)) (hstage0_4 ((cfg0.slots t 4).cast nbuf0_4)) (hstage0_5 ((cfg0.slots t 5).cast nbuf0_5)) (hstage0_6 ((cfg0.slots t 6).cast nbuf0_6)) (hstage0_7 ((cfg0.slots t 7).cast nbuf0_7)) (hstage0_8 ((cfg0.slots t 8).cast nbuf0_8)) (hstage0_9 ((cfg0.slots t 9).cast nbuf0_9)) (hstage0_10 ((cfg0.slots t 10).cast nbuf0_10)) (hstage0_11 ((cfg0.slots t 11).cast nbuf0_11)) (hstage0_12 ((cfg0.slots t 12).cast nbuf0_12)) (hstage0_13 ((cfg0.slots t 13).cast nbuf0_13)) (hstage0_14 ((cfg0.slots t 14).cast nbuf0_14)) (hstage0_15 ((cfg0.slots t 15).cast nbuf0_15)) (hstage0_16 ((cfg0.slots t 16).cast nbuf0_16)) (hstage0_17 ((cfg0.slots t 17).cast nbuf0_17)) (Memref.isWhole_whole _) (Memref.isWhole_whole _)
    (blkAt V d t) _ _ _ _ _ _ (prev V d t.val) (acc V d t.val).1 (acc V d t.val).2 g1 g2 g3 g4 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [Hp]; · iexact Hp
  isplitl [Ha]; · iexact Ha
  iintro ⟨H0, H1, H2, H3, H4, H5, H6, H7, H8, H9, H10, H11, H12, H13, H14, H15, H16, H17, Hp, Ha⟩
  isplitl [Hp Hr Ha]
  · isplitl [Hp]
    · rw [hprev]
      iexact Hp
    isplitl [Hr]; · iexact Hr
    rw [hacc]
    iexact Ha
  isplitl [Howes]; · iexact Howes
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexists x12
    iexact H12
  isplitl [H13]
  · iexact H13
  isplitl [H14]
  · iexact H14
  isplitl [H15]
  · iexact H15
  isplitl [H16]
  · iexists x16
    iexact H16
  iexists x17
  iexact H17

theorem body_mid (d : Dev nD) (t : Fin cfg0.N) (h0 : t.val ≠ 0) (h9 : t.val % 9 ≠ 0) (h8 : t.val % 9 < 8) :
    iprop((dat0 V d).Φ t.castSucc ∗ (dat0 V d).owesAt none t.castSucc
        ∗ bigSep Finset.univ fun w : Fin cfg0.W => iprop(∃ x, owns d ((cfg0.win w).stage (cfg0.slots t w)) fullShare ((dat0 V d).before w t x)))
      ⊢ wp frame (wpE (defs₀ (F := F)) 𝒱₀ (T d) none) Set.univ (bodyAt0 t) fun _ =>
          iprop((dat0 V d).Φ t.succ ∗ (dat0 V d).owesAt none t.succ
            ∗ bigSep Finset.univ fun w : Fin cfg0.W =>
                match cfg0.idle w (cfg0.grid.coords t) with
                | true =>
                  match (cfg0.win w).flush t with
                  | false => iprop(∃ x, owns d ((cfg0.win w).stage (cfg0.slots t w)) fullShare ((dat0 V d).before w t x))
                  | true => owns d ((cfg0.win w).stage (cfg0.slots t w)) fullShare ((dat0 V d).after w t)
                | false => owns d ((cfg0.win w).stage (cfg0.slots t w)) fullShare ((dat0 V d).after w t)) := by
  rw [bigSep_W0, bigSep_W0]
  simp only [before0_0, before0_1, before0_2, before0_3, before0_4, before0_5, before0_6, before0_7, before0_8, before0_9, before0_10, before0_11]
  have g1 : ¬ cnd1 (grid0.coords t) = 1#1 := by rw [c1_iff]; omega
  have g2 : cnd2 (grid0.coords t) = 1#1 := by rw [c2_iff]; omega
  have g3 : k0_cond3 (grid0.coords t) = 1#1 := by rw [c3_iff]; omega
  have g4 : ¬ k0_cond4 (grid0.coords t) = 1#1 := by rw [c4_iff]; omega
  have hprev : prev V d (t.val + 1) = k0_pay5 (blkAt V d t).rep := by
    unfold prev
    rw [Nat.add_sub_cancel, blkN_val]
  have hacc : acc V d (t.val + 1) = ((blkAt V d t).sum0 (acc V d t.val).1, (blkAt V d t).sum1 (acc V d t.val).2) := by
    rw [acc]
    rw [if_pos (by omega), blkN_val]
  have i12 : idle0 12 (grid0.coords t) = false := (idle12 t).trans (by simp; omega)
  have i16 : idle0 16 (grid0.coords t) = false := (idle16 t).trans (by simp; omega)
  have i17 : idle0 17 (grid0.coords t) = true := (idle17 t).trans (by simp; omega)
  have f17 : (win0 17).flush t = false := flush17 t (by omega)
  simp only [i12, i16, i17, f17]
  rw [show (dat0 V d).Φ t.succ = phi V d (t.val + 1) from rfl, show (dat0 V d).owesAt none t.succ = (dat0 V d).owesAt none t.castSucc from rfl]
  rw [phi_castSucc V d t h0]
  unfold phi
  iintro ⟨⟨Hp, Hr, Ha⟩, Howes, ⟨%x0, H0⟩, ⟨%x1, H1⟩, ⟨%x2, H2⟩, ⟨%x3, H3⟩, ⟨%x4, H4⟩, ⟨%x5, H5⟩, ⟨%x6, H6⟩, ⟨%x7, H7⟩, ⟨%x8, H8⟩, ⟨%x9, H9⟩, ⟨%x10, H10⟩, ⟨%x11, H11⟩, ⟨%x12, H12⟩, ⟨%x13, H13⟩, ⟨%x14, H14⟩, ⟨%x15, H15⟩, ⟨%x16, H16⟩, ⟨%x17, H17⟩⟩
  iapply (main_mid (F := F) d (grid0.coords t) (hstage0_0 ((cfg0.slots t 0).cast nbuf0_0)) (hstage0_1 ((cfg0.slots t 1).cast nbuf0_1)) (hstage0_2 ((cfg0.slots t 2).cast nbuf0_2)) (hstage0_3 ((cfg0.slots t 3).cast nbuf0_3)) (hstage0_4 ((cfg0.slots t 4).cast nbuf0_4)) (hstage0_5 ((cfg0.slots t 5).cast nbuf0_5)) (hstage0_6 ((cfg0.slots t 6).cast nbuf0_6)) (hstage0_7 ((cfg0.slots t 7).cast nbuf0_7)) (hstage0_8 ((cfg0.slots t 8).cast nbuf0_8)) (hstage0_9 ((cfg0.slots t 9).cast nbuf0_9)) (hstage0_10 ((cfg0.slots t 10).cast nbuf0_10)) (hstage0_11 ((cfg0.slots t 11).cast nbuf0_11)) (hstage0_12 ((cfg0.slots t 12).cast nbuf0_12)) (hstage0_13 ((cfg0.slots t 13).cast nbuf0_13)) (hstage0_14 ((cfg0.slots t 14).cast nbuf0_14)) (hstage0_15 ((cfg0.slots t 15).cast nbuf0_15)) (hstage0_16 ((cfg0.slots t 16).cast nbuf0_16)) (hstage0_17 ((cfg0.slots t 17).cast nbuf0_17)) (Memref.isWhole_whole _) (Memref.isWhole_whole _)
    (blkAt V d t) _ _ _ _ _ _ (prev V d t.val) (acc V d t.val).1 (acc V d t.val).2 g1 g2 g3 g4 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [Hp]; · iexact Hp
  isplitl [Ha]; · iexact Ha
  iintro ⟨H0, H1, H2, H3, H4, H5, H6, H7, H8, H9, H10, H11, H12, H13, H14, H15, H16, H17, Hp, Ha⟩
  isplitl [Hp Hr Ha]
  · isplitl [Hp]
    · rw [hprev]
      iexact Hp
    isplitl [Hr]; · iexact Hr
    rw [hacc]
    iexact Ha
  isplitl [Howes]; · iexact Howes
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  iexists x17
  iexact H17

theorem body_end (d : Dev nD) (t : Fin cfg0.N) (h0 : t.val ≠ 0) (h8 : t.val % 9 = 8) (hl : t.val ≠ 35) :
    iprop((dat0 V d).Φ t.castSucc ∗ (dat0 V d).owesAt none t.castSucc
        ∗ bigSep Finset.univ fun w : Fin cfg0.W => iprop(∃ x, owns d ((cfg0.win w).stage (cfg0.slots t w)) fullShare ((dat0 V d).before w t x)))
      ⊢ wp frame (wpE (defs₀ (F := F)) 𝒱₀ (T d) none) Set.univ (bodyAt0 t) fun _ =>
          iprop((dat0 V d).Φ t.succ ∗ (dat0 V d).owesAt none t.succ
            ∗ bigSep Finset.univ fun w : Fin cfg0.W =>
                match cfg0.idle w (cfg0.grid.coords t) with
                | true =>
                  match (cfg0.win w).flush t with
                  | false => iprop(∃ x, owns d ((cfg0.win w).stage (cfg0.slots t w)) fullShare ((dat0 V d).before w t x))
                  | true => owns d ((cfg0.win w).stage (cfg0.slots t w)) fullShare ((dat0 V d).after w t)
                | false => owns d ((cfg0.win w).stage (cfg0.slots t w)) fullShare ((dat0 V d).after w t)) := by
  rw [bigSep_W0, bigSep_W0]
  simp only [before0_0, before0_1, before0_2, before0_3, before0_4, before0_5, before0_6, before0_7, before0_8, before0_9, before0_10, before0_11]
  have g1 : ¬ cnd1 (grid0.coords t) = 1#1 := by rw [c1_iff]; omega
  have g2 : ¬ cnd2 (grid0.coords t) = 1#1 := by rw [c2_iff]; omega
  have g3 : k0_cond3 (grid0.coords t) = 1#1 := by rw [c3_iff]; omega
  have g4 : ¬ k0_cond4 (grid0.coords t) = 1#1 := by rw [c4_iff]; omega
  have hprev : prev V d (t.val + 1) = k0_pay5 (blkAt V d t).rep := by
    unfold prev
    rw [Nat.add_sub_cancel, blkN_val]
  have hacc : acc V d (t.val + 1) = acc V d t.val := by
    rw [acc]
    rw [if_neg (by omega)]
  have i12 : idle0 12 (grid0.coords t) = false := (idle12 t).trans (by simp; omega)
  have i16 : idle0 16 (grid0.coords t) = false := (idle16 t).trans (by simp; omega)
  have i17 : idle0 17 (grid0.coords t) = true := (idle17 t).trans (by simp; omega)
  have f17 : (win0 17).flush t = false := flush17 t (by omega)
  simp only [i12, i16, i17, f17]
  rw [show (dat0 V d).Φ t.succ = phi V d (t.val + 1) from rfl, show (dat0 V d).owesAt none t.succ = (dat0 V d).owesAt none t.castSucc from rfl]
  rw [phi_castSucc V d t h0]
  unfold phi
  iintro ⟨⟨Hp, Hr, Ha⟩, Howes, ⟨%x0, H0⟩, ⟨%x1, H1⟩, ⟨%x2, H2⟩, ⟨%x3, H3⟩, ⟨%x4, H4⟩, ⟨%x5, H5⟩, ⟨%x6, H6⟩, ⟨%x7, H7⟩, ⟨%x8, H8⟩, ⟨%x9, H9⟩, ⟨%x10, H10⟩, ⟨%x11, H11⟩, ⟨%x12, H12⟩, ⟨%x13, H13⟩, ⟨%x14, H14⟩, ⟨%x15, H15⟩, ⟨%x16, H16⟩, ⟨%x17, H17⟩⟩
  iapply (main_end (F := F) d (grid0.coords t) (hstage0_0 ((cfg0.slots t 0).cast nbuf0_0)) (hstage0_1 ((cfg0.slots t 1).cast nbuf0_1)) (hstage0_2 ((cfg0.slots t 2).cast nbuf0_2)) (hstage0_3 ((cfg0.slots t 3).cast nbuf0_3)) (hstage0_4 ((cfg0.slots t 4).cast nbuf0_4)) (hstage0_5 ((cfg0.slots t 5).cast nbuf0_5)) (hstage0_6 ((cfg0.slots t 6).cast nbuf0_6)) (hstage0_7 ((cfg0.slots t 7).cast nbuf0_7)) (hstage0_8 ((cfg0.slots t 8).cast nbuf0_8)) (hstage0_9 ((cfg0.slots t 9).cast nbuf0_9)) (hstage0_10 ((cfg0.slots t 10).cast nbuf0_10)) (hstage0_11 ((cfg0.slots t 11).cast nbuf0_11)) (hstage0_12 ((cfg0.slots t 12).cast nbuf0_12)) (hstage0_13 ((cfg0.slots t 13).cast nbuf0_13)) (hstage0_14 ((cfg0.slots t 14).cast nbuf0_14)) (hstage0_15 ((cfg0.slots t 15).cast nbuf0_15)) (hstage0_16 ((cfg0.slots t 16).cast nbuf0_16)) (hstage0_17 ((cfg0.slots t 17).cast nbuf0_17)) (Memref.isWhole_whole _) (Memref.isWhole_whole _)
    (blkAt V d t) _ _ _ _ _ _ (prev V d t.val) (acc V d t.val).1 (acc V d t.val).2 g1 g2 g3 g4 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [Hp]; · iexact Hp
  isplitl [Ha]; · iexact Ha
  iintro ⟨H0, H1, H2, H3, H4, H5, H6, H7, H8, H9, H10, H11, H12, H13, H14, H15, H16, H17, Hp, Ha⟩
  isplitl [Hp Hr Ha]
  · isplitl [Hp]
    · rw [hprev]
      iexact Hp
    isplitl [Hr]; · iexact Hr
    rw [hacc]
    iexact Ha
  isplitl [Howes]; · iexact Howes
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  iexists x17
  iexact H17

theorem body_last (d : Dev nD) (t : Fin cfg0.N) (h0 : t.val ≠ 0) (hl : t.val = 35) :
    iprop((dat0 V d).Φ t.castSucc ∗ (dat0 V d).owesAt none t.castSucc
        ∗ bigSep Finset.univ fun w : Fin cfg0.W => iprop(∃ x, owns d ((cfg0.win w).stage (cfg0.slots t w)) fullShare ((dat0 V d).before w t x)))
      ⊢ wp frame (wpE (defs₀ (F := F)) 𝒱₀ (T d) none) Set.univ (bodyAt0 t) fun _ =>
          iprop((dat0 V d).Φ t.succ ∗ (dat0 V d).owesAt none t.succ
            ∗ bigSep Finset.univ fun w : Fin cfg0.W =>
                match cfg0.idle w (cfg0.grid.coords t) with
                | true =>
                  match (cfg0.win w).flush t with
                  | false => iprop(∃ x, owns d ((cfg0.win w).stage (cfg0.slots t w)) fullShare ((dat0 V d).before w t x))
                  | true => owns d ((cfg0.win w).stage (cfg0.slots t w)) fullShare ((dat0 V d).after w t)
                | false => owns d ((cfg0.win w).stage (cfg0.slots t w)) fullShare ((dat0 V d).after w t)) := by
  rw [bigSep_W0, bigSep_W0]
  simp only [before0_0, before0_1, before0_2, before0_3, before0_4, before0_5, before0_6, before0_7, before0_8, before0_9, before0_10, before0_11]
  have g1 : ¬ cnd1 (grid0.coords t) = 1#1 := by rw [c1_iff]; omega
  have g2 : ¬ cnd2 (grid0.coords t) = 1#1 := by rw [c2_iff]; omega
  have g3 : k0_cond3 (grid0.coords t) = 1#1 := by rw [c3_iff]; omega
  have g4 : k0_cond4 (grid0.coords t) = 1#1 := by rw [c4_iff]; omega
  have hprev : prev V d (t.val + 1) = k0_pay5 (blkAt V d t).rep := by
    unfold prev
    rw [Nat.add_sub_cancel, blkN_val]
  have hacc : acc V d (t.val + 1) = acc V d t.val := by
    rw [acc]
    rw [if_neg (by omega)]
  have i12 : idle0 12 (grid0.coords t) = false := (idle12 t).trans (by simp; omega)
  have i16 : idle0 16 (grid0.coords t) = false := (idle16 t).trans (by simp; omega)
  have i17 : idle0 17 (grid0.coords t) = false := (idle17 t).trans (by simp; omega)
  simp only [i12, i16, i17]
  rw [show (dat0 V d).Φ t.succ = phi V d (t.val + 1) from rfl, show (dat0 V d).owesAt none t.succ = (dat0 V d).owesAt none t.castSucc from rfl]
  rw [phi_castSucc V d t h0]
  unfold phi
  iintro ⟨⟨Hp, Hr, Ha⟩, Howes, ⟨%x0, H0⟩, ⟨%x1, H1⟩, ⟨%x2, H2⟩, ⟨%x3, H3⟩, ⟨%x4, H4⟩, ⟨%x5, H5⟩, ⟨%x6, H6⟩, ⟨%x7, H7⟩, ⟨%x8, H8⟩, ⟨%x9, H9⟩, ⟨%x10, H10⟩, ⟨%x11, H11⟩, ⟨%x12, H12⟩, ⟨%x13, H13⟩, ⟨%x14, H14⟩, ⟨%x15, H15⟩, ⟨%x16, H16⟩, ⟨%x17, H17⟩⟩
  iapply (main_last (F := F) d (grid0.coords t) (hstage0_0 ((cfg0.slots t 0).cast nbuf0_0)) (hstage0_1 ((cfg0.slots t 1).cast nbuf0_1)) (hstage0_2 ((cfg0.slots t 2).cast nbuf0_2)) (hstage0_3 ((cfg0.slots t 3).cast nbuf0_3)) (hstage0_4 ((cfg0.slots t 4).cast nbuf0_4)) (hstage0_5 ((cfg0.slots t 5).cast nbuf0_5)) (hstage0_6 ((cfg0.slots t 6).cast nbuf0_6)) (hstage0_7 ((cfg0.slots t 7).cast nbuf0_7)) (hstage0_8 ((cfg0.slots t 8).cast nbuf0_8)) (hstage0_9 ((cfg0.slots t 9).cast nbuf0_9)) (hstage0_10 ((cfg0.slots t 10).cast nbuf0_10)) (hstage0_11 ((cfg0.slots t 11).cast nbuf0_11)) (hstage0_12 ((cfg0.slots t 12).cast nbuf0_12)) (hstage0_13 ((cfg0.slots t 13).cast nbuf0_13)) (hstage0_14 ((cfg0.slots t 14).cast nbuf0_14)) (hstage0_15 ((cfg0.slots t 15).cast nbuf0_15)) (hstage0_16 ((cfg0.slots t 16).cast nbuf0_16)) (hstage0_17 ((cfg0.slots t 17).cast nbuf0_17)) (Memref.isWhole_whole _) (Memref.isWhole_whole _)
    (blkAt V d t) _ _ _ _ _ _ (prev V d t.val) (acc V d t.val).1 (acc V d t.val).2 g1 g2 g3 g4 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [Hp]; · iexact Hp
  isplitl [Ha]; · iexact Ha
  iintro ⟨H0, H1, H2, H3, H4, H5, H6, H7, H8, H9, H10, H11, H12, H13, H14, H15, H16, H17, Hp, Ha⟩
  isplitl [Hp Hr Ha]
  · isplitl [Hp]
    · rw [hprev]
      iexact Hp
    isplitl [Hr]; · iexact Hr
    rw [hacc]
    iexact Ha
  isplitl [Howes]; · iexact Howes
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  iexact H17

theorem body0 (d : Dev nD) : BodyObligation (dat0 V d) (defs₀ (F := F)) 𝒱₀ none Set.univ := fun t => by
  by_cases h0 : t.val = 0
  · exact body_first V d t h0
  by_cases h9 : t.val % 9 = 0
  · exact body_start V d t h0 h9
  by_cases h8 : t.val % 9 < 8
  · exact body_mid V d t h0 h9 h8
  by_cases hl : t.val = 35
  · exact body_last V d t h0 hl
  · exact body_end V d t h0 (by omega) hl

theorem enters0 : Enters 0 0 V (dat0 V) where
  kit := launch0
  body d := (body0 V d).loose
  arr _ _ := rfl
  share _ _ := rfl
  owed _ _ := rfl
  recd _ _ := rfl
  first _ := rfl
  last d := phi_last V d

end Data

end Cert.Proof.Span

end
-- ==== Proof.Run.lean ====
/-
  The whole run: host operations, the tagger's pipeline, host operations, the SparseCore call, host operations, the
  classifier's pipeline, host operations. It ends with every array of @main at the contents `VF`.
-/
module

public import proofs.«01_k».proof.Proof.Host
public import proofs.«01_k».proof.Proof.Gather
public import proofs.«01_k».proof.Proof.Loss2
public import proofs.«01_k».proof.Proof.MainBody

@[expose] public section

noncomputable section

namespace Cert.Proof.Span

open Cert.KernelIdeal Cert.KernelIdeal.Gen

open Idealize.ShloMosaic Idealize.ShloMosaic.StableHlo
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 1) (Elt F) ℕ UU ℕ

/-- The whole arrays of a set, held at contents `W`, tell the final memory. -/
theorem held_read (d : Dev nD) (A : Finset (DevRef τ sig)) (W : Valuation τ sig (Elt F)) (s' : Phys nD τ sig (Elt F)) :
    iprop(held (T d) A W ∗ SI s') ⊢ (⌜∀ b ∈ A, s'.mem.mem (d, b) = W b⌝ : sProp 𝕄) := fun x hx b hb =>
  funext fun i => (((sep_mono_left (bigSep_elim hb)).trans sep_symm).trans (SI_pointsTo_agree (st := s') (ℓ := (d, b)) (I := Finset.univ) (q := fullShare) (f := W b))) x hx i (Finset.mem_univ i)

/-! ## The contents along the run, from the launch contents `V` -/

section Contents

variable (V : Dev nD → Valuation τ sig (Elt F))

/-- Before the tagger's pipeline. -/
def V1 (d : Dev nD) : Valuation τ sig (Elt F) := after opsA (V d)
/-- After it. -/
def V2 (d : Dev nD) : Valuation τ sig (Elt F) := Pipeline.afterRegion (dat0 (V1 V) d) (V1 V d)
def V3 (d : Dev nD) : Valuation τ sig (Elt F) := after opsB1 (V2 V d)
def V4 (d : Dev nD) : Valuation τ sig (Elt F) := after opsB2 (V3 V d)
def V5 (d : Dev nD) : Valuation τ sig (Elt F) := after opsB3 (V4 V d)
def V6 (d : Dev nD) : Valuation τ sig (Elt F) := after opsB4 (V5 V d)
def V7 (d : Dev nD) : Valuation τ sig (Elt F) := after opsB5 (V6 V d)
/-- Before the SparseCore call. -/
def V8 (d : Dev nD) : Valuation τ sig (Elt F) := after opsB6 (V7 V d)
/-- The table and the list that the SparseCore call is given. -/
def tb (d : Dev nD) : S65536x128.Idx → Elt F .f32 := V8 V d (dr main_v62)
def ix (d : Dev nD) : S2048.Idx → BitVec 32 := V8 V d (dr main_v61)
/-- After the SparseCore call. -/
def V9 (d : Dev nD) : Valuation τ sig (Elt F) := Function.update (V8 V d) (dr main_v63) (gat (tb V d) (ix V d))
/-- Before the classifier's pipeline. -/
def V10 (d : Dev nD) : Valuation τ sig (Elt F) := after opsC (V9 V d)
/-- After it. -/
def V11 (d : Dev nD) : Valuation τ sig (Elt F) := Pipeline.afterRegion (dat2 1 (V10 V) d) (V10 V d)
/-- At the end. -/
def VF (d : Dev nD) : Valuation τ sig (Elt F) := after opsD (V11 V d)

theorem after_append (l₁ l₂ : List (HloOp τ sig (Elt F))) (W : Valuation τ sig (Elt F)) : after (l₁ ++ l₂) W = after l₂ (after l₁ W) := by
  induction l₁ generalizing W with
  | nil => rfl
  | cons op l ih => exact ih _

theorem V7_eq (d : Dev nD) : after (opsB1 ++ opsB2 ++ opsB3 ++ opsB4 ++ opsB5) (V2 V d) = V7 V d := by
  simp only [after_append]; rfl

/-- The call's three arrays. -/
abbrev S3 : Finset (DevRef τ sig) := {dr main_v61, dr main_v62, dr main_v63}
theorem S3_sub : S3 ⊆ UC := by
  intro b hb
  simp only [S3, Finset.mem_insert, Finset.mem_singleton] at hb
  rcases hb with rfl | rfl | rfl <;> exact dr_mem _

theorem held_S3 (d : Dev nD) (W : Valuation τ sig (Elt F)) :
    (held (T d) S3 W : sProp 𝕄) = iprop((iLoc d ↦{fullShare} W (dr main_v61)) ∗ (tLoc d ↦{fullShare} W (dr main_v62)) ∗ oLoc d ↦{fullShare} W (dr main_v63)) := by
  unfold held
  rw [SparseCore.bigSep_insert' (by decide), SparseCore.bigSep_insert' (by decide), bigSep_singleton]

theorem held_V8 (d : Dev nD) :
    (held (T d) UC (V8 V d) : sProp 𝕄)
      = iprop(((iLoc d ↦{fullShare} ix V d) ∗ (tLoc d ↦{fullShare} tb V d) ∗ oLoc d ↦{fullShare} V8 V d (dr main_v63)) ∗ held (T d) (UC \ S3) (V8 V d)) := by
  rw [held_sub_split (T d) S3_sub, held_S3]; rfl

theorem held_V9 (d : Dev nD) :
    (held (T d) UC (V9 V d) : sProp 𝕄)
      = iprop(((iLoc d ↦{fullShare} ix V d) ∗ (tLoc d ↦{fullShare} tb V d) ∗ oLoc d ↦{fullShare} gat (tb V d) (ix V d)) ∗ held (T d) (UC \ S3) (V8 V d)) := by
  rw [held_sub_split (T d) S3_sub, held_S3]
  rw [held_congr (T d) (S := UC \ S3) (V := V9 V d) (V' := V8 V d) fun b hb =>
    Function.update_of_ne (fun e => (Finset.mem_sdiff.mp hb).2 (by rw [e]; decide)) _ _]
  rw [show V9 V d (dr main_v61) = ix V d from Function.update_of_ne (by decide) _ _,
    show V9 V d (dr main_v62) = tb V d from Function.update_of_ne (by decide) _ _,
    show V9 V d (dr main_v63) = gat (tb V d) (ix V d) from Function.update_self _ _ _]

end Contents

theorem sub_of {ops : List (HloOp τ sig (Elt F))} (h : ops.Forall fun op => op.bufs ⊆ tcRefs τ sig) : ∀ op ∈ ops, op.bufs ⊆ UC :=
  fun op ho => Pipeline.sub_ucRefs op ((List.forall_iff_forall_mem.mp h) op ho)

abbrev opsB : List (HloOp τ sig (Elt F)) := opsB1 ++ opsB2 ++ opsB3 ++ opsB4 ++ opsB5
theorem subB : ∀ op ∈ (opsB (F := F)), op.bufs ⊆ UC := by
  intro op h
  simp only [opsB, List.mem_append] at h
  rcases h with (((h | h) | h) | h) | h
  · exact sub_of allB1 op h
  · exact sub_of allB2 op h
  · exact sub_of allB3 op h
  · exact sub_of allB4 op h
  · exact sub_of allB5 op h
theorem freshB : ∀ op ∈ (opsB (F := F)), op.fresh = ∅ := by
  intro op h
  simp only [opsB, List.mem_append] at h
  rcases h with (((h | h) | h) | h) | h
  · exact freshB1 op h
  · exact freshB2 op h
  · exact freshB3 op h
  · exact freshB4 op h
  · exact freshB5 op h

variable (m : (ℓ : Loc nD τ sig) → Buf (Elt F) ℓ) (ρ : Dev nD → PrngReg)

/-- The launch contents. -/
def V0 (d : Dev nD) : Valuation τ sig (Elt F) := fun b => m (d, b)

abbrev FIN (d : Dev nD) : sProp 𝕄 := held (T d) UC (VF (V0 m) d)

set_option backward.isDefEq.respectTransparency.types false in
/-- @main on device `d`'s TensorCore. -/
theorem hmain [∀ e, Nonempty (Elt F e)] (κ : GSem nD τ sig → ℕ) (d : Dev nD) :
    iprop((K (F := F)).ctx EH (P (tb (V0 m)) (ix (V0 m))) κ ∗ (K (F := F)).tcSt EH d 0 ∗ (K (F := F)).tcRes m ρ d ∗ (ghost d 0 ∗ ghost d 1))
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) UC (V0 m d) from Pipeline.unscopedBufs_held d (V0 m d), main_eq, part0_eq, part1_eq]
  iintro ⟨#Hctx, Hst, ⟨Hb, Hheld, Hts, -⟩, Hg0, Hg1⟩
  ihave #Hlev := ((K (F := F)).ctx_levAts κ) $$ Hctx
  simp only [bind_assoc]
  iapply (wp_seq 𝒱 none Set.univ d UC _ opsA (sub_of allA) freshA (V0 m d)) $$ [Hb Hheld]
  · isplitl [Hb] <;> iassumption
  iintro ⟨Hb, Hheld⟩
  unfold SparseCore.Cfg.tcSt
  icases Hst with ⟨Ho, Hst⟩
  rw [wp_bind]
  iapply (region_wp (enters0 (F := F) (V1 (V0 m))) d _)
  isplitr [Hb Hheld Ho Hg0]
  · iintro ⟨Hb, Hheld, Ho⟩
    iapply (wp_seq 𝒱 none Set.univ d UC _ opsB subB freshB (V2 (V0 m) d)) $$ [Hb Hheld]
    · isplitl [Hb]; · iexact Hb
      iexact Hheld
    iintro ⟨Hb, Hheld⟩
    rw [V7_eq]
    iapply (wp_seq 𝒱 none Set.univ d UC _ opsB6 (sub_of allB6) freshB6 (V7 (V0 m) d)) $$ [Hb Hheld]
    · isplitl [Hb] <;> iassumption
    iintro ⟨Hb, Hheld⟩
    ihave Hh := (show (held (d.tc : Thread nD τ) UC (after opsB6 (V7 (V0 m) d)) : sProp 𝕄) ⊢ _ from Entails.of_eq (held_V8 (F := F) (V0 m) d)) $$ Hheld
    icases Hh with ⟨H3, Hrest⟩
    rw [wp_bind]
    iapply ((K (F := F)).wp_run (D (F := F)) 𝒱 (EH := EH) (P := P (tb (V0 m)) (ix (V0 m))) κ d 0) $$ [Hst Ho H3 Hb Hrest Hts Hg1]
    isplitr; · iexact Hctx
    isplitl [Hst Ho]
    · unfold SparseCore.Cfg.tcSt
      isplitl [Ho]; · iexact Ho
      iexact Hst
    isplitl [H3]; · iapply (st_of (F := F) (tb (V0 m)) (ix (V0 m)) d _); iexact H3
    iintro ⟨Hst, Hdn⟩
    ihave H3 := (Entails.of_eq (dn_eq (tb (V0 m)) (ix (V0 m)) d)) $$ Hdn
    ihave Hheld := (Entails.of_eq (held_V9 (F := F) (V0 m) d).symm) $$ [H3 Hrest]
    · isplitl [H3] <;> iassumption
    iapply (wp_seq 𝒱 none Set.univ d UC _ opsC (sub_of allC) freshC (V9 (V0 m) d)) $$ [Hb Hheld]
    · isplitl [Hb] <;> iassumption
    iintro ⟨Hb, Hheld⟩
    unfold SparseCore.Cfg.tcSt
    icases Hst with ⟨Ho, Hst⟩
    rw [wp_bind]
    iapply (region_wp (enters2 (F := F) 1 (V10 (V0 m))) d _)
    isplitr [Hb Hheld Ho Hg1]
    · iintro ⟨Hb, Hheld, Ho⟩
      iapply (wp_seq 𝒱 none Set.univ d UC _ opsD (sub_of allD) freshD (V11 (V0 m) d)) $$ [Hb Hheld]
      · isplitl [Hb]; · iexact Hb
        iexact Hheld
      iintro ⟨Hb, Hheld⟩
      rw [show (seq ([] : List (HloOp τ sig (Elt F))) : Prog (TpuEff nD τ sig (Elt F) (SparseCore.Sig (ΛP (F := F)) 1) .tc) PUnit) = pure ⟨⟩ from rfl, wp_pure]; imodintro
      isplitl [Hst Ho]
      · isplitl [Ho]; · iexact Ho
        iexact Hst
      isplitl [Hheld]; · iexact Hheld
      isplitl [Hb] <;> iassumption
    · isplitl [Hb]; · iexact Hb
      isplitl [Hheld Ho]
      · isplitl [Hheld]; · iexact Hheld
        iexact Ho
      isplitr; · iexact Hlev
      iexact Hg1
  · isplitl [Hb]; · iexact Hb
    isplitl [Hheld Ho]
    · isplitl [Hheld]; · iexact Hheld
      iexact Ho
    isplitr; · iexact Hlev
    iexact Hg0

/-- What the program's run leaves: every array at `VF`, every semaphore at zero. -/
def QC : PUnit × MemSt nD τ sig (Elt F) → Prop := fun r => (∀ c : Dev nD, ∀ b ∈ UC, r.2.mem (c, b) = VF (V0 m) c b) ∧ r.2.sem = fun _ => 0

theorem run_main [∀ e, Nonempty (Elt F e)] (hix : ∀ d, InRows (ix (V0 m) d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (tb (V0 m)) (ix (V0 m))) (A := ∅) facts v₀
    (fun q hq => match q with | 0 => nomatch hq)
    (fun q _ => match q with | 0 => tileObl (tb (V0 m)) (ix (V0 m)) facts hix)
    (fun q _ => match q with | 0 => SparseCore.Cfg.VecSplit.of_plain (vecSplit (tb (V0 m)) (ix (V0 m))))
    m ρ main (fun d => iprop(ghost d 0 ∗ ghost d 1)) (FIN m) (u₀ (F := F)) (sep_elim_left.trans (hu₀ (tb (V0 m)) (ix (V0 m)))) (hmain m ρ)
    (fun d s' => ∀ b ∈ UC, s'.mem.mem (d, b) = VF (V0 m) d b) (fun d s' => held_read d UC (VF (V0 m) d) s') (QC m) (fun _ h hz => ⟨h, hz⟩)

end Cert.Proof.Span

end
-- ==== Proof.KEq.lean ====
/-
  The contents at the end of the run, read array by array: each array that a host operation writes is the operation's
  function of the arrays it reads, all at the end of the run.
-/
module

public import proofs.«01_k».proof.Proof.Run

@[expose] public section

noncomputable section

namespace Cert.Proof.Span

open Cert.KernelIdeal Cert.KernelIdeal.Gen

open Idealize.ShloMosaic Idealize.ShloMosaic.StableHlo
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Proof.Line

variable {F : FTy → Type} [FloatOps F]

variable (V : Dev nD → Valuation τ sig (Elt F)) (d : Dev nD)

/-- An array's contents at the end of the run from launch contents `V`. -/
def kv (r : Ref sig .tc) : r.ty.Contents (Elt F) := VF V d (rd r)

theorem outs0 : ∀ w : Fin cfg0.W, (cfg0.win w).isOut = true → 22 ≤ rk (Pipeline.arrRef cfg0.spec w) := by decide
theorem outs2 : ∀ w : Fin cfg2.W, (cfg2.win w).isOut = true → 180 ≤ rk (Pipeline.arrRef cfg2.spec w) := by decide

/-- The tagger's pipeline writes its results alone. -/
theorem keep2 {r : Ref sig .tc} (h : rk r < 22) : V2 V d (rd r) = V1 V d (rd r) :=
  Pipeline.afterRegion_keeps (dat0 (V1 V) d) (V1 V d) winFacts0.arr_inj (fun w => (enters0 (V1 V)).arr d w) r fun w e => by
    by_contra hb
    have := outs0 w (by revert hb; cases (cfg0.win w).isOut <;> simp)
    rw [e] at this; omega
/-- The classifier's pipeline writes its results alone. -/
theorem keep11 {r : Ref sig .tc} (h : rk r < 180) : V11 V d (rd r) = V10 V d (rd r) :=
  Pipeline.afterRegion_keeps (dat2 1 (V10 V) d) (V10 V d) winFacts2.arr_inj (fun w => (enters2 1 (V10 V)).arr d w) r fun w e => by
    by_contra hb
    have := outs2 w (by revert hb; cases (cfg2.win w).isOut <;> simp)
    rw [e] at this; omega
/-- The SparseCore call writes its result alone. -/
theorem keep9 {r : Ref sig .tc} (h : rk r < 176) : V9 V d (rd r) = V8 V d (rd r) :=
  Function.update_of_ne (devRef_ne_of_ne fun e => by subst e; exact absurd h (by decide)) _ _

theorem keepF {r : Ref sig .tc} (h : rk r < 183) : kv V d r = V11 V d (rd r) := lineD.keep _ h
theorem keepF10 {r : Ref sig .tc} (h : rk r < 180) : kv V d r = V10 V d (rd r) := (keepF V d (h.trans (by decide))).trans (keep11 V d h)
theorem keepF9 {r : Ref sig .tc} (h : rk r < 177) : kv V d r = V9 V d (rd r) := (keepF10 V d (h.trans (by decide))).trans (lineC.keep _ h)
theorem keepF8 {r : Ref sig .tc} (h : rk r < 176) : kv V d r = V8 V d (rd r) := (keepF9 V d (h.trans (by decide))).trans (keep9 V d h)
theorem keepF7 {r : Ref sig .tc} (h : rk r < 144) : kv V d r = V7 V d (rd r) := (keepF8 V d (h.trans (by decide))).trans (lineB6.keep _ h)
theorem keepF6 {r : Ref sig .tc} (h : rk r < 123) : kv V d r = V6 V d (rd r) := (keepF7 V d (h.trans (by decide))).trans (lineB5.keep _ h)
theorem keepF5 {r : Ref sig .tc} (h : rk r < 99) : kv V d r = V5 V d (rd r) := (keepF6 V d (h.trans (by decide))).trans (lineB4.keep _ h)
theorem keepF4 {r : Ref sig .tc} (h : rk r < 76) : kv V d r = V4 V d (rd r) := (keepF5 V d (h.trans (by decide))).trans (lineB3.keep _ h)
theorem keepF3 {r : Ref sig .tc} (h : rk r < 51) : kv V d r = V3 V d (rd r) := (keepF4 V d (h.trans (by decide))).trans (lineB2.keep _ h)
theorem keepF2 {r : Ref sig .tc} (h : rk r < 28) : kv V d r = V2 V d (rd r) := (keepF3 V d (h.trans (by decide))).trans (lineB1.keep _ h)
theorem keepF1 {r : Ref sig .tc} (h : rk r < 22) : kv V d r = V1 V d (rd r) := (keepF2 V d (h.trans (by decide))).trans (keep2 V d h)
theorem keepF0 {r : Ref sig .tc} (h : rk r < 14) : kv V d r = V d (rd r) := (keepF1 V d (h.trans (by decide))).trans (lineA.keep _ h)

theorem segA : Seg (VF V d) (V d) (opsA) wrA 14 22 := ⟨lineA, fun _ h => keepF1 V d h⟩
theorem segC : Seg (VF V d) (V9 V d) (opsC) wrC 177 180 := ⟨lineC, fun _ h => keepF10 V d h⟩
theorem segB1 : Seg (VF V d) (V2 V d) (opsB1) wrB1 28 51 := ⟨lineB1, fun _ h => keepF3 V d h⟩
theorem segB2 : Seg (VF V d) (V3 V d) (opsB2) wrB2 51 76 := ⟨lineB2, fun _ h => keepF4 V d h⟩
theorem segB3 : Seg (VF V d) (V4 V d) (opsB3) wrB3 76 99 := ⟨lineB3, fun _ h => keepF5 V d h⟩
theorem segB4 : Seg (VF V d) (V5 V d) (opsB4) wrB4 99 123 := ⟨lineB4, fun _ h => keepF6 V d h⟩
theorem segB5 : Seg (VF V d) (V6 V d) (opsB5) wrB5 123 144 := ⟨lineB5, fun _ h => keepF7 V d h⟩
theorem segB6 : Seg (VF V d) (V7 V d) (opsB6) wrB6 144 176 := ⟨lineB6, fun _ h => keepF8 V d h⟩
theorem segD : Seg (VF V d) (V11 V d) opsD wrD 183 1000 := ⟨lineD, fun _ _ => rfl⟩

/-- What the tagger's pipeline leaves in a result. -/
theorem kv_out0 {r : Ref sig .tc} (h : rk r < 28) : kv V d r = Pipeline.afterRegion (dat0 (V1 V) d) (V1 V d) (rd r) := keepF2 V d h
/-- What the classifier's pipeline leaves in a result. -/
theorem kv_out2 {r : Ref sig .tc} (h : rk r < 183) : kv V d r = Pipeline.afterRegion (dat2 1 (V10 V) d) (V10 V d) (rd r) := keepF V d h
/-- The list that the SparseCore call reads. -/
theorem kv_ix : (kv V d main_v61 : B F S2048 .i32) = ix V d := keepF8 V d (by decide)
theorem kv_tb : (kv V d main_v62 : B F S65536x128 .f32) = tb V d := keepF8 V d (by decide)
/-- What the SparseCore call leaves. -/
theorem kv_gat : (kv V d main_v63 : B F S2048x128 .f32) = gat (kv V d main_v62 : B F S65536x128 .f32) (kv V d main_v61 : B F S2048 .i32) := by
  rw [kv_ix, kv_tb]
  exact (keepF9 V d (by decide)).trans (Function.update_self _ _ _)

theorem k_v0 : (kv V d main_v0 : B F S1x128 .f32) = shapeCast S1x128 (kv V d main_arg8 : B F S128 .f32) shapeCasts_S128_S1x128 := by
  have h := (segA V d).reshapeT (S := S128) (S' := S1x128) (t := .f32) 0 rfl rfl shapeCasts_S128_S1x128
    (show (opsA (F := F))[0]? = some (reshape main_arg8 main_v0 (rfl : (.f32 : EltTy) = .f32) shapeCasts_S128_S1x128) from rfl)
  rw [cast_eq, cast_eq] at h
  exact h
theorem k_v1 : (kv V d main_v1 : B F S128x8 .f32) = ((Host.slice S128x8 ![0, 0] ![1, 2] · slicesBy_S128x16_S128x8_0s1_0s2) : B F S128x16 .f32 → _) (kv V d main_arg9) := (segA V d).unary 1 rfl
theorem k_v2 : (kv V d main_v2 : B F S128x8 .f32) = ((Host.slice S128x8 ![0, 1] ![1, 2] · slicesBy_S128x16_S128x8_0s1_1s2) : B F S128x16 .f32 → _) (kv V d main_arg9) := (segA V d).unary 2 rfl
theorem k_v3 : (kv V d main_v3 : B F S8 .f32) = ((Host.slice S8 ![0] ![2] · slicesBy_S16_S8_0s2) : B F S16 .f32 → _) (kv V d main_arg10) := (segA V d).unary 3 rfl
theorem k_v4 : (kv V d main_v4 : B F S1x8 .f32) = shapeCast S1x8 (kv V d main_v3 : B F S8 .f32) shapeCasts_S8_S1x8 := by
  have h := (segA V d).reshapeT (S := S8) (S' := S1x8) (t := .f32) 4 rfl rfl shapeCasts_S8_S1x8
    (show (opsA (F := F))[4]? = some (reshape main_v3 main_v4 (rfl : (.f32 : EltTy) = .f32) shapeCasts_S8_S1x8) from rfl)
  rw [cast_eq, cast_eq] at h
  exact h
theorem k_v5 : (kv V d main_v5 : B F S8 .f32) = ((Host.slice S8 ![1] ![2] · slicesBy_S16_S8_1s2) : B F S16 .f32 → _) (kv V d main_arg10) := (segA V d).unary 5 rfl
theorem k_v6 : (kv V d main_v6 : B F S1x8 .f32) = shapeCast S1x8 (kv V d main_v5 : B F S8 .f32) shapeCasts_S8_S1x8 := by
  have h := (segA V d).reshapeT (S := S8) (S' := S1x8) (t := .f32) 6 rfl rfl shapeCasts_S8_S1x8
    (show (opsA (F := F))[6]? = some (reshape main_v5 main_v6 (rfl : (.f32 : EltTy) = .f32) shapeCasts_S8_S1x8) from rfl)
  rw [cast_eq, cast_eq] at h
  exact h
theorem k_v7 : (kv V d main_v7 : B F S1x10 .f32) = shapeCast S1x10 (kv V d main_arg12 : B F S10 .f32) shapeCasts_S10_S1x10 := by
  have h := (segA V d).reshapeT (S := S10) (S' := S1x10) (t := .f32) 7 rfl rfl shapeCasts_S10_S1x10
    (show (opsA (F := F))[7]? = some (reshape main_arg12 main_v7 (rfl : (.f32 : EltTy) = .f32) shapeCasts_S10_S1x10) from rfl)
  rw [cast_eq, cast_eq] at h
  exact h
theorem k_v9 : (kv V d main_v9 : B F S4x2048x8x1 .f32) = (broadcastInDim S4x2048x8x1 ![0, 1, 2] bcast_S4x2048x8_S4x2048x8x1_0_1_2 : B F S4x2048x8 .f32 → _) (kv V d main_v8_1) := (segB1 V d).unary 0 rfl
theorem k_v10 : (kv V d main_v10 : B F S4x2048x8x1 .f32) = (broadcastInDim S4x2048x8x1 ![0, 1, 2] bcast_S4x2048x8_S4x2048x8x1_0_1_2 : B F S4x2048x8 .f32 → _) (kv V d main_v8_2) := (segB1 V d).unary 1 rfl
theorem k_v11 : (kv V d main_v11 : B F S4x2048x8x2 .f32) = ((fun a b => concatenate S4x2048x8x2 3 [⟨S4x2048x8x1, a⟩, ⟨S4x2048x8x1, b⟩] concatenates_S4x2048x8x1_S4x2048x8x1_S4x2048x8x2_d3) : B F S4x2048x8x1 .f32 → B F S4x2048x8x1 .f32 → _) (kv V d main_v9) (kv V d main_v10) := (segB1 V d).binary 2 rfl
theorem k_cst : (kv V d main_cst : B F S_ .f32) = ((constant S_ .f32 0xFF800000#32) : B F S_ .f32) := (segB1 V d).nullary 3 rfl
theorem k_v12 : (kv V d main_v12 : B F S4x2048x8 .f32) = ((fun x v => Host.reduce FloatOps.maximumf x v reducesTo_S4x2048x8x2_S4x2048x8_d3 h_S_) : B F S4x2048x8x2 .f32 → B F S_ .f32 → _) (kv V d main_v11) (kv V d main_cst) := (segB1 V d).binary 4 rfl
theorem k_cst_0 : (kv V d main_cst_0 : B F S_ .f32) = ((constant S_ .f32 0xFF800000#32) : B F S_ .f32) := (segB1 V d).nullary 5 rfl
theorem k_v13 : (kv V d main_v13 : B F S4x2048x8 .f32) = (broadcastInDim S4x2048x8 ![] bcast_S_S4x2048x8 : B F S_ .f32 → _) (kv V d main_cst_0) := (segB1 V d).unary 6 rfl
theorem k_v14 : (kv V d main_v14 : B F S4x2048x8 .f32) = (maximumf : B F S4x2048x8 .f32 → B F S4x2048x8 .f32 → _) (kv V d main_v13) (kv V d main_v12) := (segB1 V d).binary 7 rfl
theorem k_v15 : (kv V d main_v15 : B F S4x2048x8x1 .f32) = (broadcastInDim S4x2048x8x1 ![0, 1, 2] bcast_S4x2048x8_S4x2048x8x1_0_1_2 : B F S4x2048x8 .f32 → _) (kv V d main_v14) := (segB1 V d).unary 8 rfl
theorem k_v16 : (kv V d main_v16 : B F S4x2048x8x2 .f32) = (broadcastInDim S4x2048x8x2 ![0, 1, 2, 3] bcast_S4x2048x8x1_S4x2048x8x2_0_1_2_3 : B F S4x2048x8x1 .f32 → _) (kv V d main_v15) := (segB1 V d).unary 9 rfl
theorem k_v17 : (kv V d main_v17 : B F S4x2048x8x2 .f32) = (subf : B F S4x2048x8x2 .f32 → B F S4x2048x8x2 .f32 → _) (kv V d main_v11) (kv V d main_v16) := (segB1 V d).binary 10 rfl
theorem k_v18 : (kv V d main_v18 : B F S4x2048x8x2 .f32) = (Host.exp : B F S4x2048x8x2 .f32 → _) (kv V d main_v17) := (segB1 V d).unary 11 rfl
theorem k_cst_1 : (kv V d main_cst_1 : B F S_ .f32) = ((constant S_ .f32 0x00000000#32) : B F S_ .f32) := (segB1 V d).nullary 12 rfl
theorem k_v19 : (kv V d main_v19 : B F S4x2048x8 .f32) = ((fun x v => Host.reduceAdd x v reducesTo_S4x2048x8x2_S4x2048x8_d3 h_S_) : B F S4x2048x8x2 .f32 → B F S_ .f32 → _) (kv V d main_v18) (kv V d main_cst_1) := (segB1 V d).binary 13 rfl
theorem k_v20 : (kv V d main_v20 : B F S4x2048x8x1 .f32) = (broadcastInDim S4x2048x8x1 ![0, 1, 2] bcast_S4x2048x8_S4x2048x8x1_0_1_2 : B F S4x2048x8 .f32 → _) (kv V d main_v19) := (segB1 V d).unary 14 rfl
theorem k_v21 : (kv V d main_v21 : B F S4x2048x8x2 .f32) = (broadcastInDim S4x2048x8x2 ![0, 1, 2, 3] bcast_S4x2048x8x1_S4x2048x8x2_0_1_2_3 : B F S4x2048x8x1 .f32 → _) (kv V d main_v20) := (segB1 V d).unary 15 rfl
theorem k_v22 : (kv V d main_v22 : B F S4x2048x8x2 .f32) = (Host.divf : B F S4x2048x8x2 .f32 → B F S4x2048x8x2 .f32 → _) (kv V d main_v18) (kv V d main_v21) := (segB1 V d).binary 16 rfl
theorem k_v23 : (kv V d main_v23 : B F S4x2048x8x1 .f32) = ((extractStridedSlice S4x2048x8x1 ![0, 0, 0, 1] · slices_S4x2048x8x2_S4x2048x8x1_0_0_0_1) : B F S4x2048x8x2 .f32 → _) (kv V d main_v22) := (segB1 V d).unary 17 rfl
theorem k_v24 : (kv V d main_v24 : B F S4x2048x8 .f32) = shapeCast S4x2048x8 (kv V d main_v23 : B F S4x2048x8x1 .f32) shapeCasts_S4x2048x8x1_S4x2048x8 := by
  have h := (segB1 V d).reshapeT (S := S4x2048x8x1) (S' := S4x2048x8) (t := .f32) 18 rfl rfl shapeCasts_S4x2048x8x1_S4x2048x8
    (show (opsB1 (F := F))[18]? = some (reshape main_v23 main_v24 (rfl : (.f32 : EltTy) = .f32) shapeCasts_S4x2048x8x1_S4x2048x8) from rfl)
  rw [cast_eq, cast_eq] at h
  exact h
theorem k_v25 : (kv V d main_v25 : B F S4x16384 .f32) = shapeCast S4x16384 (kv V d main_v24 : B F S4x2048x8 .f32) shapeCasts_S4x2048x8_S4x16384 := by
  have h := (segB1 V d).reshapeT (S := S4x2048x8) (S' := S4x16384) (t := .f32) 19 rfl rfl shapeCasts_S4x2048x8_S4x16384
    (show (opsB1 (F := F))[19]? = some (reshape main_v24 main_v25 (rfl : (.f32 : EltTy) = .f32) shapeCasts_S4x2048x8_S4x16384) from rfl)
  rw [cast_eq, cast_eq] at h
  exact h
theorem k_v26 : (kv V d main_v26 : B F S4x2048x8 .f32) = (broadcastInDim S4x2048x8 ![0, 1] bcast_S4x2048_S4x2048x8_0_1 : B F S4x2048 .f32 → _) (kv V d main_arg0) := (segB1 V d).unary 20 rfl
theorem k_v27 : (kv V d main_v27 : B F S4x16384 .f32) = shapeCast S4x16384 (kv V d main_v26 : B F S4x2048x8 .f32) shapeCasts_S4x2048x8_S4x16384 := by
  have h := (segB1 V d).reshapeT (S := S4x2048x8) (S' := S4x16384) (t := .f32) 21 rfl rfl shapeCasts_S4x2048x8_S4x16384
    (show (opsB1 (F := F))[21]? = some (reshape main_v26 main_v27 (rfl : (.f32 : EltTy) = .f32) shapeCasts_S4x2048x8_S4x16384) from rfl)
  rw [cast_eq, cast_eq] at h
  exact h
theorem k_v28 : (kv V d main_v28 : B F S4x16384 .f32) = (mulf : B F S4x16384 .f32 → B F S4x16384 .f32 → _) (kv V d main_v25) (kv V d main_v27) := (segB1 V d).binary 22 rfl
theorem k_values : (kv V d main_values : B F S4x512 .f32) = ((fun x => (Host.topK S4x512 1 (FloatOps.cmpfTotal .gt) x sliceFits_S4x16384_S4x512).1) : B F S4x16384 .f32 → _) (kv V d main_v28) := (segB2 V d).unary 0 rfl
theorem k_indices : (kv V d main_indices : B F S4x512 .i32) = ((fun x => (Host.topK S4x512 1 (FloatOps.cmpfTotal .gt) x sliceFits_S4x16384_S4x512).2) : B F S4x16384 .f32 → _) (kv V d main_v28) := (segB2 V d).unary 1 rfl
theorem k_v29 : (kv V d main_v29 : B F S4x16384 .i32) = shapeCast S4x16384 (kv V d main_arg4 : B F S4x2048x8 .i32) shapeCasts_S4x2048x8_S4x16384 := by
  have h := (segB2 V d).reshapeT (S := S4x2048x8) (S' := S4x16384) (t := .i32) 2 rfl rfl shapeCasts_S4x2048x8_S4x16384
    (show (opsB2 (F := F))[2]? = some (reshape main_arg4 main_v29 (rfl : (.i32 : EltTy) = .i32) shapeCasts_S4x2048x8_S4x16384) from rfl)
  rw [cast_eq, cast_eq] at h
  exact h
theorem k_call0_c : (kv V d main_call0_c : B F S_ .i32) = ((constantI S_ 32 0#32) : B F S_ .i32) := (segB2 V d).nullary 3 rfl
theorem k_call0_v0 : (kv V d main_call0_v0 : B F S4x512 .i32) = ((broadcastInDim S4x512 ![] bcast_S_S4x512) : B F S_ .i32 → _) (kv V d main_call0_c) := (segB2 V d).unary 4 rfl
theorem k_call0_v1 : (kv V d main_call0_v1 : B F S4x512 .i1) = ((cmpi .slt) : B F S4x512 .i32 → B F S4x512 .i32 → _) (kv V d main_indices) (kv V d main_call0_v0) := (segB2 V d).binary 5 rfl
theorem k_call0_c_0 : (kv V d main_call0_c_0 : B F S_ .i32) = ((constantI S_ 32 16384#32) : B F S_ .i32) := (segB2 V d).nullary 6 rfl
theorem k_call0_v2 : (kv V d main_call0_v2 : B F S4x512 .i32) = ((broadcastInDim S4x512 ![] bcast_S_S4x512) : B F S_ .i32 → _) (kv V d main_call0_c_0) := (segB2 V d).unary 7 rfl
theorem k_call0_v3 : (kv V d main_call0_v3 : B F S4x512 .i32) = (addi : B F S4x512 .i32 → B F S4x512 .i32 → _) (kv V d main_indices) (kv V d main_call0_v2) := (segB2 V d).binary 8 rfl
theorem k_call0_v4 : (kv V d main_call0_v4 : B F S4x512 .i32) = (select : B F S4x512 .i1 → B F S4x512 .i32 → B F S4x512 .i32 → _) (kv V d main_call0_v1) (kv V d main_call0_v3) (kv V d main_indices) := (segB2 V d).ternary 9 rfl
theorem k_call0_v5 : (kv V d main_call0_v5 : B F S4x512x1 .i32) = shapeCast S4x512x1 (kv V d main_call0_v4 : B F S4x512 .i32) shapeCasts_S4x512_S4x512x1 := by
  have h := (segB2 V d).reshapeT (S := S4x512) (S' := S4x512x1) (t := .i32) 10 rfl rfl shapeCasts_S4x512_S4x512x1
    (show (opsB2 (F := F))[10]? = some (reshape main_call0_v4 main_call0_v5 (rfl : (.i32 : EltTy) = .i32) shapeCasts_S4x512_S4x512x1) from rfl)
  rw [cast_eq, cast_eq] at h
  exact h
theorem k_call0_c_1 : (kv V d main_call0_c_1 : B F S1 .i32) = ((constantI S1 32 16383#32) : B F S1 .i32) := (segB2 V d).nullary 11 rfl
theorem k_call0_c_2 : (kv V d main_call0_c_2 : B F S_ .i32) = ((constantI S_ 32 0#32) : B F S_ .i32) := (segB2 V d).nullary 12 rfl
theorem k_call0_v6 : (kv V d main_call0_v6 : B F S4x512x1 .i32) = ((broadcastInDim S4x512x1 ![] bcast_S_S4x512x1) : B F S_ .i32 → _) (kv V d main_call0_c_2) := (segB2 V d).unary 13 rfl
theorem k_call0_v7 : (kv V d main_call0_v7 : B F S4x512x1 .i1) = ((cmpi .sge) : B F S4x512x1 .i32 → B F S4x512x1 .i32 → _) (kv V d main_call0_v5) (kv V d main_call0_v6) := (segB2 V d).binary 14 rfl
theorem k_call0_v8 : (kv V d main_call0_v8 : B F S1x1x1 .i32) = ((broadcastInDim S1x1x1 ![2] bcast_S1_S1x1x1_2) : B F S1 .i32 → _) (kv V d main_call0_c_1) := (segB2 V d).unary 15 rfl
theorem k_call0_v9 : (kv V d main_call0_v9 : B F S4x512x1 .i32) = ((broadcastInDim S4x512x1 ![0, 1, 2] bcast_S1x1x1_S4x512x1_0_1_2) : B F S1x1x1 .i32 → _) (kv V d main_call0_v8) := (segB2 V d).unary 16 rfl
theorem k_call0_v10 : (kv V d main_call0_v10 : B F S4x512x1 .i1) = ((cmpi .sle) : B F S4x512x1 .i32 → B F S4x512x1 .i32 → _) (kv V d main_call0_v5) (kv V d main_call0_v9) := (segB2 V d).binary 17 rfl
theorem k_call0_v11 : (kv V d main_call0_v11 : B F S4x512x1 .i1) = (andi : B F S4x512x1 .i1 → B F S4x512x1 .i1 → _) (kv V d main_call0_v7) (kv V d main_call0_v10) := (segB2 V d).binary 18 rfl
theorem k_call0_c_3 : (kv V d main_call0_c_3 : B F S_ .i1) = ((constantI S_ 1 1#1) : B F S_ .i1) := (segB2 V d).nullary 19 rfl
theorem k_call0_v12 : (kv V d main_call0_v12 : B F S4x512 .i1) = ((fun x v => Host.reduce IntOp.andi x v reducesTo_S4x512x1_S4x512_d2 h_S_) : B F S4x512x1 .i1 → B F S_ .i1 → _) (kv V d main_call0_v11) (kv V d main_call0_c_3) := (segB2 V d).binary 20 rfl
theorem k_call0_v13 : (kv V d main_call0_v13 : B F S4x512 .i32) = ((fun x i => Host.gather gather_S4x16384_S4x512x1_S4x512_n_1_0_0_1_2_11 x i) : B F S4x16384 .i32 → B F S4x512x1 .i32 → _) (kv V d main_v29) (kv V d main_call0_v5) := (segB2 V d).binary 21 rfl
theorem k_call0_c_4 : (kv V d main_call0_c_4 : B F S_ .i32) = ((constantI S_ 32 2147483648#32) : B F S_ .i32) := (segB2 V d).nullary 22 rfl
theorem k_call0_v14 : (kv V d main_call0_v14 : B F S4x512 .i32) = ((broadcastInDim S4x512 ![] bcast_S_S4x512) : B F S_ .i32 → _) (kv V d main_call0_c_4) := (segB2 V d).unary 23 rfl
theorem k_v30 : (kv V d main_v30 : B F S4x512 .i32) = (select : B F S4x512 .i1 → B F S4x512 .i32 → B F S4x512 .i32 → _) (kv V d main_call0_v12) (kv V d main_call0_v13) (kv V d main_call0_v14) := (segB2 V d).ternary 24 rfl
theorem k_v31 : (kv V d main_v31 : B F S4x16384 .i32) = shapeCast S4x16384 (kv V d main_arg5 : B F S4x2048x8 .i32) shapeCasts_S4x2048x8_S4x16384 := by
  have h := (segB3 V d).reshapeT (S := S4x2048x8) (S' := S4x16384) (t := .i32) 0 rfl rfl shapeCasts_S4x2048x8_S4x16384
    (show (opsB3 (F := F))[0]? = some (reshape main_arg5 main_v31 (rfl : (.i32 : EltTy) = .i32) shapeCasts_S4x2048x8_S4x16384) from rfl)
  rw [cast_eq, cast_eq] at h
  exact h
theorem k_call1_c : (kv V d main_call1_c : B F S_ .i32) = ((constantI S_ 32 0#32) : B F S_ .i32) := (segB3 V d).nullary 1 rfl
theorem k_call1_v0 : (kv V d main_call1_v0 : B F S4x512 .i32) = ((broadcastInDim S4x512 ![] bcast_S_S4x512) : B F S_ .i32 → _) (kv V d main_call1_c) := (segB3 V d).unary 2 rfl
theorem k_call1_v1 : (kv V d main_call1_v1 : B F S4x512 .i1) = ((cmpi .slt) : B F S4x512 .i32 → B F S4x512 .i32 → _) (kv V d main_indices) (kv V d main_call1_v0) := (segB3 V d).binary 3 rfl
theorem k_call1_c_0 : (kv V d main_call1_c_0 : B F S_ .i32) = ((constantI S_ 32 16384#32) : B F S_ .i32) := (segB3 V d).nullary 4 rfl
theorem k_call1_v2 : (kv V d main_call1_v2 : B F S4x512 .i32) = ((broadcastInDim S4x512 ![] bcast_S_S4x512) : B F S_ .i32 → _) (kv V d main_call1_c_0) := (segB3 V d).unary 5 rfl
theorem k_call1_v3 : (kv V d main_call1_v3 : B F S4x512 .i32) = (addi : B F S4x512 .i32 → B F S4x512 .i32 → _) (kv V d main_indices) (kv V d main_call1_v2) := (segB3 V d).binary 6 rfl
theorem k_call1_v4 : (kv V d main_call1_v4 : B F S4x512 .i32) = (select : B F S4x512 .i1 → B F S4x512 .i32 → B F S4x512 .i32 → _) (kv V d main_call1_v1) (kv V d main_call1_v3) (kv V d main_indices) := (segB3 V d).ternary 7 rfl
theorem k_call1_v5 : (kv V d main_call1_v5 : B F S4x512x1 .i32) = shapeCast S4x512x1 (kv V d main_call1_v4 : B F S4x512 .i32) shapeCasts_S4x512_S4x512x1 := by
  have h := (segB3 V d).reshapeT (S := S4x512) (S' := S4x512x1) (t := .i32) 8 rfl rfl shapeCasts_S4x512_S4x512x1
    (show (opsB3 (F := F))[8]? = some (reshape main_call1_v4 main_call1_v5 (rfl : (.i32 : EltTy) = .i32) shapeCasts_S4x512_S4x512x1) from rfl)
  rw [cast_eq, cast_eq] at h
  exact h
theorem k_call1_c_1 : (kv V d main_call1_c_1 : B F S1 .i32) = ((constantI S1 32 16383#32) : B F S1 .i32) := (segB3 V d).nullary 9 rfl
theorem k_call1_c_2 : (kv V d main_call1_c_2 : B F S_ .i32) = ((constantI S_ 32 0#32) : B F S_ .i32) := (segB3 V d).nullary 10 rfl
theorem k_call1_v6 : (kv V d main_call1_v6 : B F S4x512x1 .i32) = ((broadcastInDim S4x512x1 ![] bcast_S_S4x512x1) : B F S_ .i32 → _) (kv V d main_call1_c_2) := (segB3 V d).unary 11 rfl
theorem k_call1_v7 : (kv V d main_call1_v7 : B F S4x512x1 .i1) = ((cmpi .sge) : B F S4x512x1 .i32 → B F S4x512x1 .i32 → _) (kv V d main_call1_v5) (kv V d main_call1_v6) := (segB3 V d).binary 12 rfl
theorem k_call1_v8 : (kv V d main_call1_v8 : B F S1x1x1 .i32) = ((broadcastInDim S1x1x1 ![2] bcast_S1_S1x1x1_2) : B F S1 .i32 → _) (kv V d main_call1_c_1) := (segB3 V d).unary 13 rfl
theorem k_call1_v9 : (kv V d main_call1_v9 : B F S4x512x1 .i32) = ((broadcastInDim S4x512x1 ![0, 1, 2] bcast_S1x1x1_S4x512x1_0_1_2) : B F S1x1x1 .i32 → _) (kv V d main_call1_v8) := (segB3 V d).unary 14 rfl
theorem k_call1_v10 : (kv V d main_call1_v10 : B F S4x512x1 .i1) = ((cmpi .sle) : B F S4x512x1 .i32 → B F S4x512x1 .i32 → _) (kv V d main_call1_v5) (kv V d main_call1_v9) := (segB3 V d).binary 15 rfl
theorem k_call1_v11 : (kv V d main_call1_v11 : B F S4x512x1 .i1) = (andi : B F S4x512x1 .i1 → B F S4x512x1 .i1 → _) (kv V d main_call1_v7) (kv V d main_call1_v10) := (segB3 V d).binary 16 rfl
theorem k_call1_c_3 : (kv V d main_call1_c_3 : B F S_ .i1) = ((constantI S_ 1 1#1) : B F S_ .i1) := (segB3 V d).nullary 17 rfl
theorem k_call1_v12 : (kv V d main_call1_v12 : B F S4x512 .i1) = ((fun x v => Host.reduce IntOp.andi x v reducesTo_S4x512x1_S4x512_d2 h_S_) : B F S4x512x1 .i1 → B F S_ .i1 → _) (kv V d main_call1_v11) (kv V d main_call1_c_3) := (segB3 V d).binary 18 rfl
theorem k_call1_v13 : (kv V d main_call1_v13 : B F S4x512 .i32) = ((fun x i => Host.gather gather_S4x16384_S4x512x1_S4x512_n_1_0_0_1_2_11 x i) : B F S4x16384 .i32 → B F S4x512x1 .i32 → _) (kv V d main_v31) (kv V d main_call1_v5) := (segB3 V d).binary 19 rfl
theorem k_call1_c_4 : (kv V d main_call1_c_4 : B F S_ .i32) = ((constantI S_ 32 2147483648#32) : B F S_ .i32) := (segB3 V d).nullary 20 rfl
theorem k_call1_v14 : (kv V d main_call1_v14 : B F S4x512 .i32) = ((broadcastInDim S4x512 ![] bcast_S_S4x512) : B F S_ .i32 → _) (kv V d main_call1_c_4) := (segB3 V d).unary 21 rfl
theorem k_v32 : (kv V d main_v32 : B F S4x512 .i32) = (select : B F S4x512 .i1 → B F S4x512 .i32 → B F S4x512 .i32 → _) (kv V d main_call1_v12) (kv V d main_call1_v13) (kv V d main_call1_v14) := (segB3 V d).ternary 22 rfl
theorem k_v33 : (kv V d main_v33 : B F S4x16384x2 .f32) = shapeCast S4x16384x2 (kv V d main_arg3 : B F S4x2048x8x2 .f32) shapeCasts_S4x2048x8x2_S4x16384x2 := by
  have h := (segB4 V d).reshapeT (S := S4x2048x8x2) (S' := S4x16384x2) (t := .f32) 0 rfl rfl shapeCasts_S4x2048x8x2_S4x16384x2
    (show (opsB4 (F := F))[0]? = some (reshape main_arg3 main_v33 (rfl : (.f32 : EltTy) = .f32) shapeCasts_S4x2048x8x2_S4x16384x2) from rfl)
  rw [cast_eq, cast_eq] at h
  exact h
theorem k_v34 : (kv V d main_v34 : B F S4x512x1 .i32) = (broadcastInDim S4x512x1 ![0, 1] bcast_S4x512_S4x512x1_0_1 : B F S4x512 .i32 → _) (kv V d main_indices) := (segB4 V d).unary 1 rfl
theorem k_call2_c : (kv V d main_call2_c : B F S_ .i32) = ((constantI S_ 32 0#32) : B F S_ .i32) := (segB4 V d).nullary 2 rfl
theorem k_call2_v0 : (kv V d main_call2_v0 : B F S4x512x1 .i32) = ((broadcastInDim S4x512x1 ![] bcast_S_S4x512x1) : B F S_ .i32 → _) (kv V d main_call2_c) := (segB4 V d).unary 3 rfl
theorem k_call2_v1 : (kv V d main_call2_v1 : B F S4x512x1 .i1) = ((cmpi .slt) : B F S4x512x1 .i32 → B F S4x512x1 .i32 → _) (kv V d main_v34) (kv V d main_call2_v0) := (segB4 V d).binary 4 rfl
theorem k_call2_c_0 : (kv V d main_call2_c_0 : B F S_ .i32) = ((constantI S_ 32 16384#32) : B F S_ .i32) := (segB4 V d).nullary 5 rfl
theorem k_call2_v2 : (kv V d main_call2_v2 : B F S4x512x1 .i32) = ((broadcastInDim S4x512x1 ![] bcast_S_S4x512x1) : B F S_ .i32 → _) (kv V d main_call2_c_0) := (segB4 V d).unary 6 rfl
theorem k_call2_v3 : (kv V d main_call2_v3 : B F S4x512x1 .i32) = (addi : B F S4x512x1 .i32 → B F S4x512x1 .i32 → _) (kv V d main_v34) (kv V d main_call2_v2) := (segB4 V d).binary 7 rfl
theorem k_call2_v4 : (kv V d main_call2_v4 : B F S4x512x1 .i32) = (select : B F S4x512x1 .i1 → B F S4x512x1 .i32 → B F S4x512x1 .i32 → _) (kv V d main_call2_v1) (kv V d main_call2_v3) (kv V d main_v34) := (segB4 V d).ternary 8 rfl
theorem k_call2_c_1 : (kv V d main_call2_c_1 : B F S1 .i32) = ((constantI S1 32 16383#32) : B F S1 .i32) := (segB4 V d).nullary 9 rfl
theorem k_call2_c_2 : (kv V d main_call2_c_2 : B F S_ .i32) = ((constantI S_ 32 0#32) : B F S_ .i32) := (segB4 V d).nullary 10 rfl
theorem k_call2_v5 : (kv V d main_call2_v5 : B F S4x512x1 .i32) = ((broadcastInDim S4x512x1 ![] bcast_S_S4x512x1) : B F S_ .i32 → _) (kv V d main_call2_c_2) := (segB4 V d).unary 11 rfl
theorem k_call2_v6 : (kv V d main_call2_v6 : B F S4x512x1 .i1) = ((cmpi .sge) : B F S4x512x1 .i32 → B F S4x512x1 .i32 → _) (kv V d main_call2_v4) (kv V d main_call2_v5) := (segB4 V d).binary 12 rfl
theorem k_call2_v7 : (kv V d main_call2_v7 : B F S1x1x1 .i32) = ((broadcastInDim S1x1x1 ![2] bcast_S1_S1x1x1_2) : B F S1 .i32 → _) (kv V d main_call2_c_1) := (segB4 V d).unary 13 rfl
theorem k_call2_v8 : (kv V d main_call2_v8 : B F S4x512x1 .i32) = ((broadcastInDim S4x512x1 ![0, 1, 2] bcast_S1x1x1_S4x512x1_0_1_2) : B F S1x1x1 .i32 → _) (kv V d main_call2_v7) := (segB4 V d).unary 14 rfl
theorem k_call2_v9 : (kv V d main_call2_v9 : B F S4x512x1 .i1) = ((cmpi .sle) : B F S4x512x1 .i32 → B F S4x512x1 .i32 → _) (kv V d main_call2_v4) (kv V d main_call2_v8) := (segB4 V d).binary 15 rfl
theorem k_call2_v10 : (kv V d main_call2_v10 : B F S4x512x1 .i1) = (andi : B F S4x512x1 .i1 → B F S4x512x1 .i1 → _) (kv V d main_call2_v6) (kv V d main_call2_v9) := (segB4 V d).binary 16 rfl
theorem k_call2_c_3 : (kv V d main_call2_c_3 : B F S_ .i1) = ((constantI S_ 1 1#1) : B F S_ .i1) := (segB4 V d).nullary 17 rfl
theorem k_call2_v11 : (kv V d main_call2_v11 : B F S4x512 .i1) = ((fun x v => Host.reduce IntOp.andi x v reducesTo_S4x512x1_S4x512_d2 h_S_) : B F S4x512x1 .i1 → B F S_ .i1 → _) (kv V d main_call2_v10) (kv V d main_call2_c_3) := (segB4 V d).binary 18 rfl
theorem k_call2_v12 : (kv V d main_call2_v12 : B F S4x512x2 .f32) = ((fun x i => Host.gather gather_S4x16384x2_S4x512x1_S4x512x2_2_1_0_0_1_2_112 x i) : B F S4x16384x2 .f32 → B F S4x512x1 .i32 → _) (kv V d main_v33) (kv V d main_call2_v4) := (segB4 V d).binary 19 rfl
theorem k_call2_v13 : (kv V d main_call2_v13 : B F S4x512x2 .i1) = ((broadcastInDim S4x512x2 ![0, 1] bcast_S4x512_S4x512x2_0_1) : B F S4x512 .i1 → _) (kv V d main_call2_v11) := (segB4 V d).unary 20 rfl
theorem k_call2_cst : (kv V d main_call2_cst : B F S_ .f32) = ((constant S_ .f32 0x7FC00000#32) : B F S_ .f32) := (segB4 V d).nullary 21 rfl
theorem k_call2_v14 : (kv V d main_call2_v14 : B F S4x512x2 .f32) = ((broadcastInDim S4x512x2 ![] bcast_S_S4x512x2) : B F S_ .f32 → _) (kv V d main_call2_cst) := (segB4 V d).unary 22 rfl
theorem k_v35 : (kv V d main_v35 : B F S4x512x2 .f32) = (select : B F S4x512x2 .i1 → B F S4x512x2 .f32 → B F S4x512x2 .f32 → _) (kv V d main_call2_v13) (kv V d main_call2_v12) (kv V d main_call2_v14) := (segB4 V d).ternary 23 rfl
theorem k_v36 : (kv V d main_v36 : B F S2048 .i32) = ((iotaInDim S2048 32 0) : B F S2048 .i32) := (segB5 V d).nullary 0 rfl
theorem k_v37 : (kv V d main_v37 : B F S2048x1 .i32) = (broadcastInDim S2048x1 ![0] bcast_S2048_S2048x1_0 : B F S2048 .i32 → _) (kv V d main_v36) := (segB5 V d).unary 1 rfl
theorem k_v38 : (kv V d main_v38 : B F S8 .i32) = ((iotaInDim S8 32 0) : B F S8 .i32) := (segB5 V d).nullary 2 rfl
theorem k_c : (kv V d main_c : B F S_ .i32) = ((constantI S_ 32 1#32) : B F S_ .i32) := (segB5 V d).nullary 3 rfl
theorem k_v39 : (kv V d main_v39 : B F S8 .i32) = (broadcastInDim S8 ![] bcast_S_S8 : B F S_ .i32 → _) (kv V d main_c) := (segB5 V d).unary 4 rfl
theorem k_v40 : (kv V d main_v40 : B F S8 .i32) = (addi : B F S8 .i32 → B F S8 .i32 → _) (kv V d main_v39) (kv V d main_v38) := (segB5 V d).binary 5 rfl
theorem k_v41 : (kv V d main_v41 : B F S1x8 .i32) = (broadcastInDim S1x8 ![1] bcast_S8_S1x8_1 : B F S8 .i32 → _) (kv V d main_v40) := (segB5 V d).unary 6 rfl
theorem k_v42 : (kv V d main_v42 : B F S2048x8 .i32) = (broadcastInDim S2048x8 ![0, 1] bcast_S2048x1_S2048x8_0_1 : B F S2048x1 .i32 → _) (kv V d main_v37) := (segB5 V d).unary 7 rfl
theorem k_v43 : (kv V d main_v43 : B F S2048x8 .i32) = (broadcastInDim S2048x8 ![0, 1] bcast_S1x8_S2048x8_0_1 : B F S1x8 .i32 → _) (kv V d main_v41) := (segB5 V d).unary 8 rfl
theorem k_v44 : (kv V d main_v44 : B F S2048x8 .i32) = (addi : B F S2048x8 .i32 → B F S2048x8 .i32 → _) (kv V d main_v42) (kv V d main_v43) := (segB5 V d).binary 9 rfl
theorem k_c_2 : (kv V d main_c_2 : B F S_ .i32) = ((constantI S_ 32 2048#32) : B F S_ .i32) := (segB5 V d).nullary 10 rfl
theorem k_call3_v0 : (kv V d main_call3_v0 : B F S_ .i32) = (id : B F S_ .i32 → _) (kv V d main_c_2) := (segB5 V d).unary 11 rfl
theorem k_call3_v1 : (kv V d main_call3_v1 : B F S2048x8 .i32) = ((broadcastInDim S2048x8 ![] bcast_S_S2048x8) : B F S_ .i32 → _) (kv V d main_call3_v0) := (segB5 V d).unary 12 rfl
theorem k_v45 : (kv V d main_v45 : B F S2048x8 .i32) = (minsi : B F S2048x8 .i32 → B F S2048x8 .i32 → _) (kv V d main_call3_v1) (kv V d main_v44) := (segB5 V d).binary 13 rfl
theorem k_v46 : (kv V d main_v46 : B F S2048x1 .i32) = (broadcastInDim S2048x1 ![0] bcast_S2048_S2048x1_0 : B F S2048 .i32 → _) (kv V d main_v36) := (segB5 V d).unary 14 rfl
theorem k_v47 : (kv V d main_v47 : B F S2048x8 .i32) = (broadcastInDim S2048x8 ![0, 1] bcast_S2048x1_S2048x8_0_1 : B F S2048x1 .i32 → _) (kv V d main_v46) := (segB5 V d).unary 15 rfl
theorem k_v48 : (kv V d main_v48 : B F S2048x8 .i32) = (subi : B F S2048x8 .i32 → B F S2048x8 .i32 → _) (kv V d main_v45) (kv V d main_v47) := (segB5 V d).binary 16 rfl
theorem k_v49 : (kv V d main_v49 : B F S2048x8 .f32) = (sitofp .f32 : B F S2048x8 .i32 → _) (kv V d main_v48) := (segB5 V d).unary 17 rfl
theorem k_v50 : (kv V d main_v50 : B F S1x16384 .f32) = shapeCast S1x16384 (kv V d main_v49 : B F S2048x8 .f32) shapeCasts_S2048x8_S1x16384 := by
  have h := (segB5 V d).reshapeT (S := S2048x8) (S' := S1x16384) (t := .f32) 18 rfl rfl shapeCasts_S2048x8_S1x16384
    (show (opsB5 (F := F))[18]? = some (reshape main_v49 main_v50 (rfl : (.f32 : EltTy) = .f32) shapeCasts_S2048x8_S1x16384) from rfl)
  rw [cast_eq, cast_eq] at h
  exact h
theorem k_v51 : (kv V d main_v51 : B F S1x1x1x16384 .f32) = shapeCast S1x1x1x16384 (kv V d main_v50 : B F S1x16384 .f32) shapeCasts_S1x16384_S1x1x1x16384 := by
  have h := (segB5 V d).reshapeT (S := S1x16384) (S' := S1x1x1x16384) (t := .f32) 19 rfl rfl shapeCasts_S1x16384_S1x1x1x16384
    (show (opsB5 (F := F))[19]? = some (reshape main_v50 main_v51 (rfl : (.f32 : EltTy) = .f32) shapeCasts_S1x16384_S1x1x1x16384) from rfl)
  rw [cast_eq, cast_eq] at h
  exact h
theorem k_v52 : (kv V d main_v52 : B F S4x1x1x16384 .f32) = (broadcastInDim S4x1x1x16384 ![0, 1, 2, 3] bcast_S1x1x1x16384_S4x1x1x16384_0_1_2_3 : B F S1x1x1x16384 .f32 → _) (kv V d main_v51) := (segB5 V d).unary 20 rfl
theorem k_v53 : (kv V d main_v53 : B F S4x16384 .f32) = shapeCast S4x16384 (kv V d main_v52 : B F S4x1x1x16384 .f32) shapeCasts_S4x1x1x16384_S4x16384 := by
  have h := (segB6 V d).reshapeT (S := S4x1x1x16384) (S' := S4x16384) (t := .f32) 0 rfl rfl shapeCasts_S4x1x1x16384_S4x16384
    (show (opsB6 (F := F))[0]? = some (reshape main_v52 main_v53 (rfl : (.f32 : EltTy) = .f32) shapeCasts_S4x1x1x16384_S4x16384) from rfl)
  rw [cast_eq, cast_eq] at h
  exact h
theorem k_call4_c : (kv V d main_call4_c : B F S_ .i32) = ((constantI S_ 32 0#32) : B F S_ .i32) := (segB6 V d).nullary 1 rfl
theorem k_call4_v0 : (kv V d main_call4_v0 : B F S4x512 .i32) = ((broadcastInDim S4x512 ![] bcast_S_S4x512) : B F S_ .i32 → _) (kv V d main_call4_c) := (segB6 V d).unary 2 rfl
theorem k_call4_v1 : (kv V d main_call4_v1 : B F S4x512 .i1) = ((cmpi .slt) : B F S4x512 .i32 → B F S4x512 .i32 → _) (kv V d main_indices) (kv V d main_call4_v0) := (segB6 V d).binary 3 rfl
theorem k_call4_c_0 : (kv V d main_call4_c_0 : B F S_ .i32) = ((constantI S_ 32 16384#32) : B F S_ .i32) := (segB6 V d).nullary 4 rfl
theorem k_call4_v2 : (kv V d main_call4_v2 : B F S4x512 .i32) = ((broadcastInDim S4x512 ![] bcast_S_S4x512) : B F S_ .i32 → _) (kv V d main_call4_c_0) := (segB6 V d).unary 5 rfl
theorem k_call4_v3 : (kv V d main_call4_v3 : B F S4x512 .i32) = (addi : B F S4x512 .i32 → B F S4x512 .i32 → _) (kv V d main_indices) (kv V d main_call4_v2) := (segB6 V d).binary 6 rfl
theorem k_call4_v4 : (kv V d main_call4_v4 : B F S4x512 .i32) = (select : B F S4x512 .i1 → B F S4x512 .i32 → B F S4x512 .i32 → _) (kv V d main_call4_v1) (kv V d main_call4_v3) (kv V d main_indices) := (segB6 V d).ternary 7 rfl
theorem k_call4_v5 : (kv V d main_call4_v5 : B F S4x512x1 .i32) = shapeCast S4x512x1 (kv V d main_call4_v4 : B F S4x512 .i32) shapeCasts_S4x512_S4x512x1 := by
  have h := (segB6 V d).reshapeT (S := S4x512) (S' := S4x512x1) (t := .i32) 8 rfl rfl shapeCasts_S4x512_S4x512x1
    (show (opsB6 (F := F))[8]? = some (reshape main_call4_v4 main_call4_v5 (rfl : (.i32 : EltTy) = .i32) shapeCasts_S4x512_S4x512x1) from rfl)
  rw [cast_eq, cast_eq] at h
  exact h
theorem k_call4_c_1 : (kv V d main_call4_c_1 : B F S1 .i32) = ((constantI S1 32 16383#32) : B F S1 .i32) := (segB6 V d).nullary 9 rfl
theorem k_call4_c_2 : (kv V d main_call4_c_2 : B F S_ .i32) = ((constantI S_ 32 0#32) : B F S_ .i32) := (segB6 V d).nullary 10 rfl
theorem k_call4_v6 : (kv V d main_call4_v6 : B F S4x512x1 .i32) = ((broadcastInDim S4x512x1 ![] bcast_S_S4x512x1) : B F S_ .i32 → _) (kv V d main_call4_c_2) := (segB6 V d).unary 11 rfl
theorem k_call4_v7 : (kv V d main_call4_v7 : B F S4x512x1 .i1) = ((cmpi .sge) : B F S4x512x1 .i32 → B F S4x512x1 .i32 → _) (kv V d main_call4_v5) (kv V d main_call4_v6) := (segB6 V d).binary 12 rfl
theorem k_call4_v8 : (kv V d main_call4_v8 : B F S1x1x1 .i32) = ((broadcastInDim S1x1x1 ![2] bcast_S1_S1x1x1_2) : B F S1 .i32 → _) (kv V d main_call4_c_1) := (segB6 V d).unary 13 rfl
theorem k_call4_v9 : (kv V d main_call4_v9 : B F S4x512x1 .i32) = ((broadcastInDim S4x512x1 ![0, 1, 2] bcast_S1x1x1_S4x512x1_0_1_2) : B F S1x1x1 .i32 → _) (kv V d main_call4_v8) := (segB6 V d).unary 14 rfl
theorem k_call4_v10 : (kv V d main_call4_v10 : B F S4x512x1 .i1) = ((cmpi .sle) : B F S4x512x1 .i32 → B F S4x512x1 .i32 → _) (kv V d main_call4_v5) (kv V d main_call4_v9) := (segB6 V d).binary 15 rfl
theorem k_call4_v11 : (kv V d main_call4_v11 : B F S4x512x1 .i1) = (andi : B F S4x512x1 .i1 → B F S4x512x1 .i1 → _) (kv V d main_call4_v7) (kv V d main_call4_v10) := (segB6 V d).binary 16 rfl
theorem k_call4_c_3 : (kv V d main_call4_c_3 : B F S_ .i1) = ((constantI S_ 1 1#1) : B F S_ .i1) := (segB6 V d).nullary 17 rfl
theorem k_call4_v12 : (kv V d main_call4_v12 : B F S4x512 .i1) = ((fun x v => Host.reduce IntOp.andi x v reducesTo_S4x512x1_S4x512_d2 h_S_) : B F S4x512x1 .i1 → B F S_ .i1 → _) (kv V d main_call4_v11) (kv V d main_call4_c_3) := (segB6 V d).binary 18 rfl
theorem k_call4_v13 : (kv V d main_call4_v13 : B F S4x512 .f32) = ((fun x i => Host.gather gather_S4x16384_S4x512x1_S4x512_n_1_0_0_1_2_11 x i) : B F S4x16384 .f32 → B F S4x512x1 .i32 → _) (kv V d main_v53) (kv V d main_call4_v5) := (segB6 V d).binary 19 rfl
theorem k_call4_cst : (kv V d main_call4_cst : B F S_ .f32) = ((constant S_ .f32 0x7FC00000#32) : B F S_ .f32) := (segB6 V d).nullary 20 rfl
theorem k_call4_v14 : (kv V d main_call4_v14 : B F S4x512 .f32) = ((broadcastInDim S4x512 ![] bcast_S_S4x512) : B F S_ .f32 → _) (kv V d main_call4_cst) := (segB6 V d).unary 21 rfl
theorem k_v54 : (kv V d main_v54 : B F S4x512 .f32) = (select : B F S4x512 .i1 → B F S4x512 .f32 → B F S4x512 .f32 → _) (kv V d main_call4_v12) (kv V d main_call4_v13) (kv V d main_call4_v14) := (segB6 V d).ternary 22 rfl
theorem k_v55 : (kv V d main_v55 : B F S4 .i32) = ((iotaInDim S4 32 0) : B F S4 .i32) := (segB6 V d).nullary 23 rfl
theorem k_c_3 : (kv V d main_c_3 : B F S_ .i32) = ((constantI S_ 32 16384#32) : B F S_ .i32) := (segB6 V d).nullary 24 rfl
theorem k_v56 : (kv V d main_v56 : B F S4 .i32) = (broadcastInDim S4 ![] bcast_S_S4 : B F S_ .i32 → _) (kv V d main_c_3) := (segB6 V d).unary 25 rfl
theorem k_v57 : (kv V d main_v57 : B F S4 .i32) = (muli : B F S4 .i32 → B F S4 .i32 → _) (kv V d main_v55) (kv V d main_v56) := (segB6 V d).binary 26 rfl
theorem k_v58 : (kv V d main_v58 : B F S4x1 .i32) = (broadcastInDim S4x1 ![0] bcast_S4_S4x1_0 : B F S4 .i32 → _) (kv V d main_v57) := (segB6 V d).unary 27 rfl
theorem k_v59 : (kv V d main_v59 : B F S4x512 .i32) = (broadcastInDim S4x512 ![0, 1] bcast_S4x1_S4x512_0_1 : B F S4x1 .i32 → _) (kv V d main_v58) := (segB6 V d).unary 28 rfl
theorem k_v60 : (kv V d main_v60 : B F S4x512 .i32) = (addi : B F S4x512 .i32 → B F S4x512 .i32 → _) (kv V d main_indices) (kv V d main_v59) := (segB6 V d).binary 29 rfl
theorem k_v61 : (kv V d main_v61 : B F S2048 .i32) = shapeCast S2048 (kv V d main_v60 : B F S4x512 .i32) shapeCasts_S4x512_S2048 := by
  have h := (segB6 V d).reshapeT (S := S4x512) (S' := S2048) (t := .i32) 30 rfl rfl shapeCasts_S4x512_S2048
    (show (opsB6 (F := F))[30]? = some (reshape main_v60 main_v61 (rfl : (.i32 : EltTy) = .i32) shapeCasts_S4x512_S2048) from rfl)
  rw [cast_eq, cast_eq] at h
  exact h
theorem k_v62 : (kv V d main_v62 : B F S65536x128 .f32) = shapeCast S65536x128 (kv V d main_v8_0 : B F S4x2048x8x128 .f32) shapeCasts_S4x2048x8x128_S65536x128 := by
  have h := (segB6 V d).reshapeT (S := S4x2048x8x128) (S' := S65536x128) (t := .f32) 31 rfl rfl shapeCasts_S4x2048x8x128_S65536x128
    (show (opsB6 (F := F))[31]? = some (reshape main_v8_0 main_v62 (rfl : (.f32 : EltTy) = .f32) shapeCasts_S4x2048x8x128_S65536x128) from rfl)
  rw [cast_eq, cast_eq] at h
  exact h
theorem k_v64 : (kv V d main_v64 : B F S1x10 .f32) = shapeCast S1x10 (kv V d main_arg12 : B F S10 .f32) shapeCasts_S10_S1x10 := by
  have h := (segC V d).reshapeT (S := S10) (S' := S1x10) (t := .f32) 0 rfl rfl shapeCasts_S10_S1x10
    (show (opsC (F := F))[0]? = some (reshape main_arg12 main_v64 (rfl : (.f32 : EltTy) = .f32) shapeCasts_S10_S1x10) from rfl)
  rw [cast_eq, cast_eq] at h
  exact h
theorem k_v65 : (kv V d main_v65 : B F S2048x1 .i32) = shapeCast S2048x1 (kv V d main_v32 : B F S4x512 .i32) shapeCasts_S4x512_S2048x1 := by
  have h := (segC V d).reshapeT (S := S4x512) (S' := S2048x1) (t := .i32) 1 rfl rfl shapeCasts_S4x512_S2048x1
    (show (opsC (F := F))[1]? = some (reshape main_v32 main_v65 (rfl : (.i32 : EltTy) = .i32) shapeCasts_S4x512_S2048x1) from rfl)
  rw [cast_eq, cast_eq] at h
  exact h
theorem k_v66 : (kv V d main_v66 : B F S1x10 .f32) = shapeCast S1x10 (kv V d main_arg13 : B F S10 .f32) shapeCasts_S10_S1x10 := by
  have h := (segC V d).reshapeT (S := S10) (S' := S1x10) (t := .f32) 2 rfl rfl shapeCasts_S10_S1x10
    (show (opsC (F := F))[2]? = some (reshape main_arg13 main_v66 (rfl : (.f32 : EltTy) = .f32) shapeCasts_S10_S1x10) from rfl)
  rw [cast_eq, cast_eq] at h
  exact h
theorem k_cst_4 : (kv V d main_cst_4 : B F S_ .f32) = ((constant S_ .f32 0x3F800000#32) : B F S_ .f32) := (segD V d).nullary 0 rfl
theorem k_v68 : (kv V d main_v68 : B F S4x512 .f32) = (broadcastInDim S4x512 ![] bcast_S_S4x512 : B F S_ .f32 → _) (kv V d main_cst_4) := (segD V d).unary 1 rfl
theorem k_v69 : (kv V d main_v69 : B F S1 .f32) = shapeCast S1 (kv V d main_v8_5 : B F S1x1 .f32) shapeCasts_S1x1_S1 := by
  have h := (segD V d).reshapeT (S := S1x1) (S' := S1) (t := .f32) 2 rfl rfl shapeCasts_S1x1_S1
    (show (opsD (F := F))[2]? = some (reshape main_v8_5 main_v69 (rfl : (.f32 : EltTy) = .f32) shapeCasts_S1x1_S1) from rfl)
  rw [cast_eq, cast_eq] at h
  exact h
theorem k_v70 : (kv V d main_v70 : B F S1 .f32) = shapeCast S1 (kv V d main_v67_1 : B F S1x1 .f32) shapeCasts_S1x1_S1 := by
  have h := (segD V d).reshapeT (S := S1x1) (S' := S1) (t := .f32) 3 rfl rfl shapeCasts_S1x1_S1
    (show (opsD (F := F))[3]? = some (reshape main_v67_1 main_v70 (rfl : (.f32 : EltTy) = .f32) shapeCasts_S1x1_S1) from rfl)
  rw [cast_eq, cast_eq] at h
  exact h
theorem k_v71 : (kv V d main_v71 : B F S4x512x128 .f32) = shapeCast S4x512x128 (kv V d main_v63 : B F S2048x128 .f32) shapeCasts_S2048x128_S4x512x128 := by
  have h := (segD V d).reshapeT (S := S2048x128) (S' := S4x512x128) (t := .f32) 4 rfl rfl shapeCasts_S2048x128_S4x512x128
    (show (opsD (F := F))[4]? = some (reshape main_v63 main_v71 (rfl : (.f32 : EltTy) = .f32) shapeCasts_S2048x128_S4x512x128) from rfl)
  rw [cast_eq, cast_eq] at h
  exact h
theorem k_v72 : (kv V d main_v72 : B F S4x512x10 .f32) = shapeCast S4x512x10 (kv V d main_v67_0 : B F S2048x10 .f32) shapeCasts_S2048x10_S4x512x10 := by
  have h := (segD V d).reshapeT (S := S2048x10) (S' := S4x512x10) (t := .f32) 5 rfl rfl shapeCasts_S2048x10_S4x512x10
    (show (opsD (F := F))[5]? = some (reshape main_v67_0 main_v72 (rfl : (.f32 : EltTy) = .f32) shapeCasts_S2048x10_S4x512x10) from rfl)
  rw [cast_eq, cast_eq] at h
  exact h
theorem k_v73 : (kv V d main_v73 : B F S4 .i32) = shapeCast S4 (kv V d main_v67_2 : B F S4x1 .i32) shapeCasts_S4x1_S4 := by
  have h := (segD V d).reshapeT (S := S4x1) (S' := S4) (t := .i32) 6 rfl rfl shapeCasts_S4x1_S4
    (show (opsD (F := F))[6]? = some (reshape main_v67_2 main_v73 (rfl : (.i32 : EltTy) = .i32) shapeCasts_S4x1_S4) from rfl)
  rw [cast_eq, cast_eq] at h
  exact h

end Cert.Proof.Span

end
-- ==== Proof.Left0.lean ====
/-
  What the tagger's pipeline reads at a point and what it leaves in its six result arrays, element by element.
-/
module

public import proofs.«01_k».proof.Proof.KEq

@[expose] public section

noncomputable section

namespace Cert.Proof.Span

open Cert.KernelIdeal Cert.KernelIdeal.Gen

open Idealize.ShloMosaic Idealize.ShloMosaic.StableHlo
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Proof.Line

variable {F : FTy → Type} [FloatOps F]

variable (V : Dev nD → Valuation τ sig (Elt F)) (d : Dev nD)

/-- The sentence of a point, and the row of the sentence at which its input blocks, its output blocks, start. -/
def sen (t : Fin grid0.N) : ℕ := t.val / 9
def row (t : Fin grid0.N) : ℕ := min (t.val % 9) 7 * 256
def outRow (t : Fin grid0.N) : ℕ := (t.val % 9 - 1) * 256

theorem index0 : ∀ t : Fin grid0.N, (cfg0.win 0).index t (0 : Fin 3) = t.val / 9 ∧ (cfg0.win 0).index t (1 : Fin 3) = min (t.val % 9) 7 ∧ (cfg0.win 0).index t (2 : Fin 3) = 0 := by decide
theorem index1 : ∀ t : Fin grid0.N, (cfg0.win 1).index t (0 : Fin 3) = t.val / 9 ∧ (cfg0.win 1).index t (1 : Fin 3) = min (t.val % 9) 7 ∧ (cfg0.win 1).index t (2 : Fin 3) = 0 := by decide
theorem index2 : ∀ t : Fin grid0.N, (cfg0.win 2).index t (0 : Fin 3) = t.val / 9 ∧ (cfg0.win 2).index t (1 : Fin 3) = min (t.val % 9) 7 ∧ (cfg0.win 2).index t (2 : Fin 3) = 0 := by decide
theorem index12 : ∀ t : Fin grid0.N, (cfg0.win 12).index t (0 : Fin 4) = t.val / 9 ∧ (cfg0.win 12).index t (1 : Fin 4) = t.val % 9 - 1 ∧ (cfg0.win 12).index t (2 : Fin 4) = 0 ∧ (cfg0.win 12).index t (3 : Fin 4) = 0 := by decide
theorem index13 : ∀ t : Fin grid0.N, (cfg0.win 13).index t (0 : Fin 3) = t.val / 9 ∧ (cfg0.win 13).index t (1 : Fin 3) = min (t.val % 9) 7 ∧ (cfg0.win 13).index t (2 : Fin 3) = 0 := by decide
theorem index14 : ∀ t : Fin grid0.N, (cfg0.win 14).index t (0 : Fin 3) = t.val / 9 ∧ (cfg0.win 14).index t (1 : Fin 3) = min (t.val % 9) 7 ∧ (cfg0.win 14).index t (2 : Fin 3) = 0 := by decide
theorem index15 : ∀ t : Fin grid0.N, (cfg0.win 15).index t (0 : Fin 3) = t.val / 9 ∧ (cfg0.win 15).index t (1 : Fin 3) = min (t.val % 9) 7 ∧ (cfg0.win 15).index t (2 : Fin 3) = 0 := by decide
theorem index16 : ∀ t : Fin grid0.N, (cfg0.win 16).index t (0 : Fin 3) = t.val / 9 ∧ (cfg0.win 16).index t (1 : Fin 3) = t.val % 9 - 1 ∧ (cfg0.win 16).index t (2 : Fin 3) = 0 := by decide

theorem sen_lt (t : Fin grid0.N) : sen t < 4 := by have : t.val < 36 := lt_of_lt_of_eq t.isLt N_0; unfold sen; omega
theorem row_lt (t : Fin grid0.N) : row t + 256 ≤ 2048 := by unfold row; omega
theorem outRow_lt (t : Fin grid0.N) : outRow t + 256 ≤ 2048 := by unfold outRow; omega

theorem emb0 (t : Fin grid0.N) (x : S1x256x128.Idx) : (((cfg0.win 0).blk t).view.emb x : S4x2048x128.Idx) = ix3 ⟨sen t, sen_lt t⟩ ⟨row t + (x 1).val, by have := row_lt t; have := (x 1).isLt; simp at this; omega⟩ (x 2) := by
  obtain ⟨h0, h1, h2⟩ := index0 t
  refine funext fun a => Fin.ext ?_
  refine ((cfg0.win 0).rect_emb_val t x a).trans ?_
  have x0 := (x 0).isLt
  match a with
  | ⟨0, _⟩ => refine (congrArg (fun z => z * 1 + (x 0).val) h0).trans ?_; show t.val / 9 * 1 + (x 0).val = t.val / 9; simp at x0; omega
  | ⟨1, _⟩ => exact congrArg (fun z => z * 256 + (x 1).val) h1
  | ⟨2, _⟩ => refine (congrArg (fun z => z * 128 + (x 2).val) h2).trans ?_; show 0 * 128 + (x 2).val = (x 2).val; omega
theorem stg0_at (t : Fin grid0.N) (r : Fin 256) (l : Fin 128) : stg0_0 V d t (ix3 0 r l) = (V d (dr main_arg1) : B F S4x2048x128 .f32) (ix3 ⟨sen t, sen_lt t⟩ ⟨row t + r.val, by have := row_lt t; omega⟩ l) :=
  congrArg (V d (dr main_arg1) : B F S4x2048x128 .f32) (emb0 t (ix3 0 r l))
theorem emb1 (t : Fin grid0.N) (x : S1x256x128.Idx) : (((cfg0.win 1).blk t).view.emb x : S4x2048x128.Idx) = ix3 ⟨sen t, sen_lt t⟩ ⟨row t + (x 1).val, by have := row_lt t; have := (x 1).isLt; simp at this; omega⟩ (x 2) := by
  obtain ⟨h0, h1, h2⟩ := index1 t
  refine funext fun a => Fin.ext ?_
  refine ((cfg0.win 1).rect_emb_val t x a).trans ?_
  have x0 := (x 0).isLt
  match a with
  | ⟨0, _⟩ => refine (congrArg (fun z => z * 1 + (x 0).val) h0).trans ?_; show t.val / 9 * 1 + (x 0).val = t.val / 9; simp at x0; omega
  | ⟨1, _⟩ => exact congrArg (fun z => z * 256 + (x 1).val) h1
  | ⟨2, _⟩ => refine (congrArg (fun z => z * 128 + (x 2).val) h2).trans ?_; show 0 * 128 + (x 2).val = (x 2).val; omega
theorem stg1_at (t : Fin grid0.N) (r : Fin 256) (l : Fin 128) : stg0_1 V d t (ix3 0 r l) = (V d (dr main_arg2) : B F S4x2048x128 .f32) (ix3 ⟨sen t, sen_lt t⟩ ⟨row t + r.val, by have := row_lt t; omega⟩ l) :=
  congrArg (V d (dr main_arg2) : B F S4x2048x128 .f32) (emb1 t (ix3 0 r l))
theorem emb2 (t : Fin grid0.N) (x : S1x256x8.Idx) : (((cfg0.win 2).blk t).view.emb x : S4x2048x8.Idx) = ix3 ⟨sen t, sen_lt t⟩ ⟨row t + (x 1).val, by have := row_lt t; have := (x 1).isLt; simp at this; omega⟩ (x 2) := by
  obtain ⟨h0, h1, h2⟩ := index2 t
  refine funext fun a => Fin.ext ?_
  refine ((cfg0.win 2).rect_emb_val t x a).trans ?_
  have x0 := (x 0).isLt
  match a with
  | ⟨0, _⟩ => refine (congrArg (fun z => z * 1 + (x 0).val) h0).trans ?_; show t.val / 9 * 1 + (x 0).val = t.val / 9; simp at x0; omega
  | ⟨1, _⟩ => exact congrArg (fun z => z * 256 + (x 1).val) h1
  | ⟨2, _⟩ => refine (congrArg (fun z => z * 8 + (x 2).val) h2).trans ?_; show 0 * 8 + (x 2).val = (x 2).val; omega
theorem stg2_at (t : Fin grid0.N) (r : Fin 256) (l : Fin 8) : stg0_2 V d t (ix3 0 r l) = (V d (dr main_arg4) : B F S4x2048x8 .i32) (ix3 ⟨sen t, sen_lt t⟩ ⟨row t + r.val, by have := row_lt t; omega⟩ l) :=
  congrArg (V d (dr main_arg4) : B F S4x2048x8 .i32) (emb2 t (ix3 0 r l))
theorem index3 : ∀ (t : Fin grid0.N) (a : Fin 2), (cfg0.win 3).index t a = 0 := by decide
theorem stg3_eq (t : Fin grid0.N) : stg0_3 V d t = (V d (dr main_arg6) : B F S128x128 .f32) :=
  funext fun x => congrArg (V d (dr main_arg6) : B F S128x128 .f32) (funext fun a => Fin.ext ((cfg0.win 3).rect_emb_val_of_index_zero t a (index3 t a) x))
theorem index4 : ∀ (t : Fin grid0.N) (a : Fin 2), (cfg0.win 4).index t a = 0 := by decide
theorem stg4_eq (t : Fin grid0.N) : stg0_4 V d t = (V d (dr main_arg7) : B F S128x128 .f32) :=
  funext fun x => congrArg (V d (dr main_arg7) : B F S128x128 .f32) (funext fun a => Fin.ext ((cfg0.win 4).rect_emb_val_of_index_zero t a (index4 t a) x))
theorem index5 : ∀ (t : Fin grid0.N) (a : Fin 2), (cfg0.win 5).index t a = 0 := by decide
theorem stg5_eq (t : Fin grid0.N) : stg0_5 V d t = (V d (dr main_v0) : B F S1x128 .f32) :=
  funext fun x => congrArg (V d (dr main_v0) : B F S1x128 .f32) (funext fun a => Fin.ext ((cfg0.win 5).rect_emb_val_of_index_zero t a (index5 t a) x))
theorem index6 : ∀ (t : Fin grid0.N) (a : Fin 2), (cfg0.win 6).index t a = 0 := by decide
theorem stg6_eq (t : Fin grid0.N) : stg0_6 V d t = (V d (dr main_v1) : B F S128x8 .f32) :=
  funext fun x => congrArg (V d (dr main_v1) : B F S128x8 .f32) (funext fun a => Fin.ext ((cfg0.win 6).rect_emb_val_of_index_zero t a (index6 t a) x))
theorem index7 : ∀ (t : Fin grid0.N) (a : Fin 2), (cfg0.win 7).index t a = 0 := by decide
theorem stg7_eq (t : Fin grid0.N) : stg0_7 V d t = (V d (dr main_v2) : B F S128x8 .f32) :=
  funext fun x => congrArg (V d (dr main_v2) : B F S128x8 .f32) (funext fun a => Fin.ext ((cfg0.win 7).rect_emb_val_of_index_zero t a (index7 t a) x))
theorem index8 : ∀ (t : Fin grid0.N) (a : Fin 2), (cfg0.win 8).index t a = 0 := by decide
theorem stg8_eq (t : Fin grid0.N) : stg0_8 V d t = (V d (dr main_v4) : B F S1x8 .f32) :=
  funext fun x => congrArg (V d (dr main_v4) : B F S1x8 .f32) (funext fun a => Fin.ext ((cfg0.win 8).rect_emb_val_of_index_zero t a (index8 t a) x))
theorem index9 : ∀ (t : Fin grid0.N) (a : Fin 2), (cfg0.win 9).index t a = 0 := by decide
theorem stg9_eq (t : Fin grid0.N) : stg0_9 V d t = (V d (dr main_v6) : B F S1x8 .f32) :=
  funext fun x => congrArg (V d (dr main_v6) : B F S1x8 .f32) (funext fun a => Fin.ext ((cfg0.win 9).rect_emb_val_of_index_zero t a (index9 t a) x))
theorem index10 : ∀ (t : Fin grid0.N) (a : Fin 2), (cfg0.win 10).index t a = 0 := by decide
theorem stg10_eq (t : Fin grid0.N) : stg0_10 V d t = (V d (dr main_arg11) : B F S128x10 .f32) :=
  funext fun x => congrArg (V d (dr main_arg11) : B F S128x10 .f32) (funext fun a => Fin.ext ((cfg0.win 10).rect_emb_val_of_index_zero t a (index10 t a) x))
theorem index11 : ∀ (t : Fin grid0.N) (a : Fin 2), (cfg0.win 11).index t a = 0 := by decide
theorem stg11_eq (t : Fin grid0.N) : stg0_11 V d t = (V d (dr main_v7) : B F S1x10 .f32) :=
  funext fun x => congrArg (V d (dr main_v7) : B F S1x10 .f32) (funext fun a => Fin.ext ((cfg0.win 11).rect_emb_val_of_index_zero t a (index11 t a) x))

/-- The blocks of the last point of a sentence are those of the point before it. -/
theorem blk_last (t t' : Fin grid0.N) (h : t.val / 9 = t'.val / 9) (hr : row t = row t') : blkAt V d t = blkAt V d t' := by
  have e : ∀ {n : ℕ} (x : (⟨3, ![1, 256, n]⟩ : Shape).Idx), ∃ (r : Fin 256) (l : Fin n), x = ix3 0 r l := fun x => ⟨x 1, x 2, funext fun a => match a with
    | ⟨0, _⟩ => Fin.ext (by have := (x 0).isLt; simp at this; exact this) | ⟨1, _⟩ => rfl | ⟨2, _⟩ => rfl⟩
  have h0 : stg0_0 V d t = stg0_0 V d t' := funext fun x => by obtain ⟨r, l, rfl⟩ := e x; rw [stg0_at, stg0_at]; simp only [sen, h, hr]
  have h1 : stg0_1 V d t = stg0_1 V d t' := funext fun x => by obtain ⟨r, l, rfl⟩ := e x; rw [stg1_at, stg1_at]; simp only [sen, h, hr]
  have h2 : stg0_2 V d t = stg0_2 V d t' := funext fun x => by obtain ⟨r, l, rfl⟩ := e x; rw [stg2_at, stg2_at]; simp only [sen, h, hr]
  unfold blkAt
  rw [h0, h1, h2, stg3_eq, stg4_eq, stg5_eq, stg6_eq, stg7_eq, stg8_eq, stg9_eq, stg10_eq, stg11_eq]
  rw [stg3_eq, stg4_eq, stg5_eq, stg6_eq, stg7_eq, stg8_eq, stg9_eq, stg10_eq, stg11_eq]

end Cert.Proof.Span

end
-- ==== Proof.Left1.lean ====
/-
  What the tagger's pipeline leaves in its six result arrays, element by element: each element is the body's value of
  it at the point whose block holds it.
-/
module

public import proofs.«01_k».proof.Proof.Left0

@[expose] public section

noncomputable section

namespace Cert.Proof.Span

open Cert.KernelIdeal Cert.KernelIdeal.Gen

open Idealize.ShloMosaic Idealize.ShloMosaic.StableHlo
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Proof.Line

variable {F : FTy → Type} [FloatOps F]

variable (V : Dev nD → Valuation τ sig (Elt F)) (d : Dev nD)

theorem pt_lt (b : Fin 4) (s : Fin 2048) : b.val * 9 + s.val / 256 < grid0.N := by
  refine lt_of_lt_of_eq ?_ N_0.symm
  have := b.isLt; have := s.isLt
  omega
theorem ptA_lt (b : Fin 4) (s : Fin 2048) : b.val * 9 + s.val / 256 + 1 < grid0.N := by
  refine lt_of_lt_of_eq ?_ N_0.symm
  have := b.isLt; have := s.isLt
  omega
/-- The point whose input blocks hold row `s` of sentence `b`, and the point after it. -/
def pt (b : Fin 4) (s : Fin 2048) : Fin grid0.N := ⟨b.val * 9 + s.val / 256, pt_lt b s⟩
def ptA (b : Fin 4) (s : Fin 2048) : Fin grid0.N := ⟨b.val * 9 + s.val / 256 + 1, ptA_lt b s⟩
/-- A row's number within its block. -/
def inB (s : Fin 2048) : Fin 256 := ⟨s.val % 256, Nat.mod_lt _ (by decide)⟩

theorem flush13 : ∀ t : Fin grid0.N, t.val % 9 ≠ 7 → (cfg0.win 13).flush t = true := by decide
theorem flush14 : ∀ t : Fin grid0.N, t.val % 9 ≠ 7 → (cfg0.win 14).flush t = true := by decide
theorem flush15 : ∀ t : Fin grid0.N, t.val % 9 ≠ 7 → (cfg0.win 15).flush t = true := by decide
theorem flush12' : ∀ t : Fin grid0.N, t.val % 9 ≠ 0 → (cfg0.win 12).flush t = true := by decide
theorem flush16' : ∀ t : Fin grid0.N, t.val % 9 ≠ 0 → (cfg0.win 16).flush t = true := by decide

theorem idx3_of {m n : ℕ} (x : (⟨3, ![1, m, n]⟩ : Shape).Idx) : ∃ (r : Fin m) (l : Fin n), x = ix3 0 r l := ⟨x 1, x 2, funext fun a => match a with
  | ⟨0, _⟩ => Fin.ext (by have := (x 0).isLt; simp at this; exact this) | ⟨1, _⟩ => rfl | ⟨2, _⟩ => rfl⟩
theorem idx4_of {m n k : ℕ} (x : (⟨4, ![1, m, n, k]⟩ : Shape).Idx) : ∃ (r : Fin m) (l : Fin n) (p : Fin k), x = ix4 0 r l p := ⟨x 1, x 2, x 3, funext fun a => match a with
  | ⟨0, _⟩ => Fin.ext (by have := (x 0).isLt; simp at this; exact this) | ⟨1, _⟩ => rfl | ⟨2, _⟩ => rfl | ⟨3, _⟩ => rfl⟩

theorem emb13 (t : Fin grid0.N) (x : S1x256x8.Idx) : (((cfg0.win 13).blk t).view.emb x : S4x2048x8.Idx) = ix3 ⟨sen t, sen_lt t⟩ ⟨row t + (x 1).val, by have := row_lt t; have := (x 1).isLt; simp at this; omega⟩ (x 2) := by
  obtain ⟨h0, h1, h2⟩ := index13 t
  refine funext fun a => Fin.ext ?_
  refine ((cfg0.win 13).rect_emb_val t x a).trans ?_
  have x0 := (x 0).isLt
  match a with
  | ⟨0, _⟩ => refine (congrArg (fun z => z * 1 + (x 0).val) h0).trans ?_; show t.val / 9 * 1 + (x 0).val = t.val / 9; simp at x0; omega
  | ⟨1, _⟩ => exact congrArg (fun z => z * 256 + (x 1).val) h1
  | ⟨2, _⟩ => refine (congrArg (fun z => z * 8 + (x 2).val) h2).trans ?_; show 0 * 8 + (x 2).val = (x 2).val; omega
theorem emb14 (t : Fin grid0.N) (x : S1x256x8.Idx) : (((cfg0.win 14).blk t).view.emb x : S4x2048x8.Idx) = ix3 ⟨sen t, sen_lt t⟩ ⟨row t + (x 1).val, by have := row_lt t; have := (x 1).isLt; simp at this; omega⟩ (x 2) := by
  obtain ⟨h0, h1, h2⟩ := index14 t
  refine funext fun a => Fin.ext ?_
  refine ((cfg0.win 14).rect_emb_val t x a).trans ?_
  have x0 := (x 0).isLt
  match a with
  | ⟨0, _⟩ => refine (congrArg (fun z => z * 1 + (x 0).val) h0).trans ?_; show t.val / 9 * 1 + (x 0).val = t.val / 9; simp at x0; omega
  | ⟨1, _⟩ => exact congrArg (fun z => z * 256 + (x 1).val) h1
  | ⟨2, _⟩ => refine (congrArg (fun z => z * 8 + (x 2).val) h2).trans ?_; show 0 * 8 + (x 2).val = (x 2).val; omega
theorem emb15 (t : Fin grid0.N) (x : S1x256x8.Idx) : (((cfg0.win 15).blk t).view.emb x : S4x2048x8.Idx) = ix3 ⟨sen t, sen_lt t⟩ ⟨row t + (x 1).val, by have := row_lt t; have := (x 1).isLt; simp at this; omega⟩ (x 2) := by
  obtain ⟨h0, h1, h2⟩ := index15 t
  refine funext fun a => Fin.ext ?_
  refine ((cfg0.win 15).rect_emb_val t x a).trans ?_
  have x0 := (x 0).isLt
  match a with
  | ⟨0, _⟩ => refine (congrArg (fun z => z * 1 + (x 0).val) h0).trans ?_; show t.val / 9 * 1 + (x 0).val = t.val / 9; simp at x0; omega
  | ⟨1, _⟩ => exact congrArg (fun z => z * 256 + (x 1).val) h1
  | ⟨2, _⟩ => refine (congrArg (fun z => z * 8 + (x 2).val) h2).trans ?_; show 0 * 8 + (x 2).val = (x 2).val; omega
theorem emb16 (t : Fin grid0.N) (x : S1x256x8.Idx) : (((cfg0.win 16).blk t).view.emb x : S4x2048x8.Idx) = ix3 ⟨sen t, sen_lt t⟩ ⟨outRow t + (x 1).val, by have := outRow_lt t; have := (x 1).isLt; simp at this; omega⟩ (x 2) := by
  obtain ⟨h0, h1, h2⟩ := index16 t
  refine funext fun a => Fin.ext ?_
  refine ((cfg0.win 16).rect_emb_val t x a).trans ?_
  have x0 := (x 0).isLt
  match a with
  | ⟨0, _⟩ => refine (congrArg (fun z => z * 1 + (x 0).val) h0).trans ?_; show t.val / 9 * 1 + (x 0).val = t.val / 9; simp at x0; omega
  | ⟨1, _⟩ => exact congrArg (fun z => z * 256 + (x 1).val) h1
  | ⟨2, _⟩ => refine (congrArg (fun z => z * 8 + (x 2).val) h2).trans ?_; show 0 * 8 + (x 2).val = (x 2).val; omega
theorem emb12 (t : Fin grid0.N) (x : S1x256x8x128.Idx) : (((cfg0.win 12).blk t).view.emb x : S4x2048x8x128.Idx) = ix4 ⟨sen t, sen_lt t⟩ ⟨outRow t + (x 1).val, by have := outRow_lt t; have := (x 1).isLt; simp at this; omega⟩ (x 2) (x 3) := by
  obtain ⟨h0, h1, h2, h3⟩ := index12 t
  refine funext fun a => Fin.ext ?_
  refine ((cfg0.win 12).rect_emb_val t x a).trans ?_
  have x0 := (x 0).isLt
  match a with
  | ⟨0, _⟩ => refine (congrArg (fun z => z * 1 + (x 0).val) h0).trans ?_; show t.val / 9 * 1 + (x 0).val = t.val / 9; simp at x0; omega
  | ⟨1, _⟩ => exact congrArg (fun z => z * 256 + (x 1).val) h1
  | ⟨2, _⟩ => refine (congrArg (fun z => z * 8 + (x 2).val) h2).trans ?_; show 0 * 8 + (x 2).val = (x 2).val; omega
  | ⟨3, _⟩ => refine (congrArg (fun z => z * 128 + (x 3).val) h3).trans ?_; show 0 * 128 + (x 3).val = (x 3).val; omega

/-- Where a point's row lies: the point is the row's, but the last of a sentence, whose blocks are those of the point before. -/
theorem blk_pt (t : Fin grid0.N) (b : Fin 4) (s : Fin 2048) (r : Fin 256) (hb : b.val = sen t) (hs : s.val = row t + r.val) :
    blkAt V d (pt b s) = blkAt V d t ∧ inB s = r := by
  have hr := r.isLt
  have ht : t.val < 36 := lt_of_lt_of_eq t.isLt N_0
  unfold sen at hb; unfold row at hs
  have h1 : s.val / 256 = min (t.val % 9) 7 := by omega
  have h2 : s.val % 256 = r.val := by omega
  refine ⟨blk_last V d _ _ ?_ ?_, Fin.ext h2⟩
  · show (b.val * 9 + s.val / 256) / 9 = t.val / 9
    omega
  · show min ((b.val * 9 + s.val / 256) % 9) 7 * 256 = min (t.val % 9) 7 * 256
    omega
theorem ptA_of (t : Fin grid0.N) (b : Fin 4) (s : Fin 2048) (r : Fin 256) (h0 : t.val % 9 ≠ 0) (hb : b.val = sen t) (hs : s.val = outRow t + r.val) :
    ptA b s = t ∧ inB s = r := by
  have hr := r.isLt
  unfold sen at hb; unfold outRow at hs
  exact ⟨Fin.ext (by show b.val * 9 + s.val / 256 + 1 = t.val; omega), Fin.ext (by show s.val % 256 = r.val; omega)⟩

theorem left13 : Pipeline.afterRegion (dat0 V d) (V d) (dr main_v8_1) = (fun i => (blkAt V d (pt (i 0) (i 1))).out0 (ix3 0 (inB (i 1)) (i 2)) : B F S4x2048x8 .f32) := by
  refine (Pipeline.afterRegion_arr (dat0 V d) (V d) winFacts0.arr_inj 13).trans ?_
  refine (dat0 V d).arrAt_eq_of_cover 13 _ (fun t _ => ?_) fun i => ?_
  · refine funext fun x => ?_
    obtain ⟨r, l, rfl⟩ := idx3_of (m := 256) (n := 8) x
    refine Eq.symm ((congrArg (fun i : S4x2048x8.Idx => (blkAt V d (pt (i 0) (i 1))).out0 (ix3 0 (inB (i 1)) (i 2))) (emb13 t (ix3 0 r l))).trans ?_)
    obtain ⟨h1, h2⟩ := blk_pt V d t ⟨sen t, sen_lt t⟩ ⟨row t + r.val, by have := row_lt t; omega⟩ r rfl rfl
    show (blkAt V d (pt ⟨sen t, sen_lt t⟩ ⟨row t + r.val, _⟩)).out0 (ix3 0 (inB ⟨row t + r.val, _⟩) l) = _
    rw [h1, h2]
    rfl
  · have h0 : (i 0).val < 4 := (i 0).isLt
    have h1 : (i 1).val < 2048 := (i 1).isLt
    have hl : (i 0).val * 9 + (if (i 1).val / 256 = 7 then 8 else (i 1).val / 256) < grid0.N := by
      refine lt_of_lt_of_eq ?_ N_0.symm
      split <;> omega
    refine ⟨⟨_, hl⟩, flush13 _ (by show ((i 0).val * 9 + (if (i 1).val / 256 = 7 then 8 else (i 1).val / 256)) % 9 ≠ 7; split <;> omega), ?_⟩
    have h := ((cfg0.win 13).blk ⟨_, hl⟩).view.emb_mem_set (ix3 0 (inB (i 1)) (i 2))
    rw [emb13] at h
    refine (congrArg (· ∈ _) (funext fun a => Fin.ext ?_)).mp h
    match a with
    | ⟨0, _⟩ => show ((i 0).val * 9 + (if (i 1).val / 256 = 7 then 8 else (i 1).val / 256)) / 9 = (i 0).val; split <;> omega
    | ⟨1, _⟩ => show min (((i 0).val * 9 + (if (i 1).val / 256 = 7 then 8 else (i 1).val / 256)) % 9) 7 * 256 + (i 1).val % 256 = (i 1).val; split <;> omega
    | ⟨2, _⟩ => rfl
theorem left14 : Pipeline.afterRegion (dat0 V d) (V d) (dr main_v8_2) = (fun i => (blkAt V d (pt (i 0) (i 1))).out1 (ix3 0 (inB (i 1)) (i 2)) : B F S4x2048x8 .f32) := by
  refine (Pipeline.afterRegion_arr (dat0 V d) (V d) winFacts0.arr_inj 14).trans ?_
  refine (dat0 V d).arrAt_eq_of_cover 14 _ (fun t _ => ?_) fun i => ?_
  · refine funext fun x => ?_
    obtain ⟨r, l, rfl⟩ := idx3_of (m := 256) (n := 8) x
    refine Eq.symm ((congrArg (fun i : S4x2048x8.Idx => (blkAt V d (pt (i 0) (i 1))).out1 (ix3 0 (inB (i 1)) (i 2))) (emb14 t (ix3 0 r l))).trans ?_)
    obtain ⟨h1, h2⟩ := blk_pt V d t ⟨sen t, sen_lt t⟩ ⟨row t + r.val, by have := row_lt t; omega⟩ r rfl rfl
    show (blkAt V d (pt ⟨sen t, sen_lt t⟩ ⟨row t + r.val, _⟩)).out1 (ix3 0 (inB ⟨row t + r.val, _⟩) l) = _
    rw [h1, h2]
    rfl
  · have h0 : (i 0).val < 4 := (i 0).isLt
    have h1 : (i 1).val < 2048 := (i 1).isLt
    have hl : (i 0).val * 9 + (if (i 1).val / 256 = 7 then 8 else (i 1).val / 256) < grid0.N := by
      refine lt_of_lt_of_eq ?_ N_0.symm
      split <;> omega
    refine ⟨⟨_, hl⟩, flush14 _ (by show ((i 0).val * 9 + (if (i 1).val / 256 = 7 then 8 else (i 1).val / 256)) % 9 ≠ 7; split <;> omega), ?_⟩
    have h := ((cfg0.win 14).blk ⟨_, hl⟩).view.emb_mem_set (ix3 0 (inB (i 1)) (i 2))
    rw [emb14] at h
    refine (congrArg (· ∈ _) (funext fun a => Fin.ext ?_)).mp h
    match a with
    | ⟨0, _⟩ => show ((i 0).val * 9 + (if (i 1).val / 256 = 7 then 8 else (i 1).val / 256)) / 9 = (i 0).val; split <;> omega
    | ⟨1, _⟩ => show min (((i 0).val * 9 + (if (i 1).val / 256 = 7 then 8 else (i 1).val / 256)) % 9) 7 * 256 + (i 1).val % 256 = (i 1).val; split <;> omega
    | ⟨2, _⟩ => rfl
theorem left15 : Pipeline.afterRegion (dat0 V d) (V d) (dr main_v8_3) = (fun i => (blkAt V d (pt (i 0) (i 1))).det (ix3 0 (inB (i 1)) (i 2)) : B F S4x2048x8 .i32) := by
  refine (Pipeline.afterRegion_arr (dat0 V d) (V d) winFacts0.arr_inj 15).trans ?_
  refine (dat0 V d).arrAt_eq_of_cover 15 _ (fun t _ => ?_) fun i => ?_
  · refine funext fun x => ?_
    obtain ⟨r, l, rfl⟩ := idx3_of (m := 256) (n := 8) x
    refine Eq.symm ((congrArg (fun i : S4x2048x8.Idx => (blkAt V d (pt (i 0) (i 1))).det (ix3 0 (inB (i 1)) (i 2))) (emb15 t (ix3 0 r l))).trans ?_)
    obtain ⟨h1, h2⟩ := blk_pt V d t ⟨sen t, sen_lt t⟩ ⟨row t + r.val, by have := row_lt t; omega⟩ r rfl rfl
    show (blkAt V d (pt ⟨sen t, sen_lt t⟩ ⟨row t + r.val, _⟩)).det (ix3 0 (inB ⟨row t + r.val, _⟩) l) = _
    rw [h1, h2]
    rfl
  · have h0 : (i 0).val < 4 := (i 0).isLt
    have h1 : (i 1).val < 2048 := (i 1).isLt
    have hl : (i 0).val * 9 + (if (i 1).val / 256 = 7 then 8 else (i 1).val / 256) < grid0.N := by
      refine lt_of_lt_of_eq ?_ N_0.symm
      split <;> omega
    refine ⟨⟨_, hl⟩, flush15 _ (by show ((i 0).val * 9 + (if (i 1).val / 256 = 7 then 8 else (i 1).val / 256)) % 9 ≠ 7; split <;> omega), ?_⟩
    have h := ((cfg0.win 15).blk ⟨_, hl⟩).view.emb_mem_set (ix3 0 (inB (i 1)) (i 2))
    rw [emb15] at h
    refine (congrArg (· ∈ _) (funext fun a => Fin.ext ?_)).mp h
    match a with
    | ⟨0, _⟩ => show ((i 0).val * 9 + (if (i 1).val / 256 = 7 then 8 else (i 1).val / 256)) / 9 = (i 0).val; split <;> omega
    | ⟨1, _⟩ => show min (((i 0).val * 9 + (if (i 1).val / 256 = 7 then 8 else (i 1).val / 256)) % 9) 7 * 256 + (i 1).val % 256 = (i 1).val; split <;> omega
    | ⟨2, _⟩ => rfl
theorem left12 : Pipeline.afterRegion (dat0 V d) (V d) (dr main_v8_0) = (fun i => ancAt V d (ptA (i 0) (i 1)) (ix4 0 (inB (i 1)) (i 2) (i 3)) : B F S4x2048x8x128 .f32) := by
  refine (Pipeline.afterRegion_arr (dat0 V d) (V d) winFacts0.arr_inj 12).trans ?_
  refine (dat0 V d).arrAt_eq_of_cover 12 _ (fun t ht => ?_) fun i => ?_
  · have h0 : t.val % 9 ≠ 0 := fun h => by rw [flush12 t h] at ht; cases ht
    refine funext fun x => ?_
    obtain ⟨r, l, p, rfl⟩ := idx4_of (m := 256) (n := 8) (k := 128) x
    refine Eq.symm ((congrArg (fun i : S4x2048x8x128.Idx => ancAt V d (ptA (i 0) (i 1)) (ix4 0 (inB (i 1)) (i 2) (i 3))) (emb12 t (ix4 0 r l p))).trans ?_)
    obtain ⟨h1, h2⟩ := ptA_of t ⟨sen t, sen_lt t⟩ ⟨outRow t + r.val, by have := outRow_lt t; omega⟩ r h0 rfl rfl
    show ancAt V d (ptA ⟨sen t, sen_lt t⟩ ⟨outRow t + r.val, _⟩) (ix4 0 (inB ⟨outRow t + r.val, _⟩) l p) = _
    rw [h1, h2]
    rfl
  · have h0 : (i 0).val < 4 := (i 0).isLt
    have h1 : (i 1).val < 2048 := (i 1).isLt
    refine ⟨ptA (i 0) (i 1), flush12' _ (by show ((i 0).val * 9 + (i 1).val / 256 + 1) % 9 ≠ 0; omega), ?_⟩
    have h := ((cfg0.win 12).blk (ptA (i 0) (i 1))).view.emb_mem_set (ix4 0 (inB (i 1)) (i 2) (i 3))
    rw [emb12] at h
    refine (congrArg (· ∈ _) (funext fun a => Fin.ext ?_)).mp h
    match a with
    | ⟨0, _⟩ => show ((i 0).val * 9 + (i 1).val / 256 + 1) / 9 = (i 0).val; omega
    | ⟨1, _⟩ => show (((i 0).val * 9 + (i 1).val / 256 + 1) % 9 - 1) * 256 + (i 1).val % 256 = (i 1).val; omega
    | ⟨2, _⟩ => rfl
    | ⟨3, _⟩ => rfl
theorem left16 : Pipeline.afterRegion (dat0 V d) (V d) (dr main_v8_4) = (fun i => clsAt V d (ptA (i 0) (i 1)) (ix3 0 (inB (i 1)) (i 2)) : B F S4x2048x8 .i32) := by
  refine (Pipeline.afterRegion_arr (dat0 V d) (V d) winFacts0.arr_inj 16).trans ?_
  refine (dat0 V d).arrAt_eq_of_cover 16 _ (fun t ht => ?_) fun i => ?_
  · have h0 : t.val % 9 ≠ 0 := fun h => by rw [flush16 t h] at ht; cases ht
    refine funext fun x => ?_
    obtain ⟨r, l, rfl⟩ := idx3_of (m := 256) (n := 8) x
    refine Eq.symm ((congrArg (fun i : S4x2048x8.Idx => clsAt V d (ptA (i 0) (i 1)) (ix3 0 (inB (i 1)) (i 2))) (emb16 t (ix3 0 r l))).trans ?_)
    obtain ⟨h1, h2⟩ := ptA_of t ⟨sen t, sen_lt t⟩ ⟨outRow t + r.val, by have := outRow_lt t; omega⟩ r h0 rfl rfl
    show clsAt V d (ptA ⟨sen t, sen_lt t⟩ ⟨outRow t + r.val, _⟩) (ix3 0 (inB ⟨outRow t + r.val, _⟩) l) = _
    rw [h1, h2]
    rfl
  · have h0 : (i 0).val < 4 := (i 0).isLt
    have h1 : (i 1).val < 2048 := (i 1).isLt
    refine ⟨ptA (i 0) (i 1), flush16' _ (by show ((i 0).val * 9 + (i 1).val / 256 + 1) % 9 ≠ 0; omega), ?_⟩
    have h := ((cfg0.win 16).blk (ptA (i 0) (i 1))).view.emb_mem_set (ix3 0 (inB (i 1)) (i 2))
    rw [emb16] at h
    refine (congrArg (· ∈ _) (funext fun a => Fin.ext ?_)).mp h
    match a with
    | ⟨0, _⟩ => show ((i 0).val * 9 + (i 1).val / 256 + 1) / 9 = (i 0).val; omega
    | ⟨1, _⟩ => show (((i 0).val * 9 + (i 1).val / 256 + 1) % 9 - 1) * 256 + (i 1).val % 256 = (i 1).val; omega
    | ⟨2, _⟩ => rfl
/-- The loss is the last point's. -/
theorem left17 : Pipeline.afterRegion (dat0 V d) (V d) (dr main_v8_5) = (lossAt V d 35 : B F S1x1 .f32) := by
  refine (Pipeline.afterRegion_arr (dat0 V d) (V d) winFacts0.arr_inj 17).trans ?_
  have hz : ∀ (t : Fin grid0.N) (a : Fin 2), (cfg0.win 17).index t a = 0 := by decide
  have hblk : ∀ t x, ((cfg0.win 17).blk t).view.emb x = x := fun t x => funext fun a => Fin.ext ((cfg0.win 17).rect_emb_val_of_index_zero t a (hz t a) x)
  refine (dat0 V d).arrAt_eq_of_cover 17 (lossAt V d 35 : B F S1x1 .f32) (fun t ht => ?_) fun i => ⟨⟨35, by decide⟩, by decide, ?_⟩
  · have h35 : t.val = 35 := by
      by_contra h
      rw [flush17 t h] at ht; cases ht
    refine funext fun x => ?_
    refine Eq.trans ?_ (congrArg (lossAt V d 35 : B F S1x1 .f32) (hblk t x)).symm
    show lossAt V d t.val x = _
    rw [h35]
  · have h := ((cfg0.win 17).blk ⟨35, by decide⟩).view.emb_mem_set i
    rw [hblk] at h
    exact h

end Cert.Proof.Span

end
-- ==== Proof.RHost.lean ====
/-
  The reference as a line of host operations, and its run: it ends with every array of @main at the contents `WF`.
-/
module

public import proofs.«01_k».proof.Proof.Gen.ReferenceIdeal
public import proofs.«01_k».proof.Proof.Line

@[expose] public section

noncomputable section

namespace Cert.Proof.Ref

open Cert.ReferenceIdeal Cert.ReferenceIdeal.Gen

open Idealize.ShloMosaic Idealize.ShloMosaic.StableHlo Idealize.ShloMosaic.TcCoe Idealize.SL.Sem
open Cert.Proof.Line

variable {F : FTy → Type} [FloatOps F]

/-- Operations of @main. -/
abbrev opsR1 : List (HloOp τ sig (Elt F)) :=
  [nullary main_cst ((fun i => FloatOps.ofBits .f32 (lit0 (S2.rowMajor i))) : B F S2 .f32),
    binary main_arg1 main_arg6 main_v0 ((fun l r => Host.dotGeneral dot_S4x2048x128_S128x128_S4x2048x128_2_0_01_1_n_n none l r) : B F S4x2048x128 .f32 → B F S128x128 .f32 → B F S4x2048x128 .f32),
    binary main_arg2 main_arg7 main_v1 ((fun l r => Host.dotGeneral dot_S4x2048x128_S128x128_S4x2048x128_2_0_01_1_n_n none l r) : B F S4x2048x128 .f32 → B F S128x128 .f32 → B F S4x2048x128 .f32),
    binary main_v0 main_v1 main_v2 (addf : B F S4x2048x128 .f32 → B F S4x2048x128 .f32 → B F S4x2048x128 .f32),
    unary main_arg8 main_v3 (broadcastInDim S1x1x128 ![2] bcast_S128_S1x1x128_2 : B F S128 .f32 → B F S1x1x128 .f32),
    unary main_v3 main_v4 (broadcastInDim S4x2048x128 ![0, 1, 2] bcast_S1x1x128_S4x2048x128_0_1_2 : B F S1x1x128 .f32 → B F S4x2048x128 .f32),
    binary main_v2 main_v4 main_v5 (addf : B F S4x2048x128 .f32 → B F S4x2048x128 .f32 → B F S4x2048x128 .f32),
    unary main_v5 main_v6 (Host.negf : B F S4x2048x128 .f32 → B F S4x2048x128 .f32),
    unary main_v6 main_v7 (Host.exp : B F S4x2048x128 .f32 → B F S4x2048x128 .f32),
    nullary main_cst_0 ((constant S_ .f32 0x3F800000#32) : B F S_ .f32),
    unary main_cst_0 main_v8 (broadcastInDim S4x2048x128 ![] bcast_S_S4x2048x128 : B F S_ .f32 → B F S4x2048x128 .f32),
    binary main_v8 main_v7 main_v9 (addf : B F S4x2048x128 .f32 → B F S4x2048x128 .f32 → B F S4x2048x128 .f32),
    nullary main_cst_1 ((constant S_ .f32 0x3F800000#32) : B F S_ .f32),
    unary main_cst_1 main_v10 (broadcastInDim S4x2048x128 ![] bcast_S_S4x2048x128 : B F S_ .f32 → B F S4x2048x128 .f32),
    binary main_v10 main_v9 main_v11 (Host.divf : B F S4x2048x128 .f32 → B F S4x2048x128 .f32 → B F S4x2048x128 .f32),
    binary main_v11 main_arg1 main_v12 (mulf : B F S4x2048x128 .f32 → B F S4x2048x128 .f32 → B F S4x2048x128 .f32),
    nullary main_cst_2 ((constant S_ .f32 0x3F800000#32) : B F S_ .f32),
    unary main_cst_2 main_v13 (broadcastInDim S4x2048x128 ![] bcast_S_S4x2048x128 : B F S_ .f32 → B F S4x2048x128 .f32),
    binary main_v13 main_v11 main_v14 (subf : B F S4x2048x128 .f32 → B F S4x2048x128 .f32 → B F S4x2048x128 .f32),
    binary main_v14 main_arg2 main_v15 (mulf : B F S4x2048x128 .f32 → B F S4x2048x128 .f32 → B F S4x2048x128 .f32),
    binary main_v12 main_v15 main_v16 (addf : B F S4x2048x128 .f32 → B F S4x2048x128 .f32 → B F S4x2048x128 .f32),
    nullary main_cst_3 ((constant S_ .f32 0x00000000#32) : B F S_ .f32),
    unary main_cst_3 main_v17 (broadcastInDim S4x1x128 ![] bcast_S_S4x1x128 : B F S_ .f32 → B F S4x1x128 .f32),
    nullary main_call0_call0_cst ((constant S_ .f32 0x00000000#32) : B F S_ .f32),
    unary main_call0_call0_cst main_call0_call0_v0 ((broadcastInDim S_ ![] bcast_S_S_) : B F S_ .f32 → B F S_ .f32),
    binary main_v16 main_call0_call0_v0 main_v18 ((fun x v => Host.reduceWindowAdd ![1, 2048, 1] ![1, 1, 1] ![0, 2047, 0] ![0, 0, 0] x v reduceWindows_S4x2048x128_S4x2048x128_w1s1p0_0_w2048s1p2047_0_w1s1p0_0 h_S_) : B F S4x2048x128 .f32 → B F S_ .f32 → B F S4x2048x128 .f32),
    binary main_v17 main_v18 main_v19 ((fun a b => concatenate S4x2049x128 1 [⟨S4x1x128, a⟩, ⟨S4x2048x128, b⟩] concatenates_S4x1x128_S4x2048x128_S4x2049x128_d1) : B F S4x1x128 .f32 → B F S4x2048x128 .f32 → B F S4x2049x128 .f32),
    nullary main_v20 ((iotaInDim S2048 32 0) : B F S2048 .i32),
    unary main_v20 main_v21 (broadcastInDim S2048x1 ![0] bcast_S2048_S2048x1_0 : B F S2048 .i32 → B F S2048x1 .i32),
    nullary main_v22 ((iotaInDim S8 32 0) : B F S8 .i32),
    nullary main_c ((constantI S_ 32 1#32) : B F S_ .i32),
    unary main_c main_v23 (broadcastInDim S8 ![] bcast_S_S8 : B F S_ .i32 → B F S8 .i32)]
/-- What they write. -/
abbrev wrR1 : List (Ref sig .tc) :=
  [main_cst, main_v0, main_v1, main_v2, main_v3, main_v4, main_v5, main_v6, main_v7, main_cst_0, main_v8, main_v9, main_cst_1, main_v10, main_v11, main_v12, main_cst_2, main_v13, main_v14, main_v15, main_v16, main_cst_3, main_v17, main_call0_call0_cst, main_call0_call0_v0, main_v18, main_v19, main_v20, main_v21, main_v22, main_c, main_v23]
theorem lineR1 : IsLine (opsR1 (F := F)) wrR1 14 := ⟨rfl, by decide⟩
theorem allR1 : (opsR1 (F := F)).Forall fun op => op.bufs ⊆ tcRefs τ sig :=
  ⟨nullary_bufs_sub _ _ _, binary_bufs_sub _ _ _ _ _ _ _, binary_bufs_sub _ _ _ _ _ _ _, binary_bufs_sub _ _ _ _ _ _ _, unary_bufs_sub _ _ _ _ _, unary_bufs_sub _ _ _ _ _, binary_bufs_sub _ _ _ _ _ _ _, unary_bufs_sub _ _ _ _ _, unary_bufs_sub _ _ _ _ _, nullary_bufs_sub _ _ _, unary_bufs_sub _ _ _ _ _, binary_bufs_sub _ _ _ _ _ _ _, nullary_bufs_sub _ _ _, unary_bufs_sub _ _ _ _ _, binary_bufs_sub _ _ _ _ _ _ _, binary_bufs_sub _ _ _ _ _ _ _, nullary_bufs_sub _ _ _, unary_bufs_sub _ _ _ _ _, binary_bufs_sub _ _ _ _ _ _ _, binary_bufs_sub _ _ _ _ _ _ _, binary_bufs_sub _ _ _ _ _ _ _, nullary_bufs_sub _ _ _, unary_bufs_sub _ _ _ _ _, nullary_bufs_sub _ _ _, unary_bufs_sub _ _ _ _ _, binary_bufs_sub _ _ _ _ _ _ _, binary_bufs_sub _ _ _ _ _ _ _, nullary_bufs_sub _ _ _, unary_bufs_sub _ _ _ _ _, nullary_bufs_sub _ _ _, nullary_bufs_sub _ _ _, unary_bufs_sub _ _ _ _ _⟩
theorem freshR1 : ∀ op ∈ (opsR1 (F := F)), op.fresh = ∅ := List.forall_iff_forall_mem.mp (forall_fresh_of_map rfl)

/-- Operations of @main. -/
abbrev opsR2 : List (HloOp τ sig (Elt F)) :=
  [binary main_v23 main_v22 main_v24 (addi : B F S8 .i32 → B F S8 .i32 → B F S8 .i32),
    unary main_v24 main_v25 (broadcastInDim S1x8 ![1] bcast_S8_S1x8_1 : B F S8 .i32 → B F S1x8 .i32),
    unary main_v21 main_v26 (broadcastInDim S2048x8 ![0, 1] bcast_S2048x1_S2048x8_0_1 : B F S2048x1 .i32 → B F S2048x8 .i32),
    unary main_v25 main_v27 (broadcastInDim S2048x8 ![0, 1] bcast_S1x8_S2048x8_0_1 : B F S1x8 .i32 → B F S2048x8 .i32),
    binary main_v26 main_v27 main_v28 (addi : B F S2048x8 .i32 → B F S2048x8 .i32 → B F S2048x8 .i32),
    nullary main_c_4 ((constantI S_ 32 2048#32) : B F S_ .i32),
    unary main_c_4 main_call1_v0 (id : B F S_ .i32 → B F S_ .i32),
    unary main_call1_v0 main_call1_v1 ((broadcastInDim S2048x8 ![] bcast_S_S2048x8) : B F S_ .i32 → B F S2048x8 .i32),
    binary main_call1_v1 main_v28 main_v29 (minsi : B F S2048x8 .i32 → B F S2048x8 .i32 → B F S2048x8 .i32),
    unary main_v20 main_v30 (broadcastInDim S2048x1 ![0] bcast_S2048_S2048x1_0 : B F S2048 .i32 → B F S2048x1 .i32),
    unary main_v30 main_v31 (broadcastInDim S2048x8 ![0, 1] bcast_S2048x1_S2048x8_0_1 : B F S2048x1 .i32 → B F S2048x8 .i32),
    binary main_v29 main_v31 main_v32 (subi : B F S2048x8 .i32 → B F S2048x8 .i32 → B F S2048x8 .i32),
    unary main_v32 main_v33 (sitofp .f32 : B F S2048x8 .i32 → B F S2048x8 .f32),
    nullary main_c_5 ((constantI S_ 32 0#32) : B F S_ .i32),
    unary main_c_5 main_v34 (broadcastInDim S2048x8 ![] bcast_S_S2048x8 : B F S_ .i32 → B F S2048x8 .i32),
    binary main_v29 main_v34 main_v35 (cmpi .slt : B F S2048x8 .i32 → B F S2048x8 .i32 → B F S2048x8 .i1),
    nullary main_c_6 ((constantI S_ 32 2049#32) : B F S_ .i32),
    unary main_c_6 main_v36 (broadcastInDim S2048x8 ![] bcast_S_S2048x8 : B F S_ .i32 → B F S2048x8 .i32),
    binary main_v29 main_v36 main_v37 (addi : B F S2048x8 .i32 → B F S2048x8 .i32 → B F S2048x8 .i32),
    ternary main_v35 main_v37 main_v29 main_v38 (select : B F S2048x8 .i1 → B F S2048x8 .i32 → B F S2048x8 .i32 → B F S2048x8 .i32),
    unary main_v38 main_v39 (broadcastInDim S2048x8x1 ![0, 1] bcast_S2048x8_S2048x8x1_0_1 : B F S2048x8 .i32 → B F S2048x8x1 .i32),
    binary main_v19 main_v39 main_v40 ((fun x i => Host.gather gather_S4x2049x128_S2048x8x1_S4x2048x8x128_03_1_n_n_1_2_41128 x i) : B F S4x2049x128 .f32 → B F S2048x8x1 .i32 → B F S4x2048x8x128 .f32),
    nullary main_c_7 ((constantI S_ 32 0#32) : B F S_ .i32),
    unary main_c_7 main_v41 (broadcastInDim S2048 ![] bcast_S_S2048 : B F S_ .i32 → B F S2048 .i32),
    binary main_v20 main_v41 main_v42 (cmpi .slt : B F S2048 .i32 → B F S2048 .i32 → B F S2048 .i1),
    nullary main_c_8 ((constantI S_ 32 2049#32) : B F S_ .i32),
    unary main_c_8 main_v43 (broadcastInDim S2048 ![] bcast_S_S2048 : B F S_ .i32 → B F S2048 .i32),
    binary main_v20 main_v43 main_v44 (addi : B F S2048 .i32 → B F S2048 .i32 → B F S2048 .i32),
    ternary main_v42 main_v44 main_v20 main_v45 (select : B F S2048 .i1 → B F S2048 .i32 → B F S2048 .i32 → B F S2048 .i32),
    unary main_v45 main_v46 (broadcastInDim S2048x1 ![0] bcast_S2048_S2048x1_0 : B F S2048 .i32 → B F S2048x1 .i32),
    binary main_v19 main_v46 main_v47 ((fun x i => Host.gather gather_S4x2049x128_S2048x1_S4x2048x128_02_1_n_n_1_1_41128 x i) : B F S4x2049x128 .f32 → B F S2048x1 .i32 → B F S4x2048x128 .f32),
    unary main_v47 main_v48 (broadcastInDim S4x2048x1x128 ![0, 1, 3] bcast_S4x2048x128_S4x2048x1x128_0_1_3 : B F S4x2048x128 .f32 → B F S4x2048x1x128 .f32)]
/-- What they write. -/
abbrev wrR2 : List (Ref sig .tc) :=
  [main_v24, main_v25, main_v26, main_v27, main_v28, main_c_4, main_call1_v0, main_call1_v1, main_v29, main_v30, main_v31, main_v32, main_v33, main_c_5, main_v34, main_v35, main_c_6, main_v36, main_v37, main_v38, main_v39, main_v40, main_c_7, main_v41, main_v42, main_c_8, main_v43, main_v44, main_v45, main_v46, main_v47, main_v48]
theorem lineR2 : IsLine (opsR2 (F := F)) wrR2 46 := ⟨rfl, by decide⟩
theorem allR2 : (opsR2 (F := F)).Forall fun op => op.bufs ⊆ tcRefs τ sig :=
  ⟨binary_bufs_sub _ _ _ _ _ _ _, unary_bufs_sub _ _ _ _ _, unary_bufs_sub _ _ _ _ _, unary_bufs_sub _ _ _ _ _, binary_bufs_sub _ _ _ _ _ _ _, nullary_bufs_sub _ _ _, unary_bufs_sub _ _ _ _ _, unary_bufs_sub _ _ _ _ _, binary_bufs_sub _ _ _ _ _ _ _, unary_bufs_sub _ _ _ _ _, unary_bufs_sub _ _ _ _ _, binary_bufs_sub _ _ _ _ _ _ _, unary_bufs_sub _ _ _ _ _, nullary_bufs_sub _ _ _, unary_bufs_sub _ _ _ _ _, binary_bufs_sub _ _ _ _ _ _ _, nullary_bufs_sub _ _ _, unary_bufs_sub _ _ _ _ _, binary_bufs_sub _ _ _ _ _ _ _, ternary_bufs_sub _ _ _ _ _ _ _ _ _, unary_bufs_sub _ _ _ _ _, binary_bufs_sub _ _ _ _ _ _ _, nullary_bufs_sub _ _ _, unary_bufs_sub _ _ _ _ _, binary_bufs_sub _ _ _ _ _ _ _, nullary_bufs_sub _ _ _, unary_bufs_sub _ _ _ _ _, binary_bufs_sub _ _ _ _ _ _ _, ternary_bufs_sub _ _ _ _ _ _ _ _ _, unary_bufs_sub _ _ _ _ _, binary_bufs_sub _ _ _ _ _ _ _, unary_bufs_sub _ _ _ _ _⟩
theorem freshR2 : ∀ op ∈ (opsR2 (F := F)), op.fresh = ∅ := List.forall_iff_forall_mem.mp (forall_fresh_of_map rfl)

/-- Operations of @main. -/
abbrev opsR3 : List (HloOp τ sig (Elt F)) :=
  [unary main_v48 main_v49 (broadcastInDim S4x2048x8x128 ![0, 1, 2, 3] bcast_S4x2048x1x128_S4x2048x8x128_0_1_2_3 : B F S4x2048x1x128 .f32 → B F S4x2048x8x128 .f32),
    binary main_v40 main_v49 main_v50 (subf : B F S4x2048x8x128 .f32 → B F S4x2048x8x128 .f32 → B F S4x2048x8x128 .f32),
    unary main_v33 main_v51 (broadcastInDim S1x2048x8x1 ![1, 2] bcast_S2048x8_S1x2048x8x1_1_2 : B F S2048x8 .f32 → B F S1x2048x8x1 .f32),
    unary main_v51 main_v52 (broadcastInDim S4x2048x8x128 ![0, 1, 2, 3] bcast_S1x2048x8x1_S4x2048x8x128_0_1_2_3 : B F S1x2048x8x1 .f32 → B F S4x2048x8x128 .f32),
    binary main_v50 main_v52 main_v53 (Host.divf : B F S4x2048x8x128 .f32 → B F S4x2048x8x128 .f32 → B F S4x2048x8x128 .f32),
    binary main_v16 main_arg9 main_v54 ((fun l r => Host.dotGeneral dot_S4x2048x128_S128x16_S4x2048x16_2_0_01_1_n_n none l r) : B F S4x2048x128 .f32 → B F S128x16 .f32 → B F S4x2048x16 .f32),
    unary main_arg10 main_v55 (broadcastInDim S1x1x16 ![2] bcast_S16_S1x1x16_2 : B F S16 .f32 → B F S1x1x16 .f32),
    unary main_v55 main_v56 (broadcastInDim S4x2048x16 ![0, 1, 2] bcast_S1x1x16_S4x2048x16_0_1_2 : B F S1x1x16 .f32 → B F S4x2048x16 .f32),
    binary main_v54 main_v56 main_v57 (addf : B F S4x2048x16 .f32 → B F S4x2048x16 .f32 → B F S4x2048x16 .f32),
    reshape main_v57 main_v58 (rfl : (.f32 : EltTy) = .f32) shapeCasts_S4x2048x16_S4x2048x8x2,
    unary main_arg0 main_v59 (broadcastInDim S4x2048x1 ![0, 1] bcast_S4x2048_S4x2048x1_0_1 : B F S4x2048 .f32 → B F S4x2048x1 .f32),
    nullary main_cst_9 ((constant S_ .f32 0x00000000#32) : B F S_ .f32),
    unary main_cst_9 main_v60 (broadcastInDim S4x2048x1 ![] bcast_S_S4x2048x1 : B F S_ .f32 → B F S4x2048x1 .f32),
    binary main_v59 main_v60 main_v61 (cmpf .ogt : B F S4x2048x1 .f32 → B F S4x2048x1 .f32 → B F S4x2048x1 .i1),
    nullary main_call2_v0 ((iotaInDim S4x2048x8x2 32 3) : B F S4x2048x8x2 .i32),
    nullary main_call2_cst ((constant S_ .f32 0xFF800000#32) : B F S_ .f32),
    nullary main_call2_c ((constantI S_ 32 0#32) : B F S_ .i32),
    quaternary main_v58 main_call2_v0 main_call2_cst main_call2_c main_call2_v1_0 ((fun x y u v j => (Host.argReduce reducer_argmax_f32_i32 x y u v reducesTo_S4x2048x8x2_S4x2048x8_d3 h_S_ j).1) : B F S4x2048x8x2 .f32 → B F S4x2048x8x2 .i32 → B F S_ .f32 → B F S_ .i32 → B F S4x2048x8 .f32),
    quaternary main_v58 main_call2_v0 main_call2_cst main_call2_c main_v62 ((fun x y u v j => (Host.argReduce reducer_argmax_f32_i32 x y u v reducesTo_S4x2048x8x2_S4x2048x8_d3 h_S_ j).2) : B F S4x2048x8x2 .f32 → B F S4x2048x8x2 .i32 → B F S_ .f32 → B F S_ .i32 → B F S4x2048x8 .i32),
    nullary main_c_10 ((constantI S_ 32 0#32) : B F S_ .i32),
    unary main_c_10 main_call3_v0 (id : B F S_ .i32 → B F S_ .i32),
    unary main_v61 main_call3_v1 ((broadcastInDim S4x2048x8 ![0, 1, 2] bcast_S4x2048x1_S4x2048x8_0_1_2) : B F S4x2048x1 .i1 → B F S4x2048x8 .i1),
    unary main_call3_v0 main_call3_v2 ((broadcastInDim S4x2048x8 ![] bcast_S_S4x2048x8) : B F S_ .i32 → B F S4x2048x8 .i32),
    ternary main_call3_v1 main_v62 main_call3_v2 main_v63 (select : B F S4x2048x8 .i1 → B F S4x2048x8 .i32 → B F S4x2048x8 .i32 → B F S4x2048x8 .i32),
    nullary main_call4_cst ((constant S_ .f32 0xFF800000#32) : B F S_ .f32),
    binary main_v58 main_call4_cst main_call4_v0 ((fun x v => Host.reduce FloatOps.maximumf x v reducesTo_S4x2048x8x2_S4x2048x8_d3 h_S_) : B F S4x2048x8x2 .f32 → B F S_ .f32 → B F S4x2048x8 .f32),
    nullary main_call4_cst_0 ((constant S_ .f32 0xFF800000#32) : B F S_ .f32),
    unary main_call4_cst_0 main_call4_v1 ((broadcastInDim S4x2048x8 ![] bcast_S_S4x2048x8) : B F S_ .f32 → B F S4x2048x8 .f32),
    binary main_call4_v1 main_call4_v0 main_call4_v2 (maximumf : B F S4x2048x8 .f32 → B F S4x2048x8 .f32 → B F S4x2048x8 .f32),
    unary main_call4_v2 main_call4_v3 ((broadcastInDim S4x2048x8x1 ![0, 1, 2] bcast_S4x2048x8_S4x2048x8x1_0_1_2) : B F S4x2048x8 .f32 → B F S4x2048x8x1 .f32),
    unary main_call4_v3 main_call4_v4 ((broadcastInDim S4x2048x8x2 ![0, 1, 2, 3] bcast_S4x2048x8x1_S4x2048x8x2_0_1_2_3) : B F S4x2048x8x1 .f32 → B F S4x2048x8x2 .f32),
    binary main_v58 main_call4_v4 main_call4_v5 (subf : B F S4x2048x8x2 .f32 → B F S4x2048x8x2 .f32 → B F S4x2048x8x2 .f32),
    unary main_call4_v5 main_call4_v6 (Host.exp : B F S4x2048x8x2 .f32 → B F S4x2048x8x2 .f32),
    nullary main_call4_cst_1 ((constant S_ .f32 0x00000000#32) : B F S_ .f32)]
/-- What they write. -/
abbrev wrR3 : List (Ref sig .tc) :=
  [main_v49, main_v50, main_v51, main_v52, main_v53, main_v54, main_v55, main_v56, main_v57, main_v58, main_v59, main_cst_9, main_v60, main_v61, main_call2_v0, main_call2_cst, main_call2_c, main_call2_v1_0, main_v62, main_c_10, main_call3_v0, main_call3_v1, main_call3_v2, main_v63, main_call4_cst, main_call4_v0, main_call4_cst_0, main_call4_v1, main_call4_v2, main_call4_v3, main_call4_v4, main_call4_v5, main_call4_v6, main_call4_cst_1]
theorem lineR3 : IsLine (opsR3 (F := F)) wrR3 78 := ⟨rfl, by decide⟩
theorem allR3 : (opsR3 (F := F)).Forall fun op => op.bufs ⊆ tcRefs τ sig :=
  ⟨unary_bufs_sub _ _ _ _ _, binary_bufs_sub _ _ _ _ _ _ _, unary_bufs_sub _ _ _ _ _, unary_bufs_sub _ _ _ _ _, binary_bufs_sub _ _ _ _ _ _ _, binary_bufs_sub _ _ _ _ _ _ _, unary_bufs_sub _ _ _ _ _, unary_bufs_sub _ _ _ _ _, binary_bufs_sub _ _ _ _ _ _ _, reshape_bufs_sub _ _ _ _ _ _, unary_bufs_sub _ _ _ _ _, nullary_bufs_sub _ _ _, unary_bufs_sub _ _ _ _ _, binary_bufs_sub _ _ _ _ _ _ _, nullary_bufs_sub _ _ _, nullary_bufs_sub _ _ _, nullary_bufs_sub _ _ _, quaternary_bufs_sub _ _ _ _ _ _ _ _ _ _ _, quaternary_bufs_sub _ _ _ _ _ _ _ _ _ _ _, nullary_bufs_sub _ _ _, unary_bufs_sub _ _ _ _ _, unary_bufs_sub _ _ _ _ _, unary_bufs_sub _ _ _ _ _, ternary_bufs_sub _ _ _ _ _ _ _ _ _, nullary_bufs_sub _ _ _, binary_bufs_sub _ _ _ _ _ _ _, nullary_bufs_sub _ _ _, unary_bufs_sub _ _ _ _ _, binary_bufs_sub _ _ _ _ _ _ _, unary_bufs_sub _ _ _ _ _, unary_bufs_sub _ _ _ _ _, binary_bufs_sub _ _ _ _ _ _ _, unary_bufs_sub _ _ _ _ _, nullary_bufs_sub _ _ _⟩
theorem freshR3 : ∀ op ∈ (opsR3 (F := F)), op.fresh = ∅ := List.forall_iff_forall_mem.mp (forall_fresh_of_map rfl)

/-- Operations of @main. -/
abbrev opsR4 : List (HloOp τ sig (Elt F)) :=
  [binary main_call4_v6 main_call4_cst_1 main_call4_v7 ((fun x v => Host.reduceAdd x v reducesTo_S4x2048x8x2_S4x2048x8_d3 h_S_) : B F S4x2048x8x2 .f32 → B F S_ .f32 → B F S4x2048x8 .f32),
    unary main_call4_v7 main_call4_v8 ((broadcastInDim S4x2048x8x1 ![0, 1, 2] bcast_S4x2048x8_S4x2048x8x1_0_1_2) : B F S4x2048x8 .f32 → B F S4x2048x8x1 .f32),
    unary main_call4_v8 main_call4_v9 (Host.log : B F S4x2048x8x1 .f32 → B F S4x2048x8x1 .f32),
    unary main_call4_v9 main_call4_v10 ((broadcastInDim S4x2048x8x2 ![0, 1, 2, 3] bcast_S4x2048x8x1_S4x2048x8x2_0_1_2_3) : B F S4x2048x8x1 .f32 → B F S4x2048x8x2 .f32),
    binary main_call4_v5 main_call4_v10 main_v64 (subf : B F S4x2048x8x2 .f32 → B F S4x2048x8x2 .f32 → B F S4x2048x8x2 .f32),
    unary main_arg4 main_v65 (broadcastInDim S4x2048x8x1 ![0, 1, 2] bcast_S4x2048x8_S4x2048x8x1_0_1_2 : B F S4x2048x8 .i32 → B F S4x2048x8x1 .i32),
    nullary main_call5_c ((constantI S_ 32 0#32) : B F S_ .i32),
    unary main_call5_c main_call5_v0 ((broadcastInDim S4x2048x8x1 ![] bcast_S_S4x2048x8x1) : B F S_ .i32 → B F S4x2048x8x1 .i32),
    binary main_v65 main_call5_v0 main_call5_v1 ((cmpi .slt) : B F S4x2048x8x1 .i32 → B F S4x2048x8x1 .i32 → B F S4x2048x8x1 .i1),
    nullary main_call5_c_0 ((constantI S_ 32 2#32) : B F S_ .i32),
    unary main_call5_c_0 main_call5_v2 ((broadcastInDim S4x2048x8x1 ![] bcast_S_S4x2048x8x1) : B F S_ .i32 → B F S4x2048x8x1 .i32),
    binary main_v65 main_call5_v2 main_call5_v3 (addi : B F S4x2048x8x1 .i32 → B F S4x2048x8x1 .i32 → B F S4x2048x8x1 .i32),
    ternary main_call5_v1 main_call5_v3 main_v65 main_call5_v4 (select : B F S4x2048x8x1 .i1 → B F S4x2048x8x1 .i32 → B F S4x2048x8x1 .i32 → B F S4x2048x8x1 .i32),
    reshape main_call5_v4 main_call5_v5 (rfl : (.i32 : EltTy) = .i32) shapeCasts_S4x2048x8x1_S4x2048x8x1x1,
    nullary main_call5_c_1 ((constantI S1 32 1#32) : B F S1 .i32),
    nullary main_call5_c_2 ((constantI S_ 32 0#32) : B F S_ .i32),
    unary main_call5_c_2 main_call5_v6 ((broadcastInDim S4x2048x8x1x1 ![] bcast_S_S4x2048x8x1x1) : B F S_ .i32 → B F S4x2048x8x1x1 .i32),
    binary main_call5_v5 main_call5_v6 main_call5_v7 ((cmpi .sge) : B F S4x2048x8x1x1 .i32 → B F S4x2048x8x1x1 .i32 → B F S4x2048x8x1x1 .i1),
    unary main_call5_c_1 main_call5_v8 ((broadcastInDim S1x1x1x1x1 ![4] bcast_S1_S1x1x1x1x1_4) : B F S1 .i32 → B F S1x1x1x1x1 .i32),
    unary main_call5_v8 main_call5_v9 ((broadcastInDim S4x2048x8x1x1 ![0, 1, 2, 3, 4] bcast_S1x1x1x1x1_S4x2048x8x1x1_0_1_2_3_4) : B F S1x1x1x1x1 .i32 → B F S4x2048x8x1x1 .i32),
    binary main_call5_v5 main_call5_v9 main_call5_v10 ((cmpi .sle) : B F S4x2048x8x1x1 .i32 → B F S4x2048x8x1x1 .i32 → B F S4x2048x8x1x1 .i1),
    binary main_call5_v7 main_call5_v10 main_call5_v11 (andi : B F S4x2048x8x1x1 .i1 → B F S4x2048x8x1x1 .i1 → B F S4x2048x8x1x1 .i1),
    nullary main_call5_c_3 ((constantI S_ 1 1#1) : B F S_ .i1),
    binary main_call5_v11 main_call5_c_3 main_call5_v12 ((fun x v => Host.reduce IntOp.andi x v reducesTo_S4x2048x8x1x1_S4x2048x8x1_d4 h_S_) : B F S4x2048x8x1x1 .i1 → B F S_ .i1 → B F S4x2048x8x1 .i1),
    binary main_v64 main_call5_v5 main_call5_v13 ((fun x i => Host.gather gather_S4x2048x8x2_S4x2048x8x1x1_S4x2048x8x1_n_3_012_012_3_4_1111 x i) : B F S4x2048x8x2 .f32 → B F S4x2048x8x1x1 .i32 → B F S4x2048x8x1 .f32),
    nullary main_call5_cst ((constant S_ .f32 0x7FC00000#32) : B F S_ .f32),
    unary main_call5_cst main_call5_v14 ((broadcastInDim S4x2048x8x1 ![] bcast_S_S4x2048x8x1) : B F S_ .f32 → B F S4x2048x8x1 .f32),
    ternary main_call5_v12 main_call5_v13 main_call5_v14 main_v66 (select : B F S4x2048x8x1 .i1 → B F S4x2048x8x1 .f32 → B F S4x2048x8x1 .f32 → B F S4x2048x8x1 .f32),
    reshape main_v66 main_v67 (rfl : (.f32 : EltTy) = .f32) shapeCasts_S4x2048x8x1_S4x2048x8,
    unary main_v67 main_v68 (Host.negf : B F S4x2048x8 .f32 → B F S4x2048x8 .f32),
    nullary main_c_11 ((constantI S_ 32 0#32) : B F S_ .i32),
    unary main_c_11 main_v69 (broadcastInDim S4x2048x8 ![] bcast_S_S4x2048x8 : B F S_ .i32 → B F S4x2048x8 .i32),
    binary main_arg4 main_v69 main_v70 (cmpi .slt : B F S4x2048x8 .i32 → B F S4x2048x8 .i32 → B F S4x2048x8 .i1),
    nullary main_c_12 ((constantI S_ 32 2#32) : B F S_ .i32)]
/-- What they write. -/
abbrev wrR4 : List (Ref sig .tc) :=
  [main_call4_v7, main_call4_v8, main_call4_v9, main_call4_v10, main_v64, main_v65, main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_cst, main_call5_v14, main_v66, main_v67, main_v68, main_c_11, main_v69, main_v70, main_c_12]
theorem lineR4 : IsLine (opsR4 (F := F)) wrR4 112 := ⟨rfl, by decide⟩
theorem allR4 : (opsR4 (F := F)).Forall fun op => op.bufs ⊆ tcRefs τ sig :=
  ⟨binary_bufs_sub _ _ _ _ _ _ _, unary_bufs_sub _ _ _ _ _, unary_bufs_sub _ _ _ _ _, unary_bufs_sub _ _ _ _ _, binary_bufs_sub _ _ _ _ _ _ _, unary_bufs_sub _ _ _ _ _, nullary_bufs_sub _ _ _, unary_bufs_sub _ _ _ _ _, binary_bufs_sub _ _ _ _ _ _ _, nullary_bufs_sub _ _ _, unary_bufs_sub _ _ _ _ _, binary_bufs_sub _ _ _ _ _ _ _, ternary_bufs_sub _ _ _ _ _ _ _ _ _, reshape_bufs_sub _ _ _ _ _ _, nullary_bufs_sub _ _ _, nullary_bufs_sub _ _ _, unary_bufs_sub _ _ _ _ _, binary_bufs_sub _ _ _ _ _ _ _, unary_bufs_sub _ _ _ _ _, unary_bufs_sub _ _ _ _ _, binary_bufs_sub _ _ _ _ _ _ _, binary_bufs_sub _ _ _ _ _ _ _, nullary_bufs_sub _ _ _, binary_bufs_sub _ _ _ _ _ _ _, binary_bufs_sub _ _ _ _ _ _ _, nullary_bufs_sub _ _ _, unary_bufs_sub _ _ _ _ _, ternary_bufs_sub _ _ _ _ _ _ _ _ _, reshape_bufs_sub _ _ _ _ _ _, unary_bufs_sub _ _ _ _ _, nullary_bufs_sub _ _ _, unary_bufs_sub _ _ _ _ _, binary_bufs_sub _ _ _ _ _ _ _, nullary_bufs_sub _ _ _⟩
theorem freshR4 : ∀ op ∈ (opsR4 (F := F)), op.fresh = ∅ := List.forall_iff_forall_mem.mp (forall_fresh_of_map rfl)

/-- Operations of @main. -/
abbrev opsR5 : List (HloOp τ sig (Elt F)) :=
  [unary main_c_12 main_v71 (broadcastInDim S4x2048x8 ![] bcast_S_S4x2048x8 : B F S_ .i32 → B F S4x2048x8 .i32),
    binary main_arg4 main_v71 main_v72 (addi : B F S4x2048x8 .i32 → B F S4x2048x8 .i32 → B F S4x2048x8 .i32),
    ternary main_v70 main_v72 main_arg4 main_v73 (select : B F S4x2048x8 .i1 → B F S4x2048x8 .i32 → B F S4x2048x8 .i32 → B F S4x2048x8 .i32),
    unary main_v73 main_v74 (broadcastInDim S4x2048x8x1 ![0, 1, 2] bcast_S4x2048x8_S4x2048x8x1_0_1_2 : B F S4x2048x8 .i32 → B F S4x2048x8x1 .i32),
    binary main_cst main_v74 main_v75 ((fun x i => Host.gather gather_S2_S4x2048x8x1_S4x2048x8_n_0_n_n_0_3_1 x i) : B F S2 .f32 → B F S4x2048x8x1 .i32 → B F S4x2048x8 .f32),
    unary main_arg0 main_v76 (broadcastInDim S4x2048x1 ![0, 1] bcast_S4x2048_S4x2048x1_0_1 : B F S4x2048 .f32 → B F S4x2048x1 .f32),
    binary main_v68 main_v75 main_v77 (mulf : B F S4x2048x8 .f32 → B F S4x2048x8 .f32 → B F S4x2048x8 .f32),
    unary main_v76 main_v78 (broadcastInDim S4x2048x8 ![0, 1, 2] bcast_S4x2048x1_S4x2048x8_0_1_2 : B F S4x2048x1 .f32 → B F S4x2048x8 .f32),
    binary main_v77 main_v78 main_v79 (mulf : B F S4x2048x8 .f32 → B F S4x2048x8 .f32 → B F S4x2048x8 .f32),
    nullary main_cst_13 ((constant S_ .f32 0x00000000#32) : B F S_ .f32),
    binary main_v79 main_cst_13 main_v80 ((fun x v => Host.reduceAdd x v reducesTo_S4x2048x8_S_d0_1_2 h_S_) : B F S4x2048x8 .f32 → B F S_ .f32 → B F S_ .f32),
    unary main_v76 main_v81 (broadcastInDim S4x2048x8 ![0, 1, 2] bcast_S4x2048x1_S4x2048x8_0_1_2 : B F S4x2048x1 .f32 → B F S4x2048x8 .f32),
    binary main_v75 main_v81 main_v82 (mulf : B F S4x2048x8 .f32 → B F S4x2048x8 .f32 → B F S4x2048x8 .f32),
    nullary main_cst_14 ((constant S_ .f32 0x00000000#32) : B F S_ .f32),
    binary main_v82 main_cst_14 main_v83 ((fun x v => Host.reduceAdd x v reducesTo_S4x2048x8_S_d0_1_2 h_S_) : B F S4x2048x8 .f32 → B F S_ .f32 → B F S_ .f32),
    nullary main_cst_15 ((constant S_ .f32 0x358637BD#32) : B F S_ .f32),
    binary main_v83 main_cst_15 main_v84 (addf : B F S_ .f32 → B F S_ .f32 → B F S_ .f32),
    binary main_v80 main_v84 main_v85 (Host.divf : B F S_ .f32 → B F S_ .f32 → B F S_ .f32),
    reshape main_v85 main_v86 (rfl : (.f32 : EltTy) = .f32) shapeCasts_S_S1,
    nullary main_cst_16 ((constant S_ .f32 0xFF800000#32) : B F S_ .f32),
    binary main_v58 main_cst_16 main_v87 ((fun x v => Host.reduce FloatOps.maximumf x v reducesTo_S4x2048x8x2_S4x2048x8_d3 h_S_) : B F S4x2048x8x2 .f32 → B F S_ .f32 → B F S4x2048x8 .f32),
    nullary main_cst_17 ((constant S_ .f32 0xFF800000#32) : B F S_ .f32),
    unary main_cst_17 main_v88 (broadcastInDim S4x2048x8 ![] bcast_S_S4x2048x8 : B F S_ .f32 → B F S4x2048x8 .f32),
    binary main_v88 main_v87 main_v89 (maximumf : B F S4x2048x8 .f32 → B F S4x2048x8 .f32 → B F S4x2048x8 .f32),
    unary main_v89 main_v90 (broadcastInDim S4x2048x8x1 ![0, 1, 2] bcast_S4x2048x8_S4x2048x8x1_0_1_2 : B F S4x2048x8 .f32 → B F S4x2048x8x1 .f32),
    unary main_v90 main_v91 (broadcastInDim S4x2048x8x2 ![0, 1, 2, 3] bcast_S4x2048x8x1_S4x2048x8x2_0_1_2_3 : B F S4x2048x8x1 .f32 → B F S4x2048x8x2 .f32),
    binary main_v58 main_v91 main_v92 (subf : B F S4x2048x8x2 .f32 → B F S4x2048x8x2 .f32 → B F S4x2048x8x2 .f32),
    unary main_v92 main_v93 (Host.exp : B F S4x2048x8x2 .f32 → B F S4x2048x8x2 .f32),
    nullary main_cst_18 ((constant S_ .f32 0x00000000#32) : B F S_ .f32),
    binary main_v93 main_cst_18 main_v94 ((fun x v => Host.reduceAdd x v reducesTo_S4x2048x8x2_S4x2048x8_d3 h_S_) : B F S4x2048x8x2 .f32 → B F S_ .f32 → B F S4x2048x8 .f32),
    unary main_v94 main_v95 (broadcastInDim S4x2048x8x1 ![0, 1, 2] bcast_S4x2048x8_S4x2048x8x1_0_1_2 : B F S4x2048x8 .f32 → B F S4x2048x8x1 .f32),
    unary main_v95 main_v96 (broadcastInDim S4x2048x8x2 ![0, 1, 2, 3] bcast_S4x2048x8x1_S4x2048x8x2_0_1_2_3 : B F S4x2048x8x1 .f32 → B F S4x2048x8x2 .f32),
    binary main_v93 main_v96 main_v97 (Host.divf : B F S4x2048x8x2 .f32 → B F S4x2048x8x2 .f32 → B F S4x2048x8x2 .f32),
    unary main_v97 main_v98 ((extractStridedSlice S4x2048x8x1 ![0, 0, 0, 1] · slices_S4x2048x8x2_S4x2048x8x1_0_0_0_1) : B F S4x2048x8x2 .f32 → B F S4x2048x8x1 .f32)]
/-- What they write. -/
abbrev wrR5 : List (Ref sig .tc) :=
  [main_v71, main_v72, main_v73, main_v74, main_v75, main_v76, main_v77, main_v78, main_v79, main_cst_13, main_v80, main_v81, main_v82, main_cst_14, main_v83, main_cst_15, main_v84, main_v85, main_v86, main_cst_16, main_v87, main_cst_17, main_v88, main_v89, main_v90, main_v91, main_v92, main_v93, main_cst_18, main_v94, main_v95, main_v96, main_v97, main_v98]
theorem lineR5 : IsLine (opsR5 (F := F)) wrR5 146 := ⟨rfl, by decide⟩
theorem allR5 : (opsR5 (F := F)).Forall fun op => op.bufs ⊆ tcRefs τ sig :=
  ⟨unary_bufs_sub _ _ _ _ _, binary_bufs_sub _ _ _ _ _ _ _, ternary_bufs_sub _ _ _ _ _ _ _ _ _, unary_bufs_sub _ _ _ _ _, binary_bufs_sub _ _ _ _ _ _ _, unary_bufs_sub _ _ _ _ _, binary_bufs_sub _ _ _ _ _ _ _, unary_bufs_sub _ _ _ _ _, binary_bufs_sub _ _ _ _ _ _ _, nullary_bufs_sub _ _ _, binary_bufs_sub _ _ _ _ _ _ _, unary_bufs_sub _ _ _ _ _, binary_bufs_sub _ _ _ _ _ _ _, nullary_bufs_sub _ _ _, binary_bufs_sub _ _ _ _ _ _ _, nullary_bufs_sub _ _ _, binary_bufs_sub _ _ _ _ _ _ _, binary_bufs_sub _ _ _ _ _ _ _, reshape_bufs_sub _ _ _ _ _ _, nullary_bufs_sub _ _ _, binary_bufs_sub _ _ _ _ _ _ _, nullary_bufs_sub _ _ _, unary_bufs_sub _ _ _ _ _, binary_bufs_sub _ _ _ _ _ _ _, unary_bufs_sub _ _ _ _ _, unary_bufs_sub _ _ _ _ _, binary_bufs_sub _ _ _ _ _ _ _, unary_bufs_sub _ _ _ _ _, nullary_bufs_sub _ _ _, binary_bufs_sub _ _ _ _ _ _ _, unary_bufs_sub _ _ _ _ _, unary_bufs_sub _ _ _ _ _, binary_bufs_sub _ _ _ _ _ _ _, unary_bufs_sub _ _ _ _ _⟩
theorem freshR5 : ∀ op ∈ (opsR5 (F := F)), op.fresh = ∅ := List.forall_iff_forall_mem.mp (forall_fresh_of_map rfl)

/-- Operations of @main. -/
abbrev opsR6 : List (HloOp τ sig (Elt F)) :=
  [reshape main_v98 main_v99 (rfl : (.f32 : EltTy) = .f32) shapeCasts_S4x2048x8x1_S4x2048x8,
    reshape main_v99 main_v100 (rfl : (.f32 : EltTy) = .f32) shapeCasts_S4x2048x8_S4x16384,
    unary main_arg0 main_v101 (broadcastInDim S4x2048x8 ![0, 1] bcast_S4x2048_S4x2048x8_0_1 : B F S4x2048 .f32 → B F S4x2048x8 .f32),
    reshape main_v101 main_v102 (rfl : (.f32 : EltTy) = .f32) shapeCasts_S4x2048x8_S4x16384,
    binary main_v100 main_v102 main_v103 (mulf : B F S4x16384 .f32 → B F S4x16384 .f32 → B F S4x16384 .f32),
    unary main_v103 main_values ((fun x => (Host.topK S4x512 1 (FloatOps.cmpfTotal .gt) x sliceFits_S4x16384_S4x512).1) : B F S4x16384 .f32 → B F S4x512 .f32),
    unary main_v103 main_indices ((fun x => (Host.topK S4x512 1 (FloatOps.cmpfTotal .gt) x sliceFits_S4x16384_S4x512).2) : B F S4x16384 .f32 → B F S4x512 .i32),
    reshape main_arg4 main_v104 (rfl : (.i32 : EltTy) = .i32) shapeCasts_S4x2048x8_S4x16384,
    nullary main_call6_c ((constantI S_ 32 0#32) : B F S_ .i32),
    unary main_call6_c main_call6_v0 ((broadcastInDim S4x512 ![] bcast_S_S4x512) : B F S_ .i32 → B F S4x512 .i32),
    binary main_indices main_call6_v0 main_call6_v1 ((cmpi .slt) : B F S4x512 .i32 → B F S4x512 .i32 → B F S4x512 .i1),
    nullary main_call6_c_0 ((constantI S_ 32 16384#32) : B F S_ .i32),
    unary main_call6_c_0 main_call6_v2 ((broadcastInDim S4x512 ![] bcast_S_S4x512) : B F S_ .i32 → B F S4x512 .i32),
    binary main_indices main_call6_v2 main_call6_v3 (addi : B F S4x512 .i32 → B F S4x512 .i32 → B F S4x512 .i32),
    ternary main_call6_v1 main_call6_v3 main_indices main_call6_v4 (select : B F S4x512 .i1 → B F S4x512 .i32 → B F S4x512 .i32 → B F S4x512 .i32),
    reshape main_call6_v4 main_call6_v5 (rfl : (.i32 : EltTy) = .i32) shapeCasts_S4x512_S4x512x1,
    nullary main_call6_c_1 ((constantI S1 32 16383#32) : B F S1 .i32),
    nullary main_call6_c_2 ((constantI S_ 32 0#32) : B F S_ .i32),
    unary main_call6_c_2 main_call6_v6 ((broadcastInDim S4x512x1 ![] bcast_S_S4x512x1) : B F S_ .i32 → B F S4x512x1 .i32),
    binary main_call6_v5 main_call6_v6 main_call6_v7 ((cmpi .sge) : B F S4x512x1 .i32 → B F S4x512x1 .i32 → B F S4x512x1 .i1),
    unary main_call6_c_1 main_call6_v8 ((broadcastInDim S1x1x1 ![2] bcast_S1_S1x1x1_2) : B F S1 .i32 → B F S1x1x1 .i32),
    unary main_call6_v8 main_call6_v9 ((broadcastInDim S4x512x1 ![0, 1, 2] bcast_S1x1x1_S4x512x1_0_1_2) : B F S1x1x1 .i32 → B F S4x512x1 .i32),
    binary main_call6_v5 main_call6_v9 main_call6_v10 ((cmpi .sle) : B F S4x512x1 .i32 → B F S4x512x1 .i32 → B F S4x512x1 .i1),
    binary main_call6_v7 main_call6_v10 main_call6_v11 (andi : B F S4x512x1 .i1 → B F S4x512x1 .i1 → B F S4x512x1 .i1),
    nullary main_call6_c_3 ((constantI S_ 1 1#1) : B F S_ .i1),
    binary main_call6_v11 main_call6_c_3 main_call6_v12 ((fun x v => Host.reduce IntOp.andi x v reducesTo_S4x512x1_S4x512_d2 h_S_) : B F S4x512x1 .i1 → B F S_ .i1 → B F S4x512 .i1),
    binary main_v104 main_call6_v5 main_call6_v13 ((fun x i => Host.gather gather_S4x16384_S4x512x1_S4x512_n_1_0_0_1_2_11 x i) : B F S4x16384 .i32 → B F S4x512x1 .i32 → B F S4x512 .i32),
    nullary main_call6_c_4 ((constantI S_ 32 2147483648#32) : B F S_ .i32),
    unary main_call6_c_4 main_call6_v14 ((broadcastInDim S4x512 ![] bcast_S_S4x512) : B F S_ .i32 → B F S4x512 .i32),
    ternary main_call6_v12 main_call6_v13 main_call6_v14 main_v105 (select : B F S4x512 .i1 → B F S4x512 .i32 → B F S4x512 .i32 → B F S4x512 .i32),
    reshape main_v53 main_v106 (rfl : (.f32 : EltTy) = .f32) shapeCasts_S4x2048x8x128_S4x16384x128,
    unary main_indices main_v107 (broadcastInDim S4x512x1 ![0, 1] bcast_S4x512_S4x512x1_0_1 : B F S4x512 .i32 → B F S4x512x1 .i32),
    nullary main_call7_c ((constantI S_ 32 0#32) : B F S_ .i32),
    unary main_call7_c main_call7_v0 ((broadcastInDim S4x512x1 ![] bcast_S_S4x512x1) : B F S_ .i32 → B F S4x512x1 .i32)]
/-- What they write. -/
abbrev wrR6 : List (Ref sig .tc) :=
  [main_v99, main_v100, main_v101, main_v102, main_v103, main_values, main_indices, main_v104, main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_c_4, main_call6_v14, main_v105, main_v106, main_v107, main_call7_c, main_call7_v0]
theorem lineR6 : IsLine (opsR6 (F := F)) wrR6 180 := ⟨rfl, by decide⟩
theorem allR6 : (opsR6 (F := F)).Forall fun op => op.bufs ⊆ tcRefs τ sig :=
  ⟨reshape_bufs_sub _ _ _ _ _ _, reshape_bufs_sub _ _ _ _ _ _, unary_bufs_sub _ _ _ _ _, reshape_bufs_sub _ _ _ _ _ _, binary_bufs_sub _ _ _ _ _ _ _, unary_bufs_sub _ _ _ _ _, unary_bufs_sub _ _ _ _ _, reshape_bufs_sub _ _ _ _ _ _, nullary_bufs_sub _ _ _, unary_bufs_sub _ _ _ _ _, binary_bufs_sub _ _ _ _ _ _ _, nullary_bufs_sub _ _ _, unary_bufs_sub _ _ _ _ _, binary_bufs_sub _ _ _ _ _ _ _, ternary_bufs_sub _ _ _ _ _ _ _ _ _, reshape_bufs_sub _ _ _ _ _ _, nullary_bufs_sub _ _ _, nullary_bufs_sub _ _ _, unary_bufs_sub _ _ _ _ _, binary_bufs_sub _ _ _ _ _ _ _, unary_bufs_sub _ _ _ _ _, unary_bufs_sub _ _ _ _ _, binary_bufs_sub _ _ _ _ _ _ _, binary_bufs_sub _ _ _ _ _ _ _, nullary_bufs_sub _ _ _, binary_bufs_sub _ _ _ _ _ _ _, binary_bufs_sub _ _ _ _ _ _ _, nullary_bufs_sub _ _ _, unary_bufs_sub _ _ _ _ _, ternary_bufs_sub _ _ _ _ _ _ _ _ _, reshape_bufs_sub _ _ _ _ _ _, unary_bufs_sub _ _ _ _ _, nullary_bufs_sub _ _ _, unary_bufs_sub _ _ _ _ _⟩
theorem freshR6 : ∀ op ∈ (opsR6 (F := F)), op.fresh = ∅ := List.forall_iff_forall_mem.mp (forall_fresh_of_map rfl)

/-- Operations of @main. -/
abbrev opsR7 : List (HloOp τ sig (Elt F)) :=
  [binary main_v107 main_call7_v0 main_call7_v1 ((cmpi .slt) : B F S4x512x1 .i32 → B F S4x512x1 .i32 → B F S4x512x1 .i1),
    nullary main_call7_c_0 ((constantI S_ 32 16384#32) : B F S_ .i32),
    unary main_call7_c_0 main_call7_v2 ((broadcastInDim S4x512x1 ![] bcast_S_S4x512x1) : B F S_ .i32 → B F S4x512x1 .i32),
    binary main_v107 main_call7_v2 main_call7_v3 (addi : B F S4x512x1 .i32 → B F S4x512x1 .i32 → B F S4x512x1 .i32),
    ternary main_call7_v1 main_call7_v3 main_v107 main_call7_v4 (select : B F S4x512x1 .i1 → B F S4x512x1 .i32 → B F S4x512x1 .i32 → B F S4x512x1 .i32),
    nullary main_call7_c_1 ((constantI S1 32 16383#32) : B F S1 .i32),
    nullary main_call7_c_2 ((constantI S_ 32 0#32) : B F S_ .i32),
    unary main_call7_c_2 main_call7_v5 ((broadcastInDim S4x512x1 ![] bcast_S_S4x512x1) : B F S_ .i32 → B F S4x512x1 .i32),
    binary main_call7_v4 main_call7_v5 main_call7_v6 ((cmpi .sge) : B F S4x512x1 .i32 → B F S4x512x1 .i32 → B F S4x512x1 .i1),
    unary main_call7_c_1 main_call7_v7 ((broadcastInDim S1x1x1 ![2] bcast_S1_S1x1x1_2) : B F S1 .i32 → B F S1x1x1 .i32),
    unary main_call7_v7 main_call7_v8 ((broadcastInDim S4x512x1 ![0, 1, 2] bcast_S1x1x1_S4x512x1_0_1_2) : B F S1x1x1 .i32 → B F S4x512x1 .i32),
    binary main_call7_v4 main_call7_v8 main_call7_v9 ((cmpi .sle) : B F S4x512x1 .i32 → B F S4x512x1 .i32 → B F S4x512x1 .i1),
    binary main_call7_v6 main_call7_v9 main_call7_v10 (andi : B F S4x512x1 .i1 → B F S4x512x1 .i1 → B F S4x512x1 .i1),
    nullary main_call7_c_3 ((constantI S_ 1 1#1) : B F S_ .i1),
    binary main_call7_v10 main_call7_c_3 main_call7_v11 ((fun x v => Host.reduce IntOp.andi x v reducesTo_S4x512x1_S4x512_d2 h_S_) : B F S4x512x1 .i1 → B F S_ .i1 → B F S4x512 .i1),
    binary main_v106 main_call7_v4 main_call7_v12 ((fun x i => Host.gather gather_S4x16384x128_S4x512x1_S4x512x128_2_1_0_0_1_2_11128 x i) : B F S4x16384x128 .f32 → B F S4x512x1 .i32 → B F S4x512x128 .f32),
    unary main_call7_v11 main_call7_v13 ((broadcastInDim S4x512x128 ![0, 1] bcast_S4x512_S4x512x128_0_1) : B F S4x512 .i1 → B F S4x512x128 .i1),
    nullary main_call7_cst ((constant S_ .f32 0x7FC00000#32) : B F S_ .f32),
    unary main_call7_cst main_call7_v14 ((broadcastInDim S4x512x128 ![] bcast_S_S4x512x128) : B F S_ .f32 → B F S4x512x128 .f32),
    ternary main_call7_v13 main_call7_v12 main_call7_v14 main_v108 (select : B F S4x512x128 .i1 → B F S4x512x128 .f32 → B F S4x512x128 .f32 → B F S4x512x128 .f32),
    binary main_v108 main_arg11 main_v109 ((fun l r => Host.dotGeneral dot_S4x512x128_S128x10_S4x512x10_2_0_01_1_n_n none l r) : B F S4x512x128 .f32 → B F S128x10 .f32 → B F S4x512x10 .f32),
    unary main_arg12 main_v110 (broadcastInDim S1x1x10 ![2] bcast_S10_S1x1x10_2 : B F S10 .f32 → B F S1x1x10 .f32),
    unary main_v110 main_v111 (broadcastInDim S4x512x10 ![0, 1, 2] bcast_S1x1x10_S4x512x10_0_1_2 : B F S1x1x10 .f32 → B F S4x512x10 .f32),
    binary main_v109 main_v111 main_v112 (addf : B F S4x512x10 .f32 → B F S4x512x10 .f32 → B F S4x512x10 .f32),
    reshape main_arg5 main_v113 (rfl : (.i32 : EltTy) = .i32) shapeCasts_S4x2048x8_S4x16384,
    nullary main_call8_c ((constantI S_ 32 0#32) : B F S_ .i32),
    unary main_call8_c main_call8_v0 ((broadcastInDim S4x512 ![] bcast_S_S4x512) : B F S_ .i32 → B F S4x512 .i32),
    binary main_indices main_call8_v0 main_call8_v1 ((cmpi .slt) : B F S4x512 .i32 → B F S4x512 .i32 → B F S4x512 .i1),
    nullary main_call8_c_0 ((constantI S_ 32 16384#32) : B F S_ .i32),
    unary main_call8_c_0 main_call8_v2 ((broadcastInDim S4x512 ![] bcast_S_S4x512) : B F S_ .i32 → B F S4x512 .i32),
    binary main_indices main_call8_v2 main_call8_v3 (addi : B F S4x512 .i32 → B F S4x512 .i32 → B F S4x512 .i32),
    ternary main_call8_v1 main_call8_v3 main_indices main_call8_v4 (select : B F S4x512 .i1 → B F S4x512 .i32 → B F S4x512 .i32 → B F S4x512 .i32),
    reshape main_call8_v4 main_call8_v5 (rfl : (.i32 : EltTy) = .i32) shapeCasts_S4x512_S4x512x1,
    nullary main_call8_c_1 ((constantI S1 32 16383#32) : B F S1 .i32)]
/-- What they write. -/
abbrev wrR7 : List (Ref sig .tc) :=
  [main_call7_v1, main_call7_c_0, main_call7_v2, main_call7_v3, main_call7_v4, main_call7_c_1, main_call7_c_2, main_call7_v5, main_call7_v6, main_call7_v7, main_call7_v8, main_call7_v9, main_call7_v10, main_call7_c_3, main_call7_v11, main_call7_v12, main_call7_v13, main_call7_cst, main_call7_v14, main_v108, main_v109, main_v110, main_v111, main_v112, main_v113, main_call8_c, main_call8_v0, main_call8_v1, main_call8_c_0, main_call8_v2, main_call8_v3, main_call8_v4, main_call8_v5, main_call8_c_1]
theorem lineR7 : IsLine (opsR7 (F := F)) wrR7 214 := ⟨rfl, by decide⟩
theorem allR7 : (opsR7 (F := F)).Forall fun op => op.bufs ⊆ tcRefs τ sig :=
  ⟨binary_bufs_sub _ _ _ _ _ _ _, nullary_bufs_sub _ _ _, unary_bufs_sub _ _ _ _ _, binary_bufs_sub _ _ _ _ _ _ _, ternary_bufs_sub _ _ _ _ _ _ _ _ _, nullary_bufs_sub _ _ _, nullary_bufs_sub _ _ _, unary_bufs_sub _ _ _ _ _, binary_bufs_sub _ _ _ _ _ _ _, unary_bufs_sub _ _ _ _ _, unary_bufs_sub _ _ _ _ _, binary_bufs_sub _ _ _ _ _ _ _, binary_bufs_sub _ _ _ _ _ _ _, nullary_bufs_sub _ _ _, binary_bufs_sub _ _ _ _ _ _ _, binary_bufs_sub _ _ _ _ _ _ _, unary_bufs_sub _ _ _ _ _, nullary_bufs_sub _ _ _, unary_bufs_sub _ _ _ _ _, ternary_bufs_sub _ _ _ _ _ _ _ _ _, binary_bufs_sub _ _ _ _ _ _ _, unary_bufs_sub _ _ _ _ _, unary_bufs_sub _ _ _ _ _, binary_bufs_sub _ _ _ _ _ _ _, reshape_bufs_sub _ _ _ _ _ _, nullary_bufs_sub _ _ _, unary_bufs_sub _ _ _ _ _, binary_bufs_sub _ _ _ _ _ _ _, nullary_bufs_sub _ _ _, unary_bufs_sub _ _ _ _ _, binary_bufs_sub _ _ _ _ _ _ _, ternary_bufs_sub _ _ _ _ _ _ _ _ _, reshape_bufs_sub _ _ _ _ _ _, nullary_bufs_sub _ _ _⟩
theorem freshR7 : ∀ op ∈ (opsR7 (F := F)), op.fresh = ∅ := List.forall_iff_forall_mem.mp (forall_fresh_of_map rfl)

/-- Operations of @main. -/
abbrev opsR8 : List (HloOp τ sig (Elt F)) :=
  [nullary main_call8_c_2 ((constantI S_ 32 0#32) : B F S_ .i32),
    unary main_call8_c_2 main_call8_v6 ((broadcastInDim S4x512x1 ![] bcast_S_S4x512x1) : B F S_ .i32 → B F S4x512x1 .i32),
    binary main_call8_v5 main_call8_v6 main_call8_v7 ((cmpi .sge) : B F S4x512x1 .i32 → B F S4x512x1 .i32 → B F S4x512x1 .i1),
    unary main_call8_c_1 main_call8_v8 ((broadcastInDim S1x1x1 ![2] bcast_S1_S1x1x1_2) : B F S1 .i32 → B F S1x1x1 .i32),
    unary main_call8_v8 main_call8_v9 ((broadcastInDim S4x512x1 ![0, 1, 2] bcast_S1x1x1_S4x512x1_0_1_2) : B F S1x1x1 .i32 → B F S4x512x1 .i32),
    binary main_call8_v5 main_call8_v9 main_call8_v10 ((cmpi .sle) : B F S4x512x1 .i32 → B F S4x512x1 .i32 → B F S4x512x1 .i1),
    binary main_call8_v7 main_call8_v10 main_call8_v11 (andi : B F S4x512x1 .i1 → B F S4x512x1 .i1 → B F S4x512x1 .i1),
    nullary main_call8_c_3 ((constantI S_ 1 1#1) : B F S_ .i1),
    binary main_call8_v11 main_call8_c_3 main_call8_v12 ((fun x v => Host.reduce IntOp.andi x v reducesTo_S4x512x1_S4x512_d2 h_S_) : B F S4x512x1 .i1 → B F S_ .i1 → B F S4x512 .i1),
    binary main_v113 main_call8_v5 main_call8_v13 ((fun x i => Host.gather gather_S4x16384_S4x512x1_S4x512_n_1_0_0_1_2_11 x i) : B F S4x16384 .i32 → B F S4x512x1 .i32 → B F S4x512 .i32),
    nullary main_call8_c_4 ((constantI S_ 32 2147483648#32) : B F S_ .i32),
    unary main_call8_c_4 main_call8_v14 ((broadcastInDim S4x512 ![] bcast_S_S4x512) : B F S_ .i32 → B F S4x512 .i32),
    ternary main_call8_v12 main_call8_v13 main_call8_v14 main_v114 (select : B F S4x512 .i1 → B F S4x512 .i32 → B F S4x512 .i32 → B F S4x512 .i32),
    nullary main_call9_cst ((constant S_ .f32 0xFF800000#32) : B F S_ .f32),
    binary main_v112 main_call9_cst main_call9_v0 ((fun x v => Host.reduce FloatOps.maximumf x v reducesTo_S4x512x10_S4x512_d2 h_S_) : B F S4x512x10 .f32 → B F S_ .f32 → B F S4x512 .f32),
    nullary main_call9_cst_0 ((constant S_ .f32 0xFF800000#32) : B F S_ .f32),
    unary main_call9_cst_0 main_call9_v1 ((broadcastInDim S4x512 ![] bcast_S_S4x512) : B F S_ .f32 → B F S4x512 .f32),
    binary main_call9_v1 main_call9_v0 main_call9_v2 (maximumf : B F S4x512 .f32 → B F S4x512 .f32 → B F S4x512 .f32),
    unary main_call9_v2 main_call9_v3 ((broadcastInDim S4x512x1 ![0, 1] bcast_S4x512_S4x512x1_0_1) : B F S4x512 .f32 → B F S4x512x1 .f32),
    unary main_call9_v3 main_call9_v4 ((broadcastInDim S4x512x10 ![0, 1, 2] bcast_S4x512x1_S4x512x10_0_1_2) : B F S4x512x1 .f32 → B F S4x512x10 .f32),
    binary main_v112 main_call9_v4 main_call9_v5 (subf : B F S4x512x10 .f32 → B F S4x512x10 .f32 → B F S4x512x10 .f32),
    unary main_call9_v5 main_call9_v6 (Host.exp : B F S4x512x10 .f32 → B F S4x512x10 .f32),
    nullary main_call9_cst_1 ((constant S_ .f32 0x00000000#32) : B F S_ .f32),
    binary main_call9_v6 main_call9_cst_1 main_call9_v7 ((fun x v => Host.reduceAdd x v reducesTo_S4x512x10_S4x512_d2 h_S_) : B F S4x512x10 .f32 → B F S_ .f32 → B F S4x512 .f32),
    unary main_call9_v7 main_call9_v8 ((broadcastInDim S4x512x1 ![0, 1] bcast_S4x512_S4x512x1_0_1) : B F S4x512 .f32 → B F S4x512x1 .f32),
    unary main_call9_v8 main_call9_v9 (Host.log : B F S4x512x1 .f32 → B F S4x512x1 .f32),
    unary main_call9_v9 main_call9_v10 ((broadcastInDim S4x512x10 ![0, 1, 2] bcast_S4x512x1_S4x512x10_0_1_2) : B F S4x512x1 .f32 → B F S4x512x10 .f32),
    binary main_call9_v5 main_call9_v10 main_v115 (subf : B F S4x512x10 .f32 → B F S4x512x10 .f32 → B F S4x512x10 .f32),
    unary main_v114 main_v116 (broadcastInDim S4x512x1 ![0, 1] bcast_S4x512_S4x512x1_0_1 : B F S4x512 .i32 → B F S4x512x1 .i32),
    nullary main_call10_c ((constantI S_ 32 0#32) : B F S_ .i32),
    unary main_call10_c main_call10_v0 ((broadcastInDim S4x512x1 ![] bcast_S_S4x512x1) : B F S_ .i32 → B F S4x512x1 .i32),
    binary main_v116 main_call10_v0 main_call10_v1 ((cmpi .slt) : B F S4x512x1 .i32 → B F S4x512x1 .i32 → B F S4x512x1 .i1),
    nullary main_call10_c_0 ((constantI S_ 32 10#32) : B F S_ .i32),
    unary main_call10_c_0 main_call10_v2 ((broadcastInDim S4x512x1 ![] bcast_S_S4x512x1) : B F S_ .i32 → B F S4x512x1 .i32)]
/-- What they write. -/
abbrev wrR8 : List (Ref sig .tc) :=
  [main_call8_c_2, main_call8_v6, main_call8_v7, main_call8_v8, main_call8_v9, main_call8_v10, main_call8_v11, main_call8_c_3, main_call8_v12, main_call8_v13, main_call8_c_4, main_call8_v14, main_v114, main_call9_cst, main_call9_v0, main_call9_cst_0, main_call9_v1, main_call9_v2, main_call9_v3, main_call9_v4, main_call9_v5, main_call9_v6, main_call9_cst_1, main_call9_v7, main_call9_v8, main_call9_v9, main_call9_v10, main_v115, main_v116, main_call10_c, main_call10_v0, main_call10_v1, main_call10_c_0, main_call10_v2]
theorem lineR8 : IsLine (opsR8 (F := F)) wrR8 248 := ⟨rfl, by decide⟩
theorem allR8 : (opsR8 (F := F)).Forall fun op => op.bufs ⊆ tcRefs τ sig :=
  ⟨nullary_bufs_sub _ _ _, unary_bufs_sub _ _ _ _ _, binary_bufs_sub _ _ _ _ _ _ _, unary_bufs_sub _ _ _ _ _, unary_bufs_sub _ _ _ _ _, binary_bufs_sub _ _ _ _ _ _ _, binary_bufs_sub _ _ _ _ _ _ _, nullary_bufs_sub _ _ _, binary_bufs_sub _ _ _ _ _ _ _, binary_bufs_sub _ _ _ _ _ _ _, nullary_bufs_sub _ _ _, unary_bufs_sub _ _ _ _ _, ternary_bufs_sub _ _ _ _ _ _ _ _ _, nullary_bufs_sub _ _ _, binary_bufs_sub _ _ _ _ _ _ _, nullary_bufs_sub _ _ _, unary_bufs_sub _ _ _ _ _, binary_bufs_sub _ _ _ _ _ _ _, unary_bufs_sub _ _ _ _ _, unary_bufs_sub _ _ _ _ _, binary_bufs_sub _ _ _ _ _ _ _, unary_bufs_sub _ _ _ _ _, nullary_bufs_sub _ _ _, binary_bufs_sub _ _ _ _ _ _ _, unary_bufs_sub _ _ _ _ _, unary_bufs_sub _ _ _ _ _, unary_bufs_sub _ _ _ _ _, binary_bufs_sub _ _ _ _ _ _ _, unary_bufs_sub _ _ _ _ _, nullary_bufs_sub _ _ _, unary_bufs_sub _ _ _ _ _, binary_bufs_sub _ _ _ _ _ _ _, nullary_bufs_sub _ _ _, unary_bufs_sub _ _ _ _ _⟩
theorem freshR8 : ∀ op ∈ (opsR8 (F := F)), op.fresh = ∅ := List.forall_iff_forall_mem.mp (forall_fresh_of_map rfl)

/-- Operations of @main. -/
abbrev opsR9 : List (HloOp τ sig (Elt F)) :=
  [binary main_v116 main_call10_v2 main_call10_v3 (addi : B F S4x512x1 .i32 → B F S4x512x1 .i32 → B F S4x512x1 .i32),
    ternary main_call10_v1 main_call10_v3 main_v116 main_call10_v4 (select : B F S4x512x1 .i1 → B F S4x512x1 .i32 → B F S4x512x1 .i32 → B F S4x512x1 .i32),
    reshape main_call10_v4 main_call10_v5 (rfl : (.i32 : EltTy) = .i32) shapeCasts_S4x512x1_S4x512x1x1,
    nullary main_call10_c_1 ((constantI S1 32 9#32) : B F S1 .i32),
    nullary main_call10_c_2 ((constantI S_ 32 0#32) : B F S_ .i32),
    unary main_call10_c_2 main_call10_v6 ((broadcastInDim S4x512x1x1 ![] bcast_S_S4x512x1x1) : B F S_ .i32 → B F S4x512x1x1 .i32),
    binary main_call10_v5 main_call10_v6 main_call10_v7 ((cmpi .sge) : B F S4x512x1x1 .i32 → B F S4x512x1x1 .i32 → B F S4x512x1x1 .i1),
    unary main_call10_c_1 main_call10_v8 ((broadcastInDim S1x1x1x1 ![3] bcast_S1_S1x1x1x1_3) : B F S1 .i32 → B F S1x1x1x1 .i32),
    unary main_call10_v8 main_call10_v9 ((broadcastInDim S4x512x1x1 ![0, 1, 2, 3] bcast_S1x1x1x1_S4x512x1x1_0_1_2_3) : B F S1x1x1x1 .i32 → B F S4x512x1x1 .i32),
    binary main_call10_v5 main_call10_v9 main_call10_v10 ((cmpi .sle) : B F S4x512x1x1 .i32 → B F S4x512x1x1 .i32 → B F S4x512x1x1 .i1),
    binary main_call10_v7 main_call10_v10 main_call10_v11 (andi : B F S4x512x1x1 .i1 → B F S4x512x1x1 .i1 → B F S4x512x1x1 .i1),
    nullary main_call10_c_3 ((constantI S_ 1 1#1) : B F S_ .i1),
    binary main_call10_v11 main_call10_c_3 main_call10_v12 ((fun x v => Host.reduce IntOp.andi x v reducesTo_S4x512x1x1_S4x512x1_d3 h_S_) : B F S4x512x1x1 .i1 → B F S_ .i1 → B F S4x512x1 .i1),
    binary main_v115 main_call10_v5 main_call10_v13 ((fun x i => Host.gather gather_S4x512x10_S4x512x1x1_S4x512x1_n_2_01_01_2_3_111 x i) : B F S4x512x10 .f32 → B F S4x512x1x1 .i32 → B F S4x512x1 .f32),
    nullary main_call10_cst ((constant S_ .f32 0x7FC00000#32) : B F S_ .f32),
    unary main_call10_cst main_call10_v14 ((broadcastInDim S4x512x1 ![] bcast_S_S4x512x1) : B F S_ .f32 → B F S4x512x1 .f32),
    ternary main_call10_v12 main_call10_v13 main_call10_v14 main_v117 (select : B F S4x512x1 .i1 → B F S4x512x1 .f32 → B F S4x512x1 .f32 → B F S4x512x1 .f32),
    reshape main_v117 main_v118 (rfl : (.f32 : EltTy) = .f32) shapeCasts_S4x512x1_S4x512,
    unary main_v118 main_v119 (Host.negf : B F S4x512 .f32 → B F S4x512 .f32),
    nullary main_c_19 ((constantI S_ 32 0#32) : B F S_ .i32),
    unary main_c_19 main_v120 (broadcastInDim S4x512 ![] bcast_S_S4x512 : B F S_ .i32 → B F S4x512 .i32),
    binary main_v114 main_v120 main_v121 (cmpi .slt : B F S4x512 .i32 → B F S4x512 .i32 → B F S4x512 .i1),
    nullary main_c_20 ((constantI S_ 32 10#32) : B F S_ .i32),
    unary main_c_20 main_v122 (broadcastInDim S4x512 ![] bcast_S_S4x512 : B F S_ .i32 → B F S4x512 .i32),
    binary main_v114 main_v122 main_v123 (addi : B F S4x512 .i32 → B F S4x512 .i32 → B F S4x512 .i32),
    ternary main_v121 main_v123 main_v114 main_v124 (select : B F S4x512 .i1 → B F S4x512 .i32 → B F S4x512 .i32 → B F S4x512 .i32),
    unary main_v124 main_v125 (broadcastInDim S4x512x1 ![0, 1] bcast_S4x512_S4x512x1_0_1 : B F S4x512 .i32 → B F S4x512x1 .i32),
    binary main_arg13 main_v125 main_v126 ((fun x i => Host.gather gather_S10_S4x512x1_S4x512_n_0_n_n_0_2_1 x i) : B F S10 .f32 → B F S4x512x1 .i32 → B F S4x512 .f32),
    binary main_v119 main_v126 main_v127 (mulf : B F S4x512 .f32 → B F S4x512 .f32 → B F S4x512 .f32),
    nullary main_cst_21 ((constant S_ .f32 0x00000000#32) : B F S_ .f32),
    binary main_v127 main_cst_21 main_v128 ((fun x v => Host.reduceAdd x v reducesTo_S4x512_S_d0_1 h_S_) : B F S4x512 .f32 → B F S_ .f32 → B F S_ .f32),
    nullary main_cst_22 ((constant S_ .f32 0x00000000#32) : B F S_ .f32),
    binary main_v126 main_cst_22 main_v129 ((fun x v => Host.reduceAdd x v reducesTo_S4x512_S_d0_1 h_S_) : B F S4x512 .f32 → B F S_ .f32 → B F S_ .f32),
    nullary main_cst_23 ((constant S_ .f32 0x358637BD#32) : B F S_ .f32)]
/-- What they write. -/
abbrev wrR9 : List (Ref sig .tc) :=
  [main_call10_v3, main_call10_v4, main_call10_v5, main_call10_c_1, main_call10_c_2, main_call10_v6, main_call10_v7, main_call10_v8, main_call10_v9, main_call10_v10, main_call10_v11, main_call10_c_3, main_call10_v12, main_call10_v13, main_call10_cst, main_call10_v14, main_v117, main_v118, main_v119, main_c_19, main_v120, main_v121, main_c_20, main_v122, main_v123, main_v124, main_v125, main_v126, main_v127, main_cst_21, main_v128, main_cst_22, main_v129, main_cst_23]
theorem lineR9 : IsLine (opsR9 (F := F)) wrR9 282 := ⟨rfl, by decide⟩
theorem allR9 : (opsR9 (F := F)).Forall fun op => op.bufs ⊆ tcRefs τ sig :=
  ⟨binary_bufs_sub _ _ _ _ _ _ _, ternary_bufs_sub _ _ _ _ _ _ _ _ _, reshape_bufs_sub _ _ _ _ _ _, nullary_bufs_sub _ _ _, nullary_bufs_sub _ _ _, unary_bufs_sub _ _ _ _ _, binary_bufs_sub _ _ _ _ _ _ _, unary_bufs_sub _ _ _ _ _, unary_bufs_sub _ _ _ _ _, binary_bufs_sub _ _ _ _ _ _ _, binary_bufs_sub _ _ _ _ _ _ _, nullary_bufs_sub _ _ _, binary_bufs_sub _ _ _ _ _ _ _, binary_bufs_sub _ _ _ _ _ _ _, nullary_bufs_sub _ _ _, unary_bufs_sub _ _ _ _ _, ternary_bufs_sub _ _ _ _ _ _ _ _ _, reshape_bufs_sub _ _ _ _ _ _, unary_bufs_sub _ _ _ _ _, nullary_bufs_sub _ _ _, unary_bufs_sub _ _ _ _ _, binary_bufs_sub _ _ _ _ _ _ _, nullary_bufs_sub _ _ _, unary_bufs_sub _ _ _ _ _, binary_bufs_sub _ _ _ _ _ _ _, ternary_bufs_sub _ _ _ _ _ _ _ _ _, unary_bufs_sub _ _ _ _ _, binary_bufs_sub _ _ _ _ _ _ _, binary_bufs_sub _ _ _ _ _ _ _, nullary_bufs_sub _ _ _, binary_bufs_sub _ _ _ _ _ _ _, nullary_bufs_sub _ _ _, binary_bufs_sub _ _ _ _ _ _ _, nullary_bufs_sub _ _ _⟩
theorem freshR9 : ∀ op ∈ (opsR9 (F := F)), op.fresh = ∅ := List.forall_iff_forall_mem.mp (forall_fresh_of_map rfl)

/-- Operations of @main. -/
abbrev opsR10 : List (HloOp τ sig (Elt F)) :=
  [binary main_v129 main_cst_23 main_v130 (addf : B F S_ .f32 → B F S_ .f32 → B F S_ .f32),
    binary main_v128 main_v130 main_v131 (Host.divf : B F S_ .f32 → B F S_ .f32 → B F S_ .f32),
    reshape main_v131 main_v132 (rfl : (.f32 : EltTy) = .f32) shapeCasts_S_S1,
    binary main_v53 main_arg11 main_v133 ((fun l r => Host.dotGeneral dot_S4x2048x8x128_S128x10_S4x2048x8x10_3_0_012_1_n_n none l r) : B F S4x2048x8x128 .f32 → B F S128x10 .f32 → B F S4x2048x8x10 .f32),
    unary main_arg12 main_v134 (broadcastInDim S1x1x1x10 ![3] bcast_S10_S1x1x1x10_3 : B F S10 .f32 → B F S1x1x1x10 .f32),
    unary main_v134 main_v135 (broadcastInDim S4x2048x8x10 ![0, 1, 2, 3] bcast_S1x1x1x10_S4x2048x8x10_0_1_2_3 : B F S1x1x1x10 .f32 → B F S4x2048x8x10 .f32),
    binary main_v133 main_v135 main_v136 (addf : B F S4x2048x8x10 .f32 → B F S4x2048x8x10 .f32 → B F S4x2048x8x10 .f32),
    nullary main_call11_v0 ((iotaInDim S4x2048x8x10 32 3) : B F S4x2048x8x10 .i32),
    nullary main_call11_cst ((constant S_ .f32 0xFF800000#32) : B F S_ .f32),
    nullary main_call11_c ((constantI S_ 32 0#32) : B F S_ .i32),
    quaternary main_v136 main_call11_v0 main_call11_cst main_call11_c main_call11_v1_0 ((fun x y u v j => (Host.argReduce reducer_argmax_f32_i32 x y u v reducesTo_S4x2048x8x10_S4x2048x8_d3 h_S_ j).1) : B F S4x2048x8x10 .f32 → B F S4x2048x8x10 .i32 → B F S_ .f32 → B F S_ .i32 → B F S4x2048x8 .f32),
    quaternary main_v136 main_call11_v0 main_call11_cst main_call11_c main_v137 ((fun x y u v j => (Host.argReduce reducer_argmax_f32_i32 x y u v reducesTo_S4x2048x8x10_S4x2048x8_d3 h_S_ j).2) : B F S4x2048x8x10 .f32 → B F S4x2048x8x10 .i32 → B F S_ .f32 → B F S_ .i32 → B F S4x2048x8 .i32),
    reshape main_arg3 main_v138 (rfl : (.f32 : EltTy) = .f32) shapeCasts_S4x2048x8x2_S4x16384x2,
    unary main_indices main_v139 (broadcastInDim S4x512x1 ![0, 1] bcast_S4x512_S4x512x1_0_1 : B F S4x512 .i32 → B F S4x512x1 .i32),
    nullary main_call12_c ((constantI S_ 32 0#32) : B F S_ .i32),
    unary main_call12_c main_call12_v0 ((broadcastInDim S4x512x1 ![] bcast_S_S4x512x1) : B F S_ .i32 → B F S4x512x1 .i32),
    binary main_v139 main_call12_v0 main_call12_v1 ((cmpi .slt) : B F S4x512x1 .i32 → B F S4x512x1 .i32 → B F S4x512x1 .i1),
    nullary main_call12_c_0 ((constantI S_ 32 16384#32) : B F S_ .i32),
    unary main_call12_c_0 main_call12_v2 ((broadcastInDim S4x512x1 ![] bcast_S_S4x512x1) : B F S_ .i32 → B F S4x512x1 .i32),
    binary main_v139 main_call12_v2 main_call12_v3 (addi : B F S4x512x1 .i32 → B F S4x512x1 .i32 → B F S4x512x1 .i32),
    ternary main_call12_v1 main_call12_v3 main_v139 main_call12_v4 (select : B F S4x512x1 .i1 → B F S4x512x1 .i32 → B F S4x512x1 .i32 → B F S4x512x1 .i32),
    nullary main_call12_c_1 ((constantI S1 32 16383#32) : B F S1 .i32),
    nullary main_call12_c_2 ((constantI S_ 32 0#32) : B F S_ .i32),
    unary main_call12_c_2 main_call12_v5 ((broadcastInDim S4x512x1 ![] bcast_S_S4x512x1) : B F S_ .i32 → B F S4x512x1 .i32),
    binary main_call12_v4 main_call12_v5 main_call12_v6 ((cmpi .sge) : B F S4x512x1 .i32 → B F S4x512x1 .i32 → B F S4x512x1 .i1),
    unary main_call12_c_1 main_call12_v7 ((broadcastInDim S1x1x1 ![2] bcast_S1_S1x1x1_2) : B F S1 .i32 → B F S1x1x1 .i32),
    unary main_call12_v7 main_call12_v8 ((broadcastInDim S4x512x1 ![0, 1, 2] bcast_S1x1x1_S4x512x1_0_1_2) : B F S1x1x1 .i32 → B F S4x512x1 .i32),
    binary main_call12_v4 main_call12_v8 main_call12_v9 ((cmpi .sle) : B F S4x512x1 .i32 → B F S4x512x1 .i32 → B F S4x512x1 .i1),
    binary main_call12_v6 main_call12_v9 main_call12_v10 (andi : B F S4x512x1 .i1 → B F S4x512x1 .i1 → B F S4x512x1 .i1),
    nullary main_call12_c_3 ((constantI S_ 1 1#1) : B F S_ .i1),
    binary main_call12_v10 main_call12_c_3 main_call12_v11 ((fun x v => Host.reduce IntOp.andi x v reducesTo_S4x512x1_S4x512_d2 h_S_) : B F S4x512x1 .i1 → B F S_ .i1 → B F S4x512 .i1),
    binary main_v138 main_call12_v4 main_call12_v12 ((fun x i => Host.gather gather_S4x16384x2_S4x512x1_S4x512x2_2_1_0_0_1_2_112 x i) : B F S4x16384x2 .f32 → B F S4x512x1 .i32 → B F S4x512x2 .f32),
    unary main_call12_v11 main_call12_v13 ((broadcastInDim S4x512x2 ![0, 1] bcast_S4x512_S4x512x2_0_1) : B F S4x512 .i1 → B F S4x512x2 .i1),
    nullary main_call12_cst ((constant S_ .f32 0x7FC00000#32) : B F S_ .f32)]
/-- What they write. -/
abbrev wrR10 : List (Ref sig .tc) :=
  [main_v130, main_v131, main_v132, main_v133, main_v134, main_v135, main_v136, main_call11_v0, main_call11_cst, main_call11_c, main_call11_v1_0, main_v137, main_v138, main_v139, main_call12_c, main_call12_v0, main_call12_v1, main_call12_c_0, main_call12_v2, main_call12_v3, main_call12_v4, main_call12_c_1, main_call12_c_2, main_call12_v5, main_call12_v6, main_call12_v7, main_call12_v8, main_call12_v9, main_call12_v10, main_call12_c_3, main_call12_v11, main_call12_v12, main_call12_v13, main_call12_cst]
theorem lineR10 : IsLine (opsR10 (F := F)) wrR10 316 := ⟨rfl, by decide⟩
theorem allR10 : (opsR10 (F := F)).Forall fun op => op.bufs ⊆ tcRefs τ sig :=
  ⟨binary_bufs_sub _ _ _ _ _ _ _, binary_bufs_sub _ _ _ _ _ _ _, reshape_bufs_sub _ _ _ _ _ _, binary_bufs_sub _ _ _ _ _ _ _, unary_bufs_sub _ _ _ _ _, unary_bufs_sub _ _ _ _ _, binary_bufs_sub _ _ _ _ _ _ _, nullary_bufs_sub _ _ _, nullary_bufs_sub _ _ _, nullary_bufs_sub _ _ _, quaternary_bufs_sub _ _ _ _ _ _ _ _ _ _ _, quaternary_bufs_sub _ _ _ _ _ _ _ _ _ _ _, reshape_bufs_sub _ _ _ _ _ _, unary_bufs_sub _ _ _ _ _, nullary_bufs_sub _ _ _, unary_bufs_sub _ _ _ _ _, binary_bufs_sub _ _ _ _ _ _ _, nullary_bufs_sub _ _ _, unary_bufs_sub _ _ _ _ _, binary_bufs_sub _ _ _ _ _ _ _, ternary_bufs_sub _ _ _ _ _ _ _ _ _, nullary_bufs_sub _ _ _, nullary_bufs_sub _ _ _, unary_bufs_sub _ _ _ _ _, binary_bufs_sub _ _ _ _ _ _ _, unary_bufs_sub _ _ _ _ _, unary_bufs_sub _ _ _ _ _, binary_bufs_sub _ _ _ _ _ _ _, binary_bufs_sub _ _ _ _ _ _ _, nullary_bufs_sub _ _ _, binary_bufs_sub _ _ _ _ _ _ _, binary_bufs_sub _ _ _ _ _ _ _, unary_bufs_sub _ _ _ _ _, nullary_bufs_sub _ _ _⟩
theorem freshR10 : ∀ op ∈ (opsR10 (F := F)), op.fresh = ∅ := List.forall_iff_forall_mem.mp (forall_fresh_of_map rfl)

/-- Operations of @main. -/
abbrev opsR11 : List (HloOp τ sig (Elt F)) :=
  [unary main_call12_cst main_call12_v14 ((broadcastInDim S4x512x2 ![] bcast_S_S4x512x2) : B F S_ .f32 → B F S4x512x2 .f32),
    ternary main_call12_v13 main_call12_v12 main_call12_v14 main_v140 (select : B F S4x512x2 .i1 → B F S4x512x2 .f32 → B F S4x512x2 .f32 → B F S4x512x2 .f32),
    reshape main_v33 main_v141 (rfl : (.f32 : EltTy) = .f32) shapeCasts_S2048x8_S1x16384,
    reshape main_v141 main_v142 (rfl : (.f32 : EltTy) = .f32) shapeCasts_S1x16384_S1x1x1x16384,
    unary main_v142 main_v143 (broadcastInDim S4x1x1x16384 ![0, 1, 2, 3] bcast_S1x1x1x16384_S4x1x1x16384_0_1_2_3 : B F S1x1x1x16384 .f32 → B F S4x1x1x16384 .f32),
    reshape main_v143 main_v144 (rfl : (.f32 : EltTy) = .f32) shapeCasts_S4x1x1x16384_S4x16384,
    nullary main_call13_c ((constantI S_ 32 0#32) : B F S_ .i32),
    unary main_call13_c main_call13_v0 ((broadcastInDim S4x512 ![] bcast_S_S4x512) : B F S_ .i32 → B F S4x512 .i32),
    binary main_indices main_call13_v0 main_call13_v1 ((cmpi .slt) : B F S4x512 .i32 → B F S4x512 .i32 → B F S4x512 .i1),
    nullary main_call13_c_0 ((constantI S_ 32 16384#32) : B F S_ .i32),
    unary main_call13_c_0 main_call13_v2 ((broadcastInDim S4x512 ![] bcast_S_S4x512) : B F S_ .i32 → B F S4x512 .i32),
    binary main_indices main_call13_v2 main_call13_v3 (addi : B F S4x512 .i32 → B F S4x512 .i32 → B F S4x512 .i32),
    ternary main_call13_v1 main_call13_v3 main_indices main_call13_v4 (select : B F S4x512 .i1 → B F S4x512 .i32 → B F S4x512 .i32 → B F S4x512 .i32),
    reshape main_call13_v4 main_call13_v5 (rfl : (.i32 : EltTy) = .i32) shapeCasts_S4x512_S4x512x1,
    nullary main_call13_c_1 ((constantI S1 32 16383#32) : B F S1 .i32),
    nullary main_call13_c_2 ((constantI S_ 32 0#32) : B F S_ .i32),
    unary main_call13_c_2 main_call13_v6 ((broadcastInDim S4x512x1 ![] bcast_S_S4x512x1) : B F S_ .i32 → B F S4x512x1 .i32),
    binary main_call13_v5 main_call13_v6 main_call13_v7 ((cmpi .sge) : B F S4x512x1 .i32 → B F S4x512x1 .i32 → B F S4x512x1 .i1),
    unary main_call13_c_1 main_call13_v8 ((broadcastInDim S1x1x1 ![2] bcast_S1_S1x1x1_2) : B F S1 .i32 → B F S1x1x1 .i32),
    unary main_call13_v8 main_call13_v9 ((broadcastInDim S4x512x1 ![0, 1, 2] bcast_S1x1x1_S4x512x1_0_1_2) : B F S1x1x1 .i32 → B F S4x512x1 .i32),
    binary main_call13_v5 main_call13_v9 main_call13_v10 ((cmpi .sle) : B F S4x512x1 .i32 → B F S4x512x1 .i32 → B F S4x512x1 .i1),
    binary main_call13_v7 main_call13_v10 main_call13_v11 (andi : B F S4x512x1 .i1 → B F S4x512x1 .i1 → B F S4x512x1 .i1),
    nullary main_call13_c_3 ((constantI S_ 1 1#1) : B F S_ .i1),
    binary main_call13_v11 main_call13_c_3 main_call13_v12 ((fun x v => Host.reduce IntOp.andi x v reducesTo_S4x512x1_S4x512_d2 h_S_) : B F S4x512x1 .i1 → B F S_ .i1 → B F S4x512 .i1),
    binary main_v144 main_call13_v5 main_call13_v13 ((fun x i => Host.gather gather_S4x16384_S4x512x1_S4x512_n_1_0_0_1_2_11 x i) : B F S4x16384 .f32 → B F S4x512x1 .i32 → B F S4x512 .f32),
    nullary main_call13_cst ((constant S_ .f32 0x7FC00000#32) : B F S_ .f32),
    unary main_call13_cst main_call13_v14 ((broadcastInDim S4x512 ![] bcast_S_S4x512) : B F S_ .f32 → B F S4x512 .f32),
    ternary main_call13_v12 main_call13_v13 main_call13_v14 main_v145 (select : B F S4x512 .i1 → B F S4x512 .f32 → B F S4x512 .f32 → B F S4x512 .f32),
    nullary main_c_24 ((constantI S_ 32 0#32) : B F S_ .i32),
    unary main_c_24 main_v146 (broadcastInDim S4x512 ![] bcast_S_S4x512 : B F S_ .i32 → B F S4x512 .i32),
    binary main_v105 main_v146 main_v147 (cmpi .sge : B F S4x512 .i32 → B F S4x512 .i32 → B F S4x512 .i1),
    unary main_v147 main_v148 ((extui 32 · natLt_1_32) : B F S4x512 .i1 → B F S4x512 .i32),
    nullary main_c_25 ((constantI S_ 32 0#32) : B F S_ .i32),
    binary main_v148 main_c_25 main_v149 ((fun x v => Host.reduce IntOp.addi x v reducesTo_S4x512_S4_d1 h_S_) : B F S4x512 .i32 → B F S_ .i32 → B F S4 .i32)]
/-- What they write. -/
abbrev wrR11 : List (Ref sig .tc) :=
  [main_call12_v14, main_v140, main_v141, main_v142, main_v143, main_v144, main_call13_c, main_call13_v0, main_call13_v1, main_call13_c_0, main_call13_v2, main_call13_v3, main_call13_v4, main_call13_v5, main_call13_c_1, main_call13_c_2, main_call13_v6, main_call13_v7, main_call13_v8, main_call13_v9, main_call13_v10, main_call13_v11, main_call13_c_3, main_call13_v12, main_call13_v13, main_call13_cst, main_call13_v14, main_v145, main_c_24, main_v146, main_v147, main_v148, main_c_25, main_v149]
theorem lineR11 : IsLine (opsR11 (F := F)) wrR11 350 := ⟨rfl, by decide⟩
theorem allR11 : (opsR11 (F := F)).Forall fun op => op.bufs ⊆ tcRefs τ sig :=
  ⟨unary_bufs_sub _ _ _ _ _, ternary_bufs_sub _ _ _ _ _ _ _ _ _, reshape_bufs_sub _ _ _ _ _ _, reshape_bufs_sub _ _ _ _ _ _, unary_bufs_sub _ _ _ _ _, reshape_bufs_sub _ _ _ _ _ _, nullary_bufs_sub _ _ _, unary_bufs_sub _ _ _ _ _, binary_bufs_sub _ _ _ _ _ _ _, nullary_bufs_sub _ _ _, unary_bufs_sub _ _ _ _ _, binary_bufs_sub _ _ _ _ _ _ _, ternary_bufs_sub _ _ _ _ _ _ _ _ _, reshape_bufs_sub _ _ _ _ _ _, nullary_bufs_sub _ _ _, nullary_bufs_sub _ _ _, unary_bufs_sub _ _ _ _ _, binary_bufs_sub _ _ _ _ _ _ _, unary_bufs_sub _ _ _ _ _, unary_bufs_sub _ _ _ _ _, binary_bufs_sub _ _ _ _ _ _ _, binary_bufs_sub _ _ _ _ _ _ _, nullary_bufs_sub _ _ _, binary_bufs_sub _ _ _ _ _ _ _, binary_bufs_sub _ _ _ _ _ _ _, nullary_bufs_sub _ _ _, unary_bufs_sub _ _ _ _ _, ternary_bufs_sub _ _ _ _ _ _ _ _ _, nullary_bufs_sub _ _ _, unary_bufs_sub _ _ _ _ _, binary_bufs_sub _ _ _ _ _ _ _, unary_bufs_sub _ _ _ _ _, nullary_bufs_sub _ _ _, binary_bufs_sub _ _ _ _ _ _ _⟩
theorem freshR11 : ∀ op ∈ (opsR11 (F := F)), op.fresh = ∅ := List.forall_iff_forall_mem.mp (forall_fresh_of_map rfl)

/-- Operations of @main. -/
abbrev opsR12 : List (HloOp τ sig (Elt F)) :=
  [nullary main_cst_26 ((constant S_ .f32 0x3F800000#32) : B F S_ .f32),
    unary main_cst_26 main_v150 (broadcastInDim S4x512 ![] bcast_S_S4x512 : B F S_ .f32 → B F S4x512 .f32)]
/-- What they write. -/
abbrev wrR12 : List (Ref sig .tc) :=
  [main_cst_26, main_v150]
theorem lineR12 : IsLine (opsR12 (F := F)) wrR12 384 := ⟨rfl, by decide⟩
theorem allR12 : (opsR12 (F := F)).Forall fun op => op.bufs ⊆ tcRefs τ sig :=
  ⟨nullary_bufs_sub _ _ _, unary_bufs_sub _ _ _ _ _⟩
theorem freshR12 : ∀ op ∈ (opsR12 (F := F)), op.fresh = ∅ := List.forall_iff_forall_mem.mp (forall_fresh_of_map rfl)

attribute [local irreducible] Host.reduce in
set_option maxHeartbeats 4000000 in
theorem part0_eq (d : Dev nD) : main_part0 (F := F) d = seq (opsR1 ++ opsR2) := (rfl)
attribute [local irreducible] Host.reduce in
set_option maxHeartbeats 4000000 in
theorem part1_eq (d : Dev nD) : main_part1 (F := F) d = seq (opsR3 ++ opsR4 ++ opsR5) := (rfl)
attribute [local irreducible] Host.reduce in
set_option maxHeartbeats 4000000 in
theorem part2_eq (d : Dev nD) : main_part2 (F := F) d = seq (opsR6 ++ opsR7 ++ opsR8 ++ opsR9 ++ opsR10 ++ opsR11) := (rfl)
set_option maxHeartbeats 4000000 in
theorem part3_eq (d : Dev nD) : main_part3 (F := F) d = seq (opsR12) := (rfl)

/-- All operations of @main. -/
abbrev opsAll : List (HloOp τ sig (Elt F)) := (opsR1 ++ opsR2) ++ ((opsR3 ++ opsR4 ++ opsR5) ++ ((opsR6 ++ opsR7 ++ opsR8 ++ opsR9 ++ opsR10 ++ opsR11) ++ ((opsR12))))

theorem main_eq (d : Dev nD) : main (F := F) d = seq opsAll := by
  show (main_part0 d >>= fun _ => main_part1 d >>= fun _ => main_part2 d >>= fun _ => main_part3 d) = _
  rw [part0_eq, part1_eq, part2_eq, part3_eq, ← seq_append, ← seq_append, ← seq_append]

theorem scopedRefs_none : (Finset.univ.filter fun b : Ref sig .tc => b.isScoped) = ∅ := by decide
theorem scopedSems_none : (Finset.univ.filter fun sm : SemLoc sig => sm.isScoped .tc) = ∅ := by decide

theorem forall_append {p : HloOp τ sig (Elt F) → Prop} {a b : List (HloOp τ sig (Elt F))} (ha : ∀ o ∈ a, p o) (hb : ∀ o ∈ b, p o) : ∀ o ∈ a ++ b, p o :=
  fun o h => (List.mem_append.1 h).elim (ha o) (hb o)
theorem mem_of {ops : List (HloOp τ sig (Elt F))} (h : ops.Forall fun op => op.bufs ⊆ tcRefs τ sig) : ∀ op ∈ ops, op.bufs ⊆ tcRefs τ sig :=
  List.forall_iff_forall_mem.mp h
theorem subAll : ∀ op ∈ (opsAll (F := F)), op.bufs ⊆ tcRefs τ sig := (forall_append (forall_append (mem_of allR1) (mem_of allR2)) (forall_append (forall_append (forall_append (mem_of allR3) (mem_of allR4)) (mem_of allR5)) (forall_append (forall_append (forall_append (forall_append (forall_append (forall_append (mem_of allR6) (mem_of allR7)) (mem_of allR8)) (mem_of allR9)) (mem_of allR10)) (mem_of allR11)) (mem_of allR12))))
theorem freshAll : ∀ op ∈ (opsAll (F := F)), op.fresh = ∅ := (forall_append (forall_append freshR1 freshR2) (forall_append (forall_append (forall_append freshR3 freshR4) freshR5) (forall_append (forall_append (forall_append (forall_append (forall_append (forall_append freshR6 freshR7) freshR8) freshR9) freshR10) freshR11) freshR12)))

section Contents

variable (V : Dev nD → Valuation τ sig (Elt F)) (d : Dev nD)

def W0 : Valuation τ sig (Elt F) := V d
def W1 : Valuation τ sig (Elt F) := after opsR1 (W0 V d)
def W2 : Valuation τ sig (Elt F) := after opsR2 (W1 V d)
def W3 : Valuation τ sig (Elt F) := after opsR3 (W2 V d)
def W4 : Valuation τ sig (Elt F) := after opsR4 (W3 V d)
def W5 : Valuation τ sig (Elt F) := after opsR5 (W4 V d)
def W6 : Valuation τ sig (Elt F) := after opsR6 (W5 V d)
def W7 : Valuation τ sig (Elt F) := after opsR7 (W6 V d)
def W8 : Valuation τ sig (Elt F) := after opsR8 (W7 V d)
def W9 : Valuation τ sig (Elt F) := after opsR9 (W8 V d)
def W10 : Valuation τ sig (Elt F) := after opsR10 (W9 V d)
def W11 : Valuation τ sig (Elt F) := after opsR11 (W10 V d)
def W12 : Valuation τ sig (Elt F) := after opsR12 (W11 V d)
/-- The contents at the end of the run from launch contents `V`. -/
abbrev WF : Valuation τ sig (Elt F) := W12 V d

theorem after_append (l₁ l₂ : List (HloOp τ sig (Elt F))) (W : Valuation τ sig (Elt F)) : after (l₁ ++ l₂) W = after l₂ (after l₁ W) := by
  induction l₁ generalizing W with
  | nil => rfl
  | cons op l ih => exact ih _

theorem WF_eq : after opsAll (V d) = WF V d := by
  simp only [opsAll, after_append]; rfl

end Contents

/-- The launch contents. -/
abbrev V0 (m : (ℓ : Loc nD τ sig) → Buf (Elt F) ℓ) : Dev nD → Valuation τ sig (Elt F) := launchContents m

/-- The reference's run ends with every array at `WF`. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = WF (V0 m) c (rd b) :=
  (θ_run defs _ _).mono (fun _ h c b => (h c b).trans (congrFun (WF_eq (V0 m) c) _))
    (run_seq scopedRefs_none scopedSems_none defs main (fun _ => opsAll) main_eq (fun _ => List.forall_iff_forall_mem.mpr subAll) m ρ (fun _ => freshAll))

end Cert.Proof.Ref

end
-- ==== Proof.REq.lean ====
/-
  The reference's contents at the end of its run, read array by array.
-/
module

public import proofs.«01_k».proof.Proof.RHost

@[expose] public section

noncomputable section

namespace Cert.Proof.Ref

open Cert.ReferenceIdeal Cert.ReferenceIdeal.Gen

open Idealize.ShloMosaic Idealize.ShloMosaic.StableHlo Idealize.ShloMosaic.TcCoe Idealize.SL.Sem
open Cert.Proof.Line

variable {F : FTy → Type} [FloatOps F]

variable (V : Dev nD → Valuation τ sig (Elt F)) (d : Dev nD)

/-- An array's contents at the end of the reference's run from launch contents `V`. -/
def rv (r : Ref sig .tc) : r.ty.Contents (Elt F) := WF V d (rd r)

theorem keep11 {r : Ref sig .tc} (_ : rk r < 1000) : rv V d r = W12 V d (rd r) := rfl
theorem keep10 {r : Ref sig .tc} (h : rk r < 384) : rv V d r = W11 V d (rd r) := (keep11 V d (h.trans (by decide))).trans (lineR12.keep _ h)
theorem keep9 {r : Ref sig .tc} (h : rk r < 350) : rv V d r = W10 V d (rd r) := (keep10 V d (h.trans (by decide))).trans (lineR11.keep _ h)
theorem keep8 {r : Ref sig .tc} (h : rk r < 316) : rv V d r = W9 V d (rd r) := (keep9 V d (h.trans (by decide))).trans (lineR10.keep _ h)
theorem keep7 {r : Ref sig .tc} (h : rk r < 282) : rv V d r = W8 V d (rd r) := (keep8 V d (h.trans (by decide))).trans (lineR9.keep _ h)
theorem keep6 {r : Ref sig .tc} (h : rk r < 248) : rv V d r = W7 V d (rd r) := (keep7 V d (h.trans (by decide))).trans (lineR8.keep _ h)
theorem keep5 {r : Ref sig .tc} (h : rk r < 214) : rv V d r = W6 V d (rd r) := (keep6 V d (h.trans (by decide))).trans (lineR7.keep _ h)
theorem keep4 {r : Ref sig .tc} (h : rk r < 180) : rv V d r = W5 V d (rd r) := (keep5 V d (h.trans (by decide))).trans (lineR6.keep _ h)
theorem keep3 {r : Ref sig .tc} (h : rk r < 146) : rv V d r = W4 V d (rd r) := (keep4 V d (h.trans (by decide))).trans (lineR5.keep _ h)
theorem keep2 {r : Ref sig .tc} (h : rk r < 112) : rv V d r = W3 V d (rd r) := (keep3 V d (h.trans (by decide))).trans (lineR4.keep _ h)
theorem keep1 {r : Ref sig .tc} (h : rk r < 78) : rv V d r = W2 V d (rd r) := (keep2 V d (h.trans (by decide))).trans (lineR3.keep _ h)
theorem keep0 {r : Ref sig .tc} (h : rk r < 46) : rv V d r = W1 V d (rd r) := (keep1 V d (h.trans (by decide))).trans (lineR2.keep _ h)
theorem keepIn {r : Ref sig .tc} (h : rk r < 14) : rv V d r = V d (rd r) := (keep0 V d (h.trans (by decide))).trans (lineR1.keep _ h)
theorem segR1 : Seg (WF V d) (W0 V d) opsR1 wrR1 14 46 := ⟨lineR1, fun _ h => keep0 V d h⟩
theorem segR2 : Seg (WF V d) (W1 V d) opsR2 wrR2 46 78 := ⟨lineR2, fun _ h => keep1 V d h⟩
theorem segR3 : Seg (WF V d) (W2 V d) opsR3 wrR3 78 112 := ⟨lineR3, fun _ h => keep2 V d h⟩
theorem segR4 : Seg (WF V d) (W3 V d) opsR4 wrR4 112 146 := ⟨lineR4, fun _ h => keep3 V d h⟩
theorem segR5 : Seg (WF V d) (W4 V d) opsR5 wrR5 146 180 := ⟨lineR5, fun _ h => keep4 V d h⟩
theorem segR6 : Seg (WF V d) (W5 V d) opsR6 wrR6 180 214 := ⟨lineR6, fun _ h => keep5 V d h⟩
theorem segR7 : Seg (WF V d) (W6 V d) opsR7 wrR7 214 248 := ⟨lineR7, fun _ h => keep6 V d h⟩
theorem segR8 : Seg (WF V d) (W7 V d) opsR8 wrR8 248 282 := ⟨lineR8, fun _ h => keep7 V d h⟩
theorem segR9 : Seg (WF V d) (W8 V d) opsR9 wrR9 282 316 := ⟨lineR9, fun _ h => keep8 V d h⟩
theorem segR10 : Seg (WF V d) (W9 V d) opsR10 wrR10 316 350 := ⟨lineR10, fun _ h => keep9 V d h⟩
theorem segR11 : Seg (WF V d) (W10 V d) opsR11 wrR11 350 384 := ⟨lineR11, fun _ h => keep10 V d h⟩
theorem segR12 : Seg (WF V d) (W11 V d) opsR12 wrR12 384 1000 := ⟨lineR12, fun _ h => keep11 V d h⟩
theorem r_cst : (rv V d main_cst : B F S2 .f32) = ((fun i => FloatOps.ofBits .f32 (lit0 (S2.rowMajor i))) : B F S2 .f32) := (segR1 V d).nullary 0 rfl
theorem r_v0 : (rv V d main_v0 : B F S4x2048x128 .f32) = ((fun l r => Host.dotGeneral dot_S4x2048x128_S128x128_S4x2048x128_2_0_01_1_n_n none l r) : B F S4x2048x128 .f32 → B F S128x128 .f32 → _) (rv V d main_arg1) (rv V d main_arg6) := (segR1 V d).binary 1 rfl
theorem r_v1 : (rv V d main_v1 : B F S4x2048x128 .f32) = ((fun l r => Host.dotGeneral dot_S4x2048x128_S128x128_S4x2048x128_2_0_01_1_n_n none l r) : B F S4x2048x128 .f32 → B F S128x128 .f32 → _) (rv V d main_arg2) (rv V d main_arg7) := (segR1 V d).binary 2 rfl
theorem r_v2 : (rv V d main_v2 : B F S4x2048x128 .f32) = (addf : B F S4x2048x128 .f32 → B F S4x2048x128 .f32 → _) (rv V d main_v0) (rv V d main_v1) := (segR1 V d).binary 3 rfl
theorem r_v3 : (rv V d main_v3 : B F S1x1x128 .f32) = (broadcastInDim S1x1x128 ![2] bcast_S128_S1x1x128_2 : B F S128 .f32 → _) (rv V d main_arg8) := (segR1 V d).unary 4 rfl
theorem r_v4 : (rv V d main_v4 : B F S4x2048x128 .f32) = (broadcastInDim S4x2048x128 ![0, 1, 2] bcast_S1x1x128_S4x2048x128_0_1_2 : B F S1x1x128 .f32 → _) (rv V d main_v3) := (segR1 V d).unary 5 rfl
theorem r_v5 : (rv V d main_v5 : B F S4x2048x128 .f32) = (addf : B F S4x2048x128 .f32 → B F S4x2048x128 .f32 → _) (rv V d main_v2) (rv V d main_v4) := (segR1 V d).binary 6 rfl
theorem r_v6 : (rv V d main_v6 : B F S4x2048x128 .f32) = (Host.negf : B F S4x2048x128 .f32 → _) (rv V d main_v5) := (segR1 V d).unary 7 rfl
theorem r_v7 : (rv V d main_v7 : B F S4x2048x128 .f32) = (Host.exp : B F S4x2048x128 .f32 → _) (rv V d main_v6) := (segR1 V d).unary 8 rfl
theorem r_cst_0 : (rv V d main_cst_0 : B F S_ .f32) = ((constant S_ .f32 0x3F800000#32) : B F S_ .f32) := (segR1 V d).nullary 9 rfl
theorem r_v8 : (rv V d main_v8 : B F S4x2048x128 .f32) = (broadcastInDim S4x2048x128 ![] bcast_S_S4x2048x128 : B F S_ .f32 → _) (rv V d main_cst_0) := (segR1 V d).unary 10 rfl
theorem r_v9 : (rv V d main_v9 : B F S4x2048x128 .f32) = (addf : B F S4x2048x128 .f32 → B F S4x2048x128 .f32 → _) (rv V d main_v8) (rv V d main_v7) := (segR1 V d).binary 11 rfl
theorem r_cst_1 : (rv V d main_cst_1 : B F S_ .f32) = ((constant S_ .f32 0x3F800000#32) : B F S_ .f32) := (segR1 V d).nullary 12 rfl
theorem r_v10 : (rv V d main_v10 : B F S4x2048x128 .f32) = (broadcastInDim S4x2048x128 ![] bcast_S_S4x2048x128 : B F S_ .f32 → _) (rv V d main_cst_1) := (segR1 V d).unary 13 rfl
theorem r_v11 : (rv V d main_v11 : B F S4x2048x128 .f32) = (Host.divf : B F S4x2048x128 .f32 → B F S4x2048x128 .f32 → _) (rv V d main_v10) (rv V d main_v9) := (segR1 V d).binary 14 rfl
theorem r_v12 : (rv V d main_v12 : B F S4x2048x128 .f32) = (mulf : B F S4x2048x128 .f32 → B F S4x2048x128 .f32 → _) (rv V d main_v11) (rv V d main_arg1) := (segR1 V d).binary 15 rfl
theorem r_cst_2 : (rv V d main_cst_2 : B F S_ .f32) = ((constant S_ .f32 0x3F800000#32) : B F S_ .f32) := (segR1 V d).nullary 16 rfl
theorem r_v13 : (rv V d main_v13 : B F S4x2048x128 .f32) = (broadcastInDim S4x2048x128 ![] bcast_S_S4x2048x128 : B F S_ .f32 → _) (rv V d main_cst_2) := (segR1 V d).unary 17 rfl
theorem r_v14 : (rv V d main_v14 : B F S4x2048x128 .f32) = (subf : B F S4x2048x128 .f32 → B F S4x2048x128 .f32 → _) (rv V d main_v13) (rv V d main_v11) := (segR1 V d).binary 18 rfl
theorem r_v15 : (rv V d main_v15 : B F S4x2048x128 .f32) = (mulf : B F S4x2048x128 .f32 → B F S4x2048x128 .f32 → _) (rv V d main_v14) (rv V d main_arg2) := (segR1 V d).binary 19 rfl
theorem r_v16 : (rv V d main_v16 : B F S4x2048x128 .f32) = (addf : B F S4x2048x128 .f32 → B F S4x2048x128 .f32 → _) (rv V d main_v12) (rv V d main_v15) := (segR1 V d).binary 20 rfl
theorem r_cst_3 : (rv V d main_cst_3 : B F S_ .f32) = ((constant S_ .f32 0x00000000#32) : B F S_ .f32) := (segR1 V d).nullary 21 rfl
theorem r_v17 : (rv V d main_v17 : B F S4x1x128 .f32) = (broadcastInDim S4x1x128 ![] bcast_S_S4x1x128 : B F S_ .f32 → _) (rv V d main_cst_3) := (segR1 V d).unary 22 rfl
theorem r_call0_call0_cst : (rv V d main_call0_call0_cst : B F S_ .f32) = ((constant S_ .f32 0x00000000#32) : B F S_ .f32) := (segR1 V d).nullary 23 rfl
theorem r_call0_call0_v0 : (rv V d main_call0_call0_v0 : B F S_ .f32) = ((broadcastInDim S_ ![] bcast_S_S_) : B F S_ .f32 → _) (rv V d main_call0_call0_cst) := (segR1 V d).unary 24 rfl
theorem r_v18 : (rv V d main_v18 : B F S4x2048x128 .f32) = ((fun x v => Host.reduceWindowAdd ![1, 2048, 1] ![1, 1, 1] ![0, 2047, 0] ![0, 0, 0] x v reduceWindows_S4x2048x128_S4x2048x128_w1s1p0_0_w2048s1p2047_0_w1s1p0_0 h_S_) : B F S4x2048x128 .f32 → B F S_ .f32 → _) (rv V d main_v16) (rv V d main_call0_call0_v0) := (segR1 V d).binary 25 rfl
theorem r_v19 : (rv V d main_v19 : B F S4x2049x128 .f32) = ((fun a b => concatenate S4x2049x128 1 [⟨S4x1x128, a⟩, ⟨S4x2048x128, b⟩] concatenates_S4x1x128_S4x2048x128_S4x2049x128_d1) : B F S4x1x128 .f32 → B F S4x2048x128 .f32 → _) (rv V d main_v17) (rv V d main_v18) := (segR1 V d).binary 26 rfl
theorem r_v20 : (rv V d main_v20 : B F S2048 .i32) = ((iotaInDim S2048 32 0) : B F S2048 .i32) := (segR1 V d).nullary 27 rfl
theorem r_v21 : (rv V d main_v21 : B F S2048x1 .i32) = (broadcastInDim S2048x1 ![0] bcast_S2048_S2048x1_0 : B F S2048 .i32 → _) (rv V d main_v20) := (segR1 V d).unary 28 rfl
theorem r_v22 : (rv V d main_v22 : B F S8 .i32) = ((iotaInDim S8 32 0) : B F S8 .i32) := (segR1 V d).nullary 29 rfl
theorem r_c : (rv V d main_c : B F S_ .i32) = ((constantI S_ 32 1#32) : B F S_ .i32) := (segR1 V d).nullary 30 rfl
theorem r_v23 : (rv V d main_v23 : B F S8 .i32) = (broadcastInDim S8 ![] bcast_S_S8 : B F S_ .i32 → _) (rv V d main_c) := (segR1 V d).unary 31 rfl
theorem r_v24 : (rv V d main_v24 : B F S8 .i32) = (addi : B F S8 .i32 → B F S8 .i32 → _) (rv V d main_v23) (rv V d main_v22) := (segR2 V d).binary 0 rfl
theorem r_v25 : (rv V d main_v25 : B F S1x8 .i32) = (broadcastInDim S1x8 ![1] bcast_S8_S1x8_1 : B F S8 .i32 → _) (rv V d main_v24) := (segR2 V d).unary 1 rfl
theorem r_v26 : (rv V d main_v26 : B F S2048x8 .i32) = (broadcastInDim S2048x8 ![0, 1] bcast_S2048x1_S2048x8_0_1 : B F S2048x1 .i32 → _) (rv V d main_v21) := (segR2 V d).unary 2 rfl
theorem r_v27 : (rv V d main_v27 : B F S2048x8 .i32) = (broadcastInDim S2048x8 ![0, 1] bcast_S1x8_S2048x8_0_1 : B F S1x8 .i32 → _) (rv V d main_v25) := (segR2 V d).unary 3 rfl
theorem r_v28 : (rv V d main_v28 : B F S2048x8 .i32) = (addi : B F S2048x8 .i32 → B F S2048x8 .i32 → _) (rv V d main_v26) (rv V d main_v27) := (segR2 V d).binary 4 rfl
theorem r_c_4 : (rv V d main_c_4 : B F S_ .i32) = ((constantI S_ 32 2048#32) : B F S_ .i32) := (segR2 V d).nullary 5 rfl
theorem r_call1_v0 : (rv V d main_call1_v0 : B F S_ .i32) = (id : B F S_ .i32 → _) (rv V d main_c_4) := (segR2 V d).unary 6 rfl
theorem r_call1_v1 : (rv V d main_call1_v1 : B F S2048x8 .i32) = ((broadcastInDim S2048x8 ![] bcast_S_S2048x8) : B F S_ .i32 → _) (rv V d main_call1_v0) := (segR2 V d).unary 7 rfl
theorem r_v29 : (rv V d main_v29 : B F S2048x8 .i32) = (minsi : B F S2048x8 .i32 → B F S2048x8 .i32 → _) (rv V d main_call1_v1) (rv V d main_v28) := (segR2 V d).binary 8 rfl
theorem r_v30 : (rv V d main_v30 : B F S2048x1 .i32) = (broadcastInDim S2048x1 ![0] bcast_S2048_S2048x1_0 : B F S2048 .i32 → _) (rv V d main_v20) := (segR2 V d).unary 9 rfl
theorem r_v31 : (rv V d main_v31 : B F S2048x8 .i32) = (broadcastInDim S2048x8 ![0, 1] bcast_S2048x1_S2048x8_0_1 : B F S2048x1 .i32 → _) (rv V d main_v30) := (segR2 V d).unary 10 rfl
theorem r_v32 : (rv V d main_v32 : B F S2048x8 .i32) = (subi : B F S2048x8 .i32 → B F S2048x8 .i32 → _) (rv V d main_v29) (rv V d main_v31) := (segR2 V d).binary 11 rfl
theorem r_v33 : (rv V d main_v33 : B F S2048x8 .f32) = (sitofp .f32 : B F S2048x8 .i32 → _) (rv V d main_v32) := (segR2 V d).unary 12 rfl
theorem r_c_5 : (rv V d main_c_5 : B F S_ .i32) = ((constantI S_ 32 0#32) : B F S_ .i32) := (segR2 V d).nullary 13 rfl
theorem r_v34 : (rv V d main_v34 : B F S2048x8 .i32) = (broadcastInDim S2048x8 ![] bcast_S_S2048x8 : B F S_ .i32 → _) (rv V d main_c_5) := (segR2 V d).unary 14 rfl
theorem r_v35 : (rv V d main_v35 : B F S2048x8 .i1) = (cmpi .slt : B F S2048x8 .i32 → B F S2048x8 .i32 → _) (rv V d main_v29) (rv V d main_v34) := (segR2 V d).binary 15 rfl
theorem r_c_6 : (rv V d main_c_6 : B F S_ .i32) = ((constantI S_ 32 2049#32) : B F S_ .i32) := (segR2 V d).nullary 16 rfl
theorem r_v36 : (rv V d main_v36 : B F S2048x8 .i32) = (broadcastInDim S2048x8 ![] bcast_S_S2048x8 : B F S_ .i32 → _) (rv V d main_c_6) := (segR2 V d).unary 17 rfl
theorem r_v37 : (rv V d main_v37 : B F S2048x8 .i32) = (addi : B F S2048x8 .i32 → B F S2048x8 .i32 → _) (rv V d main_v29) (rv V d main_v36) := (segR2 V d).binary 18 rfl
theorem r_v38 : (rv V d main_v38 : B F S2048x8 .i32) = (select : B F S2048x8 .i1 → B F S2048x8 .i32 → B F S2048x8 .i32 → _) (rv V d main_v35) (rv V d main_v37) (rv V d main_v29) := (segR2 V d).ternary 19 rfl
theorem r_v39 : (rv V d main_v39 : B F S2048x8x1 .i32) = (broadcastInDim S2048x8x1 ![0, 1] bcast_S2048x8_S2048x8x1_0_1 : B F S2048x8 .i32 → _) (rv V d main_v38) := (segR2 V d).unary 20 rfl
theorem r_v40 : (rv V d main_v40 : B F S4x2048x8x128 .f32) = ((fun x i => Host.gather gather_S4x2049x128_S2048x8x1_S4x2048x8x128_03_1_n_n_1_2_41128 x i) : B F S4x2049x128 .f32 → B F S2048x8x1 .i32 → _) (rv V d main_v19) (rv V d main_v39) := (segR2 V d).binary 21 rfl
theorem r_c_7 : (rv V d main_c_7 : B F S_ .i32) = ((constantI S_ 32 0#32) : B F S_ .i32) := (segR2 V d).nullary 22 rfl
theorem r_v41 : (rv V d main_v41 : B F S2048 .i32) = (broadcastInDim S2048 ![] bcast_S_S2048 : B F S_ .i32 → _) (rv V d main_c_7) := (segR2 V d).unary 23 rfl
theorem r_v42 : (rv V d main_v42 : B F S2048 .i1) = (cmpi .slt : B F S2048 .i32 → B F S2048 .i32 → _) (rv V d main_v20) (rv V d main_v41) := (segR2 V d).binary 24 rfl
theorem r_c_8 : (rv V d main_c_8 : B F S_ .i32) = ((constantI S_ 32 2049#32) : B F S_ .i32) := (segR2 V d).nullary 25 rfl
theorem r_v43 : (rv V d main_v43 : B F S2048 .i32) = (broadcastInDim S2048 ![] bcast_S_S2048 : B F S_ .i32 → _) (rv V d main_c_8) := (segR2 V d).unary 26 rfl
theorem r_v44 : (rv V d main_v44 : B F S2048 .i32) = (addi : B F S2048 .i32 → B F S2048 .i32 → _) (rv V d main_v20) (rv V d main_v43) := (segR2 V d).binary 27 rfl
theorem r_v45 : (rv V d main_v45 : B F S2048 .i32) = (select : B F S2048 .i1 → B F S2048 .i32 → B F S2048 .i32 → _) (rv V d main_v42) (rv V d main_v44) (rv V d main_v20) := (segR2 V d).ternary 28 rfl
theorem r_v46 : (rv V d main_v46 : B F S2048x1 .i32) = (broadcastInDim S2048x1 ![0] bcast_S2048_S2048x1_0 : B F S2048 .i32 → _) (rv V d main_v45) := (segR2 V d).unary 29 rfl
theorem r_v47 : (rv V d main_v47 : B F S4x2048x128 .f32) = ((fun x i => Host.gather gather_S4x2049x128_S2048x1_S4x2048x128_02_1_n_n_1_1_41128 x i) : B F S4x2049x128 .f32 → B F S2048x1 .i32 → _) (rv V d main_v19) (rv V d main_v46) := (segR2 V d).binary 30 rfl
theorem r_v48 : (rv V d main_v48 : B F S4x2048x1x128 .f32) = (broadcastInDim S4x2048x1x128 ![0, 1, 3] bcast_S4x2048x128_S4x2048x1x128_0_1_3 : B F S4x2048x128 .f32 → _) (rv V d main_v47) := (segR2 V d).unary 31 rfl
theorem r_v49 : (rv V d main_v49 : B F S4x2048x8x128 .f32) = (broadcastInDim S4x2048x8x128 ![0, 1, 2, 3] bcast_S4x2048x1x128_S4x2048x8x128_0_1_2_3 : B F S4x2048x1x128 .f32 → _) (rv V d main_v48) := (segR3 V d).unary 0 rfl
theorem r_v50 : (rv V d main_v50 : B F S4x2048x8x128 .f32) = (subf : B F S4x2048x8x128 .f32 → B F S4x2048x8x128 .f32 → _) (rv V d main_v40) (rv V d main_v49) := (segR3 V d).binary 1 rfl
theorem r_v51 : (rv V d main_v51 : B F S1x2048x8x1 .f32) = (broadcastInDim S1x2048x8x1 ![1, 2] bcast_S2048x8_S1x2048x8x1_1_2 : B F S2048x8 .f32 → _) (rv V d main_v33) := (segR3 V d).unary 2 rfl
theorem r_v52 : (rv V d main_v52 : B F S4x2048x8x128 .f32) = (broadcastInDim S4x2048x8x128 ![0, 1, 2, 3] bcast_S1x2048x8x1_S4x2048x8x128_0_1_2_3 : B F S1x2048x8x1 .f32 → _) (rv V d main_v51) := (segR3 V d).unary 3 rfl
theorem r_v53 : (rv V d main_v53 : B F S4x2048x8x128 .f32) = (Host.divf : B F S4x2048x8x128 .f32 → B F S4x2048x8x128 .f32 → _) (rv V d main_v50) (rv V d main_v52) := (segR3 V d).binary 4 rfl
theorem r_v54 : (rv V d main_v54 : B F S4x2048x16 .f32) = ((fun l r => Host.dotGeneral dot_S4x2048x128_S128x16_S4x2048x16_2_0_01_1_n_n none l r) : B F S4x2048x128 .f32 → B F S128x16 .f32 → _) (rv V d main_v16) (rv V d main_arg9) := (segR3 V d).binary 5 rfl
theorem r_v55 : (rv V d main_v55 : B F S1x1x16 .f32) = (broadcastInDim S1x1x16 ![2] bcast_S16_S1x1x16_2 : B F S16 .f32 → _) (rv V d main_arg10) := (segR3 V d).unary 6 rfl
theorem r_v56 : (rv V d main_v56 : B F S4x2048x16 .f32) = (broadcastInDim S4x2048x16 ![0, 1, 2] bcast_S1x1x16_S4x2048x16_0_1_2 : B F S1x1x16 .f32 → _) (rv V d main_v55) := (segR3 V d).unary 7 rfl
theorem r_v57 : (rv V d main_v57 : B F S4x2048x16 .f32) = (addf : B F S4x2048x16 .f32 → B F S4x2048x16 .f32 → _) (rv V d main_v54) (rv V d main_v56) := (segR3 V d).binary 8 rfl
theorem r_v58 : (rv V d main_v58 : B F S4x2048x8x2 .f32) = shapeCast S4x2048x8x2 (rv V d main_v57 : B F S4x2048x16 .f32) shapeCasts_S4x2048x16_S4x2048x8x2 := by
  have h := (segR3 V d).reshapeT (S := S4x2048x16) (S' := S4x2048x8x2) (t := .f32) 9 rfl rfl shapeCasts_S4x2048x16_S4x2048x8x2
    (show (opsR3 (F := F))[9]? = some (reshape main_v57 main_v58 (rfl : (.f32 : EltTy) = .f32) shapeCasts_S4x2048x16_S4x2048x8x2) from rfl)
  rw [cast_eq, cast_eq] at h
  exact h
theorem r_v59 : (rv V d main_v59 : B F S4x2048x1 .f32) = (broadcastInDim S4x2048x1 ![0, 1] bcast_S4x2048_S4x2048x1_0_1 : B F S4x2048 .f32 → _) (rv V d main_arg0) := (segR3 V d).unary 10 rfl
theorem r_cst_9 : (rv V d main_cst_9 : B F S_ .f32) = ((constant S_ .f32 0x00000000#32) : B F S_ .f32) := (segR3 V d).nullary 11 rfl
theorem r_v60 : (rv V d main_v60 : B F S4x2048x1 .f32) = (broadcastInDim S4x2048x1 ![] bcast_S_S4x2048x1 : B F S_ .f32 → _) (rv V d main_cst_9) := (segR3 V d).unary 12 rfl
theorem r_v61 : (rv V d main_v61 : B F S4x2048x1 .i1) = (cmpf .ogt : B F S4x2048x1 .f32 → B F S4x2048x1 .f32 → _) (rv V d main_v59) (rv V d main_v60) := (segR3 V d).binary 13 rfl
theorem r_call2_v0 : (rv V d main_call2_v0 : B F S4x2048x8x2 .i32) = ((iotaInDim S4x2048x8x2 32 3) : B F S4x2048x8x2 .i32) := (segR3 V d).nullary 14 rfl
theorem r_call2_cst : (rv V d main_call2_cst : B F S_ .f32) = ((constant S_ .f32 0xFF800000#32) : B F S_ .f32) := (segR3 V d).nullary 15 rfl
theorem r_call2_c : (rv V d main_call2_c : B F S_ .i32) = ((constantI S_ 32 0#32) : B F S_ .i32) := (segR3 V d).nullary 16 rfl
theorem r_v62 : (rv V d main_v62 : B F S4x2048x8 .i32) = ((fun x y u v j => (Host.argReduce reducer_argmax_f32_i32 x y u v reducesTo_S4x2048x8x2_S4x2048x8_d3 h_S_ j).2) : B F S4x2048x8x2 .f32 → B F S4x2048x8x2 .i32 → B F S_ .f32 → B F S_ .i32 → _) (rv V d main_v58) (rv V d main_call2_v0) (rv V d main_call2_cst) (rv V d main_call2_c) := (segR3 V d).quaternary 18 rfl
theorem r_call3_v1 : (rv V d main_call3_v1 : B F S4x2048x8 .i1) = ((broadcastInDim S4x2048x8 ![0, 1, 2] bcast_S4x2048x1_S4x2048x8_0_1_2) : B F S4x2048x1 .i1 → _) (rv V d main_v61) := (segR3 V d).unary 21 rfl
theorem r_v63 : (rv V d main_v63 : B F S4x2048x8 .i32) = (select : B F S4x2048x8 .i1 → B F S4x2048x8 .i32 → B F S4x2048x8 .i32 → _) (rv V d main_call3_v1) (rv V d main_v62) (rv V d main_call3_v2) := (segR3 V d).ternary 23 rfl
theorem r_call4_cst : (rv V d main_call4_cst : B F S_ .f32) = ((constant S_ .f32 0xFF800000#32) : B F S_ .f32) := (segR3 V d).nullary 24 rfl
theorem r_call4_v0 : (rv V d main_call4_v0 : B F S4x2048x8 .f32) = ((fun x v => Host.reduce FloatOps.maximumf x v reducesTo_S4x2048x8x2_S4x2048x8_d3 h_S_) : B F S4x2048x8x2 .f32 → B F S_ .f32 → _) (rv V d main_v58) (rv V d main_call4_cst) := (segR3 V d).binary 25 rfl
theorem r_call4_cst_0 : (rv V d main_call4_cst_0 : B F S_ .f32) = ((constant S_ .f32 0xFF800000#32) : B F S_ .f32) := (segR3 V d).nullary 26 rfl
theorem r_call4_v1 : (rv V d main_call4_v1 : B F S4x2048x8 .f32) = ((broadcastInDim S4x2048x8 ![] bcast_S_S4x2048x8) : B F S_ .f32 → _) (rv V d main_call4_cst_0) := (segR3 V d).unary 27 rfl
theorem r_call4_v2 : (rv V d main_call4_v2 : B F S4x2048x8 .f32) = (maximumf : B F S4x2048x8 .f32 → B F S4x2048x8 .f32 → _) (rv V d main_call4_v1) (rv V d main_call4_v0) := (segR3 V d).binary 28 rfl
theorem r_call4_v3 : (rv V d main_call4_v3 : B F S4x2048x8x1 .f32) = ((broadcastInDim S4x2048x8x1 ![0, 1, 2] bcast_S4x2048x8_S4x2048x8x1_0_1_2) : B F S4x2048x8 .f32 → _) (rv V d main_call4_v2) := (segR3 V d).unary 29 rfl
theorem r_call4_v4 : (rv V d main_call4_v4 : B F S4x2048x8x2 .f32) = ((broadcastInDim S4x2048x8x2 ![0, 1, 2, 3] bcast_S4x2048x8x1_S4x2048x8x2_0_1_2_3) : B F S4x2048x8x1 .f32 → _) (rv V d main_call4_v3) := (segR3 V d).unary 30 rfl
theorem r_call4_v5 : (rv V d main_call4_v5 : B F S4x2048x8x2 .f32) = (subf : B F S4x2048x8x2 .f32 → B F S4x2048x8x2 .f32 → _) (rv V d main_v58) (rv V d main_call4_v4) := (segR3 V d).binary 31 rfl
theorem r_call4_v6 : (rv V d main_call4_v6 : B F S4x2048x8x2 .f32) = (Host.exp : B F S4x2048x8x2 .f32 → _) (rv V d main_call4_v5) := (segR3 V d).unary 32 rfl
theorem r_call4_cst_1 : (rv V d main_call4_cst_1 : B F S_ .f32) = ((constant S_ .f32 0x00000000#32) : B F S_ .f32) := (segR3 V d).nullary 33 rfl
theorem r_call4_v7 : (rv V d main_call4_v7 : B F S4x2048x8 .f32) = ((fun x v => Host.reduceAdd x v reducesTo_S4x2048x8x2_S4x2048x8_d3 h_S_) : B F S4x2048x8x2 .f32 → B F S_ .f32 → _) (rv V d main_call4_v6) (rv V d main_call4_cst_1) := (segR4 V d).binary 0 rfl
theorem r_call4_v8 : (rv V d main_call4_v8 : B F S4x2048x8x1 .f32) = ((broadcastInDim S4x2048x8x1 ![0, 1, 2] bcast_S4x2048x8_S4x2048x8x1_0_1_2) : B F S4x2048x8 .f32 → _) (rv V d main_call4_v7) := (segR4 V d).unary 1 rfl
theorem r_call4_v9 : (rv V d main_call4_v9 : B F S4x2048x8x1 .f32) = (Host.log : B F S4x2048x8x1 .f32 → _) (rv V d main_call4_v8) := (segR4 V d).unary 2 rfl
theorem r_call4_v10 : (rv V d main_call4_v10 : B F S4x2048x8x2 .f32) = ((broadcastInDim S4x2048x8x2 ![0, 1, 2, 3] bcast_S4x2048x8x1_S4x2048x8x2_0_1_2_3) : B F S4x2048x8x1 .f32 → _) (rv V d main_call4_v9) := (segR4 V d).unary 3 rfl
theorem r_v64 : (rv V d main_v64 : B F S4x2048x8x2 .f32) = (subf : B F S4x2048x8x2 .f32 → B F S4x2048x8x2 .f32 → _) (rv V d main_call4_v5) (rv V d main_call4_v10) := (segR4 V d).binary 4 rfl
theorem r_v65 : (rv V d main_v65 : B F S4x2048x8x1 .i32) = (broadcastInDim S4x2048x8x1 ![0, 1, 2] bcast_S4x2048x8_S4x2048x8x1_0_1_2 : B F S4x2048x8 .i32 → _) (rv V d main_arg4) := (segR4 V d).unary 5 rfl
theorem r_call5_c : (rv V d main_call5_c : B F S_ .i32) = ((constantI S_ 32 0#32) : B F S_ .i32) := (segR4 V d).nullary 6 rfl
theorem r_call5_v0 : (rv V d main_call5_v0 : B F S4x2048x8x1 .i32) = ((broadcastInDim S4x2048x8x1 ![] bcast_S_S4x2048x8x1) : B F S_ .i32 → _) (rv V d main_call5_c) := (segR4 V d).unary 7 rfl
theorem r_call5_v1 : (rv V d main_call5_v1 : B F S4x2048x8x1 .i1) = ((cmpi .slt) : B F S4x2048x8x1 .i32 → B F S4x2048x8x1 .i32 → _) (rv V d main_v65) (rv V d main_call5_v0) := (segR4 V d).binary 8 rfl
theorem r_call5_c_0 : (rv V d main_call5_c_0 : B F S_ .i32) = ((constantI S_ 32 2#32) : B F S_ .i32) := (segR4 V d).nullary 9 rfl
theorem r_call5_v2 : (rv V d main_call5_v2 : B F S4x2048x8x1 .i32) = ((broadcastInDim S4x2048x8x1 ![] bcast_S_S4x2048x8x1) : B F S_ .i32 → _) (rv V d main_call5_c_0) := (segR4 V d).unary 10 rfl
theorem r_call5_v3 : (rv V d main_call5_v3 : B F S4x2048x8x1 .i32) = (addi : B F S4x2048x8x1 .i32 → B F S4x2048x8x1 .i32 → _) (rv V d main_v65) (rv V d main_call5_v2) := (segR4 V d).binary 11 rfl
theorem r_call5_v4 : (rv V d main_call5_v4 : B F S4x2048x8x1 .i32) = (select : B F S4x2048x8x1 .i1 → B F S4x2048x8x1 .i32 → B F S4x2048x8x1 .i32 → _) (rv V d main_call5_v1) (rv V d main_call5_v3) (rv V d main_v65) := (segR4 V d).ternary 12 rfl
theorem r_call5_v5 : (rv V d main_call5_v5 : B F S4x2048x8x1x1 .i32) = shapeCast S4x2048x8x1x1 (rv V d main_call5_v4 : B F S4x2048x8x1 .i32) shapeCasts_S4x2048x8x1_S4x2048x8x1x1 := by
  have h := (segR4 V d).reshapeT (S := S4x2048x8x1) (S' := S4x2048x8x1x1) (t := .i32) 13 rfl rfl shapeCasts_S4x2048x8x1_S4x2048x8x1x1
    (show (opsR4 (F := F))[13]? = some (reshape main_call5_v4 main_call5_v5 (rfl : (.i32 : EltTy) = .i32) shapeCasts_S4x2048x8x1_S4x2048x8x1x1) from rfl)
  rw [cast_eq, cast_eq] at h
  exact h
theorem r_call5_c_1 : (rv V d main_call5_c_1 : B F S1 .i32) = ((constantI S1 32 1#32) : B F S1 .i32) := (segR4 V d).nullary 14 rfl
theorem r_call5_c_2 : (rv V d main_call5_c_2 : B F S_ .i32) = ((constantI S_ 32 0#32) : B F S_ .i32) := (segR4 V d).nullary 15 rfl
theorem r_call5_v6 : (rv V d main_call5_v6 : B F S4x2048x8x1x1 .i32) = ((broadcastInDim S4x2048x8x1x1 ![] bcast_S_S4x2048x8x1x1) : B F S_ .i32 → _) (rv V d main_call5_c_2) := (segR4 V d).unary 16 rfl
theorem r_call5_v7 : (rv V d main_call5_v7 : B F S4x2048x8x1x1 .i1) = ((cmpi .sge) : B F S4x2048x8x1x1 .i32 → B F S4x2048x8x1x1 .i32 → _) (rv V d main_call5_v5) (rv V d main_call5_v6) := (segR4 V d).binary 17 rfl
theorem r_call5_v8 : (rv V d main_call5_v8 : B F S1x1x1x1x1 .i32) = ((broadcastInDim S1x1x1x1x1 ![4] bcast_S1_S1x1x1x1x1_4) : B F S1 .i32 → _) (rv V d main_call5_c_1) := (segR4 V d).unary 18 rfl
theorem r_call5_v9 : (rv V d main_call5_v9 : B F S4x2048x8x1x1 .i32) = ((broadcastInDim S4x2048x8x1x1 ![0, 1, 2, 3, 4] bcast_S1x1x1x1x1_S4x2048x8x1x1_0_1_2_3_4) : B F S1x1x1x1x1 .i32 → _) (rv V d main_call5_v8) := (segR4 V d).unary 19 rfl
theorem r_call5_v10 : (rv V d main_call5_v10 : B F S4x2048x8x1x1 .i1) = ((cmpi .sle) : B F S4x2048x8x1x1 .i32 → B F S4x2048x8x1x1 .i32 → _) (rv V d main_call5_v5) (rv V d main_call5_v9) := (segR4 V d).binary 20 rfl
theorem r_call5_v11 : (rv V d main_call5_v11 : B F S4x2048x8x1x1 .i1) = (andi : B F S4x2048x8x1x1 .i1 → B F S4x2048x8x1x1 .i1 → _) (rv V d main_call5_v7) (rv V d main_call5_v10) := (segR4 V d).binary 21 rfl
theorem r_call5_c_3 : (rv V d main_call5_c_3 : B F S_ .i1) = ((constantI S_ 1 1#1) : B F S_ .i1) := (segR4 V d).nullary 22 rfl
theorem r_call5_v12 : (rv V d main_call5_v12 : B F S4x2048x8x1 .i1) = ((fun x v => Host.reduce IntOp.andi x v reducesTo_S4x2048x8x1x1_S4x2048x8x1_d4 h_S_) : B F S4x2048x8x1x1 .i1 → B F S_ .i1 → _) (rv V d main_call5_v11) (rv V d main_call5_c_3) := (segR4 V d).binary 23 rfl
theorem r_call5_v13 : (rv V d main_call5_v13 : B F S4x2048x8x1 .f32) = ((fun x i => Host.gather gather_S4x2048x8x2_S4x2048x8x1x1_S4x2048x8x1_n_3_012_012_3_4_1111 x i) : B F S4x2048x8x2 .f32 → B F S4x2048x8x1x1 .i32 → _) (rv V d main_v64) (rv V d main_call5_v5) := (segR4 V d).binary 24 rfl
theorem r_v66 : (rv V d main_v66 : B F S4x2048x8x1 .f32) = (select : B F S4x2048x8x1 .i1 → B F S4x2048x8x1 .f32 → B F S4x2048x8x1 .f32 → _) (rv V d main_call5_v12) (rv V d main_call5_v13) (rv V d main_call5_v14) := (segR4 V d).ternary 27 rfl
theorem r_v67 : (rv V d main_v67 : B F S4x2048x8 .f32) = shapeCast S4x2048x8 (rv V d main_v66 : B F S4x2048x8x1 .f32) shapeCasts_S4x2048x8x1_S4x2048x8 := by
  have h := (segR4 V d).reshapeT (S := S4x2048x8x1) (S' := S4x2048x8) (t := .f32) 28 rfl rfl shapeCasts_S4x2048x8x1_S4x2048x8
    (show (opsR4 (F := F))[28]? = some (reshape main_v66 main_v67 (rfl : (.f32 : EltTy) = .f32) shapeCasts_S4x2048x8x1_S4x2048x8) from rfl)
  rw [cast_eq, cast_eq] at h
  exact h
theorem r_v68 : (rv V d main_v68 : B F S4x2048x8 .f32) = (Host.negf : B F S4x2048x8 .f32 → _) (rv V d main_v67) := (segR4 V d).unary 29 rfl
theorem r_c_11 : (rv V d main_c_11 : B F S_ .i32) = ((constantI S_ 32 0#32) : B F S_ .i32) := (segR4 V d).nullary 30 rfl
theorem r_v69 : (rv V d main_v69 : B F S4x2048x8 .i32) = (broadcastInDim S4x2048x8 ![] bcast_S_S4x2048x8 : B F S_ .i32 → _) (rv V d main_c_11) := (segR4 V d).unary 31 rfl
theorem r_v70 : (rv V d main_v70 : B F S4x2048x8 .i1) = (cmpi .slt : B F S4x2048x8 .i32 → B F S4x2048x8 .i32 → _) (rv V d main_arg4) (rv V d main_v69) := (segR4 V d).binary 32 rfl
theorem r_c_12 : (rv V d main_c_12 : B F S_ .i32) = ((constantI S_ 32 2#32) : B F S_ .i32) := (segR4 V d).nullary 33 rfl
theorem r_v71 : (rv V d main_v71 : B F S4x2048x8 .i32) = (broadcastInDim S4x2048x8 ![] bcast_S_S4x2048x8 : B F S_ .i32 → _) (rv V d main_c_12) := (segR5 V d).unary 0 rfl
theorem r_v72 : (rv V d main_v72 : B F S4x2048x8 .i32) = (addi : B F S4x2048x8 .i32 → B F S4x2048x8 .i32 → _) (rv V d main_arg4) (rv V d main_v71) := (segR5 V d).binary 1 rfl
theorem r_v73 : (rv V d main_v73 : B F S4x2048x8 .i32) = (select : B F S4x2048x8 .i1 → B F S4x2048x8 .i32 → B F S4x2048x8 .i32 → _) (rv V d main_v70) (rv V d main_v72) (rv V d main_arg4) := (segR5 V d).ternary 2 rfl
theorem r_v74 : (rv V d main_v74 : B F S4x2048x8x1 .i32) = (broadcastInDim S4x2048x8x1 ![0, 1, 2] bcast_S4x2048x8_S4x2048x8x1_0_1_2 : B F S4x2048x8 .i32 → _) (rv V d main_v73) := (segR5 V d).unary 3 rfl
theorem r_v75 : (rv V d main_v75 : B F S4x2048x8 .f32) = ((fun x i => Host.gather gather_S2_S4x2048x8x1_S4x2048x8_n_0_n_n_0_3_1 x i) : B F S2 .f32 → B F S4x2048x8x1 .i32 → _) (rv V d main_cst) (rv V d main_v74) := (segR5 V d).binary 4 rfl
theorem r_v76 : (rv V d main_v76 : B F S4x2048x1 .f32) = (broadcastInDim S4x2048x1 ![0, 1] bcast_S4x2048_S4x2048x1_0_1 : B F S4x2048 .f32 → _) (rv V d main_arg0) := (segR5 V d).unary 5 rfl
theorem r_v77 : (rv V d main_v77 : B F S4x2048x8 .f32) = (mulf : B F S4x2048x8 .f32 → B F S4x2048x8 .f32 → _) (rv V d main_v68) (rv V d main_v75) := (segR5 V d).binary 6 rfl
theorem r_v78 : (rv V d main_v78 : B F S4x2048x8 .f32) = (broadcastInDim S4x2048x8 ![0, 1, 2] bcast_S4x2048x1_S4x2048x8_0_1_2 : B F S4x2048x1 .f32 → _) (rv V d main_v76) := (segR5 V d).unary 7 rfl
theorem r_v79 : (rv V d main_v79 : B F S4x2048x8 .f32) = (mulf : B F S4x2048x8 .f32 → B F S4x2048x8 .f32 → _) (rv V d main_v77) (rv V d main_v78) := (segR5 V d).binary 8 rfl
theorem r_cst_13 : (rv V d main_cst_13 : B F S_ .f32) = ((constant S_ .f32 0x00000000#32) : B F S_ .f32) := (segR5 V d).nullary 9 rfl
theorem r_v80 : (rv V d main_v80 : B F S_ .f32) = ((fun x v => Host.reduceAdd x v reducesTo_S4x2048x8_S_d0_1_2 h_S_) : B F S4x2048x8 .f32 → B F S_ .f32 → _) (rv V d main_v79) (rv V d main_cst_13) := (segR5 V d).binary 10 rfl
theorem r_v81 : (rv V d main_v81 : B F S4x2048x8 .f32) = (broadcastInDim S4x2048x8 ![0, 1, 2] bcast_S4x2048x1_S4x2048x8_0_1_2 : B F S4x2048x1 .f32 → _) (rv V d main_v76) := (segR5 V d).unary 11 rfl
theorem r_v82 : (rv V d main_v82 : B F S4x2048x8 .f32) = (mulf : B F S4x2048x8 .f32 → B F S4x2048x8 .f32 → _) (rv V d main_v75) (rv V d main_v81) := (segR5 V d).binary 12 rfl
theorem r_cst_14 : (rv V d main_cst_14 : B F S_ .f32) = ((constant S_ .f32 0x00000000#32) : B F S_ .f32) := (segR5 V d).nullary 13 rfl
theorem r_v83 : (rv V d main_v83 : B F S_ .f32) = ((fun x v => Host.reduceAdd x v reducesTo_S4x2048x8_S_d0_1_2 h_S_) : B F S4x2048x8 .f32 → B F S_ .f32 → _) (rv V d main_v82) (rv V d main_cst_14) := (segR5 V d).binary 14 rfl
theorem r_cst_15 : (rv V d main_cst_15 : B F S_ .f32) = ((constant S_ .f32 0x358637BD#32) : B F S_ .f32) := (segR5 V d).nullary 15 rfl
theorem r_v84 : (rv V d main_v84 : B F S_ .f32) = (addf : B F S_ .f32 → B F S_ .f32 → _) (rv V d main_v83) (rv V d main_cst_15) := (segR5 V d).binary 16 rfl
theorem r_v85 : (rv V d main_v85 : B F S_ .f32) = (Host.divf : B F S_ .f32 → B F S_ .f32 → _) (rv V d main_v80) (rv V d main_v84) := (segR5 V d).binary 17 rfl
theorem r_v86 : (rv V d main_v86 : B F S1 .f32) = shapeCast S1 (rv V d main_v85 : B F S_ .f32) shapeCasts_S_S1 := by
  have h := (segR5 V d).reshapeT (S := S_) (S' := S1) (t := .f32) 18 rfl rfl shapeCasts_S_S1
    (show (opsR5 (F := F))[18]? = some (reshape main_v85 main_v86 (rfl : (.f32 : EltTy) = .f32) shapeCasts_S_S1) from rfl)
  rw [cast_eq, cast_eq] at h
  exact h
theorem r_cst_16 : (rv V d main_cst_16 : B F S_ .f32) = ((constant S_ .f32 0xFF800000#32) : B F S_ .f32) := (segR5 V d).nullary 19 rfl
theorem r_v87 : (rv V d main_v87 : B F S4x2048x8 .f32) = ((fun x v => Host.reduce FloatOps.maximumf x v reducesTo_S4x2048x8x2_S4x2048x8_d3 h_S_) : B F S4x2048x8x2 .f32 → B F S_ .f32 → _) (rv V d main_v58) (rv V d main_cst_16) := (segR5 V d).binary 20 rfl
theorem r_cst_17 : (rv V d main_cst_17 : B F S_ .f32) = ((constant S_ .f32 0xFF800000#32) : B F S_ .f32) := (segR5 V d).nullary 21 rfl
theorem r_v88 : (rv V d main_v88 : B F S4x2048x8 .f32) = (broadcastInDim S4x2048x8 ![] bcast_S_S4x2048x8 : B F S_ .f32 → _) (rv V d main_cst_17) := (segR5 V d).unary 22 rfl
theorem r_v89 : (rv V d main_v89 : B F S4x2048x8 .f32) = (maximumf : B F S4x2048x8 .f32 → B F S4x2048x8 .f32 → _) (rv V d main_v88) (rv V d main_v87) := (segR5 V d).binary 23 rfl
theorem r_v90 : (rv V d main_v90 : B F S4x2048x8x1 .f32) = (broadcastInDim S4x2048x8x1 ![0, 1, 2] bcast_S4x2048x8_S4x2048x8x1_0_1_2 : B F S4x2048x8 .f32 → _) (rv V d main_v89) := (segR5 V d).unary 24 rfl
theorem r_v91 : (rv V d main_v91 : B F S4x2048x8x2 .f32) = (broadcastInDim S4x2048x8x2 ![0, 1, 2, 3] bcast_S4x2048x8x1_S4x2048x8x2_0_1_2_3 : B F S4x2048x8x1 .f32 → _) (rv V d main_v90) := (segR5 V d).unary 25 rfl
theorem r_v92 : (rv V d main_v92 : B F S4x2048x8x2 .f32) = (subf : B F S4x2048x8x2 .f32 → B F S4x2048x8x2 .f32 → _) (rv V d main_v58) (rv V d main_v91) := (segR5 V d).binary 26 rfl
theorem r_v93 : (rv V d main_v93 : B F S4x2048x8x2 .f32) = (Host.exp : B F S4x2048x8x2 .f32 → _) (rv V d main_v92) := (segR5 V d).unary 27 rfl
theorem r_cst_18 : (rv V d main_cst_18 : B F S_ .f32) = ((constant S_ .f32 0x00000000#32) : B F S_ .f32) := (segR5 V d).nullary 28 rfl
theorem r_v94 : (rv V d main_v94 : B F S4x2048x8 .f32) = ((fun x v => Host.reduceAdd x v reducesTo_S4x2048x8x2_S4x2048x8_d3 h_S_) : B F S4x2048x8x2 .f32 → B F S_ .f32 → _) (rv V d main_v93) (rv V d main_cst_18) := (segR5 V d).binary 29 rfl
theorem r_v95 : (rv V d main_v95 : B F S4x2048x8x1 .f32) = (broadcastInDim S4x2048x8x1 ![0, 1, 2] bcast_S4x2048x8_S4x2048x8x1_0_1_2 : B F S4x2048x8 .f32 → _) (rv V d main_v94) := (segR5 V d).unary 30 rfl
theorem r_v96 : (rv V d main_v96 : B F S4x2048x8x2 .f32) = (broadcastInDim S4x2048x8x2 ![0, 1, 2, 3] bcast_S4x2048x8x1_S4x2048x8x2_0_1_2_3 : B F S4x2048x8x1 .f32 → _) (rv V d main_v95) := (segR5 V d).unary 31 rfl
theorem r_v97 : (rv V d main_v97 : B F S4x2048x8x2 .f32) = (Host.divf : B F S4x2048x8x2 .f32 → B F S4x2048x8x2 .f32 → _) (rv V d main_v93) (rv V d main_v96) := (segR5 V d).binary 32 rfl
theorem r_v98 : (rv V d main_v98 : B F S4x2048x8x1 .f32) = ((extractStridedSlice S4x2048x8x1 ![0, 0, 0, 1] · slices_S4x2048x8x2_S4x2048x8x1_0_0_0_1) : B F S4x2048x8x2 .f32 → _) (rv V d main_v97) := (segR5 V d).unary 33 rfl
theorem r_v99 : (rv V d main_v99 : B F S4x2048x8 .f32) = shapeCast S4x2048x8 (rv V d main_v98 : B F S4x2048x8x1 .f32) shapeCasts_S4x2048x8x1_S4x2048x8 := by
  have h := (segR6 V d).reshapeT (S := S4x2048x8x1) (S' := S4x2048x8) (t := .f32) 0 rfl rfl shapeCasts_S4x2048x8x1_S4x2048x8
    (show (opsR6 (F := F))[0]? = some (reshape main_v98 main_v99 (rfl : (.f32 : EltTy) = .f32) shapeCasts_S4x2048x8x1_S4x2048x8) from rfl)
  rw [cast_eq, cast_eq] at h
  exact h
theorem r_v100 : (rv V d main_v100 : B F S4x16384 .f32) = shapeCast S4x16384 (rv V d main_v99 : B F S4x2048x8 .f32) shapeCasts_S4x2048x8_S4x16384 := by
  have h := (segR6 V d).reshapeT (S := S4x2048x8) (S' := S4x16384) (t := .f32) 1 rfl rfl shapeCasts_S4x2048x8_S4x16384
    (show (opsR6 (F := F))[1]? = some (reshape main_v99 main_v100 (rfl : (.f32 : EltTy) = .f32) shapeCasts_S4x2048x8_S4x16384) from rfl)
  rw [cast_eq, cast_eq] at h
  exact h
theorem r_v101 : (rv V d main_v101 : B F S4x2048x8 .f32) = (broadcastInDim S4x2048x8 ![0, 1] bcast_S4x2048_S4x2048x8_0_1 : B F S4x2048 .f32 → _) (rv V d main_arg0) := (segR6 V d).unary 2 rfl
theorem r_v102 : (rv V d main_v102 : B F S4x16384 .f32) = shapeCast S4x16384 (rv V d main_v101 : B F S4x2048x8 .f32) shapeCasts_S4x2048x8_S4x16384 := by
  have h := (segR6 V d).reshapeT (S := S4x2048x8) (S' := S4x16384) (t := .f32) 3 rfl rfl shapeCasts_S4x2048x8_S4x16384
    (show (opsR6 (F := F))[3]? = some (reshape main_v101 main_v102 (rfl : (.f32 : EltTy) = .f32) shapeCasts_S4x2048x8_S4x16384) from rfl)
  rw [cast_eq, cast_eq] at h
  exact h
theorem r_v103 : (rv V d main_v103 : B F S4x16384 .f32) = (mulf : B F S4x16384 .f32 → B F S4x16384 .f32 → _) (rv V d main_v100) (rv V d main_v102) := (segR6 V d).binary 4 rfl
theorem r_values : (rv V d main_values : B F S4x512 .f32) = ((fun x => (Host.topK S4x512 1 (FloatOps.cmpfTotal .gt) x sliceFits_S4x16384_S4x512).1) : B F S4x16384 .f32 → _) (rv V d main_v103) := (segR6 V d).unary 5 rfl
theorem r_indices : (rv V d main_indices : B F S4x512 .i32) = ((fun x => (Host.topK S4x512 1 (FloatOps.cmpfTotal .gt) x sliceFits_S4x16384_S4x512).2) : B F S4x16384 .f32 → _) (rv V d main_v103) := (segR6 V d).unary 6 rfl
theorem r_v104 : (rv V d main_v104 : B F S4x16384 .i32) = shapeCast S4x16384 (rv V d main_arg4 : B F S4x2048x8 .i32) shapeCasts_S4x2048x8_S4x16384 := by
  have h := (segR6 V d).reshapeT (S := S4x2048x8) (S' := S4x16384) (t := .i32) 7 rfl rfl shapeCasts_S4x2048x8_S4x16384
    (show (opsR6 (F := F))[7]? = some (reshape main_arg4 main_v104 (rfl : (.i32 : EltTy) = .i32) shapeCasts_S4x2048x8_S4x16384) from rfl)
  rw [cast_eq, cast_eq] at h
  exact h
theorem r_call6_c : (rv V d main_call6_c : B F S_ .i32) = ((constantI S_ 32 0#32) : B F S_ .i32) := (segR6 V d).nullary 8 rfl
theorem r_call6_v0 : (rv V d main_call6_v0 : B F S4x512 .i32) = ((broadcastInDim S4x512 ![] bcast_S_S4x512) : B F S_ .i32 → _) (rv V d main_call6_c) := (segR6 V d).unary 9 rfl
theorem r_call6_v1 : (rv V d main_call6_v1 : B F S4x512 .i1) = ((cmpi .slt) : B F S4x512 .i32 → B F S4x512 .i32 → _) (rv V d main_indices) (rv V d main_call6_v0) := (segR6 V d).binary 10 rfl
theorem r_call6_c_0 : (rv V d main_call6_c_0 : B F S_ .i32) = ((constantI S_ 32 16384#32) : B F S_ .i32) := (segR6 V d).nullary 11 rfl
theorem r_call6_v2 : (rv V d main_call6_v2 : B F S4x512 .i32) = ((broadcastInDim S4x512 ![] bcast_S_S4x512) : B F S_ .i32 → _) (rv V d main_call6_c_0) := (segR6 V d).unary 12 rfl
theorem r_call6_v3 : (rv V d main_call6_v3 : B F S4x512 .i32) = (addi : B F S4x512 .i32 → B F S4x512 .i32 → _) (rv V d main_indices) (rv V d main_call6_v2) := (segR6 V d).binary 13 rfl
theorem r_call6_v4 : (rv V d main_call6_v4 : B F S4x512 .i32) = (select : B F S4x512 .i1 → B F S4x512 .i32 → B F S4x512 .i32 → _) (rv V d main_call6_v1) (rv V d main_call6_v3) (rv V d main_indices) := (segR6 V d).ternary 14 rfl
theorem r_call6_v5 : (rv V d main_call6_v5 : B F S4x512x1 .i32) = shapeCast S4x512x1 (rv V d main_call6_v4 : B F S4x512 .i32) shapeCasts_S4x512_S4x512x1 := by
  have h := (segR6 V d).reshapeT (S := S4x512) (S' := S4x512x1) (t := .i32) 15 rfl rfl shapeCasts_S4x512_S4x512x1
    (show (opsR6 (F := F))[15]? = some (reshape main_call6_v4 main_call6_v5 (rfl : (.i32 : EltTy) = .i32) shapeCasts_S4x512_S4x512x1) from rfl)
  rw [cast_eq, cast_eq] at h
  exact h
theorem r_call6_c_1 : (rv V d main_call6_c_1 : B F S1 .i32) = ((constantI S1 32 16383#32) : B F S1 .i32) := (segR6 V d).nullary 16 rfl
theorem r_call6_c_2 : (rv V d main_call6_c_2 : B F S_ .i32) = ((constantI S_ 32 0#32) : B F S_ .i32) := (segR6 V d).nullary 17 rfl
theorem r_call6_v6 : (rv V d main_call6_v6 : B F S4x512x1 .i32) = ((broadcastInDim S4x512x1 ![] bcast_S_S4x512x1) : B F S_ .i32 → _) (rv V d main_call6_c_2) := (segR6 V d).unary 18 rfl
theorem r_call6_v7 : (rv V d main_call6_v7 : B F S4x512x1 .i1) = ((cmpi .sge) : B F S4x512x1 .i32 → B F S4x512x1 .i32 → _) (rv V d main_call6_v5) (rv V d main_call6_v6) := (segR6 V d).binary 19 rfl
theorem r_call6_v8 : (rv V d main_call6_v8 : B F S1x1x1 .i32) = ((broadcastInDim S1x1x1 ![2] bcast_S1_S1x1x1_2) : B F S1 .i32 → _) (rv V d main_call6_c_1) := (segR6 V d).unary 20 rfl
theorem r_call6_v9 : (rv V d main_call6_v9 : B F S4x512x1 .i32) = ((broadcastInDim S4x512x1 ![0, 1, 2] bcast_S1x1x1_S4x512x1_0_1_2) : B F S1x1x1 .i32 → _) (rv V d main_call6_v8) := (segR6 V d).unary 21 rfl
theorem r_call6_v10 : (rv V d main_call6_v10 : B F S4x512x1 .i1) = ((cmpi .sle) : B F S4x512x1 .i32 → B F S4x512x1 .i32 → _) (rv V d main_call6_v5) (rv V d main_call6_v9) := (segR6 V d).binary 22 rfl
theorem r_call6_v11 : (rv V d main_call6_v11 : B F S4x512x1 .i1) = (andi : B F S4x512x1 .i1 → B F S4x512x1 .i1 → _) (rv V d main_call6_v7) (rv V d main_call6_v10) := (segR6 V d).binary 23 rfl
theorem r_call6_c_3 : (rv V d main_call6_c_3 : B F S_ .i1) = ((constantI S_ 1 1#1) : B F S_ .i1) := (segR6 V d).nullary 24 rfl
theorem r_call6_v12 : (rv V d main_call6_v12 : B F S4x512 .i1) = ((fun x v => Host.reduce IntOp.andi x v reducesTo_S4x512x1_S4x512_d2 h_S_) : B F S4x512x1 .i1 → B F S_ .i1 → _) (rv V d main_call6_v11) (rv V d main_call6_c_3) := (segR6 V d).binary 25 rfl
theorem r_call6_v13 : (rv V d main_call6_v13 : B F S4x512 .i32) = ((fun x i => Host.gather gather_S4x16384_S4x512x1_S4x512_n_1_0_0_1_2_11 x i) : B F S4x16384 .i32 → B F S4x512x1 .i32 → _) (rv V d main_v104) (rv V d main_call6_v5) := (segR6 V d).binary 26 rfl
theorem r_call6_c_4 : (rv V d main_call6_c_4 : B F S_ .i32) = ((constantI S_ 32 2147483648#32) : B F S_ .i32) := (segR6 V d).nullary 27 rfl
theorem r_call6_v14 : (rv V d main_call6_v14 : B F S4x512 .i32) = ((broadcastInDim S4x512 ![] bcast_S_S4x512) : B F S_ .i32 → _) (rv V d main_call6_c_4) := (segR6 V d).unary 28 rfl
theorem r_v105 : (rv V d main_v105 : B F S4x512 .i32) = (select : B F S4x512 .i1 → B F S4x512 .i32 → B F S4x512 .i32 → _) (rv V d main_call6_v12) (rv V d main_call6_v13) (rv V d main_call6_v14) := (segR6 V d).ternary 29 rfl
theorem r_v106 : (rv V d main_v106 : B F S4x16384x128 .f32) = shapeCast S4x16384x128 (rv V d main_v53 : B F S4x2048x8x128 .f32) shapeCasts_S4x2048x8x128_S4x16384x128 := by
  have h := (segR6 V d).reshapeT (S := S4x2048x8x128) (S' := S4x16384x128) (t := .f32) 30 rfl rfl shapeCasts_S4x2048x8x128_S4x16384x128
    (show (opsR6 (F := F))[30]? = some (reshape main_v53 main_v106 (rfl : (.f32 : EltTy) = .f32) shapeCasts_S4x2048x8x128_S4x16384x128) from rfl)
  rw [cast_eq, cast_eq] at h
  exact h
theorem r_v107 : (rv V d main_v107 : B F S4x512x1 .i32) = (broadcastInDim S4x512x1 ![0, 1] bcast_S4x512_S4x512x1_0_1 : B F S4x512 .i32 → _) (rv V d main_indices) := (segR6 V d).unary 31 rfl
theorem r_call7_c : (rv V d main_call7_c : B F S_ .i32) = ((constantI S_ 32 0#32) : B F S_ .i32) := (segR6 V d).nullary 32 rfl
theorem r_call7_v0 : (rv V d main_call7_v0 : B F S4x512x1 .i32) = ((broadcastInDim S4x512x1 ![] bcast_S_S4x512x1) : B F S_ .i32 → _) (rv V d main_call7_c) := (segR6 V d).unary 33 rfl
theorem r_call7_v1 : (rv V d main_call7_v1 : B F S4x512x1 .i1) = ((cmpi .slt) : B F S4x512x1 .i32 → B F S4x512x1 .i32 → _) (rv V d main_v107) (rv V d main_call7_v0) := (segR7 V d).binary 0 rfl
theorem r_call7_c_0 : (rv V d main_call7_c_0 : B F S_ .i32) = ((constantI S_ 32 16384#32) : B F S_ .i32) := (segR7 V d).nullary 1 rfl
theorem r_call7_v2 : (rv V d main_call7_v2 : B F S4x512x1 .i32) = ((broadcastInDim S4x512x1 ![] bcast_S_S4x512x1) : B F S_ .i32 → _) (rv V d main_call7_c_0) := (segR7 V d).unary 2 rfl
theorem r_call7_v3 : (rv V d main_call7_v3 : B F S4x512x1 .i32) = (addi : B F S4x512x1 .i32 → B F S4x512x1 .i32 → _) (rv V d main_v107) (rv V d main_call7_v2) := (segR7 V d).binary 3 rfl
theorem r_call7_v4 : (rv V d main_call7_v4 : B F S4x512x1 .i32) = (select : B F S4x512x1 .i1 → B F S4x512x1 .i32 → B F S4x512x1 .i32 → _) (rv V d main_call7_v1) (rv V d main_call7_v3) (rv V d main_v107) := (segR7 V d).ternary 4 rfl
theorem r_call7_c_1 : (rv V d main_call7_c_1 : B F S1 .i32) = ((constantI S1 32 16383#32) : B F S1 .i32) := (segR7 V d).nullary 5 rfl
theorem r_call7_c_2 : (rv V d main_call7_c_2 : B F S_ .i32) = ((constantI S_ 32 0#32) : B F S_ .i32) := (segR7 V d).nullary 6 rfl
theorem r_call7_v5 : (rv V d main_call7_v5 : B F S4x512x1 .i32) = ((broadcastInDim S4x512x1 ![] bcast_S_S4x512x1) : B F S_ .i32 → _) (rv V d main_call7_c_2) := (segR7 V d).unary 7 rfl
theorem r_call7_v6 : (rv V d main_call7_v6 : B F S4x512x1 .i1) = ((cmpi .sge) : B F S4x512x1 .i32 → B F S4x512x1 .i32 → _) (rv V d main_call7_v4) (rv V d main_call7_v5) := (segR7 V d).binary 8 rfl
theorem r_call7_v7 : (rv V d main_call7_v7 : B F S1x1x1 .i32) = ((broadcastInDim S1x1x1 ![2] bcast_S1_S1x1x1_2) : B F S1 .i32 → _) (rv V d main_call7_c_1) := (segR7 V d).unary 9 rfl
theorem r_call7_v8 : (rv V d main_call7_v8 : B F S4x512x1 .i32) = ((broadcastInDim S4x512x1 ![0, 1, 2] bcast_S1x1x1_S4x512x1_0_1_2) : B F S1x1x1 .i32 → _) (rv V d main_call7_v7) := (segR7 V d).unary 10 rfl
theorem r_call7_v9 : (rv V d main_call7_v9 : B F S4x512x1 .i1) = ((cmpi .sle) : B F S4x512x1 .i32 → B F S4x512x1 .i32 → _) (rv V d main_call7_v4) (rv V d main_call7_v8) := (segR7 V d).binary 11 rfl
theorem r_call7_v10 : (rv V d main_call7_v10 : B F S4x512x1 .i1) = (andi : B F S4x512x1 .i1 → B F S4x512x1 .i1 → _) (rv V d main_call7_v6) (rv V d main_call7_v9) := (segR7 V d).binary 12 rfl
theorem r_call7_c_3 : (rv V d main_call7_c_3 : B F S_ .i1) = ((constantI S_ 1 1#1) : B F S_ .i1) := (segR7 V d).nullary 13 rfl
theorem r_call7_v11 : (rv V d main_call7_v11 : B F S4x512 .i1) = ((fun x v => Host.reduce IntOp.andi x v reducesTo_S4x512x1_S4x512_d2 h_S_) : B F S4x512x1 .i1 → B F S_ .i1 → _) (rv V d main_call7_v10) (rv V d main_call7_c_3) := (segR7 V d).binary 14 rfl
theorem r_call7_v12 : (rv V d main_call7_v12 : B F S4x512x128 .f32) = ((fun x i => Host.gather gather_S4x16384x128_S4x512x1_S4x512x128_2_1_0_0_1_2_11128 x i) : B F S4x16384x128 .f32 → B F S4x512x1 .i32 → _) (rv V d main_v106) (rv V d main_call7_v4) := (segR7 V d).binary 15 rfl
theorem r_call7_v13 : (rv V d main_call7_v13 : B F S4x512x128 .i1) = ((broadcastInDim S4x512x128 ![0, 1] bcast_S4x512_S4x512x128_0_1) : B F S4x512 .i1 → _) (rv V d main_call7_v11) := (segR7 V d).unary 16 rfl
theorem r_v108 : (rv V d main_v108 : B F S4x512x128 .f32) = (select : B F S4x512x128 .i1 → B F S4x512x128 .f32 → B F S4x512x128 .f32 → _) (rv V d main_call7_v13) (rv V d main_call7_v12) (rv V d main_call7_v14) := (segR7 V d).ternary 19 rfl
theorem r_v109 : (rv V d main_v109 : B F S4x512x10 .f32) = ((fun l r => Host.dotGeneral dot_S4x512x128_S128x10_S4x512x10_2_0_01_1_n_n none l r) : B F S4x512x128 .f32 → B F S128x10 .f32 → _) (rv V d main_v108) (rv V d main_arg11) := (segR7 V d).binary 20 rfl
theorem r_v110 : (rv V d main_v110 : B F S1x1x10 .f32) = (broadcastInDim S1x1x10 ![2] bcast_S10_S1x1x10_2 : B F S10 .f32 → _) (rv V d main_arg12) := (segR7 V d).unary 21 rfl
theorem r_v111 : (rv V d main_v111 : B F S4x512x10 .f32) = (broadcastInDim S4x512x10 ![0, 1, 2] bcast_S1x1x10_S4x512x10_0_1_2 : B F S1x1x10 .f32 → _) (rv V d main_v110) := (segR7 V d).unary 22 rfl
theorem r_v112 : (rv V d main_v112 : B F S4x512x10 .f32) = (addf : B F S4x512x10 .f32 → B F S4x512x10 .f32 → _) (rv V d main_v109) (rv V d main_v111) := (segR7 V d).binary 23 rfl
theorem r_v113 : (rv V d main_v113 : B F S4x16384 .i32) = shapeCast S4x16384 (rv V d main_arg5 : B F S4x2048x8 .i32) shapeCasts_S4x2048x8_S4x16384 := by
  have h := (segR7 V d).reshapeT (S := S4x2048x8) (S' := S4x16384) (t := .i32) 24 rfl rfl shapeCasts_S4x2048x8_S4x16384
    (show (opsR7 (F := F))[24]? = some (reshape main_arg5 main_v113 (rfl : (.i32 : EltTy) = .i32) shapeCasts_S4x2048x8_S4x16384) from rfl)
  rw [cast_eq, cast_eq] at h
  exact h
theorem r_call8_c : (rv V d main_call8_c : B F S_ .i32) = ((constantI S_ 32 0#32) : B F S_ .i32) := (segR7 V d).nullary 25 rfl
theorem r_call8_v0 : (rv V d main_call8_v0 : B F S4x512 .i32) = ((broadcastInDim S4x512 ![] bcast_S_S4x512) : B F S_ .i32 → _) (rv V d main_call8_c) := (segR7 V d).unary 26 rfl
theorem r_call8_v1 : (rv V d main_call8_v1 : B F S4x512 .i1) = ((cmpi .slt) : B F S4x512 .i32 → B F S4x512 .i32 → _) (rv V d main_indices) (rv V d main_call8_v0) := (segR7 V d).binary 27 rfl
theorem r_call8_c_0 : (rv V d main_call8_c_0 : B F S_ .i32) = ((constantI S_ 32 16384#32) : B F S_ .i32) := (segR7 V d).nullary 28 rfl
theorem r_call8_v2 : (rv V d main_call8_v2 : B F S4x512 .i32) = ((broadcastInDim S4x512 ![] bcast_S_S4x512) : B F S_ .i32 → _) (rv V d main_call8_c_0) := (segR7 V d).unary 29 rfl
theorem r_call8_v3 : (rv V d main_call8_v3 : B F S4x512 .i32) = (addi : B F S4x512 .i32 → B F S4x512 .i32 → _) (rv V d main_indices) (rv V d main_call8_v2) := (segR7 V d).binary 30 rfl
theorem r_call8_v4 : (rv V d main_call8_v4 : B F S4x512 .i32) = (select : B F S4x512 .i1 → B F S4x512 .i32 → B F S4x512 .i32 → _) (rv V d main_call8_v1) (rv V d main_call8_v3) (rv V d main_indices) := (segR7 V d).ternary 31 rfl
theorem r_call8_v5 : (rv V d main_call8_v5 : B F S4x512x1 .i32) = shapeCast S4x512x1 (rv V d main_call8_v4 : B F S4x512 .i32) shapeCasts_S4x512_S4x512x1 := by
  have h := (segR7 V d).reshapeT (S := S4x512) (S' := S4x512x1) (t := .i32) 32 rfl rfl shapeCasts_S4x512_S4x512x1
    (show (opsR7 (F := F))[32]? = some (reshape main_call8_v4 main_call8_v5 (rfl : (.i32 : EltTy) = .i32) shapeCasts_S4x512_S4x512x1) from rfl)
  rw [cast_eq, cast_eq] at h
  exact h
theorem r_call8_c_1 : (rv V d main_call8_c_1 : B F S1 .i32) = ((constantI S1 32 16383#32) : B F S1 .i32) := (segR7 V d).nullary 33 rfl
theorem r_call8_c_2 : (rv V d main_call8_c_2 : B F S_ .i32) = ((constantI S_ 32 0#32) : B F S_ .i32) := (segR8 V d).nullary 0 rfl
theorem r_call8_v6 : (rv V d main_call8_v6 : B F S4x512x1 .i32) = ((broadcastInDim S4x512x1 ![] bcast_S_S4x512x1) : B F S_ .i32 → _) (rv V d main_call8_c_2) := (segR8 V d).unary 1 rfl
theorem r_call8_v7 : (rv V d main_call8_v7 : B F S4x512x1 .i1) = ((cmpi .sge) : B F S4x512x1 .i32 → B F S4x512x1 .i32 → _) (rv V d main_call8_v5) (rv V d main_call8_v6) := (segR8 V d).binary 2 rfl
theorem r_call8_v8 : (rv V d main_call8_v8 : B F S1x1x1 .i32) = ((broadcastInDim S1x1x1 ![2] bcast_S1_S1x1x1_2) : B F S1 .i32 → _) (rv V d main_call8_c_1) := (segR8 V d).unary 3 rfl
theorem r_call8_v9 : (rv V d main_call8_v9 : B F S4x512x1 .i32) = ((broadcastInDim S4x512x1 ![0, 1, 2] bcast_S1x1x1_S4x512x1_0_1_2) : B F S1x1x1 .i32 → _) (rv V d main_call8_v8) := (segR8 V d).unary 4 rfl
theorem r_call8_v10 : (rv V d main_call8_v10 : B F S4x512x1 .i1) = ((cmpi .sle) : B F S4x512x1 .i32 → B F S4x512x1 .i32 → _) (rv V d main_call8_v5) (rv V d main_call8_v9) := (segR8 V d).binary 5 rfl
theorem r_call8_v11 : (rv V d main_call8_v11 : B F S4x512x1 .i1) = (andi : B F S4x512x1 .i1 → B F S4x512x1 .i1 → _) (rv V d main_call8_v7) (rv V d main_call8_v10) := (segR8 V d).binary 6 rfl
theorem r_call8_c_3 : (rv V d main_call8_c_3 : B F S_ .i1) = ((constantI S_ 1 1#1) : B F S_ .i1) := (segR8 V d).nullary 7 rfl
theorem r_call8_v12 : (rv V d main_call8_v12 : B F S4x512 .i1) = ((fun x v => Host.reduce IntOp.andi x v reducesTo_S4x512x1_S4x512_d2 h_S_) : B F S4x512x1 .i1 → B F S_ .i1 → _) (rv V d main_call8_v11) (rv V d main_call8_c_3) := (segR8 V d).binary 8 rfl
theorem r_call8_v13 : (rv V d main_call8_v13 : B F S4x512 .i32) = ((fun x i => Host.gather gather_S4x16384_S4x512x1_S4x512_n_1_0_0_1_2_11 x i) : B F S4x16384 .i32 → B F S4x512x1 .i32 → _) (rv V d main_v113) (rv V d main_call8_v5) := (segR8 V d).binary 9 rfl
theorem r_call8_c_4 : (rv V d main_call8_c_4 : B F S_ .i32) = ((constantI S_ 32 2147483648#32) : B F S_ .i32) := (segR8 V d).nullary 10 rfl
theorem r_call8_v14 : (rv V d main_call8_v14 : B F S4x512 .i32) = ((broadcastInDim S4x512 ![] bcast_S_S4x512) : B F S_ .i32 → _) (rv V d main_call8_c_4) := (segR8 V d).unary 11 rfl
theorem r_v114 : (rv V d main_v114 : B F S4x512 .i32) = (select : B F S4x512 .i1 → B F S4x512 .i32 → B F S4x512 .i32 → _) (rv V d main_call8_v12) (rv V d main_call8_v13) (rv V d main_call8_v14) := (segR8 V d).ternary 12 rfl
theorem r_call9_cst : (rv V d main_call9_cst : B F S_ .f32) = ((constant S_ .f32 0xFF800000#32) : B F S_ .f32) := (segR8 V d).nullary 13 rfl
theorem r_call9_v0 : (rv V d main_call9_v0 : B F S4x512 .f32) = ((fun x v => Host.reduce FloatOps.maximumf x v reducesTo_S4x512x10_S4x512_d2 h_S_) : B F S4x512x10 .f32 → B F S_ .f32 → _) (rv V d main_v112) (rv V d main_call9_cst) := (segR8 V d).binary 14 rfl
theorem r_call9_cst_0 : (rv V d main_call9_cst_0 : B F S_ .f32) = ((constant S_ .f32 0xFF800000#32) : B F S_ .f32) := (segR8 V d).nullary 15 rfl
theorem r_call9_v1 : (rv V d main_call9_v1 : B F S4x512 .f32) = ((broadcastInDim S4x512 ![] bcast_S_S4x512) : B F S_ .f32 → _) (rv V d main_call9_cst_0) := (segR8 V d).unary 16 rfl
theorem r_call9_v2 : (rv V d main_call9_v2 : B F S4x512 .f32) = (maximumf : B F S4x512 .f32 → B F S4x512 .f32 → _) (rv V d main_call9_v1) (rv V d main_call9_v0) := (segR8 V d).binary 17 rfl
theorem r_call9_v3 : (rv V d main_call9_v3 : B F S4x512x1 .f32) = ((broadcastInDim S4x512x1 ![0, 1] bcast_S4x512_S4x512x1_0_1) : B F S4x512 .f32 → _) (rv V d main_call9_v2) := (segR8 V d).unary 18 rfl
theorem r_call9_v4 : (rv V d main_call9_v4 : B F S4x512x10 .f32) = ((broadcastInDim S4x512x10 ![0, 1, 2] bcast_S4x512x1_S4x512x10_0_1_2) : B F S4x512x1 .f32 → _) (rv V d main_call9_v3) := (segR8 V d).unary 19 rfl
theorem r_call9_v5 : (rv V d main_call9_v5 : B F S4x512x10 .f32) = (subf : B F S4x512x10 .f32 → B F S4x512x10 .f32 → _) (rv V d main_v112) (rv V d main_call9_v4) := (segR8 V d).binary 20 rfl
theorem r_call9_v6 : (rv V d main_call9_v6 : B F S4x512x10 .f32) = (Host.exp : B F S4x512x10 .f32 → _) (rv V d main_call9_v5) := (segR8 V d).unary 21 rfl
theorem r_call9_cst_1 : (rv V d main_call9_cst_1 : B F S_ .f32) = ((constant S_ .f32 0x00000000#32) : B F S_ .f32) := (segR8 V d).nullary 22 rfl
theorem r_call9_v7 : (rv V d main_call9_v7 : B F S4x512 .f32) = ((fun x v => Host.reduceAdd x v reducesTo_S4x512x10_S4x512_d2 h_S_) : B F S4x512x10 .f32 → B F S_ .f32 → _) (rv V d main_call9_v6) (rv V d main_call9_cst_1) := (segR8 V d).binary 23 rfl
theorem r_call9_v8 : (rv V d main_call9_v8 : B F S4x512x1 .f32) = ((broadcastInDim S4x512x1 ![0, 1] bcast_S4x512_S4x512x1_0_1) : B F S4x512 .f32 → _) (rv V d main_call9_v7) := (segR8 V d).unary 24 rfl
theorem r_call9_v9 : (rv V d main_call9_v9 : B F S4x512x1 .f32) = (Host.log : B F S4x512x1 .f32 → _) (rv V d main_call9_v8) := (segR8 V d).unary 25 rfl
theorem r_call9_v10 : (rv V d main_call9_v10 : B F S4x512x10 .f32) = ((broadcastInDim S4x512x10 ![0, 1, 2] bcast_S4x512x1_S4x512x10_0_1_2) : B F S4x512x1 .f32 → _) (rv V d main_call9_v9) := (segR8 V d).unary 26 rfl
theorem r_v115 : (rv V d main_v115 : B F S4x512x10 .f32) = (subf : B F S4x512x10 .f32 → B F S4x512x10 .f32 → _) (rv V d main_call9_v5) (rv V d main_call9_v10) := (segR8 V d).binary 27 rfl
theorem r_v116 : (rv V d main_v116 : B F S4x512x1 .i32) = (broadcastInDim S4x512x1 ![0, 1] bcast_S4x512_S4x512x1_0_1 : B F S4x512 .i32 → _) (rv V d main_v114) := (segR8 V d).unary 28 rfl
theorem r_call10_c : (rv V d main_call10_c : B F S_ .i32) = ((constantI S_ 32 0#32) : B F S_ .i32) := (segR8 V d).nullary 29 rfl
theorem r_call10_v0 : (rv V d main_call10_v0 : B F S4x512x1 .i32) = ((broadcastInDim S4x512x1 ![] bcast_S_S4x512x1) : B F S_ .i32 → _) (rv V d main_call10_c) := (segR8 V d).unary 30 rfl
theorem r_call10_v1 : (rv V d main_call10_v1 : B F S4x512x1 .i1) = ((cmpi .slt) : B F S4x512x1 .i32 → B F S4x512x1 .i32 → _) (rv V d main_v116) (rv V d main_call10_v0) := (segR8 V d).binary 31 rfl
theorem r_call10_c_0 : (rv V d main_call10_c_0 : B F S_ .i32) = ((constantI S_ 32 10#32) : B F S_ .i32) := (segR8 V d).nullary 32 rfl
theorem r_call10_v2 : (rv V d main_call10_v2 : B F S4x512x1 .i32) = ((broadcastInDim S4x512x1 ![] bcast_S_S4x512x1) : B F S_ .i32 → _) (rv V d main_call10_c_0) := (segR8 V d).unary 33 rfl
theorem r_call10_v3 : (rv V d main_call10_v3 : B F S4x512x1 .i32) = (addi : B F S4x512x1 .i32 → B F S4x512x1 .i32 → _) (rv V d main_v116) (rv V d main_call10_v2) := (segR9 V d).binary 0 rfl
theorem r_call10_v4 : (rv V d main_call10_v4 : B F S4x512x1 .i32) = (select : B F S4x512x1 .i1 → B F S4x512x1 .i32 → B F S4x512x1 .i32 → _) (rv V d main_call10_v1) (rv V d main_call10_v3) (rv V d main_v116) := (segR9 V d).ternary 1 rfl
theorem r_call10_v5 : (rv V d main_call10_v5 : B F S4x512x1x1 .i32) = shapeCast S4x512x1x1 (rv V d main_call10_v4 : B F S4x512x1 .i32) shapeCasts_S4x512x1_S4x512x1x1 := by
  have h := (segR9 V d).reshapeT (S := S4x512x1) (S' := S4x512x1x1) (t := .i32) 2 rfl rfl shapeCasts_S4x512x1_S4x512x1x1
    (show (opsR9 (F := F))[2]? = some (reshape main_call10_v4 main_call10_v5 (rfl : (.i32 : EltTy) = .i32) shapeCasts_S4x512x1_S4x512x1x1) from rfl)
  rw [cast_eq, cast_eq] at h
  exact h
theorem r_call10_c_1 : (rv V d main_call10_c_1 : B F S1 .i32) = ((constantI S1 32 9#32) : B F S1 .i32) := (segR9 V d).nullary 3 rfl
theorem r_call10_c_2 : (rv V d main_call10_c_2 : B F S_ .i32) = ((constantI S_ 32 0#32) : B F S_ .i32) := (segR9 V d).nullary 4 rfl
theorem r_call10_v6 : (rv V d main_call10_v6 : B F S4x512x1x1 .i32) = ((broadcastInDim S4x512x1x1 ![] bcast_S_S4x512x1x1) : B F S_ .i32 → _) (rv V d main_call10_c_2) := (segR9 V d).unary 5 rfl
theorem r_call10_v7 : (rv V d main_call10_v7 : B F S4x512x1x1 .i1) = ((cmpi .sge) : B F S4x512x1x1 .i32 → B F S4x512x1x1 .i32 → _) (rv V d main_call10_v5) (rv V d main_call10_v6) := (segR9 V d).binary 6 rfl
theorem r_call10_v8 : (rv V d main_call10_v8 : B F S1x1x1x1 .i32) = ((broadcastInDim S1x1x1x1 ![3] bcast_S1_S1x1x1x1_3) : B F S1 .i32 → _) (rv V d main_call10_c_1) := (segR9 V d).unary 7 rfl
theorem r_call10_v9 : (rv V d main_call10_v9 : B F S4x512x1x1 .i32) = ((broadcastInDim S4x512x1x1 ![0, 1, 2, 3] bcast_S1x1x1x1_S4x512x1x1_0_1_2_3) : B F S1x1x1x1 .i32 → _) (rv V d main_call10_v8) := (segR9 V d).unary 8 rfl
theorem r_call10_v10 : (rv V d main_call10_v10 : B F S4x512x1x1 .i1) = ((cmpi .sle) : B F S4x512x1x1 .i32 → B F S4x512x1x1 .i32 → _) (rv V d main_call10_v5) (rv V d main_call10_v9) := (segR9 V d).binary 9 rfl
theorem r_call10_v11 : (rv V d main_call10_v11 : B F S4x512x1x1 .i1) = (andi : B F S4x512x1x1 .i1 → B F S4x512x1x1 .i1 → _) (rv V d main_call10_v7) (rv V d main_call10_v10) := (segR9 V d).binary 10 rfl
theorem r_call10_c_3 : (rv V d main_call10_c_3 : B F S_ .i1) = ((constantI S_ 1 1#1) : B F S_ .i1) := (segR9 V d).nullary 11 rfl
theorem r_call10_v12 : (rv V d main_call10_v12 : B F S4x512x1 .i1) = ((fun x v => Host.reduce IntOp.andi x v reducesTo_S4x512x1x1_S4x512x1_d3 h_S_) : B F S4x512x1x1 .i1 → B F S_ .i1 → _) (rv V d main_call10_v11) (rv V d main_call10_c_3) := (segR9 V d).binary 12 rfl
theorem r_call10_v13 : (rv V d main_call10_v13 : B F S4x512x1 .f32) = ((fun x i => Host.gather gather_S4x512x10_S4x512x1x1_S4x512x1_n_2_01_01_2_3_111 x i) : B F S4x512x10 .f32 → B F S4x512x1x1 .i32 → _) (rv V d main_v115) (rv V d main_call10_v5) := (segR9 V d).binary 13 rfl
theorem r_v117 : (rv V d main_v117 : B F S4x512x1 .f32) = (select : B F S4x512x1 .i1 → B F S4x512x1 .f32 → B F S4x512x1 .f32 → _) (rv V d main_call10_v12) (rv V d main_call10_v13) (rv V d main_call10_v14) := (segR9 V d).ternary 16 rfl
theorem r_v118 : (rv V d main_v118 : B F S4x512 .f32) = shapeCast S4x512 (rv V d main_v117 : B F S4x512x1 .f32) shapeCasts_S4x512x1_S4x512 := by
  have h := (segR9 V d).reshapeT (S := S4x512x1) (S' := S4x512) (t := .f32) 17 rfl rfl shapeCasts_S4x512x1_S4x512
    (show (opsR9 (F := F))[17]? = some (reshape main_v117 main_v118 (rfl : (.f32 : EltTy) = .f32) shapeCasts_S4x512x1_S4x512) from rfl)
  rw [cast_eq, cast_eq] at h
  exact h
theorem r_v119 : (rv V d main_v119 : B F S4x512 .f32) = (Host.negf : B F S4x512 .f32 → _) (rv V d main_v118) := (segR9 V d).unary 18 rfl
theorem r_c_19 : (rv V d main_c_19 : B F S_ .i32) = ((constantI S_ 32 0#32) : B F S_ .i32) := (segR9 V d).nullary 19 rfl
theorem r_v120 : (rv V d main_v120 : B F S4x512 .i32) = (broadcastInDim S4x512 ![] bcast_S_S4x512 : B F S_ .i32 → _) (rv V d main_c_19) := (segR9 V d).unary 20 rfl
theorem r_v121 : (rv V d main_v121 : B F S4x512 .i1) = (cmpi .slt : B F S4x512 .i32 → B F S4x512 .i32 → _) (rv V d main_v114) (rv V d main_v120) := (segR9 V d).binary 21 rfl
theorem r_c_20 : (rv V d main_c_20 : B F S_ .i32) = ((constantI S_ 32 10#32) : B F S_ .i32) := (segR9 V d).nullary 22 rfl
theorem r_v122 : (rv V d main_v122 : B F S4x512 .i32) = (broadcastInDim S4x512 ![] bcast_S_S4x512 : B F S_ .i32 → _) (rv V d main_c_20) := (segR9 V d).unary 23 rfl
theorem r_v123 : (rv V d main_v123 : B F S4x512 .i32) = (addi : B F S4x512 .i32 → B F S4x512 .i32 → _) (rv V d main_v114) (rv V d main_v122) := (segR9 V d).binary 24 rfl
theorem r_v124 : (rv V d main_v124 : B F S4x512 .i32) = (select : B F S4x512 .i1 → B F S4x512 .i32 → B F S4x512 .i32 → _) (rv V d main_v121) (rv V d main_v123) (rv V d main_v114) := (segR9 V d).ternary 25 rfl
theorem r_v125 : (rv V d main_v125 : B F S4x512x1 .i32) = (broadcastInDim S4x512x1 ![0, 1] bcast_S4x512_S4x512x1_0_1 : B F S4x512 .i32 → _) (rv V d main_v124) := (segR9 V d).unary 26 rfl
theorem r_v126 : (rv V d main_v126 : B F S4x512 .f32) = ((fun x i => Host.gather gather_S10_S4x512x1_S4x512_n_0_n_n_0_2_1 x i) : B F S10 .f32 → B F S4x512x1 .i32 → _) (rv V d main_arg13) (rv V d main_v125) := (segR9 V d).binary 27 rfl
theorem r_v127 : (rv V d main_v127 : B F S4x512 .f32) = (mulf : B F S4x512 .f32 → B F S4x512 .f32 → _) (rv V d main_v119) (rv V d main_v126) := (segR9 V d).binary 28 rfl
theorem r_cst_21 : (rv V d main_cst_21 : B F S_ .f32) = ((constant S_ .f32 0x00000000#32) : B F S_ .f32) := (segR9 V d).nullary 29 rfl
theorem r_v128 : (rv V d main_v128 : B F S_ .f32) = ((fun x v => Host.reduceAdd x v reducesTo_S4x512_S_d0_1 h_S_) : B F S4x512 .f32 → B F S_ .f32 → _) (rv V d main_v127) (rv V d main_cst_21) := (segR9 V d).binary 30 rfl
theorem r_cst_22 : (rv V d main_cst_22 : B F S_ .f32) = ((constant S_ .f32 0x00000000#32) : B F S_ .f32) := (segR9 V d).nullary 31 rfl
theorem r_v129 : (rv V d main_v129 : B F S_ .f32) = ((fun x v => Host.reduceAdd x v reducesTo_S4x512_S_d0_1 h_S_) : B F S4x512 .f32 → B F S_ .f32 → _) (rv V d main_v126) (rv V d main_cst_22) := (segR9 V d).binary 32 rfl
theorem r_cst_23 : (rv V d main_cst_23 : B F S_ .f32) = ((constant S_ .f32 0x358637BD#32) : B F S_ .f32) := (segR9 V d).nullary 33 rfl
theorem r_v130 : (rv V d main_v130 : B F S_ .f32) = (addf : B F S_ .f32 → B F S_ .f32 → _) (rv V d main_v129) (rv V d main_cst_23) := (segR10 V d).binary 0 rfl
theorem r_v131 : (rv V d main_v131 : B F S_ .f32) = (Host.divf : B F S_ .f32 → B F S_ .f32 → _) (rv V d main_v128) (rv V d main_v130) := (segR10 V d).binary 1 rfl
theorem r_v132 : (rv V d main_v132 : B F S1 .f32) = shapeCast S1 (rv V d main_v131 : B F S_ .f32) shapeCasts_S_S1 := by
  have h := (segR10 V d).reshapeT (S := S_) (S' := S1) (t := .f32) 2 rfl rfl shapeCasts_S_S1
    (show (opsR10 (F := F))[2]? = some (reshape main_v131 main_v132 (rfl : (.f32 : EltTy) = .f32) shapeCasts_S_S1) from rfl)
  rw [cast_eq, cast_eq] at h
  exact h
theorem r_v133 : (rv V d main_v133 : B F S4x2048x8x10 .f32) = ((fun l r => Host.dotGeneral dot_S4x2048x8x128_S128x10_S4x2048x8x10_3_0_012_1_n_n none l r) : B F S4x2048x8x128 .f32 → B F S128x10 .f32 → _) (rv V d main_v53) (rv V d main_arg11) := (segR10 V d).binary 3 rfl
theorem r_v134 : (rv V d main_v134 : B F S1x1x1x10 .f32) = (broadcastInDim S1x1x1x10 ![3] bcast_S10_S1x1x1x10_3 : B F S10 .f32 → _) (rv V d main_arg12) := (segR10 V d).unary 4 rfl
theorem r_v135 : (rv V d main_v135 : B F S4x2048x8x10 .f32) = (broadcastInDim S4x2048x8x10 ![0, 1, 2, 3] bcast_S1x1x1x10_S4x2048x8x10_0_1_2_3 : B F S1x1x1x10 .f32 → _) (rv V d main_v134) := (segR10 V d).unary 5 rfl
theorem r_v136 : (rv V d main_v136 : B F S4x2048x8x10 .f32) = (addf : B F S4x2048x8x10 .f32 → B F S4x2048x8x10 .f32 → _) (rv V d main_v133) (rv V d main_v135) := (segR10 V d).binary 6 rfl
theorem r_call11_v0 : (rv V d main_call11_v0 : B F S4x2048x8x10 .i32) = ((iotaInDim S4x2048x8x10 32 3) : B F S4x2048x8x10 .i32) := (segR10 V d).nullary 7 rfl
theorem r_call11_cst : (rv V d main_call11_cst : B F S_ .f32) = ((constant S_ .f32 0xFF800000#32) : B F S_ .f32) := (segR10 V d).nullary 8 rfl
theorem r_call11_c : (rv V d main_call11_c : B F S_ .i32) = ((constantI S_ 32 0#32) : B F S_ .i32) := (segR10 V d).nullary 9 rfl
theorem r_v137 : (rv V d main_v137 : B F S4x2048x8 .i32) = ((fun x y u v j => (Host.argReduce reducer_argmax_f32_i32 x y u v reducesTo_S4x2048x8x10_S4x2048x8_d3 h_S_ j).2) : B F S4x2048x8x10 .f32 → B F S4x2048x8x10 .i32 → B F S_ .f32 → B F S_ .i32 → _) (rv V d main_v136) (rv V d main_call11_v0) (rv V d main_call11_cst) (rv V d main_call11_c) := (segR10 V d).quaternary 11 rfl
theorem r_v138 : (rv V d main_v138 : B F S4x16384x2 .f32) = shapeCast S4x16384x2 (rv V d main_arg3 : B F S4x2048x8x2 .f32) shapeCasts_S4x2048x8x2_S4x16384x2 := by
  have h := (segR10 V d).reshapeT (S := S4x2048x8x2) (S' := S4x16384x2) (t := .f32) 12 rfl rfl shapeCasts_S4x2048x8x2_S4x16384x2
    (show (opsR10 (F := F))[12]? = some (reshape main_arg3 main_v138 (rfl : (.f32 : EltTy) = .f32) shapeCasts_S4x2048x8x2_S4x16384x2) from rfl)
  rw [cast_eq, cast_eq] at h
  exact h
theorem r_v139 : (rv V d main_v139 : B F S4x512x1 .i32) = (broadcastInDim S4x512x1 ![0, 1] bcast_S4x512_S4x512x1_0_1 : B F S4x512 .i32 → _) (rv V d main_indices) := (segR10 V d).unary 13 rfl
theorem r_call12_c : (rv V d main_call12_c : B F S_ .i32) = ((constantI S_ 32 0#32) : B F S_ .i32) := (segR10 V d).nullary 14 rfl
theorem r_call12_v0 : (rv V d main_call12_v0 : B F S4x512x1 .i32) = ((broadcastInDim S4x512x1 ![] bcast_S_S4x512x1) : B F S_ .i32 → _) (rv V d main_call12_c) := (segR10 V d).unary 15 rfl
theorem r_call12_v1 : (rv V d main_call12_v1 : B F S4x512x1 .i1) = ((cmpi .slt) : B F S4x512x1 .i32 → B F S4x512x1 .i32 → _) (rv V d main_v139) (rv V d main_call12_v0) := (segR10 V d).binary 16 rfl
theorem r_call12_c_0 : (rv V d main_call12_c_0 : B F S_ .i32) = ((constantI S_ 32 16384#32) : B F S_ .i32) := (segR10 V d).nullary 17 rfl
theorem r_call12_v2 : (rv V d main_call12_v2 : B F S4x512x1 .i32) = ((broadcastInDim S4x512x1 ![] bcast_S_S4x512x1) : B F S_ .i32 → _) (rv V d main_call12_c_0) := (segR10 V d).unary 18 rfl
theorem r_call12_v3 : (rv V d main_call12_v3 : B F S4x512x1 .i32) = (addi : B F S4x512x1 .i32 → B F S4x512x1 .i32 → _) (rv V d main_v139) (rv V d main_call12_v2) := (segR10 V d).binary 19 rfl
theorem r_call12_v4 : (rv V d main_call12_v4 : B F S4x512x1 .i32) = (select : B F S4x512x1 .i1 → B F S4x512x1 .i32 → B F S4x512x1 .i32 → _) (rv V d main_call12_v1) (rv V d main_call12_v3) (rv V d main_v139) := (segR10 V d).ternary 20 rfl
theorem r_call12_c_1 : (rv V d main_call12_c_1 : B F S1 .i32) = ((constantI S1 32 16383#32) : B F S1 .i32) := (segR10 V d).nullary 21 rfl
theorem r_call12_c_2 : (rv V d main_call12_c_2 : B F S_ .i32) = ((constantI S_ 32 0#32) : B F S_ .i32) := (segR10 V d).nullary 22 rfl
theorem r_call12_v5 : (rv V d main_call12_v5 : B F S4x512x1 .i32) = ((broadcastInDim S4x512x1 ![] bcast_S_S4x512x1) : B F S_ .i32 → _) (rv V d main_call12_c_2) := (segR10 V d).unary 23 rfl
theorem r_call12_v6 : (rv V d main_call12_v6 : B F S4x512x1 .i1) = ((cmpi .sge) : B F S4x512x1 .i32 → B F S4x512x1 .i32 → _) (rv V d main_call12_v4) (rv V d main_call12_v5) := (segR10 V d).binary 24 rfl
theorem r_call12_v7 : (rv V d main_call12_v7 : B F S1x1x1 .i32) = ((broadcastInDim S1x1x1 ![2] bcast_S1_S1x1x1_2) : B F S1 .i32 → _) (rv V d main_call12_c_1) := (segR10 V d).unary 25 rfl
theorem r_call12_v8 : (rv V d main_call12_v8 : B F S4x512x1 .i32) = ((broadcastInDim S4x512x1 ![0, 1, 2] bcast_S1x1x1_S4x512x1_0_1_2) : B F S1x1x1 .i32 → _) (rv V d main_call12_v7) := (segR10 V d).unary 26 rfl
theorem r_call12_v9 : (rv V d main_call12_v9 : B F S4x512x1 .i1) = ((cmpi .sle) : B F S4x512x1 .i32 → B F S4x512x1 .i32 → _) (rv V d main_call12_v4) (rv V d main_call12_v8) := (segR10 V d).binary 27 rfl
theorem r_call12_v10 : (rv V d main_call12_v10 : B F S4x512x1 .i1) = (andi : B F S4x512x1 .i1 → B F S4x512x1 .i1 → _) (rv V d main_call12_v6) (rv V d main_call12_v9) := (segR10 V d).binary 28 rfl
theorem r_call12_c_3 : (rv V d main_call12_c_3 : B F S_ .i1) = ((constantI S_ 1 1#1) : B F S_ .i1) := (segR10 V d).nullary 29 rfl
theorem r_call12_v11 : (rv V d main_call12_v11 : B F S4x512 .i1) = ((fun x v => Host.reduce IntOp.andi x v reducesTo_S4x512x1_S4x512_d2 h_S_) : B F S4x512x1 .i1 → B F S_ .i1 → _) (rv V d main_call12_v10) (rv V d main_call12_c_3) := (segR10 V d).binary 30 rfl
theorem r_call12_v12 : (rv V d main_call12_v12 : B F S4x512x2 .f32) = ((fun x i => Host.gather gather_S4x16384x2_S4x512x1_S4x512x2_2_1_0_0_1_2_112 x i) : B F S4x16384x2 .f32 → B F S4x512x1 .i32 → _) (rv V d main_v138) (rv V d main_call12_v4) := (segR10 V d).binary 31 rfl
theorem r_call12_v13 : (rv V d main_call12_v13 : B F S4x512x2 .i1) = ((broadcastInDim S4x512x2 ![0, 1] bcast_S4x512_S4x512x2_0_1) : B F S4x512 .i1 → _) (rv V d main_call12_v11) := (segR10 V d).unary 32 rfl
theorem r_call12_cst : (rv V d main_call12_cst : B F S_ .f32) = ((constant S_ .f32 0x7FC00000#32) : B F S_ .f32) := (segR10 V d).nullary 33 rfl
theorem r_call12_v14 : (rv V d main_call12_v14 : B F S4x512x2 .f32) = ((broadcastInDim S4x512x2 ![] bcast_S_S4x512x2) : B F S_ .f32 → _) (rv V d main_call12_cst) := (segR11 V d).unary 0 rfl
theorem r_v140 : (rv V d main_v140 : B F S4x512x2 .f32) = (select : B F S4x512x2 .i1 → B F S4x512x2 .f32 → B F S4x512x2 .f32 → _) (rv V d main_call12_v13) (rv V d main_call12_v12) (rv V d main_call12_v14) := (segR11 V d).ternary 1 rfl
theorem r_v141 : (rv V d main_v141 : B F S1x16384 .f32) = shapeCast S1x16384 (rv V d main_v33 : B F S2048x8 .f32) shapeCasts_S2048x8_S1x16384 := by
  have h := (segR11 V d).reshapeT (S := S2048x8) (S' := S1x16384) (t := .f32) 2 rfl rfl shapeCasts_S2048x8_S1x16384
    (show (opsR11 (F := F))[2]? = some (reshape main_v33 main_v141 (rfl : (.f32 : EltTy) = .f32) shapeCasts_S2048x8_S1x16384) from rfl)
  rw [cast_eq, cast_eq] at h
  exact h
theorem r_v142 : (rv V d main_v142 : B F S1x1x1x16384 .f32) = shapeCast S1x1x1x16384 (rv V d main_v141 : B F S1x16384 .f32) shapeCasts_S1x16384_S1x1x1x16384 := by
  have h := (segR11 V d).reshapeT (S := S1x16384) (S' := S1x1x1x16384) (t := .f32) 3 rfl rfl shapeCasts_S1x16384_S1x1x1x16384
    (show (opsR11 (F := F))[3]? = some (reshape main_v141 main_v142 (rfl : (.f32 : EltTy) = .f32) shapeCasts_S1x16384_S1x1x1x16384) from rfl)
  rw [cast_eq, cast_eq] at h
  exact h
theorem r_v143 : (rv V d main_v143 : B F S4x1x1x16384 .f32) = (broadcastInDim S4x1x1x16384 ![0, 1, 2, 3] bcast_S1x1x1x16384_S4x1x1x16384_0_1_2_3 : B F S1x1x1x16384 .f32 → _) (rv V d main_v142) := (segR11 V d).unary 4 rfl
theorem r_v144 : (rv V d main_v144 : B F S4x16384 .f32) = shapeCast S4x16384 (rv V d main_v143 : B F S4x1x1x16384 .f32) shapeCasts_S4x1x1x16384_S4x16384 := by
  have h := (segR11 V d).reshapeT (S := S4x1x1x16384) (S' := S4x16384) (t := .f32) 5 rfl rfl shapeCasts_S4x1x1x16384_S4x16384
    (show (opsR11 (F := F))[5]? = some (reshape main_v143 main_v144 (rfl : (.f32 : EltTy) = .f32) shapeCasts_S4x1x1x16384_S4x16384) from rfl)
  rw [cast_eq, cast_eq] at h
  exact h
theorem r_call13_c : (rv V d main_call13_c : B F S_ .i32) = ((constantI S_ 32 0#32) : B F S_ .i32) := (segR11 V d).nullary 6 rfl
theorem r_call13_v0 : (rv V d main_call13_v0 : B F S4x512 .i32) = ((broadcastInDim S4x512 ![] bcast_S_S4x512) : B F S_ .i32 → _) (rv V d main_call13_c) := (segR11 V d).unary 7 rfl
theorem r_call13_v1 : (rv V d main_call13_v1 : B F S4x512 .i1) = ((cmpi .slt) : B F S4x512 .i32 → B F S4x512 .i32 → _) (rv V d main_indices) (rv V d main_call13_v0) := (segR11 V d).binary 8 rfl
theorem r_call13_c_0 : (rv V d main_call13_c_0 : B F S_ .i32) = ((constantI S_ 32 16384#32) : B F S_ .i32) := (segR11 V d).nullary 9 rfl
theorem r_call13_v2 : (rv V d main_call13_v2 : B F S4x512 .i32) = ((broadcastInDim S4x512 ![] bcast_S_S4x512) : B F S_ .i32 → _) (rv V d main_call13_c_0) := (segR11 V d).unary 10 rfl
theorem r_call13_v3 : (rv V d main_call13_v3 : B F S4x512 .i32) = (addi : B F S4x512 .i32 → B F S4x512 .i32 → _) (rv V d main_indices) (rv V d main_call13_v2) := (segR11 V d).binary 11 rfl
theorem r_call13_v4 : (rv V d main_call13_v4 : B F S4x512 .i32) = (select : B F S4x512 .i1 → B F S4x512 .i32 → B F S4x512 .i32 → _) (rv V d main_call13_v1) (rv V d main_call13_v3) (rv V d main_indices) := (segR11 V d).ternary 12 rfl
theorem r_call13_v5 : (rv V d main_call13_v5 : B F S4x512x1 .i32) = shapeCast S4x512x1 (rv V d main_call13_v4 : B F S4x512 .i32) shapeCasts_S4x512_S4x512x1 := by
  have h := (segR11 V d).reshapeT (S := S4x512) (S' := S4x512x1) (t := .i32) 13 rfl rfl shapeCasts_S4x512_S4x512x1
    (show (opsR11 (F := F))[13]? = some (reshape main_call13_v4 main_call13_v5 (rfl : (.i32 : EltTy) = .i32) shapeCasts_S4x512_S4x512x1) from rfl)
  rw [cast_eq, cast_eq] at h
  exact h
theorem r_call13_c_1 : (rv V d main_call13_c_1 : B F S1 .i32) = ((constantI S1 32 16383#32) : B F S1 .i32) := (segR11 V d).nullary 14 rfl
theorem r_call13_c_2 : (rv V d main_call13_c_2 : B F S_ .i32) = ((constantI S_ 32 0#32) : B F S_ .i32) := (segR11 V d).nullary 15 rfl
theorem r_call13_v6 : (rv V d main_call13_v6 : B F S4x512x1 .i32) = ((broadcastInDim S4x512x1 ![] bcast_S_S4x512x1) : B F S_ .i32 → _) (rv V d main_call13_c_2) := (segR11 V d).unary 16 rfl
theorem r_call13_v7 : (rv V d main_call13_v7 : B F S4x512x1 .i1) = ((cmpi .sge) : B F S4x512x1 .i32 → B F S4x512x1 .i32 → _) (rv V d main_call13_v5) (rv V d main_call13_v6) := (segR11 V d).binary 17 rfl
theorem r_call13_v8 : (rv V d main_call13_v8 : B F S1x1x1 .i32) = ((broadcastInDim S1x1x1 ![2] bcast_S1_S1x1x1_2) : B F S1 .i32 → _) (rv V d main_call13_c_1) := (segR11 V d).unary 18 rfl
theorem r_call13_v9 : (rv V d main_call13_v9 : B F S4x512x1 .i32) = ((broadcastInDim S4x512x1 ![0, 1, 2] bcast_S1x1x1_S4x512x1_0_1_2) : B F S1x1x1 .i32 → _) (rv V d main_call13_v8) := (segR11 V d).unary 19 rfl
theorem r_call13_v10 : (rv V d main_call13_v10 : B F S4x512x1 .i1) = ((cmpi .sle) : B F S4x512x1 .i32 → B F S4x512x1 .i32 → _) (rv V d main_call13_v5) (rv V d main_call13_v9) := (segR11 V d).binary 20 rfl
theorem r_call13_v11 : (rv V d main_call13_v11 : B F S4x512x1 .i1) = (andi : B F S4x512x1 .i1 → B F S4x512x1 .i1 → _) (rv V d main_call13_v7) (rv V d main_call13_v10) := (segR11 V d).binary 21 rfl
theorem r_call13_c_3 : (rv V d main_call13_c_3 : B F S_ .i1) = ((constantI S_ 1 1#1) : B F S_ .i1) := (segR11 V d).nullary 22 rfl
theorem r_call13_v12 : (rv V d main_call13_v12 : B F S4x512 .i1) = ((fun x v => Host.reduce IntOp.andi x v reducesTo_S4x512x1_S4x512_d2 h_S_) : B F S4x512x1 .i1 → B F S_ .i1 → _) (rv V d main_call13_v11) (rv V d main_call13_c_3) := (segR11 V d).binary 23 rfl
theorem r_call13_v13 : (rv V d main_call13_v13 : B F S4x512 .f32) = ((fun x i => Host.gather gather_S4x16384_S4x512x1_S4x512_n_1_0_0_1_2_11 x i) : B F S4x16384 .f32 → B F S4x512x1 .i32 → _) (rv V d main_v144) (rv V d main_call13_v5) := (segR11 V d).binary 24 rfl
theorem r_call13_cst : (rv V d main_call13_cst : B F S_ .f32) = ((constant S_ .f32 0x7FC00000#32) : B F S_ .f32) := (segR11 V d).nullary 25 rfl
theorem r_call13_v14 : (rv V d main_call13_v14 : B F S4x512 .f32) = ((broadcastInDim S4x512 ![] bcast_S_S4x512) : B F S_ .f32 → _) (rv V d main_call13_cst) := (segR11 V d).unary 26 rfl
theorem r_v145 : (rv V d main_v145 : B F S4x512 .f32) = (select : B F S4x512 .i1 → B F S4x512 .f32 → B F S4x512 .f32 → _) (rv V d main_call13_v12) (rv V d main_call13_v13) (rv V d main_call13_v14) := (segR11 V d).ternary 27 rfl
theorem r_c_24 : (rv V d main_c_24 : B F S_ .i32) = ((constantI S_ 32 0#32) : B F S_ .i32) := (segR11 V d).nullary 28 rfl
theorem r_v146 : (rv V d main_v146 : B F S4x512 .i32) = (broadcastInDim S4x512 ![] bcast_S_S4x512 : B F S_ .i32 → _) (rv V d main_c_24) := (segR11 V d).unary 29 rfl
theorem r_v147 : (rv V d main_v147 : B F S4x512 .i1) = (cmpi .sge : B F S4x512 .i32 → B F S4x512 .i32 → _) (rv V d main_v105) (rv V d main_v146) := (segR11 V d).binary 30 rfl
theorem r_v148 : (rv V d main_v148 : B F S4x512 .i32) = ((extui 32 · natLt_1_32) : B F S4x512 .i1 → _) (rv V d main_v147) := (segR11 V d).unary 31 rfl
theorem r_c_25 : (rv V d main_c_25 : B F S_ .i32) = ((constantI S_ 32 0#32) : B F S_ .i32) := (segR11 V d).nullary 32 rfl
theorem r_v149 : (rv V d main_v149 : B F S4 .i32) = ((fun x v => Host.reduce IntOp.addi x v reducesTo_S4x512_S4_d1 h_S_) : B F S4x512 .i32 → B F S_ .i32 → _) (rv V d main_v148) (rv V d main_c_25) := (segR11 V d).binary 33 rfl
theorem r_cst_26 : (rv V d main_cst_26 : B F S_ .f32) = ((constant S_ .f32 0x3F800000#32) : B F S_ .f32) := (segR12 V d).nullary 0 rfl
theorem r_v150 : (rv V d main_v150 : B F S4x512 .f32) = (broadcastInDim S4x512 ![] bcast_S_S4x512 : B F S_ .f32 → _) (rv V d main_cst_26) := (segR12 V d).unary 1 rfl

end Cert.Proof.Ref

end
-- ==== Proof.Tag.lean ====
/-
  The tagger's arithmetic over the reals, element by element: the gated representation and the two logits, as the kernel's
  first call leaves them and as the reference computes them.
-/
module

public import proofs.«01_k».proof.Proof.Left1
public import proofs.«01_k».proof.Proof.KEq
public import proofs.«01_k».proof.Proof.REq
public import Idealize.ShloMosaic.Lib.MatmulPlain

@[expose] public section

noncomputable section

namespace Cert.Proof.Span

open Cert.KernelIdeal Cert.KernelIdeal.Gen
open Idealize.ShloMosaic Idealize.ShloMosaic.StableHlo Idealize.ShloMosaic.TcCoe
open Cert.Proof.Line
open Cert.Proof.Ref (rv)
open scoped BigOperators

attribute [local irreducible] kv rv VF

theorem ex1 {m : ℕ} (x : (⟨1, ![m]⟩ : Shape).Idx) : ∃ a, x = ix1 a := ⟨x 0, funext fun a => match a with | ⟨0, _⟩ => rfl⟩
theorem ex2 {m n : ℕ} (x : (⟨2, ![m, n]⟩ : Shape).Idx) : ∃ a b, x = ix2 a b := ⟨x 0, x 1, funext fun a => match a with | ⟨0, _⟩ => rfl | ⟨1, _⟩ => rfl⟩
theorem ex3 {m n k : ℕ} (x : (⟨3, ![m, n, k]⟩ : Shape).Idx) : ∃ a b c, x = ix3 a b c :=
  ⟨x 0, x 1, x 2, funext fun a => match a with | ⟨0, _⟩ => rfl | ⟨1, _⟩ => rfl | ⟨2, _⟩ => rfl⟩
theorem ex4 {m n k p : ℕ} (x : (⟨4, ![m, n, k, p]⟩ : Shape).Idx) : ∃ a b c e, x = ix4 a b c e :=
  ⟨x 0, x 1, x 2, x 3, funext fun a => match a with | ⟨0, _⟩ => rfl | ⟨1, _⟩ => rfl | ⟨2, _⟩ => rfl | ⟨3, _⟩ => rfl⟩

/-- The gated mix of a word element `wl` and a character element `cl`, the gate from the rows `w`, `c` and a column of weights. -/
def mixE (w c A B : Fin 128 → EReal) (g wl cl : EReal) : EReal :=
  Ideal.logistic ((∑ k, w k * A k + ∑ k, c k * B k) + g) * wl + (1 - Ideal.logistic ((∑ k, w k * A k + ∑ k, c k * B k) + g)) * cl

/-- A logit: a row against a column of weights, plus a bias. -/
def lgE (r w : Fin 128 → EReal) (b : EReal) : EReal := ∑ k, r k * w k + b

/-- A block's representation, element by element. -/
theorem rep_at (X : Blk Ideal) (r : Fin 256) (l : Fin 128) :
    X.rep (ix2 r l) = mixE (fun k => X.wrd (ix3 0 r k)) (fun k => X.cnn (ix3 0 r k)) (fun k => X.wr1 (ix2 k l))
      (fun k => X.wr2 (ix2 k l)) (X.br (ix2 0 l)) (X.wrd (ix3 0 r l)) (X.cnn (ix3 0 r l)) := by
  unfold Blk.rep k0_pay187 mixE
  simp [pointwise]

/-- A block's logits of class 0. -/
theorem lg0_at (X : Blk Ideal) (r : Fin 256) (a : Fin 8) :
    X.lg0 (ix2 r a) = lgE (fun k => X.rep (ix2 r k)) (fun k => X.wp0 (ix2 k a)) (X.b0 (ix2 0 a)) := by
  unfold Blk.lg0 k0_pay188 lgE
  simp [pointwise, Blk.rep]

/-- A block's logits of class 1. -/
theorem lg1_at (X : Blk Ideal) (r : Fin 256) (a : Fin 8) :
    k0_pay189 X.rep X.wp1 X.b1 (ix2 r a) = lgE (fun k => X.rep (ix2 r k)) (fun k => X.wp1 (ix2 k a)) (X.b1 (ix2 0 a)) := by
  unfold k0_pay189 lgE
  simp [pointwise]

theorem out0_at (X : Blk Ideal) (r : Fin 256) (a : Fin 8) : X.out0 (ix3 0 r a) = X.lg0 (ix2 r a) := by
  unfold Blk.out0 k0_pay190
  simp [pointwise]

theorem out1_at (X : Blk Ideal) (r : Fin 256) (a : Fin 8) : X.out1 (ix3 0 r a) = k0_pay189 X.rep X.wp1 X.b1 (ix2 r a) := by
  unfold Blk.out1 k0_pay191
  simp [pointwise]

/-- A block's detections: where the logit of class 1 is the larger. -/
theorem det_at (X : Blk Ideal) (r : Fin 256) (a : Fin 8) :
    X.det (ix3 0 r a) = ((Ideal.cmp .ogt (k0_pay189 X.rep X.wp1 X.b1 (ix2 r a)) (X.lg0 (ix2 r a)))).setWidth 32 := by
  unfold Blk.det k0_pay192
  simp [pointwise]

variable (V : Dev nD → Valuation τ sig (Elt Ideal)) (d : Dev nD)
variable (V' : Dev Cert.ReferenceIdeal.nD → Valuation Cert.ReferenceIdeal.τ Cert.ReferenceIdeal.sig (Elt Ideal)) (d' : Dev Cert.ReferenceIdeal.nD)

/-- The representation at a position, from the arguments. -/
def repA (b : Fin 4) (s : Fin 2048) (l : Fin 128) : EReal :=
  mixE (fun k => (kv V d main_arg1 : B Ideal S4x2048x128 .f32) (ix3 b s k)) (fun k => (kv V d main_arg2 : B Ideal S4x2048x128 .f32) (ix3 b s k))
    (fun k => (kv V d main_arg6 : B Ideal S128x128 .f32) (ix2 k l)) (fun k => (kv V d main_arg7 : B Ideal S128x128 .f32) (ix2 k l))
    ((kv V d main_arg8 : B Ideal S128 .f32) (ix1 l))
    ((kv V d main_arg1 : B Ideal S4x2048x128 .f32) (ix3 b s l)) ((kv V d main_arg2 : B Ideal S4x2048x128 .f32) (ix3 b s l))

/-- The logit of class `c` for width `a` at a position, from the arguments. -/
def lgA (b : Fin 4) (s : Fin 2048) (a : Fin 8) (c : Fin 2) : EReal :=
  lgE (repA V d b s) (fun k => (kv V d main_arg9 : B Ideal S128x16 .f32) (ix2 k ⟨a.val * 2 + c.val, by omega⟩))
    ((kv V d main_arg10 : B Ideal S16 .f32) (ix1 ⟨a.val * 2 + c.val, by omega⟩))

/-- A block's representation in the kernel's run. -/
theorem blk_rep (t : Fin cfg0.grid.N) (r : Fin 256) (l : Fin 128) :
    (blkAt (V1 V) d t).rep (ix2 r l) = repA V d ⟨sen t, sen_lt t⟩ ⟨row t + r.val, by have := row_lt t; omega⟩ l := by
  rw [rep_at]
  unfold repA blkAt
  have e1 := keepF1 V d (r := main_arg1) (by decide)
  have e2 := keepF1 V d (r := main_arg2) (by decide)
  have e6 := keepF1 V d (r := main_arg6) (by decide)
  have e7 := keepF1 V d (r := main_arg7) (by decide)
  have e0 := keepF1 V d (r := main_v0) (by decide)
  have h0 : (stg0_5 (V1 V) d t : B Ideal S1x128 .f32) (ix2 0 l) = (kv V d main_arg8 : B Ideal S128 .f32) (ix1 l) := by
    rw [stg5_eq]
    refine (congrFun e0.symm (ix2 0 l)).trans ?_
    rw [k_v0]
    exact shapeCast_apply _ _ _ (ix1 l) (by rw [Shape.rowMajor_val_one, Shape.rowMajor_val_two]; simp [ix1, ix2])
  simp only [stg0_at, stg1_at, stg3_eq, stg4_eq]
  rw [h0, e1, e2, e6, e7]

/-- A block's logits of class 0 in the kernel's run. -/
theorem blk_lg0 (t : Fin cfg0.grid.N) (r : Fin 256) (a : Fin 8) :
    (blkAt (V1 V) d t).lg0 (ix2 r a) = lgA V d ⟨sen t, sen_lt t⟩ ⟨row t + r.val, by have := row_lt t; omega⟩ a 0 := by
  rw [lg0_at]
  unfold lgA
  have e1 := keepF1 V d (r := main_v1) (by decide)
  have e0 := keepF1 V d (r := main_v4) (by decide)
  have hw : ∀ k, ((blkAt (V1 V) d t).wp0 : B Ideal S128x8 .f32) (ix2 k a) = (kv V d main_arg9 : B Ideal S128x16 .f32) (ix2 k ⟨a.val * 2 + (0 : Fin 2).val, by simp; omega⟩) := fun k => by
    show (stg0_6 (V1 V) d t : B Ideal S128x8 .f32) (ix2 k a) = _
    rw [stg6_eq]
    refine (congrFun e1.symm (ix2 k a)).trans ?_
    rw [k_v1]
    simp [pointwise]
    exact congrArg (kv V d main_arg9 : B Ideal S128x16 .f32) (congrArg (ix2 k) (Fin.ext (by simp; omega)))
  have hb : ((blkAt (V1 V) d t).b0 : B Ideal S1x8 .f32) (ix2 0 a) = (kv V d main_arg10 : B Ideal S16 .f32) (ix1 ⟨a.val * 2 + (0 : Fin 2).val, by simp; omega⟩) := by
    show (stg0_8 (V1 V) d t : B Ideal S1x8 .f32) (ix2 0 a) = _
    rw [stg8_eq]
    refine (congrFun e0.symm (ix2 0 a)).trans ?_
    rw [k_v4, k_v3]
    simp [pointwise]
    exact congrArg (kv V d main_arg10 : B Ideal S16 .f32) (congrArg ix1 (Fin.ext (by simp; omega)))
  rw [hb]
  simp only [hw, blk_rep]

/-- A block's logits of class 1 in the kernel's run. -/
theorem blk_lg1 (t : Fin cfg0.grid.N) (r : Fin 256) (a : Fin 8) :
    k0_pay189 (blkAt (V1 V) d t).rep (blkAt (V1 V) d t).wp1 (blkAt (V1 V) d t).b1 (ix2 r a) = lgA V d ⟨sen t, sen_lt t⟩ ⟨row t + r.val, by have := row_lt t; omega⟩ a 1 := by
  rw [lg1_at]
  unfold lgA
  have e1 := keepF1 V d (r := main_v2) (by decide)
  have e0 := keepF1 V d (r := main_v6) (by decide)
  have hw : ∀ k, ((blkAt (V1 V) d t).wp1 : B Ideal S128x8 .f32) (ix2 k a) = (kv V d main_arg9 : B Ideal S128x16 .f32) (ix2 k ⟨a.val * 2 + (1 : Fin 2).val, by simp; omega⟩) := fun k => by
    show (stg0_7 (V1 V) d t : B Ideal S128x8 .f32) (ix2 k a) = _
    rw [stg7_eq]
    refine (congrFun e1.symm (ix2 k a)).trans ?_
    rw [k_v2]
    simp [pointwise]
    exact congrArg (kv V d main_arg9 : B Ideal S128x16 .f32) (congrArg (ix2 k) (Fin.ext (by simp; omega)))
  have hb : ((blkAt (V1 V) d t).b1 : B Ideal S1x8 .f32) (ix2 0 a) = (kv V d main_arg10 : B Ideal S16 .f32) (ix1 ⟨a.val * 2 + (1 : Fin 2).val, by simp; omega⟩) := by
    show (stg0_9 (V1 V) d t : B Ideal S1x8 .f32) (ix2 0 a) = _
    rw [stg9_eq]
    refine (congrFun e0.symm (ix2 0 a)).trans ?_
    rw [k_v6, k_v5]
    simp [pointwise]
    exact congrArg (kv V d main_arg10 : B Ideal S16 .f32) (congrArg ix1 (Fin.ext (by simp; omega)))
  rw [hb]
  simp only [hw, blk_rep]

theorem sen_pt (b : Fin 4) (s : Fin 2048) : (⟨sen (pt b s), sen_lt _⟩ : Fin 4) = b := Fin.ext (by unfold sen pt; simp; omega)
theorem row_pt (b : Fin 4) (s : Fin 2048) : (⟨row (pt b s) + (inB s).val, by have := row_lt (pt b s); have := (inB s).isLt; omega⟩ : Fin 2048) = s :=
  Fin.ext (by unfold row pt inB; simp; omega)

/-- The kernel's array of logits. -/
theorem k_logit (b : Fin 4) (s : Fin 2048) (a : Fin 8) (c : Fin 2) :
    (kv V d main_v11 : B Ideal S4x2048x8x2 .f32) (ix4 b s a c) = lgA V d b s a c := by
  have h0 : (kv V d main_v8_1 : B Ideal S4x2048x8 .f32) (ix3 b s a) = lgA V d b s a 0 := by
    rw [kv_out0 V d (r := main_v8_1) (by decide)]
    refine (congrFun (left13 (V1 V) d) (ix3 b s a)).trans ((out0_at _ _ _).trans ((blk_lg0 V d _ _ _).trans ?_))
    exact congrArg₂ (fun x y => lgA V d x y a 0) (sen_pt b s) (row_pt b s)
  have h1 : (kv V d main_v8_2 : B Ideal S4x2048x8 .f32) (ix3 b s a) = lgA V d b s a 1 := by
    rw [kv_out0 V d (r := main_v8_2) (by decide)]
    refine (congrFun (left14 (V1 V) d) (ix3 b s a)).trans ((out1_at _ _ _).trans ((blk_lg1 V d _ _ _).trans ?_))
    exact congrArg₂ (fun x y => lgA V d x y a 1) (sen_pt b s) (row_pt b s)
  rw [k_v11, k_v10, k_v9]
  match c with
  | 0 => rw [← h0]; simp [pointwise]
  | 1 => rw [← h1]; simp [pointwise]

/-- The kernel's array of detections. -/
theorem k_detect (b : Fin 4) (s : Fin 2048) (a : Fin 8) :
    (kv V d main_v8_3 : B Ideal S4x2048x8 .i32) (ix3 b s a) = (Ideal.cmp .ogt (lgA V d b s a 1) (lgA V d b s a 0)).setWidth 32 := by
  rw [kv_out0 V d (r := main_v8_3) (by decide)]
  refine (congrFun (left15 (V1 V) d) (ix3 b s a)).trans ((det_at _ _ _).trans ?_)
  have e0 : (blkAt (V1 V) d (pt b s)).lg0 (ix2 (inB s) a) = lgA V d b s a 0 :=
    (blk_lg0 V d _ _ _).trans (congrArg₂ (fun x y => lgA V d x y a 0) (sen_pt b s) (row_pt b s))
  have e1 : k0_pay189 (blkAt (V1 V) d (pt b s)).rep (blkAt (V1 V) d (pt b s)).wp1 (blkAt (V1 V) d (pt b s)).b1 (ix2 (inB s) a) = lgA V d b s a 1 :=
    (blk_lg1 V d _ _ _).trans (congrArg₂ (fun x y => lgA V d x y a 1) (sen_pt b s) (row_pt b s))
  exact congrArg₂ (fun x y : EReal => (Ideal.cmp .ogt x y).setWidth 32) e1 e0

/-- The reference's representation. -/
theorem r_rep (b : Fin 4) (s : Fin 2048) (l : Fin 128) :
    (rv V' d' Cert.ReferenceIdeal.main_v16 : B Ideal S4x2048x128 .f32) (ix3 b s l) =
      mixE (fun k => (rv V' d' Cert.ReferenceIdeal.main_arg1 : B Ideal S4x2048x128 .f32) (ix3 b s k)) (fun k => (rv V' d' Cert.ReferenceIdeal.main_arg2 : B Ideal S4x2048x128 .f32) (ix3 b s k))
        (fun k => (rv V' d' Cert.ReferenceIdeal.main_arg6 : B Ideal S128x128 .f32) (ix2 k l)) (fun k => (rv V' d' Cert.ReferenceIdeal.main_arg7 : B Ideal S128x128 .f32) (ix2 k l))
        ((rv V' d' Cert.ReferenceIdeal.main_arg8 : B Ideal S128 .f32) (ix1 l))
        ((rv V' d' Cert.ReferenceIdeal.main_arg1 : B Ideal S4x2048x128 .f32) (ix3 b s l)) ((rv V' d' Cert.ReferenceIdeal.main_arg2 : B Ideal S4x2048x128 .f32) (ix3 b s l)) := by
  rw [Ref.r_v16, Ref.r_v15, Ref.r_v14, Ref.r_v13, Ref.r_cst_2, Ref.r_v12, Ref.r_v11, Ref.r_v10, Ref.r_cst_1, Ref.r_v9, Ref.r_v8, Ref.r_cst_0, Ref.r_v7,
    Ref.r_v6, Ref.r_v5, Ref.r_v4, Ref.r_v3, Ref.r_v2, Ref.r_v1, Ref.r_v0]
  unfold mixE Ideal.logistic
  simp [pointwise]

/-- The reference's logits. -/
theorem r_logit (b : Fin 4) (s : Fin 2048) (a : Fin 8) (c : Fin 2) :
    (rv V' d' Cert.ReferenceIdeal.main_v58 : B Ideal S4x2048x8x2 .f32) (ix4 b s a c) =
      lgE (fun k => (rv V' d' Cert.ReferenceIdeal.main_v16 : B Ideal S4x2048x128 .f32) (ix3 b s k))
        (fun k => (rv V' d' Cert.ReferenceIdeal.main_arg9 : B Ideal S128x16 .f32) (ix2 k ⟨a.val * 2 + c.val, by omega⟩))
        ((rv V' d' Cert.ReferenceIdeal.main_arg10 : B Ideal S16 .f32) (ix1 ⟨a.val * 2 + c.val, by omega⟩)) := by
  rw [Ref.r_v58, shapeCast_apply _ _ _ (ix3 b s ⟨a.val * 2 + c.val, by omega⟩ : Cert.ReferenceIdeal.S4x2048x16.Idx) (by
    rw [Shape.rowMajor_val_three, Shape.rowMajor_val_four]; simp [ix3, ix4]; omega), Ref.r_v57, Ref.r_v56, Ref.r_v55, Ref.r_v54]
  unfold lgE
  simp [pointwise]
-- ==== Proof.Same.lean ====
/-
  The tagger's arithmetic over the reals, element by element: the gated representation and the two logits, as the kernel's
  first call leaves them and as the reference computes them.
-/
module

public import proofs.«01_k».proof.Proof.Tag

@[expose] public section

noncomputable section

namespace Cert.Proof.Span

open Cert.KernelIdeal Cert.KernelIdeal.Gen
open Idealize.ShloMosaic Idealize.ShloMosaic.StableHlo Idealize.ShloMosaic.TcCoe
open Cert.Proof.Line
open Cert.Proof.Ref (rv)
open scoped BigOperators

attribute [local irreducible] kv rv VF

variable (V : Dev nD → Valuation τ sig (Elt Ideal)) (d : Dev nD)
variable (V' : Dev Cert.ReferenceIdeal.nD → Valuation Cert.ReferenceIdeal.τ Cert.ReferenceIdeal.sig (Elt Ideal)) (d' : Dev Cert.ReferenceIdeal.nD)

/-- The two programs' arguments are the same. -/
def Agree : Prop :=
  @Eq (B Ideal S4x2048 .f32) (rv V' d' Cert.ReferenceIdeal.main_arg0) (kv V d main_arg0) ∧
  @Eq (B Ideal S4x2048x128 .f32) (rv V' d' Cert.ReferenceIdeal.main_arg1) (kv V d main_arg1) ∧
  @Eq (B Ideal S4x2048x128 .f32) (rv V' d' Cert.ReferenceIdeal.main_arg2) (kv V d main_arg2) ∧
  @Eq (B Ideal S4x2048x8x2 .f32) (rv V' d' Cert.ReferenceIdeal.main_arg3) (kv V d main_arg3) ∧
  @Eq (B Ideal S4x2048x8 .i32) (rv V' d' Cert.ReferenceIdeal.main_arg4) (kv V d main_arg4) ∧
  @Eq (B Ideal S4x2048x8 .i32) (rv V' d' Cert.ReferenceIdeal.main_arg5) (kv V d main_arg5) ∧
  @Eq (B Ideal S128x128 .f32) (rv V' d' Cert.ReferenceIdeal.main_arg6) (kv V d main_arg6) ∧
  @Eq (B Ideal S128x128 .f32) (rv V' d' Cert.ReferenceIdeal.main_arg7) (kv V d main_arg7) ∧
  @Eq (B Ideal S128 .f32) (rv V' d' Cert.ReferenceIdeal.main_arg8) (kv V d main_arg8) ∧
  @Eq (B Ideal S128x16 .f32) (rv V' d' Cert.ReferenceIdeal.main_arg9) (kv V d main_arg9) ∧
  @Eq (B Ideal S16 .f32) (rv V' d' Cert.ReferenceIdeal.main_arg10) (kv V d main_arg10) ∧
  @Eq (B Ideal S128x10 .f32) (rv V' d' Cert.ReferenceIdeal.main_arg11) (kv V d main_arg11) ∧
  @Eq (B Ideal S10 .f32) (rv V' d' Cert.ReferenceIdeal.main_arg12) (kv V d main_arg12) ∧
  @Eq (B Ideal S10 .f32) (rv V' d' Cert.ReferenceIdeal.main_arg13) (kv V d main_arg13)

variable {V d V' d'}

theorem Agree.a0 (A : Agree V d V' d') : @Eq (B Ideal S4x2048 .f32) (rv V' d' Cert.ReferenceIdeal.main_arg0) (kv V d main_arg0) := A.1
theorem Agree.a1 (A : Agree V d V' d') : @Eq (B Ideal S4x2048x128 .f32) (rv V' d' Cert.ReferenceIdeal.main_arg1) (kv V d main_arg1) := A.2.1
theorem Agree.a2 (A : Agree V d V' d') : @Eq (B Ideal S4x2048x128 .f32) (rv V' d' Cert.ReferenceIdeal.main_arg2) (kv V d main_arg2) := A.2.2.1
theorem Agree.a3 (A : Agree V d V' d') : @Eq (B Ideal S4x2048x8x2 .f32) (rv V' d' Cert.ReferenceIdeal.main_arg3) (kv V d main_arg3) := A.2.2.2.1
theorem Agree.a4 (A : Agree V d V' d') : @Eq (B Ideal S4x2048x8 .i32) (rv V' d' Cert.ReferenceIdeal.main_arg4) (kv V d main_arg4) := A.2.2.2.2.1
theorem Agree.a5 (A : Agree V d V' d') : @Eq (B Ideal S4x2048x8 .i32) (rv V' d' Cert.ReferenceIdeal.main_arg5) (kv V d main_arg5) := A.2.2.2.2.2.1
theorem Agree.a6 (A : Agree V d V' d') : @Eq (B Ideal S128x128 .f32) (rv V' d' Cert.ReferenceIdeal.main_arg6) (kv V d main_arg6) := A.2.2.2.2.2.2.1
theorem Agree.a7 (A : Agree V d V' d') : @Eq (B Ideal S128x128 .f32) (rv V' d' Cert.ReferenceIdeal.main_arg7) (kv V d main_arg7) := A.2.2.2.2.2.2.2.1
theorem Agree.a8 (A : Agree V d V' d') : @Eq (B Ideal S128 .f32) (rv V' d' Cert.ReferenceIdeal.main_arg8) (kv V d main_arg8) := A.2.2.2.2.2.2.2.2.1
theorem Agree.a9 (A : Agree V d V' d') : @Eq (B Ideal S128x16 .f32) (rv V' d' Cert.ReferenceIdeal.main_arg9) (kv V d main_arg9) := A.2.2.2.2.2.2.2.2.2.1
theorem Agree.a10 (A : Agree V d V' d') : @Eq (B Ideal S16 .f32) (rv V' d' Cert.ReferenceIdeal.main_arg10) (kv V d main_arg10) := A.2.2.2.2.2.2.2.2.2.2.1
theorem Agree.a11 (A : Agree V d V' d') : @Eq (B Ideal S128x10 .f32) (rv V' d' Cert.ReferenceIdeal.main_arg11) (kv V d main_arg11) := A.2.2.2.2.2.2.2.2.2.2.2.1
theorem Agree.a12 (A : Agree V d V' d') : @Eq (B Ideal S10 .f32) (rv V' d' Cert.ReferenceIdeal.main_arg12) (kv V d main_arg12) := A.2.2.2.2.2.2.2.2.2.2.2.2.1
theorem Agree.a13 (A : Agree V d V' d') : @Eq (B Ideal S10 .f32) (rv V' d' Cert.ReferenceIdeal.main_arg13) (kv V d main_arg13) := A.2.2.2.2.2.2.2.2.2.2.2.2.2

/-- The reference's representation, from the kernel's arguments. -/
theorem Agree.rep (A : Agree V d V' d') (b : Fin 4) (s : Fin 2048) (l : Fin 128) :
    (rv V' d' Cert.ReferenceIdeal.main_v16 : B Ideal S4x2048x128 .f32) (ix3 b s l) = repA V d b s l := by
  rw [r_rep, A.a1, A.a2, A.a6, A.a7, A.a8]
  rfl

/-- The reference's logits, from the kernel's arguments. -/
theorem Agree.logit (A : Agree V d V' d') (b : Fin 4) (s : Fin 2048) (a : Fin 8) (c : Fin 2) :
    (rv V' d' Cert.ReferenceIdeal.main_v58 : B Ideal S4x2048x8x2 .f32) (ix4 b s a c) = lgA V d b s a c := by
  rw [r_logit, A.a9, A.a10]
  unfold lgA
  simp only [A.rep]

/-- The two programs' logits are the same array. -/
theorem Agree.e_v11 (A : Agree V d V' d') :
    @Eq (B Ideal S4x2048x8x2 .f32) (rv V' d' Cert.ReferenceIdeal.main_v58) (kv V d main_v11) := by
  refine funext fun (i : S4x2048x8x2.Idx) => ?_
  obtain ⟨b, s, a, c, rfl⟩ := ex4 i
  rw [A.logit, k_logit]
-- ==== Proof.Chain.lean ====
/-
  The operations that the two programs have in common, in step: each array of the kernel's host code equals the reference's
  array of the same operation, because their operands do.
-/
module

public import proofs.«01_k».proof.Proof.Same

@[expose] public section

noncomputable section

namespace Cert.Proof.Span

open Cert.KernelIdeal Cert.KernelIdeal.Gen
open Idealize.ShloMosaic Idealize.ShloMosaic.StableHlo Idealize.ShloMosaic.TcCoe
open Cert.Proof.Line
open Cert.Proof.Ref (rv)

attribute [local irreducible] kv rv VF Host.reduce

/-- One function of equal operands. -/
theorem lock1 {α β : Type} {f f' : α → β} {x x' : α} {y y' : β} (hr : y' = f' x') (hk : y = f x) (hf : f' = f) (e : x' = x) : y' = y := by
  rw [hr, hk, hf, e]
theorem lock2 {α β γ : Type} {f f' : α → β → γ} {x x' : α} {z z' : β} {y y' : γ} (hr : y' = f' x' z') (hk : y = f x z) (hf : f' = f)
    (e : x' = x) (e₂ : z' = z) : y' = y := by rw [hr, hk, hf, e, e₂]
theorem lock3 {α β γ δ : Type} {f f' : α → β → γ → δ} {x x' : α} {z z' : β} {w w' : γ} {y y' : δ} (hr : y' = f' x' z' w') (hk : y = f x z w)
    (hf : f' = f) (e : x' = x) (e₂ : z' = z) (e₃ : w' = w) : y' = y := by rw [hr, hk, hf, e, e₂, e₃]

variable {V : Dev nD → Valuation τ sig (Elt Ideal)} {d : Dev nD}
variable {V' : Dev Cert.ReferenceIdeal.nD → Valuation Cert.ReferenceIdeal.τ Cert.ReferenceIdeal.sig (Elt Ideal)} {d' : Dev Cert.ReferenceIdeal.nD}
variable (A : Agree V d V' d')
include A

theorem Agree.e_cst : @Eq (B Ideal S_ .f32) (rv V' d' Cert.ReferenceIdeal.main_cst_16) (kv V d main_cst) :=
  (Ref.r_cst_16 V' d').trans (k_cst V d).symm
theorem Agree.e_v12 : @Eq (B Ideal S4x2048x8 .f32) (rv V' d' Cert.ReferenceIdeal.main_v87) (kv V d main_v12) :=
  (Ref.r_v87 V' d').trans ((congrArg₂ (fun (x : B Ideal S4x2048x8x2 .f32) (v : B Ideal S_ .f32) => (Host.reduce (FloatOps.maximumf (F := Ideal) (φ := .f32)) x v reducesTo_S4x2048x8x2_S4x2048x8_d3 h_S_ : B Ideal S4x2048x8 .f32)) (A.e_v11) (A.e_cst)).trans (k_v12 V d).symm)
theorem Agree.e_cst_0 : @Eq (B Ideal S_ .f32) (rv V' d' Cert.ReferenceIdeal.main_cst_17) (kv V d main_cst_0) :=
  (Ref.r_cst_17 V' d').trans (k_cst_0 V d).symm
theorem Agree.e_v13 : @Eq (B Ideal S4x2048x8 .f32) (rv V' d' Cert.ReferenceIdeal.main_v88) (kv V d main_v13) :=
  lock1 (Ref.r_v88 V' d') (k_v13 V d) rfl (A.e_cst_0)
theorem Agree.e_v14 : @Eq (B Ideal S4x2048x8 .f32) (rv V' d' Cert.ReferenceIdeal.main_v89) (kv V d main_v14) :=
  lock2 (Ref.r_v89 V' d') (k_v14 V d) rfl (A.e_v13) (A.e_v12)
theorem Agree.e_v15 : @Eq (B Ideal S4x2048x8x1 .f32) (rv V' d' Cert.ReferenceIdeal.main_v90) (kv V d main_v15) :=
  lock1 (Ref.r_v90 V' d') (k_v15 V d) rfl (A.e_v14)
theorem Agree.e_v16 : @Eq (B Ideal S4x2048x8x2 .f32) (rv V' d' Cert.ReferenceIdeal.main_v91) (kv V d main_v16) :=
  lock1 (Ref.r_v91 V' d') (k_v16 V d) rfl (A.e_v15)
theorem Agree.e_v17 : @Eq (B Ideal S4x2048x8x2 .f32) (rv V' d' Cert.ReferenceIdeal.main_v92) (kv V d main_v17) :=
  lock2 (Ref.r_v92 V' d') (k_v17 V d) rfl (A.e_v11) (A.e_v16)
theorem Agree.e_v18 : @Eq (B Ideal S4x2048x8x2 .f32) (rv V' d' Cert.ReferenceIdeal.main_v93) (kv V d main_v18) :=
  lock1 (Ref.r_v93 V' d') (k_v18 V d) rfl (A.e_v17)
theorem Agree.e_cst_1 : @Eq (B Ideal S_ .f32) (rv V' d' Cert.ReferenceIdeal.main_cst_18) (kv V d main_cst_1) :=
  (Ref.r_cst_18 V' d').trans (k_cst_1 V d).symm
theorem Agree.e_v19 : @Eq (B Ideal S4x2048x8 .f32) (rv V' d' Cert.ReferenceIdeal.main_v94) (kv V d main_v19) :=
  (Ref.r_v94 V' d').trans ((congrArg₂ (fun (x : B Ideal S4x2048x8x2 .f32) (v : B Ideal S_ .f32) => (Host.reduceAdd (F := Ideal) (φ := .f32) x v reducesTo_S4x2048x8x2_S4x2048x8_d3 h_S_ : B Ideal S4x2048x8 .f32)) (A.e_v18) (A.e_cst_1)).trans (k_v19 V d).symm)
theorem Agree.e_v20 : @Eq (B Ideal S4x2048x8x1 .f32) (rv V' d' Cert.ReferenceIdeal.main_v95) (kv V d main_v20) :=
  lock1 (Ref.r_v95 V' d') (k_v20 V d) rfl (A.e_v19)
theorem Agree.e_v21 : @Eq (B Ideal S4x2048x8x2 .f32) (rv V' d' Cert.ReferenceIdeal.main_v96) (kv V d main_v21) :=
  lock1 (Ref.r_v96 V' d') (k_v21 V d) rfl (A.e_v20)
theorem Agree.e_v22 : @Eq (B Ideal S4x2048x8x2 .f32) (rv V' d' Cert.ReferenceIdeal.main_v97) (kv V d main_v22) :=
  lock2 (Ref.r_v97 V' d') (k_v22 V d) rfl (A.e_v18) (A.e_v21)
theorem Agree.e_v23 : @Eq (B Ideal S4x2048x8x1 .f32) (rv V' d' Cert.ReferenceIdeal.main_v98) (kv V d main_v23) :=
  lock1 (f := (((extractStridedSlice S4x2048x8x1 ![0, 0, 0, 1] · slices_S4x2048x8x2_S4x2048x8x1_0_0_0_1)) : B Ideal S4x2048x8x2 .f32 → B Ideal S4x2048x8x1 .f32)) (f' := (((extractStridedSlice S4x2048x8x1 ![0, 0, 0, 1] · slices_S4x2048x8x2_S4x2048x8x1_0_0_0_1)) : B Ideal S4x2048x8x2 .f32 → B Ideal S4x2048x8x1 .f32)) (Ref.r_v98 V' d') (k_v23 V d) rfl (A.e_v22)
theorem Agree.e_v24 : @Eq (B Ideal S4x2048x8 .f32) (rv V' d' Cert.ReferenceIdeal.main_v99) (kv V d main_v24) :=
  (Ref.r_v99 V' d').trans ((congrArg (fun z : B Ideal S4x2048x8x1 .f32 => shapeCast S4x2048x8 z shapeCasts_S4x2048x8x1_S4x2048x8) A.e_v23).trans (k_v24 V d).symm)
theorem Agree.e_v25 : @Eq (B Ideal S4x16384 .f32) (rv V' d' Cert.ReferenceIdeal.main_v100) (kv V d main_v25) :=
  (Ref.r_v100 V' d').trans ((congrArg (fun z : B Ideal S4x2048x8 .f32 => shapeCast S4x16384 z shapeCasts_S4x2048x8_S4x16384) A.e_v24).trans (k_v25 V d).symm)
theorem Agree.e_v26 : @Eq (B Ideal S4x2048x8 .f32) (rv V' d' Cert.ReferenceIdeal.main_v101) (kv V d main_v26) :=
  lock1 (Ref.r_v101 V' d') (k_v26 V d) rfl (A.a0)
theorem Agree.e_v27 : @Eq (B Ideal S4x16384 .f32) (rv V' d' Cert.ReferenceIdeal.main_v102) (kv V d main_v27) :=
  (Ref.r_v102 V' d').trans ((congrArg (fun z : B Ideal S4x2048x8 .f32 => shapeCast S4x16384 z shapeCasts_S4x2048x8_S4x16384) A.e_v26).trans (k_v27 V d).symm)
theorem Agree.e_v28 : @Eq (B Ideal S4x16384 .f32) (rv V' d' Cert.ReferenceIdeal.main_v103) (kv V d main_v28) :=
  lock2 (Ref.r_v103 V' d') (k_v28 V d) rfl (A.e_v25) (A.e_v27)
theorem Agree.e_values : @Eq (B Ideal S4x512 .f32) (rv V' d' Cert.ReferenceIdeal.main_values) (kv V d main_values) :=
  (Ref.r_values V' d').trans ((congrArg (fun (x : B Ideal S4x16384 .f32) => ((Host.topK S4x512 1 (FloatOps.cmpfTotal (F := Ideal) (φ := .f32) .gt) x sliceFits_S4x16384_S4x512).1 : B Ideal S4x512 .f32)) (A.e_v28)).trans (k_values V d).symm)
theorem Agree.e_indices : @Eq (B Ideal S4x512 .i32) (rv V' d' Cert.ReferenceIdeal.main_indices) (kv V d main_indices) :=
  (Ref.r_indices V' d').trans ((congrArg (fun (x : B Ideal S4x16384 .f32) => ((Host.topK S4x512 1 (FloatOps.cmpfTotal (F := Ideal) (φ := .f32) .gt) x sliceFits_S4x16384_S4x512).2 : B Ideal S4x512 .i32)) (A.e_v28)).trans (k_indices V d).symm)
theorem Agree.e_v29 : @Eq (B Ideal S4x16384 .i32) (rv V' d' Cert.ReferenceIdeal.main_v104) (kv V d main_v29) :=
  (Ref.r_v104 V' d').trans ((congrArg (fun z : B Ideal S4x2048x8 .i32 => shapeCast S4x16384 z shapeCasts_S4x2048x8_S4x16384) A.a4).trans (k_v29 V d).symm)
theorem Agree.e_call0_c : @Eq (B Ideal S_ .i32) (rv V' d' Cert.ReferenceIdeal.main_call6_c) (kv V d main_call0_c) :=
  (Ref.r_call6_c V' d').trans (k_call0_c V d).symm
theorem Agree.e_call0_v0 : @Eq (B Ideal S4x512 .i32) (rv V' d' Cert.ReferenceIdeal.main_call6_v0) (kv V d main_call0_v0) :=
  lock1 (Ref.r_call6_v0 V' d') (k_call0_v0 V d) rfl (A.e_call0_c)
theorem Agree.e_call0_v1 : @Eq (B Ideal S4x512 .i1) (rv V' d' Cert.ReferenceIdeal.main_call6_v1) (kv V d main_call0_v1) :=
  lock2 (Ref.r_call6_v1 V' d') (k_call0_v1 V d) rfl (A.e_indices) (A.e_call0_v0)
theorem Agree.e_call0_c_0 : @Eq (B Ideal S_ .i32) (rv V' d' Cert.ReferenceIdeal.main_call6_c_0) (kv V d main_call0_c_0) :=
  (Ref.r_call6_c_0 V' d').trans (k_call0_c_0 V d).symm
theorem Agree.e_call0_v2 : @Eq (B Ideal S4x512 .i32) (rv V' d' Cert.ReferenceIdeal.main_call6_v2) (kv V d main_call0_v2) :=
  lock1 (Ref.r_call6_v2 V' d') (k_call0_v2 V d) rfl (A.e_call0_c_0)
theorem Agree.e_call0_v3 : @Eq (B Ideal S4x512 .i32) (rv V' d' Cert.ReferenceIdeal.main_call6_v3) (kv V d main_call0_v3) :=
  lock2 (Ref.r_call6_v3 V' d') (k_call0_v3 V d) rfl (A.e_indices) (A.e_call0_v2)
theorem Agree.e_call0_v4 : @Eq (B Ideal S4x512 .i32) (rv V' d' Cert.ReferenceIdeal.main_call6_v4) (kv V d main_call0_v4) :=
  lock3 (Ref.r_call6_v4 V' d') (k_call0_v4 V d) rfl (A.e_call0_v1) (A.e_call0_v3) (A.e_indices)
theorem Agree.e_call0_v5 : @Eq (B Ideal S4x512x1 .i32) (rv V' d' Cert.ReferenceIdeal.main_call6_v5) (kv V d main_call0_v5) :=
  (Ref.r_call6_v5 V' d').trans ((congrArg (fun z : B Ideal S4x512 .i32 => shapeCast S4x512x1 z shapeCasts_S4x512_S4x512x1) A.e_call0_v4).trans (k_call0_v5 V d).symm)
theorem Agree.e_call0_c_1 : @Eq (B Ideal S1 .i32) (rv V' d' Cert.ReferenceIdeal.main_call6_c_1) (kv V d main_call0_c_1) :=
  (Ref.r_call6_c_1 V' d').trans (k_call0_c_1 V d).symm
theorem Agree.e_call0_c_2 : @Eq (B Ideal S_ .i32) (rv V' d' Cert.ReferenceIdeal.main_call6_c_2) (kv V d main_call0_c_2) :=
  (Ref.r_call6_c_2 V' d').trans (k_call0_c_2 V d).symm
theorem Agree.e_call0_v6 : @Eq (B Ideal S4x512x1 .i32) (rv V' d' Cert.ReferenceIdeal.main_call6_v6) (kv V d main_call0_v6) :=
  lock1 (Ref.r_call6_v6 V' d') (k_call0_v6 V d) rfl (A.e_call0_c_2)
theorem Agree.e_call0_v7 : @Eq (B Ideal S4x512x1 .i1) (rv V' d' Cert.ReferenceIdeal.main_call6_v7) (kv V d main_call0_v7) :=
  lock2 (Ref.r_call6_v7 V' d') (k_call0_v7 V d) rfl (A.e_call0_v5) (A.e_call0_v6)
theorem Agree.e_call0_v8 : @Eq (B Ideal S1x1x1 .i32) (rv V' d' Cert.ReferenceIdeal.main_call6_v8) (kv V d main_call0_v8) :=
  lock1 (Ref.r_call6_v8 V' d') (k_call0_v8 V d) rfl (A.e_call0_c_1)
theorem Agree.e_call0_v9 : @Eq (B Ideal S4x512x1 .i32) (rv V' d' Cert.ReferenceIdeal.main_call6_v9) (kv V d main_call0_v9) :=
  lock1 (Ref.r_call6_v9 V' d') (k_call0_v9 V d) rfl (A.e_call0_v8)
theorem Agree.e_call0_v10 : @Eq (B Ideal S4x512x1 .i1) (rv V' d' Cert.ReferenceIdeal.main_call6_v10) (kv V d main_call0_v10) :=
  lock2 (Ref.r_call6_v10 V' d') (k_call0_v10 V d) rfl (A.e_call0_v5) (A.e_call0_v9)
theorem Agree.e_call0_v11 : @Eq (B Ideal S4x512x1 .i1) (rv V' d' Cert.ReferenceIdeal.main_call6_v11) (kv V d main_call0_v11) :=
  lock2 (Ref.r_call6_v11 V' d') (k_call0_v11 V d) rfl (A.e_call0_v7) (A.e_call0_v10)
theorem Agree.e_call0_c_3 : @Eq (B Ideal S_ .i1) (rv V' d' Cert.ReferenceIdeal.main_call6_c_3) (kv V d main_call0_c_3) :=
  (Ref.r_call6_c_3 V' d').trans (k_call0_c_3 V d).symm
theorem Agree.e_call0_v12 : @Eq (B Ideal S4x512 .i1) (rv V' d' Cert.ReferenceIdeal.main_call6_v12) (kv V d main_call0_v12) :=
  lock2 (f := (((fun x v => Host.reduce IntOp.andi x v reducesTo_S4x512x1_S4x512_d2 h_S_)) : B Ideal S4x512x1 .i1 → B Ideal S_ .i1 → B Ideal S4x512 .i1)) (f' := (((fun x v => Host.reduce IntOp.andi x v reducesTo_S4x512x1_S4x512_d2 h_S_)) : B Ideal S4x512x1 .i1 → B Ideal S_ .i1 → B Ideal S4x512 .i1)) (Ref.r_call6_v12 V' d') (k_call0_v12 V d) rfl (A.e_call0_v11) (A.e_call0_c_3)
theorem Agree.e_call0_v13 : @Eq (B Ideal S4x512 .i32) (rv V' d' Cert.ReferenceIdeal.main_call6_v13) (kv V d main_call0_v13) :=
  lock2 (f := (((fun x i => Host.gather gather_S4x16384_S4x512x1_S4x512_n_1_0_0_1_2_11 x i)) : B Ideal S4x16384 .i32 → B Ideal S4x512x1 .i32 → B Ideal S4x512 .i32)) (f' := (((fun x i => Host.gather gather_S4x16384_S4x512x1_S4x512_n_1_0_0_1_2_11 x i)) : B Ideal S4x16384 .i32 → B Ideal S4x512x1 .i32 → B Ideal S4x512 .i32)) (Ref.r_call6_v13 V' d') (k_call0_v13 V d) rfl (A.e_v29) (A.e_call0_v5)
theorem Agree.e_call0_c_4 : @Eq (B Ideal S_ .i32) (rv V' d' Cert.ReferenceIdeal.main_call6_c_4) (kv V d main_call0_c_4) :=
  (Ref.r_call6_c_4 V' d').trans (k_call0_c_4 V d).symm
theorem Agree.e_call0_v14 : @Eq (B Ideal S4x512 .i32) (rv V' d' Cert.ReferenceIdeal.main_call6_v14) (kv V d main_call0_v14) :=
  lock1 (Ref.r_call6_v14 V' d') (k_call0_v14 V d) rfl (A.e_call0_c_4)
theorem Agree.e_v30 : @Eq (B Ideal S4x512 .i32) (rv V' d' Cert.ReferenceIdeal.main_v105) (kv V d main_v30) :=
  lock3 (Ref.r_v105 V' d') (k_v30 V d) rfl (A.e_call0_v12) (A.e_call0_v13) (A.e_call0_v14)
theorem Agree.e_v31 : @Eq (B Ideal S4x16384 .i32) (rv V' d' Cert.ReferenceIdeal.main_v113) (kv V d main_v31) :=
  (Ref.r_v113 V' d').trans ((congrArg (fun z : B Ideal S4x2048x8 .i32 => shapeCast S4x16384 z shapeCasts_S4x2048x8_S4x16384) A.a5).trans (k_v31 V d).symm)
theorem Agree.e_call1_c : @Eq (B Ideal S_ .i32) (rv V' d' Cert.ReferenceIdeal.main_call8_c) (kv V d main_call1_c) :=
  (Ref.r_call8_c V' d').trans (k_call1_c V d).symm
theorem Agree.e_call1_v0 : @Eq (B Ideal S4x512 .i32) (rv V' d' Cert.ReferenceIdeal.main_call8_v0) (kv V d main_call1_v0) :=
  lock1 (Ref.r_call8_v0 V' d') (k_call1_v0 V d) rfl (A.e_call1_c)
theorem Agree.e_call1_v1 : @Eq (B Ideal S4x512 .i1) (rv V' d' Cert.ReferenceIdeal.main_call8_v1) (kv V d main_call1_v1) :=
  lock2 (Ref.r_call8_v1 V' d') (k_call1_v1 V d) rfl (A.e_indices) (A.e_call1_v0)
theorem Agree.e_call1_c_0 : @Eq (B Ideal S_ .i32) (rv V' d' Cert.ReferenceIdeal.main_call8_c_0) (kv V d main_call1_c_0) :=
  (Ref.r_call8_c_0 V' d').trans (k_call1_c_0 V d).symm
theorem Agree.e_call1_v2 : @Eq (B Ideal S4x512 .i32) (rv V' d' Cert.ReferenceIdeal.main_call8_v2) (kv V d main_call1_v2) :=
  lock1 (Ref.r_call8_v2 V' d') (k_call1_v2 V d) rfl (A.e_call1_c_0)
theorem Agree.e_call1_v3 : @Eq (B Ideal S4x512 .i32) (rv V' d' Cert.ReferenceIdeal.main_call8_v3) (kv V d main_call1_v3) :=
  lock2 (Ref.r_call8_v3 V' d') (k_call1_v3 V d) rfl (A.e_indices) (A.e_call1_v2)
theorem Agree.e_call1_v4 : @Eq (B Ideal S4x512 .i32) (rv V' d' Cert.ReferenceIdeal.main_call8_v4) (kv V d main_call1_v4) :=
  lock3 (Ref.r_call8_v4 V' d') (k_call1_v4 V d) rfl (A.e_call1_v1) (A.e_call1_v3) (A.e_indices)
theorem Agree.e_call1_v5 : @Eq (B Ideal S4x512x1 .i32) (rv V' d' Cert.ReferenceIdeal.main_call8_v5) (kv V d main_call1_v5) :=
  (Ref.r_call8_v5 V' d').trans ((congrArg (fun z : B Ideal S4x512 .i32 => shapeCast S4x512x1 z shapeCasts_S4x512_S4x512x1) A.e_call1_v4).trans (k_call1_v5 V d).symm)
theorem Agree.e_call1_c_1 : @Eq (B Ideal S1 .i32) (rv V' d' Cert.ReferenceIdeal.main_call8_c_1) (kv V d main_call1_c_1) :=
  (Ref.r_call8_c_1 V' d').trans (k_call1_c_1 V d).symm
theorem Agree.e_call1_c_2 : @Eq (B Ideal S_ .i32) (rv V' d' Cert.ReferenceIdeal.main_call8_c_2) (kv V d main_call1_c_2) :=
  (Ref.r_call8_c_2 V' d').trans (k_call1_c_2 V d).symm
theorem Agree.e_call1_v6 : @Eq (B Ideal S4x512x1 .i32) (rv V' d' Cert.ReferenceIdeal.main_call8_v6) (kv V d main_call1_v6) :=
  lock1 (Ref.r_call8_v6 V' d') (k_call1_v6 V d) rfl (A.e_call1_c_2)
theorem Agree.e_call1_v7 : @Eq (B Ideal S4x512x1 .i1) (rv V' d' Cert.ReferenceIdeal.main_call8_v7) (kv V d main_call1_v7) :=
  lock2 (Ref.r_call8_v7 V' d') (k_call1_v7 V d) rfl (A.e_call1_v5) (A.e_call1_v6)
theorem Agree.e_call1_v8 : @Eq (B Ideal S1x1x1 .i32) (rv V' d' Cert.ReferenceIdeal.main_call8_v8) (kv V d main_call1_v8) :=
  lock1 (Ref.r_call8_v8 V' d') (k_call1_v8 V d) rfl (A.e_call1_c_1)
theorem Agree.e_call1_v9 : @Eq (B Ideal S4x512x1 .i32) (rv V' d' Cert.ReferenceIdeal.main_call8_v9) (kv V d main_call1_v9) :=
  lock1 (Ref.r_call8_v9 V' d') (k_call1_v9 V d) rfl (A.e_call1_v8)
theorem Agree.e_call1_v10 : @Eq (B Ideal S4x512x1 .i1) (rv V' d' Cert.ReferenceIdeal.main_call8_v10) (kv V d main_call1_v10) :=
  lock2 (Ref.r_call8_v10 V' d') (k_call1_v10 V d) rfl (A.e_call1_v5) (A.e_call1_v9)
theorem Agree.e_call1_v11 : @Eq (B Ideal S4x512x1 .i1) (rv V' d' Cert.ReferenceIdeal.main_call8_v11) (kv V d main_call1_v11) :=
  lock2 (Ref.r_call8_v11 V' d') (k_call1_v11 V d) rfl (A.e_call1_v7) (A.e_call1_v10)
theorem Agree.e_call1_c_3 : @Eq (B Ideal S_ .i1) (rv V' d' Cert.ReferenceIdeal.main_call8_c_3) (kv V d main_call1_c_3) :=
  (Ref.r_call8_c_3 V' d').trans (k_call1_c_3 V d).symm
theorem Agree.e_call1_v12 : @Eq (B Ideal S4x512 .i1) (rv V' d' Cert.ReferenceIdeal.main_call8_v12) (kv V d main_call1_v12) :=
  lock2 (f := (((fun x v => Host.reduce IntOp.andi x v reducesTo_S4x512x1_S4x512_d2 h_S_)) : B Ideal S4x512x1 .i1 → B Ideal S_ .i1 → B Ideal S4x512 .i1)) (f' := (((fun x v => Host.reduce IntOp.andi x v reducesTo_S4x512x1_S4x512_d2 h_S_)) : B Ideal S4x512x1 .i1 → B Ideal S_ .i1 → B Ideal S4x512 .i1)) (Ref.r_call8_v12 V' d') (k_call1_v12 V d) rfl (A.e_call1_v11) (A.e_call1_c_3)
theorem Agree.e_call1_v13 : @Eq (B Ideal S4x512 .i32) (rv V' d' Cert.ReferenceIdeal.main_call8_v13) (kv V d main_call1_v13) :=
  lock2 (f := (((fun x i => Host.gather gather_S4x16384_S4x512x1_S4x512_n_1_0_0_1_2_11 x i)) : B Ideal S4x16384 .i32 → B Ideal S4x512x1 .i32 → B Ideal S4x512 .i32)) (f' := (((fun x i => Host.gather gather_S4x16384_S4x512x1_S4x512_n_1_0_0_1_2_11 x i)) : B Ideal S4x16384 .i32 → B Ideal S4x512x1 .i32 → B Ideal S4x512 .i32)) (Ref.r_call8_v13 V' d') (k_call1_v13 V d) rfl (A.e_v31) (A.e_call1_v5)
theorem Agree.e_call1_c_4 : @Eq (B Ideal S_ .i32) (rv V' d' Cert.ReferenceIdeal.main_call8_c_4) (kv V d main_call1_c_4) :=
  (Ref.r_call8_c_4 V' d').trans (k_call1_c_4 V d).symm
theorem Agree.e_call1_v14 : @Eq (B Ideal S4x512 .i32) (rv V' d' Cert.ReferenceIdeal.main_call8_v14) (kv V d main_call1_v14) :=
  lock1 (Ref.r_call8_v14 V' d') (k_call1_v14 V d) rfl (A.e_call1_c_4)
theorem Agree.e_v32 : @Eq (B Ideal S4x512 .i32) (rv V' d' Cert.ReferenceIdeal.main_v114) (kv V d main_v32) :=
  lock3 (Ref.r_v114 V' d') (k_v32 V d) rfl (A.e_call1_v12) (A.e_call1_v13) (A.e_call1_v14)
theorem Agree.e_v33 : @Eq (B Ideal S4x16384x2 .f32) (rv V' d' Cert.ReferenceIdeal.main_v138) (kv V d main_v33) :=
  (Ref.r_v138 V' d').trans ((congrArg (fun z : B Ideal S4x2048x8x2 .f32 => shapeCast S4x16384x2 z shapeCasts_S4x2048x8x2_S4x16384x2) A.a3).trans (k_v33 V d).symm)
theorem Agree.e_v34 : @Eq (B Ideal S4x512x1 .i32) (rv V' d' Cert.ReferenceIdeal.main_v139) (kv V d main_v34) :=
  lock1 (Ref.r_v139 V' d') (k_v34 V d) rfl (A.e_indices)
theorem Agree.e_call2_c : @Eq (B Ideal S_ .i32) (rv V' d' Cert.ReferenceIdeal.main_call12_c) (kv V d main_call2_c) :=
  (Ref.r_call12_c V' d').trans (k_call2_c V d).symm
theorem Agree.e_call2_v0 : @Eq (B Ideal S4x512x1 .i32) (rv V' d' Cert.ReferenceIdeal.main_call12_v0) (kv V d main_call2_v0) :=
  lock1 (Ref.r_call12_v0 V' d') (k_call2_v0 V d) rfl (A.e_call2_c)
theorem Agree.e_call2_v1 : @Eq (B Ideal S4x512x1 .i1) (rv V' d' Cert.ReferenceIdeal.main_call12_v1) (kv V d main_call2_v1) :=
  lock2 (Ref.r_call12_v1 V' d') (k_call2_v1 V d) rfl (A.e_v34) (A.e_call2_v0)
theorem Agree.e_call2_c_0 : @Eq (B Ideal S_ .i32) (rv V' d' Cert.ReferenceIdeal.main_call12_c_0) (kv V d main_call2_c_0) :=
  (Ref.r_call12_c_0 V' d').trans (k_call2_c_0 V d).symm
theorem Agree.e_call2_v2 : @Eq (B Ideal S4x512x1 .i32) (rv V' d' Cert.ReferenceIdeal.main_call12_v2) (kv V d main_call2_v2) :=
  lock1 (Ref.r_call12_v2 V' d') (k_call2_v2 V d) rfl (A.e_call2_c_0)
theorem Agree.e_call2_v3 : @Eq (B Ideal S4x512x1 .i32) (rv V' d' Cert.ReferenceIdeal.main_call12_v3) (kv V d main_call2_v3) :=
  lock2 (Ref.r_call12_v3 V' d') (k_call2_v3 V d) rfl (A.e_v34) (A.e_call2_v2)
theorem Agree.e_call2_v4 : @Eq (B Ideal S4x512x1 .i32) (rv V' d' Cert.ReferenceIdeal.main_call12_v4) (kv V d main_call2_v4) :=
  lock3 (Ref.r_call12_v4 V' d') (k_call2_v4 V d) rfl (A.e_call2_v1) (A.e_call2_v3) (A.e_v34)
theorem Agree.e_call2_c_1 : @Eq (B Ideal S1 .i32) (rv V' d' Cert.ReferenceIdeal.main_call12_c_1) (kv V d main_call2_c_1) :=
  (Ref.r_call12_c_1 V' d').trans (k_call2_c_1 V d).symm
theorem Agree.e_call2_c_2 : @Eq (B Ideal S_ .i32) (rv V' d' Cert.ReferenceIdeal.main_call12_c_2) (kv V d main_call2_c_2) :=
  (Ref.r_call12_c_2 V' d').trans (k_call2_c_2 V d).symm
theorem Agree.e_call2_v5 : @Eq (B Ideal S4x512x1 .i32) (rv V' d' Cert.ReferenceIdeal.main_call12_v5) (kv V d main_call2_v5) :=
  lock1 (Ref.r_call12_v5 V' d') (k_call2_v5 V d) rfl (A.e_call2_c_2)
theorem Agree.e_call2_v6 : @Eq (B Ideal S4x512x1 .i1) (rv V' d' Cert.ReferenceIdeal.main_call12_v6) (kv V d main_call2_v6) :=
  lock2 (Ref.r_call12_v6 V' d') (k_call2_v6 V d) rfl (A.e_call2_v4) (A.e_call2_v5)
theorem Agree.e_call2_v7 : @Eq (B Ideal S1x1x1 .i32) (rv V' d' Cert.ReferenceIdeal.main_call12_v7) (kv V d main_call2_v7) :=
  lock1 (Ref.r_call12_v7 V' d') (k_call2_v7 V d) rfl (A.e_call2_c_1)
theorem Agree.e_call2_v8 : @Eq (B Ideal S4x512x1 .i32) (rv V' d' Cert.ReferenceIdeal.main_call12_v8) (kv V d main_call2_v8) :=
  lock1 (Ref.r_call12_v8 V' d') (k_call2_v8 V d) rfl (A.e_call2_v7)
theorem Agree.e_call2_v9 : @Eq (B Ideal S4x512x1 .i1) (rv V' d' Cert.ReferenceIdeal.main_call12_v9) (kv V d main_call2_v9) :=
  lock2 (Ref.r_call12_v9 V' d') (k_call2_v9 V d) rfl (A.e_call2_v4) (A.e_call2_v8)
theorem Agree.e_call2_v10 : @Eq (B Ideal S4x512x1 .i1) (rv V' d' Cert.ReferenceIdeal.main_call12_v10) (kv V d main_call2_v10) :=
  lock2 (Ref.r_call12_v10 V' d') (k_call2_v10 V d) rfl (A.e_call2_v6) (A.e_call2_v9)
theorem Agree.e_call2_c_3 : @Eq (B Ideal S_ .i1) (rv V' d' Cert.ReferenceIdeal.main_call12_c_3) (kv V d main_call2_c_3) :=
  (Ref.r_call12_c_3 V' d').trans (k_call2_c_3 V d).symm
theorem Agree.e_call2_v11 : @Eq (B Ideal S4x512 .i1) (rv V' d' Cert.ReferenceIdeal.main_call12_v11) (kv V d main_call2_v11) :=
  lock2 (f := (((fun x v => Host.reduce IntOp.andi x v reducesTo_S4x512x1_S4x512_d2 h_S_)) : B Ideal S4x512x1 .i1 → B Ideal S_ .i1 → B Ideal S4x512 .i1)) (f' := (((fun x v => Host.reduce IntOp.andi x v reducesTo_S4x512x1_S4x512_d2 h_S_)) : B Ideal S4x512x1 .i1 → B Ideal S_ .i1 → B Ideal S4x512 .i1)) (Ref.r_call12_v11 V' d') (k_call2_v11 V d) rfl (A.e_call2_v10) (A.e_call2_c_3)
theorem Agree.e_call2_v12 : @Eq (B Ideal S4x512x2 .f32) (rv V' d' Cert.ReferenceIdeal.main_call12_v12) (kv V d main_call2_v12) :=
  lock2 (f := (((fun x i => Host.gather gather_S4x16384x2_S4x512x1_S4x512x2_2_1_0_0_1_2_112 x i)) : B Ideal S4x16384x2 .f32 → B Ideal S4x512x1 .i32 → B Ideal S4x512x2 .f32)) (f' := (((fun x i => Host.gather gather_S4x16384x2_S4x512x1_S4x512x2_2_1_0_0_1_2_112 x i)) : B Ideal S4x16384x2 .f32 → B Ideal S4x512x1 .i32 → B Ideal S4x512x2 .f32)) (Ref.r_call12_v12 V' d') (k_call2_v12 V d) rfl (A.e_v33) (A.e_call2_v4)
theorem Agree.e_call2_v13 : @Eq (B Ideal S4x512x2 .i1) (rv V' d' Cert.ReferenceIdeal.main_call12_v13) (kv V d main_call2_v13) :=
  lock1 (Ref.r_call12_v13 V' d') (k_call2_v13 V d) rfl (A.e_call2_v11)
theorem Agree.e_call2_cst : @Eq (B Ideal S_ .f32) (rv V' d' Cert.ReferenceIdeal.main_call12_cst) (kv V d main_call2_cst) :=
  (Ref.r_call12_cst V' d').trans (k_call2_cst V d).symm
theorem Agree.e_call2_v14 : @Eq (B Ideal S4x512x2 .f32) (rv V' d' Cert.ReferenceIdeal.main_call12_v14) (kv V d main_call2_v14) :=
  lock1 (Ref.r_call12_v14 V' d') (k_call2_v14 V d) rfl (A.e_call2_cst)
theorem Agree.e_v35 : @Eq (B Ideal S4x512x2 .f32) (rv V' d' Cert.ReferenceIdeal.main_v140) (kv V d main_v35) :=
  lock3 (Ref.r_v140 V' d') (k_v35 V d) rfl (A.e_call2_v13) (A.e_call2_v12) (A.e_call2_v14)
theorem Agree.e_v36 : @Eq (B Ideal S2048 .i32) (rv V' d' Cert.ReferenceIdeal.main_v20) (kv V d main_v36) :=
  (Ref.r_v20 V' d').trans (k_v36 V d).symm
theorem Agree.e_v37 : @Eq (B Ideal S2048x1 .i32) (rv V' d' Cert.ReferenceIdeal.main_v21) (kv V d main_v37) :=
  lock1 (Ref.r_v21 V' d') (k_v37 V d) rfl (A.e_v36)
theorem Agree.e_v38 : @Eq (B Ideal S8 .i32) (rv V' d' Cert.ReferenceIdeal.main_v22) (kv V d main_v38) :=
  (Ref.r_v22 V' d').trans (k_v38 V d).symm
theorem Agree.e_c : @Eq (B Ideal S_ .i32) (rv V' d' Cert.ReferenceIdeal.main_c) (kv V d main_c) :=
  (Ref.r_c V' d').trans (k_c V d).symm
theorem Agree.e_v39 : @Eq (B Ideal S8 .i32) (rv V' d' Cert.ReferenceIdeal.main_v23) (kv V d main_v39) :=
  lock1 (Ref.r_v23 V' d') (k_v39 V d) rfl (A.e_c)
theorem Agree.e_v40 : @Eq (B Ideal S8 .i32) (rv V' d' Cert.ReferenceIdeal.main_v24) (kv V d main_v40) :=
  lock2 (Ref.r_v24 V' d') (k_v40 V d) rfl (A.e_v39) (A.e_v38)
theorem Agree.e_v41 : @Eq (B Ideal S1x8 .i32) (rv V' d' Cert.ReferenceIdeal.main_v25) (kv V d main_v41) :=
  lock1 (Ref.r_v25 V' d') (k_v41 V d) rfl (A.e_v40)
theorem Agree.e_v42 : @Eq (B Ideal S2048x8 .i32) (rv V' d' Cert.ReferenceIdeal.main_v26) (kv V d main_v42) :=
  lock1 (Ref.r_v26 V' d') (k_v42 V d) rfl (A.e_v37)
theorem Agree.e_v43 : @Eq (B Ideal S2048x8 .i32) (rv V' d' Cert.ReferenceIdeal.main_v27) (kv V d main_v43) :=
  lock1 (Ref.r_v27 V' d') (k_v43 V d) rfl (A.e_v41)
theorem Agree.e_v44 : @Eq (B Ideal S2048x8 .i32) (rv V' d' Cert.ReferenceIdeal.main_v28) (kv V d main_v44) :=
  lock2 (Ref.r_v28 V' d') (k_v44 V d) rfl (A.e_v42) (A.e_v43)
theorem Agree.e_c_2 : @Eq (B Ideal S_ .i32) (rv V' d' Cert.ReferenceIdeal.main_c_4) (kv V d main_c_2) :=
  (Ref.r_c_4 V' d').trans (k_c_2 V d).symm
theorem Agree.e_call3_v0 : @Eq (B Ideal S_ .i32) (rv V' d' Cert.ReferenceIdeal.main_call1_v0) (kv V d main_call3_v0) :=
  lock1 (Ref.r_call1_v0 V' d') (k_call3_v0 V d) rfl (A.e_c_2)
theorem Agree.e_call3_v1 : @Eq (B Ideal S2048x8 .i32) (rv V' d' Cert.ReferenceIdeal.main_call1_v1) (kv V d main_call3_v1) :=
  lock1 (Ref.r_call1_v1 V' d') (k_call3_v1 V d) rfl (A.e_call3_v0)
theorem Agree.e_v45 : @Eq (B Ideal S2048x8 .i32) (rv V' d' Cert.ReferenceIdeal.main_v29) (kv V d main_v45) :=
  lock2 (Ref.r_v29 V' d') (k_v45 V d) rfl (A.e_call3_v1) (A.e_v44)
theorem Agree.e_v46 : @Eq (B Ideal S2048x1 .i32) (rv V' d' Cert.ReferenceIdeal.main_v30) (kv V d main_v46) :=
  lock1 (Ref.r_v30 V' d') (k_v46 V d) rfl (A.e_v36)
theorem Agree.e_v47 : @Eq (B Ideal S2048x8 .i32) (rv V' d' Cert.ReferenceIdeal.main_v31) (kv V d main_v47) :=
  lock1 (Ref.r_v31 V' d') (k_v47 V d) rfl (A.e_v46)
theorem Agree.e_v48 : @Eq (B Ideal S2048x8 .i32) (rv V' d' Cert.ReferenceIdeal.main_v32) (kv V d main_v48) :=
  lock2 (Ref.r_v32 V' d') (k_v48 V d) rfl (A.e_v45) (A.e_v47)
theorem Agree.e_v49 : @Eq (B Ideal S2048x8 .f32) (rv V' d' Cert.ReferenceIdeal.main_v33) (kv V d main_v49) :=
  lock1 (Ref.r_v33 V' d') (k_v49 V d) rfl (A.e_v48)
theorem Agree.e_v50 : @Eq (B Ideal S1x16384 .f32) (rv V' d' Cert.ReferenceIdeal.main_v141) (kv V d main_v50) :=
  (Ref.r_v141 V' d').trans ((congrArg (fun z : B Ideal S2048x8 .f32 => shapeCast S1x16384 z shapeCasts_S2048x8_S1x16384) A.e_v49).trans (k_v50 V d).symm)
theorem Agree.e_v51 : @Eq (B Ideal S1x1x1x16384 .f32) (rv V' d' Cert.ReferenceIdeal.main_v142) (kv V d main_v51) :=
  (Ref.r_v142 V' d').trans ((congrArg (fun z : B Ideal S1x16384 .f32 => shapeCast S1x1x1x16384 z shapeCasts_S1x16384_S1x1x1x16384) A.e_v50).trans (k_v51 V d).symm)
theorem Agree.e_v52 : @Eq (B Ideal S4x1x1x16384 .f32) (rv V' d' Cert.ReferenceIdeal.main_v143) (kv V d main_v52) :=
  lock1 (Ref.r_v143 V' d') (k_v52 V d) rfl (A.e_v51)
theorem Agree.e_v53 : @Eq (B Ideal S4x16384 .f32) (rv V' d' Cert.ReferenceIdeal.main_v144) (kv V d main_v53) :=
  (Ref.r_v144 V' d').trans ((congrArg (fun z : B Ideal S4x1x1x16384 .f32 => shapeCast S4x16384 z shapeCasts_S4x1x1x16384_S4x16384) A.e_v52).trans (k_v53 V d).symm)
theorem Agree.e_call4_c : @Eq (B Ideal S_ .i32) (rv V' d' Cert.ReferenceIdeal.main_call13_c) (kv V d main_call4_c) :=
  (Ref.r_call13_c V' d').trans (k_call4_c V d).symm
theorem Agree.e_call4_v0 : @Eq (B Ideal S4x512 .i32) (rv V' d' Cert.ReferenceIdeal.main_call13_v0) (kv V d main_call4_v0) :=
  lock1 (Ref.r_call13_v0 V' d') (k_call4_v0 V d) rfl (A.e_call4_c)
theorem Agree.e_call4_v1 : @Eq (B Ideal S4x512 .i1) (rv V' d' Cert.ReferenceIdeal.main_call13_v1) (kv V d main_call4_v1) :=
  lock2 (Ref.r_call13_v1 V' d') (k_call4_v1 V d) rfl (A.e_indices) (A.e_call4_v0)
theorem Agree.e_call4_c_0 : @Eq (B Ideal S_ .i32) (rv V' d' Cert.ReferenceIdeal.main_call13_c_0) (kv V d main_call4_c_0) :=
  (Ref.r_call13_c_0 V' d').trans (k_call4_c_0 V d).symm
theorem Agree.e_call4_v2 : @Eq (B Ideal S4x512 .i32) (rv V' d' Cert.ReferenceIdeal.main_call13_v2) (kv V d main_call4_v2) :=
  lock1 (Ref.r_call13_v2 V' d') (k_call4_v2 V d) rfl (A.e_call4_c_0)
theorem Agree.e_call4_v3 : @Eq (B Ideal S4x512 .i32) (rv V' d' Cert.ReferenceIdeal.main_call13_v3) (kv V d main_call4_v3) :=
  lock2 (Ref.r_call13_v3 V' d') (k_call4_v3 V d) rfl (A.e_indices) (A.e_call4_v2)
theorem Agree.e_call4_v4 : @Eq (B Ideal S4x512 .i32) (rv V' d' Cert.ReferenceIdeal.main_call13_v4) (kv V d main_call4_v4) :=
  lock3 (Ref.r_call13_v4 V' d') (k_call4_v4 V d) rfl (A.e_call4_v1) (A.e_call4_v3) (A.e_indices)
theorem Agree.e_call4_v5 : @Eq (B Ideal S4x512x1 .i32) (rv V' d' Cert.ReferenceIdeal.main_call13_v5) (kv V d main_call4_v5) :=
  (Ref.r_call13_v5 V' d').trans ((congrArg (fun z : B Ideal S4x512 .i32 => shapeCast S4x512x1 z shapeCasts_S4x512_S4x512x1) A.e_call4_v4).trans (k_call4_v5 V d).symm)
theorem Agree.e_call4_c_1 : @Eq (B Ideal S1 .i32) (rv V' d' Cert.ReferenceIdeal.main_call13_c_1) (kv V d main_call4_c_1) :=
  (Ref.r_call13_c_1 V' d').trans (k_call4_c_1 V d).symm
theorem Agree.e_call4_c_2 : @Eq (B Ideal S_ .i32) (rv V' d' Cert.ReferenceIdeal.main_call13_c_2) (kv V d main_call4_c_2) :=
  (Ref.r_call13_c_2 V' d').trans (k_call4_c_2 V d).symm
theorem Agree.e_call4_v6 : @Eq (B Ideal S4x512x1 .i32) (rv V' d' Cert.ReferenceIdeal.main_call13_v6) (kv V d main_call4_v6) :=
  lock1 (Ref.r_call13_v6 V' d') (k_call4_v6 V d) rfl (A.e_call4_c_2)
theorem Agree.e_call4_v7 : @Eq (B Ideal S4x512x1 .i1) (rv V' d' Cert.ReferenceIdeal.main_call13_v7) (kv V d main_call4_v7) :=
  lock2 (Ref.r_call13_v7 V' d') (k_call4_v7 V d) rfl (A.e_call4_v5) (A.e_call4_v6)
theorem Agree.e_call4_v8 : @Eq (B Ideal S1x1x1 .i32) (rv V' d' Cert.ReferenceIdeal.main_call13_v8) (kv V d main_call4_v8) :=
  lock1 (Ref.r_call13_v8 V' d') (k_call4_v8 V d) rfl (A.e_call4_c_1)
theorem Agree.e_call4_v9 : @Eq (B Ideal S4x512x1 .i32) (rv V' d' Cert.ReferenceIdeal.main_call13_v9) (kv V d main_call4_v9) :=
  lock1 (Ref.r_call13_v9 V' d') (k_call4_v9 V d) rfl (A.e_call4_v8)
theorem Agree.e_call4_v10 : @Eq (B Ideal S4x512x1 .i1) (rv V' d' Cert.ReferenceIdeal.main_call13_v10) (kv V d main_call4_v10) :=
  lock2 (Ref.r_call13_v10 V' d') (k_call4_v10 V d) rfl (A.e_call4_v5) (A.e_call4_v9)
theorem Agree.e_call4_v11 : @Eq (B Ideal S4x512x1 .i1) (rv V' d' Cert.ReferenceIdeal.main_call13_v11) (kv V d main_call4_v11) :=
  lock2 (Ref.r_call13_v11 V' d') (k_call4_v11 V d) rfl (A.e_call4_v7) (A.e_call4_v10)
theorem Agree.e_call4_c_3 : @Eq (B Ideal S_ .i1) (rv V' d' Cert.ReferenceIdeal.main_call13_c_3) (kv V d main_call4_c_3) :=
  (Ref.r_call13_c_3 V' d').trans (k_call4_c_3 V d).symm
theorem Agree.e_call4_v12 : @Eq (B Ideal S4x512 .i1) (rv V' d' Cert.ReferenceIdeal.main_call13_v12) (kv V d main_call4_v12) :=
  lock2 (f := (((fun x v => Host.reduce IntOp.andi x v reducesTo_S4x512x1_S4x512_d2 h_S_)) : B Ideal S4x512x1 .i1 → B Ideal S_ .i1 → B Ideal S4x512 .i1)) (f' := (((fun x v => Host.reduce IntOp.andi x v reducesTo_S4x512x1_S4x512_d2 h_S_)) : B Ideal S4x512x1 .i1 → B Ideal S_ .i1 → B Ideal S4x512 .i1)) (Ref.r_call13_v12 V' d') (k_call4_v12 V d) rfl (A.e_call4_v11) (A.e_call4_c_3)
theorem Agree.e_call4_v13 : @Eq (B Ideal S4x512 .f32) (rv V' d' Cert.ReferenceIdeal.main_call13_v13) (kv V d main_call4_v13) :=
  lock2 (f := (((fun x i => Host.gather gather_S4x16384_S4x512x1_S4x512_n_1_0_0_1_2_11 x i)) : B Ideal S4x16384 .f32 → B Ideal S4x512x1 .i32 → B Ideal S4x512 .f32)) (f' := (((fun x i => Host.gather gather_S4x16384_S4x512x1_S4x512_n_1_0_0_1_2_11 x i)) : B Ideal S4x16384 .f32 → B Ideal S4x512x1 .i32 → B Ideal S4x512 .f32)) (Ref.r_call13_v13 V' d') (k_call4_v13 V d) rfl (A.e_v53) (A.e_call4_v5)
theorem Agree.e_call4_cst : @Eq (B Ideal S_ .f32) (rv V' d' Cert.ReferenceIdeal.main_call13_cst) (kv V d main_call4_cst) :=
  (Ref.r_call13_cst V' d').trans (k_call4_cst V d).symm
theorem Agree.e_call4_v14 : @Eq (B Ideal S4x512 .f32) (rv V' d' Cert.ReferenceIdeal.main_call13_v14) (kv V d main_call4_v14) :=
  lock1 (Ref.r_call13_v14 V' d') (k_call4_v14 V d) rfl (A.e_call4_cst)
theorem Agree.e_v54 : @Eq (B Ideal S4x512 .f32) (rv V' d' Cert.ReferenceIdeal.main_v145) (kv V d main_v54) :=
  lock3 (Ref.r_v145 V' d') (k_v54 V d) rfl (A.e_call4_v12) (A.e_call4_v13) (A.e_call4_v14)
theorem Agree.e_cst_4 : @Eq (B Ideal S_ .f32) (rv V' d' Cert.ReferenceIdeal.main_cst_26) (kv V d main_cst_4) :=
  (Ref.r_cst_26 V' d').trans (k_cst_4 V d).symm
theorem Agree.e_v68 : @Eq (B Ideal S4x512 .f32) (rv V' d' Cert.ReferenceIdeal.main_v150) (kv V d main_v68) :=
  lock1 (Ref.r_v150 V' d') (k_v68 V d) rfl (A.e_cst_4)
-- ==== Proof.Argmax.lean ====
/-
  The reference's arg-max along the last axis: over the extended reals it is the least place of the greatest value.
-/
module

public import proofs.«01_k».proof.Proof.Chain

@[expose] public section

noncomputable section

namespace Cert.Proof.Span

open Cert.KernelIdeal Cert.KernelIdeal.Gen
open Idealize.ShloMosaic Idealize.ShloMosaic.StableHlo Idealize.ShloMosaic.TcCoe
open Cert.Proof.Line
open Cert.Proof.Ref (rv)

/-- `p` is before `q` in the arg-max's order: a greater value, or the same value at a place not after. -/
def ge2 (p q : EReal × BitVec 32) : Prop := q.1 < p.1 ∨ (p.1 = q.1 ∧ p.2.toInt ≤ q.2.toInt)

theorem ge2_refl (p : EReal × BitVec 32) : ge2 p p := Or.inr ⟨rfl, le_refl _⟩
theorem ge2_trans {p q r : EReal × BitVec 32} (h : ge2 p q) (h' : ge2 q r) : ge2 p r := by
  rcases h with h | ⟨h, k⟩ <;> rcases h' with h' | ⟨h', k'⟩
  · exact Or.inl (h'.trans h)
  · exact Or.inl (h' ▸ h)
  · exact Or.inl (h ▸ h')
  · exact Or.inr ⟨h.trans h', k.trans k'⟩
theorem ge2_antisymm {p q : EReal × BitVec 32} (h : ge2 p q) (h' : ge2 q p) : p = q := by
  rcases h with h | ⟨h, k⟩ <;> rcases h' with h' | ⟨h', k'⟩
  · exact absurd (h.trans h') (lt_irrefl _)
  · exact absurd h (h' ▸ lt_irrefl _)
  · exact absurd h' (h ▸ lt_irrefl _)
  · exact Prod.ext h (BitVec.eq_of_toInt_eq (le_antisymm k k'))

/-- One step of the arg-max keeps one of the two pairs, one that is before both. -/
theorem step2 (a b : EReal × BitVec 32) :
    (Cert.ReferenceIdeal.reducer_argmax_f32_i32 (F := Ideal) a b = a ∨ Cert.ReferenceIdeal.reducer_argmax_f32_i32 (F := Ideal) a b = b) ∧
      ge2 (Cert.ReferenceIdeal.reducer_argmax_f32_i32 (F := Ideal) a b) a ∧ ge2 (Cert.ReferenceIdeal.reducer_argmax_f32_i32 (F := Ideal) a b) b := by
  obtain ⟨x, i⟩ := a
  obtain ⟨y, j⟩ := b
  rcases lt_trichotomy y x with h | h | h
  · have e : Cert.ReferenceIdeal.reducer_argmax_f32_i32 (F := Ideal) (x, i) (y, j) = (x, i) := by
      simp [Cert.ReferenceIdeal.reducer_argmax_f32_i32, Ideal.cmpf_def, Ideal.cmp, h, h.ne', IntOp.ori, IntOp.andi, Scalar.select]
    rw [e]; exact ⟨Or.inl rfl, ge2_refl _, Or.inl h⟩
  · subst h
    by_cases hij : i.toInt < j.toInt
    · have e : Cert.ReferenceIdeal.reducer_argmax_f32_i32 (F := Ideal) (y, i) (y, j) = (y, i) := by
        simp [Cert.ReferenceIdeal.reducer_argmax_f32_i32, Ideal.cmpf_def, Ideal.cmp, IntOp.ori, IntOp.andi, Scalar.select, IntOp.cmpi, BitVec.slt, hij]
      rw [e]; exact ⟨Or.inl rfl, ge2_refl _, Or.inr ⟨rfl, hij.le⟩⟩
    · have e : Cert.ReferenceIdeal.reducer_argmax_f32_i32 (F := Ideal) (y, i) (y, j) = (y, j) := by
        simp [Cert.ReferenceIdeal.reducer_argmax_f32_i32, Ideal.cmpf_def, Ideal.cmp, IntOp.ori, IntOp.andi, Scalar.select, IntOp.cmpi, BitVec.slt, hij]
      rw [e]; exact ⟨Or.inr rfl, Or.inr ⟨rfl, not_lt.mp hij⟩, ge2_refl _⟩
  · have e : Cert.ReferenceIdeal.reducer_argmax_f32_i32 (F := Ideal) (x, i) (y, j) = (y, j) := by
      simp [Cert.ReferenceIdeal.reducer_argmax_f32_i32, Ideal.cmpf_def, Ideal.cmp, h.ne, h.not_gt, IntOp.ori, IntOp.andi, Scalar.select]
    rw [e]; exact ⟨Or.inr rfl, Or.inl h, ge2_refl _⟩

/-- A fold of steps keeps one of the pairs, one that is before all. -/
theorem fold2 {ι : Type} (f : EReal × BitVec 32 → EReal × BitVec 32 → EReal × BitVec 32)
    (hf : ∀ a b, (f a b = a ∨ f a b = b) ∧ ge2 (f a b) a ∧ ge2 (f a b) b) (g : ι → EReal × BitVec 32) :
    ∀ (l : List ι) (p : EReal × BitVec 32),
      ((l.foldl (fun r n => f r (g n)) p = p) ∨ ∃ n ∈ l, l.foldl (fun r n => f r (g n)) p = g n) ∧
        ge2 (l.foldl (fun r n => f r (g n)) p) p ∧ ∀ n ∈ l, ge2 (l.foldl (fun r n => f r (g n)) p) (g n)
  | [], p => ⟨Or.inl rfl, ge2_refl _, fun n hn => absurd hn (List.not_mem_nil)⟩
  | m :: l, p => by
    obtain ⟨h1, h2, h3⟩ := fold2 f hf g l (f p (g m))
    obtain ⟨k1, k2, k3⟩ := hf p (g m)
    rw [List.foldl_cons]
    refine ⟨?_, ge2_trans h2 k2, fun n hn => ?_⟩
    · rcases h1 with h1 | ⟨n, hn, h1⟩
      · rcases k1 with k1 | k1
        · exact Or.inl (h1.trans k1)
        · exact Or.inr ⟨m, List.mem_cons_self, h1.trans k1⟩
      · exact Or.inr ⟨n, List.mem_cons_of_mem _ hn, h1⟩
    · rcases List.mem_cons.mp hn with rfl | hn
      · exact ge2_trans h2 k3
      · exact h3 n hn

theorem bot_word : Ideal.ofBits .f32 0xFF800000#32 = ⊥ := by simp [Ideal.ofBits, Ideal.ieee]

/-- The arg-max along the last of four axes is the least place of the greatest value. -/
theorem argmax_last {n0 n1 n2 n3 : ℕ} (hn : n3 < 2 ^ 31) (x : (⟨4, ![n0, n1, n2, n3]⟩ : Shape).Idx → EReal) {u : Shape}
    (y : (⟨4, ![n0, n1, n2, n3]⟩ : Shape).Idx → BitVec 32) (hy : ∀ b s a k, y (ix4 b s a k) = BitVec.ofNat 32 k.val)
    (ix : u.Idx → EReal) (iy : u.Idx → BitVec 32) (hx : ∀ j, ix j = ⊥) (hy0 : ∀ j, iy j = 0#32)
    (h : (⟨4, ![n0, n1, n2, n3]⟩ : Shape).ReducesTo [3] ⟨3, ![n0, n1, n2]⟩) (hu : 0 < u.numel) (b : Fin n0) (s : Fin n1) (a : Fin n2) (i : Fin n3)
    (hi : ∀ k, x (ix4 b s a k) < x (ix4 b s a i) ∨ (x (ix4 b s a i) = x (ix4 b s a k) ∧ i ≤ k)) :
    (Host.argReduce (F := Ideal) (φ := .f32) Cert.ReferenceIdeal.reducer_argmax_f32_i32 x y ix iy h hu (ix3 b s a)).2 = BitVec.ofNat 32 i.val := by
  rw [Ideal.argReduce_eq_reduce2]
  unfold Host.reduce2
  obtain ⟨h1, h2, h3⟩ := fold2 (Cert.ReferenceIdeal.reducer_argmax_f32_i32 (F := Ideal)) step2 (fun n => (x ((⟨4, ![n0, n1, n2, n3]⟩ : Shape).rowMajor.symm n), y ((⟨4, ![n0, n1, n2, n3]⟩ : Shape).rowMajor.symm n)))
    ((List.finRange (⟨4, ![n0, n1, n2, n3]⟩ : Shape).numel).filter fun n => h.drop ((⟨4, ![n0, n1, n2, n3]⟩ : Shape).rowMajor.symm n) = ix3 b s a)
    (ix (Shape.Idx.first hu), iy (Shape.Idx.first hu))
  generalize hR : List.foldl _ _ _ = R at h1 h2 h3 ⊢
  have toI : ∀ k : Fin n3, (BitVec.ofNat 32 k.val).toInt = (k.val : ℤ) := fun k => by
    have := k.isLt
    rw [BitVec.toInt_eq_toNat_of_lt (by rw [BitVec.toNat_ofNat]; omega), BitVec.toNat_ofNat]; omega
  have hall : ∀ k : Fin n3, ge2 R (x (ix4 b s a k), BitVec.ofNat 32 k.val) := fun k => by
    have := h3 ((⟨4, ![n0, n1, n2, n3]⟩ : Shape).rowMajor (ix4 b s a k)) (by
      rw [List.mem_filter]
      refine ⟨List.mem_finRange _, ?_⟩
      rw [Equiv.symm_apply_apply]
      exact decide_eq_true ((h.fiber_r4_a3 (ix3 b s a) _).mpr ⟨k, rfl⟩))
    rw [Equiv.symm_apply_apply, hy] at this
    exact this
  have hbest : ∀ k : Fin n3, ge2 (x (ix4 b s a i), BitVec.ofNat 32 i.val) (x (ix4 b s a k), BitVec.ofNat 32 k.val) := fun k => by
    rcases hi k with h | ⟨h, h'⟩
    · exact Or.inl h
    · exact Or.inr ⟨h, by show (BitVec.ofNat 32 i.val).toInt ≤ (BitVec.ofNat 32 k.val).toInt; rw [toI, toI]; exact_mod_cast h'⟩
  have hto : ge2 (x (ix4 b s a i), BitVec.ofNat 32 i.val) R := by
    rcases h1 with h1 | ⟨n, hn, h1⟩
    · rw [hx, hy0] at h1
      have hb := hall i
      rw [h1] at hb ⊢
      rcases hb with hb | ⟨hb, hb'⟩
      · exact absurd hb not_lt_bot
      · have e : i.val = 0 := by
          rcases hi ⟨0, by have := i.isLt; omega⟩ with h0 | ⟨_, h0⟩
          · exact absurd (show _ < (⊥ : EReal) from lt_of_lt_of_eq h0 hb.symm) not_lt_bot
          · exact Nat.le_zero.mp h0
        exact Or.inr ⟨hb.symm, by show (BitVec.ofNat 32 i.val).toInt ≤ (0#32).toInt; rw [e]⟩
    · rw [List.mem_filter] at hn
      obtain ⟨k, hk⟩ := (h.fiber_r4_a3 (ix3 b s a) _).mp (of_decide_eq_true hn.2)
      rw [h1]
      show ge2 _ (x ((⟨4, ![n0, n1, n2, n3]⟩ : Shape).rowMajor.symm n), y ((⟨4, ![n0, n1, n2, n3]⟩ : Shape).rowMajor.symm n))
      rw [← hk]
      have := hbest k
      rw [← hy b s a k] at this
      exact this
  rw [← ge2_antisymm hto (hall i)]

variable {V : Dev nD → Valuation τ sig (Elt Ideal)} {d : Dev nD}
variable {V' : Dev Cert.ReferenceIdeal.nD → Valuation Cert.ReferenceIdeal.τ Cert.ReferenceIdeal.sig (Elt Ideal)} {d' : Dev Cert.ReferenceIdeal.nD}
variable (A : Agree V d V' d')
include A

/-- Where the mask is one, the reference's detection is the kernel's. -/
theorem Agree.detect (hm : ∀ b s, (kv V d main_arg0 : B Ideal S4x2048 .f32) (ix2 b s) = (1 : EReal)) :
    @Eq (B Ideal S4x2048x8 .i32) (rv V' d' Cert.ReferenceIdeal.main_v63) (kv V d main_v8_3) := by
  refine funext fun (i : S4x2048x8.Idx) => ?_
  obtain ⟨b, s, a, rfl⟩ := ex3 i
  have hsel : (rv V' d' Cert.ReferenceIdeal.main_call3_v1 : B Ideal S4x2048x8 .i1) (ix3 b s a) = 1#1 := by
    rw [Ref.r_call3_v1, Ref.r_v61, Ref.r_v60, Ref.r_v59, Ref.r_cst_9, A.a0]
    simp [pointwise, hm, Ideal.cmp]
  have hmax : (rv V' d' Cert.ReferenceIdeal.main_v62 : B Ideal S4x2048x8 .i32) (ix3 b s a) = (kv V d main_v8_3 : B Ideal S4x2048x8 .i32) (ix3 b s a) := by
    rw [k_detect, Ref.r_v62]
    have hx : ∀ c, (rv V' d' Cert.ReferenceIdeal.main_v58 : B Ideal S4x2048x8x2 .f32) (ix4 b s a c) = lgA V d b s a c := A.logit b s a
    have hy : ∀ b s a k, (rv V' d' Cert.ReferenceIdeal.main_call2_v0 : B Ideal S4x2048x8x2 .i32) (ix4 b s a k) = BitVec.ofNat 32 k.val := fun b s a k => by
      rw [Ref.r_call2_v0]; simp [pointwise]
    have h0 : ∀ j, (rv V' d' Cert.ReferenceIdeal.main_call2_cst : B Ideal S_ .f32) j = (⊥ : EReal) := fun j => by
      rw [Ref.r_call2_cst]; exact bot_word
    have h1 : ∀ j, (rv V' d' Cert.ReferenceIdeal.main_call2_c : B Ideal S_ .i32) j = 0#32 := fun j => by
      rw [Ref.r_call2_c]; rfl
    by_cases hlt : lgA V d b s a 0 < lgA V d b s a 1
    · refine (argmax_last (by decide) _ _ hy _ _ h0 h1 _ _ b s a (1 : Fin 2) fun k => ?_).trans ?_
      · rw [hx, hx]
        match k with
        | 0 => exact Or.inl hlt
        | 1 => exact Or.inr ⟨rfl, le_refl _⟩
      · simp [Ideal.cmp, hlt]
    · refine (argmax_last (by decide) _ _ hy _ _ h0 h1 _ _ b s a (0 : Fin 2) fun k => ?_).trans ?_
      · rw [hx, hx]
        match k with
        | 0 => exact Or.inr ⟨rfl, le_refl _⟩
        | 1 => exact (not_lt.mp hlt).lt_or_eq.imp id fun h => ⟨h.symm, Fin.zero_le _⟩
      · simp [Ideal.cmp, hlt]
  rw [Ref.r_v63]
  show Scalar.select _ _ _ = _
  rw [hsel, hmax]
  rfl
-- ==== Proof.Anchor.lean ====
/-
  The kernel's spans: at place `s` the mean of rows `s … s + a`, the rows past the text's end counted as zero and the number of rows cut at the end.
-/
module

public import proofs.«01_k».proof.Proof.Argmax

@[expose] public section

noncomputable section

namespace Cert.Proof.Span

open Cert.KernelIdeal Cert.KernelIdeal.Gen
open Idealize.ShloMosaic Idealize.ShloMosaic.StableHlo Idealize.ShloMosaic.TcCoe
open Cert.Proof.Line
open Cert.Proof.Ref (rv)

/-- The number of rows of the window of at most `a` rows from row `s`. -/
def lenW (a s : ℕ) : EReal := (((min a (2048 - s) : ℕ) : ℝ) : EReal)

/-- The mean of a window of `a` rows from row `s`. -/
def meanW (R : ℕ → EReal) (a s : ℕ) : EReal := Ideal.div (∑ j ∈ Finset.range a, R (s + j)) (lenW a s)

theorem word_int (n : ℕ) (hn : n < 2147483648) : (BitVec.ofNat 32 n).toInt = n := by
  have e := BitVec.toInt_eq_toNat_cond (BitVec.ofNat 32 n)
  rw [BitVec.toNat_ofNat] at e
  split at e <;> omega

theorem len_word (a s : ℕ) (ha : a ≤ 8) (hs : s < 2048) :
    (FloatOps.sitofp (F := Ideal) .f32 (IntOp.minsi (BitVec.ofNat 32 a) (IntOp.subi 2048#32 (BitVec.ofNat 32 s))) : EReal) = lenW a s := by
  have e : IntOp.subi 2048#32 (BitVec.ofNat 32 s) = BitVec.ofNat 32 (2048 - s) := by
    refine BitVec.eq_of_toNat_eq ?_
    show (2048#32 - BitVec.ofNat 32 s).toNat = _
    rw [BitVec.toNat_sub, BitVec.toNat_ofNat, BitVec.toNat_ofNat, BitVec.toNat_ofNat]
    omega
  have i1 : (BitVec.ofNat 32 a).toInt = a := word_int _ (by omega)
  have i2 : (BitVec.ofNat 32 (2048 - s)).toInt = ((2048 - s : ℕ) : ℤ) := word_int _ (by omega)
  have i3 : (IntOp.minsi (BitVec.ofNat 32 a) (BitVec.ofNat 32 (2048 - s))).toInt = ((min a (2048 - s) : ℕ) : ℤ) := by
    unfold IntOp.minsi
    split
    · next h => rw [BitVec.slt_iff_toInt_lt, i1, i2] at h; rw [i1]; omega
    · next h => rw [BitVec.slt_iff_toInt_lt, i1, i2] at h; rw [i2]; omega
  rw [e]
  show (((IntOp.minsi (BitVec.ofNat 32 a) (BitVec.ofNat 32 (2048 - s))).toInt : ℝ) : EReal) = _
  rw [i3]; rfl

section win

variable {p : FVec Ideal S256x128 .f32} {b : FVec Ideal S8x128 .f32} {e : IVec S256x1 32} {R : Fin 128 → ℕ → EReal} {s0 : ℕ}
variable (hp : ∀ (r : Fin 256) l, p (ix2 r l) = R l (s0 + r.val)) (hb : ∀ (q : Fin 8) l, b (ix2 q l) = R l (s0 + 256 + q.val))

section sums
include hp hb

/-- The sum of 2 rows. -/
theorem ws1_at (r : Fin 256) (l : Fin 128) : ws1 p b (ix2 r l) = ∑ j ∈ Finset.range 2, R l (s0 + r.val + j) := by
  have ih : p (ix2 r l) = ∑ j ∈ Finset.range 1, R l (s0 + r.val + j) := by rw [Finset.sum_range_one]; exact hp r l
  rw [Finset.sum_range_succ, ← ih]
  unfold ws1 k0_pay22
  simp [pointwise]
  refine congrArg _ ?_
  split
  · exact (hp _ l).trans (congrArg (R l) (by simp; omega))
  · exact (hb _ l).trans (congrArg (R l) (by simp; omega))

/-- The sum of 3 rows. -/
theorem ws2_at (r : Fin 256) (l : Fin 128) : ws2 p b (ix2 r l) = ∑ j ∈ Finset.range 3, R l (s0 + r.val + j) := by
  have ih : ws1 p b (ix2 r l) = ∑ j ∈ Finset.range 2, R l (s0 + r.val + j) := ws1_at hp hb r l
  rw [Finset.sum_range_succ, ← ih]
  unfold ws2 k0_pay50
  simp [pointwise]
  refine congrArg _ ?_
  split
  · exact (hp _ l).trans (congrArg (R l) (by simp; omega))
  · exact (hb _ l).trans (congrArg (R l) (by simp; omega))

/-- The sum of 4 rows. -/
theorem ws3_at (r : Fin 256) (l : Fin 128) : ws3 p b (ix2 r l) = ∑ j ∈ Finset.range 4, R l (s0 + r.val + j) := by
  have ih : ws2 p b (ix2 r l) = ∑ j ∈ Finset.range 3, R l (s0 + r.val + j) := ws2_at hp hb r l
  rw [Finset.sum_range_succ, ← ih]
  unfold ws3 k0_pay64
  simp [pointwise]
  refine congrArg _ ?_
  split
  · exact (hp _ l).trans (congrArg (R l) (by simp; omega))
  · exact (hb _ l).trans (congrArg (R l) (by simp; omega))

/-- The sum of 5 rows. -/
theorem ws4_at (r : Fin 256) (l : Fin 128) : ws4 p b (ix2 r l) = ∑ j ∈ Finset.range 5, R l (s0 + r.val + j) := by
  have ih : ws3 p b (ix2 r l) = ∑ j ∈ Finset.range 4, R l (s0 + r.val + j) := ws3_at hp hb r l
  rw [Finset.sum_range_succ, ← ih]
  unfold ws4 k0_pay94
  simp [pointwise]
  refine congrArg _ ?_
  split
  · exact (hp _ l).trans (congrArg (R l) (by simp; omega))
  · exact (hb _ l).trans (congrArg (R l) (by simp; omega))

/-- The sum of 6 rows. -/
theorem ws5_at (r : Fin 256) (l : Fin 128) : ws5 p b (ix2 r l) = ∑ j ∈ Finset.range 6, R l (s0 + r.val + j) := by
  have ih : ws4 p b (ix2 r l) = ∑ j ∈ Finset.range 5, R l (s0 + r.val + j) := ws4_at hp hb r l
  rw [Finset.sum_range_succ, ← ih]
  unfold ws5 k0_pay110
  simp [pointwise]
  refine congrArg _ ?_
  split
  · exact (hp _ l).trans (congrArg (R l) (by simp; omega))
  · exact (hb _ l).trans (congrArg (R l) (by simp; omega))

/-- The sum of 7 rows. -/
theorem ws6_at (r : Fin 256) (l : Fin 128) : ws6 p b (ix2 r l) = ∑ j ∈ Finset.range 7, R l (s0 + r.val + j) := by
  have ih : ws5 p b (ix2 r l) = ∑ j ∈ Finset.range 6, R l (s0 + r.val + j) := ws5_at hp hb r l
  rw [Finset.sum_range_succ, ← ih]
  unfold ws6 k0_pay141
  simp [pointwise]
  refine congrArg _ ?_
  split
  · exact (hp _ l).trans (congrArg (R l) (by simp; omega))
  · exact (hb _ l).trans (congrArg (R l) (by simp; omega))

end sums

variable (he : ∀ r : Fin 256, e (ix2 r 0) = BitVec.ofNat 32 (s0 + r.val)) (hs : s0 + 256 ≤ 2048)

include hp hs in
/-- The windows of one row. -/
theorem a0_at (c : BitVec 32) (he : ∀ r : Fin 256, k0_pay8 c (ix2 r 0) = BitVec.ofNat 32 (s0 + r.val)) (r : Fin 256) (l : Fin 128) :
    k0_pay9 (F := Ideal) c p (ix2 r l) = meanW (R l) 1 (s0 + r.val) := by
  unfold k0_pay9
  have hr := r.isLt
  have h := len_word 1 (s0 + r.val) (by omega) (by omega)
  simp [pointwise, he]
  unfold meanW
  rw [← h, hp, Finset.sum_range_one]; rfl

include hp hb he hs

/-- The windows of 2 rows. -/
theorem a1_at (r : Fin 256) (l : Fin 128) : k0_pay23 p b e  (ix2 r l) = meanW (R l) 2 (s0 + r.val) := by
  unfold k0_pay23
  have hr := r.isLt
  have h := len_word 2 (s0 + r.val) (by omega) (by omega)
  have w := ws1_at hp hb r l
  unfold ws1 at w
  simp [pointwise, he]
  unfold meanW
  rw [w, ← h]

/-- The windows of 3 rows. -/
theorem a2_at (r : Fin 256) (l : Fin 128) : k0_pay51 p b e (ws1 p b) (ix2 r l) = meanW (R l) 3 (s0 + r.val) := by
  unfold k0_pay51
  have hr := r.isLt
  have h := len_word 3 (s0 + r.val) (by omega) (by omega)
  have w := ws2_at hp hb r l
  unfold ws2 at w
  simp [pointwise, he]
  unfold meanW
  rw [w, ← h]

/-- The windows of 4 rows. -/
theorem a3_at (r : Fin 256) (l : Fin 128) : k0_pay65 p b e (ws2 p b) (ix2 r l) = meanW (R l) 4 (s0 + r.val) := by
  unfold k0_pay65
  have hr := r.isLt
  have h := len_word 4 (s0 + r.val) (by omega) (by omega)
  have w := ws3_at hp hb r l
  unfold ws3 at w
  simp [pointwise, he]
  unfold meanW
  rw [w, ← h]

/-- The windows of 5 rows. -/
theorem a4_at (r : Fin 256) (l : Fin 128) : k0_pay95 p b e (ws3 p b) (ix2 r l) = meanW (R l) 5 (s0 + r.val) := by
  unfold k0_pay95
  have hr := r.isLt
  have h := len_word 5 (s0 + r.val) (by omega) (by omega)
  have w := ws4_at hp hb r l
  unfold ws4 at w
  simp [pointwise, he]
  unfold meanW
  rw [w, ← h]

/-- The windows of 6 rows. -/
theorem a5_at (r : Fin 256) (l : Fin 128) : k0_pay111 p b e (ws4 p b) (ix2 r l) = meanW (R l) 6 (s0 + r.val) := by
  unfold k0_pay111
  have hr := r.isLt
  have h := len_word 6 (s0 + r.val) (by omega) (by omega)
  have w := ws5_at hp hb r l
  unfold ws5 at w
  simp [pointwise, he]
  unfold meanW
  rw [w, ← h]

/-- The windows of 7 rows. -/
theorem a6_at (r : Fin 256) (l : Fin 128) : k0_pay142 p b e (ws5 p b) (ix2 r l) = meanW (R l) 7 (s0 + r.val) := by
  unfold k0_pay142
  have hr := r.isLt
  have h := len_word 7 (s0 + r.val) (by omega) (by omega)
  have w := ws6_at hp hb r l
  unfold ws6 at w
  simp [pointwise, he]
  unfold meanW
  rw [w, ← h]

/-- The windows of 8 rows. -/
theorem a7_at (r : Fin 256) (l : Fin 128) : k0_pay158 p b e (ws6 p b) (ix2 r l) = meanW (R l) 8 (s0 + r.val) := by
  unfold k0_pay158
  have hr := r.isLt
  have h := len_word 8 (s0 + r.val) (by omega) (by omega)
  have w := ws6_at hp hb r l
  unfold meanW
  rw [Finset.sum_range_succ, ← w, ← h]
  simp [pointwise, he]
  refine congrArg (fun x => Ideal.div (_ + x) _) ?_
  split
  · exact (hp _ l).trans (congrArg (R l) (by simp; omega))
  · exact (hb _ l).trans (congrArg (R l) (by simp; omega))

/-- The windows of every length. -/
theorem anc_at (c : BitVec 32) (hc : e = k0_pay8 c) (r : Fin 256) (a : Fin 8) (l : Fin 128) :
    anc p b e c a (ix4 0 r 0 l) = meanW (R l) (a.val + 1) (s0 + r.val) := by
  match a with
  | 0 =>
    unfold anc k0_pay10
    refine Eq.trans ?_ (a0_at hp hs c (fun r => hc ▸ he r) r l)
    simp [pointwise]
  | 1 =>
    unfold anc k0_pay24
    refine Eq.trans ?_ (a1_at hp hb he hs r l)
    simp [pointwise]
  | 2 =>
    unfold anc k0_pay52
    refine Eq.trans ?_ (a2_at hp hb he hs r l)
    simp [pointwise]
  | 3 =>
    unfold anc k0_pay66
    refine Eq.trans ?_ (a3_at hp hb he hs r l)
    simp [pointwise]
  | 4 =>
    unfold anc k0_pay96
    refine Eq.trans ?_ (a4_at hp hb he hs r l)
    simp [pointwise]
  | 5 =>
    unfold anc k0_pay112
    refine Eq.trans ?_ (a5_at hp hb he hs r l)
    simp [pointwise]
  | 6 =>
    unfold anc k0_pay143
    refine Eq.trans ?_ (a6_at hp hb he hs r l)
    simp [pointwise]
  | 7 =>
    unfold anc k0_pay159
    refine Eq.trans ?_ (a7_at hp hb he hs r l)
    simp [pointwise]

end win

end Cert.Proof.Span
-- ==== Proof.Prefix.lean ====
/-
  The reference's spans: differences of running sums divided by the number of rows, and their equality with the kernel's windows where the inputs are finite.
-/
module

public import proofs.«01_k».proof.Proof.Anchor

@[expose] public section

noncomputable section

namespace Cert.Proof.Span

open Cert.KernelIdeal Cert.KernelIdeal.Gen
open Idealize.ShloMosaic Idealize.ShloMosaic.StableHlo Idealize.ShloMosaic.TcCoe
open Cert.Proof.Line
open Cert.Proof.Ref (rv)

/-! ## Running sums -/

theorem foldl_sum {n : ℕ} (g : Fin n → EReal) (l : List (Fin n)) (z : EReal) : l.foldl (fun r k => r + g k) z = z + (l.map g).sum := by
  induction l generalizing z with
  | nil => simp
  | cons k l ih => rw [List.foldl_cons, ih, List.map_cons, List.sum_cons, add_assoc]

/-- A window that ends at `s`, the places before the start left out, sums the places up to `s`. -/
theorem sum_back (f : ℕ → EReal) (N s : ℕ) (hs : s ≤ N) :
    ∑ n ∈ Finset.range (N + 1), (if N ≤ s + n then f (s + n - N) else 0) = ∑ m ∈ Finset.range (s + 1), f m := by
  obtain ⟨k, rfl⟩ : ∃ k, N = k + s := ⟨N - s, by omega⟩
  rw [show k + s + 1 = k + (s + 1) by omega, Finset.sum_range_add]
  rw [Finset.sum_eq_zero fun n hn => if_neg (by have := Finset.mem_range.1 hn; omega), zero_add]
  refine Finset.sum_congr rfl fun n hn => ?_
  rw [if_pos (by omega)]
  exact congrArg f (by omega)

theorem win_coord (n : Fin (⟨3, ![1, 2048, 1]⟩ : Shape).numel) :
    ((⟨3, ![1, 2048, 1]⟩ : Shape).rowMajor.symm n 0).val = 0 ∧ ((⟨3, ![1, 2048, 1]⟩ : Shape).rowMajor.symm n 1).val = n.val
      ∧ ((⟨3, ![1, 2048, 1]⟩ : Shape).rowMajor.symm n 2).val = 0 := by
  have e := Shape.rowMajor_val_three ((⟨3, ![1, 2048, 1]⟩ : Shape).rowMajor.symm n)
  rw [Equiv.apply_symm_apply] at e
  have h0 : ((⟨3, ![1, 2048, 1]⟩ : Shape).rowMajor.symm n 0).val < 1 := ((⟨3, ![1, 2048, 1]⟩ : Shape).rowMajor.symm n 0).isLt
  have h2 : ((⟨3, ![1, 2048, 1]⟩ : Shape).rowMajor.symm n 2).val < 1 := ((⟨3, ![1, 2048, 1]⟩ : Shape).rowMajor.symm n 2).isLt
  generalize ((⟨3, ![1, 2048, 1]⟩ : Shape).rowMajor.symm n 0).val = x0 at *
  generalize ((⟨3, ![1, 2048, 1]⟩ : Shape).rowMajor.symm n 1).val = x1 at *
  generalize ((⟨3, ![1, 2048, 1]⟩ : Shape).rowMajor.symm n 2).val = x2 at *
  simp at e
  refine ⟨?_, ?_, ?_⟩ <;> omega

/-- The running sum down the middle axis. -/
theorem run_sum (x : FVec Ideal S4x2048x128 .f32) (v : FVec Ideal S_ .f32) (hv : ∀ i, v i = (0 : EReal)) (b : Fin 4) (l : Fin 128) (R : ℕ → EReal)
    (hR : ∀ s : Fin 2048, x (ix3 b s l) = R s.val)
    (h : S4x2048x128.ReduceWindows (![1, 2048, 1] : Fin 3 → ℕ) ![1, 1, 1] ![0, 2047, 0] ![0, 0, 0] S4x2048x128) (hu : 0 < S_.numel) (s : Fin 2048) :
    Host.reduceWindowAdd ![1, 2048, 1] ![1, 1, 1] ![0, 2047, 0] ![0, 0, 0] x v h hu (ix3 b s l) = ∑ m ∈ Finset.range (s.val + 1), R m := by
  have hs := s.isLt
  unfold Host.reduceWindowAdd
  rw [Ideal.hostReduceWindowAdd_def]
  unfold Ideal.hostReduceWindowAdd Host.reduceWindow
  refine (foldl_sum _ _ _).trans ?_
  have hv' : v (Shape.Idx.first hu) = (0 : EReal) := hv _
  rw [hv', zero_add, ← sum_back R 2047 s.val (by omega)]
  have e : (⟨3, ![1, 2048, 1]⟩ : Shape).numel = 2047 + 1 := by decide
  rw [← List.ofFn_eq_map, List.sum_ofFn]
  rw [← e, ← Fin.sum_univ_eq_sum_range (fun n => if 2047 ≤ s.val + n then R (s.val + n - 2047) else 0)]
  refine Finset.sum_congr rfl fun n _ => ?_
  obtain ⟨w0, w1, w2⟩ := win_coord n
  have hn : n.val < 2048 := n.isLt.trans_eq e
  by_cases hle : 2047 ≤ s.val + n.val
  · rw [if_pos hle, ← hR ⟨s.val + n.val - 2047, by omega⟩]
    rw [dif_pos (by
      intro a
      match a with
      | ⟨0, _⟩ => exact (fun y (hy : y = 0) => by have := b.isLt; omega : ∀ y, y = 0 → 0 ≤ b.val * 1 + y ∧ b.val * 1 + y - 0 < 4) _ w0
      | ⟨1, _⟩ => exact (fun y (hy : y = n.val) => by omega : ∀ y, y = n.val → 2047 ≤ s.val * 1 + y ∧ s.val * 1 + y - 2047 < 2048) _ w1
      | ⟨2, _⟩ => exact (fun y (hy : y = 0) => by have := l.isLt; omega : ∀ y, y = 0 → 0 ≤ l.val * 1 + y ∧ l.val * 1 + y - 0 < 128) _ w2)]
    refine congrArg x (funext fun a => Fin.ext ?_)
    match a with
    | ⟨0, _⟩ => exact (fun y (hy : y = 0) => by omega : ∀ y, y = 0 → b.val * 1 + y - 0 = b.val) _ w0
    | ⟨1, _⟩ => exact (fun y (hy : y = n.val) => by omega : ∀ y, y = n.val → s.val * 1 + y - 2047 = s.val + n.val - 2047) _ w1
    | ⟨2, _⟩ => exact (fun y (hy : y = 0) => by omega : ∀ y, y = 0 → l.val * 1 + y - 0 = l.val) _ w2
  · rw [if_neg hle, dif_neg]
    intro hin
    exact (fun y (hy : y = n.val) h1 => by omega : ∀ y, y = n.val → 2047 ≤ s.val * 1 + y → False) _ w1 (hin 1).1

/-- Rows taken from the table of running sums, one row index per place and width. -/
theorem take_end (x : Cert.ReferenceIdeal.S4x2049x128.Idx → EReal) (i : IVec Cert.ReferenceIdeal.S2048x8x1 32) (b : Fin 4) (s : Fin 2048) (a : Fin 8) (l : Fin 128)
    (w : ℕ) (hw : (i (ix3 s a 0)).toInt = w) (hl : w < 2049) :
    Host.gather Cert.ReferenceIdeal.gather_S4x2049x128_S2048x8x1_S4x2048x8x128_03_1_n_n_1_2_41128 x i (ix4 b s a l) = x (ix3 b ⟨w, hl⟩ l) := by
  have hs : Cert.ReferenceIdeal.gather_S4x2049x128_S2048x8x1_S4x2048x8x128_03_1_n_n_1_2_41128.siIdx (ix4 b s a l) ⟨0, Nat.one_pos⟩ = ix3 s a 0 :=
    funext fun a => Fin.ext (match a with | ⟨0, _⟩ => rfl | ⟨1, _⟩ => rfl | ⟨2, _⟩ => rfl)
  refine congrArg x (funext fun c => Fin.ext ?_)
  match c with
  | ⟨0, _⟩ => show 0 + 0 + b.val = b.val; omega
  | ⟨1, _⟩ =>
    show min (i (Cert.ReferenceIdeal.gather_S4x2049x128_S2048x8x1_S4x2048x8x128_03_1_n_n_1_2_41128.siIdx (ix4 b s a l) ⟨0, Nat.one_pos⟩)).toInt.toNat (2049 - 1) + 0 + 0 = w
    rw [hs, hw]; omega
  | ⟨2, _⟩ => show 0 + 0 + l.val = l.val; omega

/-- The same, one row index per place. -/
theorem take_start (x : Cert.ReferenceIdeal.S4x2049x128.Idx → EReal) (i : IVec Cert.ReferenceIdeal.S2048x1 32) (b : Fin 4) (s : Fin 2048) (l : Fin 128)
    (w : ℕ) (hw : (i (ix2 s 0)).toInt = w) (hl : w < 2049) :
    Host.gather Cert.ReferenceIdeal.gather_S4x2049x128_S2048x1_S4x2048x128_02_1_n_n_1_1_41128 x i (ix3 b s l) = x (ix3 b ⟨w, hl⟩ l) := by
  have hs : Cert.ReferenceIdeal.gather_S4x2049x128_S2048x1_S4x2048x128_02_1_n_n_1_1_41128.siIdx (ix3 b s l) ⟨0, Nat.one_pos⟩ = ix2 s 0 :=
    funext fun a => Fin.ext (match a with | ⟨0, _⟩ => rfl | ⟨1, _⟩ => rfl)
  refine congrArg x (funext fun c => Fin.ext ?_)
  match c with
  | ⟨0, _⟩ => show 0 + 0 + b.val = b.val; omega
  | ⟨1, _⟩ =>
    show min (i (Cert.ReferenceIdeal.gather_S4x2049x128_S2048x1_S4x2048x128_02_1_n_n_1_1_41128.siIdx (ix3 b s l) ⟨0, Nat.one_pos⟩)).toInt.toNat (2049 - 1) + 0 + 0 = w
    rw [hs, hw]; omega
  | ⟨2, _⟩ => show 0 + 0 + l.val = l.val; omega

/-! ## Real values -/

/-- The value is a real number. -/
def Re (x : EReal) : Prop := ∃ r : ℝ, x = r

theorem Re.add {x y : EReal} : Re x → Re y → Re (x + y) := by rintro ⟨r, rfl⟩ ⟨q, rfl⟩; exact ⟨r + q, by push_cast; rfl⟩
theorem Re.sub {x y : EReal} : Re x → Re y → Re (x - y) := by rintro ⟨r, rfl⟩ ⟨q, rfl⟩; exact ⟨r - q, by push_cast; rfl⟩
theorem Re.mul {x y : EReal} : Re x → Re y → Re (x * y) := by rintro ⟨r, rfl⟩ ⟨q, rfl⟩; exact ⟨r * q, by push_cast; rfl⟩
theorem Re.zero : Re 0 := ⟨0, by push_cast; rfl⟩
theorem Re.one : Re 1 := ⟨1, by push_cast; rfl⟩
theorem Re.sum {ι : Type*} (s : Finset ι) (f : ι → EReal) (h : ∀ i ∈ s, Re (f i)) : Re (∑ i ∈ s, f i) := by
  classical
  induction s using Finset.induction_on with
  | empty => exact Re.zero
  | insert a s ha ih =>
    rw [Finset.sum_insert ha]
    exact (h a (Finset.mem_insert_self _ _)).add (ih fun i hi => h i (Finset.mem_insert_of_mem hi))

/-- The logistic function has real values everywhere. -/
theorem Re.logistic (x : EReal) : Re (Ideal.logistic x) := by
  have key : ∀ y : EReal, Ideal.exp y = ⊤ ∨ ∃ r : ℝ, 0 ≤ r ∧ Ideal.exp y = r := fun y => by
    induction y with
    | bot => exact Or.inr ⟨0, le_refl _, rfl⟩
    | top => exact Or.inl rfl
    | coe r => exact Or.inr ⟨Real.exp r, (Real.exp_pos r).le, rfl⟩
  unfold Ideal.logistic Ideal.div
  rcases key (-x) with h | ⟨r, h0, h⟩
  · have e : (1 : EReal) + ⊤ = ⊤ := EReal.coe_add_top 1
    rw [h, e]; refine ⟨0, ?_⟩; simp
  · have e : (1 : EReal) + r = ((1 + r : ℝ) : EReal) := by push_cast; rfl
    rw [h, e, if_neg (by exact_mod_cast (by linarith : (1 + r : ℝ) ≠ 0))]
    exact ⟨(1 + r)⁻¹, by rw [one_mul, EReal.coe_inv]⟩

theorem Re.mix {w c A B : Fin 128 → EReal} {g wl cl : EReal} (h : Re wl) (h' : Re cl) : Re (mixE w c A B g wl cl) :=
  ((Re.logistic _).mul h).add ((Re.one.sub (Re.logistic _)).mul h')

/-! ## The spans -/

variable (V : Dev nD → Valuation τ sig (Elt Ideal)) (d : Dev nD)
variable {V' : Dev Cert.ReferenceIdeal.nD → Valuation Cert.ReferenceIdeal.τ Cert.ReferenceIdeal.sig (Elt Ideal)} {d' : Dev Cert.ReferenceIdeal.nD}

attribute [local irreducible] kv rv VF

/-- Channel `l` of row `n` of a text's representation, zero past the text's end. -/
def repN (b : Fin 4) (l : Fin 128) (n : ℕ) : EReal := if h : n < 2048 then repA V d b ⟨n, h⟩ l else 0

theorem coord0 : ∀ t : Fin grid0.N, (grid0.coords t 1).val = t.val % 9 := by decide
theorem live_word : ∀ k : Fin 9, (Scalar.extui (Scalar.cmpi .slt (BitVec.ofNat 32 k.val) 8#32) : BitVec 32).toInt = if k.val < 8 then 1 else 0 := by decide

variable (b : Fin 4) (s : Fin 2048)

theorem prev_at (r : Fin 256) (l : Fin 128) : prev (V1 V) d (ptA b s).val (ix2 r l) = repN V d b l (s.val / 256 * 256 + r.val) := by
  have hs := s.isLt
  have hr := r.isLt
  have e : blkN (V1 V) d ((ptA b s).val - 1) = blkAt (V1 V) d (pt b s) := blkN_val (V1 V) d (pt b s)
  unfold prev k0_pay5
  rw [e]
  simp only [shapeCast_self]
  refine (blk_rep V d (pt b s) r l).trans ?_
  unfold repN
  rw [dif_pos (by omega)]
  exact congrArg₂ (fun x y => repA V d x y l) (sen_pt b s) (Fin.ext (by unfold row pt; simp; omega))

theorem ahd_at (q : Fin 8) (l : Fin 128) :
    (blkAt (V1 V) d (ptA b s)).ahd (cw (grid0.coords (ptA b s))) (ix2 q l) = repN V d b l (s.val / 256 * 256 + 256 + q.val) := by
  have hs := s.isLt
  have hb := b.isLt
  have hq := q.isLt
  have hc : (grid0.coords (ptA b s) 1).val = s.val / 256 + 1 := by rw [coord0]; unfold ptA; simp; omega
  have hw := live_word ⟨s.val / 256 + 1, by omega⟩
  unfold Blk.ahd k0_pay7 cw
  rw [hc]
  have e : (blkAt (V1 V) d (ptA b s)).rep (ix2 ⟨q.val, by omega⟩ l) = repA V d ⟨sen (ptA b s), sen_lt _⟩ ⟨row (ptA b s) + q.val, by have := row_lt (ptA b s); omega⟩ l :=
    blk_rep V d (ptA b s) ⟨q.val, by omega⟩ l
  have hse : (⟨sen (ptA b s), sen_lt _⟩ : Fin 4) = b := Fin.ext (by unfold sen ptA; simp; omega)
  simp only [pointwise]
  by_cases h : s.val / 256 + 1 < 8
  · rw [if_pos h] at hw
    unfold repN
    rw [dif_pos (by omega)]
    simp [pointwise, hw]
    refine e.trans (congrArg₂ (fun x y => repA V d x y l) hse (Fin.ext ?_))
    unfold row ptA; simp; omega
  · rw [if_neg h] at hw
    unfold repN
    rw [dif_neg (by omega)]
    simp [pointwise, hw]

/-- The kernel's spans. -/
theorem k_anchor (a : Fin 8) (l : Fin 128) :
    (kv V d main_v8_0 : B Ideal S4x2048x8x128 .f32) (ix4 b s a l) = meanW (repN V d b l) (a.val + 1) s.val := by
  have hs := s.isLt
  have hb := b.isLt
  have hc : (grid0.coords (ptA b s) 1).val = s.val / 256 + 1 := by rw [coord0]; unfold ptA; simp; omega
  rw [kv_out0 V d (r := main_v8_0) (by decide)]
  refine (congrFun (left12 (V1 V) d) (ix4 b s a l)).trans ?_
  show ancAt (V1 V) d (ptA b s) (ix4 0 (inB s) a l) = _
  unfold ancAt ancOut
  refine (anc_at (R := repN V d b) (s0 := s.val / 256 * 256) (prev_at V d b s) (ahd_at V d b s) (fun r => ?_) (by omega) _ rfl (inB s) a l).trans
    (congrArg (meanW (repN V d b l) (a.val + 1)) (by unfold inB; simp; omega))
  have hr := r.isLt
  unfold k0_pay8 cw
  rw [hc]
  simp [pointwise]
  refine BitVec.eq_of_toNat_eq ?_
  simp [IntOp.addi, Scalar.muli, Scalar.subi, IntOp.muli, IntOp.subi]
  omega

end Cert.Proof.Span
-- ==== Proof.Given.lean ====
/-
  What the precondition says of the inputs, one fact for each of its conditions.
-/
module

public import proofs.«01_k».proof.Proof.Gen.Pre_inputs_ok
public import proofs.«01_k».proof.Proof.Prefix
public import Idealize.ShloMosaic.Lib.ReduceAll

@[expose] public section

noncomputable section

namespace Cert.Proof.Span

open Idealize.ShloMosaic Idealize.ShloMosaic.StableHlo Idealize.ShloMosaic.TcCoe
open Cert.Pre_inputs_ok

theorem top_word : Ideal.ofBits .f32 0x7F800000#32 = ⊤ := by simp [Ideal.ofBits, Ideal.ieee]

/-- A value whose magnitude is below infinity is a real. -/
theorem re_of_abs {x : EReal} (h : Ideal.cmp .olt (max x (-x)) (Ideal.ofBits .f32 0x7F800000#32) = 1#1) : Re x := by
  rw [top_word] at h
  have h' : max x (-x) < ⊤ := by
    by_contra hn
    simp [Ideal.cmp, hn] at h
  induction x using EReal.rec with
  | bot => simp at h'
  | top => simp at h'
  | coe r => exact ⟨r, rfl⟩

/-- A value that compares equal to one is one. -/
theorem one_of_cmp {x : EReal} (h : Ideal.cmp .oeq x (Ideal.ofBits .f32 0x3F800000#32) = 1#1) : x = 1 := by
  rw [Ideal.ofBits_one_f32] at h
  by_contra hn
  simp [Ideal.cmp, hn] at h

/-- The precondition, read off its own text: a full mask, labels 0 or 1, types 0 … 9, and finite representations and weights. -/
theorem given (a0 : FVec Ideal S4x2048 .f32) (a1 a2 : FVec Ideal S4x2048x128 .f32) (a3 : FVec Ideal S4x2048x8x2 .f32) (a4 a5 : IVec S4x2048x8 32)
    (a6 a7 : FVec Ideal S128x128 .f32) (a8 : FVec Ideal S128 .f32) (a9 : FVec Ideal S128x16 .f32) (a10 : FVec Ideal S16 .f32) (a11 : FVec Ideal S128x10 .f32)
    (a12 a13 : FVec Ideal S10 .f32) (h : fn (F := Ideal) a0 a1 a2 a3 a4 a5 a6 a7 a8 a9 a10 a11 a12 a13 = fun _ => 1#1) :
    (∀ i, a0 i = (1 : EReal)) ∧ (∀ i, 0 ≤ (a4 i).toInt ∧ (a4 i).toInt < 2) ∧ (∀ i, 0 ≤ (a5 i).toInt ∧ (a5 i).toInt < 10) ∧
      (∀ i, Re (a1 i)) ∧ (∀ i, Re (a2 i)) ∧ (∀ i, Re (a9 i)) ∧ (∀ i, Re (a10 i)) ∧ (∀ i, Re (a11 i)) ∧ (∀ i, Re (a12 i)) := by
  haveI : Subsingleton S_.Idx := ⟨fun a b => funext fun i => i.elim0⟩
  have h0 := congrFun h fun i => i.elim0
  obtain ⟨h0, g8⟩ := IntOp.andi_eq_one.1 h0
  obtain ⟨h0, g7⟩ := IntOp.andi_eq_one.1 h0
  obtain ⟨h0, g6⟩ := IntOp.andi_eq_one.1 h0
  obtain ⟨h0, g5⟩ := IntOp.andi_eq_one.1 h0
  obtain ⟨h0, g4⟩ := IntOp.andi_eq_one.1 h0
  obtain ⟨h0, g3⟩ := IntOp.andi_eq_one.1 h0
  obtain ⟨h0, g2⟩ := IntOp.andi_eq_one.1 h0
  obtain ⟨g0, g1⟩ := IntOp.andi_eq_one.1 h0
  refine ⟨fun i => one_of_cmp (Host.reduce_andi_all _ _ _ _ (fun i => i.elim0) g0 i), fun i => ?_, fun i => ?_,
    fun i => re_of_abs (Host.reduce_andi_all _ _ _ _ (fun i => i.elim0) g3 i), fun i => re_of_abs (Host.reduce_andi_all _ _ _ _ (fun i => i.elim0) g4 i),
    fun i => re_of_abs (Host.reduce_andi_all _ _ _ _ (fun i => i.elim0) g5 i), fun i => re_of_abs (Host.reduce_andi_all _ _ _ _ (fun i => i.elim0) g6 i),
    fun i => re_of_abs (Host.reduce_andi_all _ _ _ _ (fun i => i.elim0) g7 i), fun i => re_of_abs (Host.reduce_andi_all _ _ _ _ (fun i => i.elim0) g8 i)⟩
  · have q := IntOp.andi_eq_one.1 (Host.reduce_andi_all _ _ _ _ (fun i => i.elim0) g1 i)
    exact ⟨IntOp.cmpi_sge.1 q.1, IntOp.cmpi_slt.1 q.2⟩
  · have q := IntOp.andi_eq_one.1 (Host.reduce_andi_all _ _ _ _ (fun i => i.elim0) g2 i)
    exact ⟨IntOp.cmpi_sge.1 q.1, IntOp.cmpi_slt.1 q.2⟩

end Cert.Proof.Span

end
-- ==== Proof.Means.lean ====
/-
  The reference's spans equal the kernel's, where the representations are real.
-/
module

public import proofs.«01_k».proof.Proof.Prefix

@[expose] public section

noncomputable section

namespace Cert.Proof.Span

open Cert.KernelIdeal Cert.KernelIdeal.Gen
open Idealize.ShloMosaic Idealize.ShloMosaic.StableHlo Idealize.ShloMosaic.TcCoe
open Cert.Proof.Line
open Cert.Proof.Ref (rv)

attribute [local irreducible] kv rv VF

variable {V : Dev nD → Valuation τ sig (Elt Ideal)} {d : Dev nD}
variable {V' : Dev Cert.ReferenceIdeal.nD → Valuation Cert.ReferenceIdeal.τ Cert.ReferenceIdeal.sig (Elt Ideal)} {d' : Dev Cert.ReferenceIdeal.nD}
/-- A word that is not negative passes the test for a negative one. -/
theorem pos_word (n : ℕ) (x : BitVec 32) (hn : n < 2147483648) :
    Scalar.select (IntOp.cmpi .slt (BitVec.ofNat 32 n) 0#32) x (BitVec.ofNat 32 n) = BitVec.ofNat 32 n := by
  have h : ¬ IntOp.cmpi .slt (BitVec.ofNat 32 n) 0#32 = 1#1 := fun h => by
    have := IntOp.cmpi_slt.1 h
    rw [word_int n hn] at this
    have h0 : (0#32).toInt = 0 := by decide
    omega
  rw [show IntOp.cmpi .slt (BitVec.ofNat 32 n) 0#32 = 0#1 from (BitVec.eq_zero_or_eq_one _).resolve_right h]
  exact ValueIdx.select_zero _ _

theorem end_word (s a : ℕ) (h : s + a + 1 < 4096) :
    IntOp.minsi 2048#32 (IntOp.addi (BitVec.ofNat 32 s) (IntOp.addi 1#32 (BitVec.ofNat 32 a))) = BitVec.ofNat 32 (min 2048 (s + a + 1)) := by
  have e : IntOp.addi (BitVec.ofNat 32 s) (IntOp.addi 1#32 (BitVec.ofNat 32 a)) = BitVec.ofNat 32 (s + a + 1) := by
    refine BitVec.eq_of_toNat_eq ?_
    simp [IntOp.addi]; omega
  have h0 : (2048#32).toInt = 2048 := by decide
  rw [e]
  unfold IntOp.minsi
  split
  · next k => rw [BitVec.slt_iff_toInt_lt, h0, word_int _ (by omega)] at k; rw [Nat.min_eq_left (by omega)]
  · next k => rw [BitVec.slt_iff_toInt_lt, h0, word_int _ (by omega)] at k; rw [Nat.min_eq_right (by omega)]

theorem len_word' (s a : ℕ) (h : s < 2048) :
    (FloatOps.sitofp (F := Ideal) .f32 (IntOp.subi (BitVec.ofNat 32 (min 2048 (s + a + 1))) (BitVec.ofNat 32 s)) : EReal) = lenW (a + 1) s := by
  have e : IntOp.subi (BitVec.ofNat 32 (min 2048 (s + a + 1))) (BitVec.ofNat 32 s) = BitVec.ofNat 32 (min (a + 1) (2048 - s)) := by
    refine BitVec.eq_of_toNat_eq ?_
    show (BitVec.ofNat 32 _ - BitVec.ofNat 32 s).toNat = _
    rw [BitVec.toNat_sub, BitVec.toNat_ofNat, BitVec.toNat_ofNat, BitVec.toNat_ofNat]
    omega
  rw [e]
  show (((BitVec.ofNat 32 (min (a + 1) (2048 - s))).toInt : ℝ) : EReal) = _
  rw [word_int _ (by omega)]; rfl

variable (A : Agree V d V' d')
include A

/-- The sum of the first `n` rows. -/
def preS (R : ℕ → EReal) (n : ℕ) : EReal := ∑ m ∈ Finset.range n, R m

theorem Agree.run (b : Fin 4) (l : Fin 128) (n : Fin 2049) :
    (rv V' d' Cert.ReferenceIdeal.main_v19 : B Ideal Cert.ReferenceIdeal.S4x2049x128 .f32) (ix3 b n l) = preS (repN V d b l) n.val := by
  have h0 : ∀ j, (rv V' d' Cert.ReferenceIdeal.main_v17 : B Ideal Cert.ReferenceIdeal.S4x1x128 .f32) j = (0 : EReal) := fun j => by
    rw [Ref.r_v17, Ref.r_cst_3]; simp [pointwise]
  have h1 : ∀ (s : Fin 2048), (rv V' d' Cert.ReferenceIdeal.main_v18 : B Ideal S4x2048x128 .f32) (ix3 b s l) = preS (repN V d b l) (s.val + 1) := fun s => by
    rw [Ref.r_v18]
    refine run_sum _ _ (fun i => ?_) b l (repN V d b l) (fun s => ?_) _ _ s
    · rw [Ref.r_call0_call0_v0, Ref.r_call0_call0_cst]; simp [pointwise]
    · unfold repN; rw [dif_pos s.isLt]; exact A.rep b s l
  rw [Ref.r_v19]
  have hn := n.isLt
  simp [pointwise]
  split
  · next h =>
    rw [h0, show n.val = 0 by omega]; simp [preS]
  · next h =>
    rw [h1]; exact congrArg (preS _) (by simp; omega)

theorem Agree.span (b : Fin 4) (s : Fin 2048) (a : Fin 8) (l : Fin 128) (hr : ∀ s, Re (repA V d b s l)) :
    (rv V' d' Cert.ReferenceIdeal.main_v53 : B Ideal S4x2048x8x128 .f32) (ix4 b s a l) = meanW (repN V d b l) (a.val + 1) s.val := by
  have hs := s.isLt
  have ha := a.isLt
  have e28 : (rv V' d' Cert.ReferenceIdeal.main_v29 : B Ideal S2048x8 .i32) (ix2 s a) = BitVec.ofNat 32 (min 2048 (s.val + a.val + 1)) := by
    rw [Ref.r_v29, Ref.r_v28, Ref.r_v26, Ref.r_v27, Ref.r_v25, Ref.r_v24, Ref.r_v23, Ref.r_v22, Ref.r_v21, Ref.r_v20, Ref.r_c, Ref.r_call1_v1, Ref.r_call1_v0, Ref.r_c_4]
    simp [pointwise]
    exact end_word s.val a.val (by omega)
  have e38 : ((rv V' d' Cert.ReferenceIdeal.main_v39 : B Ideal Cert.ReferenceIdeal.S2048x8x1 .i32) (ix3 s a 0)).toInt = (min 2048 (s.val + a.val + 1) : ℕ) := by
    rw [Ref.r_v39, Ref.r_v38, Ref.r_v37, Ref.r_v36, Ref.r_c_6, Ref.r_v35, Ref.r_v34, Ref.r_c_5]
    simp [pointwise, e28]
    exact (congrArg BitVec.toInt (pos_word _ _ (by omega))).trans ((word_int _ (by omega)).trans (by push_cast; rfl))
  have e46 : ((rv V' d' Cert.ReferenceIdeal.main_v46 : B Ideal Cert.ReferenceIdeal.S2048x1 .i32) (ix2 s 0)).toInt = s.val := by
    rw [Ref.r_v46, Ref.r_v45, Ref.r_v44, Ref.r_v43, Ref.r_c_8, Ref.r_v42, Ref.r_v41, Ref.r_c_7, Ref.r_v20]
    simp [pointwise]
    exact (congrArg BitVec.toInt (pos_word _ _ (by omega))).trans (word_int _ (by omega))
  have e33 : (rv V' d' Cert.ReferenceIdeal.main_v33 : B Ideal S2048x8 .f32) (ix2 s a) = lenW (a.val + 1) s.val := by
    rw [Ref.r_v33, Ref.r_v32, Ref.r_v31, Ref.r_v30, Ref.r_v20]
    simp [pointwise, e28]
    exact len_word' s.val a.val (by omega)
  have e40 : (rv V' d' Cert.ReferenceIdeal.main_v40 : B Ideal S4x2048x8x128 .f32) (ix4 b s a l) = preS (repN V d b l) (min 2048 (s.val + a.val + 1)) := by
    rw [Ref.r_v40]
    exact (take_end _ _ b s a l _ e38 (by omega)).trans (A.run b l _)
  have e47 : (rv V' d' Cert.ReferenceIdeal.main_v47 : B Ideal S4x2048x128 .f32) (ix3 b s l) = preS (repN V d b l) s.val := by
    rw [Ref.r_v47]
    exact (take_start _ _ b s l _ e46 (by omega)).trans (A.run b l _)
  rw [Ref.r_v53, Ref.r_v52, Ref.r_v51, Ref.r_v50, Ref.r_v49, Ref.r_v48]
  simp [pointwise, e40, e47, e33]
  unfold meanW
  refine congrArg (fun x => Ideal.div x _) ?_
  have e1 : preS (repN V d b l) (min 2048 (s.val + a.val + 1)) = preS (repN V d b l) (s.val + (a.val + 1)) := by
    by_cases h : s.val + a.val + 1 ≤ 2048
    · rw [Nat.min_eq_right h]; rfl
    · obtain ⟨k, hk⟩ : ∃ k, s.val + (a.val + 1) = 2048 + k := ⟨s.val + (a.val + 1) - 2048, by omega⟩
      rw [Nat.min_eq_left (by omega), hk]
      unfold preS
      rw [Finset.sum_range_add]
      rw [Finset.sum_eq_zero (s := Finset.range k) fun n _ => by unfold repN; rw [dif_neg (by omega)], add_zero]
  have e2 : preS (repN V d b l) (s.val + (a.val + 1)) = preS (repN V d b l) s.val + ∑ j ∈ Finset.range (a.val + 1), repN V d b l (s.val + j) :=
    Finset.sum_range_add _ _ _
  obtain ⟨r, hr'⟩ : Re (preS (repN V d b l) s.val) := Re.sum _ _ fun n hn => by
    unfold repN
    rw [dif_pos (by have := Finset.mem_range.1 hn; omega)]
    exact hr _
  rw [e1, e2, hr']
  exact EReal.add_sub_cancel_left

/-- The spans' representations are equal where the inputs' words and characters are real. -/
theorem Agree.anchor (hr : ∀ b s l, Re (repA V d b s l)) :
    @Eq (B Ideal S4x2048x8x128 .f32) (rv V' d' Cert.ReferenceIdeal.main_v53) (kv V d main_v8_0) := by
  refine funext fun (i : S4x2048x8x128.Idx) => ?_
  obtain ⟨b, s, a, l, rfl⟩ := ex4 i
  exact (A.span b s a l fun s => hr b s l).trans (k_anchor V d b s a l).symm

end Cert.Proof.Span
-- ==== Proof.Rows.lean ====
/-
  The rows that the SparseCore call reads are rows of its table, whatever the arguments: top-k's second result holds
  positions along the axis that it sorts.
-/
module

public import proofs.«01_k».proof.Proof.KEq

@[expose] public section

noncomputable section

namespace Cert.Proof.Span

open Cert.KernelIdeal Cert.KernelIdeal.Gen

open Idealize.ShloMosaic Idealize.ShloMosaic.StableHlo
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Proof.Line

variable {F : FTy → Type} [FloatOps F]

/-- An entry of top-k's second result is a position along axis 1 of the operand. -/
theorem topK_lt {α : Type} {n k : Nat} (hn : n < 2 ^ 32) (gt : α → α → BitVec 1) (x : (⟨2, ![4, n]⟩ : Shape).Idx → α)
    (h : (⟨2, ![4, n]⟩ : Shape).Slices (fun _ => 0) ⟨2, ![4, k]⟩) (j : (⟨2, ![4, k]⟩ : Shape).Idx) :
    ((Host.topK ⟨2, ![4, k]⟩ 1 gt x h).2 j).toNat < n := by
  have key : ∀ i : Fin n, (BitVec.ofNat 32 i.val).toNat < n := fun i => by
    rw [BitVec.toNat_ofNat, Nat.mod_eq_of_lt (lt_trans i.isLt hn)]; exact i.isLt
  unfold Host.topK Host.sort2
  simp only [extractStridedSlice]
  have hd : 1 < (⟨2, ![4, n]⟩ : Shape).rank := Nat.one_lt_two
  simp only [hd, dite_true, iotaInDim]
  exact key _

variable (V : Dev nD → Valuation τ sig (Elt F)) (d : Dev nD)

theorem indices_lt (b : Fin 4) (k : Fin 512) : ((kv V d main_indices : B F S4x512 .i32) (ix2 b k)).toNat < 16384 := by
  rw [k_indices]
  exact topK_lt (by decide) _ _ _ _

theorem k_v59_at (b : Fin 4) (k : Fin 512) : (kv V d main_v59 : B F S4x512 .i32) (ix2 b k) = IntOp.muli (BitVec.ofNat 32 b.val) 16384#32 := by
  rw [k_v59, k_v58, k_v57, k_v56, k_v55, k_c_3]
  rfl

theorem k_v60_nat (b : Fin 4) (k : Fin 512) :
    ((kv V d main_v60 : B F S4x512 .i32) (ix2 b k)).toNat = ((kv V d main_indices : B F S4x512 .i32) (ix2 b k)).toNat + b.val * 16384 := by
  have h := indices_lt V d b k
  have hb : (IntOp.muli (BitVec.ofNat 32 b.val) 16384#32).toNat = b.val * 16384 := by
    have hb := b.isLt
    show (BitVec.ofNat 32 b.val * 16384#32).toNat = _
    rw [BitVec.toNat_mul, BitVec.toNat_ofNat]
    show b.val % 2 ^ 32 * 16384 % 2 ^ 32 = _
    omega
  rw [k_v60]
  show (BitVec.add (n := 32) ((kv V d main_indices : B F S4x512 .i32) (ix2 b k)) ((kv V d main_v59 : B F S4x512 .i32) (ix2 b k))).toNat = _
  rw [k_v59_at, BitVec.add_eq, BitVec.toNat_add, hb]
  have := b.isLt
  omega

/-- The row that candidate `k` of sentence `b` names. -/
theorem k_v61_nat (b : Fin 4) (k : Fin 512) (j : Fin 2048) (hj : j.val = b.val * 512 + k.val) :
    ((kv V d main_v61 : B F S2048 .i32) (ix1 j)).toNat = ((kv V d main_indices : B F S4x512 .i32) (ix2 b k)).toNat + b.val * 16384 := by
  rw [k_v61, shapeCast_apply _ _ _ (ix2 b k) (by rw [Shape.rowMajor_val_two, Shape.rowMajor_val_one]; simp [ix1, ix2]; omega), k_v60_nat]

theorem inRows : InRows (ix V d) := fun j => by
  obtain ⟨i, rfl⟩ : ∃ i : Fin 2048, j = ix1 i := ⟨j 0, funext fun a => match a with | ⟨0, _⟩ => rfl⟩
  have hi := i.isLt
  have h := k_v61_nat V d ⟨i.val / 512, by omega⟩ ⟨i.val % 512, Nat.mod_lt _ (by decide)⟩ i (by simp only; omega)
  have hl := indices_lt V d ⟨i.val / 512, by omega⟩ ⟨i.val % 512, Nat.mod_lt _ (by decide)⟩
  rw [kv_ix] at h
  rw [h]
  simp only
  omega

end Cert.Proof.Span

end
-- ==== Proof.Cand.lean ====
/-
  The candidates: their representations, which the SparseCore call gathers, their logits and their number.
-/
module

public import proofs.«01_k».proof.Proof.Means
public import proofs.«01_k».proof.Proof.Rows
public import Idealize.ShloMosaic.Lib.KernelVsHost
public import Idealize.ShloMosaic.Lib.ReduceAll

@[expose] public section

noncomputable section

namespace Cert.Proof.Span

open Cert.KernelIdeal Cert.KernelIdeal.Gen
open Idealize.ShloMosaic Idealize.ShloMosaic.StableHlo Idealize.ShloMosaic.TcCoe
open Cert.Proof.Line
open Cert.Proof.Ref (rv)

attribute [local irreducible] kv rv VF

variable {V : Dev nD → Valuation τ sig (Elt Ideal)} {d : Dev nD}
variable {V' : Dev Cert.ReferenceIdeal.nD → Valuation Cert.ReferenceIdeal.τ Cert.ReferenceIdeal.sig (Elt Ideal)} {d' : Dev Cert.ReferenceIdeal.nD}

/-! ## The representations of the candidates -/

/-- The number of the row that candidate `k` of text `b` names. -/
def pick (V : Dev nD → Valuation τ sig (Elt Ideal)) (d : Dev nD) (b : Fin 4) (k : Fin 512) : ℕ := ((kv V d main_indices : B Ideal S4x512 .i32) (ix2 b k)).toNat
theorem pick_lt (b : Fin 4) (k : Fin 512) : pick V d b k < 16384 := indices_lt V d b k

/-- Row `512 b + k` of what the SparseCore call leaves. -/
theorem k_v63_at (b : Fin 4) (k : Fin 512) (l : Fin 128) (j : Fin 2048) (hj : j.val = b.val * 512 + k.val) :
    (kv V d main_v63 : B Ideal S2048x128 .f32) (ix2 j l)
      = (kv V d main_v8_0 : B Ideal S4x2048x8x128 .f32) (ix4 b ⟨pick V d b k / 8, by have := pick_lt (V := V) (d := d) b k; omega⟩ ⟨pick V d b k % 8, by omega⟩ l) := by
  have hp := pick_lt (V := V) (d := d) b k
  have hb := b.isLt
  rw [kv_gat]
  show (kv V d main_v62 : B Ideal S65536x128 .f32) (tabIx (Fin.ofNat 65536 ((kv V d main_v61 : B Ideal S2048 .i32) (lstIx j)).toNat) l) = _
  have e1 : ((kv V d main_v61 : B Ideal S2048 .i32) (lstIx j)).toNat = pick V d b k + b.val * 16384 :=
    (congrArg (fun z => ((kv V d main_v61 : B Ideal S2048 .i32) z).toNat) (funext fun a => match a with | ⟨0, _⟩ => rfl : lstIx j = ix1 j)).trans (k_v61_nat V d b k j hj)
  rw [e1, k_v62]
  refine shapeCast_apply _ _ _ _ ?_
  refine (Shape.rowMajor_val_four (ix4 b _ _ l)).trans (Eq.trans ?_ (Shape.rowMajor_val_two _).symm)
  show ((b.val * 2048 + pick V d b k / 8) * 8 + pick V d b k % 8) * 128 + l.val = ((pick V d b k + b.val * 16384) % 65536) * 128 + l.val
  omega

theorem k_repr (b : Fin 4) (k : Fin 512) (l : Fin 128) :
    (kv V d main_v71 : B Ideal S4x512x128 .f32) (ix3 b k l)
      = (kv V d main_v8_0 : B Ideal S4x2048x8x128 .f32) (ix4 b ⟨pick V d b k / 8, by have := pick_lt (V := V) (d := d) b k; omega⟩ ⟨pick V d b k % 8, by omega⟩ l) := by
  rw [← k_v63_at b k l ⟨b.val * 512 + k.val, by omega⟩ rfl, k_v71]
  refine shapeCast_apply _ _ _ (ix2 ⟨b.val * 512 + k.val, by omega⟩ l) ?_
  rw [Shape.rowMajor_val_two, Shape.rowMajor_val_three]
  simp [ix2, ix3]

/-- Rows taken along the middle axis, each text from its own rows. -/
theorem take_row (x : Cert.ReferenceIdeal.S4x16384x128.Idx → EReal) (i : IVec Cert.ReferenceIdeal.S4x512x1 32) (b : Fin 4) (k : Fin 512) (l : Fin 128) (w : ℕ)
    (hw : (i (ix3 b k 0)).toInt = w) (hl : w < 16384) :
    Host.gather Cert.ReferenceIdeal.gather_S4x16384x128_S4x512x1_S4x512x128_2_1_0_0_1_2_11128 x i (ix3 b k l) = x (ix3 b ⟨w, hl⟩ l) := by
  have hs : Cert.ReferenceIdeal.gather_S4x16384x128_S4x512x1_S4x512x128_2_1_0_0_1_2_11128.siIdx (ix3 b k l) ⟨0, Nat.one_pos⟩ = ix3 b k 0 :=
    funext fun a => Fin.ext (match a with | ⟨0, _⟩ => rfl | ⟨1, _⟩ => rfl | ⟨2, _⟩ => rfl)
  refine congrArg x (funext fun c => Fin.ext ?_)
  match c with
  | ⟨0, _⟩ => show 0 + b.val + 0 = b.val; omega
  | ⟨1, _⟩ =>
    show min (i (Cert.ReferenceIdeal.gather_S4x16384x128_S4x512x1_S4x512x128_2_1_0_0_1_2_11128.siIdx (ix3 b k l) ⟨0, Nat.one_pos⟩)).toInt.toNat (16384 - 1) + 0 + 0 = w
    rw [hs, hw]; omega
  | ⟨2, _⟩ => show 0 + 0 + l.val = l.val; omega

/-- A word from `0` to `n` passes the test that guards a gather. -/
theorem guard_word (n w : ℕ) (hw : w ≤ n) (hn : n < 2147483648) :
    IntOp.andi (IntOp.cmpi .sge (BitVec.ofNat 32 w) 0#32) (IntOp.cmpi .sle (BitVec.ofNat 32 w) (BitVec.ofNat 32 n)) = 1#1 := by
  have h0 : (0#32).toInt = 0 := by decide
  refine IntOp.andi_eq_one.2 ⟨IntOp.cmpi_sge.2 ?_, IntOp.cmpi_sle.2 ?_⟩
  · rw [h0, word_int _ (by omega)]; omega
  · rw [word_int _ (by omega), word_int _ (by omega)]; omega

theorem word_of (w : BitVec 32) : w = BitVec.ofNat 32 w.toNat := BitVec.eq_of_toNat_eq (by rw [BitVec.toNat_ofNat, Nat.mod_eq_of_lt w.isLt])

/-- The last call's logits, row by row. -/
theorem pay3_at (x : Vec Ideal S2048x128 .f32) (w : Vec Ideal S128x10 .f32) (y : Vec Ideal S1x10 .f32) (j : Fin 2048) (c : Fin 10) :
    k2_pay3 x w y (ix2 j c) = lgE (fun l => x (ix2 j l)) (fun l => w (ix2 l c)) (y (ix2 0 c)) := by
  unfold k2_pay3 lgE
  simp [pointwise]

/-- The arrays that the last call reads. -/
theorem fin0 : stg2_0 (V10 V) d = (kv V d main_v63 : B Ideal S2048x128 .f32) := (stg2_0_eq (V10 V) d).trans (keepF10 V d (r := main_v63) (by decide)).symm
theorem fin1 : stg2_1 (V10 V) d = (kv V d main_arg11 : B Ideal S128x10 .f32) := (stg2_1_eq (V10 V) d).trans (keepF10 V d (r := main_arg11) (by decide)).symm
theorem fin2 : stg2_2 (V10 V) d = (kv V d main_v64 : B Ideal S1x10 .f32) := (stg2_2_eq (V10 V) d).trans (keepF10 V d (r := main_v64) (by decide)).symm
theorem fin3 : stg2_3 (V10 V) d = (kv V d main_v65 : B Ideal S2048x1 .i32) := (stg2_3_eq (V10 V) d).trans (keepF10 V d (r := main_v65) (by decide)).symm
theorem fin4 : stg2_4 (V10 V) d = (kv V d main_v66 : B Ideal S1x10 .f32) := (stg2_4_eq (V10 V) d).trans (keepF10 V d (r := main_v66) (by decide)).symm
theorem fin5 : stg2_5 (V10 V) d = (kv V d main_v30 : B Ideal S4x512 .i32) := (stg2_5_eq (V10 V) d).trans (keepF10 V d (r := main_v30) (by decide)).symm

/-- A candidate's logit of class `c`, from its span's representation. -/
def lgC (V : Dev nD → Valuation τ sig (Elt Ideal)) (d : Dev nD) (b : Fin 4) (k : Fin 512) (c : Fin 10) : EReal :=
  lgE (fun l => (kv V d main_v71 : B Ideal S4x512x128 .f32) (ix3 b k l)) (fun l => (kv V d main_arg11 : B Ideal S128x10 .f32) (ix2 l c))
    ((kv V d main_arg12 : B Ideal S10 .f32) (ix1 c))

theorem log_at (b : Fin 4) (k : Fin 512) (c : Fin 10) (j : Fin 2048) (hj : j.val = b.val * 512 + k.val) : lossLog (V10 V) d (ix2 j c) = lgC V d b k c := by
  unfold lossLog lgC
  rw [pay3_at, fin0, fin1, fin2]
  have e : ∀ l, (kv V d main_v63 : B Ideal S2048x128 .f32) (ix2 j l) = (kv V d main_v71 : B Ideal S4x512x128 .f32) (ix3 b k l) := fun l =>
    (k_v63_at b k l j hj).trans (k_repr b k l).symm
  have e' : (kv V d main_v64 : B Ideal S1x10 .f32) (ix2 0 c) = (kv V d main_arg12 : B Ideal S10 .f32) (ix1 c) := by
    rw [k_v64]; simp [pointwise]
  simp only [e, e']

theorem k_cand_logit (b : Fin 4) (k : Fin 512) (c : Fin 10) : (kv V d main_v72 : B Ideal S4x512x10 .f32) (ix3 b k c) = lgC V d b k c := by
  have hb := b.isLt
  have hk := k.isLt
  rw [← log_at b k c ⟨b.val * 512 + k.val, by omega⟩ rfl, k_v72]
  refine (shapeCast_apply _ _ _ (ix2 ⟨b.val * 512 + k.val, by omega⟩ c) ?_).trans ?_
  · refine (Shape.rowMajor_val_two _).trans (Eq.trans ?_ (Shape.rowMajor_val_three _).symm)
    simp [ix2, ix3]
  · rw [kv_out2 V d (r := main_v67_0) (by decide)]
    exact congrFun (left2_log 1 (V10 V) d) _

/-- The host's fold and the core's over the same elements. -/
theorem reduce_same (x : IVec S4x512 32) (v : IVec S_ 32) (h : S4x512.ReducesTo [1] S4) (h' : S4x512.Reduces [1] S4) (hu : 0 < S_.numel) (z : BitVec 32) (j : S4.Idx)
    (hv : v (Shape.Idx.first hu) = z) : Host.reduce IntOp.addi x v h hu j = reduceFold h' IntOp.addi z x j := by
  unfold Host.reduce reduceFold
  rw [hv]
  have : ∀ i, h.drop i = h'.drop i := fun i => rfl
  simp only [this]

variable (A : Agree V d V' d')
include A

theorem Agree.r_pick (b : Fin 4) (k : Fin 512) :
    (rv V' d' Cert.ReferenceIdeal.main_call7_v4 : B Ideal Cert.ReferenceIdeal.S4x512x1 .i32) (ix3 b k 0) = BitVec.ofNat 32 (pick V d b k) := by
  have h := pick_lt (V := V) (d := d) b k
  have e : (rv V' d' Cert.ReferenceIdeal.main_v107 : B Ideal Cert.ReferenceIdeal.S4x512x1 .i32) (ix3 b k 0) = BitVec.ofNat 32 (pick V d b k) := by
    rw [Ref.r_v107, A.e_indices]
    simp [pointwise]
    exact word_of _
  rw [Ref.r_call7_v4, Ref.r_call7_v3, Ref.r_call7_v2, Ref.r_call7_c_0, Ref.r_call7_v1, Ref.r_call7_v0, Ref.r_call7_c]
  simp [pointwise, e]
  exact pos_word _ _ (by omega)

theorem Agree.cand_repr (hr : ∀ b s l, Re (repA V d b s l)) :
    @Eq (B Ideal S4x512x128 .f32) (rv V' d' Cert.ReferenceIdeal.main_v108) (kv V d main_v71) := by
  refine funext fun (i : S4x512x128.Idx) => ?_
  obtain ⟨b, k, l, rfl⟩ := ex3 i
  have h := pick_lt (V := V) (d := d) b k
  rw [k_repr, Ref.r_v108]
  have e13 : (rv V' d' Cert.ReferenceIdeal.main_call7_v13 : B Ideal S4x512x128 .i1) (ix3 b k l) = 1#1 := by
    rw [Ref.r_call7_v13, Ref.r_call7_v11]
    show Host.reduce IntOp.andi _ _ _ _ _ = 1#1
    refine Host.reduce_andi_one _ _ _ _ _ (by rw [Ref.r_call7_c_3]; rfl) fun (j : Cert.ReferenceIdeal.S4x512x1.Idx) => ?_
    obtain ⟨b', k', z, rfl⟩ := ex3 j
    obtain rfl : z = 0 := Subsingleton.elim _ _
    have h' := pick_lt (V := V) (d := d) b' k'
    rw [Ref.r_call7_v10, Ref.r_call7_v6, Ref.r_call7_v9, Ref.r_call7_v8, Ref.r_call7_v7, Ref.r_call7_c_1, Ref.r_call7_v5, Ref.r_call7_c_2]
    simp [pointwise, A.r_pick]
    exact guard_word 16383 _ (by omega) (by omega)
  have e12 : (rv V' d' Cert.ReferenceIdeal.main_call7_v12 : B Ideal S4x512x128 .f32) (ix3 b k l)
      = (kv V d main_v8_0 : B Ideal S4x2048x8x128 .f32) (ix4 b ⟨pick V d b k / 8, by omega⟩ ⟨pick V d b k % 8, by omega⟩ l) := by
    rw [Ref.r_call7_v12]
    refine (take_row _ _ b k l (pick V d b k) (by rw [A.r_pick]; exact word_int _ (by omega)) h).trans ?_
    rw [Ref.r_v106, A.anchor hr]
    refine shapeCast_apply _ _ _ _ ?_
    refine (Shape.rowMajor_val_four (ix4 b _ _ l)).trans (Eq.trans ?_ (Shape.rowMajor_val_three _).symm)
    show ((b.val * 2048 + pick V d b k / 8) * 8 + pick V d b k % 8) * 128 + l.val = (b.val * 16384 + pick V d b k) * 128 + l.val
    omega
  simp [pointwise, e13, e12]

/-! ## The logits of the candidates -/

theorem Agree.cand_logit (hr : ∀ b s l, Re (repA V d b s l)) :
    @Eq (B Ideal S4x512x10 .f32) (rv V' d' Cert.ReferenceIdeal.main_v112) (kv V d main_v72) := by
  refine funext fun (i : S4x512x10.Idx) => ?_
  obtain ⟨b, k, c, rfl⟩ := ex3 i
  rw [Ref.r_v112, Ref.r_v111, Ref.r_v110, Ref.r_v109, A.a11, A.a12, A.cand_repr hr, k_cand_logit]
  unfold lgC lgE
  simp [pointwise]

/-! ## The number of candidates -/

theorem Agree.cand_num : @Eq (B Ideal S4 .i32) (rv V' d' Cert.ReferenceIdeal.main_v149) (kv V d main_v73) := by
  have e : @Eq (B Ideal S4x1 .i32) (kv V d main_v67_2) (k2_pay2 (F := Ideal) (kv V d main_v30 : B Ideal S4x512 .i32)) := by
    rw [kv_out2 V d (r := main_v67_2) (by decide)]
    refine (left2_num 1 (V10 V) d).trans ?_
    unfold lossNum
    rw [fin5]
  rw [Ref.r_v149, Ref.r_v148, Ref.r_v147, Ref.r_v146, A.e_v30, Ref.r_c_24, k_v73, e]
  refine funext fun (i : S4.Idx) => ?_
  obtain ⟨b, rfl⟩ := ex1 i
  unfold k2_pay2
  rw [shapeCast_apply _ _ (ix1 b) (ix2 b 0) (by rw [Shape.rowMajor_val_one, Shape.rowMajor_val_two]; simp [ix1, ix2]),
    shapeCast_apply _ _ (ix2 b 0) (ix1 b) (by rw [Shape.rowMajor_val_one, Shape.rowMajor_val_two]; simp [ix1, ix2])]
  rw [Ref.r_c_25, shapeCast_self]
  unfold multiReductionI
  exact reduce_same _ _ _ _ _ _ _ (by decide)

end Cert.Proof.Span
-- ==== Proof.Cls.lean ====
/-
  The class of each span: the kernel's chain of comparisons finds the first greatest of its ten logits, as the reference's arg-max does.
-/
module

public import proofs.«01_k».proof.Proof.Cand

@[expose] public section

noncomputable section

namespace Cert.Proof.Span

open Cert.KernelIdeal Cert.KernelIdeal.Gen
open Idealize.ShloMosaic Idealize.ShloMosaic.StableHlo Idealize.ShloMosaic.TcCoe
open Cert.Proof.Line
open Cert.Proof.Ref (rv)

attribute [local irreducible] kv rv VF

/-- One comparison of the chain: a greater value takes the place of the best so far, and its number the best's. -/
def stp (x : EReal) (k : BitVec 32) (q : EReal × BitVec 32) : EReal × BitVec 32 :=
  (Scalar.select (Ideal.cmp .ogt x q.1) x q.1, Scalar.select (Ideal.cmp .ogt x q.1) k q.2)

/-- The chain over the first nine of ten values. -/
def chain9 (x : Fin 10 → EReal) : EReal × BitVec 32 :=
  (stp (x 8) 8#32 (stp (x 7) 7#32 (stp (x 6) 6#32 (stp (x 5) 5#32 (stp (x 4) 4#32 (stp (x 3) 3#32 (stp (x 2) 2#32 (stp (x 1) 1#32 (x 0, 0#32)))))))))

/-- The whole chain over ten values. -/
def chain (x : Fin 10 → EReal) : EReal × BitVec 32 := stp (x 9) 9#32 (chain9 x)

/-- A row of logits from a row of representations. -/
def lgRow (x : FVec Ideal S256x128 .f32) (W : Vec Ideal S128x10 .f32) (B : Vec Ideal S1x10 .f32) (r : Fin 256) (k : Fin 10) : EReal :=
  lgE (fun l => x (ix2 r l)) (fun l => W (ix2 l k)) (B (ix2 0 k))

section cols

variable (p : FVec Ideal S256x128 .f32) (b : FVec Ideal S8x128 .f32) (e : IVec S256x1 32) (W : Vec Ideal S128x10 .f32) (B : Vec Ideal S1x10 .f32) (r : Fin 256)

theorem cl0_at (c : BitVec 32) : cl0 (F := Ideal) p W B c (ix2 r 0) = (chain (lgRow (k0_pay9 (F := Ideal) c p) W B r)).2 := by
  have h : ∀ k, k0_pay11 (F := Ideal) c p W B (ix2 r k) = lgRow (k0_pay9 (F := Ideal) c p) W B r k := fun k => by
    unfold k0_pay11 lgRow lgE; simp [pointwise]
  unfold cl0
  generalize hL : k0_pay11 (F := Ideal) c p W B = L at *
  simp only [k0_pay12, k0_pay13, k0_pay14, k0_pay15, k0_pay16, k0_pay17, k0_pay18, k0_pay19, k0_pay20, k0_pay21, hL]
  simp [pointwise, chain, chain9, stp, h]

theorem cl1_at : cl1 p b e W B (ix2 r 0) = (chain (lgRow (k0_pay23 p b e) W B r)).2 := by
  have h : ∀ k, k0_pay25 (k0_pay23 p b e) W B (ix2 r k) = lgRow (k0_pay23 p b e) W B r k := fun k => by
    unfold k0_pay25 lgRow lgE; simp [pointwise]
  unfold cl1
  generalize hL : k0_pay25 (k0_pay23 p b e) W B = L at *
  simp only [k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, hL]
  simp [pointwise, chain, chain9, stp, h]

theorem cl2_at : cl2 p b e W B (ix2 r 0) = (chain (lgRow (k0_pay51 p b e (ws1 p b)) W B r)).2 := by
  have h : ∀ k, k0_pay53 p b e (ws1 p b) W B (ix2 r k) = lgRow (k0_pay51 p b e (ws1 p b)) W B r k := fun k => by
    unfold k0_pay53 lgRow lgE; simp [pointwise]
  unfold cl2
  generalize hL : k0_pay53 p b e (ws1 p b) W B = L at *
  simp only [k0_pay54, k0_pay55, k0_pay56, k0_pay57, k0_pay58, k0_pay59, k0_pay60, k0_pay61, k0_pay62, k0_pay63, hL]
  simp [pointwise, chain, chain9, stp, h]

theorem cl3_at : cl3 p b e W B (ix2 r 0) = (chain (lgRow (k0_pay65 p b e (ws2 p b)) W B r)).2 := by
  have h : ∀ k, k0_pay67 (k0_pay65 p b e (ws2 p b)) W B (ix2 r k) = lgRow (k0_pay65 p b e (ws2 p b)) W B r k := fun k => by
    unfold k0_pay67 lgRow lgE; simp [pointwise]
  unfold cl3
  generalize hL : k0_pay67 (k0_pay65 p b e (ws2 p b)) W B = L at *
  simp only [k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, hL]
  simp [pointwise, chain, chain9, stp, h]

theorem cl4_at : cl4 p b e W B (ix2 r 0) = (chain (lgRow (k0_pay95 p b e (ws3 p b)) W B r)).2 := by
  have h : ∀ k, k0_pay97 p b e (ws3 p b) W B (ix2 r k) = lgRow (k0_pay95 p b e (ws3 p b)) W B r k := fun k => by
    unfold k0_pay97 lgRow lgE; simp [pointwise]
  unfold cl4
  generalize hL : k0_pay97 p b e (ws3 p b) W B = L at *
  simp only [k0_pay98, k0_pay99, k0_pay100, k0_pay101, k0_pay102, k0_pay103, k0_pay104, k0_pay105, k0_pay106, k0_pay107, k0_pay108, k0_pay109, hL]
  simp [pointwise, chain, chain9, stp, h]

theorem cl5_at : cl5 p b e W B (ix2 r 0) = (chain (lgRow (k0_pay111 p b e (ws4 p b)) W B r)).2 := by
  have h : ∀ k, k0_pay113 (k0_pay111 p b e (ws4 p b)) W B (ix2 r k) = lgRow (k0_pay111 p b e (ws4 p b)) W B r k := fun k => by
    unfold k0_pay113 lgRow lgE; simp [pointwise]
  unfold cl5
  generalize hL : k0_pay113 (k0_pay111 p b e (ws4 p b)) W B = L at *
  simp only [k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, hL]
  simp [pointwise, chain, chain9, stp, h]

theorem cl6_at : cl6 p b e W B (ix2 r 0) = (chain (lgRow (k0_pay142 p b e (ws5 p b)) W B r)).2 := by
  have h : ∀ k, k0_pay144 p b e (ws5 p b) W B (ix2 r k) = lgRow (k0_pay142 p b e (ws5 p b)) W B r k := fun k => by
    unfold k0_pay144 lgRow lgE; simp [pointwise]
  unfold cl6
  generalize hL : k0_pay144 p b e (ws5 p b) W B = L at *
  simp only [k0_pay145, k0_pay146, k0_pay147, k0_pay148, k0_pay149, k0_pay150, k0_pay151, k0_pay152, k0_pay153, k0_pay154, k0_pay155, k0_pay156, k0_pay157, hL]
  simp [pointwise, chain, chain9, stp, h]

/-- The spans' representations by width. -/
def ancM (c : BitVec 32) : Fin 8 → FVec Ideal S256x128 .f32
  | 0 => k0_pay9 (F := Ideal) c p
  | 1 => k0_pay23 p b e
  | 2 => k0_pay51 p b e (ws1 p b)
  | 3 => k0_pay65 p b e (ws2 p b)
  | 4 => k0_pay95 p b e (ws3 p b)
  | 5 => k0_pay111 p b e (ws4 p b)
  | 6 => k0_pay142 p b e (ws5 p b)
  | 7 => k0_pay158 p b e (ws6 p b)

theorem cl7_at (x : FVec Ideal S256x128 .f32) : k0_pay160 x W B (ix2 r 9) = lgRow x W B r 9
    ∧ k0_pay185 x W B (ix2 r 0) = (chain9 (lgRow x W B r)).1 ∧ k0_pay186 x W B (ix2 r 0) = (chain9 (lgRow x W B r)).2 := by
  have h : ∀ k, k0_pay160 x W B (ix2 r k) = lgRow x W B r k := fun k => by
    unfold k0_pay160 lgRow lgE; simp [pointwise]
  refine ⟨h 9, ?_, ?_⟩
  all_goals
    generalize hL : k0_pay160 x W B = L at *
    simp only [k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, hL]
    simp [pointwise, chain9, stp, h]

theorem cl_at (c : BitVec 32) (a : Fin 8) : clsOut p b e W B c (ix3 0 r a) = (chain (lgRow (ancM p b e c a) W B r)).2 := by
  obtain ⟨h1, h2, h3⟩ := cl7_at W B r (k0_pay158 p b e (ws6 p b))
  unfold clsOut k0_pay4
  match a with
  | 0 => simp [pointwise, cl0_at, ancM]
  | 1 => simp [pointwise, cl1_at, ancM]
  | 2 => simp [pointwise, cl2_at, ancM]
  | 3 => simp [pointwise, cl3_at, ancM]
  | 4 => simp [pointwise, cl4_at, ancM]
  | 5 => simp [pointwise, cl5_at, ancM]
  | 6 => simp [pointwise, cl6_at, ancM]
  | 7 => simp [pointwise, h1, h2, h3, ancM, chain, stp]

end cols

/-- The chain's number is the least place of the greatest value. -/
theorem chain_first (x : Fin 10 → EReal) : ∃ i : Fin 10, (chain x).2 = BitVec.ofNat 32 i.val ∧ ∀ k, x k < x i ∨ (x i = x k ∧ i ≤ k) := by
  have step : ∀ (n : ℕ) (hn : n + 1 < 10) (q : EReal × BitVec 32),
      (∃ i : Fin 10, i.val ≤ n ∧ q = (x i, BitVec.ofNat 32 i.val) ∧ ∀ k : Fin 10, k.val ≤ n → x k < x i ∨ (x i = x k ∧ i ≤ k)) →
      ∃ i : Fin 10, i.val ≤ n + 1 ∧ stp (x ⟨n + 1, hn⟩) (BitVec.ofNat 32 (n + 1)) q = (x i, BitVec.ofNat 32 i.val)
        ∧ ∀ k : Fin 10, k.val ≤ n + 1 → x k < x i ∨ (x i = x k ∧ i ≤ k) := by
    rintro n hn q ⟨i, hi, rfl, h⟩
    by_cases hlt : x i < x ⟨n + 1, hn⟩
    · refine ⟨⟨n + 1, hn⟩, le_refl _, by simp [stp, Ideal.cmp, hlt, Scalar.select], fun k hk => ?_⟩
      by_cases hk' : k.val ≤ n
      · rcases h k hk' with h1 | h1
        · exact Or.inl (h1.trans hlt)
        · exact Or.inl (h1.1 ▸ hlt)
      · obtain rfl : k = ⟨n + 1, hn⟩ := Fin.ext (by show k.val = n + 1; omega)
        exact Or.inr ⟨rfl, le_refl _⟩
    · refine ⟨i, by omega, by simp [stp, Ideal.cmp, hlt, Scalar.select], fun k hk => ?_⟩
      by_cases hk' : k.val ≤ n
      · exact h k hk'
      · obtain rfl : k = ⟨n + 1, hn⟩ := Fin.ext (by show k.val = n + 1; omega)
        exact (not_lt.mp hlt).lt_or_eq.imp id fun h => ⟨h.symm, Fin.mk_le_mk.2 (by omega)⟩
  have h0 : ∃ i : Fin 10, i.val ≤ 0 ∧ ((x 0, 0#32) : EReal × BitVec 32) = (x i, BitVec.ofNat 32 i.val) ∧ ∀ k : Fin 10, k.val ≤ 0 → x k < x i ∨ (x i = x k ∧ i ≤ k) :=
    ⟨0, le_refl _, rfl, fun k hk => by
      obtain rfl : k = 0 := Fin.ext (by show k.val = 0; omega)
      exact Or.inr ⟨rfl, le_refl _⟩⟩
  obtain ⟨i, _, e, h⟩ := step 8 (by decide) _ (step 7 (by decide) _ (step 6 (by decide) _ (step 5 (by decide) _ (step 4 (by decide) _
    (step 3 (by decide) _ (step 2 (by decide) _ (step 1 (by decide) _ (step 0 (by decide) _ h0))))))))
  exact ⟨i, (congrArg Prod.snd e : _), fun k => h k (by omega)⟩

variable (V : Dev nD → Valuation τ sig (Elt Ideal)) (d : Dev nD)
variable {V' : Dev Cert.ReferenceIdeal.nD → Valuation Cert.ReferenceIdeal.τ Cert.ReferenceIdeal.sig (Elt Ideal)} {d' : Dev Cert.ReferenceIdeal.nD}

/-- A span's logit of class `c`. -/
def lgF (b : Fin 4) (s : Fin 2048) (a : Fin 8) (c : Fin 10) : EReal :=
  lgE (fun l => (kv V d main_v8_0 : B Ideal S4x2048x8x128 .f32) (ix4 b s a l)) (fun l => (kv V d main_arg11 : B Ideal S128x10 .f32) (ix2 l c))
    ((kv V d main_arg12 : B Ideal S10 .f32) (ix1 c))

theorem ancM_at (b : Fin 4) (s : Fin 2048) (a : Fin 8) (l : Fin 128) :
    ancM (prev (V1 V) d (ptA b s).val) ((blkAt (V1 V) d (ptA b s)).ahd (cw (grid0.coords (ptA b s)))) (k0_pay8 (cw (grid0.coords (ptA b s)))) (cw (grid0.coords (ptA b s))) a (ix2 (inB s) l)
      = (kv V d main_v8_0 : B Ideal S4x2048x8x128 .f32) (ix4 b s a l) := by
  have e : (kv V d main_v8_0 : B Ideal S4x2048x8x128 .f32) (ix4 b s a l) = ancAt (V1 V) d (ptA b s) (ix4 0 (inB s) a l) := by
    rw [kv_out0 V d (r := main_v8_0) (by decide)]
    exact congrFun (left12 (V1 V) d) (ix4 b s a l)
  rw [e]
  show _ = anc _ _ _ _ a (ix4 0 (inB s) 0 l)
  match a with
  | 0 => show _ = k0_pay10 _ _ _; unfold k0_pay10; simp [pointwise, ancM]
  | 1 => unfold anc k0_pay24; simp [pointwise, ancM]
  | 2 => show _ = k0_pay52 _ _ _ _ _; unfold k0_pay52; simp [pointwise, ancM]
  | 3 => show _ = k0_pay66 _ _ _ _ _; unfold k0_pay66; simp [pointwise, ancM]
  | 4 => show _ = k0_pay96 _ _ _ _ _; unfold k0_pay96; simp [pointwise, ancM]
  | 5 => show _ = k0_pay112 _ _ _ _ _; unfold k0_pay112; simp [pointwise, ancM]
  | 6 => show _ = k0_pay143 _ _ _ _ _; unfold k0_pay143; simp [pointwise, ancM]
  | 7 => show _ = k0_pay159 _ _ _ _ _; unfold k0_pay159; simp [pointwise, ancM]

/-- The kernel's classes. -/
theorem k_cls (b : Fin 4) (s : Fin 2048) (a : Fin 8) : (kv V d main_v8_4 : B Ideal S4x2048x8 .i32) (ix3 b s a) = (chain (lgF V d b s a)).2 := by
  rw [kv_out0 V d (r := main_v8_4) (by decide)]
  refine (congrFun (left16 (V1 V) d) (ix3 b s a)).trans ?_
  show clsAt (V1 V) d (ptA b s) (ix3 0 (inB s) a) = _
  unfold clsAt
  rw [cl_at]
  refine congrArg (fun z => (chain z).2) (funext fun c => ?_)
  unfold lgRow lgF
  have hw : (blkAt (V1 V) d (ptA b s)).wc = (kv V d main_arg11 : B Ideal S128x10 .f32) := by
    show stg0_10 (V1 V) d (ptA b s) = _
    rw [stg10_eq]
    exact (keepF1 V d (r := main_arg11) (by decide)).symm
  have hb : ((blkAt (V1 V) d (ptA b s)).bc : B Ideal S1x10 .f32) (ix2 0 c) = (kv V d main_arg12 : B Ideal S10 .f32) (ix1 c) := by
    show (stg0_11 (V1 V) d (ptA b s) : B Ideal S1x10 .f32) (ix2 0 c) = _
    rw [stg11_eq]
    refine (congrFun (keepF1 V d (r := main_v7) (by decide)).symm (ix2 0 c)).trans ?_
    rw [k_v7]
    simp [pointwise]
  rw [hw, hb]
  simp only [ancM_at]

variable {V d}
variable (A : Agree V d V' d')
include A

theorem Agree.cls (hr : ∀ b s l, Re (repA V d b s l)) :
    @Eq (B Ideal S4x2048x8 .i32) (rv V' d' Cert.ReferenceIdeal.main_v137) (kv V d main_v8_4) := by
  refine funext fun (i : S4x2048x8.Idx) => ?_
  obtain ⟨b, s, a, rfl⟩ := ex3 i
  have hx : ∀ c, (rv V' d' Cert.ReferenceIdeal.main_v136 : B Ideal Cert.ReferenceIdeal.S4x2048x8x10 .f32) (ix4 b s a c) = lgF V d b s a c := fun c => by
    rw [Ref.r_v136, Ref.r_v135, Ref.r_v134, Ref.r_v133, A.a11, A.a12, A.anchor hr]
    unfold lgF lgE
    simp [pointwise]
  have hy : ∀ b s a k, (rv V' d' Cert.ReferenceIdeal.main_call11_v0 : B Ideal Cert.ReferenceIdeal.S4x2048x8x10 .i32) (ix4 b s a k) = BitVec.ofNat 32 k.val := fun b s a k => by
    rw [Ref.r_call11_v0]; simp [pointwise]
  have h0 : ∀ j, (rv V' d' Cert.ReferenceIdeal.main_call11_cst : B Ideal S_ .f32) j = (⊥ : EReal) := fun j => by
    rw [Ref.r_call11_cst]; exact bot_word
  have h1 : ∀ j, (rv V' d' Cert.ReferenceIdeal.main_call11_c : B Ideal S_ .i32) j = 0#32 := fun j => by
    rw [Ref.r_call11_c]; rfl
  obtain ⟨k, e, hk⟩ := chain_first (lgF V d b s a)
  rw [k_cls, e, Ref.r_v137]
  exact argmax_last (by decide) _ _ hy _ _ h0 h1 _ _ b s a k fun c => by rw [hx, hx]; exact hk c

end Cert.Proof.Span
-- ==== Proof.Soft.lean ====
/-
  The negative log-likelihood of one row of logits: as the difference that a log-softmax takes, and as the kernel writes it.
-/
module

public import proofs.«01_k».proof.Proof.Prefix
public import proofs.«01_k».proof.Proof.Argmax

@[expose] public section

noncomputable section

namespace Cert.Proof.Span

open Idealize.ShloMosaic

/-- The greatest of a row. -/
def topR {n : ℕ} (x : Fin n → EReal) : EReal := (Finset.univ : Finset (Fin n)).fold max ⊥ x
/-- The logarithm of the sum of the exponentials of a row less its greatest. -/
def lseR {n : ℕ} (x : Fin n → EReal) : EReal := Ideal.log (∑ k, Ideal.exp (x k - topR x))
/-- The negative log-likelihood of place `k` of a row. -/
def nllR {n : ℕ} (x : Fin n → EReal) (k : Fin n) : EReal := (topR x + lseR x) - x k

theorem Re.max {x y : EReal} (hx : Re x) (hy : Re y) : Re (max x y) := by
  rcases le_total x y with h | h
  · rw [max_eq_right h]; exact hy
  · rw [max_eq_left h]; exact hx

theorem re_top {n : ℕ} (x : Fin (n + 1) → EReal) (h : ∀ k, Re (x k)) : Re (topR x) := by
  have : ∀ (s : Finset (Fin (n + 1))), s.fold max ⊥ x = ⊥ ∧ s = ∅ ∨ Re (s.fold max ⊥ x) := fun s => by
    induction s using Finset.induction_on with
    | empty => exact .inl ⟨by simp, rfl⟩
    | insert a s ha ih =>
      refine .inr ?_
      rw [Finset.fold_insert ha]
      rcases ih with ⟨e, _⟩ | e
      · rw [e, max_eq_left bot_le]; exact h a
      · exact (h a).max e
  rcases this Finset.univ with ⟨_, e⟩ | e
  · exact absurd e (Finset.univ_nonempty.ne_empty)
  · exact e

theorem re_lse {n : ℕ} (x : Fin (n + 1) → EReal) (h : ∀ k, Re (x k)) : Re (lseR x) := by
  obtain ⟨m, hm⟩ := re_top x h
  choose y hy using h
  have e : ∑ k, Ideal.exp (x k - topR x) = ((∑ k, Real.exp (y k - m) : ℝ) : EReal) := by
    rw [hm]
    simp only [hy, ← EReal.coe_sub]
    have : ∀ r : ℝ, Ideal.exp (r : EReal) = ((Real.exp r : ℝ) : EReal) := fun _ => rfl
    simp only [this]
    exact (map_sum (⟨⟨Real.toEReal, EReal.coe_zero⟩, EReal.coe_add⟩ : ℝ →+ EReal) _ _).symm
  have hp : 0 < ∑ k, Real.exp (y k - m) := Finset.sum_pos (fun k _ => Real.exp_pos _) Finset.univ_nonempty
  refine ⟨Real.log (∑ k, Real.exp (y k - m)), ?_⟩
  unfold lseR
  rw [e]
  show (if ∑ k, Real.exp (y k - m) ≤ 0 then (⊥ : EReal) else _) = _
  rw [if_neg (not_le.2 hp)]

/-- Of a row of reals, the log-softmax's difference negated is the negative log-likelihood. -/
theorem nll_soft {n : ℕ} (x : Fin (n + 1) → EReal) (h : ∀ k, Re (x k)) (k : Fin (n + 1)) : -((x k - topR x) - lseR x) = nllR x k := by
  obtain ⟨m, hm⟩ := re_top x h
  obtain ⟨l, hl⟩ := re_lse x h
  obtain ⟨y, hy⟩ := h k
  unfold nllR
  rw [hm, hl, hy]
  norm_cast
  ring

/-- A sum in which one place at most is kept. -/
theorem sum_pick {n : ℕ} (hn : n ≤ 2 ^ 31) (w : ℕ) (hw : w < n) (x : Fin n → EReal) :
    ∑ k : Fin n, Scalar.select (IntOp.cmpi .eq (BitVec.ofNat 32 k.val) (BitVec.ofNat 32 w)) (x k) 0 = x ⟨w, hw⟩ := by
  rw [Finset.sum_eq_single (⟨w, hw⟩ : Fin n) (fun k _ hk => ?_) (fun h => absurd (Finset.mem_univ _) h)]
  · simp [Scalar.select, IntOp.cmpi]
  · have : (BitVec.ofNat 32 k.val) ≠ BitVec.ofNat 32 w := fun e => hk (Fin.ext (by
      have := congrArg BitVec.toNat e
      rw [BitVec.toNat_ofNat, BitVec.toNat_ofNat, Nat.mod_eq_of_lt (by omega), Nat.mod_eq_of_lt (by omega)] at this
      exact this))
    simp [Scalar.select, IntOp.cmpi, beq_eq_false_iff_ne.2 this]

end Cert.Proof.Span

end
-- ==== Proof.LossA.lean ====
/-
  The loss of the span labels: the kernel's running sums over its grid's blocks are the sums over every span.
-/
module

public import proofs.«01_k».proof.Proof.Cand
public import proofs.«01_k».proof.Proof.Soft

@[expose] public section

noncomputable section

namespace Cert.Proof.Span

open Cert.KernelIdeal Cert.KernelIdeal.Gen
open Idealize.ShloMosaic Idealize.ShloMosaic.StableHlo Idealize.ShloMosaic.TcCoe
open Cert.Proof.Line
open Cert.Proof.Ref (rv)

attribute [local irreducible] kv rv VF

variable {V : Dev nD → Valuation τ sig (Elt Ideal)} {d : Dev nD}
variable {V' : Dev Cert.ReferenceIdeal.nD → Valuation Cert.ReferenceIdeal.τ Cert.ReferenceIdeal.sig (Elt Ideal)} {d' : Dev Cert.ReferenceIdeal.nD}

/-! ## One span's term -/

/-- The number of a span's label. -/
def lbl (V : Dev nD → Valuation τ sig (Elt Ideal)) (d : Dev nD) (b : Fin 4) (s : Fin 2048) (a : Fin 8) : ℕ := ((kv V d main_arg4 : B Ideal S4x2048x8 .i32) (ix3 b s a)).toNat

/-- The weight of a label. -/
def wlab : Fin 2 → EReal := fun k => Ideal.ofBits .f32 (Cert.ReferenceIdeal.lit0 k)

/-- The weighted negative log-likelihood of a span's label. -/
def spanLoss (V : Dev nD → Valuation τ sig (Elt Ideal)) (d : Dev nD) (h : ∀ b s a, lbl V d b s a < 2) (b : Fin 4) (s : Fin 2048) (a : Fin 8) : EReal :=
  nllR (lgA V d b s a) ⟨lbl V d b s a, h b s a⟩ * wlab ⟨lbl V d b s a, h b s a⟩

theorem topR_two (x : Fin 2 → EReal) : topR x = max (x 0) (x 1) := by
  unfold topR
  rw [show (Finset.univ : Finset (Fin 2)) = insert 0 {1} from rfl, Finset.fold_insert (by decide), Finset.fold_singleton, max_eq_left (b := ⊥) bot_le]

/-- A choice between two by a word that is 0 or 1. -/
theorem pick_two (w : ℕ) (hw : w < 2) (x : Fin 2 → EReal) : Scalar.select (IntOp.cmpi .eq (BitVec.ofNat 32 w) 1#32) (x 1) (x 0) = x ⟨w, hw⟩ := by
  obtain rfl | rfl : w = 0 ∨ w = 1 := by omega
  · simp [Scalar.select, IntOp.cmpi]
  · simp [Scalar.select, IntOp.cmpi]

/-- The two logits of row `r`, column `a` of a block. -/
def lgX (X : Blk Ideal) (r : Fin 256) (a : Fin 8) : Fin 2 → EReal
  | 0 => X.lg0 (ix2 r a)
  | 1 => k0_pay189 X.rep X.wp1 X.b1 (ix2 r a)

theorem nll_blk (X : Blk Ideal) (r : Fin 256) (a : Fin 8) (w : ℕ) (hw : w < 2) (hl : X.lab (ix3 0 r a) = BitVec.ofNat 32 w) :
    k0_pay194 X.rep X.lg0 X.wp1 X.b1 X.lab (ix2 r a) = nllR (lgX X r a) ⟨w, hw⟩ := by
  unfold k0_pay194 k0_pay193 nllR lseR
  rw [← pick_two w hw (lgX X r a), topR_two, Fin.sum_univ_two]
  simp [pointwise, hl]
  rfl

theorem wt_blk (X : Blk Ideal) (r : Fin 256) (a : Fin 8) (w : ℕ) (hw : w < 2) (hl : X.lab (ix3 0 r a) = BitVec.ofNat 32 w) :
    k0_pay1 (F := Ideal) (k0_pay195 (F := Ideal) X.lab) (k0_pay196 (F := Ideal)) (k0_pay197 (F := Ideal)) (ix2 r a) = wlab ⟨w, hw⟩ := by
  unfold k0_pay1 k0_pay195 k0_pay193 k0_pay196 k0_pay197
  rw [← pick_two w hw wlab]
  have w0 : wlab 0 = Ideal.ofBits .f32 0x3E4CCCCD#32 := rfl
  have w1 : wlab 1 = 1 := Ideal.ofBits_one_f32
  simp [pointwise, hl, w0, w1]

/-! ## One block's terms -/

theorem sum0_at (X : Blk Ideal) (z : EReal) :
    X.sum0 z = z + ∑ r : Fin 256, ∑ a : Fin 8, k0_pay194 X.rep X.lg0 X.wp1 X.b1 X.lab (ix2 r a)
      * k0_pay1 (F := Ideal) (k0_pay195 (F := Ideal) X.lab) (k0_pay196 (F := Ideal)) (k0_pay197 (F := Ideal)) (ix2 r a) := by
  unfold Blk.sum0 k0_pay2
  simp [pointwise]

theorem sum1_at (X : Blk Ideal) (z : EReal) :
    X.sum1 z = z + ∑ r : Fin 256, ∑ a : Fin 8, k0_pay1 (F := Ideal) (k0_pay195 (F := Ideal) X.lab) (k0_pay196 (F := Ideal)) (k0_pay197 (F := Ideal)) (ix2 r a) := by
  unfold Blk.sum1 k0_pay3
  simp [pointwise]

theorem blk_lab (t : Fin cfg0.grid.N) (r : Fin 256) (a : Fin 8) :
    (blkAt (V1 V) d t).lab (ix3 0 r a) = BitVec.ofNat 32 (lbl V d ⟨sen t, sen_lt t⟩ ⟨row t + r.val, by have := row_lt t; omega⟩ a) := by
  show stg0_2 (V1 V) d t (ix3 0 r a) = _
  rw [stg2_at]
  refine (congrFun (keepF1 V d (r := main_arg4) (by decide)).symm _).trans ?_
  exact word_of _

theorem blk_lgX (t : Fin cfg0.grid.N) (r : Fin 256) (a : Fin 8) :
    lgX (blkAt (V1 V) d t) r a = lgA V d ⟨sen t, sen_lt t⟩ ⟨row t + r.val, by have := row_lt t; omega⟩ a := by
  refine funext fun c => ?_
  match c with
  | 0 => exact blk_lg0 V d t r a
  | 1 => exact blk_lg1 V d t r a

/-- What the block of point `t` adds to the first sum, and to the second. -/
def add0 (V : Dev nD → Valuation τ sig (Elt Ideal)) (d : Dev nD) (h : ∀ b s a, lbl V d b s a < 2) (t : Fin grid0.N) : EReal :=
  ∑ r : Fin 256, ∑ a : Fin 8, spanLoss V d h ⟨sen t, sen_lt t⟩ ⟨row t + r.val, by have := row_lt t; omega⟩ a
def add1 (V : Dev nD → Valuation τ sig (Elt Ideal)) (d : Dev nD) (h : ∀ b s a, lbl V d b s a < 2) (t : Fin grid0.N) : EReal :=
  ∑ r : Fin 256, ∑ a : Fin 8, wlab ⟨lbl V d ⟨sen t, sen_lt t⟩ ⟨row t + r.val, by have := row_lt t; omega⟩ a, h _ _ _⟩

theorem blk_sum0 (h : ∀ b s a, lbl V d b s a < 2) (t : Fin grid0.N) (z : EReal) : (blkAt (V1 V) d t).sum0 z = z + add0 V d h t := by
  rw [sum0_at]
  unfold add0 spanLoss
  refine congrArg (z + ·) (Finset.sum_congr rfl fun r _ => Finset.sum_congr rfl fun a _ => ?_)
  rw [nll_blk _ r a _ (h _ _ _) (blk_lab t r a), wt_blk _ r a _ (h _ _ _) (blk_lab t r a), blk_lgX]

theorem blk_sum1 (h : ∀ b s a, lbl V d b s a < 2) (t : Fin grid0.N) (z : EReal) : (blkAt (V1 V) d t).sum1 z = z + add1 V d h t := by
  rw [sum1_at]
  unfold add1
  refine congrArg (z + ·) (Finset.sum_congr rfl fun r _ => Finset.sum_congr rfl fun a _ => ?_)
  rw [wt_blk _ r a _ (h _ _ _) (blk_lab t r a)]

/-! ## The running sums -/

/-- The point numbered `n`. -/
def ptN (n : ℕ) : Fin grid0.N := ⟨n % 36, by rw [N_0]; exact Nat.mod_lt _ (by decide)⟩

theorem acc_sum (h : ∀ b s a, lbl V d b s a < 2) (n : ℕ) :
    acc (V1 V) d n = (∑ m ∈ Finset.range n, (if m % 9 < 8 then add0 V d h (ptN m) else 0), ∑ m ∈ Finset.range n, (if m % 9 < 8 then add1 V d h (ptN m) else 0)) := by
  induction n with
  | zero =>
    rw [Finset.sum_range_zero, Finset.sum_range_zero]
    exact Prod.ext Ideal.ofBits_zero_f32 Ideal.ofBits_zero_f32
  | succ n ih =>
    show (if n % 9 < 8 then _ else _) = _
    rw [Finset.sum_range_succ, Finset.sum_range_succ]
    by_cases hn : n % 9 < 8
    · rw [if_pos hn, if_pos hn, if_pos hn, ih]
      exact Prod.ext (blk_sum0 h (ptN n) _) (blk_sum1 h (ptN n) _)
    · rw [if_neg hn, if_neg hn, if_neg hn, ih]
      simp

/-- A sum over the points, of those that hold a block: by text and block. -/
theorem sum_points (f : ℕ → EReal) : ∑ m ∈ Finset.range 35, (if m % 9 < 8 then f m else 0) = ∑ b : Fin 4, ∑ q : Fin 8, f (b.val * 9 + q.val) := by
  simp [Finset.sum_range_succ, Fin.sum_univ_succ]
  ac_rfl

/-- A sum over a text's positions: by block and row. -/
theorem sum_block (f : Fin 2048 → EReal) : ∑ s, f s = ∑ q : Fin 8, ∑ r : Fin 256, f ⟨q.val * 256 + r.val, by omega⟩ := by
  rw [← Fintype.sum_prod_type']
  refine (Fintype.sum_equiv (finProdFinEquiv : Fin 8 × Fin 256 ≃ Fin (8 * 256)) _ _ fun x => ?_).symm
  refine congrArg f (Fin.ext ?_)
  simp [finProdFinEquiv]
  omega

theorem sum_all (f : Fin 4 → Fin 2048 → EReal) :
    ∑ m ∈ Finset.range 35, (if m % 9 < 8 then ∑ r : Fin 256, f ⟨sen (ptN m), sen_lt _⟩ ⟨row (ptN m) + r.val, by have := row_lt (ptN m); omega⟩ else 0) = ∑ b, ∑ s, f b s := by
  rw [sum_points (fun m => ∑ r : Fin 256, f ⟨sen (ptN m), sen_lt _⟩ ⟨row (ptN m) + r.val, by have := row_lt (ptN m); omega⟩)]
  refine Finset.sum_congr rfl fun b _ => ?_
  rw [sum_block (f b)]
  refine Finset.sum_congr rfl fun q _ => Finset.sum_congr rfl fun r _ => ?_
  have hb := b.isLt
  have hq := q.isLt
  have hm : (ptN (b.val * 9 + q.val)).val = b.val * 9 + q.val := Nat.mod_eq_of_lt (by omega)
  have e1 : (⟨sen (ptN (b.val * 9 + q.val)), sen_lt _⟩ : Fin 4) = b := Fin.ext (by show sen _ = b.val; unfold sen; rw [hm]; omega)
  have e2 : ∀ p, (⟨row (ptN (b.val * 9 + q.val)) + r.val, p⟩ : Fin 2048) = ⟨q.val * 256 + r.val, by omega⟩ := fun p =>
    Fin.ext (by show row _ + r.val = q.val * 256 + r.val; unfold row; rw [hm]; omega)
  rw [e1, e2]

/-- The loss, as a quotient of two sums over the spans. -/
def spanTotal (V : Dev nD → Valuation τ sig (Elt Ideal)) (d : Dev nD) (h : ∀ b s a, lbl V d b s a < 2) : EReal :=
  Ideal.div (∑ b, ∑ s, ∑ a, spanLoss V d h b s a) (∑ b, ∑ s, ∑ a, wlab ⟨lbl V d b s a, h b s a⟩ + Ideal.ofBits .f32 0x358637BD#32)

theorem pay6_at (x y : EReal) : k0_pay6 (F := Ideal) x y (ix2 0 0) = Ideal.div x (y + Ideal.ofBits .f32 0x358637BD#32) := rfl

theorem k_loss (h : ∀ b s a, lbl V d b s a < 2) : (kv V d main_v69 : B Ideal S1 .f32) (ix1 0) = spanTotal V d h := by
  have e : (kv V d main_v8_5 : B Ideal S1x1 .f32) (ix2 0 0) = lossAt (V1 V) d 35 (ix2 0 0) := by
    rw [kv_out0 V d (r := main_v8_5) (by decide)]
    exact congrFun (left17 (V1 V) d) _
  rw [k_v69]
  refine (shapeCast_apply _ _ _ (ix2 0 0) (by rw [Shape.rowMajor_val_one, Shape.rowMajor_val_two]; rfl)).trans ?_
  rw [e]
  unfold lossAt
  rw [pay6_at, acc_sum h]
  unfold add0 add1 spanTotal
  rw [sum_all (fun b s => ∑ a, spanLoss V d h b s a), sum_all (fun b s => ∑ a, wlab ⟨lbl V d b s a, h b s a⟩)]

/-! ## The reference's loss -/

/-- One number along the last axis of each row, named by a word. -/
theorem take_two (x : Cert.ReferenceIdeal.S4x2048x8x2.Idx → EReal) (i : IVec Cert.ReferenceIdeal.S4x2048x8x1x1 32) (b : Fin 4) (s : Fin 2048) (a : Fin 8) (w : ℕ)
    (hw : (i (ix5 b s a 0 0)).toInt = w) (hl : w < 2) :
    Host.gather Cert.ReferenceIdeal.gather_S4x2048x8x2_S4x2048x8x1x1_S4x2048x8x1_n_3_012_012_3_4_1111 x i (ix4 b s a 0) = x (ix4 b s a ⟨w, hl⟩) := by
  have hs : Cert.ReferenceIdeal.gather_S4x2048x8x2_S4x2048x8x1x1_S4x2048x8x1_n_3_012_012_3_4_1111.siIdx (ix4 b s a 0) ⟨0, Nat.one_pos⟩ = ix5 b s a 0 0 :=
    funext fun y => Fin.ext (match y with | ⟨0, _⟩ => rfl | ⟨1, _⟩ => rfl | ⟨2, _⟩ => rfl | ⟨3, _⟩ => rfl | ⟨4, _⟩ => rfl)
  refine congrArg x (funext fun c => Fin.ext ?_)
  match c with
  | ⟨0, _⟩ => show 0 + b.val + 0 = b.val; omega
  | ⟨1, _⟩ => show 0 + s.val + 0 = s.val; omega
  | ⟨2, _⟩ => show 0 + a.val + 0 = a.val; omega
  | ⟨3, _⟩ =>
    show min (i (Cert.ReferenceIdeal.gather_S4x2048x8x2_S4x2048x8x1x1_S4x2048x8x1_n_3_012_012_3_4_1111.siIdx (ix4 b s a 0) ⟨0, Nat.one_pos⟩)).toInt.toNat (2 - 1) + 0 + 0 = w
    rw [hs, hw]; omega

/-- One weight of two, named by a word. -/
theorem take_wlab (x : Cert.ReferenceIdeal.S2.Idx → EReal) (i : IVec Cert.ReferenceIdeal.S4x2048x8x1 32) (b : Fin 4) (s : Fin 2048) (a : Fin 8) (w : ℕ)
    (hw : (i (ix4 b s a 0)).toInt = w) (hl : w < 2) :
    Host.gather Cert.ReferenceIdeal.gather_S2_S4x2048x8x1_S4x2048x8_n_0_n_n_0_3_1 x i (ix3 b s a) = x (ix1 ⟨w, hl⟩) := by
  have hs : Cert.ReferenceIdeal.gather_S2_S4x2048x8x1_S4x2048x8_n_0_n_n_0_3_1.siIdx (ix3 b s a) ⟨0, Nat.one_pos⟩ = ix4 b s a 0 :=
    funext fun y => Fin.ext (match y with | ⟨0, _⟩ => rfl | ⟨1, _⟩ => rfl | ⟨2, _⟩ => rfl | ⟨3, _⟩ => rfl)
  refine congrArg x (funext fun c => Fin.ext ?_)
  match c with
  | ⟨0, _⟩ =>
    show min (i (Cert.ReferenceIdeal.gather_S2_S4x2048x8x1_S4x2048x8_n_0_n_n_0_3_1.siIdx (ix3 b s a) ⟨0, Nat.one_pos⟩)).toInt.toNat (2 - 1) + 0 + 0 = w
    rw [hs, hw]; omega

variable (A : Agree V d V' d')
include A

theorem Agree.r_soft (b : Fin 4) (s : Fin 2048) (a : Fin 8) (c : Fin 2) :
    (rv V' d' Cert.ReferenceIdeal.main_v64 : B Ideal S4x2048x8x2 .f32) (ix4 b s a c) = (lgA V d b s a c - topR (lgA V d b s a)) - lseR (lgA V d b s a) := by
  have hl : ∀ c, (rv V' d' Cert.ReferenceIdeal.main_v58 : B Ideal S4x2048x8x2 .f32) (ix4 b s a c) = lgA V d b s a c := fun c => A.logit b s a c
  have h2 : (rv V' d' Cert.ReferenceIdeal.main_call4_v2 : B Ideal S4x2048x8 .f32) (ix3 b s a) = topR (lgA V d b s a) := by
    rw [Ref.r_call4_v2, Ref.r_call4_v1, Ref.r_call4_cst_0, Ref.r_call4_v0, Ref.r_call4_cst]
    unfold topR
    simp [pointwise, hl, bot_word]
  have h5 : ∀ c, (rv V' d' Cert.ReferenceIdeal.main_call4_v5 : B Ideal S4x2048x8x2 .f32) (ix4 b s a c) = lgA V d b s a c - topR (lgA V d b s a) := fun c => by
    rw [Ref.r_call4_v5, Ref.r_call4_v4, Ref.r_call4_v3]
    simp [pointwise, hl, h2]
  rw [Ref.r_v64, Ref.r_call4_v10, Ref.r_call4_v9, Ref.r_call4_v8, Ref.r_call4_v7, Ref.r_call4_v6, Ref.r_call4_cst_1]
  unfold lseR
  simp [pointwise, h5, Ideal.ofBits_zero_f32]

theorem Agree.r_lbl (h : ∀ b s a, lbl V d b s a < 2) (b : Fin 4) (s : Fin 2048) (a : Fin 8) :
    (rv V' d' Cert.ReferenceIdeal.main_v74 : B Ideal Cert.ReferenceIdeal.S4x2048x8x1 .i32) (ix4 b s a 0) = BitVec.ofNat 32 (lbl V d b s a) := by
  have e : (kv V d main_arg4 : B Ideal S4x2048x8 .i32) (ix3 b s a) = BitVec.ofNat 32 (lbl V d b s a) := word_of _
  have := h b s a
  rw [Ref.r_v74, Ref.r_v73, Ref.r_v72, Ref.r_v71, Ref.r_c_12, Ref.r_v70, Ref.r_v69, Ref.r_c_11, A.a4]
  simp [pointwise, e]
  exact pos_word _ _ (by omega)

theorem Agree.r_lbl' (h : ∀ b s a, lbl V d b s a < 2) (b : Fin 4) (s : Fin 2048) (a : Fin 8) :
    (rv V' d' Cert.ReferenceIdeal.main_call5_v5 : B Ideal Cert.ReferenceIdeal.S4x2048x8x1x1 .i32) (ix5 b s a 0 0) = BitVec.ofNat 32 (lbl V d b s a) := by
  have e : (kv V d main_arg4 : B Ideal S4x2048x8 .i32) (ix3 b s a) = BitVec.ofNat 32 (lbl V d b s a) := word_of _
  have := h b s a
  rw [Ref.r_call5_v5]
  refine (shapeCast_apply _ _ _ (ix4 b s a 0) (by rw [Shape.rowMajor_val_four, Shape.rowMajor_val_five]; simp [ix5, ix4])).trans ?_
  rw [Ref.r_call5_v4, Ref.r_call5_v3, Ref.r_call5_v2, Ref.r_call5_c_0, Ref.r_call5_v1, Ref.r_call5_v0, Ref.r_call5_c, Ref.r_v65, A.a4]
  simp [pointwise, e]
  exact pos_word _ _ (by omega)

theorem Agree.r_nll (hl : ∀ b s a c, Re (lgA V d b s a c)) (h : ∀ b s a, lbl V d b s a < 2) (b : Fin 4) (s : Fin 2048) (a : Fin 8) :
    (rv V' d' Cert.ReferenceIdeal.main_v68 : B Ideal S4x2048x8 .f32) (ix3 b s a) = nllR (lgA V d b s a) ⟨lbl V d b s a, h b s a⟩ := by
  have hb := h b s a
  have e12 : (rv V' d' Cert.ReferenceIdeal.main_call5_v12 : B Ideal Cert.ReferenceIdeal.S4x2048x8x1 .i1) (ix4 b s a 0) = 1#1 := by
    rw [Ref.r_call5_v12]
    show Host.reduce IntOp.andi _ _ _ _ _ = 1#1
    refine Host.reduce_andi_one _ _ _ _ _ (by rw [Ref.r_call5_c_3]; rfl) fun (j : Cert.ReferenceIdeal.S4x2048x8x1x1.Idx) => ?_
    obtain ⟨b', s', a', z, y, rfl⟩ : ∃ (b' : Fin 4) (s' : Fin 2048) (a' : Fin 8) (z : Fin 1) (y : Fin 1), j = ix5 b' s' a' z y :=
      ⟨j 0, j 1, j 2, j 3, j 4, funext fun k => match k with | ⟨0, _⟩ => rfl | ⟨1, _⟩ => rfl | ⟨2, _⟩ => rfl | ⟨3, _⟩ => rfl | ⟨4, _⟩ => rfl⟩
    obtain rfl : z = 0 := Subsingleton.elim _ _
    obtain rfl : y = 0 := Subsingleton.elim _ _
    have h' := h b' s' a'
    rw [Ref.r_call5_v11, Ref.r_call5_v7, Ref.r_call5_v10, Ref.r_call5_v9, Ref.r_call5_v8, Ref.r_call5_c_1, Ref.r_call5_v6, Ref.r_call5_c_2]
    simp [pointwise, A.r_lbl' h]
    exact guard_word 1 _ (by omega) (by omega)
  have e13 : (rv V' d' Cert.ReferenceIdeal.main_call5_v13 : B Ideal Cert.ReferenceIdeal.S4x2048x8x1 .f32) (ix4 b s a 0)
      = (lgA V d b s a ⟨lbl V d b s a, hb⟩ - topR (lgA V d b s a)) - lseR (lgA V d b s a) := by
    rw [Ref.r_call5_v13]
    exact (take_two _ _ b s a (lbl V d b s a) (by rw [A.r_lbl' h]; exact word_int _ (by omega)) hb).trans (A.r_soft b s a _)
  rw [Ref.r_v68, ← nll_soft _ (hl b s a) ⟨lbl V d b s a, hb⟩, ← e13]
  have e67 : (rv V' d' Cert.ReferenceIdeal.main_v67 : B Ideal S4x2048x8 .f32) (ix3 b s a)
      = (rv V' d' Cert.ReferenceIdeal.main_call5_v13 : B Ideal Cert.ReferenceIdeal.S4x2048x8x1 .f32) (ix4 b s a 0) := by
    rw [Ref.r_v67]
    refine (shapeCast_apply _ _ _ (ix4 b s a 0) (by rw [Shape.rowMajor_val_four, Shape.rowMajor_val_three]; simp [ix3, ix4])).trans ?_
    rw [Ref.r_v66]
    simp [pointwise, e12]
  rw [← e67]
  rfl

theorem Agree.loss (hm : ∀ b s, (kv V d main_arg0 : B Ideal S4x2048 .f32) (ix2 b s) = (1 : EReal)) (hl : ∀ b s a c, Re (lgA V d b s a c)) (h : ∀ b s a, lbl V d b s a < 2) :
    @Eq (B Ideal S1 .f32) (rv V' d' Cert.ReferenceIdeal.main_v86) (kv V d main_v69) := by
  refine funext fun (i : S1.Idx) => ?_
  obtain ⟨z, rfl⟩ := ex1 i
  obtain rfl : z = 0 := Subsingleton.elim _ _
  rw [k_loss h]
  have e75 : ∀ b s a, (rv V' d' Cert.ReferenceIdeal.main_v75 : B Ideal S4x2048x8 .f32) (ix3 b s a) = wlab ⟨lbl V d b s a, h b s a⟩ := fun b s a => by
    have := h b s a
    rw [Ref.r_v75]
    refine (take_wlab _ _ b s a (lbl V d b s a) (by rw [A.r_lbl h]; exact word_int _ (by omega)) (h b s a)).trans ?_
    rw [Ref.r_cst]
    unfold wlab
    refine congrArg (fun k => Ideal.ofBits .f32 (Cert.ReferenceIdeal.lit0 k)) (Fin.ext ?_)
    exact Shape.rowMajor_val_one _
  have e79 : ∀ b s a, (rv V' d' Cert.ReferenceIdeal.main_v79 : B Ideal S4x2048x8 .f32) (ix3 b s a) = spanLoss V d h b s a := fun b s a => by
    rw [Ref.r_v79, Ref.r_v78, Ref.r_v77, Ref.r_v76, A.a0]
    unfold spanLoss
    simp [pointwise, e75, A.r_nll hl h, hm]
  have e82 : ∀ b s a, (rv V' d' Cert.ReferenceIdeal.main_v82 : B Ideal S4x2048x8 .f32) (ix3 b s a) = wlab ⟨lbl V d b s a, h b s a⟩ := fun b s a => by
    rw [Ref.r_v82, Ref.r_v81, Ref.r_v76, A.a0]
    simp [pointwise, e75, hm]
  have e85 : ∀ j, (rv V' d' Cert.ReferenceIdeal.main_v85 : B Ideal Cert.ReferenceIdeal.S_ .f32) j = spanTotal V d h := fun j => by
    rw [Ref.r_v85, Ref.r_v84, Ref.r_cst_15, Ref.r_v83, Ref.r_cst_14, Ref.r_v80, Ref.r_cst_13]
    unfold spanTotal
    simp [pointwise, e79, e82, Ideal.ofBits_zero_f32]
  rw [Ref.r_v86]
  exact e85 _

end Cert.Proof.Span

end
-- ==== Proof.LossB.lean ====
/-
  The loss of the candidates' classes: sums over the candidates of weighted negative log-likelihoods, on both sides.
-/
module

public import proofs.«01_k».proof.Proof.Cand
public import proofs.«01_k».proof.Proof.Soft

@[expose] public section

noncomputable section

namespace Cert.Proof.Span

open Cert.KernelIdeal Cert.KernelIdeal.Gen
open Idealize.ShloMosaic Idealize.ShloMosaic.StableHlo Idealize.ShloMosaic.TcCoe
open Cert.Proof.Line
open Cert.Proof.Ref (rv)

attribute [local irreducible] kv rv VF

variable {V : Dev nD → Valuation τ sig (Elt Ideal)} {d : Dev nD}
variable {V' : Dev Cert.ReferenceIdeal.nD → Valuation Cert.ReferenceIdeal.τ Cert.ReferenceIdeal.sig (Elt Ideal)} {d' : Dev Cert.ReferenceIdeal.nD}

/-! ## The type of each candidate -/

theorem k_row (b : Fin 4) (k : Fin 512) : (kv V d main_call1_v5 : B Ideal S4x512x1 .i32) (ix3 b k 0) = BitVec.ofNat 32 (pick V d b k) := by
  have h := pick_lt (V := V) (d := d) b k
  rw [k_call1_v5]
  refine (shapeCast_apply _ _ _ (ix2 b k) (by rw [Shape.rowMajor_val_two, Shape.rowMajor_val_three]; simp [ix2, ix3])).trans ?_
  have e : (kv V d main_indices : B Ideal S4x512 .i32) (ix2 b k) = BitVec.ofNat 32 (pick V d b k) := word_of _
  rw [k_call1_v4, k_call1_v3, k_call1_v2, k_call1_c_0, k_call1_v1, k_call1_v0, k_call1_c]
  simp [pointwise, e]
  exact pos_word _ _ (by omega)

/-- A candidate's type is one of the types given. -/
theorem k_type (b : Fin 4) (k : Fin 512) : ∃ i, (kv V d main_v32 : B Ideal S4x512 .i32) (ix2 b k) = (kv V d main_arg5 : B Ideal S4x2048x8 .i32) i := by
  have e12 : (kv V d main_call1_v12 : B Ideal S4x512 .i1) (ix2 b k) = 1#1 := by
    rw [k_call1_v12]
    show Host.reduce IntOp.andi _ _ _ _ _ = 1#1
    refine Host.reduce_andi_one _ _ _ _ _ (by rw [k_call1_c_3]; rfl) fun (j : S4x512x1.Idx) => ?_
    obtain ⟨b', k', z, rfl⟩ := ex3 j
    obtain rfl : z = 0 := Subsingleton.elim _ _
    have h' := pick_lt (V := V) (d := d) b' k'
    rw [k_call1_v11, k_call1_v7, k_call1_v10, k_call1_v9, k_call1_v8, k_call1_c_1, k_call1_v6, k_call1_c_2]
    simp [pointwise, k_row]
    exact guard_word 16383 _ (by omega) (by omega)
  have e13 : ∃ i, (kv V d main_call1_v13 : B Ideal S4x512 .i32) (ix2 b k) = (kv V d main_arg5 : B Ideal S4x2048x8 .i32) i := by
    rw [k_call1_v13, k_v31]
    exact ⟨_, rfl⟩
  obtain ⟨i, hi⟩ := e13
  refine ⟨i, ?_⟩
  rw [k_v32, ← hi]
  simp [pointwise, e12]

/-- The number of a candidate's type. -/
def typ (V : Dev nD → Valuation τ sig (Elt Ideal)) (d : Dev nD) (b : Fin 4) (k : Fin 512) : ℕ := ((kv V d main_v32 : B Ideal S4x512 .i32) (ix2 b k)).toNat

theorem toNat_lt {w : BitVec 32} {n : ℕ} (h : 0 ≤ w.toInt ∧ w.toInt < n) : w.toNat < n := by
  have := h.1; have := h.2
  have e := BitVec.toInt_eq_toNat_cond w
  split at e <;> omega

theorem typ_lt (ht : ∀ i, 0 ≤ ((kv V d main_arg5 : B Ideal S4x2048x8 .i32) i).toInt ∧ ((kv V d main_arg5 : B Ideal S4x2048x8 .i32) i).toInt < 10)
    (b : Fin 4) (k : Fin 512) : typ V d b k < 10 := by
  obtain ⟨i, hi⟩ := k_type (V := V) (d := d) b k
  unfold typ
  rw [hi]
  exact toNat_lt (ht i)

/-! ## The kernel's loss -/

/-- A candidate's weight. -/
def wgt (V : Dev nD → Valuation τ sig (Elt Ideal)) (d : Dev nD) (c : Fin 10) : EReal := (kv V d main_arg13 : B Ideal S10 .f32) (ix1 c)

/-- The weighted negative log-likelihood of candidate `k` of text `b`. -/
def candLoss (V : Dev nD → Valuation τ sig (Elt Ideal)) (d : Dev nD) (h : ∀ b k, typ V d b k < 10) (b : Fin 4) (k : Fin 512) : EReal :=
  nllR (lgC V d b k) ⟨typ V d b k, h b k⟩ * wgt V d ⟨typ V d b k, h b k⟩

theorem k_v65_at (b : Fin 4) (k : Fin 512) (j : Fin 2048) (hj : j.val = b.val * 512 + k.val) :
    (kv V d main_v65 : B Ideal S2048x1 .i32) (ix2 j 0) = BitVec.ofNat 32 (typ V d b k) := by
  rw [k_v65]
  refine (shapeCast_apply _ _ _ (ix2 b k) (by rw [Shape.rowMajor_val_two, Shape.rowMajor_val_two]; simp [ix2]; omega)).trans (word_of _)

theorem k_v66_at (c : Fin 10) : (kv V d main_v66 : B Ideal S1x10 .f32) (ix2 0 c) = wgt V d c := by
  unfold wgt
  rw [k_v66]; simp [pointwise]

theorem wt_at (h : ∀ b k, typ V d b k < 10) (b : Fin 4) (k : Fin 512) (j : Fin 2048) (hj : j.val = b.val * 512 + k.val) :
    k2_pay5 (stg2_3 (V10 V) d) (stg2_4 (V10 V) d) (ix2 j 0) = wgt V d ⟨typ V d b k, h b k⟩ := by
  rw [fin3, fin4]
  unfold k2_pay5 k2_pay4
  simp [pointwise, k_v65_at b k j hj, k_v66_at]
  exact sum_pick (by decide) _ (h b k) _

theorem nll_at (h : ∀ b k, typ V d b k < 10) (b : Fin 4) (k : Fin 512) (j : Fin 2048) (hj : j.val = b.val * 512 + k.val) :
    k2_pay6 (stg2_0 (V10 V) d) (stg2_1 (V10 V) d) (stg2_2 (V10 V) d) (stg2_3 (V10 V) d) (stg2_4 (V10 V) d) (ix3 0 j 0) = candLoss V d h b k := by
  have hl : ∀ c, k2_pay3 (stg2_0 (V10 V) d) (stg2_1 (V10 V) d) (stg2_2 (V10 V) d) (ix2 j c) = lgC V d b k c := fun c => log_at b k c j hj
  have hw := wt_at h b k j hj
  have h3 : stg2_3 (V10 V) d (ix2 j 0) = BitVec.ofNat 32 (typ V d b k) := (congrFun fin3 _).trans (k_v65_at b k j hj)
  unfold k2_pay6 k2_pay4 candLoss nllR lseR topR
  rw [← sum_pick (n := 10) (by decide) (typ V d b k) (h b k) (lgC V d b k)]
  simp [pointwise, hl, hw, h3, bot_word]

/-- A sum over the rows of the last call is one over the candidates of the texts. -/
theorem sum_rows (f : Fin 2048 → EReal) : ∑ j, f j = ∑ b : Fin 4, ∑ k : Fin 512, f ⟨b.val * 512 + k.val, by omega⟩ := by
  rw [← Fintype.sum_prod_type']
  refine (Fintype.sum_equiv (finProdFinEquiv : Fin 4 × Fin 512 ≃ Fin (4 * 512)) _ _ fun x => ?_).symm
  refine congrArg f (Fin.ext ?_)
  simp [finProdFinEquiv]
  omega

/-- The loss, as a quotient of two sums over the candidates. -/
def candTotal (V : Dev nD → Valuation τ sig (Elt Ideal)) (d : Dev nD) (h : ∀ b k, typ V d b k < 10) : EReal :=
  Ideal.div (∑ b, ∑ k, candLoss V d h b k) (∑ b, ∑ k, wgt V d ⟨typ V d b k, h b k⟩ + Ideal.ofBits .f32 0x358637BD#32)

theorem pay1_at (r : FVec Ideal S2048x1 .f32) (x : FVec Ideal S1x2048x1 .f32) :
    k2_pay1 r x (ix2 0 0) = Ideal.div (∑ j : Fin 2048, x (ix3 0 j 0)) (∑ j : Fin 2048, r (ix2 j 0) + Ideal.ofBits .f32 0x358637BD#32) := by
  unfold k2_pay1
  simp [pointwise]

theorem k_v67_1 : (kv V d main_v67_1 : B Ideal S1x1 .f32) (ix2 0 0) = lossVal (V10 V) d (ix2 0 0) := by
  rw [kv_out2 V d (r := main_v67_1) (by decide)]
  exact congrFun (left2_val 1 (V10 V) d) _

theorem k_loss2 (h : ∀ b k, typ V d b k < 10) : (kv V d main_v70 : B Ideal S1 .f32) (ix1 0) = candTotal V d h := by
  rw [k_v70]
  refine (shapeCast_apply _ _ _ (ix2 0 0) (by rw [Shape.rowMajor_val_one, Shape.rowMajor_val_two]; rfl)).trans ?_
  rw [k_v67_1]
  unfold lossVal candTotal
  rw [pay1_at, sum_rows, sum_rows]
  simp only [fun b k => nll_at h b k ⟨b.val * 512 + k.val, by omega⟩ rfl, fun b k => wt_at h b k ⟨b.val * 512 + k.val, by omega⟩ rfl]

/-! ## The reference's loss -/

/-- One number along the last axis of each row, named by a word. -/
theorem take_last (x : Cert.ReferenceIdeal.S4x512x10.Idx → EReal) (i : IVec Cert.ReferenceIdeal.S4x512x1x1 32) (b : Fin 4) (k : Fin 512) (w : ℕ)
    (hw : (i (ix4 b k 0 0)).toInt = w) (hl : w < 10) :
    Host.gather Cert.ReferenceIdeal.gather_S4x512x10_S4x512x1x1_S4x512x1_n_2_01_01_2_3_111 x i (ix3 b k 0) = x (ix3 b k ⟨w, hl⟩) := by
  have hs : Cert.ReferenceIdeal.gather_S4x512x10_S4x512x1x1_S4x512x1_n_2_01_01_2_3_111.siIdx (ix3 b k 0) ⟨0, Nat.one_pos⟩ = ix4 b k 0 0 :=
    funext fun a => Fin.ext (match a with | ⟨0, _⟩ => rfl | ⟨1, _⟩ => rfl | ⟨2, _⟩ => rfl | ⟨3, _⟩ => rfl)
  refine congrArg x (funext fun c => Fin.ext ?_)
  match c with
  | ⟨0, _⟩ => show 0 + b.val + 0 = b.val; omega
  | ⟨1, _⟩ => show 0 + k.val + 0 = k.val; omega
  | ⟨2, _⟩ =>
    show min (i (Cert.ReferenceIdeal.gather_S4x512x10_S4x512x1x1_S4x512x1_n_2_01_01_2_3_111.siIdx (ix3 b k 0) ⟨0, Nat.one_pos⟩)).toInt.toNat (10 - 1) + 0 + 0 = w
    rw [hs, hw]; omega

/-- One weight of ten, named by a word. -/
theorem take_wgt (x : Cert.ReferenceIdeal.S10.Idx → EReal) (i : IVec Cert.ReferenceIdeal.S4x512x1 32) (b : Fin 4) (k : Fin 512) (w : ℕ)
    (hw : (i (ix3 b k 0)).toInt = w) (hl : w < 10) :
    Host.gather Cert.ReferenceIdeal.gather_S10_S4x512x1_S4x512_n_0_n_n_0_2_1 x i (ix2 b k) = x (ix1 ⟨w, hl⟩) := by
  have hs : Cert.ReferenceIdeal.gather_S10_S4x512x1_S4x512_n_0_n_n_0_2_1.siIdx (ix2 b k) ⟨0, Nat.one_pos⟩ = ix3 b k 0 :=
    funext fun a => Fin.ext (match a with | ⟨0, _⟩ => rfl | ⟨1, _⟩ => rfl | ⟨2, _⟩ => rfl)
  refine congrArg x (funext fun c => Fin.ext ?_)
  match c with
  | ⟨0, _⟩ =>
    show min (i (Cert.ReferenceIdeal.gather_S10_S4x512x1_S4x512_n_0_n_n_0_2_1.siIdx (ix2 b k) ⟨0, Nat.one_pos⟩)).toInt.toNat (10 - 1) + 0 + 0 = w
    rw [hs, hw]; omega

variable (A : Agree V d V' d')
include A

theorem Agree.r_soft2 (hr : ∀ b s l, Re (repA V d b s l)) (b : Fin 4) (k : Fin 512) (c : Fin 10) :
    (rv V' d' Cert.ReferenceIdeal.main_v115 : B Ideal S4x512x10 .f32) (ix3 b k c) = (lgC V d b k c - topR (lgC V d b k)) - lseR (lgC V d b k) := by
  have hl : ∀ c, (rv V' d' Cert.ReferenceIdeal.main_v112 : B Ideal S4x512x10 .f32) (ix3 b k c) = lgC V d b k c := fun c => by
    rw [A.cand_logit hr, k_cand_logit]
  have h2 : (rv V' d' Cert.ReferenceIdeal.main_call9_v2 : B Ideal S4x512 .f32) (ix2 b k) = topR (lgC V d b k) := by
    rw [Ref.r_call9_v2, Ref.r_call9_v1, Ref.r_call9_cst_0, Ref.r_call9_v0, Ref.r_call9_cst]
    unfold topR
    simp [pointwise, hl, bot_word]
  have h5 : ∀ c, (rv V' d' Cert.ReferenceIdeal.main_call9_v5 : B Ideal S4x512x10 .f32) (ix3 b k c) = lgC V d b k c - topR (lgC V d b k) := fun c => by
    rw [Ref.r_call9_v5, Ref.r_call9_v4, Ref.r_call9_v3]
    simp [pointwise, hl, h2]
  rw [Ref.r_v115, Ref.r_call9_v10, Ref.r_call9_v9, Ref.r_call9_v8, Ref.r_call9_v7, Ref.r_call9_v6, Ref.r_call9_cst_1]
  unfold lseR
  simp [pointwise, h5, Ideal.ofBits_zero_f32]

theorem Agree.r_type (h : ∀ b k, typ V d b k < 10) (b : Fin 4) (k : Fin 512) :
    (rv V' d' Cert.ReferenceIdeal.main_v124 : B Ideal S4x512 .i32) (ix2 b k) = BitVec.ofNat 32 (typ V d b k) := by
  have e : (kv V d main_v32 : B Ideal S4x512 .i32) (ix2 b k) = BitVec.ofNat 32 (typ V d b k) := word_of _
  have := h b k
  rw [Ref.r_v124, Ref.r_v123, Ref.r_v122, Ref.r_c_20, Ref.r_v121, Ref.r_v120, Ref.r_c_19, A.e_v32]
  simp [pointwise, e]
  exact pos_word _ _ (by omega)

theorem Agree.r_type' (h : ∀ b k, typ V d b k < 10) (b : Fin 4) (k : Fin 512) :
    (rv V' d' Cert.ReferenceIdeal.main_call10_v5 : B Ideal Cert.ReferenceIdeal.S4x512x1x1 .i32) (ix4 b k 0 0) = BitVec.ofNat 32 (typ V d b k) := by
  have e : (kv V d main_v32 : B Ideal S4x512 .i32) (ix2 b k) = BitVec.ofNat 32 (typ V d b k) := word_of _
  have := h b k
  rw [Ref.r_call10_v5]
  refine (shapeCast_apply _ _ _ (ix3 b k 0) (by rw [Shape.rowMajor_val_four, Shape.rowMajor_val_three]; simp [ix3, ix4])).trans ?_
  rw [Ref.r_call10_v4, Ref.r_call10_v3, Ref.r_call10_v2, Ref.r_call10_c_0, Ref.r_call10_v1, Ref.r_call10_v0, Ref.r_call10_c, Ref.r_v116, A.e_v32]
  simp [pointwise, e]
  exact pos_word _ _ (by omega)

theorem Agree.r_nll2 (hr : ∀ b s l, Re (repA V d b s l)) (hl : ∀ b k c, Re (lgC V d b k c)) (h : ∀ b k, typ V d b k < 10) (b : Fin 4) (k : Fin 512) :
    (rv V' d' Cert.ReferenceIdeal.main_v119 : B Ideal S4x512 .f32) (ix2 b k) = nllR (lgC V d b k) ⟨typ V d b k, h b k⟩ := by
  have hb := h b k
  have e12 : (rv V' d' Cert.ReferenceIdeal.main_call10_v12 : B Ideal S4x512x1 .i1) (ix3 b k 0) = 1#1 := by
    rw [Ref.r_call10_v12]
    show Host.reduce IntOp.andi _ _ _ _ _ = 1#1
    refine Host.reduce_andi_one _ _ _ _ _ (by rw [Ref.r_call10_c_3]; rfl) fun (j : Cert.ReferenceIdeal.S4x512x1x1.Idx) => ?_
    obtain ⟨b', k', z, y, rfl⟩ := ex4 j
    obtain rfl : z = 0 := Subsingleton.elim _ _
    obtain rfl : y = 0 := Subsingleton.elim _ _
    have h' := h b' k'
    rw [Ref.r_call10_v11, Ref.r_call10_v7, Ref.r_call10_v10, Ref.r_call10_v9, Ref.r_call10_v8, Ref.r_call10_c_1, Ref.r_call10_v6, Ref.r_call10_c_2]
    simp [pointwise, A.r_type' h]
    exact guard_word 9 _ (by omega) (by omega)
  have e13 : (rv V' d' Cert.ReferenceIdeal.main_call10_v13 : B Ideal S4x512x1 .f32) (ix3 b k 0)
      = (lgC V d b k ⟨typ V d b k, hb⟩ - topR (lgC V d b k)) - lseR (lgC V d b k) := by
    rw [Ref.r_call10_v13]
    refine (take_last _ _ b k (typ V d b k) (by rw [A.r_type' h]; exact word_int _ (by omega)) hb).trans (A.r_soft2 hr b k _)
  rw [Ref.r_v119, ← nll_soft _ (hl b k) ⟨typ V d b k, hb⟩, ← e13]
  have e118 : (rv V' d' Cert.ReferenceIdeal.main_v118 : B Ideal S4x512 .f32) (ix2 b k) = (rv V' d' Cert.ReferenceIdeal.main_call10_v13 : B Ideal S4x512x1 .f32) (ix3 b k 0) := by
    rw [Ref.r_v118]
    refine (shapeCast_apply _ _ _ (ix3 b k 0) (by rw [Shape.rowMajor_val_two, Shape.rowMajor_val_three]; simp [ix3, ix2])).trans ?_
    rw [Ref.r_v117]
    simp [pointwise, e12]
  rw [← e118]
  rfl

theorem Agree.loss2 (hr : ∀ b s l, Re (repA V d b s l)) (hl : ∀ b k c, Re (lgC V d b k c)) (h : ∀ b k, typ V d b k < 10) :
    @Eq (B Ideal S1 .f32) (rv V' d' Cert.ReferenceIdeal.main_v132) (kv V d main_v70) := by
  refine funext fun (i : S1.Idx) => ?_
  obtain ⟨z, rfl⟩ := ex1 i
  obtain rfl : z = 0 := Subsingleton.elim _ _
  rw [k_loss2 h]
  have e126 : ∀ b k, (rv V' d' Cert.ReferenceIdeal.main_v126 : B Ideal S4x512 .f32) (ix2 b k) = wgt V d ⟨typ V d b k, h b k⟩ := fun b k => by
    rw [Ref.r_v126, A.a13]
    refine take_wgt _ _ b k (typ V d b k) ?_ (h b k)
    have e : (rv V' d' Cert.ReferenceIdeal.main_v125 : B Ideal S4x512x1 .i32) (ix3 b k 0) = BitVec.ofNat 32 (typ V d b k) := by
      rw [Ref.r_v125]; simp [pointwise, A.r_type h]
    rw [e]
    have := h b k
    exact word_int _ (by omega)
  have e127 : ∀ b k, (rv V' d' Cert.ReferenceIdeal.main_v127 : B Ideal S4x512 .f32) (ix2 b k) = candLoss V d h b k := fun b k => by
    rw [Ref.r_v127]
    unfold candLoss
    simp [pointwise, e126, A.r_nll2 hr hl h]
  have e132 : ∀ j, (rv V' d' Cert.ReferenceIdeal.main_v131 : B Ideal Cert.ReferenceIdeal.S_ .f32) j = candTotal V d h := fun j => by
    rw [Ref.r_v131, Ref.r_v130, Ref.r_cst_23, Ref.r_v129, Ref.r_cst_22, Ref.r_v128, Ref.r_cst_21]
    unfold candTotal
    simp [pointwise, e126, e127, Ideal.ofBits_zero_f32]
  rw [Ref.r_v132]
  exact e132 _

end Cert.Proof.Span

end
-- ==== Proof.Final.lean ====
/-
  The twelve results agree, from the precondition and equal arguments.
-/
module

public import proofs.«01_k».proof.Proof.Given
public import proofs.«01_k».proof.Proof.Cls
public import proofs.«01_k».proof.Proof.LossA
public import proofs.«01_k».proof.Proof.LossB

@[expose] public section

noncomputable section

namespace Cert.Proof.Span

open Cert.KernelIdeal Cert.KernelIdeal.Gen
open Idealize.ShloMosaic Idealize.ShloMosaic.StableHlo Idealize.ShloMosaic.TcCoe
open Cert.Proof.Line
open Cert.Proof.Ref (rv)

attribute [local irreducible] kv rv VF

variable {V : Dev nD → Valuation τ sig (Elt Ideal)} {d : Dev nD}
variable {V' : Dev Cert.ReferenceIdeal.nD → Valuation Cert.ReferenceIdeal.τ Cert.ReferenceIdeal.sig (Elt Ideal)} {d' : Dev Cert.ReferenceIdeal.nD}

/-- What is used of the precondition: the mask is full, labels are 0 or 1, types 0 … 9, the rest is finite. -/
def Good (V : Dev nD → Valuation τ sig (Elt Ideal)) (d : Dev nD) : Prop :=
  (∀ b s, (kv V d main_arg0 : B Ideal S4x2048 .f32) (ix2 b s) = (1 : EReal)) ∧
  (∀ i, 0 ≤ ((kv V d main_arg4 : B Ideal S4x2048x8 .i32) i).toInt ∧ ((kv V d main_arg4 : B Ideal S4x2048x8 .i32) i).toInt < 2) ∧
  (∀ i, 0 ≤ ((kv V d main_arg5 : B Ideal S4x2048x8 .i32) i).toInt ∧ ((kv V d main_arg5 : B Ideal S4x2048x8 .i32) i).toInt < 10) ∧
  (∀ i, Re ((kv V d main_arg1 : B Ideal S4x2048x128 .f32) i)) ∧ (∀ i, Re ((kv V d main_arg2 : B Ideal S4x2048x128 .f32) i)) ∧
  (∀ i, Re ((kv V d main_arg9 : B Ideal S128x16 .f32) i)) ∧ (∀ i, Re ((kv V d main_arg10 : B Ideal S16 .f32) i)) ∧
  (∀ i, Re ((kv V d main_arg11 : B Ideal S128x10 .f32) i)) ∧ (∀ i, Re ((kv V d main_arg12 : B Ideal S10 .f32) i))

/-- The precondition gives it. -/
theorem good_of (h : Cert.Pre_inputs_ok.fn (F := Ideal) (V d (rd main_arg0)) (V d (rd main_arg1)) (V d (rd main_arg2)) (V d (rd main_arg3)) (V d (rd main_arg4))
    (V d (rd main_arg5)) (V d (rd main_arg6)) (V d (rd main_arg7)) (V d (rd main_arg8)) (V d (rd main_arg9)) (V d (rd main_arg10)) (V d (rd main_arg11))
    (V d (rd main_arg12)) (V d (rd main_arg13)) = fun _ => 1#1) : Good V d := by
  obtain ⟨h0, h4, h5, h1, h2, h9, h10, h11, h12⟩ := given _ _ _ _ _ _ _ _ _ _ _ _ _ _ h
  unfold Good
  rw [keepF0 V d (r := main_arg0) (by decide), keepF0 V d (r := main_arg1) (by decide), keepF0 V d (r := main_arg2) (by decide), keepF0 V d (r := main_arg4) (by decide),
    keepF0 V d (r := main_arg5) (by decide), keepF0 V d (r := main_arg9) (by decide), keepF0 V d (r := main_arg10) (by decide), keepF0 V d (r := main_arg11) (by decide),
    keepF0 V d (r := main_arg12) (by decide)]
  exact ⟨fun b s => h0 (ix2 b s), h4, h5, h1, h2, h9, h10, h11, h12⟩

theorem Re.dot {r w : Fin 128 → EReal} {b : EReal} (hr : ∀ k, Re (r k)) (hw : ∀ k, Re (w k)) (hb : Re b) : Re (lgE r w b) :=
  (Re.sum _ _ fun k _ => (hr k).mul (hw k)).add hb

theorem Re.mean (R : ℕ → EReal) (hR : ∀ n, Re (R n)) (a s : ℕ) (ha : 0 < a) (hs : s < 2048) : Re (meanW R a s) := by
  obtain ⟨x, hx⟩ : Re (∑ j ∈ Finset.range a, R (s + j)) := Re.sum _ _ fun j _ => hR _
  unfold meanW lenW
  rw [hx]
  have h : ((min a (2048 - s) : ℕ) : ℝ) ≠ 0 := by
    have : 0 < min a (2048 - s) := by omega
    exact_mod_cast this.ne'
  refine ⟨x * ((min a (2048 - s) : ℕ) : ℝ)⁻¹, ?_⟩
  unfold Ideal.div
  rw [if_neg (by exact_mod_cast h), EReal.coe_mul, EReal.coe_inv]

theorem Good.rep (G : Good V d) (b : Fin 4) (s : Fin 2048) (l : Fin 128) : Re (repA V d b s l) := Re.mix (G.2.2.2.1 _) (G.2.2.2.2.1 _)

theorem Good.lg (G : Good V d) (b : Fin 4) (s : Fin 2048) (a : Fin 8) (c : Fin 2) : Re (lgA V d b s a c) :=
  Re.dot (fun k => G.rep b s k) (fun _ => G.2.2.2.2.2.1 _) (G.2.2.2.2.2.2.1 _)

theorem Good.lbl (G : Good V d) (b : Fin 4) (s : Fin 2048) (a : Fin 8) : lbl V d b s a < 2 := toNat_lt (G.2.1 _)

theorem Good.typ (G : Good V d) (b : Fin 4) (k : Fin 512) : typ V d b k < 10 := typ_lt G.2.2.1 b k

theorem Good.lgC (G : Good V d) (b : Fin 4) (k : Fin 512) (c : Fin 10) : Re (lgC V d b k c) := by
  refine Re.dot (fun l => ?_) (fun _ => G.2.2.2.2.2.2.2.1 _) (G.2.2.2.2.2.2.2.2 _)
  rw [k_repr, k_anchor]
  refine Re.mean _ (fun n => ?_) _ _ (Nat.succ_pos _) (by have := pick_lt (V := V) (d := d) b k; simp only; omega)
  unfold repN
  split
  · exact G.rep _ _ _
  · exact Re.zero

variable (A : Agree V d V' d') (G : Good V d)
include A G

theorem same_loss : @Eq (B Ideal S1 .f32) (rv V' d' Cert.ReferenceIdeal.main_v86) (kv V d main_v69) := A.loss G.1 G.lg G.lbl
theorem same_detect : @Eq (B Ideal S4x2048x8 .i32) (rv V' d' Cert.ReferenceIdeal.main_v63) (kv V d main_v8_3) := A.detect G.1
theorem same_loss2 : @Eq (B Ideal S1 .f32) (rv V' d' Cert.ReferenceIdeal.main_v132) (kv V d main_v70) := A.loss2 G.rep G.lgC G.typ
theorem same_cls : @Eq (B Ideal S4x2048x8 .i32) (rv V' d' Cert.ReferenceIdeal.main_v137) (kv V d main_v8_4) := A.cls G.rep
theorem same_anchor : @Eq (B Ideal S4x2048x8x128 .f32) (rv V' d' Cert.ReferenceIdeal.main_v53) (kv V d main_v8_0) := A.anchor G.rep
theorem same_repr : @Eq (B Ideal S4x512x128 .f32) (rv V' d' Cert.ReferenceIdeal.main_v108) (kv V d main_v71) := A.cand_repr G.rep
theorem same_label : @Eq (B Ideal S4x512 .i32) (rv V' d' Cert.ReferenceIdeal.main_v105) (kv V d main_v30) := A.e_v30
theorem same_logits : @Eq (B Ideal S4x512x10 .f32) (rv V' d' Cert.ReferenceIdeal.main_v112) (kv V d main_v72) := A.cand_logit G.rep
theorem same_num : @Eq (B Ideal S4 .i32) (rv V' d' Cert.ReferenceIdeal.main_v149) (kv V d main_v73) := A.cand_num
theorem same_len : @Eq (B Ideal S4x512 .f32) (rv V' d' Cert.ReferenceIdeal.main_v145) (kv V d main_v54) := A.e_v54
theorem same_mask : @Eq (B Ideal S4x512 .f32) (rv V' d' Cert.ReferenceIdeal.main_v150) (kv V d main_v68) := A.e_v68
theorem same_loc : @Eq (B Ideal S4x512x2 .f32) (rv V' d' Cert.ReferenceIdeal.main_v140) (kv V d main_v35) := A.e_v35

end Cert.Proof.Span

end
-- ==== Proof.Text.lean ====
/- The program over machine floats and the program over the reals have one text: memory, labels, bodies. -/
module

public import proofs.«01_k».proof.Defs
public import proofs.«01_k».proof.Proof.Gen.Kernel
public import proofs.«01_k».proof.Proof.Gen.KernelIdeal

@[expose] public section

set_option maxHeartbeats 0
set_option maxRecDepth 100000

noncomputable section

namespace Cert.Proof.Text

open Idealize.ShloMosaic Idealize.SL.Sem

theorem sig_same : Kernel.sig = KernelIdeal.sig := rfl

/-- The labels of the two programs. -/
theorem lab_same : (SparseCore.Sig (Pipeline.Sig Kernel.Λ₀ (Fin 2) fun p => (Kernel.pcfgs (F := Bits) p).Adm) 1) =
    (SparseCore.Sig (Pipeline.Sig KernelIdeal.Λ₀ (Fin 2) fun p => (KernelIdeal.pcfgs (F := Bits) p).Adm) 1) := rfl

/-- The bodies of the three calls. -/
theorem bodies_same : Kernel.defs₀ (F := Bits) = KernelIdeal.defs₀ (F := Bits) := by
  funext p l a
  match p, l, a with
  | .tc, 0, (t, s) => rfl
  | .tc, 1, a => rfl
  | .tc, 2, (t, s) => rfl
  | .scVector c s, 0, _ => rfl
  | .scVector c s, 1, _ => rfl
  | .scVector c s, 2, _ => rfl
  | .scScalar c, 0, _ => rfl
  | .scScalar c, 1, _ => rfl
  | .scScalar c, 2, _ => rfl

/-- The body tables. -/
theorem defs_same : Kernel.defs (F := Bits) = KernelIdeal.defs (F := Bits) := by
  unfold Kernel.defs KernelIdeal.defs
  rw [bodies_same]
  rfl

end Cert.Proof.Text

end
-- ==== Proof.Text0.lean ====
/- The first window of @main is one text in the two programs. -/
module

public import proofs.«01_k».proof.Defs
public import proofs.«01_k».proof.Proof.Gen.Kernel
public import proofs.«01_k».proof.Proof.Gen.KernelIdeal
public import proofs.«01_k».proof.Proof.Text

@[expose] public section

set_option maxHeartbeats 0
set_option maxRecDepth 100000

noncomputable section

namespace Cert.Proof.Text

open Idealize.ShloMosaic Idealize.SL.Sem

/-- The window's statements are the same. -/
theorem window0 : Kernel.main_part0 (F := Bits) = KernelIdeal.main_part0 (F := Bits) := by
  unfold Kernel.main_part0 KernelIdeal.main_part0
  dsimp only [lab_same, sig_same]
  rfl

end Cert.Proof.Text

end
-- ==== Proof.Text1.lean ====
/- The second window of @main is one text in the two programs. -/
module

public import proofs.«01_k».proof.Defs
public import proofs.«01_k».proof.Proof.Gen.Kernel
public import proofs.«01_k».proof.Proof.Gen.KernelIdeal
public import proofs.«01_k».proof.Proof.Text

@[expose] public section

set_option maxHeartbeats 0
set_option maxRecDepth 100000

noncomputable section

namespace Cert.Proof.Text

open Idealize.ShloMosaic Idealize.SL.Sem

/-- The window's statements are the same. -/
theorem window1 : Kernel.main_part1 (F := Bits) = KernelIdeal.main_part1 (F := Bits) := by
  unfold Kernel.main_part1 KernelIdeal.main_part1
  dsimp only [lab_same, sig_same]
  rfl

end Cert.Proof.Text

end
-- ==== Proof.TextRun.lean ====
/- A run of the program over the reals, read at machine floats, is a run of the program over machine floats. -/
module

public import proofs.«01_k».proof.Defs
public import proofs.«01_k».proof.Proof.Gen.Kernel
public import proofs.«01_k».proof.Proof.Gen.KernelIdeal
public import proofs.«01_k».proof.Proof.Text0
public import proofs.«01_k».proof.Proof.Text1

@[expose] public section

set_option maxHeartbeats 0
set_option maxRecDepth 100000

noncomputable section

namespace Cert.Proof.Text

open Idealize.ShloMosaic Idealize.SL.Sem

/-- The host programs. -/
theorem main_same : Kernel.main (F := Bits) = KernelIdeal.main (F := Bits) := by
  unfold Kernel.main KernelIdeal.main
  rw [window0, window1]
  rfl

/-- What the threads run. -/
theorem threads_same : Kernel.threads (F := Bits) = KernelIdeal.threads (F := Bits) := by
  unfold Kernel.threads KernelIdeal.threads
  rw [main_same]
  rfl

/-- What holds at the end of the one program's run holds at the end of the other's. -/
theorem run_same (s : MemSt KernelIdeal.nD KernelIdeal.τ KernelIdeal.sig (Elt Bits))
    (Q : PUnit × MemSt KernelIdeal.nD KernelIdeal.τ KernelIdeal.sig (Elt Bits) → Prop)
    (h : θ_run (KernelIdeal.defs (F := Bits)) (KernelIdeal.threads (F := Bits)) s Q) :
    θ_run (Kernel.defs (F := Bits)) (Kernel.threads (F := Bits)) s Q := by
  rw [defs_same, threads_same]
  exact h

end Cert.Proof.Text

end
-- ==== Proof.lean ====
/- The claims, from the run of the program, the run of the reference and the equality of their values. -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_inputs_ok
public import proofs.«01_k».proof.Proof.Final
public import proofs.«01_k».proof.Proof.Rows
public import proofs.«01_k».proof.Proof.TextRun
public import Idealize.ShloMosaic.Adequacy
public import Idealize.ShloMosaic.Init

@[expose] public section

noncomputable section

namespace Cert.Proof

open Idealize.ShloMosaic Idealize.SL.Sem

section

variable {F : FTy → Type} [FloatOps F] [∀ e, Nonempty (Elt F e)]

/-- The program runs from any memory: every buffer ends as its text says, and every semaphore reads zero. -/
theorem run_kernel (m : (ℓ : Loc KernelIdeal.nD KernelIdeal.τ KernelIdeal.sig) → Buf (Elt F) ℓ) (ρ : Dev KernelIdeal.nD → PrngReg) :
    θ_run (KernelIdeal.defs (F := F)) (KernelIdeal.threads (F := F)) ⟨m, fun _ => 0, ρ⟩ (Span.QC m) :=
  Span.run_main m ρ fun d => Span.inRows (Span.V0 m) d

/-- A buffer that the run ends with. -/
theorem ends {m : (ℓ : Loc KernelIdeal.nD KernelIdeal.τ KernelIdeal.sig) → Buf (Elt F) ℓ} {r : PUnit × MemSt KernelIdeal.nD KernelIdeal.τ KernelIdeal.sig (Elt F)}
    (h : Span.QC m r) (c : Dev KernelIdeal.nD) (b : Ref KernelIdeal.sig .tc) (hb : (Span.dr b).isScoped = false := by decide) :
    r.2.mem ((c.tc : Thread KernelIdeal.nD KernelIdeal.τ).loc b) = Span.kv (Span.V0 m) c b := h.1 c _ (Span.dr_mem b hb)

/-- An argument ends as it began. -/
theorem kept {m : (ℓ : Loc KernelIdeal.nD KernelIdeal.τ KernelIdeal.sig) → Buf (Elt F) ℓ} {r : PUnit × MemSt KernelIdeal.nD KernelIdeal.τ KernelIdeal.sig (Elt F)}
    (h : Span.QC m r) (c : Dev KernelIdeal.nD) (b : Ref KernelIdeal.sig .tc) (hk : Line.rk b < 14 := by decide) (hb : (Span.dr b).isScoped = false := by decide) :
    r.2.mem ((c.tc : Thread KernelIdeal.nD KernelIdeal.τ).loc b) = m ((c.tc : Thread KernelIdeal.nD KernelIdeal.τ).loc b) :=
  (ends h c b hb).trans (Span.keepF0 (Span.V0 m) c hk)

end

/-- The program runs, its arguments end unchanged and every semaphore reads zero. -/
theorem frame_kernelIdeal : Cert.quiescent_KernelIdeal := fun m ρ _ =>
  (θ_run KernelIdeal.defs _ _).mono
    (fun _ h => ⟨fun c => ⟨kept h c KernelIdeal.main_arg0,
      kept h c KernelIdeal.main_arg1,
      kept h c KernelIdeal.main_arg2,
      kept h c KernelIdeal.main_arg3,
      kept h c KernelIdeal.main_arg4,
      kept h c KernelIdeal.main_arg5,
      kept h c KernelIdeal.main_arg6,
      kept h c KernelIdeal.main_arg7,
      kept h c KernelIdeal.main_arg8,
      kept h c KernelIdeal.main_arg9,
      kept h c KernelIdeal.main_arg10,
      kept h c KernelIdeal.main_arg11,
      kept h c KernelIdeal.main_arg12,
      kept h c KernelIdeal.main_arg13⟩, h.2⟩)
    (run_kernel m ρ)

/-- The same of the program over machine floats: its text is the same. -/
theorem frame_kernel : Cert.quiescent_Kernel := fun m ρ _ =>
  Text.run_same _ _ ((θ_run KernelIdeal.defs _ _).mono
    (fun _ h => ⟨fun c => ⟨kept h c KernelIdeal.main_arg0,
      kept h c KernelIdeal.main_arg1,
      kept h c KernelIdeal.main_arg2,
      kept h c KernelIdeal.main_arg3,
      kept h c KernelIdeal.main_arg4,
      kept h c KernelIdeal.main_arg5,
      kept h c KernelIdeal.main_arg6,
      kept h c KernelIdeal.main_arg7,
      kept h c KernelIdeal.main_arg8,
      kept h c KernelIdeal.main_arg9,
      kept h c KernelIdeal.main_arg10,
      kept h c KernelIdeal.main_arg11,
      kept h c KernelIdeal.main_arg12,
      kept h c KernelIdeal.main_arg13⟩, h.2⟩)
    (run_kernel (F := Bits) m ρ))

/-- An argument of the reference ends as it began. -/
theorem keptR {m : (ℓ : Loc ReferenceIdeal.nD ReferenceIdeal.τ ReferenceIdeal.sig) → Buf (Elt Ideal) ℓ}
    {r : PUnit × MemSt ReferenceIdeal.nD ReferenceIdeal.τ ReferenceIdeal.sig (Elt Ideal)}
    (h : ∀ (c : Dev ReferenceIdeal.nD) (b : Ref ReferenceIdeal.sig .tc), r.2.mem ((c.tc : Thread ReferenceIdeal.nD ReferenceIdeal.τ).loc b) = Ref.rv (fun d b => m (d, b)) c b)
    (c : Dev ReferenceIdeal.nD) (b : Ref ReferenceIdeal.sig .tc) (hk : Line.rk b < 14 := by decide) :
    r.2.mem ((c.tc : Thread ReferenceIdeal.nD ReferenceIdeal.τ).loc b) = m ((c.tc : Thread ReferenceIdeal.nD ReferenceIdeal.τ).loc b) :=
  (h c b).trans (Ref.keepIn _ c hk)

/-- The reference runs, its arguments end unchanged and every semaphore reads zero. -/
theorem frame_reference : Cert.quiescent_ReferenceIdeal := fun m ρ _ =>
  (θ_run ReferenceIdeal.defs _ _).mono (fun r h => ⟨fun c => ⟨keptR h c ReferenceIdeal.main_arg0,
      keptR h c ReferenceIdeal.main_arg1,
      keptR h c ReferenceIdeal.main_arg2,
      keptR h c ReferenceIdeal.main_arg3,
      keptR h c ReferenceIdeal.main_arg4,
      keptR h c ReferenceIdeal.main_arg5,
      keptR h c ReferenceIdeal.main_arg6,
      keptR h c ReferenceIdeal.main_arg7,
      keptR h c ReferenceIdeal.main_arg8,
      keptR h c ReferenceIdeal.main_arg9,
      keptR h c ReferenceIdeal.main_arg10,
      keptR h c ReferenceIdeal.main_arg11,
      keptR h c ReferenceIdeal.main_arg12,
      keptR h c ReferenceIdeal.main_arg13⟩, sem_eq_zero_of_no_sems (by decide) r.2⟩) (Ref.run m ρ)

/-- The results are equal element by element. -/
theorem algebraic : Cert.algebraic_KernelIdeal_ReferenceIdeal_pre_inputs_ok := by
  intro m ρ m' ρ' hpre hagree
  have G : ∀ c, Span.Good (Span.V0 m) c := fun c => Span.good_of (hpre c)
  have A : ∀ c, Span.Agree (Span.V0 m) c (fun d b => m' (d, b)) c := fun c => by
    obtain ⟨h0, h1, h2, h3, h4, h5, h6, h7, h8, h9, h10, h11, h12, h13⟩ := hagree c
    exact ⟨(Ref.keepIn _ c (r := ReferenceIdeal.main_arg0) (by decide)).trans (h0.trans (Span.keepF0 (Span.V0 m) c (r := KernelIdeal.main_arg0) (by decide)).symm),
      (Ref.keepIn _ c (r := ReferenceIdeal.main_arg1) (by decide)).trans (h1.trans (Span.keepF0 (Span.V0 m) c (r := KernelIdeal.main_arg1) (by decide)).symm),
      (Ref.keepIn _ c (r := ReferenceIdeal.main_arg2) (by decide)).trans (h2.trans (Span.keepF0 (Span.V0 m) c (r := KernelIdeal.main_arg2) (by decide)).symm),
      (Ref.keepIn _ c (r := ReferenceIdeal.main_arg3) (by decide)).trans (h3.trans (Span.keepF0 (Span.V0 m) c (r := KernelIdeal.main_arg3) (by decide)).symm),
      (Ref.keepIn _ c (r := ReferenceIdeal.main_arg4) (by decide)).trans (h4.trans (Span.keepF0 (Span.V0 m) c (r := KernelIdeal.main_arg4) (by decide)).symm),
      (Ref.keepIn _ c (r := ReferenceIdeal.main_arg5) (by decide)).trans (h5.trans (Span.keepF0 (Span.V0 m) c (r := KernelIdeal.main_arg5) (by decide)).symm),
      (Ref.keepIn _ c (r := ReferenceIdeal.main_arg6) (by decide)).trans (h6.trans (Span.keepF0 (Span.V0 m) c (r := KernelIdeal.main_arg6) (by decide)).symm),
      (Ref.keepIn _ c (r := ReferenceIdeal.main_arg7) (by decide)).trans (h7.trans (Span.keepF0 (Span.V0 m) c (r := KernelIdeal.main_arg7) (by decide)).symm),
      (Ref.keepIn _ c (r := ReferenceIdeal.main_arg8) (by decide)).trans (h8.trans (Span.keepF0 (Span.V0 m) c (r := KernelIdeal.main_arg8) (by decide)).symm),
      (Ref.keepIn _ c (r := ReferenceIdeal.main_arg9) (by decide)).trans (h9.trans (Span.keepF0 (Span.V0 m) c (r := KernelIdeal.main_arg9) (by decide)).symm),
      (Ref.keepIn _ c (r := ReferenceIdeal.main_arg10) (by decide)).trans (h10.trans (Span.keepF0 (Span.V0 m) c (r := KernelIdeal.main_arg10) (by decide)).symm),
      (Ref.keepIn _ c (r := ReferenceIdeal.main_arg11) (by decide)).trans (h11.trans (Span.keepF0 (Span.V0 m) c (r := KernelIdeal.main_arg11) (by decide)).symm),
      (Ref.keepIn _ c (r := ReferenceIdeal.main_arg12) (by decide)).trans (h12.trans (Span.keepF0 (Span.V0 m) c (r := KernelIdeal.main_arg12) (by decide)).symm),
      (Ref.keepIn _ c (r := ReferenceIdeal.main_arg13) (by decide)).trans (h13.trans (Span.keepF0 (Span.V0 m) c (r := KernelIdeal.main_arg13) (by decide)).symm)⟩
  refine ⟨fun c => Span.kv (Span.V0 m) c KernelIdeal.main_v69, fun c => Span.kv (Span.V0 m) c KernelIdeal.main_v8_3, fun c => Span.kv (Span.V0 m) c KernelIdeal.main_v70, fun c => Span.kv (Span.V0 m) c KernelIdeal.main_v8_4, fun c => Span.kv (Span.V0 m) c KernelIdeal.main_v8_0, fun c => Span.kv (Span.V0 m) c KernelIdeal.main_v71, fun c => Span.kv (Span.V0 m) c KernelIdeal.main_v30, fun c => Span.kv (Span.V0 m) c KernelIdeal.main_v72, fun c => Span.kv (Span.V0 m) c KernelIdeal.main_v73, fun c => Span.kv (Span.V0 m) c KernelIdeal.main_v54, fun c => Span.kv (Span.V0 m) c KernelIdeal.main_v68, fun c => Span.kv (Span.V0 m) c KernelIdeal.main_v35,
    (θ_run KernelIdeal.defs _ _).mono
      (fun _ h c => ⟨ends h c KernelIdeal.main_v69,
      ends h c KernelIdeal.main_v8_3,
      ends h c KernelIdeal.main_v70,
      ends h c KernelIdeal.main_v8_4,
      ends h c KernelIdeal.main_v8_0,
      ends h c KernelIdeal.main_v71,
      ends h c KernelIdeal.main_v30,
      ends h c KernelIdeal.main_v72,
      ends h c KernelIdeal.main_v73,
      ends h c KernelIdeal.main_v54,
      ends h c KernelIdeal.main_v68,
      ends h c KernelIdeal.main_v35,
      kept h c KernelIdeal.main_arg0,
      kept h c KernelIdeal.main_arg1,
      kept h c KernelIdeal.main_arg2,
      kept h c KernelIdeal.main_arg3,
      kept h c KernelIdeal.main_arg4,
      kept h c KernelIdeal.main_arg5,
      kept h c KernelIdeal.main_arg6,
      kept h c KernelIdeal.main_arg7,
      kept h c KernelIdeal.main_arg8,
      kept h c KernelIdeal.main_arg9,
      kept h c KernelIdeal.main_arg10,
      kept h c KernelIdeal.main_arg11,
      kept h c KernelIdeal.main_arg12,
      kept h c KernelIdeal.main_arg13⟩)
      (run_kernel m ρ),
    (θ_run ReferenceIdeal.defs _ _).mono
      (fun _ h c => ⟨(h c ReferenceIdeal.main_v86).trans (Span.same_loss (A c) (G c)),
      (h c ReferenceIdeal.main_v63).trans (Span.same_detect (A c) (G c)),
      (h c ReferenceIdeal.main_v132).trans (Span.same_loss2 (A c) (G c)),
      (h c ReferenceIdeal.main_v137).trans (Span.same_cls (A c) (G c)),
      (h c ReferenceIdeal.main_v53).trans (Span.same_anchor (A c) (G c)),
      (h c ReferenceIdeal.main_v108).trans (Span.same_repr (A c) (G c)),
      (h c ReferenceIdeal.main_v105).trans (Span.same_label (A c) (G c)),
      (h c ReferenceIdeal.main_v112).trans (Span.same_logits (A c) (G c)),
      (h c ReferenceIdeal.main_v149).trans (Span.same_num (A c) (G c)),
      (h c ReferenceIdeal.main_v145).trans (Span.same_len (A c) (G c)),
      (h c ReferenceIdeal.main_v150).trans (Span.same_mask (A c) (G c)),
      (h c ReferenceIdeal.main_v140).trans (Span.same_loc (A c) (G c)),
      keptR h c ReferenceIdeal.main_arg0,
      keptR h c ReferenceIdeal.main_arg1,
      keptR h c ReferenceIdeal.main_arg2,
      keptR h c ReferenceIdeal.main_arg3,
      keptR h c ReferenceIdeal.main_arg4,
      keptR h c ReferenceIdeal.main_arg5,
      keptR h c ReferenceIdeal.main_arg6,
      keptR h c ReferenceIdeal.main_arg7,
      keptR h c ReferenceIdeal.main_arg8,
      keptR h c ReferenceIdeal.main_arg9,
      keptR h c ReferenceIdeal.main_arg10,
      keptR h c ReferenceIdeal.main_arg11,
      keptR h c ReferenceIdeal.main_arg12,
      keptR h c ReferenceIdeal.main_arg13⟩)
      (Ref.run m' ρ')⟩

/-- All the claims: the three frames, that nothing was rewritten, and the equality of the twelve results. -/
theorem claim : Cert.Claim := ⟨Cert.Kernel.Gen.facts, KernelIdeal.Gen.facts, ReferenceIdeal.Gen.facts, Cert.Pre_inputs_ok.Gen.facts,
  frame_kernel, frame_kernelIdeal, fun m ρ _ => frame_kernelIdeal m ρ trivial, frame_reference,
  fun m ρ _ => frame_reference m ρ trivial, trivial, algebraic⟩

end Cert.Proof

end
